-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_and_keys_finite [hPre_queries_and_keys_finite : Cert.Pre_queries_and_keys_finite.Facts] (m : (ℓ : Loc Cert.KernelIdeal.nD Cert.KernelIdeal.τ Cert.KernelIdeal.sig) → Buf (Elt Ideal) ℓ) : Prop :=
  ∀ c : Dev Cert.KernelIdeal.nD,
    (Cert.Pre_queries_and_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_and_keys_finite [hPre_queries_and_keys_finite : Cert.Pre_queries_and_keys_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_and_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_in_range [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 [hPre_tables_in_range_1 : Cert.Pre_tables_in_range_1.Facts] (m : (ℓ : Loc Cert.Kernel3.nD Cert.Kernel3.τ Cert.Kernel3.sig) → Buf (Elt Bits) ℓ) : Prop :=
  ∀ c : Dev Cert.Kernel3.nD,
    (Cert.Pre_tables_in_range_1.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))) = (fun _ => 1#1)

def Pre_Kernel3Ideal [hPre_tables_in_range_1 : Cert.Pre_tables_in_range_1.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables_in_range_1.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables_in_range_1 [hPre_tables_in_range_1 : Cert.Pre_tables_in_range_1.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables_in_range_1.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_context_finite [hPre_context_finite : Cert.Pre_context_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_context_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_context_finite [hPre_context_finite : Cert.Pre_context_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_context_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_queries_and_keys_finite [hKernelIdeal : Cert.KernelIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_and_keys_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_queries_and_keys_finite [hReferenceIdeal : Cert.ReferenceIdeal.Facts] [hPre_queries_and_keys_finite : Cert.Pre_queries_and_keys_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_and_keys_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_tables_in_range [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] [hPre_tables_in_range_1 : Cert.Pre_tables_in_range_1.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] [hPre_tables_in_range_1 : Cert.Pre_tables_in_range_1.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_tables_in_range_1 [hReference3Ideal : Cert.Reference3Ideal.Facts] [hPre_tables_in_range_1 : Cert.Pre_tables_in_range_1.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables_in_range_1 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Kernel11Ideal_pre_context_finite [hKernel11Ideal : Cert.Kernel11Ideal.Facts] [hPre_context_finite : Cert.Pre_context_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_context_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Reference11Ideal_pre_context_finite [hReference11Ideal : Cert.Reference11Ideal.Facts] [hPre_context_finite : Cert.Pre_context_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_context_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def preserves_Kernel_KernelIdeal : Prop :=
  True

def algebraic_KernelIdeal_ReferenceIdeal_pre_queries_and_keys_finite [hKernelIdeal : Cert.KernelIdeal.Facts] [hReferenceIdeal : Cert.ReferenceIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_and_keys_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_on_assigned_rows [hKernel2Ideal : Cert.Kernel2Ideal.Facts] [hReference2Ideal : Cert.Reference2Ideal.Facts] [hPre_tables_in_range : Cert.Pre_tables_in_range.Facts] [hOn_assigned_rows : Cert.On_assigned_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![53248, 2048]⟩ : Shape).Idx, (Cert.On_assigned_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) i = 1#1 → r.2.mem ((c.tc : Thread Cert.Kernel2Ideal.nD Cert.Kernel2Ideal.τ).loc Cert.Kernel2Ideal.main_v10) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![53248, 2048]⟩ : Shape).Idx, (Cert.On_assigned_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) i = 1#1 → r.2.mem ((c.tc : Thread Cert.Reference2Ideal.nD Cert.Reference2Ideal.τ).loc Cert.Reference2Ideal.main_v55) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_on_assigned_rows_1 [hKernel3Ideal : Cert.Kernel3Ideal.Facts] [hReference3Ideal : Cert.Reference3Ideal.Facts] [hPre_tables_in_range_1 : Cert.Pre_tables_in_range_1.Facts] [hOn_assigned_rows_1 : Cert.On_assigned_rows_1.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![49152, 2048]⟩ : Shape).Idx, (Cert.On_assigned_rows_1.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) i = 1#1 → r.2.mem ((c.tc : Thread Cert.Kernel3Ideal.nD Cert.Kernel3Ideal.τ).loc Cert.Kernel3Ideal.main_v10) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![49152, 2048]⟩ : Shape).Idx, (Cert.On_assigned_rows_1.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) i = 1#1 → r.2.mem ((c.tc : Thread Cert.Reference3Ideal.nD Cert.Reference3Ideal.τ).loc Cert.Reference3Ideal.main_v55) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v50) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal_pre_context_finite [hKernel11Ideal : Cert.Kernel11Ideal.Facts] [hReference11Ideal : Cert.Reference11Ideal.Facts] [hPre_context_finite : Cert.Pre_context_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_context_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v63) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v18) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v28) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v7) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v142) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v49) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v22) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_queries_and_keys_finite : Cert.Pre_queries_and_keys_finite.Facts) (hPre_tables_in_range : Cert.Pre_tables_in_range.Facts) (hPre_tables_in_range_1 : Cert.Pre_tables_in_range_1.Facts) (hPre_context_finite : Cert.Pre_context_finite.Facts) (hOn_assigned_rows : Cert.On_assigned_rows.Facts) (hOn_assigned_rows_1 : Cert.On_assigned_rows_1.Facts),
    quiescent_Kernel (hKernel := hKernel)
    ∧ quiescent_KernelIdeal (hKernelIdeal := hKernelIdeal)
    ∧ quiescent_KernelIdeal_pre_queries_and_keys_finite (hKernelIdeal := hKernelIdeal) (hPre_queries_and_keys_finite := hPre_queries_and_keys_finite)
    ∧ quiescent_ReferenceIdeal (hReferenceIdeal := hReferenceIdeal)
    ∧ quiescent_ReferenceIdeal_pre_queries_and_keys_finite (hReferenceIdeal := hReferenceIdeal) (hPre_queries_and_keys_finite := hPre_queries_and_keys_finite)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal)
    ∧ quiescent_Reference2Ideal_pre_tables_in_range (hReference2Ideal := hReference2Ideal) (hPre_tables_in_range := hPre_tables_in_range)
    ∧ quiescent_Kernel3 (hKernel3 := hKernel3) (hPre_tables_in_range_1 := hPre_tables_in_range_1)
    ∧ quiescent_Kernel3Ideal (hKernel3Ideal := hKernel3Ideal) (hPre_tables_in_range_1 := hPre_tables_in_range_1)
    ∧ quiescent_Reference3Ideal (hReference3Ideal := hReference3Ideal)
    ∧ quiescent_Reference3Ideal_pre_tables_in_range_1 (hReference3Ideal := hReference3Ideal) (hPre_tables_in_range_1 := hPre_tables_in_range_1)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_context_finite (hKernel11Ideal := hKernel11Ideal) (hPre_context_finite := hPre_context_finite)
    ∧ quiescent_Reference11Ideal (hReference11Ideal := hReference11Ideal)
    ∧ quiescent_Reference11Ideal_pre_context_finite (hReference11Ideal := hReference11Ideal) (hPre_context_finite := hPre_context_finite)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_queries_and_keys_finite (hKernelIdeal := hKernelIdeal) (hReferenceIdeal := hReferenceIdeal) (hPre_queries_and_keys_finite := hPre_queries_and_keys_finite)
    ∧ preserves_Kernel2_Kernel2Ideal
    ∧ algebraic_Kernel2Ideal_Reference2Ideal_on_assigned_rows (hKernel2Ideal := hKernel2Ideal) (hReference2Ideal := hReference2Ideal) (hPre_tables_in_range := hPre_tables_in_range) (hOn_assigned_rows := hOn_assigned_rows)
    ∧ preserves_Kernel3_Kernel3Ideal
    ∧ algebraic_Kernel3Ideal_Reference3Ideal_on_assigned_rows_1 (hKernel3Ideal := hKernel3Ideal) (hReference3Ideal := hReference3Ideal) (hPre_tables_in_range_1 := hPre_tables_in_range_1) (hOn_assigned_rows_1 := hOn_assigned_rows_1)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_context_finite (hKernel11Ideal := hKernel11Ideal) (hReference11Ideal := hReference11Ideal) (hPre_context_finite := hPre_context_finite)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== On_assigned_rows.lean ====
abbrev S104 : Shape := ⟨1, ![104]⟩
abbrev S1 : Shape := ⟨1, ![1]⟩
abbrev S53248x2048 : Shape := ⟨2, ![53248, 2048]⟩
abbrev S64x2048x4096 : Shape := ⟨3, ![64, 2048, 4096]⟩
abbrev S32x1x4096 : Shape := ⟨3, ![32, 1, 4096]⟩
abbrev S64x2048x2048 : Shape := ⟨3, ![64, 2048, 2048]⟩
abbrev S32x1x2048 : Shape := ⟨3, ![32, 1, 2048]⟩
abbrev S104x1x1 : Shape := ⟨3, ![104, 1, 1]⟩
abbrev S512 : Shape := ⟨1, ![512]⟩
abbrev S1x512x1 : Shape := ⟨3, ![1, 512, 1]⟩
abbrev S_ : Shape := ⟨0, ![]⟩
abbrev S104x512x1 : Shape := ⟨3, ![104, 512, 1]⟩
abbrev S104x512x2048 : Shape := ⟨3, ![104, 512, 2048]⟩

class Facts : Prop where
  bcast_S104_S104x1x1_0 : S104.BroadcastsInDim S104x1x1 (![0] : Fin 1 → Fin S104x1x1.rank)
  bcast_S512_S1x512x1_1 : S512.BroadcastsInDim S1x512x1 (![1] : Fin 1 → Fin S1x512x1.rank)
  shapeCasts_S1_S_ : S1.ShapeCasts S_
  bcast_S_S104x1x1 : S_.BroadcastsInDim S104x1x1 (![] : Fin 0 → Fin S104x1x1.rank)
  bcast_S1x512x1_S104x512x1_0_1_2 : S1x512x1.BroadcastsInDim S104x512x1 (![0, 1, 2] : Fin 3 → Fin S104x512x1.rank)
  bcast_S104x1x1_S104x512x1_0_1_2 : S104x1x1.BroadcastsInDim S104x512x1 (![0, 1, 2] : Fin 3 → Fin S104x512x1.rank)
  bcast_S104x512x1_S104x512x2048_0_1_2 : S104x512x1.BroadcastsInDim S104x512x2048 (![0, 1, 2] : Fin 3 → Fin S104x512x2048.rank)
  shapeCasts_S104x512x2048_S53248x2048 : S104x512x2048.ShapeCasts S53248x2048

variable [Facts]

def fn {F : FTy → Type} [FloatOps F] (main_arg0 : IVec S104 32) (main_arg1 : IVec S1 32) (main_arg2 : IVec S104 32) (main_arg3 : FVec F S53248x2048 .bf16) (main_arg4 : FVec F S64x2048x4096 .f32) (main_arg5 : FVec F S32x1x4096 .f32) (main_arg6 : FVec F S64x2048x2048 .f32) (main_arg7 : FVec F S32x1x2048 .f32) : IVec S53248x2048 1 :=
  let main_v0 : IVec S104 32 := iotaInDim S104 32 0
  let main_v1 : IVec S104x1x1 32 := broadcastInDim S104x1x1 ![0] bcast_S104_S104x1x1_0 main_v0
  let main_v2 : IVec S512 32 := iotaInDim S512 32 0
  let main_v3 : IVec S1x512x1 32 := broadcastInDim S1x512x1 ![1] bcast_S512_S1x512x1_1 main_v2
  let main_v4 : IVec S_ 32 := shapeCast S_ main_arg1 shapeCasts_S1_S_
  let main_v5 : IVec S104x1x1 32 := broadcastInDim S104x1x1 ![] bcast_S_S104x1x1 main_v4
  let main_v6 : IVec S104x1x1 1 := cmpi .slt main_v1 main_v5
  let main_v7 : IVec S104x1x1 32 := broadcastInDim S104x1x1 ![0] bcast_S104_S104x1x1_0 main_arg2
  let main_v8 : IVec S104x512x1 32 := broadcastInDim S104x512x1 ![0, 1, 2] bcast_S1x512x1_S104x512x1_0_1_2 main_v3
  let main_v9 : IVec S104x512x1 32 := broadcastInDim S104x512x1 ![0, 1, 2] bcast_S104x1x1_S104x512x1_0_1_2 main_v7
  let main_v10 : IVec S104x512x1 1 := cmpi .slt main_v8 main_v9
  let main_v11 : IVec S104x512x1 1 := broadcastInDim S104x512x1 ![0, 1, 2] bcast_S104x1x1_S104x512x1_0_1_2 main_v6
  let main_v12 : IVec S104x512x1 1 := andi main_v11 main_v10
  let main_v13 : IVec S104x512x2048 1 := broadcastInDim S104x512x2048 ![0, 1, 2] bcast_S104x512x1_S104x512x2048_0_1_2 main_v12
  let main_v14 : IVec S53248x2048 1 := shapeCast S53248x2048 main_v13 shapeCasts_S104x512x2048_S53248x2048
  main_v14
-- ==== On_assigned_rows_1.lean ====
abbrev S96 : Shape := ⟨1, ![96]⟩
abbrev S1 : Shape := ⟨1, ![1]⟩
abbrev S49152x2048 : Shape := ⟨2, ![49152, 2048]⟩
abbrev S64x2048x4096 : Shape := ⟨3, ![64, 2048, 4096]⟩
abbrev S32x1x4096 : Shape := ⟨3, ![32, 1, 4096]⟩
abbrev S64x2048x2048 : Shape := ⟨3, ![64, 2048, 2048]⟩
abbrev S32x1x2048 : Shape := ⟨3, ![32, 1, 2048]⟩
abbrev S96x1x1 : Shape := ⟨3, ![96, 1, 1]⟩
abbrev S512 : Shape := ⟨1, ![512]⟩
abbrev S1x512x1 : Shape := ⟨3, ![1, 512, 1]⟩
abbrev S_ : Shape := ⟨0, ![]⟩
abbrev S96x512x1 : Shape := ⟨3, ![96, 512, 1]⟩
abbrev S96x512x2048 : Shape := ⟨3, ![96, 512, 2048]⟩

class Facts : Prop where
  bcast_S96_S96x1x1_0 : S96.BroadcastsInDim S96x1x1 (![0] : Fin 1 → Fin S96x1x1.rank)
  bcast_S512_S1x512x1_1 : S512.BroadcastsInDim S1x512x1 (![1] : Fin 1 → Fin S1x512x1.rank)
  shapeCasts_S1_S_ : S1.ShapeCasts S_
  bcast_S_S96x1x1 : S_.BroadcastsInDim S96x1x1 (![] : Fin 0 → Fin S96x1x1.rank)
  bcast_S1x512x1_S96x512x1_0_1_2 : S1x512x1.BroadcastsInDim S96x512x1 (![0, 1, 2] : Fin 3 → Fin S96x512x1.rank)
  bcast_S96x1x1_S96x512x1_0_1_2 : S96x1x1.BroadcastsInDim S96x512x1 (![0, 1, 2] : Fin 3 → Fin S96x512x1.rank)
  bcast_S96x512x1_S96x512x2048_0_1_2 : S96x512x1.BroadcastsInDim S96x512x2048 (![0, 1, 2] : Fin 3 → Fin S96x512x2048.rank)
  shapeCasts_S96x512x2048_S49152x2048 : S96x512x2048.ShapeCasts S49152x2048

variable [Facts]

def fn {F : FTy → Type} [FloatOps F] (main_arg0 : IVec S96 32) (main_arg1 : IVec S1 32) (main_arg2 : IVec S96 32) (main_arg3 : FVec F S49152x2048 .bf16) (main_arg4 : FVec F S64x2048x4096 .f32) (main_arg5 : FVec F S32x1x4096 .f32) (main_arg6 : FVec F S64x2048x2048 .f32) (main_arg7 : FVec F S32x1x2048 .f32) : IVec S49152x2048 1 :=
  let main_v0 : IVec S96 32 := iotaInDim S96 32 0
  let main_v1 : IVec S96x1x1 32 := broadcastInDim S96x1x1 ![0] bcast_S96_S96x1x1_0 main_v0
  let main_v2 : IVec S512 32 := iotaInDim S512 32 0
  let main_v3 : IVec S1x512x1 32 := broadcastInDim S1x512x1 ![1] bcast_S512_S1x512x1_1 main_v2
  let main_v4 : IVec S_ 32 := shapeCast S_ main_arg1 shapeCasts_S1_S_
  let main_v5 : IVec S96x1x1 32 := broadcastInDim S96x1x1 ![] bcast_S_S96x1x1 main_v4
  let main_v6 : IVec S96x1x1 1 := cmpi .slt main_v1 main_v5
  let main_v7 : IVec S96x1x1 32 := broadcastInDim S96x1x1 ![0] bcast_S96_S96x1x1_0 main_arg2
  let main_v8 : IVec S96x512x1 32 := broadcastInDim S96x512x1 ![0, 1, 2] bcast_S1x512x1_S96x512x1_0_1_2 main_v3
  let main_v9 : IVec S96x512x1 32 := broadcastInDim S96x512x1 ![0, 1, 2] bcast_S96x1x1_S96x512x1_0_1_2 main_v7
  let main_v10 : IVec S96x512x1 1 := cmpi .slt main_v8 main_v9
  let main_v11 : IVec S96x512x1 1 := broadcastInDim S96x512x1 ![0, 1, 2] bcast_S96x1x1_S96x512x1_0_1_2 main_v6
  let main_v12 : IVec S96x512x1 1 := andi main_v11 main_v10
  let main_v13 : IVec S96x512x2048 1 := broadcastInDim S96x512x2048 ![0, 1, 2] bcast_S96x512x1_S96x512x2048_0_1_2 main_v12
  let main_v14 : IVec S49152x2048 1 := shapeCast S49152x2048 main_v13 shapeCasts_S96x512x2048_S49152x2048
  main_v14
-- ==== Pre_context_finite.lean ====
abbrev S9216x4608 : Shape := ⟨2, ![9216, 4608]⟩
abbrev S9216x2048 : Shape := ⟨2, ![9216, 2048]⟩
abbrev S1024x4608 : Shape := ⟨2, ![1024, 4608]⟩
abbrev S1024x2048 : Shape := ⟨2, ![1024, 2048]⟩
abbrev S1024x1280 : Shape := ⟨2, ![1024, 1280]⟩
abbrev S1024x3328 : Shape := ⟨2, ![1024, 3328]⟩
abbrev S_ : Shape := ⟨0, ![]⟩

class Facts : Prop where
  slices_S9216x4608_S1024x4608_8192_0 : S9216x4608.Slices ![8192, 0] S1024x4608
  bitsLt_bf16_f32 : FTy.bits .bf16 < FTy.bits .f32
  slices_S1024x4608_S1024x2048_0_0 : S1024x4608.Slices ![0, 0] S1024x2048
  slices_S1024x4608_S1024x1280_0_3072 : S1024x4608.Slices ![0, 3072] S1024x1280
  concatenates_S1024x2048_S1024x1280_S1024x3328_d1 : Shape.Concatenates [S1024x2048, S1024x1280] S1024x3328 1
  bcast_S_S1024x3328 : S_.BroadcastsInDim S1024x3328 (![] : Fin 0 → Fin S1024x3328.rank)

variable [Facts]

def fn {F : FTy → Type} [FloatOps F] (main_arg0 : FVec F S9216x4608 .bf16) (main_arg1 : FVec F S9216x2048 .bf16) : IVec S1024x3328 1 :=
  let main_v0 : FVec F S1024x4608 .bf16 := (extractStridedSlice S1024x4608 ![8192, 0] · slices_S9216x4608_S1024x4608_8192_0) main_arg0
  let main_v1 : FVec F S1024x4608 .f32 := (extf .f32 · bitsLt_bf16_f32) main_v0
  let main_v2 : FVec F S1024x2048 .f32 := (extractStridedSlice S1024x2048 ![0, 0] · slices_S1024x4608_S1024x2048_0_0) main_v1
  let main_v3 : FVec F S1024x1280 .f32 := (extractStridedSlice S1024x1280 ![0, 3072] · slices_S1024x4608_S1024x1280_0_3072) main_v1
  let main_v4 : FVec F S1024x3328 .f32 := (fun a b => concatenate S1024x3328 1 [⟨S1024x2048, a⟩, ⟨S1024x1280, b⟩] concatenates_S1024x2048_S1024x1280_S1024x3328_d1) main_v2 main_v3
  let main_v5 : FVec F S1024x3328 .f32 := Host.absf main_v4
  let main_cst : FVec F S_ .f32 := constant S_ .f32 0x7F800000#32
  let main_v6 : FVec F S1024x3328 .f32 := broadcastInDim S1024x3328 ![] bcast_S_S1024x3328 main_cst
  let main_v7 : IVec S1024x3328 1 := cmpf .olt main_v5 main_v6
  main_v7
-- ==== Pre_queries_and_keys_finite.lean ====
abbrev S9216x4608 : Shape := ⟨2, ![9216, 4608]⟩
abbrev S9216x2048 : Shape := ⟨2, ![9216, 2048]⟩
abbrev S9216x1280 : Shape := ⟨2, ![9216, 1280]⟩
abbrev S_ : Shape := ⟨0, ![]⟩

class Facts : Prop where
  slices_S9216x4608_S9216x1280_0_3072 : S9216x4608.Slices ![0, 3072] S9216x1280
  bitsLt_bf16_f32 : FTy.bits .bf16 < FTy.bits .f32
  bcast_S_S9216x1280 : S_.BroadcastsInDim S9216x1280 (![] : Fin 0 → Fin S9216x1280.rank)

variable [Facts]

def fn {F : FTy → Type} [FloatOps F] (main_arg0 : FVec F S9216x4608 .bf16) (main_arg1 : FVec F S9216x2048 .bf16) : IVec S9216x1280 1 :=
  let main_v0 : FVec F S9216x1280 .bf16 := (extractStridedSlice S9216x1280 ![0, 3072] · slices_S9216x4608_S9216x1280_0_3072) main_arg0
  let main_v1 : FVec F S9216x1280 .f32 := (extf .f32 · bitsLt_bf16_f32) main_v0
  let main_v2 : FVec F S9216x1280 .f32 := Host.absf main_v1
  let main_cst : FVec F S_ .f32 := constant S_ .f32 0x7F800000#32
  let main_v3 : FVec F S9216x1280 .f32 := broadcastInDim S9216x1280 ![] bcast_S_S9216x1280 main_cst
  let main_v4 : IVec S9216x1280 1 := cmpf .olt main_v2 main_v3
  main_v4
-- ==== Pre_tables_in_range.lean ====
abbrev S104 : Shape := ⟨1, ![104]⟩
abbrev S1 : Shape := ⟨1, ![1]⟩
abbrev S53248x2048 : Shape := ⟨2, ![53248, 2048]⟩
abbrev S64x2048x4096 : Shape := ⟨3, ![64, 2048, 4096]⟩
abbrev S32x1x4096 : Shape := ⟨3, ![32, 1, 4096]⟩
abbrev S64x2048x2048 : Shape := ⟨3, ![64, 2048, 2048]⟩
abbrev S32x1x2048 : Shape := ⟨3, ![32, 1, 2048]⟩
abbrev S_ : Shape := ⟨0, ![]⟩

class Facts : Prop where
  bcast_S_S104 : S_.BroadcastsInDim S104 (![] : Fin 0 → Fin S104.rank)
  bcast_S_S1 : S_.BroadcastsInDim S1 (![] : Fin 0 → Fin S1.rank)
  bcast_S1_S104_0 : S1.BroadcastsInDim S104 (![0] : Fin 1 → Fin S104.rank)

variable [Facts]

def fn_part1 {F : FTy → Type} [FloatOps F] (main_v15 : IVec S104 1) (main_v17 : IVec S104 1) : IVec S104 1 :=
  let main_v18 : IVec S104 1 := andi main_v15 main_v17
  main_v18

def fn {F : FTy → Type} [FloatOps F] (main_arg0 : IVec S104 32) (main_arg1 : IVec S1 32) (main_arg2 : IVec S104 32) (main_arg3 : FVec F S53248x2048 .bf16) (main_arg4 : FVec F S64x2048x4096 .f32) (main_arg5 : FVec F S32x1x4096 .f32) (main_arg6 : FVec F S64x2048x2048 .f32) (main_arg7 : FVec F S32x1x2048 .f32) : IVec S104 1 :=
  let main_c : IVec S_ 32 := constantI S_ 32 0#32
  let main_v0 : IVec S104 32 := broadcastInDim S104 ![] bcast_S_S104 main_c
  let main_v1 : IVec S104 1 := cmpi .sge main_arg0 main_v0
  let main_c_0 : IVec S_ 32 := constantI S_ 32 32#32
  let main_v2 : IVec S104 32 := broadcastInDim S104 ![] bcast_S_S104 main_c_0
  let main_v3 : IVec S104 1 := cmpi .slt main_arg0 main_v2
  let main_v4 : IVec S104 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S104 1 := broadcastInDim S104 ![0] bcast_S1_S104_0 main_v6
  let main_v8 : IVec S104 1 := andi main_v4 main_v7
  let main_c_2 : IVec S_ 32 := constantI S_ 32 104#32
  let main_v9 : IVec S1 32 := broadcastInDim S1 ![] bcast_S_S1 main_c_2
  let main_v10 : IVec S1 1 := cmpi .sle main_arg1 main_v9
  let main_v11 : IVec S104 1 := broadcastInDim S104 ![0] bcast_S1_S104_0 main_v10
  let main_v12 : IVec S104 1 := andi main_v8 main_v11
  let main_c_3 : IVec S_ 32 := constantI S_ 32 0#32
  let main_v13 : IVec S104 32 := broadcastInDim S104 ![] bcast_S_S104 main_c_3
  let main_v14 : IVec S104 1 := cmpi .sge main_arg2 main_v13
  let main_v15 : IVec S104 1 := andi main_v12 main_v14
  let main_c_4 : IVec S_ 32 := constantI S_ 32 512#32
  let main_v16 : IVec S104 32 := broadcastInDim S104 ![] bcast_S_S104 main_c_4
  let main_v17 : IVec S104 1 := cmpi .sle main_arg2 main_v16
  fn_part1 (F := F) main_v15 main_v17
-- ==== Pre_tables_in_range_1.lean ====
abbrev S96 : Shape := ⟨1, ![96]⟩
abbrev S1 : Shape := ⟨1, ![1]⟩
abbrev S49152x2048 : Shape := ⟨2, ![49152, 2048]⟩
abbrev S64x2048x4096 : Shape := ⟨3, ![64, 2048, 4096]⟩
abbrev S32x1x4096 : Shape := ⟨3, ![32, 1, 4096]⟩
abbrev S64x2048x2048 : Shape := ⟨3, ![64, 2048, 2048]⟩
abbrev S32x1x2048 : Shape := ⟨3, ![32, 1, 2048]⟩
abbrev S_ : Shape := ⟨0, ![]⟩

class Facts : Prop where
  bcast_S_S96 : S_.BroadcastsInDim S96 (![] : Fin 0 → Fin S96.rank)
  bcast_S_S1 : S_.BroadcastsInDim S1 (![] : Fin 0 → Fin S1.rank)
  bcast_S1_S96_0 : S1.BroadcastsInDim S96 (![0] : Fin 1 → Fin S96.rank)

variable [Facts]

def fn_part1 {F : FTy → Type} [FloatOps F] (main_v15 : IVec S96 1) (main_v17 : IVec S96 1) : IVec S96 1 :=
  let main_v18 : IVec S96 1 := andi main_v15 main_v17
  main_v18

def fn {F : FTy → Type} [FloatOps F] (main_arg0 : IVec S96 32) (main_arg1 : IVec S1 32) (main_arg2 : IVec S96 32) (main_arg3 : FVec F S49152x2048 .bf16) (main_arg4 : FVec F S64x2048x4096 .f32) (main_arg5 : FVec F S32x1x4096 .f32) (main_arg6 : FVec F S64x2048x2048 .f32) (main_arg7 : FVec F S32x1x2048 .f32) : IVec S96 1 :=
  let main_c : IVec S_ 32 := constantI S_ 32 0#32
  let main_v0 : IVec S96 32 := broadcastInDim S96 ![] bcast_S_S96 main_c
  let main_v1 : IVec S96 1 := cmpi .sge main_arg0 main_v0
  let main_c_0 : IVec S_ 32 := constantI S_ 32 32#32
  let main_v2 : IVec S96 32 := broadcastInDim S96 ![] bcast_S_S96 main_c_0
  let main_v3 : IVec S96 1 := cmpi .slt main_arg0 main_v2
  let main_v4 : IVec S96 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S96 1 := broadcastInDim S96 ![0] bcast_S1_S96_0 main_v6
  let main_v8 : IVec S96 1 := andi main_v4 main_v7
  let main_c_2 : IVec S_ 32 := constantI S_ 32 96#32
  let main_v9 : IVec S1 32 := broadcastInDim S1 ![] bcast_S_S1 main_c_2
  let main_v10 : IVec S1 1 := cmpi .sle main_arg1 main_v9
  let main_v11 : IVec S96 1 := broadcastInDim S96 ![0] bcast_S1_S96_0 main_v10
  let main_v12 : IVec S96 1 := andi main_v8 main_v11
  let main_c_3 : IVec S_ 32 := constantI S_ 32 0#32
  let main_v13 : IVec S96 32 := broadcastInDim S96 ![] bcast_S_S96 main_c_3
  let main_v14 : IVec S96 1 := cmpi .sge main_arg2 main_v13
  let main_v15 : IVec S96 1 := andi main_v12 main_v14
  let main_c_4 : IVec S_ 32 := constantI S_ 32 512#32
  let main_v16 : IVec S96 32 := broadcastInDim S96 ![] bcast_S_S96 main_c_4
  let main_v17 : IVec S96 1 := cmpi .sle main_arg2 main_v16
  fn_part1 (F := F) main_v15 main_v17
-- ==== Kernel.lean ====
abbrev S9216x4608 : Shape := ⟨2, ![9216, 4608]⟩
abbrev S9216x2048 : Shape := ⟨2, ![9216, 2048]⟩
abbrev S512x128 : Shape := ⟨2, ![512, 128]⟩
abbrev S256x128 : Shape := ⟨2, ![256, 128]⟩
abbrev S2048x128 : Shape := ⟨2, ![2048, 128]⟩
abbrev S512x256 : Shape := ⟨2, ![512, 256]⟩
abbrev S512 : Shape := ⟨1, ![512]⟩
abbrev S512x1 : Shape := ⟨2, ![512, 1]⟩
abbrev S512x2048 : Shape := ⟨2, ![512, 2048]⟩

abbrev nBuf : Space → Nat
  | .hbm => 3
  | .vmem => 12
  | .smem => 0
  | _ => 0

abbrev bufTy : (tb : Table) → Fin (tcTables nBuf tb) → BufTy
  | .hbm, ⟨0, _⟩ => ⟨S9216x4608, .bf16⟩
  | .hbm, ⟨1, _⟩ => ⟨S9216x2048, .bf16⟩
  | .hbm, ⟨2, _⟩ => ⟨S9216x2048, .bf16⟩
  | .local _ .vmem, ⟨0, _⟩ => ⟨S512x128, .bf16⟩
  | .local _ .vmem, ⟨1, _⟩ => ⟨S512x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S512x128, .bf16⟩
  | .local _ .vmem, ⟨11, _⟩ => ⟨S512x128, .bf16⟩
  | _, _ => ⟨S9216x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c4_i32 : BitVec 32 := 4#32
  let v1 : BitVec 32 := Scalar.divsi arg1 c4_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.addi c32_i32_4 v17
  let c0_i32_5 : BitVec 32 := 0#32
  ![v0.toNat, v18.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c4_i32 : BitVec 32 := 4#32
  let v1 : BitVec 32 := Scalar.divsi arg1 c4_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c34_i32 : BitVec 32 := 34#32
  let v18 : BitVec 32 := Scalar.addi c34_i32 v17
  let c0_i32_4 : BitVec 32 := 0#32
  ![v0.toNat, v18.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32 : BitVec 32 := 32#32
  let v17 : BitVec 32 := Scalar.addi c32_i32 v16
  let c0_i32_4 : BitVec 32 := 0#32
  ![arg0.toNat, v17.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c34_i32 : BitVec 32 := 34#32
  let v17 : BitVec 32 := Scalar.addi c34_i32 v16
  let c0_i32_4 : BitVec 32 := 0#32
  ![arg0.toNat, v17.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S9216x4608 : Shape := ⟨2, ![9216, 4608]⟩
abbrev S9216x2048 : Shape := ⟨2, ![9216, 2048]⟩
abbrev S8192x4608 : Shape := ⟨2, ![8192, 4608]⟩
abbrev S4x2048x4608 : Shape := ⟨3, ![4, 2048, 4608]⟩
abbrev S1024x4608 : Shape := ⟨2, ![1024, 4608]⟩
abbrev S4x256x4608 : Shape := ⟨3, ![4, 256, 4608]⟩
abbrev S4x2048x1024 : Shape := ⟨3, ![4, 2048, 1024]⟩
abbrev S4x2048x8x128 : Shape := ⟨4, ![4, 2048, 8, 128]⟩
abbrev S4x8x2048x128 : Shape := ⟨4, ![4, 8, 2048, 128]⟩
abbrev S4x2048x256 : Shape := ⟨3, ![4, 2048, 256]⟩
abbrev S4x2048x2x128 : Shape := ⟨4, ![4, 2048, 2, 128]⟩
abbrev S4x2x2048x128 : Shape := ⟨4, ![4, 2, 2048, 128]⟩
abbrev S4x256x256 : Shape := ⟨3, ![4, 256, 256]⟩
abbrev S4x256x2x128 : Shape := ⟨4, ![4, 256, 2, 128]⟩
abbrev S4x2x256x128 : Shape := ⟨4, ![4, 2, 256, 128]⟩
abbrev S4x2x2304x128 : Shape := ⟨4, ![4, 2, 2304, 128]⟩
abbrev S4x2x4x2048x128 : Shape := ⟨5, ![4, 2, 4, 2048, 128]⟩
abbrev S4x2x4x2048x2304 : Shape := ⟨5, ![4, 2, 4, 2048, 2304]⟩
abbrev S_ : Shape := ⟨0, ![]⟩
abbrev S4x2x4x2048 : Shape := ⟨4, ![4, 2, 4, 2048]⟩
abbrev S4x2x4x2048x1 : Shape := ⟨5, ![4, 2, 4, 2048, 1]⟩
abbrev S8192x1024 : Shape := ⟨2, ![8192, 1024]⟩
abbrev S8192x2048 : Shape := ⟨2, ![8192, 2048]⟩
abbrev S1024x2048 : Shape := ⟨2, ![1024, 2048]⟩

abbrev nBuf : Space → Nat
  | .hbm => 53
  | .vmem => 0
  | .smem => 0
  | _ => 0

abbrev bufTy : (tb : Table) → Fin (tcTables nBuf tb) → BufTy
  | .hbm, ⟨0, _⟩ => ⟨S9216x4608, .bf16⟩
  | .hbm, ⟨1, _⟩ => ⟨S9216x2048, .bf16⟩
  | .hbm, ⟨2, _⟩ => ⟨S9216x4608, .f32⟩
  | .hbm, ⟨3, _⟩ => ⟨S8192x4608, .f32⟩
  | .hbm, ⟨4, _⟩ => ⟨S4x2048x4608, .f32⟩
  | .hbm, ⟨5, _⟩ => ⟨S1024x4608, .f32⟩
  | .hbm, ⟨6, _⟩ => ⟨S4x256x4608, .f32⟩
  | .hbm, ⟨7, _⟩ => ⟨S4x2048x1024, .f32⟩
  | .hbm, ⟨8, _⟩ => ⟨S4x2048x8x128, .f32⟩
  | .hbm, ⟨9, _⟩ => ⟨S4x8x2048x128, .f32⟩
  | .hbm, ⟨10, _⟩ => ⟨S4x2048x256, .f32⟩
  | .hbm, ⟨11, _⟩ => ⟨S4x2048x2x128, .f32⟩
  | .hbm, ⟨12, _⟩ => ⟨S4x2x2048x128, .f32⟩
  | .hbm, ⟨13, _⟩ => ⟨S4x2048x256, .f32⟩
  | .hbm, ⟨14, _⟩ => ⟨S4x2048x2x128, .f32⟩
  | .hbm, ⟨15, _⟩ => ⟨S4x2x2048x128, .f32⟩
  | .hbm, ⟨16, _⟩ => ⟨S4x256x256, .f32⟩
  | .hbm, ⟨17, _⟩ => ⟨S4x256x2x128, .f32⟩
  | .hbm, ⟨18, _⟩ => ⟨S4x2x256x128, .f32⟩
  | .hbm, ⟨19, _⟩ => ⟨S4x256x256, .f32⟩
  | .hbm, ⟨20, _⟩ => ⟨S4x256x2x128, .f32⟩
  | .hbm, ⟨21, _⟩ => ⟨S4x2x256x128, .f32⟩
  | .hbm, ⟨22, _⟩ => ⟨S4x2x2304x128, .f32⟩
  | .hbm, ⟨23, _⟩ => ⟨S4x2x2304x128, .f32⟩
  | .hbm, ⟨24, _⟩ => ⟨S4x2x4x2048x128, .f32⟩
  | .hbm, ⟨25, _⟩ => ⟨S4x2x4x2048x2304, .f32⟩
  | .hbm, ⟨26, _⟩ => ⟨S_, .f32⟩
  | .hbm, ⟨27, _⟩ => ⟨S4x2x4x2048x2304, .f32⟩
  | .hbm, ⟨28, _⟩ => ⟨S4x2x4x2048x2304, .f32⟩
  | .hbm, ⟨29, _⟩ => ⟨S_, .f32⟩
  | .hbm, ⟨30, _⟩ => ⟨S4x2x4x2048, .f32⟩
  | .hbm, ⟨31, _⟩ => ⟨S_, .f32⟩
  | .hbm, ⟨32, _⟩ => ⟨S4x2x4x2048, .f32⟩
  | .hbm, ⟨33, _⟩ => ⟨S4x2x4x2048, .f32⟩
  | .hbm, ⟨34, _⟩ => ⟨S4x2x4x2048x1, .f32⟩
  | .hbm, ⟨35, _⟩ => ⟨S4x2x4x2048x2304, .f32⟩
  | .hbm, ⟨36, _⟩ => ⟨S4x2x4x2048x2304, .f32⟩
  | .hbm, ⟨37, _⟩ => ⟨S4x2x4x2048x2304, .f32⟩
  | .hbm, ⟨38, _⟩ => ⟨S_, .f32⟩
  | .hbm, ⟨39, _⟩ => ⟨S4x2x4x2048, .f32⟩
  | .hbm, ⟨40, _⟩ => ⟨S4x2x4x2048x1, .f32⟩
  | .hbm, ⟨41, _⟩ => ⟨S4x2x4x2048x2304, .f32⟩
  | .hbm, ⟨42, _⟩ => ⟨S4x2x4x2048x2304, .f32⟩
  | .hbm, ⟨43, _⟩ => ⟨S4x2x4x2048x128, .f32⟩
  | .hbm, ⟨44, _⟩ => ⟨S4x8x2048x128, .f32⟩
  | .hbm, ⟨45, _⟩ => ⟨S4x2048x8x128, .f32⟩
  | .hbm, ⟨46, _⟩ => ⟨S4x2048x1024, .f32⟩
  | .hbm, ⟨47, _⟩ => ⟨S8192x1024, .f32⟩
  | .hbm, ⟨48, _⟩ => ⟨S8192x1024, .bf16⟩
  | .hbm, ⟨49, _⟩ => ⟨S8192x1024, .bf16⟩
  | .hbm, ⟨50, _⟩ => ⟨S8192x2048, .bf16⟩
  | .hbm, ⟨51, _⟩ => ⟨S1024x2048, .bf16⟩
  | .hbm, ⟨52, _⟩ => ⟨S9216x2048, .bf16⟩
  | _, _ => ⟨S9216x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_cst : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_v26 : Ref sig .tc := ⟨.hbm, 30, rfl⟩
abbrev main_cst_1 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_2 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩

abbrev nD : Nat := 1
abbrev τ : Topo := Topo.v7x

variable {F : FTy → Type} [FloatOps F]
-- ==== Kernel2.lean ====
abbrev S104 : Shape := ⟨1, ![104]⟩
abbrev S1 : Shape := ⟨1, ![1]⟩
abbrev S53248x2048 : Shape := ⟨2, ![53248, 2048]⟩
abbrev S64x2048x4096 : Shape := ⟨3, ![64, 2048, 4096]⟩
abbrev S32x1x4096 : Shape := ⟨3, ![32, 1, 4096]⟩
abbrev S64x2048x2048 : Shape := ⟨3, ![64, 2048, 2048]⟩
abbrev S32x1x2048 : Shape := ⟨3, ![32, 1, 2048]⟩
abbrev S1024 : Shape := ⟨1, ![1024]⟩
abbrev S1024x1 : Shape := ⟨2, ![1024, 1]⟩
abbrev S512 : Shape := ⟨1, ![512]⟩
abbrev S1x512 : Shape := ⟨2, ![1, 512]⟩
abbrev S_ : Shape := ⟨0, ![]⟩
abbrev S1024x512 : Shape := ⟨2, ![1024, 512]⟩
abbrev S512x2048 : Shape := ⟨2, ![512, 2048]⟩
abbrev S1x2048x1024 : Shape := ⟨3, ![1, 2048, 1024]⟩
abbrev S1x1x1024 : Shape := ⟨3, ![1, 1, 1024]⟩
abbrev S1x512x2048 : Shape := ⟨3, ![1, 512, 2048]⟩
abbrev S1x1x2048 : Shape := ⟨3, ![1, 1, 2048]⟩
abbrev S1x2048 : Shape := ⟨2, ![1, 2048]⟩
abbrev S128x2048 : Shape := ⟨2, ![128, 2048]⟩
abbrev S2048x1024 : Shape := ⟨2, ![2048, 1024]⟩
abbrev S128x1024 : Shape := ⟨2, ![128, 1024]⟩
abbrev S1x1024 : Shape := ⟨2, ![1, 1024]⟩
abbrev S128x512 : Shape := ⟨2, ![128, 512]⟩
abbrev S256x2048 : Shape := ⟨2, ![256, 2048]⟩
abbrev S256x1024 : Shape := ⟨2, ![256, 1024]⟩
abbrev S256x512 : Shape := ⟨2, ![256, 512]⟩
abbrev S384x2048 : Shape := ⟨2, ![384, 2048]⟩
abbrev S384x1024 : Shape := ⟨2, ![384, 1024]⟩
abbrev S384x512 : Shape := ⟨2, ![384, 512]⟩
abbrev S512x1024 : Shape := ⟨2, ![512, 1024]⟩
abbrev S512x512 : Shape := ⟨2, ![512, 512]⟩

abbrev nBuf : Space → Nat
  | .hbm => 17
  | .vmem => 13
  | .smem => 3
  | _ => 0

abbrev bufTy : (tb : Table) → Fin (tcTables nBuf tb) → BufTy
  | .hbm, ⟨0, _⟩ => ⟨S53248x2048, .bf16⟩
  | .hbm, ⟨1, _⟩ => ⟨S64x2048x4096, .f32⟩
  | .hbm, ⟨2, _⟩ => ⟨S32x1x4096, .f32⟩
  | .hbm, ⟨3, _⟩ => ⟨S64x2048x2048, .f32⟩
  | .hbm, ⟨4, _⟩ => ⟨S32x1x2048, .f32⟩
  | .hbm, ⟨5, _⟩ => ⟨S1024, .i32⟩
  | .hbm, ⟨6, _⟩ => ⟨S1024x1, .i32⟩
  | .hbm, ⟨7, _⟩ => ⟨S512, .i32⟩
  | .hbm, ⟨8, _⟩ => ⟨S1x512, .i32⟩
  | .hbm, ⟨9, _⟩ => ⟨S_, .i32⟩
  | .hbm, ⟨10, _⟩ => ⟨S1x512, .i32⟩
  | .hbm, ⟨11, _⟩ => ⟨S1x512, .i32⟩
  | .hbm, ⟨12, _⟩ => ⟨S1024x512, .i32⟩
  | .hbm, ⟨13, _⟩ => ⟨S1024x512, .i32⟩
  | .hbm, ⟨14, _⟩ => ⟨S1024x512, .i1⟩
  | .hbm, ⟨15, _⟩ => ⟨S1024x512, .bf16⟩
  | .hbm, ⟨16, _⟩ => ⟨S53248x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x512x2048, .f32⟩
  | .local _ .vmem, ⟨7, _⟩ => ⟨S1x512x2048, .f32⟩
  | .local _ .vmem, ⟨8, _⟩ => ⟨S1x1x2048, .f32⟩
  | .local _ .vmem, ⟨9, _⟩ => ⟨S1x1x2048, .f32⟩
  | .local _ .vmem, ⟨10, _⟩ => ⟨S1024x512, .bf16⟩
  | .local _ .vmem, ⟨11, _⟩ => ⟨S512x2048, .f32⟩
  | .local _ .vmem, ⟨12, _⟩ => ⟨S512x2048, .f32⟩
  | .local _ .smem, ⟨0, _⟩ => ⟨S104, .i32⟩
  | .local _ .smem, ⟨1, _⟩ => ⟨S1, .i32⟩
  | .local _ .smem, ⟨2, _⟩ => ⟨S104, .i32⟩
  | _, _ => ⟨S53248x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![104, 4], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c103_i32 : BitVec 32 := 103#32
  let v7 : BitVec 32 := Scalar.minsi arg0 c103_i32
  let v8 : Index := Scalar.indexCast v7
  ![v8.toNat]
def k0_cond1 (i : grid0.Coords) (v0 : BitVec 32) : BitVec 1 :=
  let arg1 : BitVec 32 := BitVec.ofNat 32 (i 1).val
  let c0_i32 : BitVec 32 := 0#32
  let v1 : BitVec 1 := Scalar.cmpi .eq arg1 c0_i32
  let arg0 : BitVec 32 := BitVec.ofNat 32 (i 0).val
  let v2 : BitVec 1 := Scalar.cmpi .slt arg0 v0
  let v3 : BitVec 1 := Scalar.andi v1 v2
  let v4 : BitVec 32 := Scalar.extui v3
  let c0_i32_0 : BitVec 32 := 0#32
  let v5 : BitVec 1 := Scalar.cmpi .ne v4 c0_i32_0
  v5

def k0_cond2 (i : grid0.Coords) (v0 : BitVec 32) (v9 : BitVec 32) : BitVec 1 :=
  let arg0 : BitVec 32 := BitVec.ofNat 32 (i 0).val
  let v6 : BitVec 1 := Scalar.cmpi .slt arg0 v0
  let c0_i32_1 : BitVec 32 := 0#32
  let v10 : BitVec 32 := Scalar.select v6 v9 c0_i32_1
  let c0_i32_2 : BitVec 32 := 0#32
  let v11 : BitVec 1 := Scalar.cmpi .sgt v10 c0_i32_2
  let c128_i32 : BitVec 32 := 128#32
  let v12 : BitVec 1 := Scalar.cmpi .sle v10 c128_i32
  let v13 : BitVec 1 := Scalar.andi v11 v12
  let v14 : BitVec 32 := Scalar.extui v13
  let c0_i32_3 : BitVec 32 := 0#32
  let v15 : BitVec 1 := Scalar.cmpi .ne v14 c0_i32_3
  v15

def k0_cond3 (i : grid0.Coords) (v0 : BitVec 32) (v9 : BitVec 32) : BitVec 1 :=
  let arg0 : BitVec 32 := BitVec.ofNat 32 (i 0).val
  let v6 : BitVec 1 := Scalar.cmpi .slt arg0 v0
  let c0_i32_1 : BitVec 32 := 0#32
  let v10 : BitVec 32 := Scalar.select v6 v9 c0_i32_1
  let c128_i32_4 : BitVec 32 := 128#32
  let v16 : BitVec 1 := Scalar.cmpi .sgt v10 c128_i32_4
  let c256_i32 : BitVec 32 := 256#32
  let v17 : BitVec 1 := Scalar.cmpi .sle v10 c256_i32
  let v18 : BitVec 1 := Scalar.andi v16 v17
  let v19 : BitVec 32 := Scalar.extui v18
  let c0_i32_5 : BitVec 32 := 0#32
  let v20 : BitVec 1 := Scalar.cmpi .ne v19 c0_i32_5
  v20

def k0_cond4 (i : grid0.Coords) (v0 : BitVec 32) (v9 : BitVec 32) : BitVec 1 :=
  let arg0 : BitVec 32 := BitVec.ofNat 32 (i 0).val
  let v6 : BitVec 1 := Scalar.cmpi .slt arg0 v0
  let c0_i32_1 : BitVec 32 := 0#32
  let v10 : BitVec 32 := Scalar.select v6 v9 c0_i32_1
  let c256_i32_6 : BitVec 32 := 256#32
  let v21 : BitVec 1 := Scalar.cmpi .sgt v10 c256_i32_6
  let c384_i32 : BitVec 32 := 384#32
  let v22 : BitVec 1 := Scalar.cmpi .sle v10 c384_i32
  let v23 : BitVec 1 := Scalar.andi v21 v22
  let v24 : BitVec 32 := Scalar.extui v23
  let c0_i32_7 : BitVec 32 := 0#32
  let v25 : BitVec 1 := Scalar.cmpi .ne v24 c0_i32_7
  v25

def k0_cond5 (i : grid0.Coords) (v0 : BitVec 32) (v9 : BitVec 32) : BitVec 1 :=
  let arg0 : BitVec 32 := BitVec.ofNat 32 (i 0).val
  let v6 : BitVec 1 := Scalar.cmpi .slt arg0 v0
  let c0_i32_1 : BitVec 32 := 0#32
  let v10 : BitVec 32 := Scalar.select v6 v9 c0_i32_1
  let c384_i32_8 : BitVec 32 := 384#32
  let v26 : BitVec 1 := Scalar.cmpi .sgt v10 c384_i32_8
  let c512_i32 : BitVec 32 := 512#32
  let v27 : BitVec 1 := Scalar.cmpi .sle v10 c512_i32
  let v28 : BitVec 1 := Scalar.andi v26 v27
  let v29 : BitVec 32 := Scalar.extui v28
  let c0_i32_9 : BitVec 32 := 0#32
  let v30 : BitVec 1 := Scalar.cmpi .ne v29 c0_i32_9
  v30

def k0_cond6 (i : grid0.Coords) (v0 : BitVec 32) : BitVec 1 :=
  let arg0 : BitVec 32 := BitVec.ofNat 32 (i 0).val
  let v31 : BitVec 1 := Scalar.cmpi .sge arg0 v0
  let arg1 : BitVec 32 := BitVec.ofNat 32 (i 1).val
  let c0_i32_10 : BitVec 32 := 0#32
  let v32 : BitVec 1 := Scalar.cmpi .eq arg1 c0_i32_10
  let v33 : BitVec 1 := Scalar.andi v31 v32
  let v34 : BitVec 32 := Scalar.extui v33
  let c0_i32_11 : BitVec 32 := 0#32
  let v35 : BitVec 1 := Scalar.cmpi .ne v34 c0_i32_11
  v35

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S104) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  ![v2.toNat, c0_i32_0.toNat, arg1.toNat]

def cc0_transform_2 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S104) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  ![v2.toNat, arg1.toNat, c0_i32_0.toNat]

def cc0_transform_4 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S104 : Shape := ⟨1, ![104]⟩
abbrev S1 : Shape := ⟨1, ![1]⟩
abbrev S53248x2048 : Shape := ⟨2, ![53248, 2048]⟩
abbrev S64x2048x4096 : Shape := ⟨3, ![64, 2048, 4096]⟩
abbrev S32x1x4096 : Shape := ⟨3, ![32, 1, 4096]⟩
abbrev S64x2048x2048 : Shape := ⟨3, ![64, 2048, 2048]⟩
abbrev S32x1x2048 : Shape := ⟨3, ![32, 1, 2048]⟩
abbrev S104x512x2048 : Shape := ⟨3, ![104, 512, 2048]⟩
abbrev S32x2048x4096 : Shape := ⟨3, ![32, 2048, 4096]⟩
abbrev S_ : Shape := ⟨0, ![]⟩
abbrev S104x1 : Shape := ⟨2, ![104, 1]⟩
abbrev S104x2048x4096 : Shape := ⟨3, ![104, 2048, 4096]⟩
abbrev S104x1x4096 : Shape := ⟨3, ![104, 1, 4096]⟩
abbrev S32x2048x2048 : Shape := ⟨3, ![32, 2048, 2048]⟩
abbrev S104x2048x2048 : Shape := ⟨3, ![104, 2048, 2048]⟩
abbrev S104x1x2048 : Shape := ⟨3, ![104, 1, 2048]⟩
abbrev S104x512x4096 : Shape := ⟨3, ![104, 512, 4096]⟩

abbrev nBuf : Space → Nat
  | .hbm => 84
  | .vmem => 0
  | .smem => 0
  | _ => 0

abbrev bufTy : (tb : Table) → Fin (tcTables nBuf tb) → BufTy
  | .hbm, ⟨0, _⟩ => ⟨S104, .i32⟩
  | .hbm, ⟨1, _⟩ => ⟨S1, .i32⟩
  | .hbm, ⟨2, _⟩ => ⟨S104, .i32⟩
  | .hbm, ⟨3, _⟩ => ⟨S53248x2048, .bf16⟩
  | .hbm, ⟨4, _⟩ => ⟨S64x2048x4096, .f32⟩
  | .hbm, ⟨5, _⟩ => ⟨S32x1x4096, .f32⟩
  | .hbm, ⟨6, _⟩ => ⟨S64x2048x2048, .f32⟩
  | .hbm, ⟨7, _⟩ => ⟨S32x1x2048, .f32⟩
  | .hbm, ⟨8, _⟩ => ⟨S53248x2048, .f32⟩
  | .hbm, ⟨9, _⟩ => ⟨S104x512x2048, .f32⟩
  | .hbm, ⟨10, _⟩ => ⟨S32x2048x4096, .f32⟩
  | .hbm, ⟨11, _⟩ => ⟨S_, .i32⟩
  | .hbm, ⟨12, _⟩ => ⟨S104, .i32⟩
  | .hbm, ⟨13, _⟩ => ⟨S104, .i1⟩
  | .hbm, ⟨14, _⟩ => ⟨S_, .i32⟩
  | .hbm, ⟨15, _⟩ => ⟨S104, .i32⟩
  | .hbm, ⟨16, _⟩ => ⟨S104, .i32⟩
  | .hbm, ⟨17, _⟩ => ⟨S104, .i32⟩
  | .hbm, ⟨18, _⟩ => ⟨S104x1, .i32⟩
  | .hbm, ⟨19, _⟩ => ⟨S104x2048x4096, .f32⟩
  | .hbm, ⟨20, _⟩ => ⟨S_, .i32⟩
  | .hbm, ⟨21, _⟩ => ⟨S104, .i32⟩
  | .hbm, ⟨22, _⟩ => ⟨S104, .i1⟩
  | .hbm, ⟨23, _⟩ => ⟨S_, .i32⟩
  | .hbm, ⟨24, _⟩ => ⟨S104, .i32⟩
  | .hbm, ⟨25, _⟩ => ⟨S104, .i32⟩
  | .hbm, ⟨26, _⟩ => ⟨S104, .i32⟩
  | .hbm, ⟨27, _⟩ => ⟨S104x1, .i32⟩
  | .hbm, ⟨28, _⟩ => ⟨S104x1x4096, .f32⟩
  | .hbm, ⟨29, _⟩ => ⟨S32x2048x2048, .f32⟩
  | .hbm, ⟨30, _⟩ => ⟨S_, .i32⟩
  | .hbm, ⟨31, _⟩ => ⟨S104, .i32⟩
  | .hbm, ⟨32, _⟩ => ⟨S104, .i1⟩
  | .hbm, ⟨33, _⟩ => ⟨S_, .i32⟩
  | .hbm, ⟨34, _⟩ => ⟨S104, .i32⟩
  | .hbm, ⟨35, _⟩ => ⟨S104, .i32⟩
  | .hbm, ⟨36, _⟩ => ⟨S104, .i32⟩
  | .hbm, ⟨37, _⟩ => ⟨S104x1, .i32⟩
  | .hbm, ⟨38, _⟩ => ⟨S104x2048x2048, .f32⟩
  | .hbm, ⟨39, _⟩ => ⟨S_, .i32⟩
  | .hbm, ⟨40, _⟩ => ⟨S104, .i32⟩
  | .hbm, ⟨41, _⟩ => ⟨S104, .i1⟩
  | .hbm, ⟨42, _⟩ => ⟨S_, .i32⟩
  | .hbm, ⟨43, _⟩ => ⟨S104, .i32⟩
  | .hbm, ⟨44, _⟩ => ⟨S104, .i32⟩
  | .hbm, ⟨45, _⟩ => ⟨S104, .i32⟩
  | .hbm, ⟨46, _⟩ => ⟨S104x1, .i32⟩
  | .hbm, ⟨47, _⟩ => ⟨S104x1x2048, .f32⟩
  | .hbm, ⟨48, _⟩ => ⟨S104x512x4096, .f32⟩
  | .hbm, ⟨49, _⟩ => ⟨S104x512x4096, .f32⟩
  | .hbm, ⟨50, _⟩ => ⟨S104x512x4096, .f32⟩
  | .hbm, ⟨51, _⟩ => ⟨S104x512x2048, .f32⟩
  | .hbm, ⟨52, _⟩ => ⟨S_, .f32⟩
  | .hbm, ⟨53, _⟩ => ⟨S104x512x2048, .f32⟩
  | .hbm, ⟨54, _⟩ => ⟨S104x512x2048, .f32⟩
  | .hbm, ⟨55, _⟩ => ⟨S104x512x2048, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S104x512x2048, .f32⟩
  | .hbm, ⟨60, _⟩ => ⟨S104x512x2048, .f32⟩
  | .hbm, ⟨61, _⟩ => ⟨S_, .f32⟩
  | .hbm, ⟨62, _⟩ => ⟨S104x512x2048, .f32⟩
  | .hbm, ⟨63, _⟩ => ⟨S104x512x2048, .f32⟩
  | .hbm, ⟨64, _⟩ => ⟨S_, .f32⟩
  | .hbm, ⟨65, _⟩ => ⟨S104x512x2048, .f32⟩
  | .hbm, ⟨66, _⟩ => ⟨S104x512x2048, .f32⟩
  | .hbm, ⟨67, _⟩ => ⟨S104x512x2048, .f32⟩
  | .hbm, ⟨68, _⟩ => ⟨S104x512x2048, .f32⟩
  | .hbm, ⟨69, _⟩ => ⟨S_, .f32⟩
  | .hbm, ⟨70, _⟩ => ⟨S104x512x2048, .f32⟩
  | .hbm, ⟨71, _⟩ => ⟨S104x512x2048, .f32⟩
  | .hbm, ⟨72, _⟩ => ⟨S_, .f32⟩
  | .hbm, ⟨73, _⟩ => ⟨S104x512x2048, .f32⟩
  | .hbm, ⟨74, _⟩ => ⟨S104x512x2048, .f32⟩
  | .hbm, ⟨75, _⟩ => ⟨S104x512x2048, .f32⟩
  | .hbm, ⟨76, _⟩ => ⟨S_, .f32⟩
  | .hbm, ⟨77, _⟩ => ⟨S104x512x2048, .f32⟩
  | .hbm, ⟨78, _⟩ => ⟨S104x512x2048, .f32⟩
  | .hbm, ⟨79, _⟩ => ⟨S104x512x2048, .f32⟩
  | .hbm, ⟨80, _⟩ => ⟨S104x512x2048, .f32⟩
  | .hbm, ⟨81, _⟩ => ⟨S104x512x2048, .f32⟩
  | .hbm, ⟨82, _⟩ => ⟨S104x512x2048, .f32⟩
  | .hbm, ⟨83, _⟩ => ⟨S53248x2048, .f32⟩
  | _, _ => ⟨S104, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_cst_8 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_cst_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩

abbrev nD : Nat := 1
abbrev τ : Topo := Topo.v7x

variable {F : FTy → Type} [FloatOps F]
-- ==== Kernel3.lean ====
abbrev S96 : Shape := ⟨1, ![96]⟩
abbrev S1 : Shape := ⟨1, ![1]⟩
abbrev S49152x2048 : Shape := ⟨2, ![49152, 2048]⟩
abbrev S64x2048x4096 : Shape := ⟨3, ![64, 2048, 4096]⟩
abbrev S32x1x4096 : Shape := ⟨3, ![32, 1, 4096]⟩
abbrev S64x2048x2048 : Shape := ⟨3, ![64, 2048, 2048]⟩
abbrev S32x1x2048 : Shape := ⟨3, ![32, 1, 2048]⟩
abbrev S1024 : Shape := ⟨1, ![1024]⟩
abbrev S1024x1 : Shape := ⟨2, ![1024, 1]⟩
abbrev S512 : Shape := ⟨1, ![512]⟩
abbrev S1x512 : Shape := ⟨2, ![1, 512]⟩
abbrev S_ : Shape := ⟨0, ![]⟩
abbrev S1024x512 : Shape := ⟨2, ![1024, 512]⟩
abbrev S512x2048 : Shape := ⟨2, ![512, 2048]⟩
abbrev S1x2048x1024 : Shape := ⟨3, ![1, 2048, 1024]⟩
abbrev S1x1x1024 : Shape := ⟨3, ![1, 1, 1024]⟩
abbrev S1x512x2048 : Shape := ⟨3, ![1, 512, 2048]⟩
abbrev S1x1x2048 : Shape := ⟨3, ![1, 1, 2048]⟩
abbrev S1x2048 : Shape := ⟨2, ![1, 2048]⟩
abbrev S128x2048 : Shape := ⟨2, ![128, 2048]⟩
abbrev S2048x1024 : Shape := ⟨2, ![2048, 1024]⟩
abbrev S128x1024 : Shape := ⟨2, ![128, 1024]⟩
abbrev S1x1024 : Shape := ⟨2, ![1, 1024]⟩
abbrev S128x512 : Shape := ⟨2, ![128, 512]⟩
abbrev S256x2048 : Shape := ⟨2, ![256, 2048]⟩
abbrev S256x1024 : Shape := ⟨2, ![256, 1024]⟩
abbrev S256x512 : Shape := ⟨2, ![256, 512]⟩
abbrev S384x2048 : Shape := ⟨2, ![384, 2048]⟩
abbrev S384x1024 : Shape := ⟨2, ![384, 1024]⟩
abbrev S384x512 : Shape := ⟨2, ![384, 512]⟩
abbrev S512x1024 : Shape := ⟨2, ![512, 1024]⟩
abbrev S512x512 : Shape := ⟨2, ![512, 512]⟩

abbrev nBuf : Space → Nat
  | .hbm => 17
  | .vmem => 13
  | .smem => 3
  | _ => 0

abbrev bufTy : (tb : Table) → Fin (tcTables nBuf tb) → BufTy
  | .hbm, ⟨0, _⟩ => ⟨S49152x2048, .bf16⟩
  | .hbm, ⟨1, _⟩ => ⟨S64x2048x4096, .f32⟩
  | .hbm, ⟨2, _⟩ => ⟨S32x1x4096, .f32⟩
  | .hbm, ⟨3, _⟩ => ⟨S64x2048x2048, .f32⟩
  | .hbm, ⟨4, _⟩ => ⟨S32x1x2048, .f32⟩
  | .hbm, ⟨5, _⟩ => ⟨S1024, .i32⟩
  | .hbm, ⟨6, _⟩ => ⟨S1024x1, .i32⟩
  | .hbm, ⟨7, _⟩ => ⟨S512, .i32⟩
  | .hbm, ⟨8, _⟩ => ⟨S1x512, .i32⟩
  | .hbm, ⟨9, _⟩ => ⟨S_, .i32⟩
  | .hbm, ⟨10, _⟩ => ⟨S1x512, .i32⟩
  | .hbm, ⟨11, _⟩ => ⟨S1x512, .i32⟩
  | .hbm, ⟨12, _⟩ => ⟨S1024x512, .i32⟩
  | .hbm, ⟨13, _⟩ => ⟨S1024x512, .i32⟩
  | .hbm, ⟨14, _⟩ => ⟨S1024x512, .i1⟩
  | .hbm, ⟨15, _⟩ => ⟨S1024x512, .bf16⟩
  | .hbm, ⟨16, _⟩ => ⟨S49152x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x512x2048, .f32⟩
  | .local _ .vmem, ⟨7, _⟩ => ⟨S1x512x2048, .f32⟩
  | .local _ .vmem, ⟨8, _⟩ => ⟨S1x1x2048, .f32⟩
  | .local _ .vmem, ⟨9, _⟩ => ⟨S1x1x2048, .f32⟩
  | .local _ .vmem, ⟨10, _⟩ => ⟨S1024x512, .bf16⟩
  | .local _ .vmem, ⟨11, _⟩ => ⟨S512x2048, .f32⟩
  | .local _ .vmem, ⟨12, _⟩ => ⟨S512x2048, .f32⟩
  | .local _ .smem, ⟨0, _⟩ => ⟨S96, .i32⟩
  | .local _ .smem, ⟨1, _⟩ => ⟨S1, .i32⟩
  | .local _ .smem, ⟨2, _⟩ => ⟨S96, .i32⟩
  | _, _ => ⟨S49152x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![96, 4], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c95_i32 : BitVec 32 := 95#32
  let v7 : BitVec 32 := Scalar.minsi arg0 c95_i32
  let v8 : Index := Scalar.indexCast v7
  ![v8.toNat]
def k0_cond1 (i : grid0.Coords) (v0 : BitVec 32) : BitVec 1 :=
  let arg1 : BitVec 32 := BitVec.ofNat 32 (i 1).val
  let c0_i32 : BitVec 32 := 0#32
  let v1 : BitVec 1 := Scalar.cmpi .eq arg1 c0_i32
  let arg0 : BitVec 32 := BitVec.ofNat 32 (i 0).val
  let v2 : BitVec 1 := Scalar.cmpi .slt arg0 v0
  let v3 : BitVec 1 := Scalar.andi v1 v2
  let v4 : BitVec 32 := Scalar.extui v3
  let c0_i32_0 : BitVec 32 := 0#32
  let v5 : BitVec 1 := Scalar.cmpi .ne v4 c0_i32_0
  v5

def k0_cond2 (i : grid0.Coords) (v0 : BitVec 32) (v9 : BitVec 32) : BitVec 1 :=
  let arg0 : BitVec 32 := BitVec.ofNat 32 (i 0).val
  let v6 : BitVec 1 := Scalar.cmpi .slt arg0 v0
  let c0_i32_1 : BitVec 32 := 0#32
  let v10 : BitVec 32 := Scalar.select v6 v9 c0_i32_1
  let c0_i32_2 : BitVec 32 := 0#32
  let v11 : BitVec 1 := Scalar.cmpi .sgt v10 c0_i32_2
  let c128_i32 : BitVec 32 := 128#32
  let v12 : BitVec 1 := Scalar.cmpi .sle v10 c128_i32
  let v13 : BitVec 1 := Scalar.andi v11 v12
  let v14 : BitVec 32 := Scalar.extui v13
  let c0_i32_3 : BitVec 32 := 0#32
  let v15 : BitVec 1 := Scalar.cmpi .ne v14 c0_i32_3
  v15

def k0_cond3 (i : grid0.Coords) (v0 : BitVec 32) (v9 : BitVec 32) : BitVec 1 :=
  let arg0 : BitVec 32 := BitVec.ofNat 32 (i 0).val
  let v6 : BitVec 1 := Scalar.cmpi .slt arg0 v0
  let c0_i32_1 : BitVec 32 := 0#32
  let v10 : BitVec 32 := Scalar.select v6 v9 c0_i32_1
  let c128_i32_4 : BitVec 32 := 128#32
  let v16 : BitVec 1 := Scalar.cmpi .sgt v10 c128_i32_4
  let c256_i32 : BitVec 32 := 256#32
  let v17 : BitVec 1 := Scalar.cmpi .sle v10 c256_i32
  let v18 : BitVec 1 := Scalar.andi v16 v17
  let v19 : BitVec 32 := Scalar.extui v18
  let c0_i32_5 : BitVec 32 := 0#32
  let v20 : BitVec 1 := Scalar.cmpi .ne v19 c0_i32_5
  v20

def k0_cond4 (i : grid0.Coords) (v0 : BitVec 32) (v9 : BitVec 32) : BitVec 1 :=
  let arg0 : BitVec 32 := BitVec.ofNat 32 (i 0).val
  let v6 : BitVec 1 := Scalar.cmpi .slt arg0 v0
  let c0_i32_1 : BitVec 32 := 0#32
  let v10 : BitVec 32 := Scalar.select v6 v9 c0_i32_1
  let c256_i32_6 : BitVec 32 := 256#32
  let v21 : BitVec 1 := Scalar.cmpi .sgt v10 c256_i32_6
  let c384_i32 : BitVec 32 := 384#32
  let v22 : BitVec 1 := Scalar.cmpi .sle v10 c384_i32
  let v23 : BitVec 1 := Scalar.andi v21 v22
  let v24 : BitVec 32 := Scalar.extui v23
  let c0_i32_7 : BitVec 32 := 0#32
  let v25 : BitVec 1 := Scalar.cmpi .ne v24 c0_i32_7
  v25

def k0_cond5 (i : grid0.Coords) (v0 : BitVec 32) (v9 : BitVec 32) : BitVec 1 :=
  let arg0 : BitVec 32 := BitVec.ofNat 32 (i 0).val
  let v6 : BitVec 1 := Scalar.cmpi .slt arg0 v0
  let c0_i32_1 : BitVec 32 := 0#32
  let v10 : BitVec 32 := Scalar.select v6 v9 c0_i32_1
  let c384_i32_8 : BitVec 32 := 384#32
  let v26 : BitVec 1 := Scalar.cmpi .sgt v10 c384_i32_8
  let c512_i32 : BitVec 32 := 512#32
  let v27 : BitVec 1 := Scalar.cmpi .sle v10 c512_i32
  let v28 : BitVec 1 := Scalar.andi v26 v27
  let v29 : BitVec 32 := Scalar.extui v28
  let c0_i32_9 : BitVec 32 := 0#32
  let v30 : BitVec 1 := Scalar.cmpi .ne v29 c0_i32_9
  v30

def k0_cond6 (i : grid0.Coords) (v0 : BitVec 32) : BitVec 1 :=
  let arg0 : BitVec 32 := BitVec.ofNat 32 (i 0).val
  let v31 : BitVec 1 := Scalar.cmpi .sge arg0 v0
  let arg1 : BitVec 32 := BitVec.ofNat 32 (i 1).val
  let c0_i32_10 : BitVec 32 := 0#32
  let v32 : BitVec 1 := Scalar.cmpi .eq arg1 c0_i32_10
  let v33 : BitVec 1 := Scalar.andi v31 v32
  let v34 : BitVec 32 := Scalar.extui v33
  let c0_i32_11 : BitVec 32 := 0#32
  let v35 : BitVec 1 := Scalar.cmpi .ne v34 c0_i32_11
  v35

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  ![v2.toNat, c0_i32.toNat, arg1.toNat]

def cc0_transform_2 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  ![v2.toNat, arg1.toNat, c0_i32.toNat]

def cc0_transform_4 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S96 : Shape := ⟨1, ![96]⟩
abbrev S1 : Shape := ⟨1, ![1]⟩
abbrev S49152x2048 : Shape := ⟨2, ![49152, 2048]⟩
abbrev S64x2048x4096 : Shape := ⟨3, ![64, 2048, 4096]⟩
abbrev S32x1x4096 : Shape := ⟨3, ![32, 1, 4096]⟩
abbrev S64x2048x2048 : Shape := ⟨3, ![64, 2048, 2048]⟩
abbrev S32x1x2048 : Shape := ⟨3, ![32, 1, 2048]⟩
abbrev S96x512x2048 : Shape := ⟨3, ![96, 512, 2048]⟩
abbrev S32x2048x4096 : Shape := ⟨3, ![32, 2048, 4096]⟩
abbrev S_ : Shape := ⟨0, ![]⟩
abbrev S96x1 : Shape := ⟨2, ![96, 1]⟩
abbrev S96x2048x4096 : Shape := ⟨3, ![96, 2048, 4096]⟩
abbrev S96x1x4096 : Shape := ⟨3, ![96, 1, 4096]⟩
abbrev S32x2048x2048 : Shape := ⟨3, ![32, 2048, 2048]⟩
abbrev S96x2048x2048 : Shape := ⟨3, ![96, 2048, 2048]⟩
abbrev S96x1x2048 : Shape := ⟨3, ![96, 1, 2048]⟩
abbrev S96x512x4096 : Shape := ⟨3, ![96, 512, 4096]⟩

abbrev nBuf : Space → Nat
  | .hbm => 84
  | .vmem => 0
  | .smem => 0
  | _ => 0

abbrev bufTy : (tb : Table) → Fin (tcTables nBuf tb) → BufTy
  | .hbm, ⟨0, _⟩ => ⟨S96, .i32⟩
  | .hbm, ⟨1, _⟩ => ⟨S1, .i32⟩
  | .hbm, ⟨2, _⟩ => ⟨S96, .i32⟩
  | .hbm, ⟨3, _⟩ => ⟨S49152x2048, .bf16⟩
  | .hbm, ⟨4, _⟩ => ⟨S64x2048x4096, .f32⟩
  | .hbm, ⟨5, _⟩ => ⟨S32x1x4096, .f32⟩
  | .hbm, ⟨6, _⟩ => ⟨S64x2048x2048, .f32⟩
  | .hbm, ⟨7, _⟩ => ⟨S32x1x2048, .f32⟩
  | .hbm, ⟨8, _⟩ => ⟨S49152x2048, .f32⟩
  | .hbm, ⟨9, _⟩ => ⟨S96x512x2048, .f32⟩
  | .hbm, ⟨10, _⟩ => ⟨S32x2048x4096, .f32⟩
  | .hbm, ⟨11, _⟩ => ⟨S_, .i32⟩
  | .hbm, ⟨12, _⟩ => ⟨S96, .i32⟩
  | .hbm, ⟨13, _⟩ => ⟨S96, .i1⟩
  | .hbm, ⟨14, _⟩ => ⟨S_, .i32⟩
  | .hbm, ⟨15, _⟩ => ⟨S96, .i32⟩
  | .hbm, ⟨16, _⟩ => ⟨S96, .i32⟩
  | .hbm, ⟨17, _⟩ => ⟨S96, .i32⟩
  | .hbm, ⟨18, _⟩ => ⟨S96x1, .i32⟩
  | .hbm, ⟨19, _⟩ => ⟨S96x2048x4096, .f32⟩
  | .hbm, ⟨20, _⟩ => ⟨S_, .i32⟩
  | .hbm, ⟨21, _⟩ => ⟨S96, .i32⟩
  | .hbm, ⟨22, _⟩ => ⟨S96, .i1⟩
  | .hbm, ⟨23, _⟩ => ⟨S_, .i32⟩
  | .hbm, ⟨24, _⟩ => ⟨S96, .i32⟩
  | .hbm, ⟨25, _⟩ => ⟨S96, .i32⟩
  | .hbm, ⟨26, _⟩ => ⟨S96, .i32⟩
  | .hbm, ⟨27, _⟩ => ⟨S96x1, .i32⟩
  | .hbm, ⟨28, _⟩ => ⟨S96x1x4096, .f32⟩
  | .hbm, ⟨29, _⟩ => ⟨S32x2048x2048, .f32⟩
  | .hbm, ⟨30, _⟩ => ⟨S_, .i32⟩
  | .hbm, ⟨31, _⟩ => ⟨S96, .i32⟩
  | .hbm, ⟨32, _⟩ => ⟨S96, .i1⟩
  | .hbm, ⟨33, _⟩ => ⟨S_, .i32⟩
  | .hbm, ⟨34, _⟩ => ⟨S96, .i32⟩
  | .hbm, ⟨35, _⟩ => ⟨S96, .i32⟩
  | .hbm, ⟨36, _⟩ => ⟨S96, .i32⟩
  | .hbm, ⟨37, _⟩ => ⟨S96x1, .i32⟩
  | .hbm, ⟨38, _⟩ => ⟨S96x2048x2048, .f32⟩
  | .hbm, ⟨39, _⟩ => ⟨S_, .i32⟩
  | .hbm, ⟨40, _⟩ => ⟨S96, .i32⟩
  | .hbm, ⟨41, _⟩ => ⟨S96, .i1⟩
  | .hbm, ⟨42, _⟩ => ⟨S_, .i32⟩
  | .hbm, ⟨43, _⟩ => ⟨S96, .i32⟩
  | .hbm, ⟨44, _⟩ => ⟨S96, .i32⟩
  | .hbm, ⟨45, _⟩ => ⟨S96, .i32⟩
  | .hbm, ⟨46, _⟩ => ⟨S96x1, .i32⟩
  | .hbm, ⟨47, _⟩ => ⟨S96x1x2048, .f32⟩
  | .hbm, ⟨48, _⟩ => ⟨S96x512x4096, .f32⟩
  | .hbm, ⟨49, _⟩ => ⟨S96x512x4096, .f32⟩
  | .hbm, ⟨50, _⟩ => ⟨S96x512x4096, .f32⟩
  | .hbm, ⟨51, _⟩ => ⟨S96x512x2048, .f32⟩
  | .hbm, ⟨52, _⟩ => ⟨S_, .f32⟩
  | .hbm, ⟨53, _⟩ => ⟨S96x512x2048, .f32⟩
  | .hbm, ⟨54, _⟩ => ⟨S96x512x2048, .f32⟩
  | .hbm, ⟨55, _⟩ => ⟨S96x512x2048, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S96x512x2048, .f32⟩
  | .hbm, ⟨60, _⟩ => ⟨S96x512x2048, .f32⟩
  | .hbm, ⟨61, _⟩ => ⟨S_, .f32⟩
  | .hbm, ⟨62, _⟩ => ⟨S96x512x2048, .f32⟩
  | .hbm, ⟨63, _⟩ => ⟨S96x512x2048, .f32⟩
  | .hbm, ⟨64, _⟩ => ⟨S_, .f32⟩
  | .hbm, ⟨65, _⟩ => ⟨S96x512x2048, .f32⟩
  | .hbm, ⟨66, _⟩ => ⟨S96x512x2048, .f32⟩
  | .hbm, ⟨67, _⟩ => ⟨S96x512x2048, .f32⟩
  | .hbm, ⟨68, _⟩ => ⟨S96x512x2048, .f32⟩
  | .hbm, ⟨69, _⟩ => ⟨S_, .f32⟩
  | .hbm, ⟨70, _⟩ => ⟨S96x512x2048, .f32⟩
  | .hbm, ⟨71, _⟩ => ⟨S96x512x2048, .f32⟩
  | .hbm, ⟨72, _⟩ => ⟨S_, .f32⟩
  | .hbm, ⟨73, _⟩ => ⟨S96x512x2048, .f32⟩
  | .hbm, ⟨74, _⟩ => ⟨S96x512x2048, .f32⟩
  | .hbm, ⟨75, _⟩ => ⟨S96x512x2048, .f32⟩
  | .hbm, ⟨76, _⟩ => ⟨S_, .f32⟩
  | .hbm, ⟨77, _⟩ => ⟨S96x512x2048, .f32⟩
  | .hbm, ⟨78, _⟩ => ⟨S96x512x2048, .f32⟩
  | .hbm, ⟨79, _⟩ => ⟨S96x512x2048, .f32⟩
  | .hbm, ⟨80, _⟩ => ⟨S96x512x2048, .f32⟩
  | .hbm, ⟨81, _⟩ => ⟨S96x512x2048, .f32⟩
  | .hbm, ⟨82, _⟩ => ⟨S96x512x2048, .f32⟩
  | .hbm, ⟨83, _⟩ => ⟨S49152x2048, .f32⟩
  | _, _ => ⟨S96, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_cst_8 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_cst_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩

abbrev nD : Nat := 1
abbrev τ : Topo := Topo.v7x

variable {F : FTy → Type} [FloatOps F]
-- ==== Kernel4.lean ====
abbrev S9216x2048 : Shape := ⟨2, ![9216, 2048]⟩
abbrev S2048x4608 : Shape := ⟨2, ![2048, 4608]⟩
abbrev S9216x4608 : Shape := ⟨2, ![9216, 4608]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S9216x2048, .bf16⟩
  | .hbm, ⟨1, _⟩ => ⟨S2048x4608, .f32⟩
  | .hbm, ⟨2, _⟩ => ⟨S9216x4608, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S9216x2048 : Shape := ⟨2, ![9216, 2048]⟩
abbrev S2048x4608 : Shape := ⟨2, ![2048, 4608]⟩
abbrev S9216x4608 : Shape := ⟨2, ![9216, 4608]⟩

abbrev nBuf : Space → Nat
  | .hbm => 5
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x4608, .f32⟩
  | .hbm, ⟨2, _⟩ => ⟨S9216x2048, .f32⟩
  | .hbm, ⟨3, _⟩ => ⟨S9216x4608, .f32⟩
  | .hbm, ⟨4, _⟩ => ⟨S9216x4608, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S9216x2048 : Shape := ⟨2, ![9216, 2048]⟩
abbrev S2048x2048 : Shape := ⟨2, ![2048, 2048]⟩
abbrev S8x1x12288 : Shape := ⟨3, ![8, 1, 12288]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S9216x2048, .bf16⟩
  | .hbm, ⟨1, _⟩ => ⟨S2048x2048, .f32⟩
  | .hbm, ⟨2, _⟩ => ⟨S9216x2048, .f32⟩
  | .hbm, ⟨3, _⟩ => ⟨S8x1x12288, .f32⟩
  | .hbm, ⟨4, _⟩ => ⟨S9216x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c2_i32 : BitVec 32 := 2#32
  let v1 : BitVec 32 := Scalar.divsi arg0 c2_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c8_i32_4 : BitVec 32 := 8#32
  let v19 : BitVec 32 := Scalar.addi c8_i32_4 arg1
  let c0_i32_5 : BitVec 32 := 0#32
  let c0_i32_6 : BitVec 32 := 0#32
  ![v18.toNat, c0_i32_5.toNat, v19.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S9216x2048 : Shape := ⟨2, ![9216, 2048]⟩
abbrev S2048x2048 : Shape := ⟨2, ![2048, 2048]⟩
abbrev S8x1x12288 : Shape := ⟨3, ![8, 1, 12288]⟩
abbrev S8x1x2048 : Shape := ⟨3, ![8, 1, 2048]⟩
abbrev S8192x2048 : Shape := ⟨2, ![8192, 2048]⟩
abbrev S4x2048x2048 : Shape := ⟨3, ![4, 2048, 2048]⟩
abbrev S4x1x2048 : Shape := ⟨3, ![4, 1, 2048]⟩
abbrev S1024x2048 : Shape := ⟨2, ![1024, 2048]⟩
abbrev S1x1x2048 : Shape := ⟨3, ![1, 1, 2048]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x2048, .f32⟩
  | .hbm, ⟨2, _⟩ => ⟨S9216x2048, .f32⟩
  | .hbm, ⟨3, _⟩ => ⟨S8x1x12288, .f32⟩
  | .hbm, ⟨4, _⟩ => ⟨S9216x2048, .f32⟩
  | .hbm, ⟨5, _⟩ => ⟨S9216x2048, .f32⟩
  | .hbm, ⟨6, _⟩ => ⟨S8x1x2048, .f32⟩
  | .hbm, ⟨7, _⟩ => ⟨S8192x2048, .f32⟩
  | .hbm, ⟨8, _⟩ => ⟨S4x2048x2048, .f32⟩
  | .hbm, ⟨9, _⟩ => ⟨S4x1x2048, .f32⟩
  | .hbm, ⟨10, _⟩ => ⟨S8192x2048, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S1024x2048, .f32⟩
  | .hbm, ⟨16, _⟩ => ⟨S1x1x2048, .f32⟩
  | .hbm, ⟨17, _⟩ => ⟨S1x2048, .f32⟩
  | .hbm, ⟨18, _⟩ => ⟨S1024x2048, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S8192x2048, .f32⟩
  | .hbm, ⟨23, _⟩ => ⟨S9216x2048, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Kernel6.lean ====
abbrev S9216x2048 : Shape := ⟨2, ![9216, 2048]⟩
abbrev S2048x6176 : Shape := ⟨2, ![2048, 6176]⟩
abbrev S9216x6144 : Shape := ⟨2, ![9216, 6144]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S9216x2048, .bf16⟩
  | .hbm, ⟨1, _⟩ => ⟨S2048x6176, .f32⟩
  | .hbm, ⟨2, _⟩ => ⟨S9216x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S9216x2048 : Shape := ⟨2, ![9216, 2048]⟩
abbrev S2048x6176 : Shape := ⟨2, ![2048, 6176]⟩
abbrev S2048x6144 : Shape := ⟨2, ![2048, 6144]⟩
abbrev S9216x6144 : Shape := ⟨2, ![9216, 6144]⟩

abbrev nBuf : Space → Nat
  | .hbm => 6
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x6176, .f32⟩
  | .hbm, ⟨2, _⟩ => ⟨S9216x2048, .f32⟩
  | .hbm, ⟨3, _⟩ => ⟨S2048x6144, .f32⟩
  | .hbm, ⟨4, _⟩ => ⟨S9216x6144, .f32⟩
  | .hbm, ⟨5, _⟩ => ⟨S9216x6144, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S8192x2048 : Shape := ⟨2, ![8192, 2048]⟩
abbrev S2048x2048 : Shape := ⟨2, ![2048, 2048]⟩
abbrev S9216x2048 : Shape := ⟨2, ![9216, 2048]⟩
abbrev S8x1x12288 : Shape := ⟨3, ![8, 1, 12288]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S9216x2048, .f32⟩
  | .hbm, ⟨3, _⟩ => ⟨S8x1x12288, .f32⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c2_i32 : BitVec 32 := 2#32
  let v1 : BitVec 32 := Scalar.divsi arg0 c2_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c8_i32_4 : BitVec 32 := 8#32
  let v19 : BitVec 32 := Scalar.addi c8_i32_4 arg1
  let c0_i32_5 : BitVec 32 := 0#32
  let c0_i32_6 : BitVec 32 := 0#32
  ![v18.toNat, c0_i32_5.toNat, v19.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S8192x2048 : Shape := ⟨2, ![8192, 2048]⟩
abbrev S2048x2048 : Shape := ⟨2, ![2048, 2048]⟩
abbrev S9216x2048 : Shape := ⟨2, ![9216, 2048]⟩
abbrev S8x1x12288 : Shape := ⟨3, ![8, 1, 12288]⟩
abbrev S4x2048x2048 : Shape := ⟨3, ![4, 2048, 2048]⟩
abbrev S4x1x2048 : Shape := ⟨3, ![4, 1, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S9216x2048, .f32⟩
  | .hbm, ⟨3, _⟩ => ⟨S8x1x12288, .f32⟩
  | .hbm, ⟨4, _⟩ => ⟨S8192x2048, .f32⟩
  | .hbm, ⟨5, _⟩ => ⟨S8192x2048, .f32⟩
  | .hbm, ⟨6, _⟩ => ⟨S4x2048x2048, .f32⟩
  | .hbm, ⟨7, _⟩ => ⟨S8192x2048, .f32⟩
  | .hbm, ⟨8, _⟩ => ⟨S4x2048x2048, .f32⟩
  | .hbm, ⟨9, _⟩ => ⟨S4x1x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel8.lean ====
abbrev S8x2048 : Shape := ⟨2, ![8, 2048]⟩
abbrev S4096x12288 : Shape := ⟨2, ![4096, 12288]⟩
abbrev S1x12288 : Shape := ⟨2, ![1, 12288]⟩
abbrev S8x12288 : Shape := ⟨2, ![8, 12288]⟩
abbrev S2048x512 : Shape := ⟨2, ![2048, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4096x12288, .f32⟩
  | .hbm, ⟨2, _⟩ => ⟨S1x12288, .f32⟩
  | .hbm, ⟨3, _⟩ => ⟨S8x12288, .f32⟩
  | .local _ .vmem, ⟨0, _⟩ => ⟨S8x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8x2048 : Shape := ⟨2, ![8, 2048]⟩
abbrev S4096x12288 : Shape := ⟨2, ![4096, 12288]⟩
abbrev S1x12288 : Shape := ⟨2, ![1, 12288]⟩
abbrev S_ : Shape := ⟨0, ![]⟩
abbrev S2048x12288 : Shape := ⟨2, ![2048, 12288]⟩
abbrev S8x12288 : Shape := ⟨2, ![8, 12288]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4096x12288, .f32⟩
  | .hbm, ⟨2, _⟩ => ⟨S1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2048x12288, .f32⟩
  | .hbm, ⟨13, _⟩ => ⟨S8x12288, .f32⟩
  | .hbm, ⟨14, _⟩ => ⟨S8x12288, .f32⟩
  | .hbm, ⟨15, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel9.lean ====
abbrev S8x2048 : Shape := ⟨2, ![8, 2048]⟩
abbrev S4096x12288 : Shape := ⟨2, ![4096, 12288]⟩
abbrev S1x12288 : Shape := ⟨2, ![1, 12288]⟩
abbrev S8x12288 : Shape := ⟨2, ![8, 12288]⟩
abbrev S2048x512 : Shape := ⟨2, ![2048, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4096x12288, .f32⟩
  | .hbm, ⟨2, _⟩ => ⟨S1x12288, .f32⟩
  | .hbm, ⟨3, _⟩ => ⟨S8x12288, .f32⟩
  | .local _ .vmem, ⟨0, _⟩ => ⟨S8x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8x2048 : Shape := ⟨2, ![8, 2048]⟩
abbrev S4096x12288 : Shape := ⟨2, ![4096, 12288]⟩
abbrev S1x12288 : Shape := ⟨2, ![1, 12288]⟩
abbrev S_ : Shape := ⟨0, ![]⟩
abbrev S2048x12288 : Shape := ⟨2, ![2048, 12288]⟩
abbrev S8x12288 : Shape := ⟨2, ![8, 12288]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4096x12288, .f32⟩
  | .hbm, ⟨2, _⟩ => ⟨S1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2048x12288, .f32⟩
  | .hbm, ⟨13, _⟩ => ⟨S8x12288, .f32⟩
  | .hbm, ⟨14, _⟩ => ⟨S8x12288, .f32⟩
  | .hbm, ⟨15, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel10.lean ====
abbrev S9216x2048 : Shape := ⟨2, ![9216, 2048]⟩
abbrev S1x2048 : Shape := ⟨2, ![1, 2048]⟩
abbrev S8x1x12288 : Shape := ⟨3, ![8, 1, 12288]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 4
  | .vmem => 9
  | .smem => 0
  | _ => 0

abbrev bufTy : (tb : Table) → Fin (tcTables nBuf tb) → BufTy
  | .hbm, ⟨0, _⟩ => ⟨S9216x2048, .f32⟩
  | .hbm, ⟨1, _⟩ => ⟨S1x2048, .f32⟩
  | .hbm, ⟨2, _⟩ => ⟨S8x1x12288, .f32⟩
  | .hbm, ⟨3, _⟩ => ⟨S9216x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 v17 c4_i32_4
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 v17 c4_i32_4
  let c0_i32_5 : BitVec 32 := 0#32
  let c1_i32_6 : BitVec 32 := 1#32
  let c0_i32_7 : BitVec 32 := 0#32
  ![v18.toNat, c0_i32_5.toNat, c1_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S9216x2048 : Shape := ⟨2, ![9216, 2048]⟩
abbrev S1x2048 : Shape := ⟨2, ![1, 2048]⟩
abbrev S8x1x12288 : Shape := ⟨3, ![8, 1, 12288]⟩
abbrev S8x1x2048 : Shape := ⟨3, ![8, 1, 2048]⟩
abbrev S8192x2048 : Shape := ⟨2, ![8192, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x1x2048 : Shape := ⟨3, ![4, 1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 62
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S1x2048, .f32⟩
  | .hbm, ⟨2, _⟩ => ⟨S8x1x12288, .f32⟩
  | .hbm, ⟨3, _⟩ => ⟨S8x1x2048, .f32⟩
  | .hbm, ⟨4, _⟩ => ⟨S8x1x2048, .f32⟩
  | .hbm, ⟨5, _⟩ => ⟨S8192x2048, .f32⟩
  | .hbm, ⟨6, _⟩ => ⟨S4x2048x2048, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S4x1x2048, .f32⟩
  | .hbm, ⟨24, _⟩ => ⟨S_, .f32⟩
  | .hbm, ⟨25, _⟩ => ⟨S4x1x2048, .f32⟩
  | .hbm, ⟨26, _⟩ => ⟨S4x1x2048, .f32⟩
  | .hbm, ⟨27, _⟩ => ⟨S4x2048x2048, .f32⟩
  | .hbm, ⟨28, _⟩ => ⟨S4x2048x2048, .f32⟩
  | .hbm, ⟨29, _⟩ => ⟨S4x1x2048, .f32⟩
  | .hbm, ⟨30, _⟩ => ⟨S4x2048x2048, .f32⟩
  | .hbm, ⟨31, _⟩ => ⟨S4x2048x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024, .f32⟩
  | .hbm, ⟨36, _⟩ => ⟨S1024x1, .f32⟩
  | .hbm, ⟨37, _⟩ => ⟨S_, .f32⟩
  | .hbm, ⟨38, _⟩ => ⟨S1024x1, .f32⟩
  | .hbm, ⟨39, _⟩ => ⟨S1024x1, .f32⟩
  | .hbm, ⟨40, _⟩ => ⟨S_, .f32⟩
  | .hbm, ⟨41, _⟩ => ⟨S1024x1, .f32⟩
  | .hbm, ⟨42, _⟩ => ⟨S1024x1, .f32⟩
  | .hbm, ⟨43, _⟩ => ⟨S1024x1, .f32⟩
  | .hbm, ⟨44, _⟩ => ⟨S1024x2048, .f32⟩
  | .hbm, ⟨45, _⟩ => ⟨S1024x2048, .f32⟩
  | .hbm, ⟨46, _⟩ => ⟨S1024x2048, .f32⟩
  | .hbm, ⟨47, _⟩ => ⟨S1024x2048, .f32⟩
  | .hbm, ⟨48, _⟩ => ⟨S1x1x2048, .f32⟩
  | .hbm, ⟨49, _⟩ => ⟨S1x2048, .f32⟩
  | .hbm, ⟨50, _⟩ => ⟨S_, .f32⟩
  | .hbm, ⟨51, _⟩ => ⟨S1x2048, .f32⟩
  | .hbm, ⟨52, _⟩ => ⟨S1x2048, .f32⟩
  | .hbm, ⟨53, _⟩ => ⟨S1024x2048, .f32⟩
  | .hbm, ⟨54, _⟩ => ⟨S1024x2048, .f32⟩
  | .hbm, ⟨55, _⟩ => ⟨S1x1x2048, .f32⟩
  | .hbm, ⟨56, _⟩ => ⟨S1x2048, .f32⟩
  | .hbm, ⟨57, _⟩ => ⟨S1024x2048, .f32⟩
  | .hbm, ⟨58, _⟩ => ⟨S1024x2048, .f32⟩
  | .hbm, ⟨59, _⟩ => ⟨S8192x2048, .f32⟩
  | .hbm, ⟨60, _⟩ => ⟨S9216x2048, .f32⟩
  | .hbm, ⟨61, _⟩ => ⟨S9216x2048, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]
-- ==== Kernel11.lean ====
abbrev S9216x4608 : Shape := ⟨2, ![9216, 4608]⟩
abbrev S9216x2048 : Shape := ⟨2, ![9216, 2048]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 3
  | .vmem => 8
  | .smem => 0
  | _ => 0

abbrev bufTy : (tb : Table) → Fin (tcTables nBuf tb) → BufTy
  | .hbm, ⟨0, _⟩ => ⟨S9216x4608, .bf16⟩
  | .hbm, ⟨1, _⟩ => ⟨S9216x2048, .bf16⟩
  | .hbm, ⟨2, _⟩ => ⟨S9216x2048, .bf16⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | _, _ => ⟨S9216x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c8_i32 : BitVec 32 := 8#32
  let v1 : BitVec 1 := Scalar.cmpi .slt arg1 c8_i32
  let c0_i32 : BitVec 32 := 0#32
  let v2 : BitVec 32 := Scalar.addi c0_i32 arg1
  let c24_i32 : BitVec 32 := 24#32
  let v3 : BitVec 32 := Scalar.addi c24_i32 arg1
  let c8_i32_0 : BitVec 32 := 8#32
  let v4 : BitVec 32 := Scalar.subi v3 c8_i32_0
  let v5 : BitVec 32 := Scalar.select v1 v2 v4
  let c0_i32_1 : BitVec 32 := 0#32
  ![v0.toNat, v5.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c8_i32 : BitVec 32 := 8#32
  let v1 : BitVec 1 := Scalar.cmpi .slt arg1 c8_i32
  let c8_i32_0 : BitVec 32 := 8#32
  let v2 : BitVec 32 := Scalar.addi c8_i32_0 arg1
  let c8_i32_1 : BitVec 32 := 8#32
  let v3 : BitVec 32 := Scalar.subi arg1 c8_i32_1
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c4_i32 c0_i32_3
  let v11 : BitVec 32 := Scalar.extui v10
  let c0_i32_4 : BitVec 32 := 0#32
  let v12 : BitVec 1 := Scalar.cmpi .slt c4_i32 c0_i32_4
  let v13 : BitVec 32 := Scalar.extui v12
  let v14 : BitVec 32 := Scalar.subi v11 v13
  let v15 : BitVec 1 := Scalar.cmpi .ne v9 v14
  let v16 : BitVec 32 := Scalar.remsi v3 c4_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c32_i32_6 : BitVec 32 := 32#32
  let v21 : BitVec 32 := Scalar.addi c32_i32_6 v20
  let v22 : BitVec 32 := Scalar.select v1 v2 v21
  let c0_i32_7 : BitVec 32 := 0#32
  ![v0.toNat, v22.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c8_i32 : BitVec 32 := 8#32
  let v1 : BitVec 1 := Scalar.cmpi .slt arg1 c8_i32
  let c16_i32 : BitVec 32 := 16#32
  let v2 : BitVec 32 := Scalar.addi c16_i32 arg1
  let c8_i32_0 : BitVec 32 := 8#32
  let v3 : BitVec 32 := Scalar.subi arg1 c8_i32_0
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32 c0_i32_2
  let v11 : BitVec 32 := Scalar.extui v10
  let c0_i32_3 : BitVec 32 := 0#32
  let v12 : BitVec 1 := Scalar.cmpi .slt c4_i32 c0_i32_3
  let v13 : BitVec 32 := Scalar.extui v12
  let v14 : BitVec 32 := Scalar.subi v11 v13
  let v15 : BitVec 1 := Scalar.cmpi .ne v9 v14
  let v16 : BitVec 32 := Scalar.remsi v3 c4_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c34_i32 : BitVec 32 := 34#32
  let v21 : BitVec 32 := Scalar.addi c34_i32 v20
  let v22 : BitVec 32 := Scalar.select v1 v2 v21
  let c0_i32_5 : BitVec 32 := 0#32
  ![v0.toNat, v22.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![v0.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S9216x4608 : Shape := ⟨2, ![9216, 4608]⟩
abbrev S9216x2048 : Shape := ⟨2, ![9216, 2048]⟩
abbrev S1024x4608 : Shape := ⟨2, ![1024, 4608]⟩
abbrev S4x256x4608 : Shape := ⟨3, ![4, 256, 4608]⟩
abbrev S4x256x1024 : Shape := ⟨3, ![4, 256, 1024]⟩
abbrev S4x256x8x128 : Shape := ⟨4, ![4, 256, 8, 128]⟩
abbrev S4x8x256x128 : Shape := ⟨4, ![4, 8, 256, 128]⟩
abbrev S4x8x1x256x128 : Shape := ⟨5, ![4, 8, 1, 256, 128]⟩
abbrev S4x8x1x256x256 : Shape := ⟨5, ![4, 8, 1, 256, 256]⟩
abbrev S_ : Shape := ⟨0, ![]⟩
abbrev S4x8x1x256 : Shape := ⟨4, ![4, 8, 1, 256]⟩
abbrev S4x8x1x256x1 : Shape := ⟨5, ![4, 8, 1, 256, 1]⟩
abbrev S4x256x256 : Shape := ⟨3, ![4, 256, 256]⟩
abbrev S4x256x2x128 : Shape := ⟨4, ![4, 256, 2, 128]⟩
abbrev S4x2x256x128 : Shape := ⟨4, ![4, 2, 256, 128]⟩
abbrev S4x2x4x256x128 : Shape := ⟨5, ![4, 2, 4, 256, 128]⟩
abbrev S4x2x4x256x256 : Shape := ⟨5, ![4, 2, 4, 256, 256]⟩
abbrev S4x2x4x256 : Shape := ⟨4, ![4, 2, 4, 256]⟩
abbrev S4x2x4x256x1 : Shape := ⟨5, ![4, 2, 4, 256, 1]⟩
abbrev S4x256x2048 : Shape := ⟨3, ![4, 256, 2048]⟩
abbrev S8192x2048 : Shape := ⟨2, ![8192, 2048]⟩
abbrev S1024x2048 : Shape := ⟨2, ![1024, 2048]⟩

abbrev nBuf : Space → Nat
  | .hbm => 74
  | .vmem => 0
  | .smem => 0
  | _ => 0

abbrev bufTy : (tb : Table) → Fin (tcTables nBuf tb) → BufTy
  | .hbm, ⟨0, _⟩ => ⟨S9216x4608, .bf16⟩
  | .hbm, ⟨1, _⟩ => ⟨S9216x2048, .bf16⟩
  | .hbm, ⟨2, _⟩ => ⟨S1024x4608, .bf16⟩
  | .hbm, ⟨3, _⟩ => ⟨S1024x4608, .f32⟩
  | .hbm, ⟨4, _⟩ => ⟨S4x256x4608, .f32⟩
  | .hbm, ⟨5, _⟩ => ⟨S4x256x1024, .f32⟩
  | .hbm, ⟨6, _⟩ => ⟨S4x256x8x128, .f32⟩
  | .hbm, ⟨7, _⟩ => ⟨S4x8x256x128, .f32⟩
  | .hbm, ⟨8, _⟩ => ⟨S4x256x1024, .f32⟩
  | .hbm, ⟨9, _⟩ => ⟨S4x256x8x128, .f32⟩
  | .hbm, ⟨10, _⟩ => ⟨S4x8x256x128, .f32⟩
  | .hbm, ⟨11, _⟩ => ⟨S4x256x1024, .f32⟩
  | .hbm, ⟨12, _⟩ => ⟨S4x256x8x128, .f32⟩
  | .hbm, ⟨13, _⟩ => ⟨S4x8x256x128, .f32⟩
  | .hbm, ⟨14, _⟩ => ⟨S4x8x1x256x128, .f32⟩
  | .hbm, ⟨15, _⟩ => ⟨S4x8x1x256x256, .f32⟩
  | .hbm, ⟨16, _⟩ => ⟨S_, .f32⟩
  | .hbm, ⟨17, _⟩ => ⟨S4x8x1x256x256, .f32⟩
  | .hbm, ⟨18, _⟩ => ⟨S4x8x1x256x256, .f32⟩
  | .hbm, ⟨19, _⟩ => ⟨S_, .f32⟩
  | .hbm, ⟨20, _⟩ => ⟨S4x8x1x256, .f32⟩
  | .hbm, ⟨21, _⟩ => ⟨S_, .f32⟩
  | .hbm, ⟨22, _⟩ => ⟨S4x8x1x256, .f32⟩
  | .hbm, ⟨23, _⟩ => ⟨S4x8x1x256, .f32⟩
  | .hbm, ⟨24, _⟩ => ⟨S4x8x1x256x1, .f32⟩
  | .hbm, ⟨25, _⟩ => ⟨S4x8x1x256x256, .f32⟩
  | .hbm, ⟨26, _⟩ => ⟨S4x8x1x256x256, .f32⟩
  | .hbm, ⟨27, _⟩ => ⟨S4x8x1x256x256, .f32⟩
  | .hbm, ⟨28, _⟩ => ⟨S_, .f32⟩
  | .hbm, ⟨29, _⟩ => ⟨S4x8x1x256, .f32⟩
  | .hbm, ⟨30, _⟩ => ⟨S4x8x1x256x1, .f32⟩
  | .hbm, ⟨31, _⟩ => ⟨S4x8x1x256x256, .f32⟩
  | .hbm, ⟨32, _⟩ => ⟨S4x8x1x256x256, .f32⟩
  | .hbm, ⟨33, _⟩ => ⟨S4x8x1x256x128, .f32⟩
  | .hbm, ⟨34, _⟩ => ⟨S4x8x256x128, .f32⟩
  | .hbm, ⟨35, _⟩ => ⟨S4x256x1024, .f32⟩
  | .hbm, ⟨36, _⟩ => ⟨S4x256x8x128, .f32⟩
  | .hbm, ⟨37, _⟩ => ⟨S4x8x256x128, .f32⟩
  | .hbm, ⟨38, _⟩ => ⟨S4x256x256, .f32⟩
  | .hbm, ⟨39, _⟩ => ⟨S4x256x2x128, .f32⟩
  | .hbm, ⟨40, _⟩ => ⟨S4x2x256x128, .f32⟩
  | .hbm, ⟨41, _⟩ => ⟨S4x256x256, .f32⟩
  | .hbm, ⟨42, _⟩ => ⟨S4x256x2x128, .f32⟩
  | .hbm, ⟨43, _⟩ => ⟨S4x2x256x128, .f32⟩
  | .hbm, ⟨44, _⟩ => ⟨S4x2x4x256x128, .f32⟩
  | .hbm, ⟨45, _⟩ => ⟨S4x2x4x256x256, .f32⟩
  | .hbm, ⟨46, _⟩ => ⟨S_, .f32⟩
  | .hbm, ⟨47, _⟩ => ⟨S4x2x4x256x256, .f32⟩
  | .hbm, ⟨48, _⟩ => ⟨S4x2x4x256x256, .f32⟩
  | .hbm, ⟨49, _⟩ => ⟨S_, .f32⟩
  | .hbm, ⟨50, _⟩ => ⟨S4x2x4x256, .f32⟩
  | .hbm, ⟨51, _⟩ => ⟨S_, .f32⟩
  | .hbm, ⟨52, _⟩ => ⟨S4x2x4x256, .f32⟩
  | .hbm, ⟨53, _⟩ => ⟨S4x2x4x256, .f32⟩
  | .hbm, ⟨54, _⟩ => ⟨S4x2x4x256x1, .f32⟩
  | .hbm, ⟨55, _⟩ => ⟨S4x2x4x256x256, .f32⟩
  | .hbm, ⟨56, _⟩ => ⟨S4x2x4x256x256, .f32⟩
  | .hbm, ⟨57, _⟩ => ⟨S4x2x4x256x256, .f32⟩
  | .hbm, ⟨58, _⟩ => ⟨S_, .f32⟩
  | .hbm, ⟨59, _⟩ => ⟨S4x2x4x256, .f32⟩
  | .hbm, ⟨60, _⟩ => ⟨S4x2x4x256x1, .f32⟩
  | .hbm, ⟨61, _⟩ => ⟨S4x2x4x256x256, .f32⟩
  | .hbm, ⟨62, _⟩ => ⟨S4x2x4x256x256, .f32⟩
  | .hbm, ⟨63, _⟩ => ⟨S4x2x4x256x128, .f32⟩
  | .hbm, ⟨64, _⟩ => ⟨S4x8x256x128, .f32⟩
  | .hbm, ⟨65, _⟩ => ⟨S4x256x8x128, .f32⟩
  | .hbm, ⟨66, _⟩ => ⟨S4x256x1024, .f32⟩
  | .hbm, ⟨67, _⟩ => ⟨S4x256x8x128, .f32⟩
  | .hbm, ⟨68, _⟩ => ⟨S4x256x1024, .f32⟩
  | .hbm, ⟨69, _⟩ => ⟨S4x256x2048, .f32⟩
  | .hbm, ⟨70, _⟩ => ⟨S8192x2048, .bf16⟩
  | .hbm, ⟨71, _⟩ => ⟨S1024x2048, .f32⟩
  | .hbm, ⟨72, _⟩ => ⟨S1024x2048, .bf16⟩
  | .hbm, ⟨73, _⟩ => ⟨S9216x2048, .bf16⟩
  | _, _ => ⟨S9216x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_3 : Ref sig .tc := ⟨.hbm, 46, rfl⟩
abbrev main_v40 : Ref sig .tc := ⟨.hbm, 47, rfl⟩
abbrev main_v41 : Ref sig .tc := ⟨.hbm, 48, rfl⟩
abbrev main_cst_4 : Ref sig .tc := ⟨.hbm, 49, rfl⟩
abbrev main_v42 : Ref sig .tc := ⟨.hbm, 50, rfl⟩
abbrev main_cst_5 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_6 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩

abbrev nD : Nat := 1
abbrev τ : Topo := Topo.v7x

variable {F : FTy → Type} [FloatOps F]
-- ==== Kernel12.lean ====
abbrev S9216x2048 : Shape := ⟨2, ![9216, 2048]⟩
abbrev S2048x128 : Shape := ⟨2, ![2048, 128]⟩
abbrev S1x128 : Shape := ⟨2, ![1, 128]⟩
abbrev S9216x128 : Shape := ⟨2, ![9216, 128]⟩
abbrev S1024x2048 : Shape := ⟨2, ![1024, 2048]⟩
abbrev S1024x128 : Shape := ⟨2, ![1024, 128]⟩

abbrev nBuf : Space → Nat
  | .hbm => 4
  | .vmem => 6
  | .smem => 0
  | _ => 0

abbrev bufTy : (tb : Table) → Fin (tcTables nBuf tb) → BufTy
  | .hbm, ⟨0, _⟩ => ⟨S9216x2048, .bf16⟩
  | .hbm, ⟨1, _⟩ => ⟨S2048x128, .f32⟩
  | .hbm, ⟨2, _⟩ => ⟨S1x128, .f32⟩
  | .hbm, ⟨3, _⟩ => ⟨S9216x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S9216x2048 : Shape := ⟨2, ![9216, 2048]⟩
abbrev S2048x128 : Shape := ⟨2, ![2048, 128]⟩
abbrev S1x128 : Shape := ⟨2, ![1, 128]⟩
abbrev S9216x128 : Shape := ⟨2, ![9216, 128]⟩
abbrev S_ : Shape := ⟨0, ![]⟩
abbrev S9216x8x2x8 : Shape := ⟨4, ![9216, 8, 2, 8]⟩
abbrev S9216x8x1x8 : Shape := ⟨4, ![9216, 8, 1, 8]⟩
abbrev S9216x8x8 : Shape := ⟨3, ![9216, 8, 8]⟩

abbrev nBuf : Space → Nat
  | .hbm => 39
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x128, .f32⟩
  | .hbm, ⟨2, _⟩ => ⟨S1x128, .f32⟩
  | .hbm, ⟨3, _⟩ => ⟨S9216x2048, .f32⟩
  | .hbm, ⟨4, _⟩ => ⟨S9216x128, .f32⟩
  | .hbm, ⟨5, _⟩ => ⟨S9216x128, .f32⟩
  | .hbm, ⟨6, _⟩ => ⟨S9216x128, .f32⟩
  | .hbm, ⟨7, _⟩ => ⟨S_, .f32⟩
  | .hbm, ⟨8, _⟩ => ⟨S9216x128, .f32⟩
  | .hbm, ⟨9, _⟩ => ⟨S9216x128, .f32⟩
  | .hbm, ⟨10, _⟩ => ⟨S9216x128, .f32⟩
  | .hbm, ⟨11, _⟩ => ⟨S_, .f32⟩
  | .hbm, ⟨12, _⟩ => ⟨S9216x128, .f32⟩
  | .hbm, ⟨13, _⟩ => ⟨S9216x128, .f32⟩
  | .hbm, ⟨14, _⟩ => ⟨S9216x8x2x8, .f32⟩
  | .hbm, ⟨15, _⟩ => ⟨S9216x8x1x8, .f32⟩
  | .hbm, ⟨16, _⟩ => ⟨S9216x8x8, .f32⟩
  | .hbm, ⟨17, _⟩ => ⟨S9216x8x1x8, .f32⟩
  | .hbm, ⟨18, _⟩ => ⟨S9216x8x8, .f32⟩
  | .hbm, ⟨19, _⟩ => ⟨S9216x8x8, .f32⟩
  | .hbm, ⟨20, _⟩ => ⟨S_, .f32⟩
  | .hbm, ⟨21, _⟩ => ⟨S9216x8x8, .f32⟩
  | .hbm, ⟨22, _⟩ => ⟨S9216x8x8, .f32⟩
  | .hbm, ⟨23, _⟩ => ⟨S9216x8x8, .f32⟩
  | .hbm, ⟨24, _⟩ => ⟨S9216x8x8, .f32⟩
  | .hbm, ⟨25, _⟩ => ⟨S9216x8x8, .i1⟩
  | .hbm, ⟨26, _⟩ => ⟨S9216x8x8, .f32⟩
  | .hbm, ⟨27, _⟩ => ⟨S9216x8x8, .f32⟩
  | .hbm, ⟨28, _⟩ => ⟨S9216x8x8, .f32⟩
  | .hbm, ⟨29, _⟩ => ⟨S9216x8x8, .f32⟩
  | .hbm, ⟨30, _⟩ => ⟨S9216x8x8, .f32⟩
  | .hbm, ⟨31, _⟩ => ⟨S9216x8x8, .f32⟩
  | .hbm, ⟨32, _⟩ => ⟨S9216x8x8, .f32⟩
  | .hbm, ⟨33, _⟩ => ⟨S9216x8x8, .f32⟩
  | .hbm, ⟨34, _⟩ => ⟨S9216x8x8, .f32⟩
  | .hbm, ⟨35, _⟩ => ⟨S9216x8x1x8, .f32⟩
  | .hbm, ⟨36, _⟩ => ⟨S9216x8x1x8, .f32⟩
  | .hbm, ⟨37, _⟩ => ⟨S9216x8x2x8, .f32⟩
  | .hbm, ⟨38, _⟩ => ⟨S9216x128, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩

abbrev nD : Nat := 1
abbrev τ : Topo := Topo.v7x

variable {F : FTy → Type} [FloatOps F]
-- ==== Kernel13.lean ====
abbrev S9216x2048 : Shape := ⟨2, ![9216, 2048]⟩
abbrev S9216x6144 : Shape := ⟨2, ![9216, 6144]⟩
abbrev S1x2048 : Shape := ⟨2, ![1, 2048]⟩
abbrev S8192x2048 : Shape := ⟨2, ![8192, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩
abbrev S1x256 : Shape := ⟨2, ![1, 256]⟩

abbrev nBuf : Space → Nat
  | .hbm => 5
  | .vmem => 9
  | .smem => 0
  | _ => 0

abbrev bufTy : (tb : Table) → Fin (tcTables nBuf tb) → BufTy
  | .hbm, ⟨0, _⟩ => ⟨S9216x2048, .f32⟩
  | .hbm, ⟨1, _⟩ => ⟨S9216x2048, .f32⟩
  | .hbm, ⟨2, _⟩ => ⟨S9216x6144, .bf16⟩
  | .hbm, ⟨3, _⟩ => ⟨S1x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S512x2048, .bf16⟩
  | .local _ .vmem, ⟨8, _⟩ => ⟨S512x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S9216x2048 : Shape := ⟨2, ![9216, 2048]⟩
abbrev S9216x6144 : Shape := ⟨2, ![9216, 6144]⟩
abbrev S1x2048 : Shape := ⟨2, ![1, 2048]⟩
abbrev S8192x2048 : Shape := ⟨2, ![8192, 2048]⟩
abbrev S8192x8x256 : Shape := ⟨3, ![8192, 8, 256]⟩
abbrev S8x256 : Shape := ⟨2, ![8, 256]⟩
abbrev S_ : Shape := ⟨0, ![]⟩
abbrev S8192x8 : Shape := ⟨2, ![8192, 8]⟩
abbrev S8192x8x1 : Shape := ⟨3, ![8192, 8, 1]⟩
abbrev S1x8x256 : Shape := ⟨3, ![1, 8, 256]⟩

abbrev nBuf : Space → Nat
  | .hbm => 38
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S9216x2048, .f32⟩
  | .hbm, ⟨2, _⟩ => ⟨S9216x6144, .bf16⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x8x256, .f32⟩
  | .hbm, ⟨8, _⟩ => ⟨S8x256, .f32⟩
  | .hbm, ⟨9, _⟩ => ⟨S8192x8x256, .f32⟩
  | .hbm, ⟨10, _⟩ => ⟨S_, .f32⟩
  | .hbm, ⟨11, _⟩ => ⟨S8192x8, .f32⟩
  | .hbm, ⟨12, _⟩ => ⟨S8192x8x1, .f32⟩
  | .hbm, ⟨13, _⟩ => ⟨S_, .f32⟩
  | .hbm, ⟨14, _⟩ => ⟨S8192x8x1, .f32⟩
  | .hbm, ⟨15, _⟩ => ⟨S8192x8x1, .f32⟩
  | .hbm, ⟨16, _⟩ => ⟨S_, .f32⟩
  | .hbm, ⟨17, _⟩ => ⟨S8192x8x1, .f32⟩
  | .hbm, ⟨18, _⟩ => ⟨S8192x8x1, .f32⟩
  | .hbm, ⟨19, _⟩ => ⟨S8192x8x1, .f32⟩
  | .hbm, ⟨20, _⟩ => ⟨S8192x8x256, .f32⟩
  | .hbm, ⟨21, _⟩ => ⟨S8192x8x256, .f32⟩
  | .hbm, ⟨22, _⟩ => ⟨S1x8x256, .f32⟩
  | .hbm, ⟨23, _⟩ => ⟨S8192x8x256, .f32⟩
  | .hbm, ⟨24, _⟩ => ⟨S8192x8x256, .f32⟩
  | .hbm, ⟨25, _⟩ => ⟨S8192x2048, .f32⟩
  | .hbm, ⟨26, _⟩ => ⟨S8192x2048, .bf16⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel14.lean ====
abbrev S9216x4608 : Shape := ⟨2, ![9216, 4608]⟩
abbrev S4x1x128 : Shape := ⟨3, ![4, 1, 128]⟩
abbrev S2048x64 : Shape := ⟨2, ![2048, 64]⟩
abbrev S2048x64x2 : Shape := ⟨3, ![2048, 64, 2]⟩
abbrev S2048x128 : Shape := ⟨2, ![2048, 128]⟩
abbrev S2048x64x1 : Shape := ⟨3, ![2048, 64, 1]⟩
abbrev S1024x256 : Shape := ⟨2, ![1024, 256]⟩
abbrev S1x1x128 : Shape := ⟨3, ![1, 1, 128]⟩
abbrev S1024x128 : Shape := ⟨2, ![1024, 128]⟩
abbrev S1024 : Shape := ⟨1, ![1024]⟩
abbrev S1024x1 : Shape := ⟨2, ![1024, 1]⟩
abbrev S1x128 : Shape := ⟨2, ![1, 128]⟩

abbrev nBuf : Space → Nat
  | .hbm => 12
  | .vmem => 10
  | .smem => 0
  | _ => 0

abbrev bufTy : (tb : Table) → Fin (tcTables nBuf tb) → BufTy
  | .hbm, ⟨0, _⟩ => ⟨S9216x4608, .bf16⟩
  | .hbm, ⟨1, _⟩ => ⟨S4x1x128, .f32⟩
  | .hbm, ⟨2, _⟩ => ⟨S2048x64, .f32⟩
  | .hbm, ⟨3, _⟩ => ⟨S2048x64, .f32⟩
  | .hbm, ⟨4, _⟩ => ⟨S2048x64x2, .f32⟩
  | .hbm, ⟨5, _⟩ => ⟨S2048x128, .f32⟩
  | .hbm, ⟨6, _⟩ => ⟨S2048x64, .f32⟩
  | .hbm, ⟨7, _⟩ => ⟨S2048x64x1, .f32⟩
  | .hbm, ⟨8, _⟩ => ⟨S2048x64x1, .f32⟩
  | .hbm, ⟨9, _⟩ => ⟨S2048x64x2, .f32⟩
  | .hbm, ⟨10, _⟩ => ⟨S2048x128, .f32⟩
  | .hbm, ⟨11, _⟩ => ⟨S9216x4608, .bf16⟩
  | .local _ .vmem, ⟨0, _⟩ => ⟨S1024x256, .bf16⟩
  | .local _ .vmem, ⟨1, _⟩ => ⟨S1024x256, .bf16⟩
  | .local _ .vmem, ⟨2, _⟩ => ⟨S1x1x128, .f32⟩
  | .local _ .vmem, ⟨3, _⟩ => ⟨S1x1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x256, .bf16⟩
  | .local _ .vmem, ⟨9, _⟩ => ⟨S1024x256, .bf16⟩
  | _, _ => ⟨S9216x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 13], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c4_i32 : BitVec 32 := 4#32
  let v1 : BitVec 32 := Scalar.addi arg1 c4_i32
  let v2 : BitVec 32 := Scalar.select v0 arg1 v1
  let c0_i32 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c8_i32 : BitVec 32 := 8#32
  let v1 : BitVec 1 := Scalar.cmpi .slt arg1 c8_i32
  let c12_i32 : BitVec 32 := 12#32
  let v2 : BitVec 1 := Scalar.cmpi .slt arg1 c12_i32
  let c2_i32 : BitVec 32 := 2#32
  let c3_i32 : BitVec 32 := 3#32
  let v3 : BitVec 32 := Scalar.select v2 c2_i32 c3_i32
  let c1_i32 : BitVec 32 := 1#32
  let v4 : BitVec 32 := Scalar.select v1 c1_i32 v3
  let c0_i32 : BitVec 32 := 0#32
  let v5 : BitVec 32 := Scalar.select v0 c0_i32 v4
  let c0_i32_0 : BitVec 32 := 0#32
  let c0_i32_1 : BitVec 32 := 0#32
  let c0_i32_2 : BitVec 32 := 0#32
  ![v5.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c4_i32 : BitVec 32 := 4#32
  let v1 : BitVec 32 := Scalar.addi arg1 c4_i32
  let v2 : BitVec 32 := Scalar.select v0 arg1 v1
  let c0_i32 : BitVec 32 := 0#32
  ![arg0.toNat, v2.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S9216x4608 : Shape := ⟨2, ![9216, 4608]⟩
abbrev S4x1x128 : Shape := ⟨3, ![4, 1, 128]⟩
abbrev S2048x64 : Shape := ⟨2, ![2048, 64]⟩
abbrev S9216x1024 : Shape := ⟨2, ![9216, 1024]⟩
abbrev S9216x8x128 : Shape := ⟨3, ![9216, 8, 128]⟩
abbrev S1x1x128 : Shape := ⟨3, ![1, 1, 128]⟩
abbrev S1x128 : Shape := ⟨2, ![1, 128]⟩
abbrev S_ : Shape := ⟨0, ![]⟩
abbrev S9216x8 : Shape := ⟨2, ![9216, 8]⟩
abbrev S9216x8x1 : Shape := ⟨3, ![9216, 8, 1]⟩
abbrev S8192x8x128 : Shape := ⟨3, ![8192, 8, 128]⟩
abbrev S4x2048x8x128 : Shape := ⟨4, ![4, 2048, 8, 128]⟩
abbrev S2048x1x64 : Shape := ⟨3, ![2048, 1, 64]⟩
abbrev S4x2048x8x64x2 : Shape := ⟨5, ![4, 2048, 8, 64, 2]⟩
abbrev S4x2048x8x64x1 : Shape := ⟨5, ![4, 2048, 8, 64, 1]⟩
abbrev S4x2048x8x64 : Shape := ⟨4, ![4, 2048, 8, 64]⟩
abbrev S1x2048x1x64 : Shape := ⟨4, ![1, 2048, 1, 64]⟩
abbrev S1024x8x128 : Shape := ⟨3, ![1024, 8, 128]⟩
abbrev S9216x256 : Shape := ⟨2, ![9216, 256]⟩
abbrev S9216x2x128 : Shape := ⟨3, ![9216, 2, 128]⟩
abbrev S9216x2 : Shape := ⟨2, ![9216, 2]⟩
abbrev S9216x2x1 : Shape := ⟨3, ![9216, 2, 1]⟩
abbrev S8192x2x128 : Shape := ⟨3, ![8192, 2, 128]⟩
abbrev S4x2048x2x128 : Shape := ⟨4, ![4, 2048, 2, 128]⟩
abbrev S4x2048x2x64x2 : Shape := ⟨5, ![4, 2048, 2, 64, 2]⟩
abbrev S4x2048x2x64x1 : Shape := ⟨5, ![4, 2048, 2, 64, 1]⟩
abbrev S4x2048x2x64 : Shape := ⟨4, ![4, 2048, 2, 64]⟩
abbrev S1024x2x128 : Shape := ⟨3, ![1024, 2, 128]⟩

abbrev nBuf : Space → Nat
  | .hbm => 159
  | .vmem => 0
  | .smem => 0
  | _ => 0

abbrev hbmTy0_0 (i : Nat) : BufTy := match i % 128 with
  | 0 => ⟨S9216x4608, .bf16⟩
  | 1 => ⟨S4x1x128, .f32⟩
  | 2 => ⟨S2048x64, .f32⟩
  | 3 => ⟨S2048x64, .f32⟩
  | 4 => ⟨S9216x1024, .bf16⟩
  | 5 => ⟨S9216x1024, .f32⟩
  | 6 => ⟨S9216x8x128, .f32⟩
  | 7 => ⟨S1x1x128, .f32⟩
  | 8 => ⟨S1x128, .f32⟩
  | 9 => ⟨S9216x8x128, .f32⟩
  | 10 => ⟨S_, .f32⟩
  | 11 => ⟨S9216x8, .f32⟩
  | 12 => ⟨S9216x8x1, .f32⟩
  | 13 => ⟨S_, .f32⟩
  | 14 => ⟨S9216x8x1, .f32⟩
  | 15 => ⟨S9216x8x1, .f32⟩
  | 16 => ⟨S_, .f32⟩
  | 17 => ⟨S9216x8x1, .f32⟩
  | 18 => ⟨S9216x8x1, .f32⟩
  | 19 => ⟨S9216x8x1, .f32⟩
  | 20 => ⟨S9216x8x128, .f32⟩
  | 21 => ⟨S9216x8x128, .f32⟩
  | 22 => ⟨S1x1x128, .f32⟩
  | 23 => ⟨S9216x8x128, .f32⟩
  | 24 => ⟨S9216x8x128, .f32⟩
  | 25 => ⟨S9216x1024, .bf16⟩
  | 26 => ⟨S9216x1024, .f32⟩
  | 27 => ⟨S9216x8x128, .f32⟩
  | 28 => ⟨S1x1x128, .f32⟩
  | 29 => ⟨S1x128, .f32⟩
  | 30 => ⟨S9216x8x128, .f32⟩
  | 31 => ⟨S_, .f32⟩
  | 32 => ⟨S9216x8, .f32⟩
  | 33 => ⟨S9216x8x1, .f32⟩
  | 34 => ⟨S_, .f32⟩
  | 35 => ⟨S9216x8x1, .f32⟩
  | 36 => ⟨S9216x8x1, .f32⟩
  | 37 => ⟨S_, .f32⟩
  | 38 => ⟨S9216x8x1, .f32⟩
  | 39 => ⟨S9216x8x1, .f32⟩
  | 40 => ⟨S9216x8x1, .f32⟩
  | 41 => ⟨S9216x8x128, .f32⟩
  | 42 => ⟨S9216x8x128, .f32⟩
  | 43 => ⟨S1x1x128, .f32⟩
  | 44 => ⟨S9216x8x128, .f32⟩
  | 45 => ⟨S9216x8x128, .f32⟩
  | 46 => ⟨S9216x1024, .bf16⟩
  | 47 => ⟨S9216x1024, .f32⟩
  | 48 => ⟨S9216x8x128, .f32⟩
  | 49 => ⟨S1x1x128, .f32⟩
  | 50 => ⟨S1x128, .f32⟩
  | 51 => ⟨S9216x8x128, .f32⟩
  | 52 => ⟨S_, .f32⟩
  | 53 => ⟨S9216x8, .f32⟩
  | 54 => ⟨S9216x8x1, .f32⟩
  | 55 => ⟨S_, .f32⟩
  | 56 => ⟨S9216x8x1, .f32⟩
  | 57 => ⟨S9216x8x1, .f32⟩
  | 58 => ⟨S_, .f32⟩
  | 59 => ⟨S9216x8x1, .f32⟩
  | 60 => ⟨S9216x8x1, .f32⟩
  | 61 => ⟨S9216x8x1, .f32⟩
  | 62 => ⟨S9216x8x128, .f32⟩
  | 63 => ⟨S9216x8x128, .f32⟩
  | 64 => ⟨S1x1x128, .f32⟩
  | 65 => ⟨S9216x8x128, .f32⟩
  | 66 => ⟨S9216x8x128, .f32⟩
  | 67 => ⟨S8192x8x128, .f32⟩
  | 68 => ⟨S4x2048x8x128, .f32⟩
  | 69 => ⟨S2048x1x64, .f32⟩
  | 70 => ⟨S2048x1x64, .f32⟩
  | 71 => ⟨S4x2048x8x64x2, .f32⟩
  | 72 => ⟨S4x2048x8x64x1, .f32⟩
  | 73 => ⟨S4x2048x8x64, .f32⟩
  | 74 => ⟨S4x2048x8x64x1, .f32⟩
  | 75 => ⟨S4x2048x8x64, .f32⟩
  | 76 => ⟨S1x2048x1x64, .f32⟩
  | 77 => ⟨S4x2048x8x64, .f32⟩
  | 78 => ⟨S4x2048x8x64, .f32⟩
  | 79 => ⟨S1x2048x1x64, .f32⟩
  | 80 => ⟨S4x2048x8x64, .f32⟩
  | 81 => ⟨S4x2048x8x64, .f32⟩
  | 82 => ⟨S4x2048x8x64, .f32⟩
  | 83 => ⟨S1x2048x1x64, .f32⟩
  | 84 => ⟨S4x2048x8x64, .f32⟩
  | 85 => ⟨S4x2048x8x64, .f32⟩
  | 86 => ⟨S1x2048x1x64, .f32⟩
  | 87 => ⟨S4x2048x8x64, .f32⟩
  | 88 => ⟨S4x2048x8x64, .f32⟩
  | 89 => ⟨S4x2048x8x64, .f32⟩
  | 90 => ⟨S4x2048x8x64x1, .f32⟩
  | 91 => ⟨S4x2048x8x64x1, .f32⟩
  | 92 => ⟨S4x2048x8x64x2, .f32⟩
  | 93 => ⟨S4x2048x8x128, .f32⟩
  | 94 => ⟨S8192x8x128, .f32⟩
  | 95 => ⟨S1024x8x128, .f32⟩
  | 96 => ⟨S9216x8x128, .f32⟩
  | 97 => ⟨S9216x256, .bf16⟩
  | 98 => ⟨S9216x256, .f32⟩
  | 99 => ⟨S9216x2x128, .f32⟩
  | 100 => ⟨S1x1x128, .f32⟩
  | 101 => ⟨S1x128, .f32⟩
  | 102 => ⟨S9216x2x128, .f32⟩
  | 103 => ⟨S_, .f32⟩
  | 104 => ⟨S9216x2, .f32⟩
  | 105 => ⟨S9216x2x1, .f32⟩
  | 106 => ⟨S_, .f32⟩
  | 107 => ⟨S9216x2x1, .f32⟩
  | 108 => ⟨S9216x2x1, .f32⟩
  | 109 => ⟨S_, .f32⟩
  | 110 => ⟨S9216x2x1, .f32⟩
  | 111 => ⟨S9216x2x1, .f32⟩
  | 112 => ⟨S9216x2x1, .f32⟩
  | 113 => ⟨S9216x2x128, .f32⟩
  | 114 => ⟨S9216x2x128, .f32⟩
  | 115 => ⟨S1x1x128, .f32⟩
  | 116 => ⟨S9216x2x128, .f32⟩
  | 117 => ⟨S9216x2x128, .f32⟩
  | 118 => ⟨S8192x2x128, .f32⟩
  | 119 => ⟨S4x2048x2x128, .f32⟩
  | 120 => ⟨S2048x1x64, .f32⟩
  | 121 => ⟨S2048x1x64, .f32⟩
  | 122 => ⟨S4x2048x2x64x2, .f32⟩
  | 123 => ⟨S4x2048x2x64x1, .f32⟩
  | 124 => ⟨S4x2048x2x64, .f32⟩
  | 125 => ⟨S4x2048x2x64x1, .f32⟩
  | 126 => ⟨S4x2048x2x64, .f32⟩
  | 127 => ⟨S1x2048x1x64, .f32⟩
  | _ => ⟨S9216x4608, .bf16⟩

abbrev hbmTy0_1 (i : Nat) : BufTy := match i % 128 with
  | 0 => ⟨S4x2048x2x64, .f32⟩
  | 1 => ⟨S4x2048x2x64, .f32⟩
  | 2 => ⟨S1x2048x1x64, .f32⟩
  | 3 => ⟨S4x2048x2x64, .f32⟩
  | 4 => ⟨S4x2048x2x64, .f32⟩
  | 5 => ⟨S4x2048x2x64, .f32⟩
  | 6 => ⟨S1x2048x1x64, .f32⟩
  | 7 => ⟨S4x2048x2x64, .f32⟩
  | 8 => ⟨S4x2048x2x64, .f32⟩
  | 9 => ⟨S1x2048x1x64, .f32⟩
  | 10 => ⟨S4x2048x2x64, .f32⟩
  | 11 => ⟨S4x2048x2x64, .f32⟩
  | 12 => ⟨S4x2048x2x64, .f32⟩
  | 13 => ⟨S4x2048x2x64x1, .f32⟩
  | 14 => ⟨S4x2048x2x64x1, .f32⟩
  | 15 => ⟨S4x2048x2x64x2, .f32⟩
  | 16 => ⟨S4x2048x2x128, .f32⟩
  | 17 => ⟨S8192x2x128, .f32⟩
  | 18 => ⟨S1024x2x128, .f32⟩
  | 19 => ⟨S9216x2x128, .f32⟩
  | 20 => ⟨S9216x1024, .f32⟩
  | 21 => ⟨S9216x1024, .bf16⟩
  | 22 => ⟨S9216x1024, .f32⟩
  | 23 => ⟨S9216x1024, .bf16⟩
  | 24 => ⟨S9216x1024, .bf16⟩
  | 25 => ⟨S9216x1024, .f32⟩
  | 26 => ⟨S9216x1024, .bf16⟩
  | 27 => ⟨S9216x256, .f32⟩
  | 28 => ⟨S9216x256, .bf16⟩
  | 29 => ⟨S9216x256, .bf16⟩
  | 30 => ⟨S9216x4608, .bf16⟩
  | _ => ⟨S9216x4608, .bf16⟩

abbrev hbmTy (i : Nat) : BufTy := match i / 128 with
  | 0 => hbmTy0_0 i
  | 1 => hbmTy0_1 i
  | _ => ⟨S9216x4608, .bf16⟩

abbrev bufTy : (tb : Table) → Fin (tcTables nBuf tb) → BufTy
  | .hbm, ⟨i, _⟩ => hbmTy i
  | _, _ => ⟨S9216x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_cst_8 : Ref sig .tc := ⟨.hbm, 103, rfl⟩
abbrev main_v90 : Ref sig .tc := ⟨.hbm, 104, rfl⟩
abbrev main_v91 : Ref sig .tc := ⟨.hbm, 105, rfl⟩
abbrev main_cst_9 : Ref sig .tc := ⟨.hbm, 106, rfl⟩
abbrev main_v92 : Ref sig .tc := ⟨.hbm, 107, rfl⟩
abbrev main_v93 : Ref sig .tc := ⟨.hbm, 108, rfl⟩
abbrev main_cst_10 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩

abbrev nD : Nat := 1
abbrev τ : Topo := Topo.v7x

variable {F : FTy → Type} [FloatOps F]
-- ==== Kernel15.lean ====
abbrev S9216x2048 : Shape := ⟨2, ![9216, 2048]⟩
abbrev S1x2048 : Shape := ⟨2, ![1, 2048]⟩
abbrev S8x1x12288 : Shape := ⟨3, ![8, 1, 12288]⟩
abbrev S2048x128 : Shape := ⟨2, ![2048, 128]⟩
abbrev S1x128 : Shape := ⟨2, ![1, 128]⟩
abbrev S9216x128 : Shape := ⟨2, ![9216, 128]⟩
abbrev S512x2048 : Shape := ⟨2, ![512, 2048]⟩
abbrev S1x1x2048 : Shape := ⟨3, ![1, 1, 2048]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 15
  | .smem => 0
  | _ => 0

abbrev bufTy : (tb : Table) → Fin (tcTables nBuf tb) → BufTy
  | .hbm, ⟨0, _⟩ => ⟨S9216x2048, .f32⟩
  | .hbm, ⟨1, _⟩ => ⟨S1x2048, .f32⟩
  | .hbm, ⟨2, _⟩ => ⟨S8x1x12288, .f32⟩
  | .hbm, ⟨3, _⟩ => ⟨S2048x128, .f32⟩
  | .hbm, ⟨4, _⟩ => ⟨S1x128, .f32⟩
  | .hbm, ⟨5, _⟩ => ⟨S9216x2048, .f32⟩
  | .hbm, ⟨6, _⟩ => ⟨S9216x128, .i32⟩
  | .hbm, ⟨7, _⟩ => ⟨S9216x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x128, .f32⟩
  | .local _ .vmem, ⟨8, _⟩ => ⟨S1x128, .f32⟩
  | .local _ .vmem, ⟨9, _⟩ => ⟨S512x2048, .f32⟩
  | .local _ .vmem, ⟨10, _⟩ => ⟨S512x2048, .f32⟩
  | .local _ .vmem, ⟨11, _⟩ => ⟨S512x128, .i32⟩
  | .local _ .vmem, ⟨12, _⟩ => ⟨S512x128, .i32⟩
  | .local _ .vmem, ⟨13, _⟩ => ⟨S512x128, .f32⟩
  | .local _ .vmem, ⟨14, _⟩ => ⟨S512x128, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 v17 c4_i32_4
  let c0_i32_5 : BitVec 32 := 0#32
  let c3_i32 : BitVec 32 := 3#32
  let c0_i32_6 : BitVec 32 := 0#32
  ![v18.toNat, c0_i32_5.toNat, c3_i32.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 v17 c4_i32_4
  let c0_i32_5 : BitVec 32 := 0#32
  let c4_i32_6 : BitVec 32 := 4#32
  let c0_i32_7 : BitVec 32 := 0#32
  ![v18.toNat, c0_i32_5.toNat, c4_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S9216x2048 : Shape := ⟨2, ![9216, 2048]⟩
abbrev S1x2048 : Shape := ⟨2, ![1, 2048]⟩
abbrev S8x1x12288 : Shape := ⟨3, ![8, 1, 12288]⟩
abbrev S2048x128 : Shape := ⟨2, ![2048, 128]⟩
abbrev S1x128 : Shape := ⟨2, ![1, 128]⟩
abbrev S8x1x2048 : Shape := ⟨3, ![8, 1, 2048]⟩
abbrev S8192x2048 : Shape := ⟨2, ![8192, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x1x2048 : Shape := ⟨3, ![4, 1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 63
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S1x2048, .f32⟩
  | .hbm, ⟨2, _⟩ => ⟨S8x1x12288, .f32⟩
  | .hbm, ⟨3, _⟩ => ⟨S2048x128, .f32⟩
  | .hbm, ⟨4, _⟩ => ⟨S1x128, .f32⟩
  | .hbm, ⟨5, _⟩ => ⟨S8x1x2048, .f32⟩
  | .hbm, ⟨6, _⟩ => ⟨S8x1x2048, .f32⟩
  | .hbm, ⟨7, _⟩ => ⟨S8192x2048, .f32⟩
  | .hbm, ⟨8, _⟩ => ⟨S4x2048x2048, .f32⟩
  | .hbm, ⟨9, _⟩ => ⟨S4x2048x2048, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S1x1x2048, .f32⟩
  | .hbm, ⟨23, _⟩ => ⟨S4x2048x2048, .f32⟩
  | .hbm, ⟨24, _⟩ => ⟨S4x2048x2048, .f32⟩
  | .hbm, ⟨25, _⟩ => ⟨S4x1x2048, .f32⟩
  | .hbm, ⟨26, _⟩ => ⟨S_, .f32⟩
  | .hbm, ⟨27, _⟩ => ⟨S4x1x2048, .f32⟩
  | .hbm, ⟨28, _⟩ => ⟨S4x1x2048, .f32⟩
  | .hbm, ⟨29, _⟩ => ⟨S4x2048x2048, .f32⟩
  | .hbm, ⟨30, _⟩ => ⟨S4x2048x2048, .f32⟩
  | .hbm, ⟨31, _⟩ => ⟨S4x1x2048, .f32⟩
  | .hbm, ⟨32, _⟩ => ⟨S4x2048x2048, .f32⟩
  | .hbm, ⟨33, _⟩ => ⟨S4x2048x2048, .f32⟩
  | .hbm, ⟨34, _⟩ => ⟨S1024x2048, .f32⟩
  | .hbm, ⟨35, _⟩ => ⟨S1024x2048, .f32⟩
  | .hbm, ⟨36, _⟩ => ⟨S_, .f32⟩
  | .hbm, ⟨37, _⟩ => ⟨S1024, .f32⟩
  | .hbm, ⟨38, _⟩ => ⟨S1024x1, .f32⟩
  | .hbm, ⟨39, _⟩ => ⟨S_, .f32⟩
  | .hbm, ⟨40, _⟩ => ⟨S1024x1, .f32⟩
  | .hbm, ⟨41, _⟩ => ⟨S1024x1, .f32⟩
  | .hbm, ⟨42, _⟩ => ⟨S_, .f32⟩
  | .hbm, ⟨43, _⟩ => ⟨S1024x1, .f32⟩
  | .hbm, ⟨44, _⟩ => ⟨S1024x1, .f32⟩
  | .hbm, ⟨45, _⟩ => ⟨S1024x1, .f32⟩
  | .hbm, ⟨46, _⟩ => ⟨S1024x2048, .f32⟩
  | .hbm, ⟨47, _⟩ => ⟨S1024x2048, .f32⟩
  | .hbm, ⟨48, _⟩ => ⟨S1024x2048, .f32⟩
  | .hbm, ⟨49, _⟩ => ⟨S1024x2048, .f32⟩
  | .hbm, ⟨50, _⟩ => ⟨S1x1x2048, .f32⟩
  | .hbm, ⟨51, _⟩ => ⟨S1x2048, .f32⟩
  | .hbm, ⟨52, _⟩ => ⟨S_, .f32⟩
  | .hbm, ⟨53, _⟩ => ⟨S1x2048, .f32⟩
  | .hbm, ⟨54, _⟩ => ⟨S1x2048, .f32⟩
  | .hbm, ⟨55, _⟩ => ⟨S1024x2048, .f32⟩
  | .hbm, ⟨56, _⟩ => ⟨S1024x2048, .f32⟩
  | .hbm, ⟨57, _⟩ => ⟨S1x1x2048, .f32⟩
  | .hbm, ⟨58, _⟩ => ⟨S1x2048, .f32⟩
  | .hbm, ⟨59, _⟩ => ⟨S1024x2048, .f32⟩
  | .hbm, ⟨60, _⟩ => ⟨S1024x2048, .f32⟩
  | .hbm, ⟨61, _⟩ => ⟨S8192x2048, .f32⟩
  | .hbm, ⟨62, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== Kernel16.lean ====
abbrev S8192x2048 : Shape := ⟨2, ![8192, 2048]⟩
abbrev S1x2048 : Shape := ⟨2, ![1, 2048]⟩
abbrev S8x1x12288 : Shape := ⟨3, ![8, 1, 12288]⟩
abbrev S2048x128 : Shape := ⟨2, ![2048, 128]⟩
abbrev S1x128 : Shape := ⟨2, ![1, 128]⟩
abbrev S8192x128 : Shape := ⟨2, ![8192, 128]⟩
abbrev S512x2048 : Shape := ⟨2, ![512, 2048]⟩
abbrev S1x1x2048 : Shape := ⟨3, ![1, 1, 2048]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8x1x12288, .f32⟩
  | .hbm, ⟨3, _⟩ => ⟨S2048x128, .f32⟩
  | .hbm, ⟨4, _⟩ => ⟨S1x128, .f32⟩
  | .hbm, ⟨5, _⟩ => ⟨S8192x2048, .f32⟩
  | .hbm, ⟨6, _⟩ => ⟨S8192x128, .i32⟩
  | .hbm, ⟨7, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x128, .f32⟩
  | .local _ .vmem, ⟨8, _⟩ => ⟨S1x128, .f32⟩
  | .local _ .vmem, ⟨9, _⟩ => ⟨S512x2048, .f32⟩
  | .local _ .vmem, ⟨10, _⟩ => ⟨S512x2048, .f32⟩
  | .local _ .vmem, ⟨11, _⟩ => ⟨S512x128, .i32⟩
  | .local _ .vmem, ⟨12, _⟩ => ⟨S512x128, .i32⟩
  | .local _ .vmem, ⟨13, _⟩ => ⟨S512x128, .f32⟩
  | .local _ .vmem, ⟨14, _⟩ => ⟨S512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 v17 c4_i32_4
  let c0_i32_5 : BitVec 32 := 0#32
  let c3_i32 : BitVec 32 := 3#32
  let c0_i32_6 : BitVec 32 := 0#32
  ![v18.toNat, c0_i32_5.toNat, c3_i32.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 v17 c4_i32_4
  let c0_i32_5 : BitVec 32 := 0#32
  let c4_i32_6 : BitVec 32 := 4#32
  let c0_i32_7 : BitVec 32 := 0#32
  ![v18.toNat, c0_i32_5.toNat, c4_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S8192x2048 : Shape := ⟨2, ![8192, 2048]⟩
abbrev S1x2048 : Shape := ⟨2, ![1, 2048]⟩
abbrev S8x1x12288 : Shape := ⟨3, ![8, 1, 12288]⟩
abbrev S2048x128 : Shape := ⟨2, ![2048, 128]⟩
abbrev S1x128 : Shape := ⟨2, ![1, 128]⟩
abbrev S4x1x2048 : Shape := ⟨3, ![4, 1, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8x1x12288, .f32⟩
  | .hbm, ⟨3, _⟩ => ⟨S2048x128, .f32⟩
  | .hbm, ⟨4, _⟩ => ⟨S1x128, .f32⟩
  | .hbm, ⟨5, _⟩ => ⟨S4x1x2048, .f32⟩
  | .hbm, ⟨6, _⟩ => ⟨S4x1x2048, .f32⟩
  | .hbm, ⟨7, _⟩ => ⟨S4x2048x2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x1x2048, .f32⟩
  | .hbm, ⟨26, _⟩ => ⟨S4x1x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.Grid2.lean ====
/-
  A rank-2 array read at two natural numbers: the element where both are in range, zero elsewhere. Equations between
  reads then are equations between numbers.
-/
module

public import Idealize.ShloMosaic.Lib.Pointwise

@[expose] public section

noncomputable section

namespace Cert.Grid2

open Idealize.ShloMosaic

/-- The element of `X` in row `r` and column `k`, zero out of range. -/
def rd {R C : Nat} (X : (⟨2, ![R, C]⟩ : Shape).Idx → EReal) (r k : Nat) : EReal :=
  if h : r < R ∧ k < C then X (ix2 ⟨r, h.1⟩ ⟨k, h.2⟩) else 0

theorem rd_of_lt {R C : Nat} (X : (⟨2, ![R, C]⟩ : Shape).Idx → EReal) {r k : Nat} (hr : r < R) (hk : k < C) :
    rd X r k = X (ix2 ⟨r, hr⟩ ⟨k, hk⟩) := dif_pos ⟨hr, hk⟩

theorem eq_rd {R C : Nat} (X : (⟨2, ![R, C]⟩ : Shape).Idx → EReal) (i : (⟨2, ![R, C]⟩ : Shape).Idx) :
    X i = rd X (i 0).val (i 1).val := by
  rw [rd_of_lt X (show (i 0).val < R from (i 0).isLt) (show (i 1).val < C from (i 1).isLt)]
  exact congrArg X (funext fun a => match a with | ⟨0, _⟩ => rfl | ⟨1, _⟩ => rfl)

/-- An array read at any index whose coordinates are `r` and `k`. -/
theorem eq_rd_of {R C : Nat} (X : (⟨2, ![R, C]⟩ : Shape).Idx → EReal) (i : (⟨2, ![R, C]⟩ : Shape).Idx) {r k : Nat}
    (h0 : (i 0).val = r) (h1 : (i 1).val = k) : X i = rd X r k := by
  rw [eq_rd X i, h0, h1]

end Cert.Grid2

end
-- ==== Proof.MoeMath.lean ====
/-
  The experts' arithmetic: one hidden unit of a row, the gated unit, and one element of an expert's output, with arrays
  read at natural numbers.
-/
module

public import proofs.«01_k».proof.Proof.Grid2

@[expose] public section

noncomputable section

namespace Cert.Moe

open Idealize.ShloMosaic Cert.Grid2

/-- The element of `X` at three numbers, zero out of range. -/
def rd3 {A R C : Nat} (X : (⟨3, ![A, R, C]⟩ : Shape).Idx → EReal) (a r k : Nat) : EReal :=
  if h : a < A ∧ r < R ∧ k < C then X (ix3 ⟨a, h.1⟩ ⟨r, h.2.1⟩ ⟨k, h.2.2⟩) else 0

/-- An array read at any index whose coordinates are `a`, `r` and `k`. -/
theorem eq_rd3_of {A R C : Nat} (X : (⟨3, ![A, R, C]⟩ : Shape).Idx → EReal) (i : (⟨3, ![A, R, C]⟩ : Shape).Idx) {a r k : Nat}
    (h0 : (i 0).val = a) (h1 : (i 1).val = r) (h2 : (i 2).val = k) : X i = rd3 X a r k := by
  subst h0 h1 h2
  unfold rd3
  rw [dif_pos ⟨(i 0).isLt, (i 1).isLt, (i 2).isLt⟩]
  exact congrArg X (funext fun a => match a with | ⟨0, _⟩ => rfl | ⟨1, _⟩ => rfl | ⟨2, _⟩ => rfl)

/-- Seven, minus seven, and the factor of the gate. -/
abbrev seven : EReal := Ideal.ofBits .f32 0x40E00000#32
abbrev minusSeven : EReal := Ideal.ofBits .f32 0xC0E00000#32
abbrev slope : EReal := Ideal.ofBits .f32 0xBFD9DB23#32

/-- The gated unit of a gate `g` and a linear part `l`. -/
def gate (g l : EReal) : EReal :=
  min g seven * Ideal.div 1 (1 + Ideal.exp (slope * min g seven)) * (min seven (max minusSeven l) + 1)

/-- A sum over 1024 columns weighted one at column `2 k` and zero elsewhere is the value at that column. -/
theorem sum_even (f : Fin 1024 → EReal) (s : Fin 1024 → EReal) (k : Fin 512)
    (hs : ∀ j : Fin 1024, s j = if j.val = 2 * k.val then 1 else 0) :
    (∑ j : Fin 1024, f j * s j) = f ⟨2 * k.val, by omega⟩ := by
  rw [Finset.sum_eq_single (⟨2 * k.val, by omega⟩ : Fin 1024)]
  · rw [hs, if_pos rfl, mul_one]
  · intro j _ hj
    rw [hs, if_neg fun e => hj (Fin.ext e), mul_zero]
  · intro h; exact absurd (Finset.mem_univ _) h

/-- A sum over 2048 in four runs of 512. -/
theorem sum_four (f : Nat → EReal) :
    (∑ k : Fin 2048, f k.val) = (∑ k : Fin 512, f (0 * 512 + k.val)) + (∑ k : Fin 512, f (1 * 512 + k.val))
      + (∑ k : Fin 512, f (2 * 512 + k.val)) + (∑ k : Fin 512, f (3 * 512 + k.val)) := by
  rw [Fin.sum_univ_eq_sum_range f 2048, Fin.sum_univ_eq_sum_range (fun n => f (0 * 512 + n)) 512, Fin.sum_univ_eq_sum_range (fun n => f (1 * 512 + n)) 512,
    Fin.sum_univ_eq_sum_range (fun n => f (2 * 512 + n)) 512, Fin.sum_univ_eq_sum_range (fun n => f (3 * 512 + n)) 512,
    show 2048 = 512 + 512 + 512 + 512 from rfl, Finset.sum_range_add, Finset.sum_range_add, Finset.sum_range_add]
  simp only [Nat.zero_mul, Nat.zero_add, Nat.one_mul]

variable (X : (⟨2, ![53248, 2048]⟩ : Shape).Idx → EReal) (W1 : (⟨3, ![64, 2048, 4096]⟩ : Shape).Idx → EReal)
  (B1 : (⟨3, ![32, 1, 4096]⟩ : Shape).Idx → EReal) (W2 : (⟨3, ![64, 2048, 2048]⟩ : Shape).Idx → EReal)
  (B2 : (⟨3, ![32, 1, 2048]⟩ : Shape).Idx → EReal)

/-- Hidden value `n` of row `row` at expert `e`. -/
def hid (e row n : Nat) : EReal := (∑ k : Fin 2048, rd X row k.val * rd3 W1 e k.val n) + rd3 B1 e 0 n

/-- Gated unit `k` of that row: its gate is hidden value `2 k`, its linear part the next. -/
def unitOf (e row k : Nat) : EReal := gate (hid X W1 B1 e row (2 * k)) (hid X W1 B1 e row (2 * k + 1))

/-- What the units of run `f` of 512 give to output column `d`. -/
def share (e row d f : Nat) : EReal := ∑ k : Fin 512, unitOf X W1 B1 e row (f * 512 + k.val) * rd3 W2 e (f * 512 + k.val) d

/-- Output column `d` of row `row` at expert `e`. -/
def expert (e row d : Nat) : EReal := (∑ k : Fin 2048, unitOf X W1 B1 e row k.val * rd3 W2 e k.val d) + rd3 B2 e 0 d

/-- It is the bias increased by the four runs in turn. -/
theorem expert_eq (e row d : Nat) : expert X W1 B1 W2 B2 e row d
    = rd3 B2 e 0 d + share X W1 B1 W2 e row d 0 + share X W1 B1 W2 e row d 1 + share X W1 B1 W2 e row d 2 + share X W1 B1 W2 e row d 3 := by
  unfold expert share
  rw [sum_four fun k => unitOf X W1 B1 e row k * rd3 W2 e k d, add_comm, ← add_assoc, ← add_assoc, ← add_assoc]

end Cert.Moe

end
-- ==== Proof.Proj4.lean ====
/- The projection into the attention: its result is the product of the rows and the weights, with kernel and reference equal. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.MoeMath
public import Idealize.ShloMosaic.Lib.Pointwise

@[expose] public section

set_option maxRecDepth 16384

noncomputable section

namespace Cert.Proj4

open Idealize.ShloMosaic Idealize.ShloMosaic.TcCoe Idealize.SL.Sem
open Cert.Grid2
open Cert.Moe (rd3 eq_rd3_of)

section Kernel

open Cert.Kernel4Ideal Cert.Kernel4Ideal.Gen

theorem hz : (![0, 0] : Fin 2 → Nat) = fun _ => 0 := funext fun a => by fin_cases a <;> rfl

/-- Row `r` of `X` times column `n` of `W`. -/
def prod (X : S9216x2048.Idx → EReal) (W : S2048x4608.Idx → EReal) (r n : Nat) : EReal := ∑ k : Fin 2048, rd X r k.val * rd W k.val n

/-- One element of the result. -/
abbrev elt (X : S9216x2048.Idx → EReal) (W : S2048x4608.Idx → EReal) (r n : Nat) : EReal := prod X W r n

/-- The result array. -/
def result (X : S9216x2048.Idx → EReal) (W : S2048x4608.Idx → EReal) : S9216x4608.Idx → EReal := fun i => elt X W (i 0).val (i 1).val

/-- The body's arithmetic at one element. -/
theorem pay1_apply (x : Vec Ideal S1024x2048 .bf16) (w : Vec Ideal S2048x512 .f32) (r : Fin 1024) (n : Fin 512) :
    k0_pay1 (F := Ideal) x w (ix2 r n) = ∑ k : Fin 2048, x (ix2 r k) * w (ix2 k n) := by
  unfold_payloads
  pointwise

variable (m : (ℓ : Loc nD τ sig) → Buf (Elt Ideal) ℓ) (ρ : Dev nD → PrngReg)

/-- What the body leaves in the output's buffer is its arithmetic of the blocks. -/
theorem out_eq (x : Vec Ideal S1024x2048 .bf16) (w : Vec Ideal S2048x512 .f32) : out0_2 (F := Ideal) x w = k0_pay1 x w := by
  unfold out0_2
  rw [View.canon_unit_zero hz]
  simp only [View.ld_unit_zero (S := S1024x2048) hz, View.ld_unit_zero (S := S2048x512) hz]

/-- Every window's block index at every grid point. -/
theorem idx (t : Fin grid0.N) :
    (win0_0.index t 0 = t.val / 9 ∧ win0_0.index t 1 = 0)
    ∧ (win0_1.index t 0 = 0 ∧ win0_1.index t 1 = t.val % 9)
    ∧ (win0_2.index t 0 = t.val / 9 ∧ win0_2.index t 1 = t.val % 9) :=
  (by decide +kernel : ∀ t : Fin grid0.N,
    (win0_0.index t 0 = t.val / 9 ∧ win0_0.index t 1 = 0)
    ∧ (win0_1.index t 0 = 0 ∧ win0_1.index t 1 = t.val % 9)
    ∧ (win0_2.index t 0 = t.val / 9 ∧ win0_2.index t 1 = t.val % 9)) t

abbrev argX (c : Dev nD) : S9216x2048.Idx → EReal := m ((c : Thread nD τ).loc main_arg0)
abbrev argW (c : Dev nD) : S2048x4608.Idx → EReal := m ((c : Thread nD τ).loc main_arg1)

/-- An element of the block of rows. -/
theorem x_apply (c : Dev nD) (t : Fin cfg0.N) (r : Fin 1024) (k : Fin 2048) :
    (iblk m c 0 t : Vec Ideal S1024x2048 .bf16) (ix2 r k) = rd (argX m c) (t.val / 9 * 1024 + r.val) k.val := by
  unfold iblk
  rw [View.read_apply]
  show V m c main_arg0 _ = _
  rw [V_main_arg0]
  have h := idx t
  refine eq_rd_of _ _ ?_ ?_
  · show win0_0.index t 0 * 1024 + 1 * r.val = _; omega
  · show win0_0.index t 1 * 2048 + 1 * k.val = _; omega

/-- An element of the block of columns. -/
theorem w_apply (c : Dev nD) (t : Fin cfg0.N) (k : Fin 2048) (n : Fin 512) :
    (iblk m c 1 t : Vec Ideal S2048x512 .f32) (ix2 k n) = rd (argW m c) k.val (t.val % 9 * 512 + n.val) := by
  unfold iblk
  rw [View.read_apply]
  show V m c main_arg1 _ = _
  rw [V_main_arg1]
  have h := idx t
  refine eq_rd_of _ _ ?_ ?_
  · show win0_1.index t 0 * 2048 + 1 * k.val = _; omega
  · show win0_1.index t 1 * 512 + 1 * n.val = _; omega

/-- What a grid point leaves, at one element. -/
theorem outs_apply (c : Dev nD) (t : Fin cfg0.N) (r : Fin 1024) (n : Fin 512) :
    out0_2 (F := Ideal) (iblk m c 0 t) (iblk m c 1 t) (ix2 r n) = elt (argX m c) (argW m c) (t.val / 9 * 1024 + r.val) (t.val % 9 * 512 + n.val) := by
  rw [out_eq]
  refine (pay1_apply _ _ r n).trans ?_
  exact Finset.sum_congr rfl fun k _ => congrArg₂ (fun p q : EReal => p * q) (x_apply m c t r k) (w_apply m c t k n)

/-- Where an element of a grid point's output block lies in the array. -/
theorem emb_val (t : Fin cfg0.N) (y : S1024x512.Idx) :
    (((cfg0.win 2).blk t).view.emb y 0).val = t.val / 9 * 1024 + (y 0).val
    ∧ (((cfg0.win 2).blk t).view.emb y 1).val = t.val % 9 * 512 + (y 1).val := by
  have h := idx t
  constructor
  · show win0_2.index t 0 * 1024 + 1 * (y 0).val = _; omega
  · show win0_2.index t 1 * 512 + 1 * (y 1).val = _; omega

/-- A grid point's element is `result` at the element's place. -/
theorem outs_result (c : Dev nD) (t : Fin cfg0.N) (y : S1024x512.Idx) :
    out0_2 (F := Ideal) (iblk m c 0 t) (iblk m c 1 t) y = result (argX m c) (argW m c) (((cfg0.win 2).blk t).view.emb y) := by
  have h0 : (y 0).val < 1024 := (y 0).isLt
  have h1 : (y 1).val < 512 := (y 1).isLt
  have e : y = ix2 ⟨(y 0).val, h0⟩ ⟨(y 1).val, h1⟩ := funext fun a => match a with | ⟨0, _⟩ => rfl | ⟨1, _⟩ => rfl
  have e1 := congrArg (out0_2 (F := Ideal) (iblk m c 0 t) (iblk m c 1 t)) e
  have e2 := outs_apply m c t ⟨(y 0).val, h0⟩ ⟨(y 1).val, h1⟩
  have e3 := emb_val t y
  unfold result
  rw [e3.1, e3.2]
  exact e1.trans e2

/-- A grid point writes back its block of `result`. -/
theorem flushed_eq (c : Dev nD) (t : Fin cfg0.N) :
    (dats m 0 c).flushed 2 t = ((cfg0.win 2).blk t).view.read (Elt Ideal) (result (argX m c) (argW m c)) :=
  (Value.flushed2 m c t).trans (funext fun y => outs_result m c t y)

/-- An index is in a grid point's output block when its coordinates are. -/
theorem mem_blk (t : Fin cfg0.N) (i : S9216x4608.Idx) :
    i ∈ ((cfg0.win 2).blk t).view.set ↔
      (t.val / 9 * 1024 ≤ (i 0).val ∧ (i 0).val < t.val / 9 * 1024 + 1024)
      ∧ (t.val % 9 * 512 ≤ (i 1).val ∧ (i 1).val < t.val % 9 * 512 + 512) := by
  show i ∈ ((View.whole main_v0).slice (win0_2.rect t)).set ↔ _
  rw [View.set_slice_whole, Rect.mem_set_unit]
  have e : win0_2.index t 0 = t.val / 9 ∧ win0_2.index t 1 = t.val % 9 := by have h := idx t; exact ⟨by omega, by omega⟩
  rw [← e.1, ← e.2]
  refine ⟨fun h => ⟨h 0, h 1⟩, fun h a => ?_⟩
  match a with
  | ⟨0, _⟩ => exact h.1
  | ⟨1, _⟩ => exact h.2

/-- The output array after the run. -/
theorem final (c : Dev nD) : (dats m 0 c).arrAt 2 cfg0.N = result (argX m c) (argW m c) := by
  funext i
  have hN : cfg0.N = 81 := N_0
  have h0 : (i 0).val < 9216 := (i 0).isLt
  have h1 : (i 1).val < 4608 := (i 1).isLt
  have ht : (i 0).val / 1024 * 9 + (i 1).val / 512 < cfg0.N := by omega
  refine (dats m 0 c).arrAt_apply_of_mem 2 _ (fun t _ => flushed_eq m c t) cfg0.N ⟨_, ht⟩ i ht (flush0_2 _) ?_
  rw [mem_blk]
  dsimp only
  omega

/-- The run, read: the output array at `result` of the arguments, the arguments unchanged. -/
theorem run : θ_run defs (onTc (τ := τ) (main (F := Ideal))) ⟨m, fun _ => 0, ρ⟩ fun r => ∀ c : Dev nD,
      r.2.mem ((c : Thread nD τ).loc main_v0) = result (argX m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Kernel

section Reference

open Cert.Reference4Ideal Cert.Reference4Ideal.Gen Cert.Reference4Ideal.Read

variable (x0 : (⟨S9216x2048, .bf16⟩ : BufTy).Contents (Elt Ideal)) (x1 : (⟨S2048x4608, .f32⟩ : BufTy).Contents (Elt Ideal))

/-- The reference's result is the kernel's. -/
theorem result_eq : val_main_v2 (F := Ideal) x0 x1 = result x0 x1 := funext fun i =>
  (val_main_v1_apply x0 x1 i).trans (Finset.sum_congr rfl fun k _ =>
    congrArg₂ (fun p q : EReal => p * q) (eq_rd_of x0 _ rfl rfl) (eq_rd_of x1 _ rfl rfl))

end Reference

/-! ## The claims -/

/-- The kernel at the machine's floats runs and leaves its arguments unchanged. -/
theorem frame_kernel : Cert.quiescent_Kernel4 (hKernel4 := Cert.Kernel4.Gen.facts) := fun m ρ _ => Cert.Kernel4.Gen.frame m ρ

/-- The kernel at the ideal instance. -/
theorem frame_ideal : Cert.quiescent_Kernel4Ideal (hKernel4Ideal := Cert.Kernel4Ideal.Gen.facts) :=
  fun m ρ _ => Cert.Kernel4Ideal.Gen.frame m ρ

/-- The reference. -/
theorem frame_reference : Cert.quiescent_Reference4Ideal (hReference4Ideal := Cert.Reference4Ideal.Gen.facts) := fun m ρ _ =>
  (θ_run Cert.Reference4Ideal.defs _ _).mono (fun _ h => ⟨fun c => (h c).2, funext fun s => nomatch s⟩)
    (Cert.Reference4Ideal.Value.run m ρ)

/-- From equal arguments kernel and reference end with equal results. -/
theorem algebraic : Cert.algebraic_Kernel4Ideal_Reference4Ideal
    (hKernel4Ideal := Cert.Kernel4Ideal.Gen.facts) (hReference4Ideal := Cert.Reference4Ideal.Gen.facts) := fun m ρ m' ρ' _ hag =>
  ⟨fun c => result (m ((c.tc : Thread _ _).loc Cert.Kernel4Ideal.main_arg0)) (m ((c.tc : Thread _ _).loc Cert.Kernel4Ideal.main_arg1)), run m ρ,
    (θ_run Cert.Reference4Ideal.defs _ _).mono (fun _ h c => by
      obtain ⟨hv, h0, h1⟩ := h c
      refine ⟨?_, h0, h1⟩
      rw [hv, Cert.Reference4Ideal.Read.val_main_v2_eq, (hag c).1, (hag c).2]
      exact result_eq _ _)
      (Cert.Reference4Ideal.Value.run m' ρ')⟩

end Cert.Proj4

end
-- ==== Proof.Proj5.lean ====
/- The projection out of the attention with its gated residual: kernel and reference equal. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.MoeMath
public import Idealize.ShloMosaic.Lib.Pointwise

@[expose] public section

set_option maxRecDepth 16384

noncomputable section

namespace Cert.Proj5

open Idealize.ShloMosaic Idealize.ShloMosaic.TcCoe Idealize.SL.Sem
open Cert.Grid2
open Cert.Moe (rd3 eq_rd3_of)

section Kernel

open Cert.Kernel5Ideal Cert.Kernel5Ideal.Gen

theorem hz : (![0, 0] : Fin 2 → Nat) = fun _ => 0 := funext fun a => by fin_cases a <;> rfl
theorem hz3 : (![0, 0, 0] : Fin 3 → Nat) = fun _ => 0 := funext fun a => by fin_cases a <;> rfl

/-- Row `r` of `X` times column `n` of `W`. -/
def prod (X : S9216x2048.Idx → EReal) (W : S2048x2048.Idx → EReal) (r n : Nat) : EReal := ∑ k : Fin 2048, rd X r k.val * rd W k.val n

/-- One element of the result: the residual and the product scaled by its batch's gate, the third of the six parts of a row of `G`
    (the context's rows, from 8192 on, take row 4). -/
def elt (X : S9216x2048.Idx → EReal) (W : S2048x2048.Idx → EReal) (Y : S9216x2048.Idx → EReal) (G : S8x1x12288.Idx → EReal) (r n : Nat) : EReal := rd Y r n + rd3 G (r / 2048) 0 (4096 + n) * prod X W r n

/-- The result array. -/
def result (X : S9216x2048.Idx → EReal) (W : S2048x2048.Idx → EReal) (Y : S9216x2048.Idx → EReal) (G : S8x1x12288.Idx → EReal) : S9216x2048.Idx → EReal := fun i => elt X W Y G (i 0).val (i 1).val

/-- The body's arithmetic at one element. -/
theorem pay1_apply (x : Vec Ideal S1024x2048 .bf16) (w : Vec Ideal S2048x512 .f32) (y : Vec Ideal S1024x512 .f32) (g : Vec Ideal S1x1x512 .f32) (r : Fin 1024) (n : Fin 512) :
    k0_pay1 (F := Ideal) x w y g (ix2 r n) = y (ix2 r n) + g (ix3 0 0 n) * ∑ k : Fin 2048, x (ix2 r k) * w (ix2 k n) := by
  unfold_payloads
  pointwise

variable (m : (ℓ : Loc nD τ sig) → Buf (Elt Ideal) ℓ) (ρ : Dev nD → PrngReg)

/-- What the body leaves in the output's buffer is its arithmetic of the blocks. -/
theorem out_eq (x : Vec Ideal S1024x2048 .bf16) (w : Vec Ideal S2048x512 .f32) (y : Vec Ideal S1024x512 .f32) (g : Vec Ideal S1x1x512 .f32) :
    out0_4 (F := Ideal) x w y g = k0_pay1 x w y g := by
  unfold out0_4
  rw [View.canon_unit_zero hz]
  simp only [View.ld_unit_zero (S := S1024x2048) hz, View.ld_unit_zero (S := S2048x512) hz, View.ld_unit_zero (S := S1024x512) hz, View.ld_unit_zero (S := S1x1x512) hz3]

/-- Every window's block index at every grid point. -/
theorem idx (t : Fin grid0.N) :
    (win0_0.index t 0 = t.val / 4 ∧ win0_0.index t 1 = 0)
    ∧ (win0_1.index t 0 = 0 ∧ win0_1.index t 1 = t.val % 4)
    ∧ (win0_2.index t 0 = t.val / 4 ∧ win0_2.index t 1 = t.val % 4)
    ∧ (win0_3.index t 0 = t.val / 8 ∧ win0_3.index t 1 = 0 ∧ win0_3.index t 2 = 8 + t.val % 4)
    ∧ (win0_4.index t 0 = t.val / 4 ∧ win0_4.index t 1 = t.val % 4) :=
  (by decide +kernel : ∀ t : Fin grid0.N,
    (win0_0.index t 0 = t.val / 4 ∧ win0_0.index t 1 = 0)
    ∧ (win0_1.index t 0 = 0 ∧ win0_1.index t 1 = t.val % 4)
    ∧ (win0_2.index t 0 = t.val / 4 ∧ win0_2.index t 1 = t.val % 4)
    ∧ (win0_3.index t 0 = t.val / 8 ∧ win0_3.index t 1 = 0 ∧ win0_3.index t 2 = 8 + t.val % 4)
    ∧ (win0_4.index t 0 = t.val / 4 ∧ win0_4.index t 1 = t.val % 4)) t

abbrev argX (c : Dev nD) : S9216x2048.Idx → EReal := m ((c : Thread nD τ).loc main_arg0)
abbrev argW (c : Dev nD) : S2048x2048.Idx → EReal := m ((c : Thread nD τ).loc main_arg1)
abbrev argY (c : Dev nD) : S9216x2048.Idx → EReal := m ((c : Thread nD τ).loc main_arg2)
abbrev argG (c : Dev nD) : S8x1x12288.Idx → EReal := m ((c : Thread nD τ).loc main_arg3)

/-- An element of the block of rows. -/
theorem x_apply (c : Dev nD) (t : Fin cfg0.N) (r : Fin 1024) (k : Fin 2048) :
    (iblk m c 0 t : Vec Ideal S1024x2048 .bf16) (ix2 r k) = rd (argX m c) (t.val / 4 * 1024 + r.val) k.val := by
  unfold iblk
  rw [View.read_apply]
  show V m c main_arg0 _ = _
  rw [V_main_arg0]
  have h := idx t
  refine eq_rd_of _ _ ?_ ?_
  · show win0_0.index t 0 * 1024 + 1 * r.val = _; omega
  · show win0_0.index t 1 * 2048 + 1 * k.val = _; omega

/-- An element of the block of columns. -/
theorem w_apply (c : Dev nD) (t : Fin cfg0.N) (k : Fin 2048) (n : Fin 512) :
    (iblk m c 1 t : Vec Ideal S2048x512 .f32) (ix2 k n) = rd (argW m c) k.val (t.val % 4 * 512 + n.val) := by
  unfold iblk
  rw [View.read_apply]
  show V m c main_arg1 _ = _
  rw [V_main_arg1]
  have h := idx t
  refine eq_rd_of _ _ ?_ ?_
  · show win0_1.index t 0 * 2048 + 1 * k.val = _; omega
  · show win0_1.index t 1 * 512 + 1 * n.val = _; omega

/-- An element of the residual's block. -/
theorem y_apply (c : Dev nD) (t : Fin cfg0.N) (r : Fin 1024) (n : Fin 512) :
    (iblk m c 2 t : Vec Ideal S1024x512 .f32) (ix2 r n) = rd (argY m c) (t.val / 4 * 1024 + r.val) (t.val % 4 * 512 + n.val) := by
  unfold iblk
  rw [View.read_apply]
  show V m c main_arg2 _ = _
  rw [V_main_arg2]
  have h := idx t
  refine eq_rd_of _ _ ?_ ?_
  · show win0_2.index t 0 * 1024 + 1 * r.val = _; omega
  · show win0_2.index t 1 * 512 + 1 * n.val = _; omega

/-- An element of the gate's block. -/
theorem g_apply (c : Dev nD) (t : Fin cfg0.N) (n : Fin 512) :
    (iblk m c 3 t : Vec Ideal S1x1x512 .f32) (ix3 0 0 n) = rd3 (argG m c) (t.val / 8) 0 (4096 + (t.val % 4 * 512 + n.val)) := by
  unfold iblk
  rw [View.read_apply]
  show V m c main_arg3 _ = _
  rw [V_main_arg3]
  have h := idx t
  refine eq_rd3_of _ _ ?_ ?_ ?_
  · show win0_3.index t 0 * 1 + 1 * 0 = _; omega
  · show win0_3.index t 1 * 1 + 1 * 0 = _; omega
  · show win0_3.index t 2 * 512 + 1 * n.val = _; omega

/-- What a grid point leaves, at one element. -/
theorem outs_apply (c : Dev nD) (t : Fin cfg0.N) (r : Fin 1024) (n : Fin 512) :
    out0_4 (F := Ideal) (iblk m c 0 t) (iblk m c 1 t) (iblk m c 2 t) (iblk m c 3 t) (ix2 r n) = elt (argX m c) (argW m c) (argY m c) (argG m c) (t.val / 4 * 1024 + r.val) (t.val % 4 * 512 + n.val) := by
  rw [out_eq]
  refine (pay1_apply _ _ _ _ r n).trans ?_
  unfold elt prod
  have hb : (t.val / 4 * 1024 + r.val) / 2048 = t.val / 8 := by have := r.isLt; omega
  rw [hb]
  exact congrArg₂ (fun p q : EReal => p + q) (y_apply m c t r n) (congrArg₂ (fun p q : EReal => p * q) (g_apply m c t n)
    (Finset.sum_congr rfl fun k _ => congrArg₂ (fun p q : EReal => p * q) (x_apply m c t r k) (w_apply m c t k n)))

/-- Where an element of a grid point's output block lies in the array. -/
theorem emb_val (t : Fin cfg0.N) (y : S1024x512.Idx) :
    (((cfg0.win 4).blk t).view.emb y 0).val = t.val / 4 * 1024 + (y 0).val
    ∧ (((cfg0.win 4).blk t).view.emb y 1).val = t.val % 4 * 512 + (y 1).val := by
  have h := idx t
  constructor
  · show win0_4.index t 0 * 1024 + 1 * (y 0).val = _; omega
  · show win0_4.index t 1 * 512 + 1 * (y 1).val = _; omega

/-- A grid point's element is `result` at the element's place. -/
theorem outs_result (c : Dev nD) (t : Fin cfg0.N) (y : S1024x512.Idx) :
    out0_4 (F := Ideal) (iblk m c 0 t) (iblk m c 1 t) (iblk m c 2 t) (iblk m c 3 t) y = result (argX m c) (argW m c) (argY m c) (argG m c) (((cfg0.win 4).blk t).view.emb y) := by
  have h0 : (y 0).val < 1024 := (y 0).isLt
  have h1 : (y 1).val < 512 := (y 1).isLt
  have e : y = ix2 ⟨(y 0).val, h0⟩ ⟨(y 1).val, h1⟩ := funext fun a => match a with | ⟨0, _⟩ => rfl | ⟨1, _⟩ => rfl
  have e1 := congrArg (out0_4 (F := Ideal) (iblk m c 0 t) (iblk m c 1 t) (iblk m c 2 t) (iblk m c 3 t)) e
  have e2 := outs_apply m c t ⟨(y 0).val, h0⟩ ⟨(y 1).val, h1⟩
  have e3 := emb_val t y
  unfold result
  rw [e3.1, e3.2]
  exact e1.trans e2

/-- A grid point writes back its block of `result`. -/
theorem flushed_eq (c : Dev nD) (t : Fin cfg0.N) :
    (dats m 0 c).flushed 4 t = ((cfg0.win 4).blk t).view.read (Elt Ideal) (result (argX m c) (argW m c) (argY m c) (argG m c)) :=
  (Value.flushed4 m c t).trans (funext fun y => outs_result m c t y)

/-- An index is in a grid point's output block when its coordinates are. -/
theorem mem_blk (t : Fin cfg0.N) (i : S9216x2048.Idx) :
    i ∈ ((cfg0.win 4).blk t).view.set ↔
      (t.val / 4 * 1024 ≤ (i 0).val ∧ (i 0).val < t.val / 4 * 1024 + 1024)
      ∧ (t.val % 4 * 512 ≤ (i 1).val ∧ (i 1).val < t.val % 4 * 512 + 512) := by
  show i ∈ ((View.whole main_v0).slice (win0_4.rect t)).set ↔ _
  rw [View.set_slice_whole, Rect.mem_set_unit]
  have e : win0_4.index t 0 = t.val / 4 ∧ win0_4.index t 1 = t.val % 4 := by have h := idx t; exact ⟨by omega, by omega⟩
  rw [← e.1, ← e.2]
  refine ⟨fun h => ⟨h 0, h 1⟩, fun h a => ?_⟩
  match a with
  | ⟨0, _⟩ => exact h.1
  | ⟨1, _⟩ => exact h.2

/-- The output array after the run. -/
theorem final (c : Dev nD) : (dats m 0 c).arrAt 4 cfg0.N = result (argX m c) (argW m c) (argY m c) (argG m c) := by
  funext i
  have hN : cfg0.N = 36 := N_0
  have h0 : (i 0).val < 9216 := (i 0).isLt
  have h1 : (i 1).val < 2048 := (i 1).isLt
  have ht : (i 0).val / 1024 * 4 + (i 1).val / 512 < cfg0.N := by omega
  refine (dats m 0 c).arrAt_apply_of_mem 4 _ (fun t _ => flushed_eq m c t) cfg0.N ⟨_, ht⟩ i ht (flush0_4 _) ?_
  rw [mem_blk]
  dsimp only
  omega

/-- The run, read: the output array at `result` of the arguments, the arguments unchanged. -/
theorem run : θ_run defs (onTc (τ := τ) (main (F := Ideal))) ⟨m, fun _ => 0, ρ⟩ fun r => ∀ c : Dev nD,
      r.2.mem ((c : Thread nD τ).loc main_v0) = result (argX m c) (argW m c) (argY m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Kernel

section Reference

open Cert.Reference5Ideal Cert.Reference5Ideal.Gen Cert.Reference5Ideal.Read

variable (x0 : (⟨S9216x2048, .bf16⟩ : BufTy).Contents (Elt Ideal)) (x1 : (⟨S2048x2048, .f32⟩ : BufTy).Contents (Elt Ideal))
  (x2 : (⟨S9216x2048, .f32⟩ : BufTy).Contents (Elt Ideal)) (x3 : (⟨S8x1x12288, .f32⟩ : BufTy).Contents (Elt Ideal))

/-- The reference's product at an element. -/
theorem prod_at (i : S9216x2048.Idx) {r n : Nat} (h0 : (i 0).val = r) (h1 : (i 1).val = n) : val_main_v1 (F := Ideal) x0 x1 i = prod x0 x1 r n := by
  subst h0 h1
  exact (val_main_v1_apply x0 x1 i).trans (Finset.sum_congr rfl fun k _ =>
    congrArg₂ (fun p q : EReal => p * q) (eq_rd_of x0 _ rfl rfl) (eq_rd_of x1 _ rfl rfl))

/-- The latents' rows. -/
theorem lat_at (i : S8192x2048.Idx) : val_main_v18 (F := Ideal) x0 x1 x2 x3 i = elt x0 x1 x2 x3 (i 0).val (i 1).val := by
  have h0 : (i 0).val < 8192 := (i 0).isLt
  have h1 : (i 1).val < 2048 := (i 1).isLt
  refine (val_main_v18_apply x0 x1 x2 x3 i).trans ((val_main_v10_apply x0 x1 x2 x3 _).trans ?_)
  refine congrArg₂ (fun p q : EReal => p + q) ?_ ((val_main_v9_apply x0 x1 x3 _).trans (congrArg₂ (fun p q : EReal => p * q) ?_ ?_))
  · refine (val_main_v4_apply x2 _).trans ((val_main_v3_apply x2 _).trans (eq_rd_of x2 _ ?_ ?_))
    · show ((((i 0).val * 2048 + (i 1).val) / 4194304 * 2048 + ((i 0).val * 2048 + (i 1).val) / 2048 % 2048) * 2048 + ((i 0).val * 2048 + (i 1).val) % 2048) / 2048 = (i 0).val
      omega
    · show ((((i 0).val * 2048 + (i 1).val) / 4194304 * 2048 + ((i 0).val * 2048 + (i 1).val) / 2048 % 2048) * 2048 + ((i 0).val * 2048 + (i 1).val) % 2048) % 2048 = (i 1).val
      omega
  · refine (val_main_v8_apply x3 _).trans ((val_main_v5_apply x3 _).trans ((val_main_v2_apply x3 _).trans (eq_rd3_of x3 _ ?_ rfl ?_)))
    · show ((i 0).val * 2048 + (i 1).val) / 4194304 = (i 0).val / 2048
      omega
    · show 4096 + ((i 0).val * 2048 + (i 1).val) % 2048 = 4096 + (i 1).val
      omega
  · refine (val_main_v7_apply x0 x1 _).trans ((val_main_v6_apply x0 x1 _).trans (prod_at x0 x1 _ ?_ ?_))
    · show ((((i 0).val * 2048 + (i 1).val) / 4194304 * 2048 + ((i 0).val * 2048 + (i 1).val) / 2048 % 2048) * 2048 + ((i 0).val * 2048 + (i 1).val) % 2048) / 2048 = (i 0).val
      omega
    · show ((((i 0).val * 2048 + (i 1).val) / 4194304 * 2048 + ((i 0).val * 2048 + (i 1).val) / 2048 % 2048) * 2048 + ((i 0).val * 2048 + (i 1).val) % 2048) % 2048 = (i 1).val
      omega

/-- The context's rows. -/
theorem ctx_at (i : S1024x2048.Idx) : val_main_v17 (F := Ideal) x0 x1 x2 x3 i = elt x0 x1 x2 x3 (8192 + (i 0).val) (i 1).val := by
  have h0 : (i 0).val < 1024 := (i 0).isLt
  have h1 : (i 1).val < 2048 := (i 1).isLt
  refine (val_main_v17_apply x0 x1 x2 x3 i).trans ?_
  refine congrArg₂ (fun p q : EReal => p + q) ?_ ((val_main_v16_apply x0 x1 x3 _).trans (congrArg₂ (fun p q : EReal => p * q) ?_ ?_))
  · exact (val_main_v11_apply x2 _).trans (eq_rd_of x2 _ rfl rfl)
  · refine (val_main_v15_apply x3 _).trans ((val_main_v13_apply x3 _).trans ((val_main_v12_apply x3 _).trans ((val_main_v2_apply x3 _).trans (eq_rd3_of x3 _ ?_ rfl ?_))))
    · show 4 + 0 = (8192 + (i 0).val) / 2048
      omega
    · show 4096 + (0 * 2048 + (i 1).val) % 2048 = 4096 + (i 1).val
      omega
  · exact (val_main_v14_apply x0 x1 _).trans (prod_at x0 x1 _ rfl rfl)

/-- The reference's result is the kernel's. -/
theorem result_eq : val_main_v19 (F := Ideal) x0 x1 x2 x3 = result x0 x1 x2 x3 := funext fun i => by
  have h0 : (i 0).val < 9216 := (i 0).isLt
  unfold val_main_v19 result
  by_cases hr : (i 0).val < 8192
  · refine (concatenate_pair_apply_left (t := S9216x2048) (s₁ := S8192x2048) (s₂ := S1024x2048) 0 _ _ _ i rfl
      (fun a => match a with | ⟨0, _⟩ => ⟨(i 0).val, hr⟩ | ⟨1, _⟩ => i 1)
      (fun b => match b with | ⟨0, _⟩ => rfl | ⟨1, _⟩ => rfl)).trans ?_
    exact lat_at x0 x1 x2 x3 _
  · refine (concatenate_pair_apply_right (t := S9216x2048) (s₁ := S8192x2048) (s₂ := S1024x2048) 0 _ _ _ i rfl rfl
      (fun a => match a with | ⟨0, _⟩ => ⟨(i 0).val - 8192, by show _ < 1024; omega⟩ | ⟨1, _⟩ => i 1)
      (fun b hb => match b with | ⟨0, _⟩ => absurd rfl hb | ⟨1, _⟩ => rfl)
      (by show (i 0).val - 8192 + 8192 = (i 0).val; omega)).trans ?_
    refine (ctx_at x0 x1 x2 x3 _).trans (congrArg (fun r : Nat => elt x0 x1 x2 x3 r (i 1).val) ?_)
    show 8192 + ((i 0).val - 8192) = (i 0).val
    omega

end Reference

/-! ## The claims -/

/-- The kernel at the machine's floats runs and leaves its arguments unchanged. -/
theorem frame_kernel : Cert.quiescent_Kernel5 (hKernel5 := Cert.Kernel5.Gen.facts) := fun m ρ _ => Cert.Kernel5.Gen.frame m ρ

/-- The kernel at the ideal instance. -/
theorem frame_ideal : Cert.quiescent_Kernel5Ideal (hKernel5Ideal := Cert.Kernel5Ideal.Gen.facts) :=
  fun m ρ _ => Cert.Kernel5Ideal.Gen.frame m ρ

/-- The reference. -/
theorem frame_reference : Cert.quiescent_Reference5Ideal (hReference5Ideal := Cert.Reference5Ideal.Gen.facts) := fun m ρ _ =>
  (θ_run Cert.Reference5Ideal.defs _ _).mono (fun _ h => ⟨fun c => (h c).2, funext fun s => nomatch s⟩)
    (Cert.Reference5Ideal.Value.run m ρ)

/-- From equal arguments kernel and reference end with equal results. -/
theorem algebraic : Cert.algebraic_Kernel5Ideal_Reference5Ideal
    (hKernel5Ideal := Cert.Kernel5Ideal.Gen.facts) (hReference5Ideal := Cert.Reference5Ideal.Gen.facts) := fun m ρ m' ρ' _ hag =>
  ⟨fun c => result (m ((c.tc : Thread _ _).loc Cert.Kernel5Ideal.main_arg0)) (m ((c.tc : Thread _ _).loc Cert.Kernel5Ideal.main_arg1)) (m ((c.tc : Thread _ _).loc Cert.Kernel5Ideal.main_arg2)) (m ((c.tc : Thread _ _).loc Cert.Kernel5Ideal.main_arg3)), run m ρ,
    (θ_run Cert.Reference5Ideal.defs _ _).mono (fun _ h c => by
      obtain ⟨hv, h0, h1, h2, h3⟩ := h c
      refine ⟨?_, h0, h1, h2, h3⟩
      rw [hv, Cert.Reference5Ideal.Read.val_main_v19_eq, (hag c).1, (hag c).2.1, (hag c).2.2.1, (hag c).2.2.2]
      exact result_eq _ _ _ _)
      (Cert.Reference5Ideal.Value.run m' ρ')⟩

end Cert.Proj5

end
-- ==== Proof.Proj6.lean ====
/- The projection into the mLSTM, whose weights hold more columns than the call multiplies: kernel and reference equal. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.MoeMath
public import Idealize.ShloMosaic.Lib.Pointwise

@[expose] public section

set_option maxRecDepth 16384

noncomputable section

namespace Cert.Proj6

open Idealize.ShloMosaic Idealize.ShloMosaic.TcCoe Idealize.SL.Sem
open Cert.Grid2
open Cert.Moe (rd3 eq_rd3_of)

section Kernel

open Cert.Kernel6Ideal Cert.Kernel6Ideal.Gen

theorem hz : (![0, 0] : Fin 2 → Nat) = fun _ => 0 := funext fun a => by fin_cases a <;> rfl

/-- Row `r` of `X` times column `n` of `W`. -/
def prod (X : S9216x2048.Idx → EReal) (W : S2048x6176.Idx → EReal) (r n : Nat) : EReal := ∑ k : Fin 2048, rd X r k.val * rd W k.val n

/-- One element of the result. -/
abbrev elt (X : S9216x2048.Idx → EReal) (W : S2048x6176.Idx → EReal) (r n : Nat) : EReal := prod X W r n

/-- The result array. -/
def result (X : S9216x2048.Idx → EReal) (W : S2048x6176.Idx → EReal) : S9216x6144.Idx → EReal := fun i => elt X W (i 0).val (i 1).val

/-- The body's arithmetic at one element. -/
theorem pay1_apply (x : Vec Ideal S1024x2048 .bf16) (w : Vec Ideal S2048x512 .f32) (r : Fin 1024) (n : Fin 512) :
    k0_pay1 (F := Ideal) x w (ix2 r n) = ∑ k : Fin 2048, x (ix2 r k) * w (ix2 k n) := by
  unfold_payloads
  pointwise

variable (m : (ℓ : Loc nD τ sig) → Buf (Elt Ideal) ℓ) (ρ : Dev nD → PrngReg)

/-- What the body leaves in the output's buffer is its arithmetic of the blocks. -/
theorem out_eq (c : Dev nD) (i : grid0.Coords) (a2 : Memref sig .tc .vmem S1024x2048 .bf16) (h2 : a2.IsWhole)
    (a3 : Memref sig .tc .vmem S2048x512 .f32) (h3 : a3.IsWhole) (a4 : Memref sig .tc .vmem S1024x512 .bf16) (h4 : a4.IsWhole)
    (x : Vec Ideal S1024x2048 .bf16) (w : Vec Ideal S2048x512 .f32) :
    out0_A_2 (F := Ideal) c i a2 h2 a3 h3 a4 h4 x w = k0_pay1 x w := by
  unfold out0_A_2
  rw [View.read_writes_eq_canon _ _ _ (cover0_A_2 c i a2 h2 a3 h3 a4 h4 x w)]
  unfold kernelRun0_A
  dsimp only
  sl_unfold_words
  rw [View.canon_unit_zero hz]
  simp only [View.readAt_eq_ld, h2.read_unread, h3.read_unread, View.ld_unit_zero (S := S1024x2048) hz, View.ld_unit_zero (S := S2048x512) hz]

/-- Every window's block index at every grid point. -/
theorem idx (t : Fin grid0.N) :
    (win0_0.index t 0 = t.val / 12 ∧ win0_0.index t 1 = 0)
    ∧ (win0_1.index t 0 = 0 ∧ win0_1.index t 1 = t.val % 12)
    ∧ (win0_2.index t 0 = t.val / 12 ∧ win0_2.index t 1 = t.val % 12) :=
  (by decide +kernel : ∀ t : Fin grid0.N,
    (win0_0.index t 0 = t.val / 12 ∧ win0_0.index t 1 = 0)
    ∧ (win0_1.index t 0 = 0 ∧ win0_1.index t 1 = t.val % 12)
    ∧ (win0_2.index t 0 = t.val / 12 ∧ win0_2.index t 1 = t.val % 12)) t

abbrev argX (c : Dev nD) : S9216x2048.Idx → EReal := m ((c : Thread nD τ).loc main_arg0)
abbrev argW (c : Dev nD) : S2048x6176.Idx → EReal := m ((c : Thread nD τ).loc main_arg1)

/-- An element of the block of rows. -/
theorem x_apply (c : Dev nD) (t : Fin cfg0.N) (r : Fin 1024) (k : Fin 2048) :
    (iblk m c 0 t : Vec Ideal S1024x2048 .bf16) (ix2 r k) = rd (argX m c) (t.val / 12 * 1024 + r.val) k.val := by
  unfold iblk
  rw [View.read_apply]
  show V m c main_arg0 _ = _
  rw [V_main_arg0]
  have h := idx t
  refine eq_rd_of _ _ ?_ ?_
  · show win0_0.index t 0 * 1024 + 1 * r.val = _; omega
  · show win0_0.index t 1 * 2048 + 1 * k.val = _; omega

/-- An element of the block of columns. -/
theorem w_apply (c : Dev nD) (t : Fin cfg0.N) (k : Fin 2048) (n : Fin 512) :
    (X0_1 m c t : Vec Ideal S2048x512 .f32) (ix2 k n) = rd (argW m c) k.val (t.val % 12 * 512 + n.val) := by
  unfold X0_1 Pipeline.Window.fill
  rw [dif_pos (moved0_1 t _)]
  unfold iblk
  rw [View.read_apply]
  show V m c main_arg1 _ = _
  rw [V_main_arg1]
  have h := idx t
  refine eq_rd_of _ _ ?_ ?_
  · show win0_1.index t 0 * 2048 + 1 * k.val = _; omega
  · show win0_1.index t 1 * 512 + 1 * n.val = _; omega

/-- What a grid point leaves, at one element. -/
theorem outs_apply (c : Dev nD) (t : Fin cfg0.N) (r : Fin 1024) (n : Fin 512) :
    outsAt0 (F := Ideal) m c t (ix2 r n) = elt (argX m c) (argW m c) (t.val / 12 * 1024 + r.val) (t.val % 12 * 512 + n.val) := by
  unfold outsAt0
  rw [out_eq]
  refine (pay1_apply _ _ r n).trans ?_
  exact Finset.sum_congr rfl fun k _ => congrArg₂ (fun p q : EReal => p * q) (x_apply m c t r k) (w_apply m c t k n)

/-- Where an element of a grid point's output block lies in the array. -/
theorem emb_val (t : Fin cfg0.N) (y : S1024x512.Idx) :
    (((cfg0.win 2).blk t).view.emb y 0).val = t.val / 12 * 1024 + (y 0).val
    ∧ (((cfg0.win 2).blk t).view.emb y 1).val = t.val % 12 * 512 + (y 1).val := by
  have h := idx t
  constructor
  · show win0_2.index t 0 * 1024 + 1 * (y 0).val = _; omega
  · show win0_2.index t 1 * 512 + 1 * (y 1).val = _; omega

/-- A grid point's element is `result` at the element's place. -/
theorem outs_result (c : Dev nD) (t : Fin cfg0.N) (y : S1024x512.Idx) :
    outsAt0 (F := Ideal) m c t y = result (argX m c) (argW m c) (((cfg0.win 2).blk t).view.emb y) := by
  have h0 : (y 0).val < 1024 := (y 0).isLt
  have h1 : (y 1).val < 512 := (y 1).isLt
  have e : y = ix2 ⟨(y 0).val, h0⟩ ⟨(y 1).val, h1⟩ := funext fun a => match a with | ⟨0, _⟩ => rfl | ⟨1, _⟩ => rfl
  have e1 := congrArg (outsAt0 (F := Ideal) m c t) e
  have e2 := outs_apply m c t ⟨(y 0).val, h0⟩ ⟨(y 1).val, h1⟩
  have e3 := emb_val t y
  unfold result
  rw [e3.1, e3.2]
  exact e1.trans e2

/-- A grid point writes back its block of `result`. -/
theorem flushed_eq (c : Dev nD) (t : Fin cfg0.N) :
    (dats m 0 c).flushed 2 t = ((cfg0.win 2).blk t).view.read (Elt Ideal) (result (argX m c) (argW m c)) :=
  (Value.flushed2 m c t).trans (funext fun y => outs_result m c t y)

/-- An index is in a grid point's output block when its coordinates are. -/
theorem mem_blk (t : Fin cfg0.N) (i : S9216x6144.Idx) :
    i ∈ ((cfg0.win 2).blk t).view.set ↔
      (t.val / 12 * 1024 ≤ (i 0).val ∧ (i 0).val < t.val / 12 * 1024 + 1024)
      ∧ (t.val % 12 * 512 ≤ (i 1).val ∧ (i 1).val < t.val % 12 * 512 + 512) := by
  show i ∈ ((View.whole main_v0).slice (win0_2.rect t)).set ↔ _
  rw [View.set_slice_whole, Rect.mem_set_unit]
  have e : win0_2.index t 0 = t.val / 12 ∧ win0_2.index t 1 = t.val % 12 := by have h := idx t; exact ⟨by omega, by omega⟩
  rw [← e.1, ← e.2]
  refine ⟨fun h => ⟨h 0, h 1⟩, fun h a => ?_⟩
  match a with
  | ⟨0, _⟩ => exact h.1
  | ⟨1, _⟩ => exact h.2

/-- The output array after the run. -/
theorem final (c : Dev nD) : (dats m 0 c).arrAt 2 cfg0.N = result (argX m c) (argW m c) := by
  funext i
  have hN : cfg0.N = 108 := N_0
  have h0 : (i 0).val < 9216 := (i 0).isLt
  have h1 : (i 1).val < 6144 := (i 1).isLt
  have ht : (i 0).val / 1024 * 12 + (i 1).val / 512 < cfg0.N := by omega
  refine (dats m 0 c).arrAt_apply_of_mem 2 _ (fun t _ => flushed_eq m c t) cfg0.N ⟨_, ht⟩ i ht (flush0_2 _) ?_
  rw [mem_blk]
  dsimp only
  omega

/-- The run, read: the output array at `result` of the arguments, the arguments unchanged. -/
theorem run : θ_run defs (onTc (τ := τ) (main (F := Ideal))) ⟨m, fun _ => 0, ρ⟩ fun r => ∀ c : Dev nD,
      r.2.mem ((c : Thread nD τ).loc main_v0) = result (argX m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Kernel

section Reference

open Cert.Reference6Ideal Cert.Reference6Ideal.Gen Cert.Reference6Ideal.Read

variable (x0 : (⟨S9216x2048, .bf16⟩ : BufTy).Contents (Elt Ideal)) (x1 : (⟨S2048x6176, .f32⟩ : BufTy).Contents (Elt Ideal))

/-- The reference's result is the kernel's. -/
theorem result_eq : val_main_v3 (F := Ideal) x0 x1 = result x0 x1 := funext fun i =>
  (val_main_v2_apply x0 x1 i).trans (Finset.sum_congr rfl fun k _ =>
    congrArg₂ (fun p q : EReal => p * q) (eq_rd_of x0 _ rfl rfl) ((val_main_v1_apply x1 _).trans (eq_rd_of x1 _ rfl rfl)))

end Reference

/-! ## The claims -/

/-- The kernel at the machine's floats runs and leaves its arguments unchanged. -/
theorem frame_kernel : Cert.quiescent_Kernel6 (hKernel6 := Cert.Kernel6.Gen.facts) := fun m ρ _ => Cert.Kernel6.Gen.frame m ρ

/-- The kernel at the ideal instance. -/
theorem frame_ideal : Cert.quiescent_Kernel6Ideal (hKernel6Ideal := Cert.Kernel6Ideal.Gen.facts) :=
  fun m ρ _ => Cert.Kernel6Ideal.Gen.frame m ρ

/-- The reference. -/
theorem frame_reference : Cert.quiescent_Reference6Ideal (hReference6Ideal := Cert.Reference6Ideal.Gen.facts) := fun m ρ _ =>
  (θ_run Cert.Reference6Ideal.defs _ _).mono (fun _ h => ⟨fun c => (h c).2, funext fun s => nomatch s⟩)
    (Cert.Reference6Ideal.Value.run m ρ)

/-- From equal arguments kernel and reference end with equal results. -/
theorem algebraic : Cert.algebraic_Kernel6Ideal_Reference6Ideal
    (hKernel6Ideal := Cert.Kernel6Ideal.Gen.facts) (hReference6Ideal := Cert.Reference6Ideal.Gen.facts) := fun m ρ m' ρ' _ hag =>
  ⟨fun c => result (m ((c.tc : Thread _ _).loc Cert.Kernel6Ideal.main_arg0)) (m ((c.tc : Thread _ _).loc Cert.Kernel6Ideal.main_arg1)), run m ρ,
    (θ_run Cert.Reference6Ideal.defs _ _).mono (fun _ h c => by
      obtain ⟨hv, h0, h1⟩ := h c
      refine ⟨?_, h0, h1⟩
      rw [hv, Cert.Reference6Ideal.Read.val_main_v3_eq, (hag c).1, (hag c).2]
      exact result_eq _ _)
      (Cert.Reference6Ideal.Value.run m' ρ')⟩

end Cert.Proj6

end
-- ==== Proof.Proj7.lean ====
/- The projection out of the mLSTM with its gated residual, over the latents' rows: kernel and reference equal. -/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.MoeMath
public import Idealize.ShloMosaic.Lib.Pointwise

@[expose] public section

set_option maxRecDepth 16384

noncomputable section

namespace Cert.Proj7

open Idealize.ShloMosaic Idealize.ShloMosaic.TcCoe Idealize.SL.Sem
open Cert.Grid2
open Cert.Moe (rd3 eq_rd3_of)

section Kernel

open Cert.Kernel7Ideal Cert.Kernel7Ideal.Gen

theorem hz : (![0, 0] : Fin 2 → Nat) = fun _ => 0 := funext fun a => by fin_cases a <;> rfl
theorem hz3 : (![0, 0, 0] : Fin 3 → Nat) = fun _ => 0 := funext fun a => by fin_cases a <;> rfl

/-- Row `r` of `X` times column `n` of `W`. -/
def prod (X : S8192x2048.Idx → EReal) (W : S2048x2048.Idx → EReal) (r n : Nat) : EReal := ∑ k : Fin 2048, rd X r k.val * rd W k.val n

/-- One element of the result: the residual and the product scaled by its batch's gate, the third of the six parts of a row of `G`
    (the context's rows, from 8192 on, take row 4). -/
def elt (X : S8192x2048.Idx → EReal) (W : S2048x2048.Idx → EReal) (Y : S9216x2048.Idx → EReal) (G : S8x1x12288.Idx → EReal) (r n : Nat) : EReal := rd Y r n + rd3 G (r / 2048) 0 (4096 + n) * prod X W r n

/-- The result array. -/
def result (X : S8192x2048.Idx → EReal) (W : S2048x2048.Idx → EReal) (Y : S9216x2048.Idx → EReal) (G : S8x1x12288.Idx → EReal) : S8192x2048.Idx → EReal := fun i => elt X W Y G (i 0).val (i 1).val

/-- The body's arithmetic at one element. -/
theorem pay1_apply (x : Vec Ideal S1024x2048 .bf16) (w : Vec Ideal S2048x512 .f32) (y : Vec Ideal S1024x512 .f32) (g : Vec Ideal S1x1x512 .f32) (r : Fin 1024) (n : Fin 512) :
    k0_pay1 (F := Ideal) x w y g (ix2 r n) = y (ix2 r n) + g (ix3 0 0 n) * ∑ k : Fin 2048, x (ix2 r k) * w (ix2 k n) := by
  unfold_payloads
  pointwise

variable (m : (ℓ : Loc nD τ sig) → Buf (Elt Ideal) ℓ) (ρ : Dev nD → PrngReg)

/-- What the body leaves in the output's buffer is its arithmetic of the blocks. -/
theorem out_eq (x : Vec Ideal S1024x2048 .bf16) (w : Vec Ideal S2048x512 .f32) (y : Vec Ideal S1024x512 .f32) (g : Vec Ideal S1x1x512 .f32) :
    out0_4 (F := Ideal) x w y g = k0_pay1 x w y g := by
  unfold out0_4
  rw [View.canon_unit_zero hz]
  simp only [View.ld_unit_zero (S := S1024x2048) hz, View.ld_unit_zero (S := S2048x512) hz, View.ld_unit_zero (S := S1024x512) hz, View.ld_unit_zero (S := S1x1x512) hz3]

/-- Every window's block index at every grid point. -/
theorem idx (t : Fin grid0.N) :
    (win0_0.index t 0 = t.val / 4 ∧ win0_0.index t 1 = 0)
    ∧ (win0_1.index t 0 = 0 ∧ win0_1.index t 1 = t.val % 4)
    ∧ (win0_2.index t 0 = t.val / 4 ∧ win0_2.index t 1 = t.val % 4)
    ∧ (win0_3.index t 0 = t.val / 8 ∧ win0_3.index t 1 = 0 ∧ win0_3.index t 2 = 8 + t.val % 4)
    ∧ (win0_4.index t 0 = t.val / 4 ∧ win0_4.index t 1 = t.val % 4) :=
  (by decide +kernel : ∀ t : Fin grid0.N,
    (win0_0.index t 0 = t.val / 4 ∧ win0_0.index t 1 = 0)
    ∧ (win0_1.index t 0 = 0 ∧ win0_1.index t 1 = t.val % 4)
    ∧ (win0_2.index t 0 = t.val / 4 ∧ win0_2.index t 1 = t.val % 4)
    ∧ (win0_3.index t 0 = t.val / 8 ∧ win0_3.index t 1 = 0 ∧ win0_3.index t 2 = 8 + t.val % 4)
    ∧ (win0_4.index t 0 = t.val / 4 ∧ win0_4.index t 1 = t.val % 4)) t

abbrev argX (c : Dev nD) : S8192x2048.Idx → EReal := m ((c : Thread nD τ).loc main_arg0)
abbrev argW (c : Dev nD) : S2048x2048.Idx → EReal := m ((c : Thread nD τ).loc main_arg1)
abbrev argY (c : Dev nD) : S9216x2048.Idx → EReal := m ((c : Thread nD τ).loc main_arg2)
abbrev argG (c : Dev nD) : S8x1x12288.Idx → EReal := m ((c : Thread nD τ).loc main_arg3)

/-- An element of the block of rows. -/
theorem x_apply (c : Dev nD) (t : Fin cfg0.N) (r : Fin 1024) (k : Fin 2048) :
    (iblk m c 0 t : Vec Ideal S1024x2048 .bf16) (ix2 r k) = rd (argX m c) (t.val / 4 * 1024 + r.val) k.val := by
  unfold iblk
  rw [View.read_apply]
  show V m c main_arg0 _ = _
  rw [V_main_arg0]
  have h := idx t
  refine eq_rd_of _ _ ?_ ?_
  · show win0_0.index t 0 * 1024 + 1 * r.val = _; omega
  · show win0_0.index t 1 * 2048 + 1 * k.val = _; omega

/-- An element of the block of columns. -/
theorem w_apply (c : Dev nD) (t : Fin cfg0.N) (k : Fin 2048) (n : Fin 512) :
    (iblk m c 1 t : Vec Ideal S2048x512 .f32) (ix2 k n) = rd (argW m c) k.val (t.val % 4 * 512 + n.val) := by
  unfold iblk
  rw [View.read_apply]
  show V m c main_arg1 _ = _
  rw [V_main_arg1]
  have h := idx t
  refine eq_rd_of _ _ ?_ ?_
  · show win0_1.index t 0 * 2048 + 1 * k.val = _; omega
  · show win0_1.index t 1 * 512 + 1 * n.val = _; omega

/-- An element of the residual's block. -/
theorem y_apply (c : Dev nD) (t : Fin cfg0.N) (r : Fin 1024) (n : Fin 512) :
    (iblk m c 2 t : Vec Ideal S1024x512 .f32) (ix2 r n) = rd (argY m c) (t.val / 4 * 1024 + r.val) (t.val % 4 * 512 + n.val) := by
  unfold iblk
  rw [View.read_apply]
  show V m c main_arg2 _ = _
  rw [V_main_arg2]
  have h := idx t
  refine eq_rd_of _ _ ?_ ?_
  · show win0_2.index t 0 * 1024 + 1 * r.val = _; omega
  · show win0_2.index t 1 * 512 + 1 * n.val = _; omega

/-- An element of the gate's block. -/
theorem g_apply (c : Dev nD) (t : Fin cfg0.N) (n : Fin 512) :
    (iblk m c 3 t : Vec Ideal S1x1x512 .f32) (ix3 0 0 n) = rd3 (argG m c) (t.val / 8) 0 (4096 + (t.val % 4 * 512 + n.val)) := by
  unfold iblk
  rw [View.read_apply]
  show V m c main_arg3 _ = _
  rw [V_main_arg3]
  have h := idx t
  refine eq_rd3_of _ _ ?_ ?_ ?_
  · show win0_3.index t 0 * 1 + 1 * 0 = _; omega
  · show win0_3.index t 1 * 1 + 1 * 0 = _; omega
  · show win0_3.index t 2 * 512 + 1 * n.val = _; omega

/-- What a grid point leaves, at one element. -/
theorem outs_apply (c : Dev nD) (t : Fin cfg0.N) (r : Fin 1024) (n : Fin 512) :
    out0_4 (F := Ideal) (iblk m c 0 t) (iblk m c 1 t) (iblk m c 2 t) (iblk m c 3 t) (ix2 r n) = elt (argX m c) (argW m c) (argY m c) (argG m c) (t.val / 4 * 1024 + r.val) (t.val % 4 * 512 + n.val) := by
  rw [out_eq]
  refine (pay1_apply _ _ _ _ r n).trans ?_
  unfold elt prod
  have hb : (t.val / 4 * 1024 + r.val) / 2048 = t.val / 8 := by have := r.isLt; omega
  rw [hb]
  exact congrArg₂ (fun p q : EReal => p + q) (y_apply m c t r n) (congrArg₂ (fun p q : EReal => p * q) (g_apply m c t n)
    (Finset.sum_congr rfl fun k _ => congrArg₂ (fun p q : EReal => p * q) (x_apply m c t r k) (w_apply m c t k n)))

/-- Where an element of a grid point's output block lies in the array. -/
theorem emb_val (t : Fin cfg0.N) (y : S1024x512.Idx) :
    (((cfg0.win 4).blk t).view.emb y 0).val = t.val / 4 * 1024 + (y 0).val
    ∧ (((cfg0.win 4).blk t).view.emb y 1).val = t.val % 4 * 512 + (y 1).val := by
  have h := idx t
  constructor
  · show win0_4.index t 0 * 1024 + 1 * (y 0).val = _; omega
  · show win0_4.index t 1 * 512 + 1 * (y 1).val = _; omega

/-- A grid point's element is `result` at the element's place. -/
theorem outs_result (c : Dev nD) (t : Fin cfg0.N) (y : S1024x512.Idx) :
    out0_4 (F := Ideal) (iblk m c 0 t) (iblk m c 1 t) (iblk m c 2 t) (iblk m c 3 t) y = result (argX m c) (argW m c) (argY m c) (argG m c) (((cfg0.win 4).blk t).view.emb y) := by
  have h0 : (y 0).val < 1024 := (y 0).isLt
  have h1 : (y 1).val < 512 := (y 1).isLt
  have e : y = ix2 ⟨(y 0).val, h0⟩ ⟨(y 1).val, h1⟩ := funext fun a => match a with | ⟨0, _⟩ => rfl | ⟨1, _⟩ => rfl
  have e1 := congrArg (out0_4 (F := Ideal) (iblk m c 0 t) (iblk m c 1 t) (iblk m c 2 t) (iblk m c 3 t)) e
  have e2 := outs_apply m c t ⟨(y 0).val, h0⟩ ⟨(y 1).val, h1⟩
  have e3 := emb_val t y
  unfold result
  rw [e3.1, e3.2]
  exact e1.trans e2

/-- A grid point writes back its block of `result`. -/
theorem flushed_eq (c : Dev nD) (t : Fin cfg0.N) :
    (dats m 0 c).flushed 4 t = ((cfg0.win 4).blk t).view.read (Elt Ideal) (result (argX m c) (argW m c) (argY m c) (argG m c)) :=
  (Value.flushed4 m c t).trans (funext fun y => outs_result m c t y)

/-- An index is in a grid point's output block when its coordinates are. -/
theorem mem_blk (t : Fin cfg0.N) (i : S8192x2048.Idx) :
    i ∈ ((cfg0.win 4).blk t).view.set ↔
      (t.val / 4 * 1024 ≤ (i 0).val ∧ (i 0).val < t.val / 4 * 1024 + 1024)
      ∧ (t.val % 4 * 512 ≤ (i 1).val ∧ (i 1).val < t.val % 4 * 512 + 512) := by
  show i ∈ ((View.whole main_v0).slice (win0_4.rect t)).set ↔ _
  rw [View.set_slice_whole, Rect.mem_set_unit]
  have e : win0_4.index t 0 = t.val / 4 ∧ win0_4.index t 1 = t.val % 4 := by have h := idx t; exact ⟨by omega, by omega⟩
  rw [← e.1, ← e.2]
  refine ⟨fun h => ⟨h 0, h 1⟩, fun h a => ?_⟩
  match a with
  | ⟨0, _⟩ => exact h.1
  | ⟨1, _⟩ => exact h.2

/-- The output array after the run. -/
theorem final (c : Dev nD) : (dats m 0 c).arrAt 4 cfg0.N = result (argX m c) (argW m c) (argY m c) (argG m c) := by
  funext i
  have hN : cfg0.N = 32 := N_0
  have h0 : (i 0).val < 8192 := (i 0).isLt
  have h1 : (i 1).val < 2048 := (i 1).isLt
  have ht : (i 0).val / 1024 * 4 + (i 1).val / 512 < cfg0.N := by omega
  refine (dats m 0 c).arrAt_apply_of_mem 4 _ (fun t _ => flushed_eq m c t) cfg0.N ⟨_, ht⟩ i ht (flush0_4 _) ?_
  rw [mem_blk]
  dsimp only
  omega

/-- The run, read: the output array at `result` of the arguments, the arguments unchanged. -/
theorem run : θ_run defs (onTc (τ := τ) (main (F := Ideal))) ⟨m, fun _ => 0, ρ⟩ fun r => ∀ c : Dev nD,
      r.2.mem ((c : Thread nD τ).loc main_v0) = result (argX m c) (argW m c) (argY m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Kernel

section Reference

open Cert.Reference7Ideal Cert.Reference7Ideal.Gen Cert.Reference7Ideal.Read

variable (x0 : (⟨S8192x2048, .bf16⟩ : BufTy).Contents (Elt Ideal)) (x1 : (⟨S2048x2048, .f32⟩ : BufTy).Contents (Elt Ideal))
  (x2 : (⟨S9216x2048, .f32⟩ : BufTy).Contents (Elt Ideal)) (x3 : (⟨S8x1x12288, .f32⟩ : BufTy).Contents (Elt Ideal))

/-- The reference's product at an element. -/
theorem prod_at (i : S8192x2048.Idx) {r n : Nat} (h0 : (i 0).val = r) (h1 : (i 1).val = n) : val_main_v1 (F := Ideal) x0 x1 i = prod x0 x1 r n := by
  subst h0 h1
  exact (val_main_v1_apply x0 x1 i).trans (Finset.sum_congr rfl fun k _ =>
    congrArg₂ (fun p q : EReal => p * q) (eq_rd_of x0 _ rfl rfl) (eq_rd_of x1 _ rfl rfl))

/-- The reference's result is the kernel's. -/
theorem result_eq : val_main_v9 (F := Ideal) x0 x1 x2 x3 = result x0 x1 x2 x3 := funext fun i => by
  have h0 : (i 0).val < 8192 := (i 0).isLt
  have h1 : (i 1).val < 2048 := (i 1).isLt
  refine (val_main_v9_apply x0 x1 x2 x3 i).trans ((val_main_v8_apply x0 x1 x2 x3 _).trans ?_)
  refine congrArg₂ (fun p q : EReal => p + q) ?_ ((val_main_v7_apply x0 x1 x3 _).trans (congrArg₂ (fun p q : EReal => p * q) ?_ ?_))
  · refine (val_main_v4_apply x2 _).trans ((val_main_v3_apply x2 _).trans (eq_rd_of x2 _ ?_ ?_))
    · show ((((i 0).val * 2048 + (i 1).val) / 4194304 * 2048 + ((i 0).val * 2048 + (i 1).val) / 2048 % 2048) * 2048 + ((i 0).val * 2048 + (i 1).val) % 2048) / 2048 = (i 0).val
      omega
    · show ((((i 0).val * 2048 + (i 1).val) / 4194304 * 2048 + ((i 0).val * 2048 + (i 1).val) / 2048 % 2048) * 2048 + ((i 0).val * 2048 + (i 1).val) % 2048) % 2048 = (i 1).val
      omega
  · refine (val_main_v6_apply x3 _).trans ((val_main_v5_apply x3 _).trans (eq_rd3_of x3 _ ?_ rfl ?_))
    · show ((i 0).val * 2048 + (i 1).val) / 4194304 = (i 0).val / 2048
      omega
    · show 4096 + ((i 0).val * 2048 + (i 1).val) % 2048 = 4096 + (i 1).val
      omega
  · refine (val_main_v2_apply x0 x1 _).trans (prod_at x0 x1 _ ?_ ?_)
    · show ((((i 0).val * 2048 + (i 1).val) / 4194304 * 2048 + ((i 0).val * 2048 + (i 1).val) / 2048 % 2048) * 2048 + ((i 0).val * 2048 + (i 1).val) % 2048) / 2048 = (i 0).val
      omega
    · show ((((i 0).val * 2048 + (i 1).val) / 4194304 * 2048 + ((i 0).val * 2048 + (i 1).val) / 2048 % 2048) * 2048 + ((i 0).val * 2048 + (i 1).val) % 2048) % 2048 = (i 1).val
      omega

end Reference

/-! ## The claims -/

/-- The kernel at the machine's floats runs and leaves its arguments unchanged. -/
theorem frame_kernel : Cert.quiescent_Kernel7 (hKernel7 := Cert.Kernel7.Gen.facts) := fun m ρ _ => Cert.Kernel7.Gen.frame m ρ

/-- The kernel at the ideal instance. -/
theorem frame_ideal : Cert.quiescent_Kernel7Ideal (hKernel7Ideal := Cert.Kernel7Ideal.Gen.facts) :=
  fun m ρ _ => Cert.Kernel7Ideal.Gen.frame m ρ

/-- The reference. -/
theorem frame_reference : Cert.quiescent_Reference7Ideal (hReference7Ideal := Cert.Reference7Ideal.Gen.facts) := fun m ρ _ =>
  (θ_run Cert.Reference7Ideal.defs _ _).mono (fun _ h => ⟨fun c => (h c).2, funext fun s => nomatch s⟩)
    (Cert.Reference7Ideal.Value.run m ρ)

/-- From equal arguments kernel and reference end with equal results. -/
theorem algebraic : Cert.algebraic_Kernel7Ideal_Reference7Ideal
    (hKernel7Ideal := Cert.Kernel7Ideal.Gen.facts) (hReference7Ideal := Cert.Reference7Ideal.Gen.facts) := fun m ρ m' ρ' _ hag =>
  ⟨fun c => result (m ((c.tc : Thread _ _).loc Cert.Kernel7Ideal.main_arg0)) (m ((c.tc : Thread _ _).loc Cert.Kernel7Ideal.main_arg1)) (m ((c.tc : Thread _ _).loc Cert.Kernel7Ideal.main_arg2)) (m ((c.tc : Thread _ _).loc Cert.Kernel7Ideal.main_arg3)), run m ρ,
    (θ_run Cert.Reference7Ideal.defs _ _).mono (fun _ h c => by
      obtain ⟨hv, h0, h1, h2, h3⟩ := h c
      refine ⟨?_, h0, h1, h2, h3⟩
      rw [hv, Cert.Reference7Ideal.Read.val_main_v9_eq, (hag c).1, (hag c).2.1, (hag c).2.2.1, (hag c).2.2.2]
      exact result_eq _ _ _ _)
      (Cert.Reference7Ideal.Value.run m' ρ')⟩

end Cert.Proj7

end
-- ==== Proof.Proj8.lean ====
/- The adaLN modulation of layer 0: the product of the conditioning through silu and the layer's weights, and the bias. Kernel
   and reference equal. -/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.MoeMath
public import Idealize.ShloMosaic.Lib.Pointwise

@[expose] public section

set_option maxRecDepth 16384

noncomputable section

namespace Cert.Proj8

open Idealize.ShloMosaic Idealize.ShloMosaic.TcCoe Idealize.SL.Sem
open Cert.Grid2
open Cert.Moe (rd3 eq_rd3_of)

section Kernel

open Cert.Kernel8Ideal Cert.Kernel8Ideal.Gen

theorem hz : (![0, 0] : Fin 2 → Nat) = fun _ => 0 := funext fun a => by fin_cases a <;> rfl

/-- The constant one. -/
theorem one_eq : Ideal.ofBits .f32 0x3F800000#32 = 1 := by
  have h : Ideal.ofBits .f32 0x3F800000#32 = (((8388608 : ℝ) * ((2 : ℝ) ^ 23)⁻¹ : ℝ) : EReal) := by simp [Ideal.ofBits, Ideal.ieee]
  rw [h]
  norm_num

/-- The silu, as the kernel and the reference compute it. -/
def silu (x : EReal) : EReal := x * Ideal.div (Ideal.ofBits .f32 0x3F800000#32) (Ideal.ofBits .f32 0x3F800000#32 + Ideal.exp (-x))

/-- The result array: row by column, plus the bias. -/
def result (X : S8x2048.Idx → EReal) (W : S4096x12288.Idx → EReal) (B : S1x12288.Idx → EReal) : S8x12288.Idx → EReal :=
  fun i => (∑ k : Fin 2048, silu (rd X (i 0).val k.val) * rd W (0 + k.val) (i 1).val) + rd B 0 (i 1).val

/-- The body's arithmetic at one element. -/
theorem pay1_apply (x : Vec Ideal S8x2048 .f32) (w : Vec Ideal S2048x512 .f32) (b : Vec Ideal S1x512 .f32) (r : Fin 8) (n : Fin 512) :
    k0_pay1 (F := Ideal) x w b (ix2 r n) = (∑ k : Fin 2048, silu (x (ix2 r k)) * w (ix2 k n)) + b (ix2 0 n) := by
  unfold_payloads
  pointwise
  simp only [silu, one_eq, zero_sub]

variable (m : (ℓ : Loc nD τ sig) → Buf (Elt Ideal) ℓ) (ρ : Dev nD → PrngReg)

/-- What the body leaves in the output's buffer is its arithmetic of the blocks. -/
theorem out_eq (x : Vec Ideal S8x2048 .f32) (w : Vec Ideal S2048x512 .f32) (b : Vec Ideal S1x512 .f32) : out0_3 (F := Ideal) x w b = k0_pay1 x w b := by
  unfold out0_3
  rw [View.canon_unit_zero hz]
  simp only [View.ld_unit_zero (S := S8x2048) hz, View.ld_unit_zero (S := S2048x512) hz, View.ld_unit_zero (S := S1x512) hz]

/-- Every window's block index at every grid point. -/
theorem idx (t : Fin grid0.N) :
    (win0_0.index t 0 = 0 ∧ win0_0.index t 1 = 0)
    ∧ (win0_1.index t 0 = 0 ∧ win0_1.index t 1 = t.val)
    ∧ (win0_2.index t 0 = 0 ∧ win0_2.index t 1 = t.val)
    ∧ (win0_3.index t 0 = 0 ∧ win0_3.index t 1 = t.val) :=
  (by decide +kernel : ∀ t : Fin grid0.N,
    (win0_0.index t 0 = 0 ∧ win0_0.index t 1 = 0)
    ∧ (win0_1.index t 0 = 0 ∧ win0_1.index t 1 = t.val)
    ∧ (win0_2.index t 0 = 0 ∧ win0_2.index t 1 = t.val)
    ∧ (win0_3.index t 0 = 0 ∧ win0_3.index t 1 = t.val)) t

abbrev argX (c : Dev nD) : S8x2048.Idx → EReal := m ((c : Thread nD τ).loc main_arg0)
abbrev argW (c : Dev nD) : S4096x12288.Idx → EReal := m ((c : Thread nD τ).loc main_arg1)
abbrev argB (c : Dev nD) : S1x12288.Idx → EReal := m ((c : Thread nD τ).loc main_arg2)

/-- An element of the conditioning. -/
theorem x_apply (c : Dev nD) (t : Fin cfg0.N) (r : Fin 8) (k : Fin 2048) :
    (iblk m c 0 t : Vec Ideal S8x2048 .f32) (ix2 r k) = rd (argX m c) r.val k.val := by
  unfold iblk
  rw [View.read_apply]
  show V m c main_arg0 _ = _
  rw [V_main_arg0]
  have h := idx t
  refine eq_rd_of _ _ ?_ ?_
  · show win0_0.index t 0 * 8 + 1 * r.val = _; omega
  · show win0_0.index t 1 * 2048 + 1 * k.val = _; omega

/-- An element of the block of columns. -/
theorem w_apply (c : Dev nD) (t : Fin cfg0.N) (k : Fin 2048) (n : Fin 512) :
    (iblk m c 1 t : Vec Ideal S2048x512 .f32) (ix2 k n) = rd (argW m c) (0 + k.val) (t.val * 512 + n.val) := by
  unfold iblk
  rw [View.read_apply]
  show V m c main_arg1 _ = _
  rw [V_main_arg1]
  have h := idx t
  refine eq_rd_of _ _ ?_ ?_
  · show win0_1.index t 0 * 2048 + 1 * k.val = _; omega
  · show win0_1.index t 1 * 512 + 1 * n.val = _; omega

/-- An element of the bias's block. -/
theorem b_apply (c : Dev nD) (t : Fin cfg0.N) (n : Fin 512) :
    (iblk m c 2 t : Vec Ideal S1x512 .f32) (ix2 0 n) = rd (argB m c) 0 (t.val * 512 + n.val) := by
  unfold iblk
  rw [View.read_apply]
  show V m c main_arg2 _ = _
  rw [V_main_arg2]
  have h := idx t
  refine eq_rd_of _ _ ?_ ?_
  · show win0_2.index t 0 * 1 + 1 * 0 = _; omega
  · show win0_2.index t 1 * 512 + 1 * n.val = _; omega

/-- What a grid point leaves, at one element. -/
theorem outs_apply (c : Dev nD) (t : Fin cfg0.N) (r : Fin 8) (n : Fin 512) :
    out0_3 (F := Ideal) (iblk m c 0 t) (iblk m c 1 t) (iblk m c 2 t) (ix2 r n)
      = (∑ k : Fin 2048, silu (rd (argX m c) (0 * 8 + r.val) k.val) * rd (argW m c) (0 + k.val) (t.val * 512 + n.val)) + rd (argB m c) 0 (t.val * 512 + n.val) := by
  rw [out_eq]
  refine (pay1_apply _ _ _ r n).trans ?_
  refine congrArg₂ (fun p q : EReal => p + q) (Finset.sum_congr rfl fun k _ => congrArg₂ (fun p q : EReal => p * q) (congrArg silu ?_) (w_apply m c t k n)) (b_apply m c t n)
  rw [show 0 * 8 + r.val = r.val by omega]
  exact x_apply m c t r k

/-- Where an element of a grid point's output block lies in the array. -/
theorem emb_val (t : Fin cfg0.N) (y : S8x512.Idx) :
    (((cfg0.win 3).blk t).view.emb y 0).val = 0 * 8 + (y 0).val
    ∧ (((cfg0.win 3).blk t).view.emb y 1).val = t.val * 512 + (y 1).val := by
  have h := idx t
  constructor
  · show win0_3.index t 0 * 8 + 1 * (y 0).val = _; omega
  · show win0_3.index t 1 * 512 + 1 * (y 1).val = _; omega

/-- A grid point's element is `result` at the element's place. -/
theorem outs_result (c : Dev nD) (t : Fin cfg0.N) (y : S8x512.Idx) :
    out0_3 (F := Ideal) (iblk m c 0 t) (iblk m c 1 t) (iblk m c 2 t) y = result (argX m c) (argW m c) (argB m c) (((cfg0.win 3).blk t).view.emb y) := by
  have h0 : (y 0).val < 8 := (y 0).isLt
  have h1 : (y 1).val < 512 := (y 1).isLt
  have e : y = ix2 ⟨(y 0).val, h0⟩ ⟨(y 1).val, h1⟩ := funext fun a => match a with | ⟨0, _⟩ => rfl | ⟨1, _⟩ => rfl
  have e1 := congrArg (out0_3 (F := Ideal) (iblk m c 0 t) (iblk m c 1 t) (iblk m c 2 t)) e
  have e2 := outs_apply m c t ⟨(y 0).val, h0⟩ ⟨(y 1).val, h1⟩
  have e3 := emb_val t y
  unfold result
  rw [e3.1, e3.2]
  exact e1.trans e2

/-- A grid point writes back its block of `result`. -/
theorem flushed_eq (c : Dev nD) (t : Fin cfg0.N) :
    (dats m 0 c).flushed 3 t = ((cfg0.win 3).blk t).view.read (Elt Ideal) (result (argX m c) (argW m c) (argB m c)) :=
  (Value.flushed3 m c t).trans (funext fun y => outs_result m c t y)

/-- An index is in a grid point's output block when its coordinates are. -/
theorem mem_blk (t : Fin cfg0.N) (i : S8x12288.Idx) :
    i ∈ ((cfg0.win 3).blk t).view.set ↔
      (0 * 8 ≤ (i 0).val ∧ (i 0).val < 0 * 8 + 8)
      ∧ (t.val * 512 ≤ (i 1).val ∧ (i 1).val < t.val * 512 + 512) := by
  show i ∈ ((View.whole main_v0).slice (win0_3.rect t)).set ↔ _
  rw [View.set_slice_whole, Rect.mem_set_unit]
  have e : win0_3.index t 0 = 0 ∧ win0_3.index t 1 = t.val := by have h := idx t; exact ⟨by omega, by omega⟩
  rw [← e.1, ← e.2]
  refine ⟨fun h => ⟨h 0, h 1⟩, fun h a => ?_⟩
  match a with
  | ⟨0, _⟩ => exact h.1
  | ⟨1, _⟩ => exact h.2

/-- The output array after the run. -/
theorem final (c : Dev nD) : (dats m 0 c).arrAt 3 cfg0.N = result (argX m c) (argW m c) (argB m c) := by
  funext i
  have hN : cfg0.N = 24 := N_0
  have h0 : (i 0).val < 8 := (i 0).isLt
  have h1 : (i 1).val < 12288 := (i 1).isLt
  have ht : (i 1).val / 512 < cfg0.N := by omega
  refine (dats m 0 c).arrAt_apply_of_mem 3 _ (fun t _ => flushed_eq m c t) cfg0.N ⟨_, ht⟩ i ht (flush0_3 _) ?_
  rw [mem_blk]
  dsimp only
  omega

/-- The run, read: the output array at `result` of the arguments, the arguments unchanged. -/
theorem run : θ_run defs (onTc (τ := τ) (main (F := Ideal))) ⟨m, fun _ => 0, ρ⟩ fun r => ∀ c : Dev nD,
      r.2.mem ((c : Thread nD τ).loc main_v0) = result (argX m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Kernel

section Reference

open Cert.Reference8Ideal Cert.Reference8Ideal.Gen Cert.Reference8Ideal.Read

variable (x0 : (⟨S8x2048, .f32⟩ : BufTy).Contents (Elt Ideal)) (x1 : (⟨S4096x12288, .f32⟩ : BufTy).Contents (Elt Ideal))
  (x2 : (⟨S1x12288, .f32⟩ : BufTy).Contents (Elt Ideal))

theorem silu_at (i : S8x2048.Idx) : val_main_v0 (F := Ideal) x0 i = silu (x0 i) := by
  rw [val_main_v0_apply, val_main_call0_v5_apply, val_main_call0_v4_apply, val_main_call0_v3_apply, val_main_call0_v2_apply,
    val_main_call0_v1_apply, val_main_call0_v0_apply, val_main_call0_cst_apply, val_main_call0_cst_0_apply]
  rfl

/-- The reference's result is the kernel's. -/
theorem result_eq : val_main_v4 (F := Ideal) x0 x1 x2 = result x0 x1 x2 := funext fun i =>
  (val_main_v4_apply x0 x1 x2 i).trans (congrArg₂ (fun p q : EReal => p + q)
    ((val_main_v2_apply x0 x1 i).trans (Finset.sum_congr rfl fun k _ => congrArg₂ (fun p q : EReal => p * q)
      ((silu_at x0 _).trans (congrArg silu (eq_rd_of x0 _ rfl rfl)))
      ((val_main_v1_apply x1 _).trans (eq_rd_of x1 _ (Nat.zero_add _).symm rfl))))
    ((val_main_v3_apply x2 i).trans (eq_rd_of x2 _ rfl rfl)))

end Reference

/-! ## The claims -/

/-- The kernel at the machine's floats runs and leaves its arguments unchanged. -/
theorem frame_kernel : Cert.quiescent_Kernel8 (hKernel8 := Cert.Kernel8.Gen.facts) := fun m ρ _ => Cert.Kernel8.Gen.frame m ρ

/-- The kernel at the ideal instance. -/
theorem frame_ideal : Cert.quiescent_Kernel8Ideal (hKernel8Ideal := Cert.Kernel8Ideal.Gen.facts) :=
  fun m ρ _ => Cert.Kernel8Ideal.Gen.frame m ρ

/-- The reference. -/
theorem frame_reference : Cert.quiescent_Reference8Ideal (hReference8Ideal := Cert.Reference8Ideal.Gen.facts) := fun m ρ _ =>
  (θ_run Cert.Reference8Ideal.defs _ _).mono (fun _ h => ⟨fun c => (h c).2, funext fun s => nomatch s⟩)
    (Cert.Reference8Ideal.Value.run m ρ)

/-- From equal arguments kernel and reference end with equal results. -/
theorem algebraic : Cert.algebraic_Kernel8Ideal_Reference8Ideal
    (hKernel8Ideal := Cert.Kernel8Ideal.Gen.facts) (hReference8Ideal := Cert.Reference8Ideal.Gen.facts) := fun m ρ m' ρ' _ hag =>
  ⟨fun c => result (m ((c.tc : Thread _ _).loc Cert.Kernel8Ideal.main_arg0)) (m ((c.tc : Thread _ _).loc Cert.Kernel8Ideal.main_arg1)) (m ((c.tc : Thread _ _).loc Cert.Kernel8Ideal.main_arg2)), run m ρ,
    (θ_run Cert.Reference8Ideal.defs _ _).mono (fun _ h c => by
      obtain ⟨hv, h0, h1, h2⟩ := h c
      refine ⟨?_, h0, h1, h2⟩
      rw [hv, Cert.Reference8Ideal.Read.val_main_v4_eq, (hag c).1, (hag c).2.1, (hag c).2.2]
      exact result_eq _ _ _)
      (Cert.Reference8Ideal.Value.run m' ρ')⟩

end Cert.Proj8

end
-- ==== Proof.Proj9.lean ====
/- The adaLN modulation of layer 1: the product of the conditioning through silu and the layer's weights, and the bias. Kernel
   and reference equal. -/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.MoeMath
public import Idealize.ShloMosaic.Lib.Pointwise

@[expose] public section

set_option maxRecDepth 16384

noncomputable section

namespace Cert.Proj9

open Idealize.ShloMosaic Idealize.ShloMosaic.TcCoe Idealize.SL.Sem
open Cert.Grid2
open Cert.Moe (rd3 eq_rd3_of)

section Kernel

open Cert.Kernel9Ideal Cert.Kernel9Ideal.Gen

theorem hz : (![0, 0] : Fin 2 → Nat) = fun _ => 0 := funext fun a => by fin_cases a <;> rfl

/-- The constant one. -/
theorem one_eq : Ideal.ofBits .f32 0x3F800000#32 = 1 := by
  have h : Ideal.ofBits .f32 0x3F800000#32 = (((8388608 : ℝ) * ((2 : ℝ) ^ 23)⁻¹ : ℝ) : EReal) := by simp [Ideal.ofBits, Ideal.ieee]
  rw [h]
  norm_num

/-- The silu, as the kernel and the reference compute it. -/
def silu (x : EReal) : EReal := x * Ideal.div (Ideal.ofBits .f32 0x3F800000#32) (Ideal.ofBits .f32 0x3F800000#32 + Ideal.exp (-x))

/-- The result array: row by column, plus the bias. -/
def result (X : S8x2048.Idx → EReal) (W : S4096x12288.Idx → EReal) (B : S1x12288.Idx → EReal) : S8x12288.Idx → EReal :=
  fun i => (∑ k : Fin 2048, silu (rd X (i 0).val k.val) * rd W (2048 + k.val) (i 1).val) + rd B 0 (i 1).val

/-- The body's arithmetic at one element. -/
theorem pay1_apply (x : Vec Ideal S8x2048 .f32) (w : Vec Ideal S2048x512 .f32) (b : Vec Ideal S1x512 .f32) (r : Fin 8) (n : Fin 512) :
    k0_pay1 (F := Ideal) x w b (ix2 r n) = (∑ k : Fin 2048, silu (x (ix2 r k)) * w (ix2 k n)) + b (ix2 0 n) := by
  unfold_payloads
  pointwise
  simp only [silu, one_eq, zero_sub]

variable (m : (ℓ : Loc nD τ sig) → Buf (Elt Ideal) ℓ) (ρ : Dev nD → PrngReg)

/-- What the body leaves in the output's buffer is its arithmetic of the blocks. -/
theorem out_eq (x : Vec Ideal S8x2048 .f32) (w : Vec Ideal S2048x512 .f32) (b : Vec Ideal S1x512 .f32) : out0_3 (F := Ideal) x w b = k0_pay1 x w b := by
  unfold out0_3
  rw [View.canon_unit_zero hz]
  simp only [View.ld_unit_zero (S := S8x2048) hz, View.ld_unit_zero (S := S2048x512) hz, View.ld_unit_zero (S := S1x512) hz]

/-- Every window's block index at every grid point. -/
theorem idx (t : Fin grid0.N) :
    (win0_0.index t 0 = 0 ∧ win0_0.index t 1 = 0)
    ∧ (win0_1.index t 0 = 1 ∧ win0_1.index t 1 = t.val)
    ∧ (win0_2.index t 0 = 0 ∧ win0_2.index t 1 = t.val)
    ∧ (win0_3.index t 0 = 0 ∧ win0_3.index t 1 = t.val) :=
  (by decide +kernel : ∀ t : Fin grid0.N,
    (win0_0.index t 0 = 0 ∧ win0_0.index t 1 = 0)
    ∧ (win0_1.index t 0 = 1 ∧ win0_1.index t 1 = t.val)
    ∧ (win0_2.index t 0 = 0 ∧ win0_2.index t 1 = t.val)
    ∧ (win0_3.index t 0 = 0 ∧ win0_3.index t 1 = t.val)) t

abbrev argX (c : Dev nD) : S8x2048.Idx → EReal := m ((c : Thread nD τ).loc main_arg0)
abbrev argW (c : Dev nD) : S4096x12288.Idx → EReal := m ((c : Thread nD τ).loc main_arg1)
abbrev argB (c : Dev nD) : S1x12288.Idx → EReal := m ((c : Thread nD τ).loc main_arg2)

/-- An element of the conditioning. -/
theorem x_apply (c : Dev nD) (t : Fin cfg0.N) (r : Fin 8) (k : Fin 2048) :
    (iblk m c 0 t : Vec Ideal S8x2048 .f32) (ix2 r k) = rd (argX m c) r.val k.val := by
  unfold iblk
  rw [View.read_apply]
  show V m c main_arg0 _ = _
  rw [V_main_arg0]
  have h := idx t
  refine eq_rd_of _ _ ?_ ?_
  · show win0_0.index t 0 * 8 + 1 * r.val = _; omega
  · show win0_0.index t 1 * 2048 + 1 * k.val = _; omega

/-- An element of the block of columns. -/
theorem w_apply (c : Dev nD) (t : Fin cfg0.N) (k : Fin 2048) (n : Fin 512) :
    (iblk m c 1 t : Vec Ideal S2048x512 .f32) (ix2 k n) = rd (argW m c) (2048 + k.val) (t.val * 512 + n.val) := by
  unfold iblk
  rw [View.read_apply]
  show V m c main_arg1 _ = _
  rw [V_main_arg1]
  have h := idx t
  refine eq_rd_of _ _ ?_ ?_
  · show win0_1.index t 0 * 2048 + 1 * k.val = _; omega
  · show win0_1.index t 1 * 512 + 1 * n.val = _; omega

/-- An element of the bias's block. -/
theorem b_apply (c : Dev nD) (t : Fin cfg0.N) (n : Fin 512) :
    (iblk m c 2 t : Vec Ideal S1x512 .f32) (ix2 0 n) = rd (argB m c) 0 (t.val * 512 + n.val) := by
  unfold iblk
  rw [View.read_apply]
  show V m c main_arg2 _ = _
  rw [V_main_arg2]
  have h := idx t
  refine eq_rd_of _ _ ?_ ?_
  · show win0_2.index t 0 * 1 + 1 * 0 = _; omega
  · show win0_2.index t 1 * 512 + 1 * n.val = _; omega

/-- What a grid point leaves, at one element. -/
theorem outs_apply (c : Dev nD) (t : Fin cfg0.N) (r : Fin 8) (n : Fin 512) :
    out0_3 (F := Ideal) (iblk m c 0 t) (iblk m c 1 t) (iblk m c 2 t) (ix2 r n)
      = (∑ k : Fin 2048, silu (rd (argX m c) (0 * 8 + r.val) k.val) * rd (argW m c) (2048 + k.val) (t.val * 512 + n.val)) + rd (argB m c) 0 (t.val * 512 + n.val) := by
  rw [out_eq]
  refine (pay1_apply _ _ _ r n).trans ?_
  refine congrArg₂ (fun p q : EReal => p + q) (Finset.sum_congr rfl fun k _ => congrArg₂ (fun p q : EReal => p * q) (congrArg silu ?_) (w_apply m c t k n)) (b_apply m c t n)
  rw [show 0 * 8 + r.val = r.val by omega]
  exact x_apply m c t r k

/-- Where an element of a grid point's output block lies in the array. -/
theorem emb_val (t : Fin cfg0.N) (y : S8x512.Idx) :
    (((cfg0.win 3).blk t).view.emb y 0).val = 0 * 8 + (y 0).val
    ∧ (((cfg0.win 3).blk t).view.emb y 1).val = t.val * 512 + (y 1).val := by
  have h := idx t
  constructor
  · show win0_3.index t 0 * 8 + 1 * (y 0).val = _; omega
  · show win0_3.index t 1 * 512 + 1 * (y 1).val = _; omega

/-- A grid point's element is `result` at the element's place. -/
theorem outs_result (c : Dev nD) (t : Fin cfg0.N) (y : S8x512.Idx) :
    out0_3 (F := Ideal) (iblk m c 0 t) (iblk m c 1 t) (iblk m c 2 t) y = result (argX m c) (argW m c) (argB m c) (((cfg0.win 3).blk t).view.emb y) := by
  have h0 : (y 0).val < 8 := (y 0).isLt
  have h1 : (y 1).val < 512 := (y 1).isLt
  have e : y = ix2 ⟨(y 0).val, h0⟩ ⟨(y 1).val, h1⟩ := funext fun a => match a with | ⟨0, _⟩ => rfl | ⟨1, _⟩ => rfl
  have e1 := congrArg (out0_3 (F := Ideal) (iblk m c 0 t) (iblk m c 1 t) (iblk m c 2 t)) e
  have e2 := outs_apply m c t ⟨(y 0).val, h0⟩ ⟨(y 1).val, h1⟩
  have e3 := emb_val t y
  unfold result
  rw [e3.1, e3.2]
  exact e1.trans e2

/-- A grid point writes back its block of `result`. -/
theorem flushed_eq (c : Dev nD) (t : Fin cfg0.N) :
    (dats m 0 c).flushed 3 t = ((cfg0.win 3).blk t).view.read (Elt Ideal) (result (argX m c) (argW m c) (argB m c)) :=
  (Value.flushed3 m c t).trans (funext fun y => outs_result m c t y)

/-- An index is in a grid point's output block when its coordinates are. -/
theorem mem_blk (t : Fin cfg0.N) (i : S8x12288.Idx) :
    i ∈ ((cfg0.win 3).blk t).view.set ↔
      (0 * 8 ≤ (i 0).val ∧ (i 0).val < 0 * 8 + 8)
      ∧ (t.val * 512 ≤ (i 1).val ∧ (i 1).val < t.val * 512 + 512) := by
  show i ∈ ((View.whole main_v0).slice (win0_3.rect t)).set ↔ _
  rw [View.set_slice_whole, Rect.mem_set_unit]
  have e : win0_3.index t 0 = 0 ∧ win0_3.index t 1 = t.val := by have h := idx t; exact ⟨by omega, by omega⟩
  rw [← e.1, ← e.2]
  refine ⟨fun h => ⟨h 0, h 1⟩, fun h a => ?_⟩
  match a with
  | ⟨0, _⟩ => exact h.1
  | ⟨1, _⟩ => exact h.2

/-- The output array after the run. -/
theorem final (c : Dev nD) : (dats m 0 c).arrAt 3 cfg0.N = result (argX m c) (argW m c) (argB m c) := by
  funext i
  have hN : cfg0.N = 24 := N_0
  have h0 : (i 0).val < 8 := (i 0).isLt
  have h1 : (i 1).val < 12288 := (i 1).isLt
  have ht : (i 1).val / 512 < cfg0.N := by omega
  refine (dats m 0 c).arrAt_apply_of_mem 3 _ (fun t _ => flushed_eq m c t) cfg0.N ⟨_, ht⟩ i ht (flush0_3 _) ?_
  rw [mem_blk]
  dsimp only
  omega

/-- The run, read: the output array at `result` of the arguments, the arguments unchanged. -/
theorem run : θ_run defs (onTc (τ := τ) (main (F := Ideal))) ⟨m, fun _ => 0, ρ⟩ fun r => ∀ c : Dev nD,
      r.2.mem ((c : Thread nD τ).loc main_v0) = result (argX m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Kernel

section Reference

open Cert.Reference9Ideal Cert.Reference9Ideal.Gen Cert.Reference9Ideal.Read

variable (x0 : (⟨S8x2048, .f32⟩ : BufTy).Contents (Elt Ideal)) (x1 : (⟨S4096x12288, .f32⟩ : BufTy).Contents (Elt Ideal))
  (x2 : (⟨S1x12288, .f32⟩ : BufTy).Contents (Elt Ideal))

theorem silu_at (i : S8x2048.Idx) : val_main_v0 (F := Ideal) x0 i = silu (x0 i) := by
  rw [val_main_v0_apply, val_main_call0_v5_apply, val_main_call0_v4_apply, val_main_call0_v3_apply, val_main_call0_v2_apply,
    val_main_call0_v1_apply, val_main_call0_v0_apply, val_main_call0_cst_apply, val_main_call0_cst_0_apply]
  rfl

/-- The reference's result is the kernel's. -/
theorem result_eq : val_main_v4 (F := Ideal) x0 x1 x2 = result x0 x1 x2 := funext fun i =>
  (val_main_v4_apply x0 x1 x2 i).trans (congrArg₂ (fun p q : EReal => p + q)
    ((val_main_v2_apply x0 x1 i).trans (Finset.sum_congr rfl fun k _ => congrArg₂ (fun p q : EReal => p * q)
      ((silu_at x0 _).trans (congrArg silu (eq_rd_of x0 _ rfl rfl)))
      ((val_main_v1_apply x1 _).trans (eq_rd_of x1 _ rfl rfl))))
    ((val_main_v3_apply x2 i).trans (eq_rd_of x2 _ rfl rfl)))

end Reference

/-! ## The claims -/

/-- The kernel at the machine's floats runs and leaves its arguments unchanged. -/
theorem frame_kernel : Cert.quiescent_Kernel9 (hKernel9 := Cert.Kernel9.Gen.facts) := fun m ρ _ => Cert.Kernel9.Gen.frame m ρ

/-- The kernel at the ideal instance. -/
theorem frame_ideal : Cert.quiescent_Kernel9Ideal (hKernel9Ideal := Cert.Kernel9Ideal.Gen.facts) :=
  fun m ρ _ => Cert.Kernel9Ideal.Gen.frame m ρ

/-- The reference. -/
theorem frame_reference : Cert.quiescent_Reference9Ideal (hReference9Ideal := Cert.Reference9Ideal.Gen.facts) := fun m ρ _ =>
  (θ_run Cert.Reference9Ideal.defs _ _).mono (fun _ h => ⟨fun c => (h c).2, funext fun s => nomatch s⟩)
    (Cert.Reference9Ideal.Value.run m ρ)

/-- From equal arguments kernel and reference end with equal results. -/
theorem algebraic : Cert.algebraic_Kernel9Ideal_Reference9Ideal
    (hKernel9Ideal := Cert.Kernel9Ideal.Gen.facts) (hReference9Ideal := Cert.Reference9Ideal.Gen.facts) := fun m ρ m' ρ' _ hag =>
  ⟨fun c => result (m ((c.tc : Thread _ _).loc Cert.Kernel9Ideal.main_arg0)) (m ((c.tc : Thread _ _).loc Cert.Kernel9Ideal.main_arg1)) (m ((c.tc : Thread _ _).loc Cert.Kernel9Ideal.main_arg2)), run m ρ,
    (θ_run Cert.Reference9Ideal.defs _ _).mono (fun _ h c => by
      obtain ⟨hv, h0, h1, h2⟩ := h c
      refine ⟨?_, h0, h1, h2⟩
      rw [hv, Cert.Reference9Ideal.Read.val_main_v4_eq, (hag c).1, (hag c).2.1, (hag c).2.2]
      exact result_eq _ _ _)
      (Cert.Reference9Ideal.Value.run m' ρ')⟩

end Cert.Proj9

end
-- ==== Proof.Proj10.lean ====
/- The norm before a mixer with its shift and scale: kernel and reference equal. -/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.MoeMath
public import Idealize.ShloMosaic.Lib.Pointwise

@[expose] public section

set_option maxRecDepth 16384

noncomputable section

namespace Cert.Proj10

open Idealize.ShloMosaic Idealize.ShloMosaic.TcCoe Idealize.SL.Sem
open Cert.Grid2
open Cert.Moe (rd3 eq_rd3_of)

section Kernel

open Cert.Kernel10Ideal Cert.Kernel10Ideal.Gen

theorem hz : (![0, 0] : Fin 2 → Nat) = fun _ => 0 := funext fun a => by fin_cases a <;> rfl
theorem hz3 : (![0, 0, 0] : Fin 3 → Nat) = fun _ => 0 := funext fun a => by fin_cases a <;> rfl

/-- The constant one. -/
theorem one_eq : Ideal.ofBits .f32 0x3F800000#32 = 1 := by
  have h : Ideal.ofBits .f32 0x3F800000#32 = (((8388608 : ℝ) * ((2 : ℝ) ^ 23)⁻¹ : ℝ) : EReal) := by simp [Ideal.ofBits, Ideal.ieee]
  rw [h]
  norm_num

/-- One element of the norm: the row `f` of the input at its element `x`, the gain `g`, and the batch's scale and shift. -/
def nrm (f : Fin 2048 → EReal) (x g scale shift : EReal) : EReal :=
  x * Ideal.rsqrt (Ideal.div (∑ k, f k * f k) (Ideal.ofBits .f32 0x45000000#32) + Ideal.ofBits .f32 0x358637BD#32) * g
    * (Ideal.ofBits .f32 0x3F800000#32 + scale) + shift

/-- One element of the result; the batch of a row is its number over 2048, the context's rows from 8192 on take row 4. -/
def elt (X : S9216x2048.Idx → EReal) (G : S1x2048.Idx → EReal) (M : S8x1x12288.Idx → EReal) (r n : Nat) : EReal :=
  nrm (fun k => rd X r k.val) (rd X r n) (rd G 0 n) (rd3 M (r / 2048) 0 (2048 + n)) (rd3 M (r / 2048) 0 n)

/-- The result array. -/
def result (X : S9216x2048.Idx → EReal) (G : S1x2048.Idx → EReal) (M : S8x1x12288.Idx → EReal) : S9216x2048.Idx → EReal :=
  fun i => elt X G M (i 0).val (i 1).val

/-- The body's arithmetic at one element. -/
theorem pay1_apply (x : Vec Ideal S512x2048 .f32) (g : Vec Ideal S1x2048 .f32) (scale shift : Vec Ideal S1x1x2048 .f32) (r : Fin 512) (n : Fin 2048) :
    k0_pay1 (F := Ideal) x g scale shift (ix2 r n) = nrm (fun k => x (ix2 r k)) (x (ix2 r n)) (g (ix2 0 n)) (scale (ix3 0 0 n)) (shift (ix3 0 0 n)) := by
  unfold_payloads
  pointwise
  simp only [nrm, one_eq]

variable (m : (ℓ : Loc nD τ sig) → Buf (Elt Ideal) ℓ) (ρ : Dev nD → PrngReg)

/-- What the body leaves in the output's buffer is its arithmetic of the blocks. -/
theorem out_eq (x : Vec Ideal S512x2048 .f32) (g : Vec Ideal S1x2048 .f32) (shift scale : Vec Ideal S1x1x2048 .f32) :
    out0_4 (F := Ideal) x g shift scale = k0_pay1 x g scale shift := by
  unfold out0_4
  rw [View.canon_unit_zero hz]
  simp only [View.ld_unit_zero (S := S512x2048) hz, View.ld_unit_zero (S := S1x2048) hz, View.ld_unit_zero (S := S1x1x2048) hz3]

/-- Every window's block index at every grid point. -/
theorem idx (t : Fin grid0.N) :
    (win0_0.index t 0 = t.val ∧ win0_0.index t 1 = 0)
    ∧ (win0_1.index t 0 = 0 ∧ win0_1.index t 1 = 0)
    ∧ (win0_2.index t 0 = t.val / 4 ∧ win0_2.index t 1 = 0 ∧ win0_2.index t 2 = 0)
    ∧ (win0_3.index t 0 = t.val / 4 ∧ win0_3.index t 1 = 0 ∧ win0_3.index t 2 = 1)
    ∧ (win0_4.index t 0 = t.val ∧ win0_4.index t 1 = 0) :=
  (by decide +kernel : ∀ t : Fin grid0.N,
    (win0_0.index t 0 = t.val ∧ win0_0.index t 1 = 0)
    ∧ (win0_1.index t 0 = 0 ∧ win0_1.index t 1 = 0)
    ∧ (win0_2.index t 0 = t.val / 4 ∧ win0_2.index t 1 = 0 ∧ win0_2.index t 2 = 0)
    ∧ (win0_3.index t 0 = t.val / 4 ∧ win0_3.index t 1 = 0 ∧ win0_3.index t 2 = 1)
    ∧ (win0_4.index t 0 = t.val ∧ win0_4.index t 1 = 0)) t

abbrev argX (c : Dev nD) : S9216x2048.Idx → EReal := m ((c : Thread nD τ).loc main_arg0)
abbrev argG (c : Dev nD) : S1x2048.Idx → EReal := m ((c : Thread nD τ).loc main_arg1)
abbrev argM (c : Dev nD) : S8x1x12288.Idx → EReal := m ((c : Thread nD τ).loc main_arg2)

/-- An element of the block of rows. -/
theorem x_apply (c : Dev nD) (t : Fin cfg0.N) (r : Fin 512) (k : Fin 2048) :
    (iblk m c 0 t : Vec Ideal S512x2048 .f32) (ix2 r k) = rd (argX m c) (t.val * 512 + r.val) k.val := by
  unfold iblk
  rw [View.read_apply]
  show V m c main_arg0 _ = _
  rw [V_main_arg0]
  have h := idx t
  refine eq_rd_of _ _ ?_ ?_
  · show win0_0.index t 0 * 512 + 1 * r.val = _; omega
  · show win0_0.index t 1 * 2048 + 1 * k.val = _; omega

/-- An element of the gain. -/
theorem g_apply (c : Dev nD) (t : Fin cfg0.N) (n : Fin 2048) :
    (iblk m c 1 t : Vec Ideal S1x2048 .f32) (ix2 0 n) = rd (argG m c) 0 n.val := by
  unfold iblk
  rw [View.read_apply]
  show V m c main_arg1 _ = _
  rw [V_main_arg1]
  have h := idx t
  refine eq_rd_of _ _ ?_ ?_
  · show win0_1.index t 0 * 1 + 1 * 0 = _; omega
  · show win0_1.index t 1 * 2048 + 1 * n.val = _; omega

/-- An element of the shift's block. -/
theorem shift_apply (c : Dev nD) (t : Fin cfg0.N) (n : Fin 2048) :
    (iblk m c 2 t : Vec Ideal S1x1x2048 .f32) (ix3 0 0 n) = rd3 (argM m c) (t.val / 4) 0 n.val := by
  unfold iblk
  rw [View.read_apply]
  show V m c main_arg2 _ = _
  rw [V_main_arg2]
  have h := idx t
  refine eq_rd3_of _ _ ?_ ?_ ?_
  · show win0_2.index t 0 * 1 + 1 * 0 = _; omega
  · show win0_2.index t 1 * 1 + 1 * 0 = _; omega
  · show win0_2.index t 2 * 2048 + 1 * n.val = _; omega

/-- An element of the scale's block. -/
theorem scale_apply (c : Dev nD) (t : Fin cfg0.N) (n : Fin 2048) :
    (iblk m c 3 t : Vec Ideal S1x1x2048 .f32) (ix3 0 0 n) = rd3 (argM m c) (t.val / 4) 0 (2048 + n.val) := by
  unfold iblk
  rw [View.read_apply]
  show V m c main_arg2 _ = _
  rw [V_main_arg2]
  have h := idx t
  refine eq_rd3_of _ _ ?_ ?_ ?_
  · show win0_3.index t 0 * 1 + 1 * 0 = _; omega
  · show win0_3.index t 1 * 1 + 1 * 0 = _; omega
  · show win0_3.index t 2 * 2048 + 1 * n.val = _; omega

theorem nrm_congr {f f' : Fin 2048 → EReal} {x x' g g' a a' b b' : EReal} (hf : ∀ k, f k = f' k) (hx : x = x') (hg : g = g') (ha : a = a')
    (hb : b = b') : nrm f x g a b = nrm f' x' g' a' b' := by
  rw [funext hf, hx, hg, ha, hb]

/-- What a grid point leaves, at one element. -/
theorem outs_apply (c : Dev nD) (t : Fin cfg0.N) (r : Fin 512) (n : Fin 2048) :
    out0_4 (F := Ideal) (iblk m c 0 t) (iblk m c 1 t) (iblk m c 2 t) (iblk m c 3 t) (ix2 r n) = elt (argX m c) (argG m c) (argM m c) (t.val * 512 + r.val) (0 * 2048 + n.val) := by
  rw [out_eq]
  refine (pay1_apply _ _ _ _ r n).trans ?_
  unfold elt
  have hb : (t.val * 512 + r.val) / 2048 = t.val / 4 := by have := r.isLt; omega
  rw [hb, show 0 * 2048 + n.val = n.val by omega]
  exact nrm_congr (x_apply m c t r) (x_apply m c t r n) (g_apply m c t n) (scale_apply m c t n) (shift_apply m c t n)

/-- Where an element of a grid point's output block lies in the array. -/
theorem emb_val (t : Fin cfg0.N) (y : S512x2048.Idx) :
    (((cfg0.win 4).blk t).view.emb y 0).val = t.val * 512 + (y 0).val
    ∧ (((cfg0.win 4).blk t).view.emb y 1).val = 0 * 2048 + (y 1).val := by
  have h := idx t
  constructor
  · show win0_4.index t 0 * 512 + 1 * (y 0).val = _; omega
  · show win0_4.index t 1 * 2048 + 1 * (y 1).val = _; omega

/-- A grid point's element is `result` at the element's place. -/
theorem outs_result (c : Dev nD) (t : Fin cfg0.N) (y : S512x2048.Idx) :
    out0_4 (F := Ideal) (iblk m c 0 t) (iblk m c 1 t) (iblk m c 2 t) (iblk m c 3 t) y = result (argX m c) (argG m c) (argM m c) (((cfg0.win 4).blk t).view.emb y) := by
  have h0 : (y 0).val < 512 := (y 0).isLt
  have h1 : (y 1).val < 2048 := (y 1).isLt
  have e : y = ix2 ⟨(y 0).val, h0⟩ ⟨(y 1).val, h1⟩ := funext fun a => match a with | ⟨0, _⟩ => rfl | ⟨1, _⟩ => rfl
  have e1 := congrArg (out0_4 (F := Ideal) (iblk m c 0 t) (iblk m c 1 t) (iblk m c 2 t) (iblk m c 3 t)) e
  have e2 := outs_apply m c t ⟨(y 0).val, h0⟩ ⟨(y 1).val, h1⟩
  have e3 := emb_val t y
  unfold result
  rw [e3.1, e3.2]
  exact e1.trans e2

/-- A grid point writes back its block of `result`. -/
theorem flushed_eq (c : Dev nD) (t : Fin cfg0.N) :
    (dats m 0 c).flushed 4 t = ((cfg0.win 4).blk t).view.read (Elt Ideal) (result (argX m c) (argG m c) (argM m c)) :=
  (Value.flushed4 m c t).trans (funext fun y => outs_result m c t y)

/-- An index is in a grid point's output block when its coordinates are. -/
theorem mem_blk (t : Fin cfg0.N) (i : S9216x2048.Idx) :
    i ∈ ((cfg0.win 4).blk t).view.set ↔
      (t.val * 512 ≤ (i 0).val ∧ (i 0).val < t.val * 512 + 512)
      ∧ (0 * 2048 ≤ (i 1).val ∧ (i 1).val < 0 * 2048 + 2048) := by
  show i ∈ ((View.whole main_v0).slice (win0_4.rect t)).set ↔ _
  rw [View.set_slice_whole, Rect.mem_set_unit]
  have e : win0_4.index t 0 = t.val ∧ win0_4.index t 1 = 0 := by have h := idx t; exact ⟨by omega, by omega⟩
  rw [← e.1, ← e.2]
  refine ⟨fun h => ⟨h 0, h 1⟩, fun h a => ?_⟩
  match a with
  | ⟨0, _⟩ => exact h.1
  | ⟨1, _⟩ => exact h.2

/-- The output array after the run. -/
theorem final (c : Dev nD) : (dats m 0 c).arrAt 4 cfg0.N = result (argX m c) (argG m c) (argM m c) := by
  funext i
  have hN : cfg0.N = 18 := N_0
  have h0 : (i 0).val < 9216 := (i 0).isLt
  have h1 : (i 1).val < 2048 := (i 1).isLt
  have ht : (i 0).val / 512 < cfg0.N := by omega
  refine (dats m 0 c).arrAt_apply_of_mem 4 _ (fun t _ => flushed_eq m c t) cfg0.N ⟨_, ht⟩ i ht (flush0_4 _) ?_
  rw [mem_blk]
  dsimp only
  omega

/-- The run, read: the output array at `result` of the arguments, the arguments unchanged. -/
theorem run : θ_run defs (onTc (τ := τ) (main (F := Ideal))) ⟨m, fun _ => 0, ρ⟩ fun r => ∀ c : Dev nD,
      r.2.mem ((c : Thread nD τ).loc main_v0) = result (argX m c) (argG m c) (argM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Kernel

section Reference

open Cert.Reference10Ideal Cert.Reference10Ideal.Gen Cert.Reference10Ideal.Read

variable (x0 : (⟨S9216x2048, .f32⟩ : BufTy).Contents (Elt Ideal)) (x1 : (⟨S1x2048, .f32⟩ : BufTy).Contents (Elt Ideal))
  (x2 : (⟨S8x1x12288, .f32⟩ : BufTy).Contents (Elt Ideal))

/-- The latents by batch. -/
theorem lat_x (i : S4x2048x2048.Idx) {r n : Nat} (hr : (i 0).val * 2048 + (i 1).val = r) (hn : (i 2).val = n) :
    val_main_v3 (F := Ideal) x0 i = rd x0 r n := by
  have h1 : (i 1).val < 2048 := (i 1).isLt
  have h2 : (i 2).val < 2048 := (i 2).isLt
  refine (val_main_v3_apply x0 _).trans ((val_main_v2_apply x0 _).trans (eq_rd_of x0 _ ?_ ?_))
  · show (((i 0).val * 2048 + (i 1).val) * 2048 + (i 2).val) / 2048 = r
    omega
  · show (((i 0).val * 2048 + (i 1).val) * 2048 + (i 2).val) % 2048 = n
    omega

/-- The reference's norm of the latents, by batch. -/
theorem lat_at (i : S4x2048x2048.Idx) {r n : Nat} (hr : (i 0).val * 2048 + (i 1).val = r) (hn : (i 2).val = n) :
    val_main_v24 (F := Ideal) x0 x1 x2 i = elt x0 x1 x2 r n := by
  have h1 : (i 1).val < 2048 := (i 1).isLt
  have hs : ∀ j : S4x2048.Idx, (j 0).val * 2048 + (j 1).val = r → val_main_v5 (F := Ideal) x0 j = ∑ k : Fin 2048, rd x0 r k.val * rd x0 r k.val := fun j hj => by
    refine (val_main_v5_apply x0 j).trans ?_
    refine (congrArg₂ (· + ·) (Ideal.ofBits_zero .f32) (Finset.sum_congr rfl fun k _ => ?_)).trans (zero_add _)
    exact (val_main_v4_apply x0 _).trans (congrArg₂ (fun p q : EReal => p * q) (lat_x x0 _ hj rfl) (lat_x x0 _ hj rfl))
  unfold elt nrm
  refine (val_main_v24_apply x0 x1 x2 i).trans (congrArg₂ (fun p q : EReal => p + q) ((val_main_v21_apply x0 x1 x2 i).trans
    (congrArg₂ (fun p q : EReal => p * q) ((val_main_v16_apply x0 x1 i).trans (congrArg₂ (fun p q : EReal => p * q)
      ((val_main_v13_apply x0 i).trans (congrArg₂ (fun p q : EReal => p * q) (lat_x x0 i hr hn) ?_)) ?_)) ?_)) ?_)
  · refine (val_main_v12_apply x0 i).trans ((val_main_v11_apply x0 _).trans (congrArg Ideal.rsqrt ?_))
    refine (val_main_v10_apply x0 _).trans (congrArg₂ (fun p q : EReal => p + q) ?_ (val_main_v9_apply _))
    refine (val_main_v8_apply x0 _).trans (congrArg₂ Ideal.div ?_ (val_main_v7_apply _))
    exact (val_main_v6_apply x0 _).trans (hs _ hr)
  · exact (val_main_v15_apply x1 i).trans ((val_main_v14_apply x1 _).trans (eq_rd_of x1 _ rfl hn))
  · refine (val_main_v20_apply x2 i).trans ((val_main_v19_apply x2 _).trans (congrArg₂ (fun p q : EReal => p + q) (val_main_v18_apply _) ?_))
    refine (val_main_v17_apply x2 _).trans ((val_main_v1_apply x2 _).trans (eq_rd3_of x2 _ ?_ rfl ?_))
    · show (i 0).val = r / 2048
      omega
    · show 2048 + (i 2).val = 2048 + n
      omega
  · refine (val_main_v23_apply x2 i).trans ((val_main_v22_apply x2 _).trans ((val_main_v0_apply x2 _).trans (eq_rd3_of x2 _ ?_ rfl hn)))
    show (i 0).val = r / 2048
    omega

/-- The context's rows. -/
theorem ctx_x (i : S1024x2048.Idx) : val_main_v25 (F := Ideal) x0 i = rd x0 (8192 + (i 0).val) (i 1).val :=
  (val_main_v25_apply x0 _).trans (eq_rd_of x0 _ rfl rfl)

/-- The reference's norm of the context. -/
theorem ctx_at (i : S1024x2048.Idx) : val_main_v47 (F := Ideal) x0 x1 x2 i = elt x0 x1 x2 (8192 + (i 0).val) (i 1).val := by
  have h0 : (i 0).val < 1024 := (i 0).isLt
  have h1 : (i 1).val < 2048 := (i 1).isLt
  have hs : ∀ j : S1024.Idx, val_main_v27 (F := Ideal) x0 j = ∑ k : Fin 2048, rd x0 (8192 + (j 0).val) k.val * rd x0 (8192 + (j 0).val) k.val := fun j => by
    refine (val_main_v27_apply x0 j).trans ?_
    refine (congrArg₂ (· + ·) (Ideal.ofBits_zero .f32) (Finset.sum_congr rfl fun k _ => ?_)).trans (zero_add _)
    exact (val_main_v26_apply x0 _).trans (congrArg₂ (fun p q : EReal => p * q) (ctx_x x0 _) (ctx_x x0 _))
  unfold elt nrm
  refine (val_main_v47_apply x0 x1 x2 i).trans (congrArg₂ (fun p q : EReal => p + q) ((val_main_v43_apply x0 x1 x2 i).trans
    (congrArg₂ (fun p q : EReal => p * q) ((val_main_v37_apply x0 x1 i).trans (congrArg₂ (fun p q : EReal => p * q)
      ((val_main_v35_apply x0 i).trans (congrArg₂ (fun p q : EReal => p * q) (ctx_x x0 i) ?_)) ?_)) ?_)) ?_)
  · refine (val_main_v34_apply x0 i).trans ((val_main_v33_apply x0 _).trans (congrArg Ideal.rsqrt ?_))
    refine (val_main_v32_apply x0 _).trans (congrArg₂ (fun p q : EReal => p + q) ?_ (val_main_v31_apply _))
    refine (val_main_v30_apply x0 _).trans (congrArg₂ Ideal.div ?_ (val_main_v29_apply _))
    exact (val_main_v28_apply x0 _).trans (hs _)
  · exact (val_main_v36_apply x1 i).trans (eq_rd_of x1 _ rfl rfl)
  · refine (val_main_v42_apply x2 i).trans ((val_main_v41_apply x2 _).trans (congrArg₂ (fun p q : EReal => p + q) (val_main_v40_apply _) ?_))
    refine (val_main_v39_apply x2 _).trans ((val_main_v38_apply x2 _).trans ((val_main_v1_apply x2 _).trans (eq_rd3_of x2 _ ?_ rfl ?_)))
    · show 4 + 0 = (8192 + (i 0).val) / 2048
      omega
    · show 2048 + (0 * 2048 + (i 1).val) % 2048 = 2048 + (i 1).val
      omega
  · refine (val_main_v46_apply x2 i).trans ((val_main_v45_apply x2 _).trans ((val_main_v44_apply x2 _).trans ((val_main_v0_apply x2 _).trans (eq_rd3_of x2 _ ?_ rfl ?_))))
    · show 4 + 0 = (8192 + (i 0).val) / 2048
      omega
    · show (0 * 2048 + (i 1).val) % 2048 = (i 1).val
      omega

/-- The reference's result is the kernel's. -/
theorem result_eq : val_main_v50 (F := Ideal) x0 x1 x2 = result x0 x1 x2 := funext fun i => by
  have h0 : (i 0).val < 9216 := (i 0).isLt
  have h1 : (i 1).val < 2048 := (i 1).isLt
  refine (val_main_v50_apply x0 x1 x2 i).trans ?_
  show val_main_v49 (F := Ideal) x0 x1 x2 i = _
  unfold val_main_v49 result
  by_cases hr : (i 0).val < 8192
  · refine (concatenate_pair_apply_left (t := S9216x2048) (s₁ := S8192x2048) (s₂ := S1024x2048) 0 _ _ _ i rfl
      (fun a => match a with | ⟨0, _⟩ => ⟨(i 0).val, hr⟩ | ⟨1, _⟩ => i 1)
      (fun b => match b with | ⟨0, _⟩ => rfl | ⟨1, _⟩ => rfl)).trans ?_
    refine (val_main_v48_apply x0 x1 x2 _).trans (lat_at x0 x1 x2 _ ?_ ?_)
    · show ((i 0).val * 2048 + (i 1).val) / 4194304 * 2048 + ((i 0).val * 2048 + (i 1).val) / 2048 % 2048 = (i 0).val
      omega
    · show ((i 0).val * 2048 + (i 1).val) % 2048 = (i 1).val
      omega
  · refine (concatenate_pair_apply_right (t := S9216x2048) (s₁ := S8192x2048) (s₂ := S1024x2048) 0 _ _ _ i rfl rfl
      (fun a => match a with | ⟨0, _⟩ => ⟨(i 0).val - 8192, by show _ < 1024; omega⟩ | ⟨1, _⟩ => i 1)
      (fun b hb => match b with | ⟨0, _⟩ => absurd rfl hb | ⟨1, _⟩ => rfl)
      (by show (i 0).val - 8192 + 8192 = (i 0).val; omega)).trans ?_
    refine (ctx_at x0 x1 x2 _).trans (congrArg (fun r : Nat => elt x0 x1 x2 r (i 1).val) ?_)
    show 8192 + ((i 0).val - 8192) = (i 0).val
    omega

end Reference

/-! ## The claims -/

/-- The kernel at the machine's floats runs and leaves its arguments unchanged. -/
theorem frame_kernel : Cert.quiescent_Kernel10 (hKernel10 := Cert.Kernel10.Gen.facts) := fun m ρ _ => Cert.Kernel10.Gen.frame m ρ

/-- The kernel at the ideal instance. -/
theorem frame_ideal : Cert.quiescent_Kernel10Ideal (hKernel10Ideal := Cert.Kernel10Ideal.Gen.facts) :=
  fun m ρ _ => Cert.Kernel10Ideal.Gen.frame m ρ

/-- The reference. -/
theorem frame_reference : Cert.quiescent_Reference10Ideal (hReference10Ideal := Cert.Reference10Ideal.Gen.facts) := fun m ρ _ =>
  (θ_run Cert.Reference10Ideal.defs _ _).mono (fun _ h => ⟨fun c => (h c).2, funext fun s => nomatch s⟩)
    (Cert.Reference10Ideal.Value.run m ρ)

/-- From equal arguments kernel and reference end with equal results. -/
theorem algebraic : Cert.algebraic_Kernel10Ideal_Reference10Ideal
    (hKernel10Ideal := Cert.Kernel10Ideal.Gen.facts) (hReference10Ideal := Cert.Reference10Ideal.Gen.facts) := fun m ρ m' ρ' _ hag =>
  ⟨fun c => result (m ((c.tc : Thread _ _).loc Cert.Kernel10Ideal.main_arg0)) (m ((c.tc : Thread _ _).loc Cert.Kernel10Ideal.main_arg1)) (m ((c.tc : Thread _ _).loc Cert.Kernel10Ideal.main_arg2)), run m ρ,
    (θ_run Cert.Reference10Ideal.defs _ _).mono (fun _ h c => by
      obtain ⟨hv, h0, h1, h2⟩ := h c
      refine ⟨?_, h0, h1, h2⟩
      rw [hv, Cert.Reference10Ideal.Read.val_main_v50_eq, (hag c).1, (hag c).2.1, (hag c).2.2]
      exact result_eq _ _ _)
      (Cert.Reference10Ideal.Value.run m' ρ')⟩

end Cert.Proj10

end
-- ==== Proof.Softmax.lean ====
/-
  Softmax attention of one query row over the extended reals, for keys given in one list and for keys given in two
  parts. `whole`: every weight `exp (s - max)` divided by the sum of the weights, then summed against the values.
  `parts`: the weighted values of both parts summed, then divided once. They are equal when every score is a real.
-/
module

public import Idealize.ShloMosaic.PureOps.Ideal
public import Idealize.ShloMosaic.PureOps.Ideal.Laws

@[expose] public section

noncomputable section

namespace Cert.Softmax

open Idealize.ShloMosaic

/-- The largest of finitely many extended reals (`⊥` when there are none). -/
def top {n : Nat} (s : Fin n → EReal) : EReal := (Finset.univ : Finset (Fin n)).fold max ⊥ s

/-- Softmax weights normalised one by one, then applied to the values. -/
def whole {n : Nat} (s v : Fin n → EReal) : EReal :=
  ∑ i, Ideal.div (Ideal.exp (s i - top s)) (∑ j, Ideal.exp (s j - top s)) * v i

/-- The same for keys in two parts, divided once at the end. -/
def parts {a b : Nat} (s : Fin a → EReal) (v : Fin a → EReal) (s' : Fin b → EReal) (v' : Fin b → EReal) : EReal :=
  Ideal.div ((∑ i, Ideal.exp (s i - max (top s) (top s')) * v i) + ∑ i, Ideal.exp (s' i - max (top s) (top s')) * v' i)
    ((∑ i, Ideal.exp (s i - max (top s) (top s'))) + ∑ i, Ideal.exp (s' i - max (top s) (top s')))

theorem le_top {n : Nat} (s : Fin n → EReal) (i : Fin n) : s i ≤ top s :=
  (Finset.le_fold_max (b := ⊥) (f := s) (s i)).mpr (.inr ⟨i, Finset.mem_univ _, le_rfl⟩)

theorem top_le {n : Nat} (s : Fin n → EReal) (x : EReal) (h : ∀ i, s i ≤ x) : top s ≤ x :=
  (Finset.fold_max_le (b := ⊥) (f := s) x).mpr ⟨bot_le, fun i _ => h i⟩

/-- The largest of finitely many reals, at least one, is a real. -/
theorem top_real {n : Nat} (hn : 0 < n) (s : Fin n → EReal) (h : ∀ i, ∃ r : ℝ, s i = r) : ∃ r : ℝ, top s = r := by
  have h1 : top s ≠ ⊤ := by
    rcases (Finset.le_fold_max (s := Finset.univ) (b := ⊥) (f := s) (top s)).mp le_rfl with hb | ⟨i, _, hi⟩
    · intro e; rw [e] at hb; simp at hb
    · intro e; obtain ⟨r, hr⟩ := h i; rw [hr, e] at hi; simp at hi
  have h2 : top s ≠ ⊥ := by
    intro e
    have := le_top s ⟨0, hn⟩
    obtain ⟨r, hr⟩ := h ⟨0, hn⟩
    rw [e, hr] at this; simp at this
  exact ⟨(top s).toReal, (EReal.coe_toReal h1 h2).symm⟩

theorem coe_sum {n : Nat} (f : Fin n → ℝ) : (∑ i, ((f i : ℝ) : EReal)) = ((∑ i, f i : ℝ) : EReal) := by
  induction n with
  | zero => simp
  | succ n ih => rw [Fin.sum_univ_succ, Fin.sum_univ_succ, ih, EReal.coe_add]

/-- A sum multiplied by a positive real is the sum of the products, whatever the terms are. -/
theorem sum_mul_pos {n : Nat} (f : Fin n → EReal) (c : ℝ) (hc : 0 ≤ c) : (∑ i, f i) * (c : EReal) = ∑ i, f i * c := by
  induction n with
  | zero => simp
  | succ n ih =>
    rw [Fin.sum_univ_succ, Fin.sum_univ_succ, ← ih,
      EReal.right_distrib_of_nonneg_of_ne_top (by exact_mod_cast hc) (EReal.coe_ne_top c)]

/-- Over real scores the division may be done once, after the sum. -/
theorem whole_eq {n : Nat} (hn : 0 < n) (s v : Fin n → EReal) (h : ∀ i, ∃ r : ℝ, s i = r) :
    whole s v = Ideal.div (∑ i, Ideal.exp (s i - top s) * v i) (∑ j, Ideal.exp (s j - top s)) := by
  obtain ⟨M, hM⟩ := top_real hn s h
  choose r hr using h
  have he : ∀ i, Ideal.exp (s i - top s) = ((Real.exp (r i - M) : ℝ) : EReal) := fun i => by
    rw [hM, hr i, ← EReal.coe_sub]; rfl
  unfold whole
  simp only [he, coe_sum]
  have hpos : 0 < ∑ j, Real.exp (r j - M) :=
    Finset.sum_pos (fun i _ => Real.exp_pos _) ⟨⟨0, hn⟩, Finset.mem_univ _⟩
  generalize (∑ j, Real.exp (r j - M)) = L at hpos
  simp only [Ideal.div_coe hpos.ne']
  rw [sum_mul_pos _ _ (by positivity)]
  refine Finset.sum_congr rfl fun i _ => ?_
  rw [mul_assoc, mul_assoc, mul_comm (v i)]

/-- A list of scores cut in two: the largest is the larger of the two parts' largest. -/
theorem top_append {a b : Nat} (s : Fin (a + b) → EReal) :
    top s = max (top fun i => s (Fin.castAdd b i)) (top fun i => s (Fin.natAdd a i)) := by
  refine le_antisymm (top_le _ _ fun i => ?_) (max_le (top_le _ _ fun i => le_top s _) (top_le _ _ fun i => le_top s _))
  refine Fin.addCases (fun i => ?_) (fun i => ?_) i
  · exact le_max_of_le_left (le_top (fun i => s (Fin.castAdd b i)) i)
  · exact le_max_of_le_right (le_top (fun i => s (Fin.natAdd a i)) i)

/-- Attention over a list of keys cut in two is `parts` over the two parts, when every score is a real. -/
theorem whole_eq_parts {a b : Nat} (hn : 0 < a + b) (s v : Fin (a + b) → EReal) (h : ∀ i, ∃ r : ℝ, s i = r) :
    whole s v = parts (fun i => s (Fin.castAdd b i)) (fun i => v (Fin.castAdd b i))
      (fun i => s (Fin.natAdd a i)) (fun i => v (Fin.natAdd a i)) := by
  rw [whole_eq hn s v h, Fin.sum_univ_add, Fin.sum_univ_add, top_append]
  rfl

/-- A sum of products of reals, scaled by a real, is a real. -/
theorem score_real {n : Nat} (q k : Fin n → EReal) (c : ℝ) (hq : ∀ i, ∃ r : ℝ, q i = r) (hk : ∀ i, ∃ r : ℝ, k i = r) :
    ∃ r : ℝ, (∑ i, q i * k i) * (c : EReal) = r := by
  choose x hx using hq
  choose y hy using hk
  refine ⟨(∑ i, x i * y i) * c, ?_⟩
  simp only [hx, hy, ← EReal.coe_mul, coe_sum]

end Cert.Softmax

end
-- ==== Proof.Proj11.lean ====
/- The context's attention: kernel and reference equal where its queries and keys are finite. Grid point `t` stands for batch
   `t / 16` and head `t % 16`; the first eight heads have keys and values of their own, the other eight share two in fours. -/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Pre_context_finite
public import proofs.«01_k».proof.Proof.Softmax
public import proofs.«01_k».proof.Proof.Grid2
public import Idealize.ShloMosaic.Lib.Pointwise

@[expose] public section

set_option maxRecDepth 16384

noncomputable section

namespace Cert.Proj11

open Idealize.ShloMosaic Idealize.ShloMosaic.TcCoe Idealize.SL.Sem
open Cert.Softmax Cert.Grid2

section Kernel

open Cert.Kernel11Ideal Cert.Kernel11Ideal.Gen

theorem hz : (![0, 0] : Fin 2 → Nat) = fun _ => 0 := funext fun a => by fin_cases a <;> rfl

/-- The scale of the scores: the f32 nearest to `128 ^ (-1/2)`. -/
abbrev scale : EReal := Ideal.ofBits .f32 0x3DB504F3#32

/-- The score of query row `row` against row `n` of its batch, the query in column block `q` and the keys in column block `k`. -/
def score (X : S9216x4608.Idx → EReal) (row q k : Nat) (n : Fin 256) : EReal :=
  (∑ e : Fin 128, rd X row (q * 128 + e.val) * rd X (row / 256 * 256 + n.val) (k * 128 + e.val)) * scale

/-- Column `d` of the value of row `n` of a row's batch, the values in column block `v`. -/
def value (X : S9216x4608.Idx → EReal) (row v d : Nat) (n : Fin 256) : EReal := rd X (row / 256 * 256 + n.val) (v * 128 + d)

/-- Softmax weights applied to the values, divided once at the end. -/
def once {n : Nat} (s v : Fin n → EReal) : EReal := Ideal.div (∑ i, Ideal.exp (s i - top s) * v i) (∑ i, Ideal.exp (s i - top s))

/-- A head's column blocks: of its queries, -/
def qcol (h : Nat) : Nat := if h < 8 then h else 24 + (h - 8)
/-- of its keys -/
def kcol (h : Nat) : Nat := if h < 8 then 8 + h else 32 + (h - 8) / 4
/-- and of its values. -/
def vcol (h : Nat) : Nat := if h < 8 then 16 + h else 34 + (h - 8) / 4

/-- One element of the attention: query row `row`, head `h`, value column `d`. -/
def att (X : S9216x4608.Idx → EReal) (row h d : Nat) : EReal := once (score X row (qcol h) (kcol h)) (value X row (vcol h) d)

/-- The array the kernel leaves: the attention in the rows from 8192, the given buffer in the others. -/
def result (X : S9216x4608.Idx → EReal) (O : S9216x2048.Idx → EReal) : S9216x2048.Idx → EReal := fun i =>
  if 8192 ≤ (i 0).val then att X (i 0).val ((i 1).val / 128) ((i 1).val % 128) else O i

/-- The body's arithmetic at one element. -/
theorem pay1_apply (q k v : Vec Ideal S256x128 .bf16) (r : Fin 256) (d : Fin 128) :
    k0_pay1 (F := Ideal) q k v (ix2 r d)
      = once (fun n : Fin 256 => (∑ e : Fin 128, q (ix2 r e) * k (ix2 n e)) * scale) (fun n => v (ix2 n d)) := by
  unfold_payloads
  pointwise
  rfl

variable (m : (ℓ : Loc nD τ sig) → Buf (Elt Ideal) ℓ) (ρ : Dev nD → PrngReg)

/-- What the body leaves in the output's buffer is its arithmetic of the three blocks. -/
theorem out_A (c : Dev nD) (i : grid0.Coords) (a2 : Memref sig .tc .vmem S256x128 .bf16) (h2 : a2.IsWhole)
    (a3 : Memref sig .tc .vmem S256x128 .bf16) (h3 : a3.IsWhole) (a4 : Memref sig .tc .vmem S256x128 .bf16) (h4 : a4.IsWhole)
    (a6 : Memref sig .tc .vmem S256x128 .bf16) (h6 : a6.IsWhole) (x0 x1 x2 : Vec Ideal S256x128 .bf16) :
    out0_A_3 (F := Ideal) c i a2 h2 a3 h3 a4 h4 a6 h6 x0 x1 x2 = k0_pay1 x0 x1 x2 := by
  unfold out0_A_3
  rw [View.read_writes_eq_canon _ _ _ (cover0_A_3 c i a2 h2 a3 h3 a4 h4 a6 h6 x0 x1 x2)]
  unfold kernelRun0_A
  dsimp only
  sl_unfold_words
  rw [View.canon_unit_zero hz]
  simp only [View.readAt_eq_ld, h2.read_unread, h3.read_unread, h4.read_unread, View.ld_unit_zero (S := S256x128) hz]

/-- Every window's block index at every grid point. -/
theorem idx (t : Fin grid0.N) :
    (win0_0.index t 0 = 32 + t.val / 16 ∧ win0_0.index t 1 = qcol (t.val % 16))
    ∧ (win0_1.index t 0 = 32 + t.val / 16 ∧ win0_1.index t 1 = kcol (t.val % 16))
    ∧ (win0_2.index t 0 = 32 + t.val / 16 ∧ win0_2.index t 1 = vcol (t.val % 16))
    ∧ (win0_3.index t 0 = 32 + t.val / 16 ∧ win0_3.index t 1 = t.val % 16) :=
  (by decide +kernel : ∀ t : Fin grid0.N,
    (win0_0.index t 0 = 32 + t.val / 16 ∧ win0_0.index t 1 = qcol (t.val % 16))
    ∧ (win0_1.index t 0 = 32 + t.val / 16 ∧ win0_1.index t 1 = kcol (t.val % 16))
    ∧ (win0_2.index t 0 = 32 + t.val / 16 ∧ win0_2.index t 1 = vcol (t.val % 16))
    ∧ (win0_3.index t 0 = 32 + t.val / 16 ∧ win0_3.index t 1 = t.val % 16)) t

/-- The fused array as launched. -/
abbrev qkv (c : Dev nD) : S9216x4608.Idx → EReal := m ((c : Thread nD τ).loc main_arg0)

/-- An element of the query block. -/
theorem q_apply (c : Dev nD) (t : Fin cfg0.N) (r : Fin 256) (e : Fin 128) :
    (iblk m c 0 t : Vec Ideal S256x128 .bf16) (ix2 r e) = rd (qkv m c) ((32 + t.val / 16) * 256 + r.val) (qcol (t.val % 16) * 128 + e.val) := by
  unfold iblk
  rw [View.read_apply]
  show V m c main_arg0 _ = _
  rw [V_main_arg0]
  have h := idx t
  refine eq_rd_of _ _ ?_ ?_
  · show win0_0.index t 0 * 256 + 1 * r.val = _; omega
  · show win0_0.index t 1 * 128 + 1 * e.val = _; omega

/-- An element of the key block. -/
theorem k_apply (c : Dev nD) (t : Fin cfg0.N) (r : Fin 256) (e : Fin 128) :
    (iblk m c 1 t : Vec Ideal S256x128 .bf16) (ix2 r e) = rd (qkv m c) ((32 + t.val / 16) * 256 + r.val) (kcol (t.val % 16) * 128 + e.val) := by
  unfold iblk
  rw [View.read_apply]
  show V m c main_arg0 _ = _
  rw [V_main_arg0]
  have h := idx t
  refine eq_rd_of _ _ ?_ ?_
  · show win0_1.index t 0 * 256 + 1 * r.val = _; omega
  · show win0_1.index t 1 * 128 + 1 * e.val = _; omega

/-- An element of the value block. -/
theorem v_apply (c : Dev nD) (t : Fin cfg0.N) (r : Fin 256) (e : Fin 128) :
    (iblk m c 2 t : Vec Ideal S256x128 .bf16) (ix2 r e) = rd (qkv m c) ((32 + t.val / 16) * 256 + r.val) (vcol (t.val % 16) * 128 + e.val) := by
  unfold iblk
  rw [View.read_apply]
  show V m c main_arg0 _ = _
  rw [V_main_arg0]
  have h := idx t
  refine eq_rd_of _ _ ?_ ?_
  · show win0_2.index t 0 * 256 + 1 * r.val = _; omega
  · show win0_2.index t 1 * 128 + 1 * e.val = _; omega

/-- What a grid point leaves, at one element. -/
theorem outs_apply (c : Dev nD) (t : Fin cfg0.N) (r : Fin 256) (d : Fin 128) :
    outsAt0 (F := Ideal) m c t (ix2 r d) = att (qkv m c) ((32 + t.val / 16) * 256 + r.val) (t.val % 16) d.val := by
  unfold outsAt0
  rw [out_A, pay1_apply]
  have hb : ((32 + t.val / 16) * 256 + r.val) / 256 = 32 + t.val / 16 := by have := r.isLt; omega
  unfold att score value
  simp only [q_apply, k_apply, v_apply, hb]

/-- `result` at an attention element. -/
theorem result_att (X : S9216x4608.Idx → EReal) (O : S9216x2048.Idx → EReal) (i : S9216x2048.Idx) {r h d : Nat} (h0 : (i 0).val = r)
    (h1 : (i 1).val = h * 128 + d) (hr : 8192 ≤ r) (hd : d < 128) : result X O i = att X r h d := by
  unfold result
  rw [if_pos (by rw [h0]; exact hr), h0, h1, show (h * 128 + d) / 128 = h by omega, show (h * 128 + d) % 128 = d by omega]

/-- Where an element of a grid point's output block lies in the array. -/
theorem emb_val (t : Fin cfg0.N) (y : S256x128.Idx) :
    (((cfg0.win 3).blk t).view.emb y 0).val = (32 + t.val / 16) * 256 + (y 0).val
    ∧ (((cfg0.win 3).blk t).view.emb y 1).val = (t.val % 16) * 128 + (y 1).val := by
  have h := idx t
  constructor
  · show win0_3.index t 0 * 256 + 1 * (y 0).val = _; omega
  · show win0_3.index t 1 * 128 + 1 * (y 1).val = _; omega

/-- A grid point's element is `result` at the element's place. -/
theorem outs_result (c : Dev nD) (t : Fin cfg0.N) (y : S256x128.Idx) (O : S9216x2048.Idx → EReal) :
    outsAt0 (F := Ideal) m c t y = result (qkv m c) O (((cfg0.win 3).blk t).view.emb y) := by
  have h0 : (y 0).val < 256 := (y 0).isLt
  have h1 : (y 1).val < 128 := (y 1).isLt
  have e : y = ix2 ⟨(y 0).val, h0⟩ ⟨(y 1).val, h1⟩ := funext fun a => match a with | ⟨0, _⟩ => rfl | ⟨1, _⟩ => rfl
  have e1 := congrArg (outsAt0 (F := Ideal) m c t) e
  have e2 := outs_apply m c t ⟨(y 0).val, h0⟩ ⟨(y 1).val, h1⟩
  have e3 := result_att (qkv m c) O (((cfg0.win 3).blk t).view.emb y) (emb_val t y).1 (emb_val t y).2 (by omega) h1
  exact e1.trans (e2.trans e3.symm)

/-- A grid point writes back its block of `result`. -/
theorem flushed_eq (c : Dev nD) (t : Fin cfg0.N) :
    (dats m 0 c).flushed 3 t = ((cfg0.win 3).blk t).view.read (Elt Ideal) (result (qkv m c) (m ((c : Thread nD τ).loc main_arg1))) :=
  (Value.flushed3 m c t).trans (funext fun y => outs_result m c t y _)

/-- An index is in a grid point's output block when its coordinates are. -/
theorem mem_blk (t : Fin cfg0.N) (i : S9216x2048.Idx) :
    i ∈ ((cfg0.win 3).blk t).view.set ↔
      ((32 + t.val / 16) * 256 ≤ (i 0).val ∧ (i 0).val < (32 + t.val / 16) * 256 + 256)
      ∧ ((t.val % 16) * 128 ≤ (i 1).val ∧ (i 1).val < (t.val % 16) * 128 + 128) := by
  show i ∈ ((View.whole main_v0).slice (win0_3.rect t)).set ↔ _
  rw [View.set_slice_whole, Rect.mem_set_unit]
  have e : win0_3.index t 0 = (32 + t.val / 16) ∧ win0_3.index t 1 = t.val % 16 := by have h := idx t; exact ⟨by omega, by omega⟩
  rw [← e.1, ← e.2]
  refine ⟨fun h => ⟨h 0, h 1⟩, fun h a => ?_⟩
  match a with
  | ⟨0, _⟩ => exact h.1
  | ⟨1, _⟩ => exact h.2

/-- The buffer the output is written over, as the grid finds it: the second argument. -/
theorem entry (c : Dev nD) : V m c (Pipeline.arrRef spec0 3) = m ((c : Thread nD τ).loc main_arg1) := by
  show StableHlo.after hostOps0 (fun b => m (c, b)) main_v0 = _
  rfl

/-- The output array after the run. -/
theorem final (c : Dev nD) : (dats m 0 c).arrAt 3 cfg0.N = result (qkv m c) (m ((c : Thread nD τ).loc main_arg1)) := by
  funext i
  have hN : cfg0.N = 64 := N_0
  have h0 : (i 0).val < 9216 := (i 0).isLt
  have h1 : (i 1).val < 2048 := (i 1).isLt
  by_cases h : 8192 ≤ (i 0).val
  · have ht : ((i 0).val / 256 - 32) * 16 + (i 1).val / 128 < cfg0.N := by omega
    refine (dats m 0 c).arrAt_apply_of_mem 3 _ (fun t _ => flushed_eq m c t) cfg0.N ⟨_, ht⟩ i ht (flush0_3 _) ?_
    rw [mem_blk]
    dsimp only
    omega
  · rw [Value.entry3 m c i, entry]
    · unfold result; rw [if_neg h]
    · intro t _ hm
      rw [mem_blk] at hm
      omega

/-- The run, read: the output array at `result` of the arguments, the arguments unchanged. -/
theorem run : θ_run defs (onTc (τ := τ) (main (F := Ideal))) ⟨m, fun _ => 0, ρ⟩ fun r => ∀ c : Dev nD,
      r.2.mem ((c : Thread nD τ).loc main_v0) = result (qkv m c) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Kernel

section Reference

open Cert.Reference11Ideal Cert.Reference11Ideal.Gen Cert.Reference11Ideal.Read

variable (X : S9216x4608.Idx → EReal)

/-- The attention as the reference computes it, each weight divided before it is applied. -/
def out (row q k v d : Nat) : EReal := whole (score X row q k) (value X row v d)

theorem out_congr {r r' q q' k k' v v' d d' : Nat} (e : r = r') (e1 : q = q') (e2 : k = k') (e3 : v = v') (e4 : d = d') :
    out X r q k v d = out X r' q' k' v' d' := by
  rw [e, e1, e2, e3, e4]

theorem ofBits_negInf : Ideal.ofBits .f32 0xFF800000#32 = ⊥ := by simp [Ideal.ofBits, Ideal.ieee]

/-- The context's rows, by batch. -/
theorem lat_apply (i : S4x256x4608.Idx) : val_main_v2 (F := Ideal) X i = rd X ((32 + (i 0).val) * 256 + (i 1).val) (i 2).val := by
  have h0 : (i 0).val < 4 := (i 0).isLt
  have h1 : (i 1).val < 256 := (i 1).isLt
  have h2 : (i 2).val < 4608 := (i 2).isLt
  rw [val_main_v2_apply, val_main_v1_apply, val_main_v0_apply]
  refine eq_rd_of X _ ?_ ?_
  · show 8192 + (((i 0).val * 256 + (i 1).val) * 4608 + (i 2).val) / 4608 = _
    omega
  · show (((i 0).val * 256 + (i 1).val) * 4608 + (i 2).val) % 4608 = _
    omega

/-! ### The first eight heads -/

/-- The queries, by batch and head. -/
theorem aq_apply (i : S4x8x256x128.Idx) :
    val_main_v5 (F := Ideal) X i = rd X ((32 + (i 0).val) * 256 + (i 2).val) ((0 + (i 1).val) * 128 + (i 3).val) := by
  have h0 : (i 0).val < 4 := (i 0).isLt
  have h1 : (i 1).val < 8 := (i 1).isLt
  have h2 : (i 2).val < 256 := (i 2).isLt
  have h3 : (i 3).val < 128 := (i 3).isLt
  rw [val_main_v5_apply, val_main_v4_apply, val_main_v3_apply, lat_apply]
  refine congrArg₂ (rd X) ?_ ?_
  · show (32 + ((((i 0).val * 256 + (i 2).val) * 8 + (i 1).val) * 128 + (i 3).val) / 262144) * 256 + ((((i 0).val * 256 + (i 2).val) * 8 + (i 1).val) * 128 + (i 3).val) / 1024 % 256 = _
    omega
  · show ((((i 0).val * 256 + (i 2).val) * 8 + (i 1).val) * 128 + (i 3).val) % 1024 = _
    omega

/-- The keys, by batch and head. -/
theorem ak_apply (i : S4x8x256x128.Idx) :
    val_main_v8 (F := Ideal) X i = rd X ((32 + (i 0).val) * 256 + (i 2).val) ((8 + (i 1).val) * 128 + (i 3).val) := by
  have h0 : (i 0).val < 4 := (i 0).isLt
  have h1 : (i 1).val < 8 := (i 1).isLt
  have h2 : (i 2).val < 256 := (i 2).isLt
  have h3 : (i 3).val < 128 := (i 3).isLt
  rw [val_main_v8_apply, val_main_v7_apply, val_main_v6_apply, lat_apply]
  refine congrArg₂ (rd X) ?_ ?_
  · show (32 + ((((i 0).val * 256 + (i 2).val) * 8 + (i 1).val) * 128 + (i 3).val) / 262144) * 256 + ((((i 0).val * 256 + (i 2).val) * 8 + (i 1).val) * 128 + (i 3).val) / 1024 % 256 = _
    omega
  · show 1024 + ((((i 0).val * 256 + (i 2).val) * 8 + (i 1).val) * 128 + (i 3).val) % 1024 = _
    omega

/-- The values, by batch and head. -/
theorem av_apply (i : S4x8x256x128.Idx) :
    val_main_v11 (F := Ideal) X i = rd X ((32 + (i 0).val) * 256 + (i 2).val) ((16 + (i 1).val) * 128 + (i 3).val) := by
  have h0 : (i 0).val < 4 := (i 0).isLt
  have h1 : (i 1).val < 8 := (i 1).isLt
  have h2 : (i 2).val < 256 := (i 2).isLt
  have h3 : (i 3).val < 128 := (i 3).isLt
  rw [val_main_v11_apply, val_main_v10_apply, val_main_v9_apply, lat_apply]
  refine congrArg₂ (rd X) ?_ ?_
  · show (32 + ((((i 0).val * 256 + (i 2).val) * 8 + (i 1).val) * 128 + (i 3).val) / 262144) * 256 + ((((i 0).val * 256 + (i 2).val) * 8 + (i 1).val) * 128 + (i 3).val) / 1024 % 256 = _
    omega
  · show 2048 + ((((i 0).val * 256 + (i 2).val) * 8 + (i 1).val) * 128 + (i 3).val) % 1024 = _
    omega

/-- The queries grouped by their key/value head. -/
theorem ag_apply (i : S4x8x1x256x128.Idx) :
    val_main_v12 (F := Ideal) X i = rd X ((32 + (i 0).val) * 256 + (i 3).val) ((0 + (i 1).val) * 128 + (i 4).val) := by
  have h0 : (i 0).val < 4 := (i 0).isLt
  have h1 : (i 1).val < 8 := (i 1).isLt
  have h2 : (i 2).val < 1 := (i 2).isLt
  have h3 : (i 3).val < 256 := (i 3).isLt
  have h4 : (i 4).val < 128 := (i 4).isLt
  rw [val_main_v12_apply, aq_apply]
  refine congrArg₂ (rd X) ?_ ?_
  · show (32 + (((((i 0).val * 8 + (i 1).val) * 1 + (i 2).val) * 256 + (i 3).val) * 128 + (i 4).val) / 262144) * 256 + (((((i 0).val * 8 + (i 1).val) * 1 + (i 2).val) * 256 + (i 3).val) * 128 + (i 4).val) / 128 % 256 = _
    omega
  · show (0 + (((((i 0).val * 8 + (i 1).val) * 1 + (i 2).val) * 256 + (i 3).val) * 128 + (i 4).val) / 32768 % 8) * 128 + (((((i 0).val * 8 + (i 1).val) * 1 + (i 2).val) * 256 + (i 3).val) * 128 + (i 4).val) % 128 = _
    omega

theorem ascores_apply (i : S4x8x1x256x256.Idx) :
    val_main_v15 (F := Ideal) X i = score X ((32 + (i 0).val) * 256 + (i 3).val) (0 + (i 1).val) (8 + (i 1).val) (i 4) := by
  have h0 : (i 0).val < 4 := (i 0).isLt
  have h1 : (i 1).val < 8 := (i 1).isLt
  have h2 : (i 2).val < 1 := (i 2).isLt
  have h3 : (i 3).val < 256 := (i 3).isLt
  rw [val_main_v15_apply, val_main_v13_apply, val_main_v14_apply, val_main_cst_apply]
  unfold score
  refine congrArg (· * scale) (Finset.sum_congr rfl fun e _ => ?_)
  rw [ag_apply, ak_apply, show ((32 + (i 0).val) * 256 + (i 3).val) / 256 = 32 + (i 0).val by omega]

theorem amax_apply (i : S4x8x1x256.Idx) : val_main_v18 (F := Ideal) X i = top (score X ((32 + (i 0).val) * 256 + (i 3).val) (0 + (i 1).val) (8 + (i 1).val)) := by
  have e : val_main_v16 (F := Ideal) X i = top (score X ((32 + (i 0).val) * 256 + (i 3).val) (0 + (i 1).val) (8 + (i 1).val)) := by
    unfold val_main_v16
    refine (Host.reduce_eq_fold_single (s := S4x8x1x256x256) (t := S4x8x1x256) (a := 4)
      (FloatOps.maximumf (F := Ideal) (φ := .f32)) _ _ _ (by decide) _ i).trans ?_
    unfold top
    refine congrArg₂ (fun b f => (Finset.univ : Finset (Fin 256)).fold max b f) ?_ (funext fun k => ?_)
    · exact ofBits_negInf
    · exact ascores_apply X _
  rw [val_main_v18_apply, e]
  exact max_eq_right (le_of_eq_of_le ofBits_negInf bot_le)

theorem aout_apply (i : S4x8x1x256x128.Idx) :
    val_main_v27 (F := Ideal) X i = out X ((32 + (i 0).val) * 256 + (i 3).val) (0 + (i 1).val) (8 + (i 1).val) (16 + (i 1).val) (i 4).val := by
  have h0 : (i 0).val < 4 := (i 0).isLt
  have h1 : (i 1).val < 8 := (i 1).isLt
  have h2 : (i 2).val < 1 := (i 2).isLt
  have h3 : (i 3).val < 256 := (i 3).isLt
  have ex : ∀ j : S4x8x1x256x256.Idx, val_main_v22 (F := Ideal) X j = Ideal.exp (score X ((32 + (j 0).val) * 256 + (j 3).val) (0 + (j 1).val) (8 + (j 1).val) (j 4) - top (score X ((32 + (j 0).val) * 256 + (j 3).val) (0 + (j 1).val) (8 + (j 1).val))) := fun j => by
    rw [val_main_v22_apply, val_main_v21_apply, ascores_apply, val_main_v20_apply, val_main_v19_apply, amax_apply]
    rfl
  rw [val_main_v27_apply]
  unfold out whole
  refine Finset.sum_congr rfl fun n _ => ?_
  rw [val_main_v26_apply, val_main_v25_apply, val_main_v24_apply, val_main_v23_apply, ex, av_apply]
  refine congrArg₂ (· * ·) (congrArg₂ Ideal.div rfl ?_) ?_
  · refine (congrArg₂ (· + ·) (Ideal.ofBits_zero .f32) (Finset.sum_congr rfl fun k _ => ex _)).trans (zero_add _)
  · unfold value
    rw [show ((32 + (i 0).val) * 256 + (i 3).val) / 256 = 32 + (i 0).val by omega]

/-- The attention of these heads, by batch and head. -/
theorem aheads_apply (i : S4x8x256x128.Idx) :
    val_main_v28 (F := Ideal) X i = out X ((32 + (i 0).val) * 256 + (i 2).val) (0 + (i 1).val) (8 + (i 1).val / 1) (16 + (i 1).val / 1) (i 3).val := by
  have h0 : (i 0).val < 4 := (i 0).isLt
  have h1 : (i 1).val < 8 := (i 1).isLt
  have h2 : (i 2).val < 256 := (i 2).isLt
  have h3 : (i 3).val < 128 := (i 3).isLt
  rw [val_main_v28_apply, aout_apply]
  refine out_congr X ?_ ?_ ?_ ?_ ?_
  · show (32 + ((((i 0).val * 8 + (i 1).val) * 256 + (i 2).val) * 128 + (i 3).val) / 262144) * 256 + ((((i 0).val * 8 + (i 1).val) * 256 + (i 2).val) * 128 + (i 3).val) / 128 % 256 = _
    omega
  · show 0 + ((((i 0).val * 8 + (i 1).val) * 256 + (i 2).val) * 128 + (i 3).val) / 32768 % 8 = _
    omega
  · show 8 + ((((i 0).val * 8 + (i 1).val) * 256 + (i 2).val) * 128 + (i 3).val) / 32768 % 8 = _
    omega
  · show 16 + ((((i 0).val * 8 + (i 1).val) * 256 + (i 2).val) * 128 + (i 3).val) / 32768 % 8 = _
    omega
  · show ((((i 0).val * 8 + (i 1).val) * 256 + (i 2).val) * 128 + (i 3).val) % 128 = _
    omega

/-- The same by batch and row, a row's heads one after another. -/
theorem abatches_apply (i : S4x256x1024.Idx) :
    val_main_v56 (F := Ideal) X i = out X ((32 + (i 0).val) * 256 + (i 1).val) (0 + (i 2).val / 128) (8 + (i 2).val / 128 / 1) (16 + (i 2).val / 128 / 1) ((i 2).val % 128) := by
  have h0 : (i 0).val < 4 := (i 0).isLt
  have h1 : (i 1).val < 256 := (i 1).isLt
  have h2 : (i 2).val < 1024 := (i 2).isLt
  rw [val_main_v56_apply, val_main_v55_apply, aheads_apply]
  have e : (((i 0).val * 256 + (i 1).val) * 1024 + (i 2).val) / 128 % 8 = (i 2).val / 128 := by omega
  refine out_congr X ?_ ?_ ?_ ?_ ?_
  · show (32 + (((i 0).val * 256 + (i 1).val) * 1024 + (i 2).val) / 262144) * 256 + (((i 0).val * 256 + (i 1).val) * 1024 + (i 2).val) / 1024 % 256 = _
    omega
  · show 0 + (((i 0).val * 256 + (i 1).val) * 1024 + (i 2).val) / 128 % 8 = _
    rw [e]
  · show 8 + (((i 0).val * 256 + (i 1).val) * 1024 + (i 2).val) / 128 % 8 / 1 = _
    rw [e]
  · show 16 + (((i 0).val * 256 + (i 1).val) * 1024 + (i 2).val) / 128 % 8 / 1 = _
    rw [e]
  · show (((i 0).val * 256 + (i 1).val) * 1024 + (i 2).val) % 128 = _
    omega

/-! ### The other eight -/

/-- The queries, by batch and head. -/
theorem bq_apply (i : S4x8x256x128.Idx) :
    val_main_v31 (F := Ideal) X i = rd X ((32 + (i 0).val) * 256 + (i 2).val) ((24 + (i 1).val) * 128 + (i 3).val) := by
  have h0 : (i 0).val < 4 := (i 0).isLt
  have h1 : (i 1).val < 8 := (i 1).isLt
  have h2 : (i 2).val < 256 := (i 2).isLt
  have h3 : (i 3).val < 128 := (i 3).isLt
  rw [val_main_v31_apply, val_main_v30_apply, val_main_v29_apply, lat_apply]
  refine congrArg₂ (rd X) ?_ ?_
  · show (32 + ((((i 0).val * 256 + (i 2).val) * 8 + (i 1).val) * 128 + (i 3).val) / 262144) * 256 + ((((i 0).val * 256 + (i 2).val) * 8 + (i 1).val) * 128 + (i 3).val) / 1024 % 256 = _
    omega
  · show 3072 + ((((i 0).val * 256 + (i 2).val) * 8 + (i 1).val) * 128 + (i 3).val) % 1024 = _
    omega

/-- The keys, by batch and head. -/
theorem bk_apply (i : S4x2x256x128.Idx) :
    val_main_v34 (F := Ideal) X i = rd X ((32 + (i 0).val) * 256 + (i 2).val) ((32 + (i 1).val) * 128 + (i 3).val) := by
  have h0 : (i 0).val < 4 := (i 0).isLt
  have h1 : (i 1).val < 2 := (i 1).isLt
  have h2 : (i 2).val < 256 := (i 2).isLt
  have h3 : (i 3).val < 128 := (i 3).isLt
  rw [val_main_v34_apply, val_main_v33_apply, val_main_v32_apply, lat_apply]
  refine congrArg₂ (rd X) ?_ ?_
  · show (32 + ((((i 0).val * 256 + (i 2).val) * 2 + (i 1).val) * 128 + (i 3).val) / 65536) * 256 + ((((i 0).val * 256 + (i 2).val) * 2 + (i 1).val) * 128 + (i 3).val) / 256 % 256 = _
    omega
  · show 4096 + ((((i 0).val * 256 + (i 2).val) * 2 + (i 1).val) * 128 + (i 3).val) % 256 = _
    omega

/-- The values, by batch and head. -/
theorem bv_apply (i : S4x2x256x128.Idx) :
    val_main_v37 (F := Ideal) X i = rd X ((32 + (i 0).val) * 256 + (i 2).val) ((34 + (i 1).val) * 128 + (i 3).val) := by
  have h0 : (i 0).val < 4 := (i 0).isLt
  have h1 : (i 1).val < 2 := (i 1).isLt
  have h2 : (i 2).val < 256 := (i 2).isLt
  have h3 : (i 3).val < 128 := (i 3).isLt
  rw [val_main_v37_apply, val_main_v36_apply, val_main_v35_apply, lat_apply]
  refine congrArg₂ (rd X) ?_ ?_
  · show (32 + ((((i 0).val * 256 + (i 2).val) * 2 + (i 1).val) * 128 + (i 3).val) / 65536) * 256 + ((((i 0).val * 256 + (i 2).val) * 2 + (i 1).val) * 128 + (i 3).val) / 256 % 256 = _
    omega
  · show 4352 + ((((i 0).val * 256 + (i 2).val) * 2 + (i 1).val) * 128 + (i 3).val) % 256 = _
    omega

/-- The queries grouped by their key/value head. -/
theorem bg_apply (i : S4x2x4x256x128.Idx) :
    val_main_v38 (F := Ideal) X i = rd X ((32 + (i 0).val) * 256 + (i 3).val) ((24 + ((i 1).val * 4 + (i 2).val)) * 128 + (i 4).val) := by
  have h0 : (i 0).val < 4 := (i 0).isLt
  have h1 : (i 1).val < 2 := (i 1).isLt
  have h2 : (i 2).val < 4 := (i 2).isLt
  have h3 : (i 3).val < 256 := (i 3).isLt
  have h4 : (i 4).val < 128 := (i 4).isLt
  rw [val_main_v38_apply, bq_apply]
  refine congrArg₂ (rd X) ?_ ?_
  · show (32 + (((((i 0).val * 2 + (i 1).val) * 4 + (i 2).val) * 256 + (i 3).val) * 128 + (i 4).val) / 262144) * 256 + (((((i 0).val * 2 + (i 1).val) * 4 + (i 2).val) * 256 + (i 3).val) * 128 + (i 4).val) / 128 % 256 = _
    omega
  · show (24 + (((((i 0).val * 2 + (i 1).val) * 4 + (i 2).val) * 256 + (i 3).val) * 128 + (i 4).val) / 32768 % 8) * 128 + (((((i 0).val * 2 + (i 1).val) * 4 + (i 2).val) * 256 + (i 3).val) * 128 + (i 4).val) % 128 = _
    omega

theorem bscores_apply (i : S4x2x4x256x256.Idx) :
    val_main_v41 (F := Ideal) X i = score X ((32 + (i 0).val) * 256 + (i 3).val) (24 + ((i 1).val * 4 + (i 2).val)) (32 + (i 1).val) (i 4) := by
  have h0 : (i 0).val < 4 := (i 0).isLt
  have h1 : (i 1).val < 2 := (i 1).isLt
  have h2 : (i 2).val < 4 := (i 2).isLt
  have h3 : (i 3).val < 256 := (i 3).isLt
  rw [val_main_v41_apply, val_main_v39_apply, val_main_v40_apply, val_main_cst_3_apply]
  unfold score
  refine congrArg (· * scale) (Finset.sum_congr rfl fun e _ => ?_)
  rw [bg_apply, bk_apply, show ((32 + (i 0).val) * 256 + (i 3).val) / 256 = 32 + (i 0).val by omega]

theorem bmax_apply (i : S4x2x4x256.Idx) : val_main_v44 (F := Ideal) X i = top (score X ((32 + (i 0).val) * 256 + (i 3).val) (24 + ((i 1).val * 4 + (i 2).val)) (32 + (i 1).val)) := by
  have e : val_main_v42 (F := Ideal) X i = top (score X ((32 + (i 0).val) * 256 + (i 3).val) (24 + ((i 1).val * 4 + (i 2).val)) (32 + (i 1).val)) := by
    unfold val_main_v42
    refine (Host.reduce_eq_fold_single (s := S4x2x4x256x256) (t := S4x2x4x256) (a := 4)
      (FloatOps.maximumf (F := Ideal) (φ := .f32)) _ _ _ (by decide) _ i).trans ?_
    unfold top
    refine congrArg₂ (fun b f => (Finset.univ : Finset (Fin 256)).fold max b f) ?_ (funext fun k => ?_)
    · exact ofBits_negInf
    · exact bscores_apply X _
  rw [val_main_v44_apply, e]
  exact max_eq_right (le_of_eq_of_le ofBits_negInf bot_le)

theorem bout_apply (i : S4x2x4x256x128.Idx) :
    val_main_v53 (F := Ideal) X i = out X ((32 + (i 0).val) * 256 + (i 3).val) (24 + ((i 1).val * 4 + (i 2).val)) (32 + (i 1).val) (34 + (i 1).val) (i 4).val := by
  have h0 : (i 0).val < 4 := (i 0).isLt
  have h1 : (i 1).val < 2 := (i 1).isLt
  have h2 : (i 2).val < 4 := (i 2).isLt
  have h3 : (i 3).val < 256 := (i 3).isLt
  have ex : ∀ j : S4x2x4x256x256.Idx, val_main_v48 (F := Ideal) X j = Ideal.exp (score X ((32 + (j 0).val) * 256 + (j 3).val) (24 + ((j 1).val * 4 + (j 2).val)) (32 + (j 1).val) (j 4) - top (score X ((32 + (j 0).val) * 256 + (j 3).val) (24 + ((j 1).val * 4 + (j 2).val)) (32 + (j 1).val))) := fun j => by
    rw [val_main_v48_apply, val_main_v47_apply, bscores_apply, val_main_v46_apply, val_main_v45_apply, bmax_apply]
    rfl
  rw [val_main_v53_apply]
  unfold out whole
  refine Finset.sum_congr rfl fun n _ => ?_
  rw [val_main_v52_apply, val_main_v51_apply, val_main_v50_apply, val_main_v49_apply, ex, bv_apply]
  refine congrArg₂ (· * ·) (congrArg₂ Ideal.div rfl ?_) ?_
  · refine (congrArg₂ (· + ·) (Ideal.ofBits_zero .f32) (Finset.sum_congr rfl fun k _ => ex _)).trans (zero_add _)
  · unfold value
    rw [show ((32 + (i 0).val) * 256 + (i 3).val) / 256 = 32 + (i 0).val by omega]

/-- The attention of these heads, by batch and head. -/
theorem bheads_apply (i : S4x8x256x128.Idx) :
    val_main_v54 (F := Ideal) X i = out X ((32 + (i 0).val) * 256 + (i 2).val) (24 + (i 1).val) (32 + (i 1).val / 4) (34 + (i 1).val / 4) (i 3).val := by
  have h0 : (i 0).val < 4 := (i 0).isLt
  have h1 : (i 1).val < 8 := (i 1).isLt
  have h2 : (i 2).val < 256 := (i 2).isLt
  have h3 : (i 3).val < 128 := (i 3).isLt
  rw [val_main_v54_apply, bout_apply]
  refine out_congr X ?_ ?_ ?_ ?_ ?_
  · show (32 + ((((i 0).val * 8 + (i 1).val) * 256 + (i 2).val) * 128 + (i 3).val) / 262144) * 256 + ((((i 0).val * 8 + (i 1).val) * 256 + (i 2).val) * 128 + (i 3).val) / 128 % 256 = _
    omega
  · show 24 + (((((i 0).val * 8 + (i 1).val) * 256 + (i 2).val) * 128 + (i 3).val) / 131072 % 2 * 4 + ((((i 0).val * 8 + (i 1).val) * 256 + (i 2).val) * 128 + (i 3).val) / 32768 % 4) = _
    omega
  · show 32 + ((((i 0).val * 8 + (i 1).val) * 256 + (i 2).val) * 128 + (i 3).val) / 131072 % 2 = _
    omega
  · show 34 + ((((i 0).val * 8 + (i 1).val) * 256 + (i 2).val) * 128 + (i 3).val) / 131072 % 2 = _
    omega
  · show ((((i 0).val * 8 + (i 1).val) * 256 + (i 2).val) * 128 + (i 3).val) % 128 = _
    omega

/-- The same by batch and row, a row's heads one after another. -/
theorem bbatches_apply (i : S4x256x1024.Idx) :
    val_main_v58 (F := Ideal) X i = out X ((32 + (i 0).val) * 256 + (i 1).val) (24 + (i 2).val / 128) (32 + (i 2).val / 128 / 4) (34 + (i 2).val / 128 / 4) ((i 2).val % 128) := by
  have h0 : (i 0).val < 4 := (i 0).isLt
  have h1 : (i 1).val < 256 := (i 1).isLt
  have h2 : (i 2).val < 1024 := (i 2).isLt
  rw [val_main_v58_apply, val_main_v57_apply, bheads_apply]
  have e : (((i 0).val * 256 + (i 1).val) * 1024 + (i 2).val) / 128 % 8 = (i 2).val / 128 := by omega
  refine out_congr X ?_ ?_ ?_ ?_ ?_
  · show (32 + (((i 0).val * 256 + (i 1).val) * 1024 + (i 2).val) / 262144) * 256 + (((i 0).val * 256 + (i 1).val) * 1024 + (i 2).val) / 1024 % 256 = _
    omega
  · show 24 + (((i 0).val * 256 + (i 1).val) * 1024 + (i 2).val) / 128 % 8 = _
    rw [e]
  · show 32 + (((i 0).val * 256 + (i 1).val) * 1024 + (i 2).val) / 128 % 8 / 4 = _
    rw [e]
  · show 34 + (((i 0).val * 256 + (i 1).val) * 1024 + (i 2).val) / 128 % 8 / 4 = _
    rw [e]
  · show (((i 0).val * 256 + (i 1).val) * 1024 + (i 2).val) % 128 = _
    omega

/-! ### Both, and the equality -/

/-- The scale is a real. -/
theorem scale_real : ∃ c : ℝ, scale = c := ⟨_, by simp [scale, Ideal.ofBits, Ideal.ieee]; rfl⟩

/-- Every query and key of the context is a real: columns 0 to 2047 and 3072 to 4351 of the rows from 8192. -/
def Finite : Prop := ∀ r k : Nat, 8192 ≤ r → r < 9216 → k < 2048 ∨ 3072 ≤ k ∧ k < 4352 → ∃ x : ℝ, rd X r k = x

/-- Where queries and keys are finite, the reference's attention is the kernel's. -/
theorem out_eq_att (hX : Finite X) (row h d : Nat) (hr : 8192 ≤ row) (hr' : row < 9216) (hh : h < 16) :
    out X row (qcol h) (kcol h) (vcol h) d = att X row h d := by
  obtain ⟨c, hc⟩ := scale_real
  refine whole_eq (by decide) _ _ fun n => ?_
  have hn := n.isLt
  unfold score
  rw [hc]
  refine score_real _ _ c (fun e => hX _ _ hr hr' ?_) (fun e => hX _ _ (by omega) (by omega) ?_)
  · have := e.isLt
    unfold qcol
    split <;> omega
  · have := e.isLt
    unfold kcol
    split <;> omega

/-- The attention by batch, row and column. -/
theorem both_apply (hX : Finite X) (i : S4x256x2048.Idx) :
    val_main_v59 (F := Ideal) X i = att X ((32 + (i 0).val) * 256 + (i 1).val) ((i 2).val / 128) ((i 2).val % 128) := by
  have h0 : (i 0).val < 4 := (i 0).isLt
  have h1 : (i 1).val < 256 := (i 1).isLt
  have h2 : (i 2).val < 2048 := (i 2).isLt
  refine Eq.trans ?_ (out_eq_att X hX _ _ _ (by omega) (by omega) (by omega))
  unfold val_main_v59
  by_cases h : (i 2).val < 1024
  · refine (concatenate_pair_apply_left (t := S4x256x2048) (s₁ := S4x256x1024) (s₂ := S4x256x1024) 2 _ _ _ i rfl
      (fun a => match a with | ⟨0, _⟩ => i 0 | ⟨1, _⟩ => i 1 | ⟨2, _⟩ => ⟨(i 2).val, h⟩)
      (fun b => match b with | ⟨0, _⟩ => rfl | ⟨1, _⟩ => rfl | ⟨2, _⟩ => rfl)).trans ?_
    rw [abatches_apply]
    unfold qcol kcol vcol
    have hh : (i 2).val / 128 < 8 := by omega
    rw [if_pos hh, if_pos hh, if_pos hh]
    refine out_congr X rfl ?_ ?_ ?_ rfl
    · show 0 + (i 2).val / 128 = _
      omega
    · show 8 + (i 2).val / 128 / 1 = _
      omega
    · show 16 + (i 2).val / 128 / 1 = _
      omega
  · refine (concatenate_pair_apply_right (t := S4x256x2048) (s₁ := S4x256x1024) (s₂ := S4x256x1024) 2 _ _ _ i rfl rfl
      (fun a => match a with | ⟨0, _⟩ => i 0 | ⟨1, _⟩ => i 1 | ⟨2, _⟩ => ⟨(i 2).val - 1024, by show _ < 1024; omega⟩)
      (fun b hb => match b with | ⟨0, _⟩ => rfl | ⟨1, _⟩ => rfl | ⟨2, _⟩ => absurd rfl hb)
      (by show (i 2).val - 1024 + 1024 = (i 2).val; omega)).trans ?_
    rw [bbatches_apply]
    unfold qcol kcol vcol
    have hh : ¬ (i 2).val / 128 < 8 := by omega
    rw [if_neg hh, if_neg hh, if_neg hh]
    refine out_congr X rfl ?_ ?_ ?_ ?_
    · show 24 + ((i 2).val - 1024) / 128 = _
      omega
    · show 32 + ((i 2).val - 1024) / 128 / 4 = _
      omega
    · show 34 + ((i 2).val - 1024) / 128 / 4 = _
      omega
    · show ((i 2).val - 1024) % 128 = _
      omega

/-- The reference's result is the kernel's. -/
theorem result_eq (O : S9216x2048.Idx → EReal) (hX : Finite X) : val_main_v63 (F := Ideal) X O = result X O := funext fun i => by
  have h0 : (i 0).val < 9216 := (i 0).isLt
  have h1 : (i 1).val < 2048 := (i 1).isLt
  unfold val_main_v63 result
  by_cases hr : (i 0).val < 8192
  · refine (concatenate_pair_apply_left (t := S9216x2048) (s₁ := S8192x2048) (s₂ := S1024x2048) 0 _ _ _ i rfl
      (fun a => match a with | ⟨0, _⟩ => ⟨(i 0).val, hr⟩ | ⟨1, _⟩ => i 1)
      (fun b => match b with | ⟨0, _⟩ => rfl | ⟨1, _⟩ => rfl)).trans ?_
    rw [val_main_v60_apply, if_neg (by omega)]
    exact congrArg O (funext fun a => match a with | ⟨0, _⟩ => rfl | ⟨1, _⟩ => rfl)
  · refine (concatenate_pair_apply_right (t := S9216x2048) (s₁ := S8192x2048) (s₂ := S1024x2048) 0 _ _ _ i rfl rfl
      (fun a => match a with | ⟨0, _⟩ => ⟨(i 0).val - 8192, by show _ < 1024; omega⟩ | ⟨1, _⟩ => i 1)
      (fun b hb => match b with | ⟨0, _⟩ => absurd rfl hb | ⟨1, _⟩ => rfl)
      (by show (i 0).val - 8192 + 8192 = (i 0).val; omega)).trans ?_
    rw [val_main_v62_apply]
    show val_main_v61 (F := Ideal) X _ = _
    rw [val_main_v61_apply, both_apply X hX, if_pos (by omega)]
    show att X ((32 + (((i 0).val - 8192) * 2048 + (i 1).val) / 524288) * 256 + (((i 0).val - 8192) * 2048 + (i 1).val) / 2048 % 256)
      ((((i 0).val - 8192) * 2048 + (i 1).val) % 2048 / 128) ((((i 0).val - 8192) * 2048 + (i 1).val) % 2048 % 128) = _
    have e0 : (32 + (((i 0).val - 8192) * 2048 + (i 1).val) / 524288) * 256 + (((i 0).val - 8192) * 2048 + (i 1).val) / 2048 % 256 = (i 0).val := by
      omega
    have e1 : (((i 0).val - 8192) * 2048 + (i 1).val) % 2048 = (i 1).val := by omega
    rw [e0, e1]

/-- A float that is below plus infinity in absolute value is a real. -/
theorem real_of_abs_lt (x : EReal) (h : max x (-x) < ⊤) : ∃ r : ℝ, x = r := by
  induction x with
  | bot => simp at h
  | coe r => exact ⟨r, rfl⟩
  | top => simp at h

/-- What the precondition says of the fused array. -/
theorem finite_of_pre (O : S9216x2048.Idx → EReal) (h : Cert.Pre_context_finite.fn (F := Ideal) X O = fun _ => 1#1) : Finite X := by
  have ht : Ideal.ofBits .f32 0x7F800000#32 = ⊤ := by simp [Ideal.ofBits, Ideal.ieee]
  have real : ∀ (A : Cert.Pre_context_finite.S1024x3328.Idx → EReal) (j : Cert.Pre_context_finite.S1024x3328.Idx) (x : EReal), A j = x →
      (BitVec.ofBool (decide (max (A j) (-(A j)) < Ideal.ofBits .f32 0x7F800000#32)) : BitVec 1) = 1#1 → ∃ r : ℝ, x = r := fun A j x hA e => by
    rw [hA, ht] at e
    refine real_of_abs_lt _ ?_
    by_contra hn
    rw [decide_eq_false hn] at e
    exact absurd e (by decide)
  intro r k hr hr' hk
  let A0 : Cert.Pre_context_finite.S1024x4608.Idx → EReal := extractStridedSlice Cert.Pre_context_finite.S1024x4608 ![8192, 0] X
    Cert.Pre_context_finite.Facts.slices_S9216x4608_S1024x4608_8192_0
  have hA0 : A0 (ix2 ⟨r - 8192, by omega⟩ ⟨k, by omega⟩) = rd X r k :=
    (extractStridedSlice_apply ![8192, 0] X _ _ (ix2 ⟨r, hr'⟩ ⟨k, by omega⟩) (fun a => match a with
      | ⟨0, _⟩ => by show r = 8192 + (r - 8192); omega
      | ⟨1, _⟩ => by show k = 0 + k; omega)).trans (rd_of_lt X hr' (by omega)).symm
  let A : Cert.Pre_context_finite.S1024x3328.Idx → EReal := concatenate Cert.Pre_context_finite.S1024x3328 1
    [⟨Cert.Pre_context_finite.S1024x2048, extractStridedSlice Cert.Pre_context_finite.S1024x2048 ![0, 0] A0 Cert.Pre_context_finite.Facts.slices_S1024x4608_S1024x2048_0_0⟩,
     ⟨Cert.Pre_context_finite.S1024x1280, extractStridedSlice Cert.Pre_context_finite.S1024x1280 ![0, 3072] A0 Cert.Pre_context_finite.Facts.slices_S1024x4608_S1024x1280_0_3072⟩]
    Cert.Pre_context_finite.Facts.concatenates_S1024x2048_S1024x1280_S1024x3328_d1
  have hall : ∀ j, (BitVec.ofBool (decide (max (A j) (-(A j)) < Ideal.ofBits .f32 0x7F800000#32)) : BitVec 1) = 1#1 := fun j => congrFun h j
  rcases hk with hk | ⟨hk, hk'⟩
  · let j : Cert.Pre_context_finite.S1024x3328.Idx := ix2 ⟨r - 8192, by omega⟩ ⟨k, by omega⟩
    refine real A j _ ?_ (hall j)
    refine (concatenate_pair_apply_left (t := Cert.Pre_context_finite.S1024x3328) (s₁ := Cert.Pre_context_finite.S1024x2048)
      (s₂ := Cert.Pre_context_finite.S1024x1280) 1 _ _ _ j rfl (ix2 ⟨r - 8192, by omega⟩ ⟨k, hk⟩)
      (fun b => match b with | ⟨0, _⟩ => rfl | ⟨1, _⟩ => rfl)).trans ?_
    exact (extractStridedSlice_apply ![0, 0] A0 _ _ (ix2 ⟨r - 8192, by omega⟩ ⟨k, by omega⟩) (fun a => match a with
      | ⟨0, _⟩ => by show r - 8192 = 0 + (r - 8192); omega
      | ⟨1, _⟩ => by show k = 0 + k; omega)).trans hA0
  · obtain ⟨u, hu⟩ : ∃ u, u = r - 8192 := ⟨_, rfl⟩
    obtain ⟨w, hw⟩ : ∃ w, w = k - 3072 := ⟨_, rfl⟩
    have hu' : u < 1024 := by omega
    have hw' : w < 1280 := by omega
    have hv' : w + 2048 < 3328 := by omega
    let j : Cert.Pre_context_finite.S1024x3328.Idx := ix2 ⟨u, hu'⟩ ⟨w + 2048, hv'⟩
    let y : Cert.Pre_context_finite.S1024x1280.Idx := ix2 ⟨u, hu'⟩ ⟨w, hw'⟩
    refine real A j _ ?_ (hall j)
    refine (concatenate_pair_apply_right (t := Cert.Pre_context_finite.S1024x3328) (s₁ := Cert.Pre_context_finite.S1024x2048)
      (s₂ := Cert.Pre_context_finite.S1024x1280) 1 _ _ _ j rfl rfl y
      (fun b hb => match b with | ⟨0, _⟩ => (rfl : u = u) | ⟨1, _⟩ => absurd rfl hb)
      (by show w + 2048 = w + 2048; rfl)).trans ?_
    exact (extractStridedSlice_apply ![0, 3072] A0 _ y (ix2 ⟨r - 8192, by omega⟩ ⟨k, by omega⟩) (fun a => match a with
      | ⟨0, _⟩ => by show r - 8192 = 0 + u; omega
      | ⟨1, _⟩ => by show k = 3072 + w; omega)).trans hA0

end Reference

/-! ## The claims -/

/-- The kernel at the machine's floats runs and leaves its arguments unchanged. -/
theorem frame_kernel : Cert.quiescent_Kernel11 (hKernel11 := Cert.Kernel11.Gen.facts) := fun m ρ _ => Cert.Kernel11.Gen.frame m ρ

/-- The kernel at the ideal instance. -/
theorem frame_ideal : Cert.quiescent_Kernel11Ideal (hKernel11Ideal := Cert.Kernel11Ideal.Gen.facts) :=
  fun m ρ _ => Cert.Kernel11Ideal.Gen.frame m ρ

/-- The reference. -/
theorem frame_reference : Cert.quiescent_Reference11Ideal (hReference11Ideal := Cert.Reference11Ideal.Gen.facts) := fun m ρ _ =>
  (θ_run Cert.Reference11Ideal.defs _ _).mono (fun _ h => ⟨fun c => (h c).2, funext fun s => nomatch s⟩)
    (Cert.Reference11Ideal.Value.run m ρ)

/-- From equal arguments, with the context's queries and keys finite, kernel and reference end with equal results. -/
theorem algebraic : Cert.algebraic_Kernel11Ideal_Reference11Ideal_pre_context_finite
    (hKernel11Ideal := Cert.Kernel11Ideal.Gen.facts) (hReference11Ideal := Cert.Reference11Ideal.Gen.facts)
    (hPre_context_finite := Cert.Pre_context_finite.Gen.facts) := fun m ρ m' ρ' hpre hag =>
  ⟨fun c => result (m ((c.tc : Thread _ _).loc Cert.Kernel11Ideal.main_arg0)) (m ((c.tc : Thread _ _).loc Cert.Kernel11Ideal.main_arg1)), run m ρ,
    (θ_run Cert.Reference11Ideal.defs _ _).mono (fun _ h c => by
      obtain ⟨hv, h0, h1⟩ := h c
      refine ⟨?_, h0, h1⟩
      have e := result_eq _ (m ((c.tc : Thread _ _).loc Cert.Kernel11Ideal.main_arg1)) (finite_of_pre _ _ (hpre c))
      rw [hv, Cert.Reference11Ideal.Read.val_main_v63_eq, (hag c).1, (hag c).2]
      exact e)
      (Cert.Reference11Ideal.Value.run m' ρ')⟩

end Cert.Proj11

end
-- ==== Proof.Proj12.lean ====
/- The mLSTM's gates: kernel and reference equal. -/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.MoeMath
public import Idealize.ShloMosaic.Lib.Pointwise

@[expose] public section

set_option maxRecDepth 16384

noncomputable section

namespace Cert.Proj12

open Idealize.ShloMosaic Idealize.ShloMosaic.TcCoe Idealize.SL.Sem
open Cert.Grid2
open Cert.Moe (rd3 eq_rd3_of)

section Kernel

open Cert.Kernel12Ideal Cert.Kernel12Ideal.Gen

theorem hz : (![0, 0] : Fin 2 → Nat) = fun _ => 0 := funext fun a => by fin_cases a <;> rfl

/-- The constant one. -/
theorem one_eq : Ideal.ofBits .f32 0x3F800000#32 = 1 := by
  have h : Ideal.ofBits .f32 0x3F800000#32 = (((8388608 : ℝ) * ((2 : ℝ) ^ 23)⁻¹ : ℝ) : EReal) := by simp [Ideal.ofBits, Ideal.ieee]
  rw [h]
  norm_num

/-- The softcapped gate: 15 times the hyperbolic tangent of the product `∑ f w` plus the bias `b`, over 15. -/
def sc (f w : Fin 2048 → EReal) (b : EReal) : EReal :=
  Ideal.ofBits .f32 0x41700000#32 * Ideal.tanh (Ideal.div ((∑ k, f k * w k) + b) (Ideal.ofBits .f32 0x41700000#32))

/-- The logarithm of the logistic function, as the kernel computes it. -/
def lsig (g : EReal) : EReal := min g 0 - Ideal.log (1 + Ideal.exp (0 - max g (-g)))

/-- Of every sixteen columns the last eight are forget gates, and take the logarithm. -/
def gate (n : Nat) (g : EReal) : EReal := if n / 8 % 2 = 1 then lsig g else g

theorem select_one {α : Type} (a b : α) : Scalar.select (1#1) a b = a := rfl
theorem select_zero {α : Type} (a b : α) : Scalar.select (0#1) a b = b := rfl

/-- A choice by the column's kind. -/
theorem select_if {c : BitVec 1} {n : Nat} (h : c = if n / 8 % 2 = 1 then 1#1 else 0#1) (g : EReal) : Scalar.select c (lsig g) g = gate n g := by
  subst h
  unfold gate
  by_cases hn : n / 8 % 2 = 1
  · rw [if_pos hn, if_pos hn, select_one]
  · rw [if_neg hn, if_neg hn, select_zero]

/-- The body's arithmetic at one element. -/
theorem pay_apply (x : Vec Ideal S1024x2048 .bf16) (w : Vec Ideal S2048x128 .f32) (b : Vec Ideal S1x128 .f32) (r : Fin 1024) (n : Fin 128) :
    (k0_pay1 (F := Ideal) (k0_pay2 x w b) k0_pay3 (Scalar.select (Scalar.cmpi .eq 2#32 0#32) 1#32 2#32) k0_pay4) (ix2 r n)
      = gate n.val (sc (fun k => x (ix2 r k)) (fun k => w (ix2 k n)) (b (ix2 0 n))) := by
  unfold_payloads
  pointwise
  refine select_if ?_ _
  clear x w b r
  revert n
  decide +kernel

/-- One element of the result. -/
def elt (X : S9216x2048.Idx → EReal) (W : S2048x128.Idx → EReal) (B : S1x128.Idx → EReal) (r n : Nat) : EReal :=
  gate n (sc (fun k => rd X r k.val) (fun k => rd W k.val n) (rd B 0 n))

/-- The result array. -/
def result (X : S9216x2048.Idx → EReal) (W : S2048x128.Idx → EReal) (B : S1x128.Idx → EReal) : S9216x128.Idx → EReal :=
  fun i => elt X W B (i 0).val (i 1).val

variable (m : (ℓ : Loc nD τ sig) → Buf (Elt Ideal) ℓ) (ρ : Dev nD → PrngReg)

/-- What the body leaves in the output's buffer is its arithmetic of the blocks. -/
theorem out_eq (x : Vec Ideal S1024x2048 .bf16) (w : Vec Ideal S2048x128 .f32) (b : Vec Ideal S1x128 .f32) :
    out0_3 (F := Ideal) x w b = k0_pay1 (k0_pay2 x w b) k0_pay3 (Scalar.select (Scalar.cmpi .eq 2#32 0#32) 1#32 2#32) k0_pay4 := by
  unfold out0_3
  rw [View.canon_unit_zero hz]
  simp only [View.ld_unit_zero (S := S1024x2048) hz, View.ld_unit_zero (S := S2048x128) hz, View.ld_unit_zero (S := S1x128) hz]

/-- Every window's block index at every grid point. -/
theorem idx (t : Fin grid0.N) :
    (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = t.val ∧ win0_3.index t 1 = 0) :=
  (by decide +kernel : ∀ t : Fin grid0.N,
    (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = t.val ∧ win0_3.index t 1 = 0)) t

abbrev argX (c : Dev nD) : S9216x2048.Idx → EReal := m ((c : Thread nD τ).loc main_arg0)
abbrev argW (c : Dev nD) : S2048x128.Idx → EReal := m ((c : Thread nD τ).loc main_arg1)
abbrev argB (c : Dev nD) : S1x128.Idx → EReal := m ((c : Thread nD τ).loc main_arg2)

/-- An element of window 0's block. -/
theorem x_apply (c : Dev nD) (t : Fin cfg0.N) (r : Fin 1024) (k : Fin 2048) :
    (iblk m c 0 t : Vec Ideal S1024x2048 .bf16) (ix2 r k) = rd (argX m c) (t.val * 1024 + r.val) k.val := by
  unfold iblk
  rw [View.read_apply]
  show V m c main_arg0 _ = _
  rw [V_main_arg0]
  have h := idx t
  refine eq_rd_of _ _ ?_ ?_
  · show win0_0.index t 0 * 1024 + 1 * r.val = _; omega
  · show win0_0.index t 1 * 2048 + 1 * k.val = _; omega

/-- An element of window 1's block. -/
theorem w_apply (c : Dev nD) (t : Fin cfg0.N) (r : Fin 2048) (k : Fin 128) :
    (iblk m c 1 t : Vec Ideal S2048x128 .f32) (ix2 r k) = rd (argW m c) (r.val) k.val := by
  unfold iblk
  rw [View.read_apply]
  show V m c main_arg1 _ = _
  rw [V_main_arg1]
  have h := idx t
  refine eq_rd_of _ _ ?_ ?_
  · show win0_1.index t 0 * 2048 + 1 * r.val = _; omega
  · show win0_1.index t 1 * 128 + 1 * k.val = _; omega

/-- An element of window 2's block. -/
theorem b_apply (c : Dev nD) (t : Fin cfg0.N) (r : Fin 1) (k : Fin 128) :
    (iblk m c 2 t : Vec Ideal S1x128 .f32) (ix2 r k) = rd (argB m c) (r.val) k.val := by
  unfold iblk
  rw [View.read_apply]
  show V m c main_arg2 _ = _
  rw [V_main_arg2]
  have h := idx t
  refine eq_rd_of _ _ ?_ ?_
  · show win0_2.index t 0 * 1 + 1 * r.val = _; omega
  · show win0_2.index t 1 * 128 + 1 * k.val = _; omega

theorem sc_congr {f f' w w' : Fin 2048 → EReal} {b b' : EReal} (hf : ∀ k, f k = f' k) (hw : ∀ k, w k = w' k) (hb : b = b') :
    sc f w b = sc f' w' b' := by
  rw [funext hf, funext hw, hb]

/-- What a grid point leaves, at one element. -/
theorem outs_result (c : Dev nD) (t : Fin cfg0.N) (y : S1024x128.Idx) :
    out0_3 (F := Ideal) (iblk m c 0 t) (iblk m c 1 t) (iblk m c 2 t) y = result (argX m c) (argW m c) (argB m c) (((cfg0.win 3).blk t).view.emb y) := by
  have h0 : (y 0).val < 1024 := (y 0).isLt
  have h1 : (y 1).val < 128 := (y 1).isLt
  have h := idx t
  have e0 : (((cfg0.win 3).blk t).view.emb y 0).val = t.val * 1024 + (y 0).val := by
    show win0_3.index t 0 * 1024 + 1 * (y 0).val = _; omega
  have e1 : (((cfg0.win 3).blk t).view.emb y 1).val = (y 1).val := by
    show win0_3.index t 1 * 128 + 1 * (y 1).val = _; omega
  have e : y = ix2 ⟨(y 0).val, h0⟩ ⟨(y 1).val, h1⟩ := funext fun a => match a with | ⟨0, _⟩ => rfl | ⟨1, _⟩ => rfl
  rw [out_eq]
  unfold result elt
  rw [e0, e1]
  refine (congrArg (k0_pay1 (F := Ideal) (k0_pay2 (iblk m c 0 t) (iblk m c 1 t) (iblk m c 2 t)) k0_pay3 (Scalar.select (Scalar.cmpi .eq 2#32 0#32) 1#32 2#32) k0_pay4) e).trans
    ((pay_apply _ _ _ ⟨(y 0).val, h0⟩ ⟨(y 1).val, h1⟩).trans (congrArg (gate (y 1).val) ?_))
  exact sc_congr (fun k => x_apply m c t ⟨_, h0⟩ k) (fun k => w_apply m c t k ⟨_, h1⟩) (b_apply m c t 0 ⟨_, h1⟩)

/-- A grid point writes back its block of `result`. -/
theorem flushed_eq (c : Dev nD) (t : Fin cfg0.N) :
    (dats m 0 c).flushed 3 t = ((cfg0.win 3).blk t).view.read (Elt Ideal) (result (argX m c) (argW m c) (argB m c)) :=
  (Value.flushed3 m c t).trans (funext fun y => outs_result m c t y)

/-- An index is in a grid point's output block when its coordinates are. -/
theorem mem_blk (t : Fin cfg0.N) (i : S9216x128.Idx) :
    i ∈ ((cfg0.win 3).blk t).view.set ↔
      (t.val * 1024 ≤ (i 0).val ∧ (i 0).val < t.val * 1024 + 1024)
      ∧ (0 * 128 ≤ (i 1).val ∧ (i 1).val < 0 * 128 + 128) := by
  show i ∈ ((View.whole main_v0).slice (win0_3.rect t)).set ↔ _
  rw [View.set_slice_whole, Rect.mem_set_unit]
  have e : win0_3.index t 0 = t.val ∧ win0_3.index t 1 = 0 := by have h := idx t; exact ⟨by omega, by omega⟩
  rw [← e.1, ← e.2]
  refine ⟨fun h => ⟨h 0, h 1⟩, fun h a => ?_⟩
  match a with
  | ⟨0, _⟩ => exact h.1
  | ⟨1, _⟩ => exact h.2

/-- The output array after the run. -/
theorem final (c : Dev nD) : (dats m 0 c).arrAt 3 cfg0.N = result (argX m c) (argW m c) (argB m c) := by
  funext i
  have hN : cfg0.N = 9 := N_0
  have h0 : (i 0).val < 9216 := (i 0).isLt
  have h1 : (i 1).val < 128 := (i 1).isLt
  have ht : (i 0).val / 1024 < cfg0.N := by omega
  refine (dats m 0 c).arrAt_apply_of_mem 3 _ (fun t _ => flushed_eq m c t) cfg0.N ⟨_, ht⟩ i ht (flush0_3 _) ?_
  rw [mem_blk]
  dsimp only
  omega

/-- The run, read: the output array at `result` of the arguments, the arguments unchanged. -/
theorem run : θ_run defs (onTc (τ := τ) (main (F := Ideal))) ⟨m, fun _ => 0, ρ⟩ fun r => ∀ c : Dev nD,
      r.2.mem ((c : Thread nD τ).loc main_v0) = result (argX m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Kernel

/-! ## The logarithm of the logistic function, as the reference computes it -/

/-- The softcapped gate is a real number: the hyperbolic tangent is bounded. -/
theorem sc_real (f w : Fin 2048 → EReal) (b : EReal) : ∃ g : ℝ, sc f w b = (g : EReal) := by
  have hc : Ideal.ofBits .f32 0x41700000#32 = (((15728640 : ℝ) * ((2 : ℝ) ^ 20)⁻¹ : ℝ) : EReal) := by simp [Ideal.ofBits, Ideal.ieee]
  have ht : ∀ x : EReal, ∃ t : ℝ, Ideal.tanh x = (t : EReal) := by
    intro x
    induction x with
    | bot => exact ⟨-1, by simp⟩
    | top => exact ⟨1, by simp⟩
    | coe r => exact ⟨Real.tanh r, by simp⟩
  obtain ⟨t, ht⟩ := ht (Ideal.div ((∑ k, f k * w k) + b) (Ideal.ofBits .f32 0x41700000#32))
  refine ⟨(15728640 : ℝ) * ((2 : ℝ) ^ 20)⁻¹ * t, ?_⟩
  unfold sc
  rw [ht, hc, ← EReal.coe_mul]

/-- At a real number the two ways of computing it agree. -/
theorem lsig_eq (g : ℝ) :
    -(Scalar.select (Ideal.cmp .une (-(g : EReal) - 0) (-(g : EReal) - 0)) (-(g : EReal) + 0)
      (max (-(g : EReal)) 0 + Ideal.log1p (Ideal.exp (-(max (-(g : EReal) - 0) (-(-(g : EReal) - 0))))))) = lsig g := by
  have hc : ∀ x : EReal, Ideal.cmp .une x x = 0#1 := fun x => by simp [Ideal.cmp]
  rw [hc, select_zero]
  simp only [sub_zero, neg_neg, Ideal.log1p, lsig, zero_sub]
  rw [max_comm (-(g : EReal)) g]
  generalize Ideal.log _ = L
  have hm : max (-(g : EReal)) 0 = ((max (-g) 0 : ℝ) : EReal) := by
    rw [← EReal.coe_neg, ← EReal.coe_zero, EReal.coe_strictMono.monotone.map_max]
  have hn : min (g : EReal) 0 = ((min g 0 : ℝ) : EReal) := by
    rw [← EReal.coe_zero, EReal.coe_strictMono.monotone.map_min]
  rw [hm, hn, EReal.neg_add (Or.inl (EReal.coe_ne_bot _)) (Or.inl (EReal.coe_ne_top _)), ← EReal.coe_neg]
  congr 2
  rw [← min_neg_neg, neg_neg, neg_zero]

section Reference

open Cert.Reference12Ideal Cert.Reference12Ideal.Gen Cert.Reference12Ideal.Read

variable (x0 : (⟨S9216x2048, .bf16⟩ : BufTy).Contents (Elt Ideal)) (x1 : (⟨S2048x128, .f32⟩ : BufTy).Contents (Elt Ideal))
  (x2 : (⟨S1x128, .f32⟩ : BufTy).Contents (Elt Ideal))

/-- The softcapped gate. -/
theorem sc_at (i : S9216x128.Idx) {r n : Nat} (hr : (i 0).val = r) (hn : (i 1).val = n) :
    val_main_v8 (F := Ideal) x0 x1 x2 i = sc (fun k => rd x0 r k.val) (fun k => rd x1 k.val n) (rd x2 0 n) := by
  refine (val_main_v8_apply x0 x1 x2 i).trans (congrArg₂ (fun p q : EReal => p * q) (val_main_v7_apply _) ?_)
  refine (val_main_v6_apply x0 x1 x2 i).trans (congrArg Ideal.tanh ?_)
  refine (val_main_v5_apply x0 x1 x2 i).trans (congrArg₂ Ideal.div ?_ (val_main_v4_apply _))
  refine (val_main_v3_apply x0 x1 x2 i).trans (congrArg₂ (fun p q : EReal => p + q) ?_ ((val_main_v2_apply x2 i).trans (eq_rd_of x2 _ rfl hn)))
  exact (val_main_v1_apply x0 x1 i).trans (Finset.sum_congr rfl fun k _ =>
    congrArg₂ (fun p q : EReal => p * q) (eq_rd_of x0 _ hr rfl) (eq_rd_of x1 _ rfl hn))

/-- The logarithm of the logistic function at a real element. -/
theorem ls_at (j : S9216x8x8.Idx) {g : ℝ} (h : val_main_v13 (F := Ideal) x0 x1 x2 j = (g : EReal)) :
    val_main_v14 (F := Ideal) x0 x1 x2 j = lsig g := by
  have hz : ∀ j, val_main_call0_call0_cst (F := Ideal) j = (0 : EReal) := fun j => Ideal.ofBits_zero .f32
  have hn : val_main_call0_v0 (F := Ideal) x0 x1 x2 j = -(g : EReal) := (val_main_call0_v0_apply x0 x1 x2 j).trans (congrArg (fun p : EReal => -p) h)
  have h1 : val_main_call0_call0_v1 (F := Ideal) x0 x1 x2 j = max (-(g : EReal)) 0 := (val_main_call0_call0_v1_apply x0 x1 x2 j).trans
    (congrArg₂ (fun p q : EReal => max p q) hn ((val_main_call0_call0_v0_apply j).trans (hz _)))
  have h3 : val_main_call0_call0_v3 (F := Ideal) x0 x1 x2 j = -(g : EReal) - 0 := (val_main_call0_call0_v3_apply x0 x1 x2 j).trans
    (congrArg₂ (fun p q : EReal => p - q) hn ((val_main_call0_call0_v2_apply j).trans (hz _)))
  have h4 : val_main_call0_call0_v4 (F := Ideal) x0 x1 x2 j = Ideal.cmp .une (-(g : EReal) - 0) (-(g : EReal) - 0) :=
    (val_main_call0_call0_v4_apply x0 x1 x2 j).trans (congrArg₂ (fun p q : EReal => Ideal.cmp .une p q) h3 h3)
  have h6 : val_main_call0_call0_v6 (F := Ideal) x0 x1 x2 j = -(g : EReal) + 0 := (val_main_call0_call0_v6_apply x0 x1 x2 j).trans
    (congrArg₂ (fun p q : EReal => p + q) hn ((val_main_call0_call0_v5_apply j).trans (hz _)))
  have h7 : val_main_call0_call0_v7 (F := Ideal) x0 x1 x2 j = max (-(g : EReal) - 0) (-(-(g : EReal) - 0)) :=
    (val_main_call0_call0_v7_apply x0 x1 x2 j).trans (congrArg (fun p : EReal => max p (-p)) h3)
  have h10 : val_main_call0_call0_v10 (F := Ideal) x0 x1 x2 j = Ideal.log1p (Ideal.exp (-(max (-(g : EReal) - 0) (-(-(g : EReal) - 0))))) :=
    (val_main_call0_call0_v10_apply x0 x1 x2 j).trans (congrArg Ideal.log1p ((val_main_call0_call0_v9_apply x0 x1 x2 j).trans
      (congrArg Ideal.exp ((val_main_call0_call0_v8_apply x0 x1 x2 j).trans (congrArg (fun p : EReal => -p) h7)))))
  have h11 := (val_main_call0_call0_v11_apply x0 x1 x2 j).trans (congrArg₂ (fun p q : EReal => p + q) h1 h10)
  refine (val_main_v14_apply x0 x1 x2 j).trans (Eq.trans (congrArg (fun p : EReal => -p) ?_) (lsig_eq g))
  refine (val_main_call0_v1_apply x0 x1 x2 j).trans ?_
  rw [h4, h6, h11]

/-- The reference's result is the kernel's. -/
theorem result_eq : val_main_v18 (F := Ideal) x0 x1 x2 = result x0 x1 x2 := funext fun i => by
  have h0 : (i 0).val < 9216 := (i 0).isLt
  have h1 : (i 1).val < 128 := (i 1).isLt
  refine (val_main_v18_apply x0 x1 x2 i).trans ?_
  unfold val_main_v17 result elt gate
  by_cases hn : (i 1).val / 8 % 2 = 1
  · rw [if_pos hn]
    refine (concatenate_pair_apply_right (t := S9216x8x2x8) (s₁ := S9216x8x1x8) (s₂ := S9216x8x1x8) 2 _ _ _ (idx_main_v18 i) rfl rfl
      (fun a => match a with | ⟨0, _⟩ => idx_main_v18 i 0 | ⟨1, _⟩ => idx_main_v18 i 1 | ⟨2, _⟩ => ⟨0, Nat.one_pos⟩ | ⟨3, _⟩ => idx_main_v18 i 3)
      (fun b hb => match b with | ⟨0, _⟩ => rfl | ⟨1, _⟩ => rfl | ⟨2, _⟩ => absurd rfl hb | ⟨3, _⟩ => rfl)
      (by show 0 + 1 = ((i 0).val * 128 + (i 1).val) / 8 % 2; omega)).trans ?_
    refine (val_main_v16_apply x0 x1 x2 _).trans ?_
    obtain ⟨g, hg⟩ := sc_real (fun k : Fin 2048 => rd x0 (i 0).val k.val) (fun k => rd x1 k.val (i 1).val) (rd x2 0 (i 1).val)
    rw [hg]
    refine ls_at x0 x1 x2 _ (Eq.trans ?_ hg)
    refine (val_main_v13_apply x0 x1 x2 _).trans ((val_main_v12_apply x0 x1 x2 _).trans ((val_main_v9_apply x0 x1 x2 _).trans (sc_at x0 x1 x2 _ ?_ ?_)))
    · dsimp only [idx_main_v9, idx_main_v12, idx_main_v13, idx_main_v16, idx_main_v18]
      omega
    · dsimp only [idx_main_v9, idx_main_v12, idx_main_v13, idx_main_v16, idx_main_v18]
      omega
  · rw [if_neg hn]
    refine (concatenate_pair_apply_left (t := S9216x8x2x8) (s₁ := S9216x8x1x8) (s₂ := S9216x8x1x8) 2 _ _ _ (idx_main_v18 i) rfl
      (fun a => match a with | ⟨0, _⟩ => idx_main_v18 i 0 | ⟨1, _⟩ => idx_main_v18 i 1 | ⟨2, _⟩ => ⟨0, Nat.one_pos⟩ | ⟨3, _⟩ => idx_main_v18 i 3)
      (fun b => match b with | ⟨0, _⟩ => rfl | ⟨1, _⟩ => rfl | ⟨2, _⟩ => (by show 0 = ((i 0).val * 128 + (i 1).val) / 8 % 2; omega) | ⟨3, _⟩ => rfl)).trans ?_
    refine (val_main_v15_apply x0 x1 x2 _).trans ((val_main_v11_apply x0 x1 x2 _).trans ((val_main_v10_apply x0 x1 x2 _).trans
      ((val_main_v9_apply x0 x1 x2 _).trans (sc_at x0 x1 x2 _ ?_ ?_))))
    · dsimp only [idx_main_v9, idx_main_v10, idx_main_v11, idx_main_v15, idx_main_v18]
      omega
    · dsimp only [idx_main_v9, idx_main_v10, idx_main_v11, idx_main_v15, idx_main_v18]
      omega

end Reference

/-! ## The claims -/

/-- The kernel at the machine's floats runs and leaves its arguments unchanged. -/
theorem frame_kernel : Cert.quiescent_Kernel12 (hKernel12 := Cert.Kernel12.Gen.facts) := fun m ρ _ => Cert.Kernel12.Gen.frame m ρ

/-- The kernel at the ideal instance. -/
theorem frame_ideal : Cert.quiescent_Kernel12Ideal (hKernel12Ideal := Cert.Kernel12Ideal.Gen.facts) :=
  fun m ρ _ => Cert.Kernel12Ideal.Gen.frame m ρ

/-- The reference. -/
theorem frame_reference : Cert.quiescent_Reference12Ideal (hReference12Ideal := Cert.Reference12Ideal.Gen.facts) := fun m ρ _ =>
  (θ_run Cert.Reference12Ideal.defs _ _).mono (fun _ h => ⟨fun c => (h c).2, funext fun s => nomatch s⟩)
    (Cert.Reference12Ideal.Value.run m ρ)

/-- From equal arguments kernel and reference end with equal results. -/
theorem algebraic : Cert.algebraic_Kernel12Ideal_Reference12Ideal
    (hKernel12Ideal := Cert.Kernel12Ideal.Gen.facts) (hReference12Ideal := Cert.Reference12Ideal.Gen.facts) := fun m ρ m' ρ' _ hag =>
  ⟨fun c => result (m ((c.tc : Thread _ _).loc Cert.Kernel12Ideal.main_arg0)) (m ((c.tc : Thread _ _).loc Cert.Kernel12Ideal.main_arg1)) (m ((c.tc : Thread _ _).loc Cert.Kernel12Ideal.main_arg2)), run m ρ,
    (θ_run Cert.Reference12Ideal.defs _ _).mono (fun _ h c => by
      obtain ⟨hv, h0, h1, h2⟩ := h c
      refine ⟨?_, h0, h1, h2⟩
      rw [hv, Cert.Reference12Ideal.Read.val_main_v18_eq, (hag c).1, (hag c).2.1, (hag c).2.2]
      exact result_eq _ _ _)
      (Cert.Reference12Ideal.Value.run m' ρ')⟩

end Cert.Proj12

end
-- ==== Proof.Proj13.lean ====
/- The mLSTM's readout: the two directions added, each head's norm, the output gate. Kernel and reference equal. -/
module

public import proofs.«01_k».proof.Defs
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.MoeMath
public import Idealize.ShloMosaic.Lib.Pointwise

@[expose] public section

set_option maxRecDepth 16384

noncomputable section

namespace Cert.Proj13

open Idealize.ShloMosaic Idealize.ShloMosaic.TcCoe Idealize.SL.Sem
open Cert.Grid2
open Cert.Moe (rd3 eq_rd3_of)

section Kernel

open Cert.Kernel13Ideal Cert.Kernel13Ideal.Gen

theorem hz : (![0, 0] : Fin 2 → Nat) = fun _ => 0 := funext fun a => by fin_cases a <;> rfl

/-- The constant one. -/
theorem one_eq : Ideal.ofBits .f32 0x3F800000#32 = 1 := by
  have h : Ideal.ofBits .f32 0x3F800000#32 = (((8388608 : ℝ) * ((2 : ℝ) ^ 23)⁻¹ : ℝ) : EReal) := by simp [Ideal.ofBits, Ideal.ieee]
  rw [h]
  norm_num

/-- One element of the readout: a head's 256 elements `f` of a row, its element `x` under the norm, the gain `g`, the gate's argument `o`. -/
def ro (f : Fin 256 → EReal) (x g o : EReal) : EReal :=
  x * Ideal.rsqrt (Ideal.div (∑ k, f k * f k) (Ideal.ofBits .f32 0x43800000#32) + Ideal.ofBits .f32 0x358637BD#32) * g
    * Ideal.div (Ideal.ofBits .f32 0x3F800000#32) (Ideal.ofBits .f32 0x3F800000#32 + Ideal.exp (-o))

theorem eq_ix {R C : Nat} (X : (⟨2, ![R, C]⟩ : Shape).Idx → EReal) (r : Fin R) (k : Nat) (h : k < C) : X (ix2 r ⟨k, h⟩) = rd X r.val k :=
  eq_rd_of X _ rfl rfl

section Block

variable (x0 x1 : Vec Ideal S512x2048 .f32) (x2 : Vec Ideal S512x2048 .bf16) (x3 : Vec Ideal S1x2048 .f32)

/-- One element of a block's readout. -/
def blk (r c : Nat) : EReal :=
  ro (fun k => rd x0 r (c / 256 * 256 + k.val) + rd x1 r (c / 256 * 256 + k.val)) (rd x0 r c + rd x1 r c) (rd x3 0 c) (rd x2 r c)

theorem ro_congr {f f' : Fin 256 → EReal} {x x' g g' o o' : EReal} (hf : ∀ k, f k = f' k) (hx : x = x') (hg : g = g') (ho : o = o') :
    ro f x g o = ro f' x' g' o' := by
  rw [funext hf, hx, hg, ho]

theorem blk_at {r c n : Nat} (off : Nat) (h : off % 256 = 0) (hn : n < 256) (hc : c = off + n) :
    blk x0 x1 x2 x3 r c = ro (fun k => rd x0 r (off + k.val) + rd x1 r (off + k.val)) (rd x0 r (off + n) + rd x1 r (off + n)) (rd x3 0 (off + n)) (rd x2 r (off + n)) := by
  subst hc
  unfold blk
  rw [show (off + n) / 256 * 256 = off by omega]

theorem piece_0 (y : S512x256.Idx) : (k0_pay3 (View.ld x0 r0_0) (View.ld x1 r0_0) (View.ld x2 r0_0) (View.ld x3 r0_1) : FVec Ideal S512x256 .bf16) y = blk x0 x1 x2 x3 (r0_2.emb y 0).val (r0_2.emb y 1).val := by
  have h0 : (y 0).val < 512 := (y 0).isLt
  have h1 : (y 1).val < 256 := (y 1).isLt
  have e : y = ix2 ⟨(y 0).val, h0⟩ ⟨(y 1).val, h1⟩ := funext fun a => match a with | ⟨0, _⟩ => rfl | ⟨1, _⟩ => rfl
  have e0 : (r0_2.emb y 0).val = (y 0).val := by show 0 + 1 * (y 0).val = _; omega
  have e1 : (r0_2.emb y 1).val = 0 + (y 1).val := by show 0 + 1 * (y 1).val = _; omega
  rw [blk_at x0 x1 x2 x3 0 (by decide) h1 e1, e0]
  generalize hr : (⟨(y 0).val, h0⟩ : Fin 512) = r at e
  generalize hn : (⟨(y 1).val, h1⟩ : Fin 256) = n at e
  rw [show (y 0).val = r.val from congrArg Fin.val hr, show (y 1).val = n.val from congrArg Fin.val hn, e]
  simp only [View.ld_unit_zero (S := S512x2048) hz, View.ld_unit, k0_pay17, k0_pay18]
  unfold_payloads
  pointwise
  simp only [ro, one_eq, zero_sub, zero_add, eq_ix]
  rfl

theorem piece_256 (y : S512x256.Idx) : (k0_pay6 (k0_pay18 x0 x1 x2 x3) (k0_pay4 (View.ld x0 r0_0) (View.ld x1 r0_0)) (k0_pay5 (View.ld x0 r0_0) (View.ld x1 r0_0)) (View.ld x3 r0_3) : FVec Ideal S512x256 .bf16) y = blk x0 x1 x2 x3 (r0_4.emb y 0).val (r0_4.emb y 1).val := by
  have h0 : (y 0).val < 512 := (y 0).isLt
  have h1 : (y 1).val < 256 := (y 1).isLt
  have e : y = ix2 ⟨(y 0).val, h0⟩ ⟨(y 1).val, h1⟩ := funext fun a => match a with | ⟨0, _⟩ => rfl | ⟨1, _⟩ => rfl
  have e0 : (r0_4.emb y 0).val = (y 0).val := by show 0 + 1 * (y 0).val = _; omega
  have e1 : (r0_4.emb y 1).val = 256 + (y 1).val := by show 256 + 1 * (y 1).val = _; omega
  rw [blk_at x0 x1 x2 x3 256 (by decide) h1 e1, e0]
  generalize hr : (⟨(y 0).val, h0⟩ : Fin 512) = r at e
  generalize hn : (⟨(y 1).val, h1⟩ : Fin 256) = n at e
  rw [show (y 0).val = r.val from congrArg Fin.val hr, show (y 1).val = n.val from congrArg Fin.val hn, e]
  simp only [View.ld_unit_zero (S := S512x2048) hz, View.ld_unit, k0_pay17, k0_pay18]
  unfold_payloads
  pointwise
  simp only [ro, one_eq, zero_sub, zero_add, eq_ix]
  rfl

theorem piece_512 (y : S512x256.Idx) : (k0_pay7 (k0_pay17 x0 x1 x2 x3) (k0_pay18 x0 x1 x2 x3) (View.ld x3 r0_5) : FVec Ideal S512x256 .bf16) y = blk x0 x1 x2 x3 (r0_6.emb y 0).val (r0_6.emb y 1).val := by
  have h0 : (y 0).val < 512 := (y 0).isLt
  have h1 : (y 1).val < 256 := (y 1).isLt
  have e : y = ix2 ⟨(y 0).val, h0⟩ ⟨(y 1).val, h1⟩ := funext fun a => match a with | ⟨0, _⟩ => rfl | ⟨1, _⟩ => rfl
  have e0 : (r0_6.emb y 0).val = (y 0).val := by show 0 + 1 * (y 0).val = _; omega
  have e1 : (r0_6.emb y 1).val = 512 + (y 1).val := by show 512 + 1 * (y 1).val = _; omega
  rw [blk_at x0 x1 x2 x3 512 (by decide) h1 e1, e0]
  generalize hr : (⟨(y 0).val, h0⟩ : Fin 512) = r at e
  generalize hn : (⟨(y 1).val, h1⟩ : Fin 256) = n at e
  rw [show (y 0).val = r.val from congrArg Fin.val hr, show (y 1).val = n.val from congrArg Fin.val hn, e]
  simp only [View.ld_unit_zero (S := S512x2048) hz, View.ld_unit, k0_pay17, k0_pay18]
  unfold_payloads
  pointwise
  simp only [ro, one_eq, zero_sub, zero_add, eq_ix]
  rfl

theorem piece_768 (y : S512x256.Idx) : (k0_pay8 (k0_pay17 x0 x1 x2 x3) (k0_pay18 x0 x1 x2 x3) (View.ld x3 r0_7) : FVec Ideal S512x256 .bf16) y = blk x0 x1 x2 x3 (r0_8.emb y 0).val (r0_8.emb y 1).val := by
  have h0 : (y 0).val < 512 := (y 0).isLt
  have h1 : (y 1).val < 256 := (y 1).isLt
  have e : y = ix2 ⟨(y 0).val, h0⟩ ⟨(y 1).val, h1⟩ := funext fun a => match a with | ⟨0, _⟩ => rfl | ⟨1, _⟩ => rfl
  have e0 : (r0_8.emb y 0).val = (y 0).val := by show 0 + 1 * (y 0).val = _; omega
  have e1 : (r0_8.emb y 1).val = 768 + (y 1).val := by show 768 + 1 * (y 1).val = _; omega
  rw [blk_at x0 x1 x2 x3 768 (by decide) h1 e1, e0]
  generalize hr : (⟨(y 0).val, h0⟩ : Fin 512) = r at e
  generalize hn : (⟨(y 1).val, h1⟩ : Fin 256) = n at e
  rw [show (y 0).val = r.val from congrArg Fin.val hr, show (y 1).val = n.val from congrArg Fin.val hn, e]
  simp only [View.ld_unit_zero (S := S512x2048) hz, View.ld_unit, k0_pay17, k0_pay18]
  unfold_payloads
  pointwise
  simp only [ro, one_eq, zero_sub, zero_add, eq_ix]
  rfl

theorem piece_1024 (y : S512x256.Idx) : (k0_pay11 (k0_pay9 (k0_pay17 x0 x1 x2 x3) (View.ld x3 r0_9)) (k0_pay10 (k0_pay18 x0 x1 x2 x3)) : FVec Ideal S512x256 .bf16) y = blk x0 x1 x2 x3 (r0_10.emb y 0).val (r0_10.emb y 1).val := by
  have h0 : (y 0).val < 512 := (y 0).isLt
  have h1 : (y 1).val < 256 := (y 1).isLt
  have e : y = ix2 ⟨(y 0).val, h0⟩ ⟨(y 1).val, h1⟩ := funext fun a => match a with | ⟨0, _⟩ => rfl | ⟨1, _⟩ => rfl
  have e0 : (r0_10.emb y 0).val = (y 0).val := by show 0 + 1 * (y 0).val = _; omega
  have e1 : (r0_10.emb y 1).val = 1024 + (y 1).val := by show 1024 + 1 * (y 1).val = _; omega
  rw [blk_at x0 x1 x2 x3 1024 (by decide) h1 e1, e0]
  generalize hr : (⟨(y 0).val, h0⟩ : Fin 512) = r at e
  generalize hn : (⟨(y 1).val, h1⟩ : Fin 256) = n at e
  rw [show (y 0).val = r.val from congrArg Fin.val hr, show (y 1).val = n.val from congrArg Fin.val hn, e]
  simp only [View.ld_unit_zero (S := S512x2048) hz, View.ld_unit, k0_pay17, k0_pay18]
  unfold_payloads
  pointwise
  simp only [ro, one_eq, zero_sub, zero_add, eq_ix]
  rfl

theorem piece_1280 (y : S512x256.Idx) : (k0_pay12 (k0_pay17 x0 x1 x2 x3) (k0_pay18 x0 x1 x2 x3) (View.ld x3 r0_11) : FVec Ideal S512x256 .bf16) y = blk x0 x1 x2 x3 (r0_12.emb y 0).val (r0_12.emb y 1).val := by
  have h0 : (y 0).val < 512 := (y 0).isLt
  have h1 : (y 1).val < 256 := (y 1).isLt
  have e : y = ix2 ⟨(y 0).val, h0⟩ ⟨(y 1).val, h1⟩ := funext fun a => match a with | ⟨0, _⟩ => rfl | ⟨1, _⟩ => rfl
  have e0 : (r0_12.emb y 0).val = (y 0).val := by show 0 + 1 * (y 0).val = _; omega
  have e1 : (r0_12.emb y 1).val = 1280 + (y 1).val := by show 1280 + 1 * (y 1).val = _; omega
  rw [blk_at x0 x1 x2 x3 1280 (by decide) h1 e1, e0]
  generalize hr : (⟨(y 0).val, h0⟩ : Fin 512) = r at e
  generalize hn : (⟨(y 1).val, h1⟩ : Fin 256) = n at e
  rw [show (y 0).val = r.val from congrArg Fin.val hr, show (y 1).val = n.val from congrArg Fin.val hn, e]
  simp only [View.ld_unit_zero (S := S512x2048) hz, View.ld_unit, k0_pay17, k0_pay18]
  unfold_payloads
  pointwise
  simp only [ro, one_eq, zero_sub, zero_add, eq_ix]
  rfl

theorem piece_1536 (y : S512x256.Idx) : (k0_pay15 (k0_pay18 x0 x1 x2 x3) (k0_pay13 (k0_pay17 x0 x1 x2 x3)) (k0_pay14 (k0_pay17 x0 x1 x2 x3)) (View.ld x3 r0_13) : FVec Ideal S512x256 .bf16) y = blk x0 x1 x2 x3 (r0_14.emb y 0).val (r0_14.emb y 1).val := by
  have h0 : (y 0).val < 512 := (y 0).isLt
  have h1 : (y 1).val < 256 := (y 1).isLt
  have e : y = ix2 ⟨(y 0).val, h0⟩ ⟨(y 1).val, h1⟩ := funext fun a => match a with | ⟨0, _⟩ => rfl | ⟨1, _⟩ => rfl
  have e0 : (r0_14.emb y 0).val = (y 0).val := by show 0 + 1 * (y 0).val = _; omega
  have e1 : (r0_14.emb y 1).val = 1536 + (y 1).val := by show 1536 + 1 * (y 1).val = _; omega
  rw [blk_at x0 x1 x2 x3 1536 (by decide) h1 e1, e0]
  generalize hr : (⟨(y 0).val, h0⟩ : Fin 512) = r at e
  generalize hn : (⟨(y 1).val, h1⟩ : Fin 256) = n at e
  rw [show (y 0).val = r.val from congrArg Fin.val hr, show (y 1).val = n.val from congrArg Fin.val hn, e]
  simp only [View.ld_unit_zero (S := S512x2048) hz, View.ld_unit, k0_pay17, k0_pay18]
  unfold_payloads
  pointwise
  simp only [ro, one_eq, zero_sub, zero_add, eq_ix]
  rfl

theorem piece_1792 (y : S512x256.Idx) : (k0_pay16 (k0_pay17 x0 x1 x2 x3) (k0_pay18 x0 x1 x2 x3) (View.ld x3 r0_15) : FVec Ideal S512x256 .bf16) y = blk x0 x1 x2 x3 (r0_16.emb y 0).val (r0_16.emb y 1).val := by
  have h0 : (y 0).val < 512 := (y 0).isLt
  have h1 : (y 1).val < 256 := (y 1).isLt
  have e : y = ix2 ⟨(y 0).val, h0⟩ ⟨(y 1).val, h1⟩ := funext fun a => match a with | ⟨0, _⟩ => rfl | ⟨1, _⟩ => rfl
  have e0 : (r0_16.emb y 0).val = (y 0).val := by show 0 + 1 * (y 0).val = _; omega
  have e1 : (r0_16.emb y 1).val = 1792 + (y 1).val := by show 1792 + 1 * (y 1).val = _; omega
  rw [blk_at x0 x1 x2 x3 1792 (by decide) h1 e1, e0]
  generalize hr : (⟨(y 0).val, h0⟩ : Fin 512) = r at e
  generalize hn : (⟨(y 1).val, h1⟩ : Fin 256) = n at e
  rw [show (y 0).val = r.val from congrArg Fin.val hr, show (y 1).val = n.val from congrArg Fin.val hn, e]
  simp only [View.ld_unit_zero (S := S512x2048) hz, View.ld_unit, k0_pay17, k0_pay18]
  unfold_payloads
  pointwise
  simp only [ro, one_eq, zero_sub, zero_add, eq_ix]
  rfl

/-- What the body leaves in the output's buffer, at one element. -/
theorem out_apply (y : S512x2048.Idx) : out0_4 (F := Ideal) x0 x1 x2 x3 y = blk x0 x1 x2 x3 (y 0).val (y 1).val := by
  unfold out0_4
  refine View.canon_apply_of_pieces (Val := Elt Ideal) (e := .bf16) (fun y : S512x2048.Idx => blk x0 x1 x2 x3 (y 0).val (y 1).val) _ (fun p hp x => ?_) y (cover0_4 _ _ _ _ _ _ _ _ y)
  simp only [List.mem_cons, List.not_mem_nil, or_false] at hp
  rcases hp with rfl | rfl | rfl | rfl | rfl | rfl | rfl | rfl
  · exact piece_1792 x0 x1 x2 x3 x
  · exact piece_1536 x0 x1 x2 x3 x
  · exact piece_1280 x0 x1 x2 x3 x
  · exact piece_1024 x0 x1 x2 x3 x
  · exact piece_768 x0 x1 x2 x3 x
  · exact piece_512 x0 x1 x2 x3 x
  · exact piece_256 x0 x1 x2 x3 x
  · exact piece_0 x0 x1 x2 x3 x

end Block

/-- One element of the result. -/
def elt (X Y : S9216x2048.Idx → EReal) (O : S9216x6144.Idx → EReal) (G : S1x2048.Idx → EReal) (r n : Nat) : EReal :=
  ro (fun k => rd X r (n / 256 * 256 + k.val) + rd Y r (n / 256 * 256 + k.val)) (rd X r n + rd Y r n) (rd G 0 n) (rd O r (4096 + n))

/-- The result array. -/
def result (X Y : S9216x2048.Idx → EReal) (O : S9216x6144.Idx → EReal) (G : S1x2048.Idx → EReal) : S8192x2048.Idx → EReal :=
  fun i => elt X Y O G (i 0).val (i 1).val

variable (m : (ℓ : Loc nD τ sig) → Buf (Elt Ideal) ℓ) (ρ : Dev nD → PrngReg)

/-- Every window's block index at every grid point. -/
theorem idx (t : Fin grid0.N) :
    (win0_0.index t 0 = t.val ∧ win0_0.index t 1 = 0)
    ∧ (win0_1.index t 0 = t.val ∧ win0_1.index t 1 = 0)
    ∧ (win0_2.index t 0 = t.val ∧ win0_2.index t 1 = 2)
    ∧ (win0_3.index t 0 = 0 ∧ win0_3.index t 1 = 0)
    ∧ (win0_4.index t 0 = t.val ∧ win0_4.index t 1 = 0) :=
  (by decide +kernel : ∀ t : Fin grid0.N,
    (win0_0.index t 0 = t.val ∧ win0_0.index t 1 = 0)
    ∧ (win0_1.index t 0 = t.val ∧ win0_1.index t 1 = 0)
    ∧ (win0_2.index t 0 = t.val ∧ win0_2.index t 1 = 2)
    ∧ (win0_3.index t 0 = 0 ∧ win0_3.index t 1 = 0)
    ∧ (win0_4.index t 0 = t.val ∧ win0_4.index t 1 = 0)) t

abbrev argX (c : Dev nD) : S9216x2048.Idx → EReal := m ((c : Thread nD τ).loc main_arg0)
abbrev argY (c : Dev nD) : S9216x2048.Idx → EReal := m ((c : Thread nD τ).loc main_arg1)
abbrev argO (c : Dev nD) : S9216x6144.Idx → EReal := m ((c : Thread nD τ).loc main_arg2)
abbrev argG (c : Dev nD) : S1x2048.Idx → EReal := m ((c : Thread nD τ).loc main_arg3)

/-- An element of window 0's block. -/
theorem x_apply (c : Dev nD) (t : Fin cfg0.N) {r k : Nat} (hr : r < 512) (hk : k < 2048) :
    rd (iblk m c 0 t : Vec Ideal S512x2048 .f32) r k = rd (argX m c) (t.val * 512 + r) (k) := by
  rw [rd_of_lt _ hr hk]
  unfold iblk
  rw [View.read_apply]
  show V m c main_arg0 _ = _
  rw [V_main_arg0]
  have h := idx t
  refine eq_rd_of _ _ ?_ ?_
  · show win0_0.index t 0 * 512 + 1 * r = _; omega
  · show win0_0.index t 1 * 2048 + 1 * k = _; omega

/-- An element of window 1's block. -/
theorem y_apply (c : Dev nD) (t : Fin cfg0.N) {r k : Nat} (hr : r < 512) (hk : k < 2048) :
    rd (iblk m c 1 t : Vec Ideal S512x2048 .f32) r k = rd (argY m c) (t.val * 512 + r) (k) := by
  rw [rd_of_lt _ hr hk]
  unfold iblk
  rw [View.read_apply]
  show V m c main_arg1 _ = _
  rw [V_main_arg1]
  have h := idx t
  refine eq_rd_of _ _ ?_ ?_
  · show win0_1.index t 0 * 512 + 1 * r = _; omega
  · show win0_1.index t 1 * 2048 + 1 * k = _; omega

/-- An element of window 2's block. -/
theorem o_apply (c : Dev nD) (t : Fin cfg0.N) {r k : Nat} (hr : r < 512) (hk : k < 2048) :
    rd (iblk m c 2 t : Vec Ideal S512x2048 .bf16) r k = rd (argO m c) (t.val * 512 + r) (4096 + k) := by
  rw [rd_of_lt _ hr hk]
  unfold iblk
  rw [View.read_apply]
  show V m c main_arg2 _ = _
  rw [V_main_arg2]
  have h := idx t
  refine eq_rd_of _ _ ?_ ?_
  · show win0_2.index t 0 * 512 + 1 * r = _; omega
  · show win0_2.index t 1 * 2048 + 1 * k = _; omega

/-- An element of window 3's block. -/
theorem g_apply (c : Dev nD) (t : Fin cfg0.N) {k : Nat} (hk : k < 2048) :
    rd (iblk m c 3 t : Vec Ideal S1x2048 .f32) 0 k = rd (argG m c) (0) (k) := by
  rw [rd_of_lt _ (by decide) hk]
  unfold iblk
  rw [View.read_apply]
  show V m c main_arg3 _ = _
  rw [V_main_arg3]
  have h := idx t
  refine eq_rd_of _ _ ?_ ?_
  · show win0_3.index t 0 * 1 + 1 * 0 = _; omega
  · show win0_3.index t 1 * 2048 + 1 * k = _; omega

/-- What a grid point leaves, at one element. -/
theorem outs_result (c : Dev nD) (t : Fin cfg0.N) (y : S512x2048.Idx) :
    out0_4 (F := Ideal) (iblk m c 0 t) (iblk m c 1 t) (iblk m c 2 t) (iblk m c 3 t) y = result (argX m c) (argY m c) (argO m c) (argG m c) (((cfg0.win 4).blk t).view.emb y) := by
  have h0 : (y 0).val < 512 := (y 0).isLt
  have h1 : (y 1).val < 2048 := (y 1).isLt
  have h := idx t
  have e0 : (((cfg0.win 4).blk t).view.emb y 0).val = t.val * 512 + (y 0).val := by
    show win0_4.index t 0 * 512 + 1 * (y 0).val = _; omega
  have e1 : (((cfg0.win 4).blk t).view.emb y 1).val = (y 1).val := by
    show win0_4.index t 1 * 2048 + 1 * (y 1).val = _; omega
  refine (out_apply _ _ _ _ y).trans ?_
  unfold result elt blk
  rw [e0, e1]
  have hk : ∀ k : Fin 256, (y 1).val / 256 * 256 + k.val < 2048 := fun k => by have := k.isLt; omega
  exact ro_congr (fun k => congrArg₂ (fun p q : EReal => p + q) (x_apply m c t h0 (hk k)) (y_apply m c t h0 (hk k)))
    (congrArg₂ (fun p q : EReal => p + q) (x_apply m c t h0 h1) (y_apply m c t h0 h1)) (g_apply m c t h1) (o_apply m c t h0 h1)

/-- A grid point writes back its block of `result`. -/
theorem flushed_eq (c : Dev nD) (t : Fin cfg0.N) :
    (dats m 0 c).flushed 4 t = ((cfg0.win 4).blk t).view.read (Elt Ideal) (result (argX m c) (argY m c) (argO m c) (argG m c)) :=
  (Value.flushed4 m c t).trans (funext fun y => outs_result m c t y)

/-- An index is in a grid point's output block when its coordinates are. -/
theorem mem_blk (t : Fin cfg0.N) (i : S8192x2048.Idx) :
    i ∈ ((cfg0.win 4).blk t).view.set ↔
      (t.val * 512 ≤ (i 0).val ∧ (i 0).val < t.val * 512 + 512)
      ∧ (0 * 2048 ≤ (i 1).val ∧ (i 1).val < 0 * 2048 + 2048) := by
  show i ∈ ((View.whole main_v0).slice (win0_4.rect t)).set ↔ _
  rw [View.set_slice_whole, Rect.mem_set_unit]
  have e : win0_4.index t 0 = t.val ∧ win0_4.index t 1 = 0 := by have h := idx t; exact ⟨by omega, by omega⟩
  rw [← e.1, ← e.2]
  refine ⟨fun h => ⟨h 0, h 1⟩, fun h a => ?_⟩
  match a with
  | ⟨0, _⟩ => exact h.1
  | ⟨1, _⟩ => exact h.2

/-- The output array after the run. -/
theorem final (c : Dev nD) : (dats m 0 c).arrAt 4 cfg0.N = result (argX m c) (argY m c) (argO m c) (argG m c) := by
  funext i
  have hN : cfg0.N = 16 := N_0
  have h0 : (i 0).val < 8192 := (i 0).isLt
  have h1 : (i 1).val < 2048 := (i 1).isLt
  have ht : (i 0).val / 512 < cfg0.N := by omega
  refine (dats m 0 c).arrAt_apply_of_mem 4 _ (fun t _ => flushed_eq m c t) cfg0.N ⟨_, ht⟩ i ht (flush0_4 _) ?_
  rw [mem_blk]
  dsimp only
  omega

/-- The run, read: the output array at `result` of the arguments, the arguments unchanged. -/
theorem run : θ_run defs (onTc (τ := τ) (main (F := Ideal))) ⟨m, fun _ => 0, ρ⟩ fun r => ∀ c : Dev nD,
      r.2.mem ((c : Thread nD τ).loc main_v0) = result (argX m c) (argY m c) (argO m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Kernel

section Reference

open Cert.Reference13Ideal Cert.Reference13Ideal.Gen Cert.Reference13Ideal.Read

variable (x0 x1 : (⟨S9216x2048, .f32⟩ : BufTy).Contents (Elt Ideal)) (x2 : (⟨S9216x6144, .bf16⟩ : BufTy).Contents (Elt Ideal))
  (x3 : (⟨S1x2048, .f32⟩ : BufTy).Contents (Elt Ideal))

/-- The two directions' sum, by head. -/
theorem sum_at (i : S8192x8x256.Idx) {r n : Nat} (hr : (i 0).val = r) (hn : (i 1).val * 256 + (i 2).val = n) :
    val_main_v3 (F := Ideal) x0 x1 i = rd x0 r n + rd x1 r n := by
  have h1 : (i 1).val < 8 := (i 1).isLt
  have h2 : (i 2).val < 256 := (i 2).isLt
  have e0 : (((i 0).val * 8 + (i 1).val) * 256 + (i 2).val) / 2048 = r := by omega
  have e1 : (((i 0).val * 8 + (i 1).val) * 256 + (i 2).val) % 2048 = n := by omega
  exact (val_main_v3_apply x0 x1 i).trans ((val_main_v2_apply x0 x1 _).trans (congrArg₂ (fun p q : EReal => p + q)
    ((val_main_v0_apply x0 _).trans (eq_rd_of x0 _ e0 e1)) ((val_main_v1_apply x1 _).trans (eq_rd_of x1 _ e0 e1))))

/-- The reference's result is the kernel's. -/
theorem result_eq : val_main_v28 (F := Ideal) x0 x1 x2 x3 = result x0 x1 x2 x3 := funext fun i => by
  have h0 : (i 0).val < 8192 := (i 0).isLt
  have h1 : (i 1).val < 2048 := (i 1).isLt
  refine (val_main_v28_apply x0 x1 x2 x3 i).trans ((val_main_v27_apply x0 x1 x2 x3 i).trans ?_)
  unfold result elt ro
  have e0 : ((i 0).val * 2048 + (i 1).val) / 2048 = (i 0).val := by omega
  have e1 : ((i 0).val * 2048 + (i 1).val) / 256 % 8 * 256 + ((i 0).val * 2048 + (i 1).val) % 256 = (i 1).val := by omega
  have e2 : ((i 0).val * 2048 + (i 1).val) / 256 % 8 * 256 = (i 1).val / 256 * 256 := by omega
  refine congrArg₂ (fun p q : EReal => p * q) ((val_main_v18_apply x0 x1 x3 i).trans ((val_main_v17_apply x0 x1 x3 _).trans
    (congrArg₂ (fun p q : EReal => p * q) ((val_main_v14_apply x0 x1 _).trans (congrArg₂ (fun p q : EReal => p * q) (sum_at x0 x1 _ e0 e1) ?_)) ?_))) ?_
  · refine (val_main_v13_apply x0 x1 _).trans ((val_main_v12_apply x0 x1 _).trans (congrArg Ideal.rsqrt ?_))
    refine (val_main_v11_apply x0 x1 _).trans (congrArg₂ (fun p q : EReal => p + q) ?_ (val_main_v10_apply _))
    refine (val_main_v9_apply x0 x1 _).trans (congrArg₂ Ideal.div ?_ (val_main_v8_apply _))
    refine (val_main_v7_apply x0 x1 _).trans ((val_main_v6_apply x0 x1 _).trans ?_)
    refine (congrArg₂ (· + ·) (Ideal.ofBits_zero .f32) (Finset.sum_congr rfl fun k _ => ?_)).trans (zero_add _)
    have ek := congrArg (fun a : Nat => a + k.val) e2
    exact (val_main_v5_apply x0 x1 _).trans (congrArg₂ (fun p q : EReal => p * q) (sum_at x0 x1 _ e0 ek) (sum_at x0 x1 _ e0 ek))
  · refine (val_main_v16_apply x3 _).trans ((val_main_v15_apply x3 _).trans ((val_main_v4_apply x3 _).trans (eq_rd_of x3 _ rfl ?_)))
    show (((i 0).val * 2048 + (i 1).val) / 256 % 8 * 256 + ((i 0).val * 2048 + (i 1).val) % 256) % 2048 = (i 1).val
    omega
  · refine (val_main_v26_apply x2 i).trans (congrArg₂ Ideal.div (val_main_v25_apply _) ?_)
    refine (val_main_v24_apply x2 i).trans (congrArg₂ (fun p q : EReal => p + q) (val_main_v23_apply _) ?_)
    refine (val_main_v22_apply x2 i).trans (congrArg Ideal.exp ?_)
    refine (val_main_v21_apply x2 i).trans (congrArg (fun p : EReal => -p) ?_)
    exact (val_main_v20_apply x2 i).trans ((val_main_v19_apply x2 i).trans (eq_rd_of x2 _ rfl rfl))

end Reference

/-! ## The claims -/

/-- The kernel at the machine's floats runs and leaves its arguments unchanged. -/
theorem frame_kernel : Cert.quiescent_Kernel13 (hKernel13 := Cert.Kernel13.Gen.facts) := fun m ρ _ => Cert.Kernel13.Gen.frame m ρ

/-- The kernel at the ideal instance. -/
theorem frame_ideal : Cert.quiescent_Kernel13Ideal (hKernel13Ideal := Cert.Kernel13Ideal.Gen.facts) :=
  fun m ρ _ => Cert.Kernel13Ideal.Gen.frame m ρ

/-- The reference. -/
theorem frame_reference : Cert.quiescent_Reference13Ideal (hReference13Ideal := Cert.Reference13Ideal.Gen.facts) := fun m ρ _ =>
  (θ_run Cert.Reference13Ideal.defs _ _).mono (fun _ h => ⟨fun c => (h c).2, funext fun s => nomatch s⟩)
    (Cert.Reference13Ideal.Value.run m ρ)

/-- From equal arguments kernel and reference end with equal results. -/
theorem algebraic : Cert.algebraic_Kernel13Ideal_Reference13Ideal
    (hKernel13Ideal := Cert.Kernel13Ideal.Gen.facts) (hReference13Ideal := Cert.Reference13Ideal.Gen.facts) := fun m ρ m' ρ' _ hag =>
  ⟨fun c => result (m ((c.tc : Thread _ _).loc Cert.Kernel13Ideal.main_arg0)) (m ((c.tc : Thread _ _).loc Cert.Kernel13Ideal.main_arg1)) (m ((c.tc : Thread _ _).loc Cert.Kernel13Ideal.main_arg2)) (m ((c.tc : Thread _ _).loc Cert.Kernel13Ideal.main_arg3)), run m ρ,
    (θ_run Cert.Reference13Ideal.defs _ _).mono (fun _ h c => by
      obtain ⟨hv, h0, h1, h2, h3⟩ := h c
      refine ⟨?_, h0, h1, h2, h3⟩
      rw [hv, Cert.Reference13Ideal.Read.val_main_v28_eq, (hag c).1, (hag c).2.1, (hag c).2.2.1, (hag c).2.2.2]
      exact result_eq _ _ _ _)
      (Cert.Reference13Ideal.Value.run m' ρ')⟩

end Cert.Proj13

end
-- ==== Proof.Proj14.lean ====
/- The attention's queries and keys, normed by head and rotated: kernel and reference equal. -/
module

public import proofs.«01_k».proof.Defs
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.MoeMath
public import Idealize.ShloMosaic.Lib.Pointwise
public import Idealize.ShloMosaic.Lib.StableHlo.RunRead

@[expose] public section

set_option maxRecDepth 16384

noncomputable section

namespace Cert.Proj14

open Idealize.ShloMosaic Idealize.ShloMosaic.TcCoe Idealize.SL.Sem
open Cert.Grid2
open Cert.Moe (rd3 eq_rd3_of)

section Kernel

open Cert.Kernel14Ideal Cert.Kernel14Ideal.Gen

theorem hz : (![0, 0] : Fin 2 → Nat) = fun _ => 0 := funext fun a => by fin_cases a <;> rfl
theorem hz3 : (![0, 0, 0] : Fin 3 → Nat) = fun _ => 0 := funext fun a => by fin_cases a <;> rfl

theorem select_one {α : Type} (a b : α) : Scalar.select (1#1) a b = a := rfl
theorem select_zero {α : Type} (a b : α) : Scalar.select (0#1) a b = b := rfl

/-- One element of a head's norm: the head's 128 elements `f`, the element `x`, the gain `g`. -/
def nrm (f : Fin 128 → EReal) (x g : EReal) : EReal :=
  x * Ideal.rsqrt (Ideal.div (∑ k, f k * f k) (Ideal.ofBits .f32 0x43000000#32) + Ideal.ofBits .f32 0x358637BD#32) * g

theorem nrm_congr {f f' : Fin 128 → EReal} {x x' g g' : EReal} (hf : ∀ k, f k = f' k) (hx : x = x') (hg : g = g') :
    nrm f x g = nrm f' x' g' := by
  rw [funext hf, hx, hg]

theorem eq_ix {R C : Nat} (X : (⟨2, ![R, C]⟩ : Shape).Idx → EReal) (r : Fin R) (k : Fin C) : X (ix2 r k) = rd X r.val k.val :=
  eq_rd_of X _ rfl rfl

theorem eq_ix3 {A R C : Nat} (X : (⟨3, ![A, R, C]⟩ : Shape).Idx → EReal) (a : Fin A) (r : Fin R) (k : Fin C) :
    X (ix3 a r k) = rd3 X a.val r.val k.val :=
  eq_rd3_of X _ rfl rfl rfl

/-- One at an even column. -/
def par (n : Nat) : BitVec 1 := if n % 2 = 0 then 1#1 else 0#1

theorem pay_form {n : Nat} {p : BitVec 1} (hp : p = par n) (d : BitVec 1) (A B C X S : EReal) :
    Scalar.select d (A * X + Scalar.select p B C * S) A = Scalar.select d (A * X + Scalar.select (par n) B C * S) A := by
  rw [hp]

section Block

variable (d : BitVec 1) (x0 : Vec Ideal S1024x256 .bf16) (x1 : Vec Ideal S1x1x128 .f32) (x2 x3 : Vec Ideal S1024x128 .f32)

/-- One element of a block's norm, in the head of 128 columns at `h`. -/
def bn (r h n : Nat) : EReal := nrm (fun k => rd x0 r (h + k.val)) (rd x0 r (h + n)) (rd3 x1 0 0 n)

/-- One element of a block, its column `n` in the head at `h`. -/
def bat (r h n : Nat) : EReal :=
  Scalar.select d (bn x0 x1 r h n * rd x2 r n
    + Scalar.select (par n) (bn x0 x1 r h ((n + 128 - 127) % 128)) (bn x0 x1 r h ((n + 128 - 1) % 128)) * rd x3 r n) (bn x0 x1 r h n)

/-- One element of a block. -/
def blk (r c : Nat) : EReal := bat d x0 x1 x2 x3 r (c / 128 * 128) (c % 128)

theorem blk_at {r c n : Nat} (off : Nat) (h : off % 128 = 0) (hn : n < 128) (hc : c = off + n) :
    blk d x0 x1 x2 x3 r c = bat d x0 x1 x2 x3 r off n := by
  subst hc
  unfold blk
  rw [show (off + n) / 128 * 128 = off by omega, show (off + n) % 128 = n by omega]

theorem piece_0 (y : S1024x128.Idx) : (k0_pay7 d (k0_pay2 (View.ld x0 r0_0) (View.ld x1 r0_1)) (k0_pay3 (View.ld x0 r0_0) (View.ld x1 r0_1)) (k0_pay4 (View.ld x0 r0_0) (View.ld x1 r0_1)) k0_pay5 k0_pay6 (View.ld x2 r0_2) (View.ld x3 r0_2) : FVec Ideal S1024x128 .bf16) y
    = blk d x0 x1 x2 x3 (r0_0.emb y 0).val (r0_0.emb y 1).val := by
  have h0 : (y 0).val < 1024 := (y 0).isLt
  have h1 : (y 1).val < 128 := (y 1).isLt
  have e : y = ix2 ⟨(y 0).val, h0⟩ ⟨(y 1).val, h1⟩ := funext fun a => match a with | ⟨0, _⟩ => rfl | ⟨1, _⟩ => rfl
  have e0 : (r0_0.emb y 0).val = (y 0).val := by show 0 + 1 * (y 0).val = _; omega
  have e1 : (r0_0.emb y 1).val = 0 + (y 1).val := by show 0 + 1 * (y 1).val = _; omega
  rw [blk_at d x0 x1 x2 x3 0 (by decide) h1 e1, e0]
  generalize hr : (⟨(y 0).val, h0⟩ : Fin 1024) = r at e
  generalize hn : (⟨(y 1).val, h1⟩ : Fin 128) = n at e
  rw [show (y 0).val = r.val from congrArg Fin.val hr, show (y 1).val = n.val from congrArg Fin.val hn, e]
  simp only [View.ld_unit_zero (S := S1x1x128) hz3, View.ld_unit_zero (S := S1024x128) hz, View.ld_unit]
  unfold_payloads
  pointwise
  refine (pay_form (n := n.val) ?_ _ _ _ _ _ _).trans ?_
  · clear hn hr e e0 e1 h0 h1
    clear y
    revert n
    decide +kernel
  simp only [bat, bn, nrm, zero_add, eq_ix, eq_ix3]
  rfl

theorem piece_128 (y : S1024x128.Idx) : (k0_pay1 d (k0_pay8 (View.ld x0 r0_3) (View.ld x1 r0_1)) (k0_pay9 (View.ld x0 r0_3) (View.ld x1 r0_1)) (k0_pay10 (View.ld x0 r0_3) (View.ld x1 r0_1)) (Scalar.select (Scalar.cmpi .eq 2#32 0#32) 1#32 2#32) k0_pay11 k0_pay12 k0_pay13 (View.ld x2 r0_2) (View.ld x3 r0_2) : FVec Ideal S1024x128 .bf16) y
    = blk d x0 x1 x2 x3 (r0_3.emb y 0).val (r0_3.emb y 1).val := by
  have h0 : (y 0).val < 1024 := (y 0).isLt
  have h1 : (y 1).val < 128 := (y 1).isLt
  have e : y = ix2 ⟨(y 0).val, h0⟩ ⟨(y 1).val, h1⟩ := funext fun a => match a with | ⟨0, _⟩ => rfl | ⟨1, _⟩ => rfl
  have e0 : (r0_3.emb y 0).val = (y 0).val := by show 0 + 1 * (y 0).val = _; omega
  have e1 : (r0_3.emb y 1).val = 128 + (y 1).val := by show 128 + 1 * (y 1).val = _; omega
  rw [blk_at d x0 x1 x2 x3 128 (by decide) h1 e1, e0]
  generalize hr : (⟨(y 0).val, h0⟩ : Fin 1024) = r at e
  generalize hn : (⟨(y 1).val, h1⟩ : Fin 128) = n at e
  rw [show (y 0).val = r.val from congrArg Fin.val hr, show (y 1).val = n.val from congrArg Fin.val hn, e]
  simp only [View.ld_unit_zero (S := S1x1x128) hz3, View.ld_unit_zero (S := S1024x128) hz, View.ld_unit]
  unfold_payloads
  pointwise
  refine (pay_form (n := n.val) ?_ _ _ _ _ _ _).trans ?_
  · clear hn hr e e0 e1 h0 h1
    clear y
    revert n
    decide +kernel
  simp only [bat, bn, nrm, zero_add, eq_ix, eq_ix3]
  rfl

/-- Whether a grid point rotates. -/
abbrev rotates (i : grid0.Coords) : BitVec 1 := Scalar.andi (Scalar.cmpi .sge (BitVec.ofNat 32 (i 1).val) 8#32) (Scalar.cmpi .slt (BitVec.ofNat 32 (i 0).val) 8#32)

/-- What the body leaves in the output's buffer, at one element. -/
theorem out_apply (i : grid0.Coords) (y : S1024x256.Idx) : out0_4 (F := Ideal) i x0 x1 x2 x3 y = blk (rotates i) x0 x1 x2 x3 (y 0).val (y 1).val := by
  unfold out0_4
  refine View.canon_apply_of_pieces (Val := Elt Ideal) (e := .bf16) (fun y : S1024x256.Idx => blk (rotates i) x0 x1 x2 x3 (y 0).val (y 1).val) _ (fun p hp x => ?_) y (cover0_4 _ _ y)
  simp only [List.mem_cons, List.not_mem_nil, or_false] at hp
  rcases hp with rfl | rfl
  · exact piece_128 _ x0 x1 x2 x3 x
  · exact piece_0 _ x0 x1 x2 x3 x

end Block

/-- The gain of a column. -/
def gain (n : Nat) : Nat := if n < 1024 then 0 else if n < 2048 then 1 else if n < 4096 then 2 else 3

/-- One element normed. -/
def nm (Q : S9216x4608.Idx → EReal) (G : S4x1x128.Idx → EReal) (r n : Nat) : EReal :=
  nrm (fun k => rd Q r (n / 128 * 128 + k.val)) (rd Q r n) (rd3 G (gain n) 0 (n % 128))

/-- One element rotated: the columns of a head in pairs, each pair turned by its angle. -/
def rot (Q : S9216x4608.Idx → EReal) (G : S4x1x128.Idx → EReal) (C S : S2048x64.Idx → EReal) (r n : Nat) : EReal :=
  if n % 2 = 0 then nm Q G r n * rd C (r % 2048) (n % 128 / 2) - nm Q G r (n + 1) * rd S (r % 2048) (n % 128 / 2)
  else nm Q G r (n - 1) * rd S (r % 2048) (n % 128 / 2) + nm Q G r n * rd C (r % 2048) (n % 128 / 2)

/-- One element of the result: queries and keys normed, those of the grouped heads rotated in the first 8192 rows, the values as they are. -/
def elt (Q : S9216x4608.Idx → EReal) (G : S4x1x128.Idx → EReal) (C S : S2048x64.Idx → EReal) (r n : Nat) : EReal :=
  if n < 2048 then nm Q G r n
  else if n < 3072 then rd Q r n
  else if n < 4352 then (if r < 8192 then rot Q G C S r n else nm Q G r n)
  else rd Q r n

/-- The result array. -/
def result (Q : S9216x4608.Idx → EReal) (G : S4x1x128.Idx → EReal) (C S : S2048x64.Idx → EReal) : S9216x4608.Idx → EReal :=
  fun i => elt Q G C S (i 0).val (i 1).val

variable (m : (ℓ : Loc nD τ sig) → Buf (Elt Ideal) ℓ) (ρ : Dev nD → PrngReg)

/-- The column block of a step of the inner grid axis. -/
def col (j : Nat) : Nat := if j < 8 then j else j + 4

/-- The gain of a step of the inner grid axis. -/
def grow (j : Nat) : Nat := if j < 4 then 0 else if j < 8 then 1 else if j < 12 then 2 else 3

theorem col_spec (j : Nat) : (j < 8 ∧ col j = j) ∨ (8 ≤ j ∧ col j = j + 4) := by
  unfold col; split <;> omega

/-- Every window's block index at every grid point. -/
theorem idx (t : Fin grid0.N) :
    (win0_0.index t 0 = t.val / 13 ∧ win0_0.index t 1 = col (t.val % 13))
    ∧ (win0_1.index t 0 = grow (t.val % 13) ∧ win0_1.index t 1 = 0 ∧ win0_1.index t 2 = 0)
    ∧ (win0_2.index t 0 = t.val / 13 % 2 ∧ win0_2.index t 1 = 0)
    ∧ (win0_3.index t 0 = t.val / 13 % 2 ∧ win0_3.index t 1 = 0)
    ∧ (win0_4.index t 0 = t.val / 13 ∧ win0_4.index t 1 = col (t.val % 13)) :=
  (by decide +kernel : ∀ t : Fin grid0.N,
    (win0_0.index t 0 = t.val / 13 ∧ win0_0.index t 1 = col (t.val % 13))
    ∧ (win0_1.index t 0 = grow (t.val % 13) ∧ win0_1.index t 1 = 0 ∧ win0_1.index t 2 = 0)
    ∧ (win0_2.index t 0 = t.val / 13 % 2 ∧ win0_2.index t 1 = 0)
    ∧ (win0_3.index t 0 = t.val / 13 % 2 ∧ win0_3.index t 1 = 0)
    ∧ (win0_4.index t 0 = t.val / 13 ∧ win0_4.index t 1 = col (t.val % 13))) t

theorem rotates_eq (t : Fin grid0.N) : rotates (grid0.coords t) = if 8 ≤ t.val % 13 ∧ t.val / 13 < 8 then 1#1 else 0#1 :=
  (by decide +kernel : ∀ t : Fin grid0.N, rotates (grid0.coords t) = if 8 ≤ t.val % 13 ∧ t.val / 13 < 8 then 1#1 else 0#1) t

abbrev argQ (c : Dev nD) : S9216x4608.Idx → EReal := m ((c : Thread nD τ).loc main_arg0)
abbrev argG (c : Dev nD) : S4x1x128.Idx → EReal := m ((c : Thread nD τ).loc main_arg1)
abbrev argC (c : Dev nD) : S2048x64.Idx → EReal := m ((c : Thread nD τ).loc main_arg2)
abbrev argS (c : Dev nD) : S2048x64.Idx → EReal := m ((c : Thread nD τ).loc main_arg3)

/-! ## The host's arrays -/

theorem V_out (c : Dev nD) : V m c (Pipeline.arrRef spec0 4) = argQ m c := by
  show StableHlo.after hostOps0 (fun b => m (c, b)) main_v7 = _
  rfl

/-- Every angle twice. -/
theorem V_cos (c : Dev nD) : V m c main_v1 = shapeCast S2048x128 (broadcastInDim S2048x64x2 ![0, 1] bcast_S2048x64_S2048x64x2_0_1 (argC m c)) shapeCasts_S2048x64x2_S2048x128 := by
  show StableHlo.after hostOps0 (fun b => m (c, b)) (Proc.devRef .tc main_v1) = _
  after_reads_simp
  rfl

/-- Every angle's sine twice, first negated. -/
def sgn (S : S2048x64.Idx → EReal) : S2048x64x2.Idx → EReal := concatenate (α := EReal) S2048x64x2 2
  [⟨S2048x64x1, broadcastInDim S2048x64x1 ![0, 1] bcast_S2048x64_S2048x64x1_0_1 (fun i => -S i)⟩,
   ⟨S2048x64x1, broadcastInDim S2048x64x1 ![0, 1] bcast_S2048x64_S2048x64x1_0_1 S⟩] concatenates_S2048x64x1_S2048x64x1_S2048x64x2_d2

theorem V_sin (c : Dev nD) : V m c main_v6 = shapeCast S2048x128 (sgn (argS m c)) shapeCasts_S2048x64x2_S2048x128 := by
  show StableHlo.after hostOps0 (fun b => m (c, b)) (Proc.devRef .tc main_v6) = _
  after_reads_simp
  rfl

/-- The index of an angle's two columns. -/
def ixp (r : Fin 2048) (k : Fin 128) : S2048x64x2.Idx := ix3 r ⟨k.val / 2, by have := k.isLt; omega⟩ ⟨k.val % 2, by omega⟩

theorem cast_ixp {α : Type} (y : S2048x64x2.Idx → α) (r : Fin 2048) (k : Fin 128) :
    shapeCast S2048x128 y shapeCasts_S2048x64x2_S2048x128 (ix2 r k) = y (ixp r k) :=
  shapeCast_apply y shapeCasts_S2048x64x2_S2048x128 (ix2 r k) (ixp r k) (by
    have := k.isLt
    rewrite [Shape.rowMajor_val_three, Shape.rowMajor_val_two]
    show (r.val * 64 + k.val / 2) * 2 + k.val % 2 = r.val * 128 + k.val
    omega)

theorem cos_at (c : Dev nD) {r k : Nat} (hr : r < 2048) (hk : k < 128) : rd (V m c main_v1 : S2048x128.Idx → EReal) r k = rd (argC m c) r (k / 2) := by
  rw [rd_of_lt _ hr hk, V_cos, cast_ixp]
  rw [rd_of_lt _ hr (by omega)]
  exact broadcastInDim_apply _ bcast_S2048x64_S2048x64x2_0_1 (argC m c) (ixp ⟨r, hr⟩ ⟨k, hk⟩) _ (fun a => match a with
    | ⟨0, _⟩ => by show r = if (2048 : Nat) = 1 then 0 else r; rw [if_neg (by decide)]
    | ⟨1, _⟩ => by show k / 2 = if (64 : Nat) = 1 then 0 else k / 2; rw [if_neg (by decide)])

theorem pair_at (S : S2048x64.Idx → EReal) {r k : Nat} (hr : r < 2048) (hk : k < 128) (z : Fin 1) :
    broadcastInDim S2048x64x1 ![0, 1] bcast_S2048x64_S2048x64x1_0_1 S (ix3 ⟨r, hr⟩ ⟨k / 2, by omega⟩ z) = rd S r (k / 2) := by
  rw [rd_of_lt _ hr (by omega)]
  exact broadcastInDim_apply _ bcast_S2048x64_S2048x64x1_0_1 S _ _ (fun a => match a with
    | ⟨0, _⟩ => by show r = if (2048 : Nat) = 1 then 0 else r; rw [if_neg (by decide)]
    | ⟨1, _⟩ => by show k / 2 = if (64 : Nat) = 1 then 0 else k / 2; rw [if_neg (by decide)])

theorem sin_even (c : Dev nD) {r k : Nat} (hr : r < 2048) (hk : k < 128) (h : k % 2 = 0) :
    rd (V m c main_v6 : S2048x128.Idx → EReal) r k = -rd (argS m c) r (k / 2) := by
  rw [rd_of_lt _ hr hk, V_sin, cast_ixp]
  unfold sgn
  refine (concatenate_pair_apply_left 2 _ _ concatenates_S2048x64x1_S2048x64x1_S2048x64x2_d2 (ixp ⟨r, hr⟩ ⟨k, hk⟩) rfl (ix3 ⟨r, hr⟩ ⟨k / 2, by omega⟩ 0) (fun b => match b with
    | ⟨0, _⟩ => rfl
    | ⟨1, _⟩ => rfl
    | ⟨2, _⟩ => h.symm)).trans ?_
  refine (pair_at _ hr hk 0).trans ?_
  rw [rd_of_lt _ hr (by omega), rd_of_lt _ hr (by omega)]

theorem sin_odd (c : Dev nD) {r k : Nat} (hr : r < 2048) (hk : k < 128) (h : ¬ k % 2 = 0) :
    rd (V m c main_v6 : S2048x128.Idx → EReal) r k = rd (argS m c) r (k / 2) := by
  rw [rd_of_lt _ hr hk, V_sin, cast_ixp]
  unfold sgn
  refine (concatenate_pair_apply_right 2 _ _ concatenates_S2048x64x1_S2048x64x1_S2048x64x2_d2 (ixp ⟨r, hr⟩ ⟨k, hk⟩) rfl rfl (ix3 ⟨r, hr⟩ ⟨k / 2, by omega⟩ 0) (fun b hb => match b with
    | ⟨0, _⟩ => rfl
    | ⟨1, _⟩ => rfl
    | ⟨2, _⟩ => absurd rfl hb) (by show 0 + 1 = k % 2; omega)).trans ?_
  exact pair_at _ hr hk 0

/-! ## The blocks -/

/-- An element of window 0's block. -/
theorem q_apply (c : Dev nD) (t : Fin cfg0.N) {r k : Nat} (hr : r < 1024) (hk : k < 256) :
    rd (iblk m c 0 t : Vec Ideal S1024x256 .bf16) r k = rd (argQ m c) (t.val / 13 * 1024 + r) (col (t.val % 13) * 256 + k) := by
  rw [rd_of_lt _ hr hk]
  unfold iblk
  rw [View.read_apply]
  show V m c main_arg0 _ = _
  rw [V_main_arg0]
  have h := idx t
  refine eq_rd_of _ _ ?_ ?_
  · show win0_0.index t 0 * 1024 + 1 * r = _; omega
  · show win0_0.index t 1 * 256 + 1 * k = _; omega

/-- An element of window 1's block. -/
theorem g_apply (c : Dev nD) (t : Fin cfg0.N) {k : Nat} (hk : k < 128) :
    rd3 (iblk m c 1 t : Vec Ideal S1x1x128 .f32) 0 0 k = rd3 (argG m c) (grow (t.val % 13)) 0 k := by
  unfold rd3 iblk
  rw [dif_pos ⟨Nat.one_pos, Nat.one_pos, hk⟩, View.read_apply]
  show V m c main_arg1 _ = _
  rw [V_main_arg1]
  have h := idx t
  refine eq_rd3_of _ _ ?_ ?_ ?_
  · show win0_1.index t 0 * 1 + 1 * 0 = _; omega
  · show win0_1.index t 1 * 1 + 1 * 0 = _; omega
  · show win0_1.index t 2 * 128 + 1 * k = _; omega

/-- An element of window 2's block. -/
theorem c_apply (c : Dev nD) (t : Fin cfg0.N) {r k : Nat} (hr : r < 1024) (hk : k < 128) :
    rd (iblk m c 2 t : Vec Ideal S1024x128 .f32) r k = rd (V m c main_v1 : S2048x128.Idx → EReal) (t.val / 13 % 2 * 1024 + r) k := by
  rw [rd_of_lt _ hr hk]
  unfold iblk
  rw [View.read_apply]
  show V m c main_v1 _ = _
  have h := idx t
  refine eq_rd_of _ _ ?_ ?_
  · show win0_2.index t 0 * 1024 + 1 * r = _; omega
  · show win0_2.index t 1 * 128 + 1 * k = _; omega

/-- An element of window 3's block. -/
theorem s_apply (c : Dev nD) (t : Fin cfg0.N) {r k : Nat} (hr : r < 1024) (hk : k < 128) :
    rd (iblk m c 3 t : Vec Ideal S1024x128 .f32) r k = rd (V m c main_v6 : S2048x128.Idx → EReal) (t.val / 13 % 2 * 1024 + r) k := by
  rw [rd_of_lt _ hr hk]
  unfold iblk
  rw [View.read_apply]
  show V m c main_v6 _ = _
  have h := idx t
  refine eq_rd_of _ _ ?_ ?_
  · show win0_3.index t 0 * 1024 + 1 * r = _; omega
  · show win0_3.index t 1 * 128 + 1 * k = _; omega

/-- A block's norm is the array's. -/
theorem bn_eq (c : Dev nD) (t : Fin cfg0.N) {r h n N : Nat} (hr : r < 1024) (hh : h = 0 ∨ h = 128) (hn : n < 128)
    (hN : N = col (t.val % 13) * 256 + h + n) :
    bn (iblk m c 0 t) (iblk m c 1 t) r h n = nm (argQ m c) (argG m c) (t.val / 13 * 1024 + r) N := by
  have hc := col_spec (t.val % 13)
  unfold bn nm
  refine nrm_congr (fun k => ?_) ?_ ?_
  · have := k.isLt
    rw [q_apply m c t hr (by omega), show N / 128 * 128 + k.val = col (t.val % 13) * 256 + (h + k.val) by omega]
  · rw [q_apply m c t hr (by omega), show N = col (t.val % 13) * 256 + (h + n) by omega]
  · rw [g_apply m c t hn, show N % 128 = n by omega]
    congr 1
    have ht : t.val % 13 < 13 := Nat.mod_lt _ (by decide)
    unfold grow gain
    repeat' split
    all_goals omega

/-- What a grid point leaves, at one element. -/
theorem outs_result (c : Dev nD) (t : Fin cfg0.N) (y : S1024x256.Idx) :
    out0_4 (F := Ideal) (grid0.coords t) (iblk m c 0 t) (iblk m c 1 t) (iblk m c 2 t) (iblk m c 3 t) y
      = result (argQ m c) (argG m c) (argC m c) (argS m c) (((cfg0.win 4).blk t).view.emb y) := by
  have h0 : (y 0).val < 1024 := (y 0).isLt
  have h1 : (y 1).val < 256 := (y 1).isLt
  have h := idx t
  have hc := col_spec (t.val % 13)
  have hj : t.val % 13 < 13 := Nat.mod_lt _ (by decide)
  have e0 : (((cfg0.win 4).blk t).view.emb y 0).val = t.val / 13 * 1024 + (y 0).val := by
    show win0_4.index t 0 * 1024 + 1 * (y 0).val = _; omega
  have e1 : (((cfg0.win 4).blk t).view.emb y 1).val = col (t.val % 13) * 256 + (y 1).val := by
    show win0_4.index t 1 * 256 + 1 * (y 1).val = _; omega
  refine (out_apply _ _ _ _ _ y).trans ?_
  unfold result
  rw [e0, e1, rotates_eq]
  generalize hr : (y 0).val = r at *
  generalize hk : (y 1).val = k at *
  generalize hN : col (t.val % 13) * 256 + k = N
  have hh : k / 128 * 128 = 0 ∨ k / 128 * 128 = 128 := by omega
  have hn : k % 128 < 128 := by omega
  have b0 := bn_eq m c t (N := N) h0 hh hn (by omega)
  unfold blk bat
  by_cases hd : 8 ≤ t.val % 13 ∧ t.val / 13 < 8
  · rw [if_pos hd, select_one]
    unfold elt
    rw [if_neg (by omega), if_neg (by omega), if_pos (by omega), if_pos (by omega)]
    unfold rot par
    rw [b0, c_apply m c t h0 hn, s_apply m c t h0 hn, cos_at m c (by omega) hn,
      show t.val / 13 % 2 * 1024 + r = (t.val / 13 * 1024 + r) % 2048 by omega, show k % 128 / 2 = N % 128 / 2 by omega]
    by_cases hp : k % 128 % 2 = 0
    · rw [if_pos hp, select_one, if_pos (by omega), sin_even m c (by omega) hn hp,
        bn_eq m c t (N := N + 1) h0 hh (show (k % 128 + 128 - 127) % 128 < 128 by omega) (by omega), mul_neg, ← sub_eq_add_neg,
        show k % 128 / 2 = N % 128 / 2 by omega]
    · rw [if_neg hp, select_zero, if_neg (by omega), sin_odd m c (by omega) hn hp,
        bn_eq m c t (N := N - 1) h0 hh (show (k % 128 + 128 - 1) % 128 < 128 by omega) (by omega), add_comm,
        show k % 128 / 2 = N % 128 / 2 by omega]
  · rw [if_neg hd, select_zero, b0]
    unfold elt
    by_cases hlo : N < 2048
    · rw [if_pos hlo]
    · rw [if_neg hlo, if_neg (by omega), if_pos (by omega), if_neg (by omega)]

/-- A grid point writes back its block of `result`. -/
theorem flushed_eq (c : Dev nD) (t : Fin cfg0.N) :
    (dats m 0 c).flushed 4 t = ((cfg0.win 4).blk t).view.read (Elt Ideal) (result (argQ m c) (argG m c) (argC m c) (argS m c)) :=
  (Value.flushed4 m c t).trans (funext fun y => outs_result m c t y)

/-- An index is in a grid point's output block when its coordinates are. -/
theorem mem_blk (t : Fin cfg0.N) (i : S9216x4608.Idx) :
    i ∈ ((cfg0.win 4).blk t).view.set ↔
      (t.val / 13 * 1024 ≤ (i 0).val ∧ (i 0).val < t.val / 13 * 1024 + 1024)
      ∧ (col (t.val % 13) * 256 ≤ (i 1).val ∧ (i 1).val < col (t.val % 13) * 256 + 256) := by
  show i ∈ ((View.whole main_v7).slice (win0_4.rect t)).set ↔ _
  rw [View.set_slice_whole, Rect.mem_set_unit]
  have e : win0_4.index t 0 = t.val / 13 ∧ win0_4.index t 1 = col (t.val % 13) := by have h := idx t; exact ⟨by omega, by omega⟩
  rw [← e.1, ← e.2]
  refine ⟨fun h => ⟨h 0, h 1⟩, fun h a => ?_⟩
  match a with
  | ⟨0, _⟩ => exact h.1
  | ⟨1, _⟩ => exact h.2

/-- The output array after the run. -/
theorem final (c : Dev nD) : (dats m 0 c).arrAt 4 cfg0.N = result (argQ m c) (argG m c) (argC m c) (argS m c) := by
  funext i
  have hN : cfg0.N = 117 := N_0
  have h0 : (i 0).val < 9216 := (i 0).isLt
  have h1 : (i 1).val < 4608 := (i 1).isLt
  by_cases hlo : (i 1).val < 2048
  · have ht : (i 0).val / 1024 * 13 + (i 1).val / 256 < cfg0.N := by omega
    refine (dats m 0 c).arrAt_apply_of_mem 4 _ (fun t _ => flushed_eq m c t) cfg0.N ⟨_, ht⟩ i ht (flush0_4 _) ?_
    rw [mem_blk]
    dsimp only
    have hc := col_spec (((i 0).val / 1024 * 13 + (i 1).val / 256) % 13)
    omega
  · by_cases hm : 3072 ≤ (i 1).val ∧ (i 1).val < 4352
    · have ht : (i 0).val / 1024 * 13 + ((i 1).val / 256 - 4) < cfg0.N := by omega
      refine (dats m 0 c).arrAt_apply_of_mem 4 _ (fun t _ => flushed_eq m c t) cfg0.N ⟨_, ht⟩ i ht (flush0_4 _) ?_
      rw [mem_blk]
      dsimp only
      have hc := col_spec (((i 0).val / 1024 * 13 + ((i 1).val / 256 - 4)) % 13)
      omega
    · rw [Value.entry4 m c i, V_out]
      · unfold result elt
        rw [if_neg hlo]
        by_cases hv : (i 1).val < 3072
        · rw [if_pos hv]; exact eq_rd_of _ _ rfl rfl
        · rw [if_neg hv, if_neg (by omega)]; exact eq_rd_of _ _ rfl rfl
      · intro t _ hmem
        rw [mem_blk] at hmem
        have hc := col_spec (t.val % 13)
        have hj : t.val % 13 < 13 := Nat.mod_lt _ (by decide)
        omega

/-- The run, read: the output array at `result` of the arguments, the arguments unchanged. -/
theorem run : θ_run defs (onTc (τ := τ) (main (F := Ideal))) ⟨m, fun _ => 0, ρ⟩ fun r => ∀ c : Dev nD,
      r.2.mem ((c : Thread nD τ).loc main_v7) = result (argQ m c) (argG m c) (argC m c) (argS m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Kernel

section Reference

open Cert.Reference14Ideal Cert.Reference14Ideal.Gen Cert.Reference14Ideal.Read

variable (x0 : (⟨S9216x4608, .bf16⟩ : BufTy).Contents (Elt Ideal)) (x1 : (⟨S4x1x128, .f32⟩ : BufTy).Contents (Elt Ideal))
  (x2 x3 : (⟨S2048x64, .f32⟩ : BufTy).Contents (Elt Ideal))

/-! ## A concatenation of any number of pieces, at an index -/

theorem locate_at : ∀ (ns : List Nat) (c : Nat) (h : c < ns.sum) (k : Nat) (hk : k < ns.length),
    (ns.take k).sum ≤ c → c < (ns.take k).sum + ns[k] → (locate ns c h).1.val = k ∧ (locate ns c h).2.val = c - (ns.take k).sum
  | [], _, _, _, hk, _, _ => absurd hk (Nat.not_lt_zero _)
  | n :: ns, c, h, 0, _, _, hb => by
    have hb' : c < n := by simpa using hb
    have e : locate (n :: ns) c h = ⟨⟨0, Nat.zero_lt_succ _⟩, ⟨c, hb'⟩⟩ := by rw [locate]; exact dif_pos hb'
    exact ⟨congrArg (fun kr => kr.1.val) e, (congrArg (fun kr => kr.2.val) e).trans (by simp)⟩
  | n :: ns, c, h, k + 1, hk, ha, hb => by
    simp only [List.take_succ_cons, List.sum_cons, List.getElem_cons_succ] at ha hb
    have hn : ¬ c < n := by omega
    have hs : c - n < ns.sum := by rw [List.sum_cons] at h; omega
    have hi := locate_at ns (c - n) hs k (by simpa using hk) (by omega) (by omega)
    have e : locate (n :: ns) c h = ⟨(locate ns (c - n) hs).1.succ, (locate ns (c - n) hs).2⟩ := by rw [locate]; exact dif_neg hn
    refine ⟨(congrArg (fun kr => kr.1.val) e).trans (congrArg Nat.succ hi.1), ?_⟩
    refine (congrArg (fun kr => kr.2.val) e).trans (hi.2.trans ?_)
    simp only [List.take_succ_cons, List.sum_cons]
    omega

theorem concatenate_at {α : Type} {t : Shape} (a : Fin t.rank) (xs : List ((s : Shape) × (s.Idx → α)))
    (h : Shape.Concatenates (xs.map (·.1)) t a) (j : t.Idx) (v : α) (k off : Nat) (hk : k < xs.length) (hr : (xs[k]).1.rank = t.rank)
    (hoff : off = (((xs.map (·.1)).map fun s => if h : s.rank = t.rank then s.size (a.cast h.symm) else 0).take k).sum)
    (hlo : off ≤ (j a).val) (hhi : (j a).val < off + (xs[k]).1.size (a.cast hr.symm))
    (H : ∀ i : (xs[k]).1.Idx, (i (a.cast hr.symm)).val = (j a).val - off → (∀ b : Fin t.rank, b ≠ a → (i (b.cast hr.symm)).val = (j b).val) →
      (xs[k]).2 i = v) :
    concatenate t a xs h j = v := by
  let ns : List Nat := (xs.map (·.1)).map fun s => if h : s.rank = t.rank then s.size (a.cast h.symm) else 0
  have PF : (j a).val < ns.sum := by rw [h.2.2]; exact (j a).isLt
  have hkn : k < ns.length := by simpa [ns] using hk
  have hnk : ns[k] = (xs[k]).1.size (a.cast hr.symm) := by
    have : ns[k] = if h : (xs[k]).1.rank = t.rank then (xs[k]).1.size (a.cast h.symm) else 0 := by simp [ns]
    rw [this, dif_pos hr]
  have HLv := locate_at ns (j a).val PF k hkn (hoff ▸ hlo) (by rw [hnk, ← hoff]; exact hhi)
  rw [← hoff] at HLv
  have hk' : ∀ kr : (k : Fin ns.length) × Fin ns[k], kr.1.val < xs.length := fun kr => by simpa [ns] using kr.1.isLt
  have HR : ∀ kr : (k : Fin ns.length) × Fin ns[k], (xs[kr.1.val]'(hk' kr)).1.rank = t.rank := fun kr =>
    (h.2.1 _ (List.mem_map.2 ⟨_, List.getElem_mem (hk' kr), rfl⟩)).1
  have HK : ∀ kr : (k : Fin ns.length) × Fin ns[k], ∀ b : Fin (xs[kr.1.val]'(hk' kr)).1.rank, b.cast (HR kr) = a →
      ns[kr.1] = (xs[kr.1.val]'(hk' kr)).1.size b := fun kr b hb => by
    have : ns[kr.1.val] = if h : (xs[kr.1.val]'(hk' kr)).1.rank = t.rank then (xs[kr.1.val]'(hk' kr)).1.size (a.cast h.symm) else 0 := by
      simp [ns]
    rw [Fin.getElem_fin, this, dif_pos (HR kr), show a.cast (HR kr).symm = b from Fin.ext (congrArg Fin.val hb).symm]
  have HB : ∀ kr : (k : Fin ns.length) × Fin ns[k], ∀ b : Fin (xs[kr.1.val]'(hk' kr)).1.rank, b.cast (HR kr) ≠ a →
      t.size (b.cast (HR kr)) = (xs[kr.1.val]'(hk' kr)).1.size b := fun kr b hb => by
    have hm : (xs[kr.1.val]'(hk' kr)).1 ∈ xs.map (·.1) := List.mem_map.2 ⟨_, List.getElem_mem (hk' kr), rfl⟩
    exact ((h.2.1 _ hm).2 (b.cast (HR kr)) hb).symm
  show (fun kr : (k : Fin ns.length) × Fin ns[k] =>
      (xs[kr.1.val]'(hk' kr)).2 (fun b => if hb : b.cast (HR kr) = a then kr.2.cast (HK kr b hb) else (j (b.cast (HR kr))).cast (HB kr b hb)))
      (locate ns (j a).val PF) = v
  generalize locate ns (j a).val PF = kr at HLv ⊢
  obtain ⟨k1, k2⟩ := HLv
  subst k1
  refine H _ ?_ ?_
  · show ((if hb : _ then _ else _ : Fin _) : Nat) = _
    split
    · exact k2
    · next hc => exact absurd (Fin.ext rfl) hc
  · intro b hb
    show ((if hb : _ then _ else _ : Fin _) : Nat) = _
    split
    · next hc => exact absurd (hc.symm.trans (Fin.ext rfl)) hb.symm
    · rfl

/-! ## The norm of each group of heads -/

theorem raw0 (i : S9216x8x128.Idx) {r n : Nat} (hr : (i 0).val = r) (hn : 0 + (i 1).val * 128 + (i 2).val = n) :
    val_main_v2 (F := Ideal) x0 i = rd x0 r n := by
  have h1 : (i 1).val < 8 := (i 1).isLt
  have h2 : (i 2).val < 128 := (i 2).isLt
  refine (val_main_v2_apply x0 i).trans ((val_main_v1_apply x0 _).trans ((val_main_v0_apply x0 _).trans (eq_rd_of x0 _ ?_ ?_)))
  · show (((i 0).val * 8 + (i 1).val) * 128 + (i 2).val) / 1024 = r
    omega
  · show (((i 0).val * 8 + (i 1).val) * 128 + (i 2).val) % 1024 = n
    omega

theorem norm0 (i : S9216x8x128.Idx) {r n : Nat} (hr : (i 0).val = r) (hn : 0 + (i 1).val * 128 + (i 2).val = n) :
    val_main_v17 (F := Ideal) x0 x1 i = nm x0 x1 r n := by
  have h1 : (i 1).val < 8 := (i 1).isLt
  have h2 : (i 2).val < 128 := (i 2).isLt
  unfold nm nrm
  refine (val_main_v17_apply x0 x1 i).trans (congrArg₂ (fun p q : EReal => p * q)
    ((val_main_v14_apply x0 i).trans (congrArg₂ (fun p q : EReal => p * q) (raw0 x0 i hr hn) ?_)) ?_)
  · refine (val_main_v13_apply x0 _).trans ((val_main_v12_apply x0 _).trans (congrArg Ideal.rsqrt ?_))
    refine (val_main_v11_apply x0 _).trans (congrArg₂ (fun p q : EReal => p + q) ?_ (val_main_v10_apply _))
    refine (val_main_v9_apply x0 _).trans (congrArg₂ Ideal.div ?_ (val_main_v8_apply _))
    refine (val_main_v7_apply x0 _).trans ((val_main_v6_apply x0 _).trans ?_)
    refine (congrArg₂ (· + ·) (Ideal.ofBits_zero .f32) (Finset.sum_congr rfl fun k _ => ?_)).trans (zero_add _)
    have ek : 0 + (i 1).val * 128 + k.val = n / 128 * 128 + k.val := by omega
    exact (val_main_v5_apply x0 _).trans (congrArg₂ (fun p q : EReal => p * q) (raw0 x0 _ hr ek) (raw0 x0 _ hr ek))
  · refine (val_main_v16_apply x1 _).trans ((val_main_v15_apply x1 _).trans ((val_main_v4_apply x1 _).trans ((val_main_v3_apply x1 _).trans (eq_rd3_of x1 _ ?_ ?_ ?_))))
    · show _ = gain n
      unfold gain
      repeat' split
      all_goals first | rfl | omega
    · rfl
    · show (0 * 128 + (i 2).val) % 128 = n % 128
      omega

theorem raw1 (i : S9216x8x128.Idx) {r n : Nat} (hr : (i 0).val = r) (hn : 1024 + (i 1).val * 128 + (i 2).val = n) :
    val_main_v20 (F := Ideal) x0 i = rd x0 r n := by
  have h1 : (i 1).val < 8 := (i 1).isLt
  have h2 : (i 2).val < 128 := (i 2).isLt
  refine (val_main_v20_apply x0 i).trans ((val_main_v19_apply x0 _).trans ((val_main_v18_apply x0 _).trans (eq_rd_of x0 _ ?_ ?_)))
  · show (((i 0).val * 8 + (i 1).val) * 128 + (i 2).val) / 1024 = r
    omega
  · show 1024 + (((i 0).val * 8 + (i 1).val) * 128 + (i 2).val) % 1024 = n
    omega

theorem norm1 (i : S9216x8x128.Idx) {r n : Nat} (hr : (i 0).val = r) (hn : 1024 + (i 1).val * 128 + (i 2).val = n) :
    val_main_v35 (F := Ideal) x0 x1 i = nm x0 x1 r n := by
  have h1 : (i 1).val < 8 := (i 1).isLt
  have h2 : (i 2).val < 128 := (i 2).isLt
  unfold nm nrm
  refine (val_main_v35_apply x0 x1 i).trans (congrArg₂ (fun p q : EReal => p * q)
    ((val_main_v32_apply x0 i).trans (congrArg₂ (fun p q : EReal => p * q) (raw1 x0 i hr hn) ?_)) ?_)
  · refine (val_main_v31_apply x0 _).trans ((val_main_v30_apply x0 _).trans (congrArg Ideal.rsqrt ?_))
    refine (val_main_v29_apply x0 _).trans (congrArg₂ (fun p q : EReal => p + q) ?_ (val_main_v28_apply _))
    refine (val_main_v27_apply x0 _).trans (congrArg₂ Ideal.div ?_ (val_main_v26_apply _))
    refine (val_main_v25_apply x0 _).trans ((val_main_v24_apply x0 _).trans ?_)
    refine (congrArg₂ (· + ·) (Ideal.ofBits_zero .f32) (Finset.sum_congr rfl fun k _ => ?_)).trans (zero_add _)
    have ek : 1024 + (i 1).val * 128 + k.val = n / 128 * 128 + k.val := by omega
    exact (val_main_v23_apply x0 _).trans (congrArg₂ (fun p q : EReal => p * q) (raw1 x0 _ hr ek) (raw1 x0 _ hr ek))
  · refine (val_main_v34_apply x1 _).trans ((val_main_v33_apply x1 _).trans ((val_main_v22_apply x1 _).trans ((val_main_v21_apply x1 _).trans (eq_rd3_of x1 _ ?_ ?_ ?_))))
    · show _ = gain n
      unfold gain
      repeat' split
      all_goals first | rfl | omega
    · rfl
    · show (0 * 128 + (i 2).val) % 128 = n % 128
      omega

theorem raw2 (i : S9216x8x128.Idx) {r n : Nat} (hr : (i 0).val = r) (hn : 3072 + (i 1).val * 128 + (i 2).val = n) :
    val_main_v38 (F := Ideal) x0 i = rd x0 r n := by
  have h1 : (i 1).val < 8 := (i 1).isLt
  have h2 : (i 2).val < 128 := (i 2).isLt
  refine (val_main_v38_apply x0 i).trans ((val_main_v37_apply x0 _).trans ((val_main_v36_apply x0 _).trans (eq_rd_of x0 _ ?_ ?_)))
  · show (((i 0).val * 8 + (i 1).val) * 128 + (i 2).val) / 1024 = r
    omega
  · show 3072 + (((i 0).val * 8 + (i 1).val) * 128 + (i 2).val) % 1024 = n
    omega

theorem norm2 (i : S9216x8x128.Idx) {r n : Nat} (hr : (i 0).val = r) (hn : 3072 + (i 1).val * 128 + (i 2).val = n) :
    val_main_v53 (F := Ideal) x0 x1 i = nm x0 x1 r n := by
  have h1 : (i 1).val < 8 := (i 1).isLt
  have h2 : (i 2).val < 128 := (i 2).isLt
  unfold nm nrm
  refine (val_main_v53_apply x0 x1 i).trans (congrArg₂ (fun p q : EReal => p * q)
    ((val_main_v50_apply x0 i).trans (congrArg₂ (fun p q : EReal => p * q) (raw2 x0 i hr hn) ?_)) ?_)
  · refine (val_main_v49_apply x0 _).trans ((val_main_v48_apply x0 _).trans (congrArg Ideal.rsqrt ?_))
    refine (val_main_v47_apply x0 _).trans (congrArg₂ (fun p q : EReal => p + q) ?_ (val_main_v46_apply _))
    refine (val_main_v45_apply x0 _).trans (congrArg₂ Ideal.div ?_ (val_main_v44_apply _))
    refine (val_main_v43_apply x0 _).trans ((val_main_v42_apply x0 _).trans ?_)
    refine (congrArg₂ (· + ·) (Ideal.ofBits_zero .f32) (Finset.sum_congr rfl fun k _ => ?_)).trans (zero_add _)
    have ek : 3072 + (i 1).val * 128 + k.val = n / 128 * 128 + k.val := by omega
    exact (val_main_v41_apply x0 _).trans (congrArg₂ (fun p q : EReal => p * q) (raw2 x0 _ hr ek) (raw2 x0 _ hr ek))
  · refine (val_main_v52_apply x1 _).trans ((val_main_v51_apply x1 _).trans ((val_main_v40_apply x1 _).trans ((val_main_v39_apply x1 _).trans (eq_rd3_of x1 _ ?_ ?_ ?_))))
    · show _ = gain n
      unfold gain
      repeat' split
      all_goals first | rfl | omega
    · rfl
    · show (0 * 128 + (i 2).val) % 128 = n % 128
      omega

theorem raw3 (i : S9216x2x128.Idx) {r n : Nat} (hr : (i 0).val = r) (hn : 4096 + (i 1).val * 128 + (i 2).val = n) :
    val_main_v86 (F := Ideal) x0 i = rd x0 r n := by
  have h1 : (i 1).val < 2 := (i 1).isLt
  have h2 : (i 2).val < 128 := (i 2).isLt
  refine (val_main_v86_apply x0 i).trans ((val_main_v85_apply x0 _).trans ((val_main_v84_apply x0 _).trans (eq_rd_of x0 _ ?_ ?_)))
  · show (((i 0).val * 2 + (i 1).val) * 128 + (i 2).val) / 256 = r
    omega
  · show 4096 + (((i 0).val * 2 + (i 1).val) * 128 + (i 2).val) % 256 = n
    omega

theorem norm3 (i : S9216x2x128.Idx) {r n : Nat} (hr : (i 0).val = r) (hn : 4096 + (i 1).val * 128 + (i 2).val = n) :
    val_main_v101 (F := Ideal) x0 x1 i = nm x0 x1 r n := by
  have h1 : (i 1).val < 2 := (i 1).isLt
  have h2 : (i 2).val < 128 := (i 2).isLt
  unfold nm nrm
  refine (val_main_v101_apply x0 x1 i).trans (congrArg₂ (fun p q : EReal => p * q)
    ((val_main_v98_apply x0 i).trans (congrArg₂ (fun p q : EReal => p * q) (raw3 x0 i hr hn) ?_)) ?_)
  · refine (val_main_v97_apply x0 _).trans ((val_main_v96_apply x0 _).trans (congrArg Ideal.rsqrt ?_))
    refine (val_main_v95_apply x0 _).trans (congrArg₂ (fun p q : EReal => p + q) ?_ (val_main_v94_apply _))
    refine (val_main_v93_apply x0 _).trans (congrArg₂ Ideal.div ?_ (val_main_v92_apply _))
    refine (val_main_v91_apply x0 _).trans ((val_main_v90_apply x0 _).trans ?_)
    refine (congrArg₂ (· + ·) (Ideal.ofBits_zero .f32) (Finset.sum_congr rfl fun k _ => ?_)).trans (zero_add _)
    have ek : 4096 + (i 1).val * 128 + k.val = n / 128 * 128 + k.val := by omega
    exact (val_main_v89_apply x0 _).trans (congrArg₂ (fun p q : EReal => p * q) (raw3 x0 _ hr ek) (raw3 x0 _ hr ek))
  · refine (val_main_v100_apply x1 _).trans ((val_main_v99_apply x1 _).trans ((val_main_v88_apply x1 _).trans ((val_main_v87_apply x1 _).trans (eq_rd3_of x1 _ ?_ ?_ ?_))))
    · show _ = gain n
      unfold gain
      repeat' split
      all_goals first | rfl | omega
    · rfl
    · show (0 * 128 + (i 2).val) % 128 = n % 128
      omega

/-! ## The rotation -/

theorem rows2 (i : S4x2048x8x128.Idx) {r n : Nat} (hr : (i 0).val * 2048 + (i 1).val = r) (hn : 3072 + (i 2).val * 128 + (i 3).val = n) :
    val_main_v55 (F := Ideal) x0 x1 i = nm x0 x1 r n := by
  have h2 : (i 2).val < 8 := (i 2).isLt
  have h3 : (i 3).val < 128 := (i 3).isLt
  refine (val_main_v55_apply x0 x1 i).trans ((val_main_v54_apply x0 x1 _).trans (norm2 x0 x1 _ ?_ ?_))
  · show ((((i 0).val * 2048 + (i 1).val) * 8 + (i 2).val) * 128 + (i 3).val) / 1024 = r
    omega
  · show 3072 + ((((i 0).val * 2048 + (i 1).val) * 8 + (i 2).val) * 128 + (i 3).val) / 128 % 8 * 128 + ((((i 0).val * 2048 + (i 1).val) * 8 + (i 2).val) * 128 + (i 3).val) % 128 = n
    omega

theorem pairs2 (i : S4x2048x8x64x2.Idx) {r n : Nat} (hr : (i 0).val * 2048 + (i 1).val = r) (hn : 3072 + (i 2).val * 128 + (i 3).val * 2 + (i 4).val = n) :
    val_main_v58 (F := Ideal) x0 x1 i = nm x0 x1 r n := by
  have h1 : (i 1).val < 2048 := (i 1).isLt
  have h2 : (i 2).val < 8 := (i 2).isLt
  have h3 : (i 3).val < 64 := (i 3).isLt
  have h4 : (i 4).val < 2 := (i 4).isLt
  refine (val_main_v58_apply x0 x1 i).trans (rows2 x0 x1 _ ?_ ?_)
  · show (((((i 0).val * 2048 + (i 1).val) * 8 + (i 2).val) * 64 + (i 3).val) * 2 + (i 4).val) / 2097152 * 2048 + (((((i 0).val * 2048 + (i 1).val) * 8 + (i 2).val) * 64 + (i 3).val) * 2 + (i 4).val) / 1024 % 2048 = r
    omega
  · show 3072 + (((((i 0).val * 2048 + (i 1).val) * 8 + (i 2).val) * 64 + (i 3).val) * 2 + (i 4).val) / 128 % 8 * 128 + (((((i 0).val * 2048 + (i 1).val) * 8 + (i 2).val) * 64 + (i 3).val) * 2 + (i 4).val) % 128 = n
    omega

theorem evens2 (i : S4x2048x8x64.Idx) {r n : Nat} (hr : (i 0).val * 2048 + (i 1).val = r) (hn : 3072 + (i 2).val * 128 + (i 3).val * 2 + 0 = n) :
    val_main_v60 (F := Ideal) x0 x1 i = nm x0 x1 r n := by
  have h1 : (i 1).val < 2048 := (i 1).isLt
  have h2 : (i 2).val < 8 := (i 2).isLt
  have h3 : (i 3).val < 64 := (i 3).isLt
  let f : Nat := (((i 0).val * 2048 + (i 1).val) * 8 + (i 2).val) * 64 + (i 3).val
  refine (val_main_v60_apply x0 x1 i).trans ((val_main_v59_apply x0 x1 _).trans (pairs2 x0 x1 _ ?_ ?_))
  · show ((((i 0).val * 2048 + (i 1).val) * 8 + (i 2).val) * 64 + (i 3).val) / 1048576 * 2048 + ((((i 0).val * 2048 + (i 1).val) * 8 + (i 2).val) * 64 + (i 3).val) / 512 % 2048 = r
    omega
  · show 3072 + ((((i 0).val * 2048 + (i 1).val) * 8 + (i 2).val) * 64 + (i 3).val) / 64 % 8 * 128 + ((((i 0).val * 2048 + (i 1).val) * 8 + (i 2).val) * 64 + (i 3).val) / 1 % 64 * 2 + 0 = n
    omega

theorem odds2 (i : S4x2048x8x64.Idx) {r n : Nat} (hr : (i 0).val * 2048 + (i 1).val = r) (hn : 3072 + (i 2).val * 128 + (i 3).val * 2 + 1 = n) :
    val_main_v62 (F := Ideal) x0 x1 i = nm x0 x1 r n := by
  have h1 : (i 1).val < 2048 := (i 1).isLt
  have h2 : (i 2).val < 8 := (i 2).isLt
  have h3 : (i 3).val < 64 := (i 3).isLt
  let f : Nat := (((i 0).val * 2048 + (i 1).val) * 8 + (i 2).val) * 64 + (i 3).val
  refine (val_main_v62_apply x0 x1 i).trans ((val_main_v61_apply x0 x1 _).trans (pairs2 x0 x1 _ ?_ ?_))
  · show ((((i 0).val * 2048 + (i 1).val) * 8 + (i 2).val) * 64 + (i 3).val) / 1048576 * 2048 + ((((i 0).val * 2048 + (i 1).val) * 8 + (i 2).val) * 64 + (i 3).val) / 512 % 2048 = r
    omega
  · show 3072 + ((((i 0).val * 2048 + (i 1).val) * 8 + (i 2).val) * 64 + (i 3).val) / 64 % 8 * 128 + ((((i 0).val * 2048 + (i 1).val) * 8 + (i 2).val) * 64 + (i 3).val) / 1 % 64 * 2 + 1 = n
    omega

theorem first2 (i : S4x2048x8x64.Idx) {r n : Nat} (hr : (i 0).val * 2048 + (i 1).val = r) (hn : 3072 + (i 2).val * 128 + (i 3).val * 2 = n) :
    val_main_v69 (F := Ideal) x0 x1 x2 x3 i = nm x0 x1 r n * rd x2 (i 1).val (i 3).val - nm x0 x1 r (n + 1) * rd x3 (i 1).val (i 3).val := by
  refine (val_main_v69_apply x0 x1 x2 x3 i).trans (congrArg₂ (fun p q : EReal => p - q)
    ((val_main_v65_apply x0 x1 x2 i).trans (congrArg₂ (fun p q : EReal => p * q) (evens2 x0 x1 i hr hn) ?_))
    ((val_main_v68_apply x0 x1 x3 i).trans (congrArg₂ (fun p q : EReal => p * q) (odds2 x0 x1 i hr (congrArg (fun a : Nat => a + 1) hn)) ?_)))
  · exact (val_main_v64_apply x2 _).trans ((val_main_v63_apply x2 _).trans ((val_main_v56_apply x2 _).trans (eq_rd_of x2 _ rfl rfl)))
  · exact (val_main_v67_apply x3 _).trans ((val_main_v66_apply x3 _).trans ((val_main_v57_apply x3 _).trans (eq_rd_of x3 _ rfl rfl)))

theorem second2 (i : S4x2048x8x64.Idx) {r n : Nat} (hr : (i 0).val * 2048 + (i 1).val = r) (hn : 3072 + (i 2).val * 128 + (i 3).val * 2 = n) :
    val_main_v76 (F := Ideal) x0 x1 x2 x3 i = nm x0 x1 r n * rd x3 (i 1).val (i 3).val + nm x0 x1 r (n + 1) * rd x2 (i 1).val (i 3).val := by
  refine (val_main_v76_apply x0 x1 x2 x3 i).trans (congrArg₂ (fun p q : EReal => p + q)
    ((val_main_v72_apply x0 x1 x3 i).trans (congrArg₂ (fun p q : EReal => p * q) (evens2 x0 x1 i hr hn) ?_))
    ((val_main_v75_apply x0 x1 x2 i).trans (congrArg₂ (fun p q : EReal => p * q) (odds2 x0 x1 i hr (congrArg (fun a : Nat => a + 1) hn)) ?_)))
  · exact (val_main_v71_apply x3 _).trans ((val_main_v70_apply x3 _).trans ((val_main_v57_apply x3 _).trans (eq_rd_of x3 _ rfl rfl)))
  · exact (val_main_v74_apply x2 _).trans ((val_main_v73_apply x2 _).trans ((val_main_v56_apply x2 _).trans (eq_rd_of x2 _ rfl rfl)))

/-- The two columns of a pair, turned and side by side. -/
theorem turned2 (i : S4x2048x8x64x2.Idx) {r n : Nat} (hr : (i 0).val * 2048 + (i 1).val = r) (hn : 3072 + (i 2).val * 128 + (i 3).val * 2 + (i 4).val = n) :
    val_main_v79 (F := Ideal) x0 x1 x2 x3 i = rot x0 x1 x2 x3 r n := by
  have h1 : (i 1).val < 2048 := (i 1).isLt
  have h3 : (i 3).val < 64 := (i 3).isLt
  have h4 : (i 4).val < 2 := (i 4).isLt
  have er : r % 2048 = (i 1).val := by omega
  have en : n % 128 / 2 = (i 3).val := by omega
  unfold rot val_main_v79
  rw [er, en]
  by_cases h : (i 4).val = 0
  · rw [if_pos (by omega)]
    refine (concatenate_pair_apply_left 4 _ _ concatenates_S4x2048x8x64x1_S4x2048x8x64x1_S4x2048x8x64x2_d4 i rfl
      (fun a => match a with | ⟨0, _⟩ => i 0 | ⟨1, _⟩ => i 1 | ⟨2, _⟩ => i 2 | ⟨3, _⟩ => i 3 | ⟨4, _⟩ => ⟨0, Nat.one_pos⟩)
      (fun b => match b with | ⟨0, _⟩ => rfl | ⟨1, _⟩ => rfl | ⟨2, _⟩ => rfl | ⟨3, _⟩ => rfl | ⟨4, _⟩ => h.symm)).trans ?_
    exact (val_main_v77_apply x0 x1 x2 x3 _).trans (first2 x0 x1 x2 x3 _ hr (show 3072 + (i 2).val * 128 + (i 3).val * 2 = n by omega))
  · rw [if_neg (by omega)]
    refine (concatenate_pair_apply_right 4 _ _ concatenates_S4x2048x8x64x1_S4x2048x8x64x1_S4x2048x8x64x2_d4 i rfl rfl
      (fun a => match a with | ⟨0, _⟩ => i 0 | ⟨1, _⟩ => i 1 | ⟨2, _⟩ => i 2 | ⟨3, _⟩ => i 3 | ⟨4, _⟩ => ⟨0, Nat.one_pos⟩)
      (fun b hb => match b with | ⟨0, _⟩ => rfl | ⟨1, _⟩ => rfl | ⟨2, _⟩ => rfl | ⟨3, _⟩ => rfl | ⟨4, _⟩ => absurd rfl hb)
      (by show 0 + 1 = (i 4).val; omega)).trans ?_
    obtain ⟨n', rfl⟩ : ∃ n', n = n' + 1 := ⟨n - 1, by omega⟩
    rw [Nat.add_sub_cancel]
    exact (val_main_v78_apply x0 x1 x2 x3 _).trans (second2 x0 x1 x2 x3 _ hr (show 3072 + (i 2).val * 128 + (i 3).val * 2 = n' by omega))

theorem rotated2 (i : S8192x8x128.Idx) {r n : Nat} (hr : (i 0).val = r) (hn : 3072 + (i 1).val * 128 + (i 2).val = n) :
    val_main_v81 (F := Ideal) x0 x1 x2 x3 i = rot x0 x1 x2 x3 r n := by
  have h0 : (i 0).val < 8192 := (i 0).isLt
  have h1 : (i 1).val < 8 := (i 1).isLt
  have h2 : (i 2).val < 128 := (i 2).isLt
  have key : ∀ j : S4x2048x8x128.Idx, (j 0).val * 2048 + (j 1).val = r → 3072 + (j 2).val * 128 + (j 3).val = n →
      val_main_v80 (F := Ideal) x0 x1 x2 x3 j = rot x0 x1 x2 x3 r n := fun j jr jn => by
    have g1 : (j 1).val < 2048 := (j 1).isLt
    have g2 : (j 2).val < 8 := (j 2).isLt
    have g3 : (j 3).val < 128 := (j 3).isLt
    refine (val_main_v80_apply x0 x1 x2 x3 j).trans (turned2 x0 x1 x2 x3 _ ?_ ?_)
    · show ((((j 0).val * 2048 + (j 1).val) * 8 + (j 2).val) * 128 + (j 3).val) / 2097152 * 2048 + ((((j 0).val * 2048 + (j 1).val) * 8 + (j 2).val) * 128 + (j 3).val) / 1024 % 2048 = r
      omega
    · show 3072 + ((((j 0).val * 2048 + (j 1).val) * 8 + (j 2).val) * 128 + (j 3).val) / 128 % 8 * 128 + ((((j 0).val * 2048 + (j 1).val) * 8 + (j 2).val) * 128 + (j 3).val) / 2 % 64 * 2 + ((((j 0).val * 2048 + (j 1).val) * 8 + (j 2).val) * 128 + (j 3).val) % 2 = n
      omega
  refine (val_main_v81_apply x0 x1 x2 x3 i).trans (key _ ?_ ?_)
  · show (((i 0).val * 8 + (i 1).val) * 128 + (i 2).val) / 2097152 * 2048 + (((i 0).val * 8 + (i 1).val) * 128 + (i 2).val) / 1024 % 2048 = r
    omega
  · show 3072 + (((i 0).val * 8 + (i 1).val) * 128 + (i 2).val) / 128 % 8 * 128 + (((i 0).val * 8 + (i 1).val) * 128 + (i 2).val) % 128 = n
    omega

/-- The rotated rows over the others. -/
theorem heads2 (i : S9216x8x128.Idx) {r n : Nat} (hr : (i 0).val = r) (hn : 3072 + (i 1).val * 128 + (i 2).val = n) :
    val_main_v83 (F := Ideal) x0 x1 x2 x3 i = if r < 8192 then rot x0 x1 x2 x3 r n else nm x0 x1 r n := by
  have h0 : (i 0).val < 9216 := (i 0).isLt
  unfold val_main_v83
  by_cases h : (i 0).val < 8192
  · rw [if_pos (hr ▸ h)]
    refine (concatenate_pair_apply_left 0 _ _ concatenates_S8192x8x128_S1024x8x128_S9216x8x128_d0 i rfl
      (fun a => match a with | ⟨0, _⟩ => ⟨(i 0).val, h⟩ | ⟨1, _⟩ => i 1 | ⟨2, _⟩ => i 2)
      (fun b => match b with | ⟨0, _⟩ => rfl | ⟨1, _⟩ => rfl | ⟨2, _⟩ => rfl)).trans ?_
    exact rotated2 x0 x1 x2 x3 _ hr hn
  · rw [if_neg (hr ▸ h)]
    refine (concatenate_pair_apply_right 0 _ _ concatenates_S8192x8x128_S1024x8x128_S9216x8x128_d0 i rfl rfl
      (fun a => match a with | ⟨0, _⟩ => ⟨(i 0).val - 8192, by show (i 0).val - 8192 < 1024; omega⟩ | ⟨1, _⟩ => i 1 | ⟨2, _⟩ => i 2)
      (fun b hb => match b with | ⟨0, _⟩ => absurd rfl hb | ⟨1, _⟩ => rfl | ⟨2, _⟩ => rfl)
      (by show (i 0).val - 8192 + 8192 = (i 0).val; omega)).trans ?_
    refine (val_main_v82_apply x0 x1 _).trans (norm2 x0 x1 _ ?_ ?_)
    · show 8192 + ((i 0).val - 8192) = r
      omega
    · exact hn

theorem rows3 (i : S4x2048x2x128.Idx) {r n : Nat} (hr : (i 0).val * 2048 + (i 1).val = r) (hn : 4096 + (i 2).val * 128 + (i 3).val = n) :
    val_main_v103 (F := Ideal) x0 x1 i = nm x0 x1 r n := by
  have h2 : (i 2).val < 2 := (i 2).isLt
  have h3 : (i 3).val < 128 := (i 3).isLt
  refine (val_main_v103_apply x0 x1 i).trans ((val_main_v102_apply x0 x1 _).trans (norm3 x0 x1 _ ?_ ?_))
  · show ((((i 0).val * 2048 + (i 1).val) * 2 + (i 2).val) * 128 + (i 3).val) / 256 = r
    omega
  · show 4096 + ((((i 0).val * 2048 + (i 1).val) * 2 + (i 2).val) * 128 + (i 3).val) / 128 % 2 * 128 + ((((i 0).val * 2048 + (i 1).val) * 2 + (i 2).val) * 128 + (i 3).val) % 128 = n
    omega

theorem pairs3 (i : S4x2048x2x64x2.Idx) {r n : Nat} (hr : (i 0).val * 2048 + (i 1).val = r) (hn : 4096 + (i 2).val * 128 + (i 3).val * 2 + (i 4).val = n) :
    val_main_v106 (F := Ideal) x0 x1 i = nm x0 x1 r n := by
  have h1 : (i 1).val < 2048 := (i 1).isLt
  have h2 : (i 2).val < 2 := (i 2).isLt
  have h3 : (i 3).val < 64 := (i 3).isLt
  have h4 : (i 4).val < 2 := (i 4).isLt
  refine (val_main_v106_apply x0 x1 i).trans (rows3 x0 x1 _ ?_ ?_)
  · show (((((i 0).val * 2048 + (i 1).val) * 2 + (i 2).val) * 64 + (i 3).val) * 2 + (i 4).val) / 524288 * 2048 + (((((i 0).val * 2048 + (i 1).val) * 2 + (i 2).val) * 64 + (i 3).val) * 2 + (i 4).val) / 256 % 2048 = r
    omega
  · show 4096 + (((((i 0).val * 2048 + (i 1).val) * 2 + (i 2).val) * 64 + (i 3).val) * 2 + (i 4).val) / 128 % 2 * 128 + (((((i 0).val * 2048 + (i 1).val) * 2 + (i 2).val) * 64 + (i 3).val) * 2 + (i 4).val) % 128 = n
    omega

theorem evens3 (i : S4x2048x2x64.Idx) {r n : Nat} (hr : (i 0).val * 2048 + (i 1).val = r) (hn : 4096 + (i 2).val * 128 + (i 3).val * 2 + 0 = n) :
    val_main_v108 (F := Ideal) x0 x1 i = nm x0 x1 r n := by
  have h1 : (i 1).val < 2048 := (i 1).isLt
  have h2 : (i 2).val < 2 := (i 2).isLt
  have h3 : (i 3).val < 64 := (i 3).isLt
  let f : Nat := (((i 0).val * 2048 + (i 1).val) * 2 + (i 2).val) * 64 + (i 3).val
  refine (val_main_v108_apply x0 x1 i).trans ((val_main_v107_apply x0 x1 _).trans (pairs3 x0 x1 _ ?_ ?_))
  · show ((((i 0).val * 2048 + (i 1).val) * 2 + (i 2).val) * 64 + (i 3).val) / 262144 * 2048 + ((((i 0).val * 2048 + (i 1).val) * 2 + (i 2).val) * 64 + (i 3).val) / 128 % 2048 = r
    omega
  · show 4096 + ((((i 0).val * 2048 + (i 1).val) * 2 + (i 2).val) * 64 + (i 3).val) / 64 % 2 * 128 + ((((i 0).val * 2048 + (i 1).val) * 2 + (i 2).val) * 64 + (i 3).val) / 1 % 64 * 2 + 0 = n
    omega

theorem odds3 (i : S4x2048x2x64.Idx) {r n : Nat} (hr : (i 0).val * 2048 + (i 1).val = r) (hn : 4096 + (i 2).val * 128 + (i 3).val * 2 + 1 = n) :
    val_main_v110 (F := Ideal) x0 x1 i = nm x0 x1 r n := by
  have h1 : (i 1).val < 2048 := (i 1).isLt
  have h2 : (i 2).val < 2 := (i 2).isLt
  have h3 : (i 3).val < 64 := (i 3).isLt
  let f : Nat := (((i 0).val * 2048 + (i 1).val) * 2 + (i 2).val) * 64 + (i 3).val
  refine (val_main_v110_apply x0 x1 i).trans ((val_main_v109_apply x0 x1 _).trans (pairs3 x0 x1 _ ?_ ?_))
  · show ((((i 0).val * 2048 + (i 1).val) * 2 + (i 2).val) * 64 + (i 3).val) / 262144 * 2048 + ((((i 0).val * 2048 + (i 1).val) * 2 + (i 2).val) * 64 + (i 3).val) / 128 % 2048 = r
    omega
  · show 4096 + ((((i 0).val * 2048 + (i 1).val) * 2 + (i 2).val) * 64 + (i 3).val) / 64 % 2 * 128 + ((((i 0).val * 2048 + (i 1).val) * 2 + (i 2).val) * 64 + (i 3).val) / 1 % 64 * 2 + 1 = n
    omega

theorem first3 (i : S4x2048x2x64.Idx) {r n : Nat} (hr : (i 0).val * 2048 + (i 1).val = r) (hn : 4096 + (i 2).val * 128 + (i 3).val * 2 = n) :
    val_main_v117 (F := Ideal) x0 x1 x2 x3 i = nm x0 x1 r n * rd x2 (i 1).val (i 3).val - nm x0 x1 r (n + 1) * rd x3 (i 1).val (i 3).val := by
  refine (val_main_v117_apply x0 x1 x2 x3 i).trans (congrArg₂ (fun p q : EReal => p - q)
    ((val_main_v113_apply x0 x1 x2 i).trans (congrArg₂ (fun p q : EReal => p * q) (evens3 x0 x1 i hr hn) ?_))
    ((val_main_v116_apply x0 x1 x3 i).trans (congrArg₂ (fun p q : EReal => p * q) (odds3 x0 x1 i hr (congrArg (fun a : Nat => a + 1) hn)) ?_)))
  · exact (val_main_v112_apply x2 _).trans ((val_main_v111_apply x2 _).trans ((val_main_v104_apply x2 _).trans (eq_rd_of x2 _ rfl rfl)))
  · exact (val_main_v115_apply x3 _).trans ((val_main_v114_apply x3 _).trans ((val_main_v105_apply x3 _).trans (eq_rd_of x3 _ rfl rfl)))

theorem second3 (i : S4x2048x2x64.Idx) {r n : Nat} (hr : (i 0).val * 2048 + (i 1).val = r) (hn : 4096 + (i 2).val * 128 + (i 3).val * 2 = n) :
    val_main_v124 (F := Ideal) x0 x1 x2 x3 i = nm x0 x1 r n * rd x3 (i 1).val (i 3).val + nm x0 x1 r (n + 1) * rd x2 (i 1).val (i 3).val := by
  refine (val_main_v124_apply x0 x1 x2 x3 i).trans (congrArg₂ (fun p q : EReal => p + q)
    ((val_main_v120_apply x0 x1 x3 i).trans (congrArg₂ (fun p q : EReal => p * q) (evens3 x0 x1 i hr hn) ?_))
    ((val_main_v123_apply x0 x1 x2 i).trans (congrArg₂ (fun p q : EReal => p * q) (odds3 x0 x1 i hr (congrArg (fun a : Nat => a + 1) hn)) ?_)))
  · exact (val_main_v119_apply x3 _).trans ((val_main_v118_apply x3 _).trans ((val_main_v105_apply x3 _).trans (eq_rd_of x3 _ rfl rfl)))
  · exact (val_main_v122_apply x2 _).trans ((val_main_v121_apply x2 _).trans ((val_main_v104_apply x2 _).trans (eq_rd_of x2 _ rfl rfl)))

/-- The two columns of a pair, turned and side by side. -/
theorem turned3 (i : S4x2048x2x64x2.Idx) {r n : Nat} (hr : (i 0).val * 2048 + (i 1).val = r) (hn : 4096 + (i 2).val * 128 + (i 3).val * 2 + (i 4).val = n) :
    val_main_v127 (F := Ideal) x0 x1 x2 x3 i = rot x0 x1 x2 x3 r n := by
  have h1 : (i 1).val < 2048 := (i 1).isLt
  have h3 : (i 3).val < 64 := (i 3).isLt
  have h4 : (i 4).val < 2 := (i 4).isLt
  have er : r % 2048 = (i 1).val := by omega
  have en : n % 128 / 2 = (i 3).val := by omega
  unfold rot val_main_v127
  rw [er, en]
  by_cases h : (i 4).val = 0
  · rw [if_pos (by omega)]
    refine (concatenate_pair_apply_left 4 _ _ concatenates_S4x2048x2x64x1_S4x2048x2x64x1_S4x2048x2x64x2_d4 i rfl
      (fun a => match a with | ⟨0, _⟩ => i 0 | ⟨1, _⟩ => i 1 | ⟨2, _⟩ => i 2 | ⟨3, _⟩ => i 3 | ⟨4, _⟩ => ⟨0, Nat.one_pos⟩)
      (fun b => match b with | ⟨0, _⟩ => rfl | ⟨1, _⟩ => rfl | ⟨2, _⟩ => rfl | ⟨3, _⟩ => rfl | ⟨4, _⟩ => h.symm)).trans ?_
    exact (val_main_v125_apply x0 x1 x2 x3 _).trans (first3 x0 x1 x2 x3 _ hr (show 4096 + (i 2).val * 128 + (i 3).val * 2 = n by omega))
  · rw [if_neg (by omega)]
    refine (concatenate_pair_apply_right 4 _ _ concatenates_S4x2048x2x64x1_S4x2048x2x64x1_S4x2048x2x64x2_d4 i rfl rfl
      (fun a => match a with | ⟨0, _⟩ => i 0 | ⟨1, _⟩ => i 1 | ⟨2, _⟩ => i 2 | ⟨3, _⟩ => i 3 | ⟨4, _⟩ => ⟨0, Nat.one_pos⟩)
      (fun b hb => match b with | ⟨0, _⟩ => rfl | ⟨1, _⟩ => rfl | ⟨2, _⟩ => rfl | ⟨3, _⟩ => rfl | ⟨4, _⟩ => absurd rfl hb)
      (by show 0 + 1 = (i 4).val; omega)).trans ?_
    obtain ⟨n', rfl⟩ : ∃ n', n = n' + 1 := ⟨n - 1, by omega⟩
    rw [Nat.add_sub_cancel]
    exact (val_main_v126_apply x0 x1 x2 x3 _).trans (second3 x0 x1 x2 x3 _ hr (show 4096 + (i 2).val * 128 + (i 3).val * 2 = n' by omega))

theorem rotated3 (i : S8192x2x128.Idx) {r n : Nat} (hr : (i 0).val = r) (hn : 4096 + (i 1).val * 128 + (i 2).val = n) :
    val_main_v129 (F := Ideal) x0 x1 x2 x3 i = rot x0 x1 x2 x3 r n := by
  have h0 : (i 0).val < 8192 := (i 0).isLt
  have h1 : (i 1).val < 2 := (i 1).isLt
  have h2 : (i 2).val < 128 := (i 2).isLt
  have key : ∀ j : S4x2048x2x128.Idx, (j 0).val * 2048 + (j 1).val = r → 4096 + (j 2).val * 128 + (j 3).val = n →
      val_main_v128 (F := Ideal) x0 x1 x2 x3 j = rot x0 x1 x2 x3 r n := fun j jr jn => by
    have g1 : (j 1).val < 2048 := (j 1).isLt
    have g2 : (j 2).val < 2 := (j 2).isLt
    have g3 : (j 3).val < 128 := (j 3).isLt
    refine (val_main_v128_apply x0 x1 x2 x3 j).trans (turned3 x0 x1 x2 x3 _ ?_ ?_)
    · show ((((j 0).val * 2048 + (j 1).val) * 2 + (j 2).val) * 128 + (j 3).val) / 524288 * 2048 + ((((j 0).val * 2048 + (j 1).val) * 2 + (j 2).val) * 128 + (j 3).val) / 256 % 2048 = r
      omega
    · show 4096 + ((((j 0).val * 2048 + (j 1).val) * 2 + (j 2).val) * 128 + (j 3).val) / 128 % 2 * 128 + ((((j 0).val * 2048 + (j 1).val) * 2 + (j 2).val) * 128 + (j 3).val) / 2 % 64 * 2 + ((((j 0).val * 2048 + (j 1).val) * 2 + (j 2).val) * 128 + (j 3).val) % 2 = n
      omega
  refine (val_main_v129_apply x0 x1 x2 x3 i).trans (key _ ?_ ?_)
  · show (((i 0).val * 2 + (i 1).val) * 128 + (i 2).val) / 524288 * 2048 + (((i 0).val * 2 + (i 1).val) * 128 + (i 2).val) / 256 % 2048 = r
    omega
  · show 4096 + (((i 0).val * 2 + (i 1).val) * 128 + (i 2).val) / 128 % 2 * 128 + (((i 0).val * 2 + (i 1).val) * 128 + (i 2).val) % 128 = n
    omega

/-- The rotated rows over the others. -/
theorem heads3 (i : S9216x2x128.Idx) {r n : Nat} (hr : (i 0).val = r) (hn : 4096 + (i 1).val * 128 + (i 2).val = n) :
    val_main_v131 (F := Ideal) x0 x1 x2 x3 i = if r < 8192 then rot x0 x1 x2 x3 r n else nm x0 x1 r n := by
  have h0 : (i 0).val < 9216 := (i 0).isLt
  unfold val_main_v131
  by_cases h : (i 0).val < 8192
  · rw [if_pos (hr ▸ h)]
    refine (concatenate_pair_apply_left 0 _ _ concatenates_S8192x2x128_S1024x2x128_S9216x2x128_d0 i rfl
      (fun a => match a with | ⟨0, _⟩ => ⟨(i 0).val, h⟩ | ⟨1, _⟩ => i 1 | ⟨2, _⟩ => i 2)
      (fun b => match b with | ⟨0, _⟩ => rfl | ⟨1, _⟩ => rfl | ⟨2, _⟩ => rfl)).trans ?_
    exact rotated3 x0 x1 x2 x3 _ hr hn
  · rw [if_neg (hr ▸ h)]
    refine (concatenate_pair_apply_right 0 _ _ concatenates_S8192x2x128_S1024x2x128_S9216x2x128_d0 i rfl rfl
      (fun a => match a with | ⟨0, _⟩ => ⟨(i 0).val - 8192, by show (i 0).val - 8192 < 1024; omega⟩ | ⟨1, _⟩ => i 1 | ⟨2, _⟩ => i 2)
      (fun b hb => match b with | ⟨0, _⟩ => absurd rfl hb | ⟨1, _⟩ => rfl | ⟨2, _⟩ => rfl)
      (by show (i 0).val - 8192 + 8192 = (i 0).val; omega)).trans ?_
    refine (val_main_v130_apply x0 x1 _).trans (norm3 x0 x1 _ ?_ ?_)
    · show 8192 + ((i 0).val - 8192) = r
      omega
    · exact hn

/-! ## The result -/

/-- The reference's result is the kernel's. -/
theorem result_eq : val_main_v142 (F := Ideal) x0 x1 x2 x3 = result x0 x1 x2 x3 := funext fun j => by
  have h0 : (j 0).val < 9216 := (j 0).isLt
  have h1 : (j 1).val < 4608 := (j 1).isLt
  unfold result elt val_main_v142
  generalize hr : (j 0).val = r
  generalize hn : (j 1).val = n
  by_cases c1 : n < 1024
  · refine concatenate_at 1 _ _ j _ 0 0 (by simp) rfl rfl (by omega) (by show (j 1).val < 0 + 1024; omega) fun (i : S9216x1024.Idx) ea eb => ?_
    have e0 : (i 0).val = (j 0).val := eb 0 (by decide)
    have e1 : (i 1).val = (j 1).val - 0 := ea
    rw [if_pos (by omega)]
    refine (val_main_v133_apply x0 x1 i).trans ((val_main_v132_apply x0 x1 i).trans (norm0 x0 x1 _ ?_ ?_))
    · show ((i 0).val * 1024 + (i 1).val) / 1024 = r
      omega
    · show 0 + ((i 0).val * 1024 + (i 1).val) / 128 % 8 * 128 + ((i 0).val * 1024 + (i 1).val) % 128 = n
      omega
  by_cases c2 : n < 2048
  · refine concatenate_at 1 _ _ j _ 1 1024 (by simp) rfl rfl (by omega) (by show (j 1).val < 1024 + 1024; omega) fun (i : S9216x1024.Idx) ea eb => ?_
    have e0 : (i 0).val = (j 0).val := eb 0 (by decide)
    have e1 : (i 1).val = (j 1).val - 1024 := ea
    rw [if_pos (by omega)]
    refine (val_main_v135_apply x0 x1 i).trans ((val_main_v134_apply x0 x1 i).trans (norm1 x0 x1 _ ?_ ?_))
    · show ((i 0).val * 1024 + (i 1).val) / 1024 = r
      omega
    · show 1024 + ((i 0).val * 1024 + (i 1).val) / 128 % 8 * 128 + ((i 0).val * 1024 + (i 1).val) % 128 = n
      omega
  rw [if_neg c2]
  by_cases c3 : n < 3072
  · refine concatenate_at 1 _ _ j _ 2 2048 (by simp) rfl rfl (by omega) (by show (j 1).val < 2048 + 1024; omega) fun (i : S9216x1024.Idx) ea eb => ?_
    have e0 : (i 0).val = (j 0).val := eb 0 (by decide)
    have e1 : (i 1).val = (j 1).val - 2048 := ea
    rw [if_pos c3]
    refine (val_main_v136_apply x0 i).trans (eq_rd_of x0 _ ?_ ?_)
    · show (i 0).val = r
      omega
    · show 2048 + (i 1).val = n
      omega
  rw [if_neg c3]
  by_cases c4 : n < 4096
  · refine concatenate_at 1 _ _ j _ 3 3072 (by simp) rfl rfl (by omega) (by show (j 1).val < 3072 + 1024; omega) fun (i : S9216x1024.Idx) ea eb => ?_
    have e0 : (i 0).val = (j 0).val := eb 0 (by decide)
    have e1 : (i 1).val = (j 1).val - 3072 := ea
    rw [if_pos (by omega)]
    refine (val_main_v138_apply x0 x1 x2 x3 i).trans ((val_main_v137_apply x0 x1 x2 x3 i).trans (heads2 x0 x1 x2 x3 _ ?_ ?_))
    · show ((i 0).val * 1024 + (i 1).val) / 1024 = r
      omega
    · show 3072 + ((i 0).val * 1024 + (i 1).val) / 128 % 8 * 128 + ((i 0).val * 1024 + (i 1).val) % 128 = n
      omega
  by_cases c5 : n < 4352
  · refine concatenate_at 1 _ _ j _ 4 4096 (by simp) rfl rfl (by omega) (by show (j 1).val < 4096 + 256; omega) fun (i : S9216x256.Idx) ea eb => ?_
    have e0 : (i 0).val = (j 0).val := eb 0 (by decide)
    have e1 : (i 1).val = (j 1).val - 4096 := ea
    rw [if_pos c5]
    refine (val_main_v140_apply x0 x1 x2 x3 i).trans ((val_main_v139_apply x0 x1 x2 x3 i).trans (heads3 x0 x1 x2 x3 _ ?_ ?_))
    · show ((i 0).val * 256 + (i 1).val) / 256 = r
      omega
    · show 4096 + ((i 0).val * 256 + (i 1).val) / 128 % 2 * 128 + ((i 0).val * 256 + (i 1).val) % 128 = n
      omega
  · refine concatenate_at 1 _ _ j _ 5 4352 (by simp) rfl rfl (by omega) (by show (j 1).val < 4352 + 256; omega) fun (i : S9216x256.Idx) ea eb => ?_
    have e0 : (i 0).val = (j 0).val := eb 0 (by decide)
    have e1 : (i 1).val = (j 1).val - 4352 := ea
    rw [if_neg c5]
    refine (val_main_v141_apply x0 i).trans (eq_rd_of x0 _ ?_ ?_)
    · show (i 0).val = r
      omega
    · show 4352 + (i 1).val = n
      omega

end Reference

/-! ## The claims -/

/-- The kernel at the machine's floats runs and leaves its arguments unchanged. -/
theorem frame_kernel : Cert.quiescent_Kernel14 (hKernel14 := Cert.Kernel14.Gen.facts) := fun m ρ _ => Cert.Kernel14.Gen.frame m ρ

/-- The kernel at the ideal instance. -/
theorem frame_ideal : Cert.quiescent_Kernel14Ideal (hKernel14Ideal := Cert.Kernel14Ideal.Gen.facts) :=
  fun m ρ _ => Cert.Kernel14Ideal.Gen.frame m ρ

/-- The reference. -/
theorem frame_reference : Cert.quiescent_Reference14Ideal (hReference14Ideal := Cert.Reference14Ideal.Gen.facts) := fun m ρ _ =>
  (θ_run Cert.Reference14Ideal.defs _ _).mono (fun _ h => ⟨fun c => (h c).2, funext fun s => nomatch s⟩)
    (Cert.Reference14Ideal.Value.run m ρ)

/-- From equal arguments kernel and reference end with equal results. -/
theorem algebraic : Cert.algebraic_Kernel14Ideal_Reference14Ideal
    (hKernel14Ideal := Cert.Kernel14Ideal.Gen.facts) (hReference14Ideal := Cert.Reference14Ideal.Gen.facts) := fun m ρ m' ρ' _ hag =>
  ⟨fun c => result (m ((c.tc : Thread _ _).loc Cert.Kernel14Ideal.main_arg0)) (m ((c.tc : Thread _ _).loc Cert.Kernel14Ideal.main_arg1)) (m ((c.tc : Thread _ _).loc Cert.Kernel14Ideal.main_arg2)) (m ((c.tc : Thread _ _).loc Cert.Kernel14Ideal.main_arg3)), run m ρ,
    (θ_run Cert.Reference14Ideal.defs _ _).mono (fun _ h c => by
      obtain ⟨hv, h0, h1, h2, h3⟩ := h c
      refine ⟨?_, h0, h1, h2, h3⟩
      rw [hv, Cert.Reference14Ideal.Read.val_main_v142_eq, (hag c).1, (hag c).2.1, (hag c).2.2.1, (hag c).2.2.2]
      exact result_eq _ _ _ _)
      (Cert.Reference14Ideal.Value.run m' ρ')⟩

end Cert.Proj14

end
-- ==== Proof.Proj15.lean ====
/- The rows of the first layer's experts, normed with their shift and scale: kernel and reference equal. -/
module

public import proofs.«01_k».proof.Defs
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Proj10
public import Idealize.ShloMosaic.Lib.Pointwise

@[expose] public section

set_option maxRecDepth 16384

noncomputable section

namespace Cert.Proj15

open Idealize.ShloMosaic Idealize.ShloMosaic.TcCoe Idealize.SL.Sem
open Cert.Grid2
open Cert.Moe (rd3 eq_rd3_of)
open Cert.Proj10 (hz hz3 one_eq nrm nrm_congr)

/-- One element of the result; the batch of a row is its number over 2048, the context's rows from 8192 on take row 4. -/
def elt {R : Nat} (X : (⟨2, ![R, 2048]⟩ : Shape).Idx → EReal) (G : (⟨2, ![1, 2048]⟩ : Shape).Idx → EReal)
    (M : (⟨3, ![8, 1, 12288]⟩ : Shape).Idx → EReal) (r n : Nat) : EReal :=
  nrm (fun k => rd X r k.val) (rd X r n) (rd G 0 n) (rd3 M (r / 2048) 0 (8192 + n)) (rd3 M (r / 2048) 0 (6144 + n))

section Kernel

open Cert.Kernel15Ideal Cert.Kernel15Ideal.Gen

/-- The result array. -/
def result (X : S9216x2048.Idx → EReal) (G : S1x2048.Idx → EReal) (M : S8x1x12288.Idx → EReal) : S9216x2048.Idx → EReal :=
  fun i => elt X G M (i 0).val (i 1).val

variable (m : (ℓ : Loc nD τ sig) → Buf (Elt Ideal) ℓ) (ρ : Dev nD → PrngReg)

/-- What the body leaves in the output's buffer, at one element. -/
theorem out_apply (x : Vec Ideal S512x2048 .f32) (g : Vec Ideal S1x2048 .f32) (shift scale : Vec Ideal S1x1x2048 .f32) (w : Vec Ideal S2048x128 .f32)
    (b : Vec Ideal S1x128 .f32) (r : Fin 512) (n : Fin 2048) : out0_6 (F := Ideal) x g shift scale w b (ix2 r n)
      = nrm (fun k => x (ix2 r k)) (x (ix2 r n)) (g (ix2 0 n)) (scale (ix3 0 0 n)) (shift (ix3 0 0 n)) := by
  unfold out0_6
  rw [View.canon_unit_zero hz]
  simp only [View.ld_unit_zero (S := S512x2048) hz, View.ld_unit_zero (S := S1x2048) hz, View.ld_unit_zero (S := S1x1x2048) hz3]
  unfold_payloads
  pointwise
  simp only [nrm, one_eq]

/-- The block indices at every grid point. -/
theorem idx (t : Fin grid0.N) : (win0_0.index t 0 = t.val ∧ win0_0.index t 1 = 0) ∧ (win0_1.index t 0 = 0 ∧ win0_1.index t 1 = 0)
    ∧ (win0_2.index t 0 = t.val / 4 ∧ win0_2.index t 1 = 0 ∧ win0_2.index t 2 = 3)
    ∧ (win0_3.index t 0 = t.val / 4 ∧ win0_3.index t 1 = 0 ∧ win0_3.index t 2 = 4) ∧ win0_6.index t 0 = t.val ∧ win0_6.index t 1 = 0 :=
  (by decide +kernel : ∀ t : Fin grid0.N, (win0_0.index t 0 = t.val ∧ win0_0.index t 1 = 0) ∧ (win0_1.index t 0 = 0 ∧ win0_1.index t 1 = 0)
    ∧ (win0_2.index t 0 = t.val / 4 ∧ win0_2.index t 1 = 0 ∧ win0_2.index t 2 = 3)
    ∧ (win0_3.index t 0 = t.val / 4 ∧ win0_3.index t 1 = 0 ∧ win0_3.index t 2 = 4) ∧ win0_6.index t 0 = t.val ∧ win0_6.index t 1 = 0) t

abbrev argX (c : Dev nD) : S9216x2048.Idx → EReal := m ((c : Thread nD τ).loc main_arg0)
abbrev argG (c : Dev nD) : S1x2048.Idx → EReal := m ((c : Thread nD τ).loc main_arg1)
abbrev argM (c : Dev nD) : S8x1x12288.Idx → EReal := m ((c : Thread nD τ).loc main_arg2)

theorem x_apply (c : Dev nD) (t : Fin cfg0.N) (r : Fin 512) (k : Fin 2048) : (iblk m c 0 t : Vec Ideal S512x2048 .f32) (ix2 r k) = rd (argX m c) (t.val * 512 + r.val) k.val := by
  unfold iblk
  rw [View.read_apply]
  show V m c main_arg0 _ = _
  rw [V_main_arg0]
  have h := idx t
  refine eq_rd_of _ _ ?_ ?_
  · show win0_0.index t 0 * 512 + 1 * r.val = _; omega
  · show win0_0.index t 1 * 2048 + 1 * k.val = _; omega

theorem g_apply (c : Dev nD) (t : Fin cfg0.N) (n : Fin 2048) : (iblk m c 1 t : Vec Ideal S1x2048 .f32) (ix2 0 n) = rd (argG m c) 0 n.val := by
  unfold iblk
  rw [View.read_apply]
  show V m c main_arg1 _ = _
  rw [V_main_arg1]
  have h := idx t
  refine eq_rd_of _ _ ?_ ?_
  · show win0_1.index t 0 * 1 + 1 * 0 = _; omega
  · show win0_1.index t 1 * 2048 + 1 * n.val = _; omega

theorem shift_apply (c : Dev nD) (t : Fin cfg0.N) (n : Fin 2048) : (iblk m c 2 t : Vec Ideal S1x1x2048 .f32) (ix3 0 0 n) = rd3 (argM m c) (t.val / 4) 0 (6144 + n.val) := by
  unfold iblk
  rw [View.read_apply]
  show V m c main_arg2 _ = _
  rw [V_main_arg2]
  have h := idx t
  refine eq_rd3_of _ _ ?_ ?_ ?_
  · show win0_2.index t 0 * 1 + 1 * 0 = _; omega
  · show win0_2.index t 1 * 1 + 1 * 0 = _; omega
  · show win0_2.index t 2 * 2048 + 1 * n.val = _; omega

theorem scale_apply (c : Dev nD) (t : Fin cfg0.N) (n : Fin 2048) : (iblk m c 3 t : Vec Ideal S1x1x2048 .f32) (ix3 0 0 n) = rd3 (argM m c) (t.val / 4) 0 (8192 + n.val) := by
  unfold iblk
  rw [View.read_apply]
  show V m c main_arg2 _ = _
  rw [V_main_arg2]
  have h := idx t
  refine eq_rd3_of _ _ ?_ ?_ ?_
  · show win0_3.index t 0 * 1 + 1 * 0 = _; omega
  · show win0_3.index t 1 * 1 + 1 * 0 = _; omega
  · show win0_3.index t 2 * 2048 + 1 * n.val = _; omega

/-- A grid point's element is `result` at the element's place. -/
theorem outs_result (c : Dev nD) (t : Fin cfg0.N) (y : S512x2048.Idx) :
    out0_6 (F := Ideal) (iblk m c 0 t) (iblk m c 1 t) (iblk m c 2 t) (iblk m c 3 t) (iblk m c 4 t) (iblk m c 5 t) y = result (argX m c) (argG m c) (argM m c) (((cfg0.win 6).blk t).view.emb y) := by
  have h0 : (y 0).val < 512 := (y 0).isLt
  have h1 : (y 1).val < 2048 := (y 1).isLt
  have e : y = ix2 ⟨(y 0).val, h0⟩ ⟨(y 1).val, h1⟩ := funext fun a => match a with | ⟨0, _⟩ => rfl | ⟨1, _⟩ => rfl
  have h := idx t
  have e0 : (((cfg0.win 6).blk t).view.emb y 0).val = t.val * 512 + (y 0).val := by
    show win0_6.index t 0 * 512 + 1 * (y 0).val = _; omega
  have e1 : (((cfg0.win 6).blk t).view.emb y 1).val = (y 1).val := by show win0_6.index t 1 * 2048 + 1 * (y 1).val = _; omega
  unfold result elt
  rw [e0, e1, show (t.val * 512 + (y 0).val) / 2048 = t.val / 4 by omega]
  exact (congrArg (out0_6 (F := Ideal) (iblk m c 0 t) (iblk m c 1 t) (iblk m c 2 t) (iblk m c 3 t) (iblk m c 4 t) (iblk m c 5 t)) e).trans ((out_apply _ _ _ _ _ _ _ _).trans
    (nrm_congr (x_apply m c t ⟨_, h0⟩) (x_apply m c t ⟨_, h0⟩ ⟨_, h1⟩) (g_apply m c t ⟨_, h1⟩) (scale_apply m c t ⟨_, h1⟩) (shift_apply m c t ⟨_, h1⟩)))

/-- An index is in a grid point's output block when its row is. -/
theorem mem_blk (t : Fin cfg0.N) (i : S9216x2048.Idx) (h0 : t.val * 512 ≤ (i 0).val) (h1 : (i 0).val < t.val * 512 + 512) :
    i ∈ ((cfg0.win 6).blk t).view.set := by
  show i ∈ ((View.whole main_v0_0).slice (win0_6.rect t)).set
  rw [View.set_slice_whole, Rect.mem_set_unit]
  have h := idx t
  have hi : (i 1).val < 2048 := (i 1).isLt
  intro a
  match a with
  | ⟨0, _⟩ => show win0_6.index t 0 * 512 ≤ (i 0).val ∧ (i 0).val < win0_6.index t 0 * 512 + 512; omega
  | ⟨1, _⟩ => show win0_6.index t 1 * 2048 ≤ (i 1).val ∧ (i 1).val < win0_6.index t 1 * 2048 + 2048; omega

/-- The output array after the run. -/
theorem final (c : Dev nD) : (dats m 0 c).arrAt 6 cfg0.N = result (argX m c) (argG m c) (argM m c) := by
  funext i
  have hN : cfg0.N = 18 := N_0
  have h0 : (i 0).val < 9216 := (i 0).isLt
  have ht : (i 0).val / 512 < cfg0.N := by omega
  exact (dats m 0 c).arrAt_apply_of_mem 6 (result (argX m c) (argG m c) (argM m c)) (fun t _ => (Value.flushed6 m c t).trans (funext fun y => outs_result m c t y)) cfg0.N ⟨_, ht⟩ i ht
    (flush0_6 _) (mem_blk _ i (by dsimp only; omega) (by dsimp only; omega))

end Kernel

section Reference

open Cert.Reference15Ideal Cert.Reference15Ideal.Gen Cert.Reference15Ideal.Read

variable (x0 : (⟨S9216x2048, .f32⟩ : BufTy).Contents (Elt Ideal)) (x1 : (⟨S1x2048, .f32⟩ : BufTy).Contents (Elt Ideal))
  (x2 : (⟨S8x1x12288, .f32⟩ : BufTy).Contents (Elt Ideal))

/-- The latents by batch. -/
theorem lat_x (i : S4x2048x2048.Idx) {r n : Nat} (hr : (i 0).val * 2048 + (i 1).val = r) (hn : (i 2).val = n) :
    val_main_v3 (F := Ideal) x0 i = rd x0 r n := by
  have h1 : (i 1).val < 2048 := (i 1).isLt
  have h2 : (i 2).val < 2048 := (i 2).isLt
  refine (val_main_v3_apply x0 _).trans ((val_main_v2_apply x0 _).trans (eq_rd_of x0 _ ?_ ?_))
  · show (((i 0).val * 2048 + (i 1).val) * 2048 + (i 2).val) / 2048 = r
    omega
  · show (((i 0).val * 2048 + (i 1).val) * 2048 + (i 2).val) % 2048 = n
    omega

/-- The reference's norm of the latents, by batch. -/
theorem lat_at (i : S4x2048x2048.Idx) {r n : Nat} (hr : (i 0).val * 2048 + (i 1).val = r) (hn : (i 2).val = n) :
    val_main_v24 (F := Ideal) x0 x1 x2 i = elt x0 x1 x2 r n := by
  have h1 : (i 1).val < 2048 := (i 1).isLt
  have hs : ∀ j : S4x2048.Idx, (j 0).val * 2048 + (j 1).val = r → val_main_v5 (F := Ideal) x0 j = ∑ k : Fin 2048, rd x0 r k.val * rd x0 r k.val := fun j hj => by
    refine (val_main_v5_apply x0 j).trans ?_
    refine (congrArg₂ (· + ·) (Ideal.ofBits_zero .f32) (Finset.sum_congr rfl fun k _ => ?_)).trans (zero_add _)
    exact (val_main_v4_apply x0 _).trans (congrArg₂ (fun p q : EReal => p * q) (lat_x x0 _ hj rfl) (lat_x x0 _ hj rfl))
  unfold elt nrm
  refine (val_main_v24_apply x0 x1 x2 i).trans (congrArg₂ (fun p q : EReal => p + q) ((val_main_v21_apply x0 x1 x2 i).trans
    (congrArg₂ (fun p q : EReal => p * q) ((val_main_v16_apply x0 x1 i).trans (congrArg₂ (fun p q : EReal => p * q)
      ((val_main_v13_apply x0 i).trans (congrArg₂ (fun p q : EReal => p * q) (lat_x x0 i hr hn) ?_)) ?_)) ?_)) ?_)
  · refine (val_main_v12_apply x0 i).trans ((val_main_v11_apply x0 _).trans (congrArg Ideal.rsqrt ?_))
    refine (val_main_v10_apply x0 _).trans (congrArg₂ (fun p q : EReal => p + q) ?_ (val_main_v9_apply _))
    refine (val_main_v8_apply x0 _).trans (congrArg₂ Ideal.div ?_ (val_main_v7_apply _))
    exact (val_main_v6_apply x0 _).trans (hs _ hr)
  · exact (val_main_v15_apply x1 i).trans ((val_main_v14_apply x1 _).trans (eq_rd_of x1 _ rfl hn))
  · refine (val_main_v20_apply x2 i).trans ((val_main_v19_apply x2 _).trans (congrArg₂ (fun p q : EReal => p + q) (val_main_v18_apply _) ?_))
    refine (val_main_v17_apply x2 _).trans ((val_main_v1_apply x2 _).trans (eq_rd3_of x2 _ ?_ rfl ?_))
    · show (i 0).val = r / 2048
      omega
    · show 8192 + (i 2).val = 8192 + n
      omega
  · refine (val_main_v23_apply x2 i).trans ((val_main_v22_apply x2 _).trans ((val_main_v0_apply x2 _).trans (eq_rd3_of x2 _ ?_ rfl (congrArg (6144 + ·) hn))))
    show (i 0).val = r / 2048
    omega

/-- The context's rows. -/
theorem ctx_x (i : S1024x2048.Idx) : val_main_v25 (F := Ideal) x0 i = rd x0 (8192 + (i 0).val) (i 1).val :=
  (val_main_v25_apply x0 _).trans (eq_rd_of x0 _ rfl rfl)

/-- The reference's norm of the context. -/
theorem ctx_at (i : S1024x2048.Idx) : val_main_v47 (F := Ideal) x0 x1 x2 i = elt x0 x1 x2 (8192 + (i 0).val) (i 1).val := by
  have h0 : (i 0).val < 1024 := (i 0).isLt
  have h1 : (i 1).val < 2048 := (i 1).isLt
  have hs : ∀ j : S1024.Idx, val_main_v27 (F := Ideal) x0 j = ∑ k : Fin 2048, rd x0 (8192 + (j 0).val) k.val * rd x0 (8192 + (j 0).val) k.val := fun j => by
    refine (val_main_v27_apply x0 j).trans ?_
    refine (congrArg₂ (· + ·) (Ideal.ofBits_zero .f32) (Finset.sum_congr rfl fun k _ => ?_)).trans (zero_add _)
    exact (val_main_v26_apply x0 _).trans (congrArg₂ (fun p q : EReal => p * q) (ctx_x x0 _) (ctx_x x0 _))
  unfold elt nrm
  refine (val_main_v47_apply x0 x1 x2 i).trans (congrArg₂ (fun p q : EReal => p + q) ((val_main_v43_apply x0 x1 x2 i).trans
    (congrArg₂ (fun p q : EReal => p * q) ((val_main_v37_apply x0 x1 i).trans (congrArg₂ (fun p q : EReal => p * q)
      ((val_main_v35_apply x0 i).trans (congrArg₂ (fun p q : EReal => p * q) (ctx_x x0 i) ?_)) ?_)) ?_)) ?_)
  · refine (val_main_v34_apply x0 i).trans ((val_main_v33_apply x0 _).trans (congrArg Ideal.rsqrt ?_))
    refine (val_main_v32_apply x0 _).trans (congrArg₂ (fun p q : EReal => p + q) ?_ (val_main_v31_apply _))
    refine (val_main_v30_apply x0 _).trans (congrArg₂ Ideal.div ?_ (val_main_v29_apply _))
    exact (val_main_v28_apply x0 _).trans (hs _)
  · exact (val_main_v36_apply x1 i).trans (eq_rd_of x1 _ rfl rfl)
  · refine (val_main_v42_apply x2 i).trans ((val_main_v41_apply x2 _).trans (congrArg₂ (fun p q : EReal => p + q) (val_main_v40_apply _) ?_))
    refine (val_main_v39_apply x2 _).trans ((val_main_v38_apply x2 _).trans ((val_main_v1_apply x2 _).trans (eq_rd3_of x2 _ ?_ rfl ?_)))
    · show 4 + 0 = (8192 + (i 0).val) / 2048
      omega
    · show 8192 + (0 * 2048 + (i 1).val) % 2048 = 8192 + (i 1).val
      omega
  · refine (val_main_v46_apply x2 i).trans ((val_main_v45_apply x2 _).trans ((val_main_v44_apply x2 _).trans ((val_main_v0_apply x2 _).trans (eq_rd3_of x2 _ ?_ rfl ?_))))
    · show 4 + 0 = (8192 + (i 0).val) / 2048
      omega
    · show 6144 + (0 * 2048 + (i 1).val) % 2048 = 6144 + (i 1).val
      omega

/-- The reference's result is the kernel's. -/
theorem result_eq : val_main_v49 (F := Ideal) x0 x1 x2 = result x0 x1 x2 := funext fun i => by
  have h0 : (i 0).val < 9216 := (i 0).isLt
  have h1 : (i 1).val < 2048 := (i 1).isLt
  unfold val_main_v49 result
  by_cases hr : (i 0).val < 8192
  · refine (concatenate_pair_apply_left (t := S9216x2048) (s₁ := S8192x2048) (s₂ := S1024x2048) 0 _ _ _ i rfl
      (fun a => match a with | ⟨0, _⟩ => ⟨(i 0).val, hr⟩ | ⟨1, _⟩ => i 1)
      (fun b => match b with | ⟨0, _⟩ => rfl | ⟨1, _⟩ => rfl)).trans ?_
    refine (val_main_v48_apply x0 x1 x2 _).trans (lat_at x0 x1 x2 _ ?_ ?_)
    · show ((i 0).val * 2048 + (i 1).val) / 4194304 * 2048 + ((i 0).val * 2048 + (i 1).val) / 2048 % 2048 = (i 0).val
      omega
    · show ((i 0).val * 2048 + (i 1).val) % 2048 = (i 1).val
      omega
  · refine (concatenate_pair_apply_right (t := S9216x2048) (s₁ := S8192x2048) (s₂ := S1024x2048) 0 _ _ _ i rfl rfl
      (fun a => match a with | ⟨0, _⟩ => ⟨(i 0).val - 8192, by show _ < 1024; omega⟩ | ⟨1, _⟩ => i 1)
      (fun b hb => match b with | ⟨0, _⟩ => absurd rfl hb | ⟨1, _⟩ => rfl)
      (by show (i 0).val - 8192 + 8192 = (i 0).val; omega)).trans ?_
    refine (ctx_at x0 x1 x2 _).trans (congrArg (fun r : Nat => elt x0 x1 x2 r (i 1).val) ?_)
    show 8192 + ((i 0).val - 8192) = (i 0).val
    omega

end Reference

/-! ## The claims -/

theorem frame_kernel : Cert.quiescent_Kernel15 (hKernel15 := Cert.Kernel15.Gen.facts) := fun m ρ _ => Cert.Kernel15.Gen.frame m ρ

theorem frame_ideal : Cert.quiescent_Kernel15Ideal (hKernel15Ideal := Cert.Kernel15Ideal.Gen.facts) :=
  fun m ρ _ => Cert.Kernel15Ideal.Gen.frame m ρ

theorem frame_reference : Cert.quiescent_Reference15Ideal (hReference15Ideal := Cert.Reference15Ideal.Gen.facts) := fun m ρ _ =>
  (θ_run Cert.Reference15Ideal.defs _ _).mono (fun _ h => ⟨fun c => (h c).2, funext fun s => nomatch s⟩)
    (Cert.Reference15Ideal.Value.run m ρ)

/-- From equal arguments kernel and reference end with equal results. -/
theorem algebraic : Cert.algebraic_Kernel15Ideal_Reference15Ideal
    (hKernel15Ideal := Cert.Kernel15Ideal.Gen.facts) (hReference15Ideal := Cert.Reference15Ideal.Gen.facts) := fun m ρ m' ρ' _ hag =>
  ⟨fun c => result (m ((c.tc : Thread _ _).loc Cert.Kernel15Ideal.main_arg0)) (m ((c.tc : Thread _ _).loc Cert.Kernel15Ideal.main_arg1)) (m ((c.tc : Thread _ _).loc Cert.Kernel15Ideal.main_arg2)),
    (θ_run Cert.Kernel15Ideal.defs _ _).mono (fun _ h c => ⟨(h c).1.trans (final m c), (h c).2.2.2⟩) (Cert.Kernel15Ideal.Value.run_blocks m ρ),
    (θ_run Cert.Reference15Ideal.defs _ _).mono (fun _ h c => by
      refine ⟨?_, (h c).2⟩
      rw [(h c).1, Cert.Reference15Ideal.Read.val_main_v49_eq, (hag c).1, (hag c).2.1, (hag c).2.2.1]
      exact result_eq _ _ _)
      (Cert.Reference15Ideal.Value.run m' ρ')⟩

end Cert.Proj15

end
-- ==== Proof.Proj16.lean ====
/- The rows of the second layer's experts, normed with their shift and scale: kernel and reference equal. -/
module

public import proofs.«01_k».proof.Defs
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Proj15
public import Idealize.ShloMosaic.Lib.Pointwise

@[expose] public section

set_option maxRecDepth 16384

noncomputable section

namespace Cert.Proj16

open Idealize.ShloMosaic Idealize.ShloMosaic.TcCoe Idealize.SL.Sem
open Cert.Grid2
open Cert.Moe (rd3 eq_rd3_of)
open Cert.Proj10 (hz hz3 one_eq nrm nrm_congr)

section Kernel

open Cert.Kernel16Ideal Cert.Kernel16Ideal.Gen

/-- The result array. -/
def result (X : S8192x2048.Idx → EReal) (G : S1x2048.Idx → EReal) (M : S8x1x12288.Idx → EReal) : S8192x2048.Idx → EReal :=
  fun i => Proj15.elt X G M (i 0).val (i 1).val

variable (m : (ℓ : Loc nD τ sig) → Buf (Elt Ideal) ℓ) (ρ : Dev nD → PrngReg)

/-- What the body leaves in the output's buffer, at one element. -/
theorem out_apply (x : Vec Ideal S512x2048 .f32) (g : Vec Ideal S1x2048 .f32) (shift scale : Vec Ideal S1x1x2048 .f32) (w : Vec Ideal S2048x128 .f32)
    (b : Vec Ideal S1x128 .f32) (r : Fin 512) (n : Fin 2048) : out0_6 (F := Ideal) x g shift scale w b (ix2 r n)
      = nrm (fun k => x (ix2 r k)) (x (ix2 r n)) (g (ix2 0 n)) (scale (ix3 0 0 n)) (shift (ix3 0 0 n)) := by
  unfold out0_6
  rw [View.canon_unit_zero hz]
  simp only [View.ld_unit_zero (S := S512x2048) hz, View.ld_unit_zero (S := S1x2048) hz, View.ld_unit_zero (S := S1x1x2048) hz3]
  unfold_payloads
  pointwise
  simp only [nrm, one_eq]

/-- The block indices at every grid point. -/
theorem idx (t : Fin grid0.N) : (win0_0.index t 0 = t.val ∧ win0_0.index t 1 = 0) ∧ (win0_1.index t 0 = 0 ∧ win0_1.index t 1 = 0)
    ∧ (win0_2.index t 0 = t.val / 4 ∧ win0_2.index t 1 = 0 ∧ win0_2.index t 2 = 3)
    ∧ (win0_3.index t 0 = t.val / 4 ∧ win0_3.index t 1 = 0 ∧ win0_3.index t 2 = 4) ∧ win0_6.index t 0 = t.val ∧ win0_6.index t 1 = 0 :=
  (by decide +kernel : ∀ t : Fin grid0.N, (win0_0.index t 0 = t.val ∧ win0_0.index t 1 = 0) ∧ (win0_1.index t 0 = 0 ∧ win0_1.index t 1 = 0)
    ∧ (win0_2.index t 0 = t.val / 4 ∧ win0_2.index t 1 = 0 ∧ win0_2.index t 2 = 3)
    ∧ (win0_3.index t 0 = t.val / 4 ∧ win0_3.index t 1 = 0 ∧ win0_3.index t 2 = 4) ∧ win0_6.index t 0 = t.val ∧ win0_6.index t 1 = 0) t

abbrev argX (c : Dev nD) : S8192x2048.Idx → EReal := m ((c : Thread nD τ).loc main_arg0)
abbrev argG (c : Dev nD) : S1x2048.Idx → EReal := m ((c : Thread nD τ).loc main_arg1)
abbrev argM (c : Dev nD) : S8x1x12288.Idx → EReal := m ((c : Thread nD τ).loc main_arg2)

theorem x_apply (c : Dev nD) (t : Fin cfg0.N) (r : Fin 512) (k : Fin 2048) : (iblk m c 0 t : Vec Ideal S512x2048 .f32) (ix2 r k) = rd (argX m c) (t.val * 512 + r.val) k.val := by
  unfold iblk
  rw [View.read_apply]
  show V m c main_arg0 _ = _
  rw [V_main_arg0]
  have h := idx t
  refine eq_rd_of _ _ ?_ ?_
  · show win0_0.index t 0 * 512 + 1 * r.val = _; omega
  · show win0_0.index t 1 * 2048 + 1 * k.val = _; omega

theorem g_apply (c : Dev nD) (t : Fin cfg0.N) (n : Fin 2048) : (iblk m c 1 t : Vec Ideal S1x2048 .f32) (ix2 0 n) = rd (argG m c) 0 n.val := by
  unfold iblk
  rw [View.read_apply]
  show V m c main_arg1 _ = _
  rw [V_main_arg1]
  have h := idx t
  refine eq_rd_of _ _ ?_ ?_
  · show win0_1.index t 0 * 1 + 1 * 0 = _; omega
  · show win0_1.index t 1 * 2048 + 1 * n.val = _; omega

theorem shift_apply (c : Dev nD) (t : Fin cfg0.N) (n : Fin 2048) : (iblk m c 2 t : Vec Ideal S1x1x2048 .f32) (ix3 0 0 n) = rd3 (argM m c) (t.val / 4) 0 (6144 + n.val) := by
  unfold iblk
  rw [View.read_apply]
  show V m c main_arg2 _ = _
  rw [V_main_arg2]
  have h := idx t
  refine eq_rd3_of _ _ ?_ ?_ ?_
  · show win0_2.index t 0 * 1 + 1 * 0 = _; omega
  · show win0_2.index t 1 * 1 + 1 * 0 = _; omega
  · show win0_2.index t 2 * 2048 + 1 * n.val = _; omega

theorem scale_apply (c : Dev nD) (t : Fin cfg0.N) (n : Fin 2048) : (iblk m c 3 t : Vec Ideal S1x1x2048 .f32) (ix3 0 0 n) = rd3 (argM m c) (t.val / 4) 0 (8192 + n.val) := by
  unfold iblk
  rw [View.read_apply]
  show V m c main_arg2 _ = _
  rw [V_main_arg2]
  have h := idx t
  refine eq_rd3_of _ _ ?_ ?_ ?_
  · show win0_3.index t 0 * 1 + 1 * 0 = _; omega
  · show win0_3.index t 1 * 1 + 1 * 0 = _; omega
  · show win0_3.index t 2 * 2048 + 1 * n.val = _; omega

/-- A grid point's element is `result` at the element's place. -/
theorem outs_result (c : Dev nD) (t : Fin cfg0.N) (y : S512x2048.Idx) :
    out0_6 (F := Ideal) (iblk m c 0 t) (iblk m c 1 t) (iblk m c 2 t) (iblk m c 3 t) (iblk m c 4 t) (iblk m c 5 t) y = result (argX m c) (argG m c) (argM m c) (((cfg0.win 6).blk t).view.emb y) := by
  have h0 : (y 0).val < 512 := (y 0).isLt
  have h1 : (y 1).val < 2048 := (y 1).isLt
  have e : y = ix2 ⟨(y 0).val, h0⟩ ⟨(y 1).val, h1⟩ := funext fun a => match a with | ⟨0, _⟩ => rfl | ⟨1, _⟩ => rfl
  have h := idx t
  have e0 : (((cfg0.win 6).blk t).view.emb y 0).val = t.val * 512 + (y 0).val := by
    show win0_6.index t 0 * 512 + 1 * (y 0).val = _; omega
  have e1 : (((cfg0.win 6).blk t).view.emb y 1).val = (y 1).val := by show win0_6.index t 1 * 2048 + 1 * (y 1).val = _; omega
  unfold result Proj15.elt
  rw [e0, e1, show (t.val * 512 + (y 0).val) / 2048 = t.val / 4 by omega]
  exact (congrArg (out0_6 (F := Ideal) (iblk m c 0 t) (iblk m c 1 t) (iblk m c 2 t) (iblk m c 3 t) (iblk m c 4 t) (iblk m c 5 t)) e).trans ((out_apply _ _ _ _ _ _ _ _).trans
    (nrm_congr (x_apply m c t ⟨_, h0⟩) (x_apply m c t ⟨_, h0⟩ ⟨_, h1⟩) (g_apply m c t ⟨_, h1⟩) (scale_apply m c t ⟨_, h1⟩) (shift_apply m c t ⟨_, h1⟩)))

/-- An index is in a grid point's output block when its row is. -/
theorem mem_blk (t : Fin cfg0.N) (i : S8192x2048.Idx) (h0 : t.val * 512 ≤ (i 0).val) (h1 : (i 0).val < t.val * 512 + 512) :
    i ∈ ((cfg0.win 6).blk t).view.set := by
  show i ∈ ((View.whole main_v0_0).slice (win0_6.rect t)).set
  rw [View.set_slice_whole, Rect.mem_set_unit]
  have h := idx t
  have hi : (i 1).val < 2048 := (i 1).isLt
  intro a
  match a with
  | ⟨0, _⟩ => show win0_6.index t 0 * 512 ≤ (i 0).val ∧ (i 0).val < win0_6.index t 0 * 512 + 512; omega
  | ⟨1, _⟩ => show win0_6.index t 1 * 2048 ≤ (i 1).val ∧ (i 1).val < win0_6.index t 1 * 2048 + 2048; omega

/-- The output array after the run. -/
theorem final (c : Dev nD) : (dats m 0 c).arrAt 6 cfg0.N = result (argX m c) (argG m c) (argM m c) := by
  funext i
  have hN : cfg0.N = 16 := N_0
  have h0 : (i 0).val < 8192 := (i 0).isLt
  have ht : (i 0).val / 512 < cfg0.N := by omega
  exact (dats m 0 c).arrAt_apply_of_mem 6 (result (argX m c) (argG m c) (argM m c)) (fun t _ => (Value.flushed6 m c t).trans (funext fun y => outs_result m c t y)) cfg0.N ⟨_, ht⟩ i ht
    (flush0_6 _) (mem_blk _ i (by dsimp only; omega) (by dsimp only; omega))

end Kernel

section Reference

open Cert.Reference16Ideal Cert.Reference16Ideal.Gen Cert.Reference16Ideal.Read

variable (x0 : (⟨S8192x2048, .f32⟩ : BufTy).Contents (Elt Ideal)) (x1 : (⟨S1x2048, .f32⟩ : BufTy).Contents (Elt Ideal))
  (x2 : (⟨S8x1x12288, .f32⟩ : BufTy).Contents (Elt Ideal))

/-- The rows by batch. -/
theorem lat_x (i : S4x2048x2048.Idx) {r n : Nat} (hr : (i 0).val * 2048 + (i 1).val = r) (hn : (i 2).val = n) :
    val_main_v2 (F := Ideal) x0 i = rd x0 r n := by
  have h1 : (i 1).val < 2048 := (i 1).isLt
  have h2 : (i 2).val < 2048 := (i 2).isLt
  refine (val_main_v2_apply x0 _).trans (eq_rd_of x0 _ ?_ ?_)
  · show (((i 0).val * 2048 + (i 1).val) * 2048 + (i 2).val) / 2048 = r
    omega
  · show (((i 0).val * 2048 + (i 1).val) * 2048 + (i 2).val) % 2048 = n
    omega

/-- The reference's norm, by batch. -/
theorem lat_at (i : S4x2048x2048.Idx) {r n : Nat} (hr : (i 0).val * 2048 + (i 1).val = r) (hn : (i 2).val = n) :
    val_main_v21 (F := Ideal) x0 x1 x2 i = Proj15.elt x0 x1 x2 r n := by
  have h1 : (i 1).val < 2048 := (i 1).isLt
  have hb : (i 0).val = r / 2048 := by omega
  have hs : ∀ j : S4x2048.Idx, (j 0).val * 2048 + (j 1).val = r → val_main_v4 (F := Ideal) x0 j = ∑ k : Fin 2048, rd x0 r k.val * rd x0 r k.val := fun j hj => by
    refine (val_main_v4_apply x0 j).trans ?_
    refine (congrArg₂ (· + ·) (Ideal.ofBits_zero .f32) (Finset.sum_congr rfl fun k _ => ?_)).trans (zero_add _)
    exact (val_main_v3_apply x0 _).trans (congrArg₂ (fun p q : EReal => p * q) (lat_x x0 _ hj rfl) (lat_x x0 _ hj rfl))
  unfold Proj15.elt nrm
  refine (val_main_v21_apply x0 x1 x2 i).trans (congrArg₂ (fun p q : EReal => p + q) ((val_main_v19_apply x0 x1 x2 i).trans
    (congrArg₂ (fun p q : EReal => p * q) ((val_main_v15_apply x0 x1 i).trans (congrArg₂ (fun p q : EReal => p * q)
      ((val_main_v12_apply x0 i).trans (congrArg₂ (fun p q : EReal => p * q) (lat_x x0 i hr hn) ?_)) ?_)) ?_)) ?_)
  · refine (val_main_v11_apply x0 i).trans ((val_main_v10_apply x0 _).trans (congrArg Ideal.rsqrt ?_))
    refine (val_main_v9_apply x0 _).trans (congrArg₂ (fun p q : EReal => p + q) ?_ (val_main_v8_apply _))
    refine (val_main_v7_apply x0 _).trans (congrArg₂ Ideal.div ?_ (val_main_v6_apply _))
    exact (val_main_v5_apply x0 _).trans (hs _ hr)
  · exact (val_main_v14_apply x1 i).trans ((val_main_v13_apply x1 _).trans (eq_rd_of x1 _ rfl hn))
  · refine (val_main_v18_apply x2 i).trans ((val_main_v17_apply x2 _).trans (congrArg₂ (fun p q : EReal => p + q) (val_main_v16_apply _) ?_))
    exact (val_main_v1_apply x2 _).trans (eq_rd3_of x2 _ hb rfl (congrArg (8192 + ·) hn))
  · exact (val_main_v20_apply x2 i).trans ((val_main_v0_apply x2 _).trans (eq_rd3_of x2 _ hb rfl (congrArg (6144 + ·) hn)))

/-- The reference's result is the kernel's. -/
theorem result_eq : val_main_v22 (F := Ideal) x0 x1 x2 = result x0 x1 x2 := funext fun i => by
  have h1 : (i 1).val < 2048 := (i 1).isLt
  refine (val_main_v22_apply x0 x1 x2 _).trans (lat_at x0 x1 x2 _ ?_ ?_)
  · show ((i 0).val * 2048 + (i 1).val) / 4194304 * 2048 + ((i 0).val * 2048 + (i 1).val) / 2048 % 2048 = (i 0).val
    omega
  · show ((i 0).val * 2048 + (i 1).val) % 2048 = (i 1).val
    omega

end Reference

/-! ## The claims -/

theorem frame_kernel : Cert.quiescent_Kernel16 (hKernel16 := Cert.Kernel16.Gen.facts) := fun m ρ _ => Cert.Kernel16.Gen.frame m ρ

theorem frame_ideal : Cert.quiescent_Kernel16Ideal (hKernel16Ideal := Cert.Kernel16Ideal.Gen.facts) :=
  fun m ρ _ => Cert.Kernel16Ideal.Gen.frame m ρ

theorem frame_reference : Cert.quiescent_Reference16Ideal (hReference16Ideal := Cert.Reference16Ideal.Gen.facts) := fun m ρ _ =>
  (θ_run Cert.Reference16Ideal.defs _ _).mono (fun _ h => ⟨fun c => (h c).2, funext fun s => nomatch s⟩)
    (Cert.Reference16Ideal.Value.run m ρ)

/-- From equal arguments kernel and reference end with equal results. -/
theorem algebraic : Cert.algebraic_Kernel16Ideal_Reference16Ideal
    (hKernel16Ideal := Cert.Kernel16Ideal.Gen.facts) (hReference16Ideal := Cert.Reference16Ideal.Gen.facts) := fun m ρ m' ρ' _ hag =>
  ⟨fun c => result (m ((c.tc : Thread _ _).loc Cert.Kernel16Ideal.main_arg0)) (m ((c.tc : Thread _ _).loc Cert.Kernel16Ideal.main_arg1)) (m ((c.tc : Thread _ _).loc Cert.Kernel16Ideal.main_arg2)),
    (θ_run Cert.Kernel16Ideal.defs _ _).mono (fun _ h c => ⟨(h c).1.trans (final m c), (h c).2.2.2⟩) (Cert.Kernel16Ideal.Value.run_blocks m ρ),
    (θ_run Cert.Reference16Ideal.defs _ _).mono (fun _ h c => by
      refine ⟨?_, (h c).2⟩
      rw [(h c).1, Cert.Reference16Ideal.Read.val_main_v22_eq, (hag c).1, (hag c).2.1, (hag c).2.2.1]
      exact result_eq _ _ _)
      (Cert.Reference16Ideal.Value.run m' ρ')⟩

end Cert.Proj16

end
-- ==== Proof.GqaBlock.lean ====
/-
  The grouped-query attention kernel: what one grid point computes, and the array the whole grid leaves, at the ideal
  instance. Grid point `t` stands for batch `b`, head `h` and query tile `u` with `t = (b * 8 + h) * 4 + u`; it writes
  the 512 rows from `(b * 4 + u) * 512` of the 128 columns from `(8 + h) * 128`.
-/
module

public import proofs.«01_k».proof.Proof.Gen.KernelIdeal.Value
public import proofs.«01_k».proof.Proof.Softmax
public import proofs.«01_k».proof.Proof.Grid2

@[expose] public section

set_option maxRecDepth 16384

noncomputable section

namespace Cert.Gqa

open Cert.KernelIdeal Cert.KernelIdeal.Gen Idealize.ShloMosaic Idealize.ShloMosaic.TcCoe Idealize.SL.Sem
open Cert.Softmax Cert.Grid2

/-- The scale of the scores: the f32 nearest to `128 ^ (-1/2)`. -/
abbrev scale : EReal := Ideal.ofBits .f32 0x3DB504F3#32

/-- One element of the attention output, read off the fused array of queries, keys and values: query row `row` of head
    `h`, value column `d`; batch `row / 2048`, key/value head `h / 4`; context keys first, then the latents'. -/
def att (X : S9216x4608.Idx → EReal) (row h d : Nat) : EReal :=
  parts
    (fun n : Fin 256 => (∑ e : Fin 128, rd X row ((24 + h) * 128 + e.val)
      * rd X ((32 + row / 2048) * 256 + n.val) ((32 + h / 4) * 128 + e.val)) * scale)
    (fun n : Fin 256 => rd X ((32 + row / 2048) * 256 + n.val) ((34 + h / 4) * 128 + d))
    (fun n : Fin 2048 => (∑ e : Fin 128, rd X row ((24 + h) * 128 + e.val)
      * rd X (row / 2048 * 2048 + n.val) ((32 + h / 4) * 128 + e.val)) * scale)
    (fun n : Fin 2048 => rd X (row / 2048 * 2048 + n.val) ((34 + h / 4) * 128 + d))

theorem hz : (![0, 0] : Fin 2 → Nat) = fun _ => 0 := funext fun a => by fin_cases a <;> rfl

/-- The body's arithmetic at one element. -/
theorem pay1_apply (q : Vec Ideal S512x128 .bf16) (k1 v1 : Vec Ideal S256x128 .bf16) (k2 v2 : Vec Ideal S2048x128 .bf16)
    (r : Fin 512) (d : Fin 128) :
    k0_pay1 (F := Ideal) q k1 k2 v1 v2 (ix2 r d)
      = parts (fun n => (∑ e : Fin 128, q (ix2 r e) * k1 (ix2 n e)) * scale) (fun n => v1 (ix2 n d))
          (fun n => (∑ e : Fin 128, q (ix2 r e) * k2 (ix2 n e)) * scale) (fun n => v2 (ix2 n d)) := by
  unfold_payloads
  pointwise
  rfl

variable (m : (ℓ : Loc nD τ sig) → Buf (Elt Ideal) ℓ) (ρ : Dev nD → PrngReg)

/-- What the body leaves in the output's buffer is its arithmetic of the five blocks. -/
theorem out_A (c : Dev nD) (i : grid0.Coords) (a3 : Memref sig .tc .vmem S512x128 .bf16) (h3 : a3.IsWhole)
    (a4 : Memref sig .tc .vmem S256x128 .bf16) (h4 : a4.IsWhole) (a5 : Memref sig .tc .vmem S256x128 .bf16) (h5 : a5.IsWhole)
    (a6 : Memref sig .tc .vmem S2048x128 .bf16) (h6 : a6.IsWhole) (a7 : Memref sig .tc .vmem S2048x128 .bf16) (h7 : a7.IsWhole)
    (a9 : Memref sig .tc .vmem S512x128 .bf16) (h9 : a9.IsWhole)
    (x0 : Vec Ideal S512x128 .bf16) (x1 x2 : Vec Ideal S256x128 .bf16) (x3 x4 : Vec Ideal S2048x128 .bf16) :
    out0_A_5 (F := Ideal) c i a3 h3 a4 h4 a5 h5 a6 h6 a7 h7 a9 h9 x0 x1 x2 x3 x4 = k0_pay1 x0 x1 x3 x2 x4 := by
  unfold out0_A_5
  rw [View.read_writes_eq_canon _ _ _ (cover0_A_5 c i a3 h3 a4 h4 a5 h5 a6 h6 a7 h7 a9 h9 x0 x1 x2 x3 x4)]
  unfold kernelRun0_A
  dsimp only
  sl_unfold_words
  rw [View.canon_unit_zero hz]
  simp only [View.readAt_eq_ld, h3.read_unread, h4.read_unread, h5.read_unread, h6.read_unread, h7.read_unread,
    View.ld_unit_zero (S := S512x128) hz, View.ld_unit_zero (S := S256x128) hz, View.ld_unit_zero (S := S2048x128) hz]

/-- Every window's block index at every grid point. -/
theorem idx (t : Fin grid0.N) :
    (win0_0.index t 0 = t.val / 32 * 4 + t.val % 4 ∧ win0_0.index t 1 = 24 + t.val / 4 % 8)
    ∧ (win0_1.index t 0 = 32 + t.val / 32 ∧ win0_1.index t 1 = 32 + t.val / 4 % 8 / 4)
    ∧ (win0_2.index t 0 = 32 + t.val / 32 ∧ win0_2.index t 1 = 34 + t.val / 4 % 8 / 4)
    ∧ (win0_3.index t 0 = t.val / 32 ∧ win0_3.index t 1 = 32 + t.val / 4 % 8 / 4)
    ∧ (win0_4.index t 0 = t.val / 32 ∧ win0_4.index t 1 = 34 + t.val / 4 % 8 / 4)
    ∧ (win0_5.index t 0 = t.val / 32 * 4 + t.val % 4 ∧ win0_5.index t 1 = 8 + t.val / 4 % 8) :=
  (by decide +kernel : ∀ t : Fin grid0.N,
    (win0_0.index t 0 = t.val / 32 * 4 + t.val % 4 ∧ win0_0.index t 1 = 24 + t.val / 4 % 8)
    ∧ (win0_1.index t 0 = 32 + t.val / 32 ∧ win0_1.index t 1 = 32 + t.val / 4 % 8 / 4)
    ∧ (win0_2.index t 0 = 32 + t.val / 32 ∧ win0_2.index t 1 = 34 + t.val / 4 % 8 / 4)
    ∧ (win0_3.index t 0 = t.val / 32 ∧ win0_3.index t 1 = 32 + t.val / 4 % 8 / 4)
    ∧ (win0_4.index t 0 = t.val / 32 ∧ win0_4.index t 1 = 34 + t.val / 4 % 8 / 4)
    ∧ (win0_5.index t 0 = t.val / 32 * 4 + t.val % 4 ∧ win0_5.index t 1 = 8 + t.val / 4 % 8)) t

/-- The fused array as launched. -/
abbrev qkv (c : Dev nD) : S9216x4608.Idx → EReal := m ((c : Thread nD τ).loc main_arg0)

/-- An element of the query block. -/
theorem q_apply (c : Dev nD) (t : Fin cfg0.N) (r : Fin 512) (e : Fin 128) :
    (iblk m c 0 t : Vec Ideal S512x128 .bf16) (ix2 r e)
      = rd (qkv m c) ((t.val / 32 * 4 + t.val % 4) * 512 + r.val) ((24 + t.val / 4 % 8) * 128 + e.val) := by
  unfold iblk
  rw [View.read_apply]
  show V m c main_arg0 _ = _
  rw [V_main_arg0]
  refine eq_rd_of _ _ ?_ ?_
  · show win0_0.index t 0 * 512 + 1 * r.val = _; rw [(idx t).1.1]; omega
  · show win0_0.index t 1 * 128 + 1 * e.val = _; rw [(idx t).1.2]; omega

/-- An element of the context key block, -/
theorem kc_apply (c : Dev nD) (t : Fin cfg0.N) (n : Fin 256) (e : Fin 128) :
    (iblk m c 1 t : Vec Ideal S256x128 .bf16) (ix2 n e)
      = rd (qkv m c) ((32 + t.val / 32) * 256 + n.val) ((32 + t.val / 4 % 8 / 4) * 128 + e.val) := by
  unfold iblk
  rw [View.read_apply]
  show V m c main_arg0 _ = _
  rw [V_main_arg0]
  refine eq_rd_of _ _ ?_ ?_
  · show win0_1.index t 0 * 256 + 1 * n.val = _; rw [(idx t).2.1.1]; omega
  · show win0_1.index t 1 * 128 + 1 * e.val = _; rw [(idx t).2.1.2]; omega

/-- of the context value block, -/
theorem vc_apply (c : Dev nD) (t : Fin cfg0.N) (n : Fin 256) (e : Fin 128) :
    (iblk m c 2 t : Vec Ideal S256x128 .bf16) (ix2 n e)
      = rd (qkv m c) ((32 + t.val / 32) * 256 + n.val) ((34 + t.val / 4 % 8 / 4) * 128 + e.val) := by
  unfold iblk
  rw [View.read_apply]
  show V m c main_arg0 _ = _
  rw [V_main_arg0]
  refine eq_rd_of _ _ ?_ ?_
  · show win0_2.index t 0 * 256 + 1 * n.val = _; rw [(idx t).2.2.1.1]; omega
  · show win0_2.index t 1 * 128 + 1 * e.val = _; rw [(idx t).2.2.1.2]; omega

/-- of the latent key block, -/
theorem k_apply (c : Dev nD) (t : Fin cfg0.N) (n : Fin 2048) (e : Fin 128) :
    (X0_3 m c t : Vec Ideal S2048x128 .bf16) (ix2 n e)
      = rd (qkv m c) (t.val / 32 * 2048 + n.val) ((32 + t.val / 4 % 8 / 4) * 128 + e.val) := by
  unfold X0_3 Pipeline.Window.fill
  rw [dif_pos (moved0_3 t _)]
  unfold iblk
  rw [View.read_apply]
  show V m c main_arg0 _ = _
  rw [V_main_arg0]
  refine eq_rd_of _ _ ?_ ?_
  · show win0_3.index t 0 * 2048 + 1 * n.val = _; rw [(idx t).2.2.2.1.1]; omega
  · show win0_3.index t 1 * 128 + 1 * e.val = _; rw [(idx t).2.2.2.1.2]; omega

/-- and of the latent value block. -/
theorem v_apply (c : Dev nD) (t : Fin cfg0.N) (n : Fin 2048) (e : Fin 128) :
    (X0_4 m c t : Vec Ideal S2048x128 .bf16) (ix2 n e)
      = rd (qkv m c) (t.val / 32 * 2048 + n.val) ((34 + t.val / 4 % 8 / 4) * 128 + e.val) := by
  unfold X0_4 Pipeline.Window.fill
  rw [dif_pos (moved0_4 t _)]
  unfold iblk
  rw [View.read_apply]
  show V m c main_arg0 _ = _
  rw [V_main_arg0]
  refine eq_rd_of _ _ ?_ ?_
  · show win0_4.index t 0 * 2048 + 1 * n.val = _; rw [(idx t).2.2.2.2.1.1]; omega
  · show win0_4.index t 1 * 128 + 1 * e.val = _; rw [(idx t).2.2.2.2.1.2]; omega

/-- What a grid point leaves, at one element: that element of the attention. -/
theorem outs_apply (c : Dev nD) (t : Fin cfg0.N) (r : Fin 512) (d : Fin 128) :
    outsAt0 (F := Ideal) m c t (ix2 r d)
      = att (qkv m c) ((t.val / 32 * 4 + t.val % 4) * 512 + r.val) (t.val / 4 % 8) d.val := by
  unfold outsAt0
  rw [out_A, pay1_apply]
  have hb : ((t.val / 32 * 4 + t.val % 4) * 512 + r.val) / 2048 = t.val / 32 := by have := r.isLt; omega
  simp only [q_apply, kc_apply, vc_apply, k_apply, v_apply, att, hb]

/-- The array the kernel is shown to leave: the attention in the rows below 8192 of the columns from 1024, the given
    buffer elsewhere. -/
def result (X : S9216x4608.Idx → EReal) (O : S9216x2048.Idx → EReal) : S9216x2048.Idx → EReal := fun i =>
  if (i 0).val < 8192 ∧ 1024 ≤ (i 1).val then att X (i 0).val (((i 1).val - 1024) / 128) (((i 1).val - 1024) % 128) else O i

/-- `result` at an attention element. -/
theorem result_att (X : S9216x4608.Idx → EReal) (O : S9216x2048.Idx → EReal) (i : S9216x2048.Idx) {r h d : Nat} (h0 : (i 0).val = r) (h1 : (i 1).val = (8 + h) * 128 + d) (hr : r < 8192) (hd : d < 128)  : result X O i = att X r h d := by
  unfold result
  rw [if_pos (by rw [h0, h1]; omega), h0, h1, show ((8 + h) * 128 + d - 1024) / 128 = h by omega,
    show ((8 + h) * 128 + d - 1024) % 128 = d by omega]

/-- Where an element of a grid point's output block lies in the array. -/
theorem emb_val (t : Fin cfg0.N) (y : S512x128.Idx) :
    (((cfg0.win 5).blk t).view.emb y 0).val = (t.val / 32 * 4 + t.val % 4) * 512 + (y 0).val
    ∧ (((cfg0.win 5).blk t).view.emb y 1).val = (8 + t.val / 4 % 8) * 128 + (y 1).val := by
  obtain ⟨-, -, -, -, -, e0, e1⟩ := idx t
  constructor
  · show win0_5.index t 0 * 512 + 1 * (y 0).val = _
    rw [e0]; omega
  · show win0_5.index t 1 * 128 + 1 * (y 1).val = _
    rw [e1]; omega

/-- A grid point's element is `result` at the element's place. -/
theorem outs_result (c : Dev nD) (t : Fin cfg0.N) (y : S512x128.Idx) (O : S9216x2048.Idx → EReal) :
    outsAt0 (F := Ideal) m c t y = result (qkv m c) O (((cfg0.win 5).blk t).view.emb y) := by
  have hN : t.val < 128 := lt_of_lt_of_eq t.isLt N_0
  have h0 : (y 0).val < 512 := (y 0).isLt
  have h1 : (y 1).val < 128 := (y 1).isLt
  have hr : (t.val / 32 * 4 + t.val % 4) * 512 + (y 0).val < 8192 := by omega
  have e : y = ix2 ⟨(y 0).val, h0⟩ ⟨(y 1).val, h1⟩ := funext fun a => match a with | ⟨0, _⟩ => rfl | ⟨1, _⟩ => rfl
  have e1 : outsAt0 (F := Ideal) m c t y = outsAt0 (F := Ideal) m c t (ix2 ⟨(y 0).val, h0⟩ ⟨(y 1).val, h1⟩) :=
    congrArg (outsAt0 (F := Ideal) m c t) e
  have e2 := outs_apply m c t ⟨(y 0).val, h0⟩ ⟨(y 1).val, h1⟩
  have e3 := result_att (qkv m c) O (((cfg0.win 5).blk t).view.emb y) (emb_val t y).1 (emb_val t y).2 hr h1
  exact e1.trans (e2.trans e3.symm)

/-- A grid point writes back its block of `result`. -/
theorem flushed_eq (c : Dev nD) (t : Fin cfg0.N) :
    (dats m 0 c).flushed 5 t
      = ((cfg0.win 5).blk t).view.read (Elt Ideal) (result (qkv m c) (m ((c : Thread nD τ).loc main_arg1))) :=
  (Value.flushed5 m c t).trans (funext fun y => outs_result m c t y _)

/-- An index is in a grid point's output block when its coordinates are. -/
theorem mem_blk (t : Fin cfg0.N) (i : S9216x2048.Idx) :
    i ∈ ((cfg0.win 5).blk t).view.set ↔
      ((t.val / 32 * 4 + t.val % 4) * 512 ≤ (i 0).val ∧ (i 0).val < (t.val / 32 * 4 + t.val % 4) * 512 + 512)
      ∧ ((8 + t.val / 4 % 8) * 128 ≤ (i 1).val ∧ (i 1).val < (8 + t.val / 4 % 8) * 128 + 128) := by
  show i ∈ ((View.whole main_v0).slice (win0_5.rect t)).set ↔ _
  rw [View.set_slice_whole, Rect.mem_set_unit]
  obtain ⟨-, -, -, -, -, e0, e1⟩ := idx t
  rw [← e0, ← e1]
  refine ⟨fun h => ⟨h 0, h 1⟩, fun h a => ?_⟩
  match a with
  | ⟨0, _⟩ => exact h.1
  | ⟨1, _⟩ => exact h.2

/-- The buffer the output is written over, as the grid finds it: the second argument. -/
theorem entry (c : Dev nD) : V m c (Pipeline.arrRef spec0 5) = m ((c : Thread nD τ).loc main_arg1) := by
  show StableHlo.after hostOps0 (fun b => m (c, b)) main_v0 = _
  rfl

/-- The output array after the run. -/
theorem final (c : Dev nD) : (dats m 0 c).arrAt 5 cfg0.N = result (qkv m c) (m ((c : Thread nD τ).loc main_arg1)) := by
  funext i
  have hN : cfg0.N = 128 := N_0
  have h0 : (i 0).val < 9216 := (i 0).isLt
  have h1 : (i 1).val < 2048 := (i 1).isLt
  by_cases h : (i 0).val < 8192 ∧ 1024 ≤ (i 1).val
  · have ht : ((i 0).val / 2048 * 8 + ((i 1).val - 1024) / 128) * 4 + (i 0).val / 512 % 4 < cfg0.N := by omega
    refine (dats m 0 c).arrAt_apply_of_mem 5 _ (fun t _ => flushed_eq m c t) cfg0.N ⟨_, ht⟩ i ht (flush0_5 _) ?_
    rw [mem_blk]
    dsimp only
    omega
  · rw [Value.entry5 m c i, entry]
    · unfold result; rw [if_neg h]
    · intro t _ hm
      rw [mem_blk] at hm
      have := t.isLt
      omega

/-- The run, read: the output array at `result` of the arguments, the arguments unchanged. -/
theorem run : θ_run defs (onTc (τ := τ) (main (F := Ideal))) ⟨m, fun _ => 0, ρ⟩ fun r => ∀ c : Dev nD,
      r.2.mem ((c : Thread nD τ).loc main_v0) = result (qkv m c) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Gqa

end
-- ==== Proof.GqaReference.lean ====
/-
  The attention's reference: each of its arrays read at one element as an element of the fused array of queries, keys and
  values, and its result, which is the kernel's where every query and key is finite.
-/
module

public import proofs.«01_k».proof.Proof.Gen.ReferenceIdeal.Run
public import proofs.«01_k».proof.Proof.Gen.ReferenceIdeal.Read
public import proofs.«01_k».proof.Proof.GqaBlock

@[expose] public section

set_option maxRecDepth 16384

noncomputable section

namespace Cert.GqaReference

open Cert.ReferenceIdeal Cert.ReferenceIdeal.Gen Cert.ReferenceIdeal.Read Idealize.ShloMosaic Idealize.ShloMosaic.TcCoe
open Cert.Softmax Cert.Grid2

variable (X : S9216x4608.Idx → EReal)

/-- The latents' rows, by batch. -/
theorem lat_apply (i : S4x2048x4608.Idx) :
    val_main_v2 (F := Ideal) X i = rd X ((i 0).val * 2048 + (i 1).val) (i 2).val := by
  have h0 : (i 0).val < 4 := (i 0).isLt
  have h1 : (i 1).val < 2048 := (i 1).isLt
  have h2 : (i 2).val < 4608 := (i 2).isLt
  rw [val_main_v2_apply, val_main_v1_apply, val_main_v0_apply]
  refine eq_rd_of X _ ?_ ?_
  · show (((i 0).val * 2048 + (i 1).val) * 4608 + (i 2).val) / 4608 = _
    omega
  · show (((i 0).val * 2048 + (i 1).val) * 4608 + (i 2).val) % 4608 = _
    omega

/-- The context's rows, by batch. -/
theorem ctx_apply (i : S4x256x4608.Idx) :
    val_main_v4 (F := Ideal) X i = rd X ((32 + (i 0).val) * 256 + (i 1).val) (i 2).val := by
  have h0 : (i 0).val < 4 := (i 0).isLt
  have h1 : (i 1).val < 256 := (i 1).isLt
  have h2 : (i 2).val < 4608 := (i 2).isLt
  rw [val_main_v4_apply, val_main_v3_apply, val_main_v0_apply]
  refine eq_rd_of X _ ?_ ?_
  · show 8192 + (((i 0).val * 256 + (i 1).val) * 4608 + (i 2).val) / 4608 = _
    omega
  · show (((i 0).val * 256 + (i 1).val) * 4608 + (i 2).val) % 4608 = _
    omega

/-- The queries, by batch and head. -/
theorem q_apply (i : S4x8x2048x128.Idx) :
    val_main_v7 (F := Ideal) X i = rd X ((i 0).val * 2048 + (i 2).val) ((24 + (i 1).val) * 128 + (i 3).val) := by
  have h0 : (i 0).val < 4 := (i 0).isLt
  have h1 : (i 1).val < 8 := (i 1).isLt
  have h2 : (i 2).val < 2048 := (i 2).isLt
  have h3 : (i 3).val < 128 := (i 3).isLt
  rw [val_main_v7_apply, val_main_v6_apply, val_main_v5_apply, lat_apply]
  refine congrArg₂ (rd X) ?_ ?_
  · show ((((i 0).val * 2048 + (i 2).val) * 8 + (i 1).val) * 128 + (i 3).val) / 2097152 * 2048
      + ((((i 0).val * 2048 + (i 2).val) * 8 + (i 1).val) * 128 + (i 3).val) / 1024 % 2048 = _
    omega
  · show 3072 + ((((i 0).val * 2048 + (i 2).val) * 8 + (i 1).val) * 128 + (i 3).val) % 1024 = _
    omega

/-- The latents' keys, by batch and head. -/
theorem k_apply (i : S4x2x2048x128.Idx) :
    val_main_v10 (F := Ideal) X i = rd X ((i 0).val * 2048 + (i 2).val) ((32 + (i 1).val) * 128 + (i 3).val) := by
  have h0 : (i 0).val < 4 := (i 0).isLt
  have h1 : (i 1).val < 2 := (i 1).isLt
  have h2 : (i 2).val < 2048 := (i 2).isLt
  have h3 : (i 3).val < 128 := (i 3).isLt
  rw [val_main_v10_apply, val_main_v9_apply, val_main_v8_apply, lat_apply]
  refine congrArg₂ (rd X) ?_ ?_
  · show ((((i 0).val * 2048 + (i 2).val) * 2 + (i 1).val) * 128 + (i 3).val) / 524288 * 2048
      + ((((i 0).val * 2048 + (i 2).val) * 2 + (i 1).val) * 128 + (i 3).val) / 256 % 2048 = _
    omega
  · show 4096 + ((((i 0).val * 2048 + (i 2).val) * 2 + (i 1).val) * 128 + (i 3).val) % 256 = _
    omega

/-- The latents' values, by batch and head. -/
theorem v_apply (i : S4x2x2048x128.Idx) :
    val_main_v13 (F := Ideal) X i = rd X ((i 0).val * 2048 + (i 2).val) ((34 + (i 1).val) * 128 + (i 3).val) := by
  have h0 : (i 0).val < 4 := (i 0).isLt
  have h1 : (i 1).val < 2 := (i 1).isLt
  have h2 : (i 2).val < 2048 := (i 2).isLt
  have h3 : (i 3).val < 128 := (i 3).isLt
  rw [val_main_v13_apply, val_main_v12_apply, val_main_v11_apply, lat_apply]
  refine congrArg₂ (rd X) ?_ ?_
  · show ((((i 0).val * 2048 + (i 2).val) * 2 + (i 1).val) * 128 + (i 3).val) / 524288 * 2048
      + ((((i 0).val * 2048 + (i 2).val) * 2 + (i 1).val) * 128 + (i 3).val) / 256 % 2048 = _
    omega
  · show 4352 + ((((i 0).val * 2048 + (i 2).val) * 2 + (i 1).val) * 128 + (i 3).val) % 256 = _
    omega

/-- The context's keys, by batch and head. -/
theorem kc_apply (i : S4x2x256x128.Idx) :
    val_main_v16 (F := Ideal) X i = rd X ((32 + (i 0).val) * 256 + (i 2).val) ((32 + (i 1).val) * 128 + (i 3).val) := by
  have h0 : (i 0).val < 4 := (i 0).isLt
  have h1 : (i 1).val < 2 := (i 1).isLt
  have h2 : (i 2).val < 256 := (i 2).isLt
  have h3 : (i 3).val < 128 := (i 3).isLt
  rw [val_main_v16_apply, val_main_v15_apply, val_main_v14_apply, ctx_apply]
  refine congrArg₂ (rd X) ?_ ?_
  · show (32 + ((((i 0).val * 256 + (i 2).val) * 2 + (i 1).val) * 128 + (i 3).val) / 65536) * 256
      + ((((i 0).val * 256 + (i 2).val) * 2 + (i 1).val) * 128 + (i 3).val) / 256 % 256 = _
    omega
  · show 4096 + ((((i 0).val * 256 + (i 2).val) * 2 + (i 1).val) * 128 + (i 3).val) % 256 = _
    omega

/-- The context's values, by batch and head. -/
theorem vc_apply (i : S4x2x256x128.Idx) :
    val_main_v19 (F := Ideal) X i = rd X ((32 + (i 0).val) * 256 + (i 2).val) ((34 + (i 1).val) * 128 + (i 3).val) := by
  have h0 : (i 0).val < 4 := (i 0).isLt
  have h1 : (i 1).val < 2 := (i 1).isLt
  have h2 : (i 2).val < 256 := (i 2).isLt
  have h3 : (i 3).val < 128 := (i 3).isLt
  rw [val_main_v19_apply, val_main_v18_apply, val_main_v17_apply, ctx_apply]
  refine congrArg₂ (rd X) ?_ ?_
  · show (32 + ((((i 0).val * 256 + (i 2).val) * 2 + (i 1).val) * 128 + (i 3).val) / 65536) * 256
      + ((((i 0).val * 256 + (i 2).val) * 2 + (i 1).val) * 128 + (i 3).val) / 256 % 256 = _
    omega
  · show 4352 + ((((i 0).val * 256 + (i 2).val) * 2 + (i 1).val) * 128 + (i 3).val) % 256 = _
    omega

/-- The row of a key: the context's first, then the latents'. -/
def keyRow (b n : Nat) : Nat := if n < 256 then (32 + b) * 256 + n else b * 2048 + (n - 256)

/-- The keys, context first. -/
theorem keys_apply (i : S4x2x2304x128.Idx) :
    val_main_v20 (F := Ideal) X i = rd X (keyRow (i 0).val (i 2).val) ((32 + (i 1).val) * 128 + (i 3).val) := by
  have h2 : (i 2).val < 2304 := (i 2).isLt
  unfold val_main_v20 keyRow
  by_cases h : (i 2).val < 256
  · rw [if_pos h]
    refine (concatenate_pair_apply_left (t := S4x2x2304x128) (s₁ := S4x2x256x128) (s₂ := S4x2x2048x128) 2 _ _ _ i rfl
      (fun a => match a with | ⟨0, _⟩ => i 0 | ⟨1, _⟩ => i 1 | ⟨2, _⟩ => ⟨(i 2).val, h⟩ | ⟨3, _⟩ => i 3)
      (fun b => match b with | ⟨0, _⟩ => rfl | ⟨1, _⟩ => rfl | ⟨2, _⟩ => rfl | ⟨3, _⟩ => rfl)).trans ?_
    rw [kc_apply]
  · rw [if_neg h]
    refine (concatenate_pair_apply_right (t := S4x2x2304x128) (s₁ := S4x2x256x128) (s₂ := S4x2x2048x128) 2 _ _ _ i rfl rfl
      (fun a => match a with | ⟨0, _⟩ => i 0 | ⟨1, _⟩ => i 1 | ⟨2, _⟩ => ⟨(i 2).val - 256, by show _ < 2048; omega⟩ | ⟨3, _⟩ => i 3)
      (fun b hb => match b with | ⟨0, _⟩ => rfl | ⟨1, _⟩ => rfl | ⟨2, _⟩ => absurd rfl hb | ⟨3, _⟩ => rfl)
      (by show (i 2).val - 256 + 256 = (i 2).val; omega)).trans ?_
    rw [k_apply]

/-- The values, context first. -/
theorem values_apply (i : S4x2x2304x128.Idx) :
    val_main_v21 (F := Ideal) X i = rd X (keyRow (i 0).val (i 2).val) ((34 + (i 1).val) * 128 + (i 3).val) := by
  have h2 : (i 2).val < 2304 := (i 2).isLt
  unfold val_main_v21 keyRow
  by_cases h : (i 2).val < 256
  · rw [if_pos h]
    refine (concatenate_pair_apply_left (t := S4x2x2304x128) (s₁ := S4x2x256x128) (s₂ := S4x2x2048x128) 2 _ _ _ i rfl
      (fun a => match a with | ⟨0, _⟩ => i 0 | ⟨1, _⟩ => i 1 | ⟨2, _⟩ => ⟨(i 2).val, h⟩ | ⟨3, _⟩ => i 3)
      (fun b => match b with | ⟨0, _⟩ => rfl | ⟨1, _⟩ => rfl | ⟨2, _⟩ => rfl | ⟨3, _⟩ => rfl)).trans ?_
    rw [vc_apply]
  · rw [if_neg h]
    refine (concatenate_pair_apply_right (t := S4x2x2304x128) (s₁ := S4x2x256x128) (s₂ := S4x2x2048x128) 2 _ _ _ i rfl rfl
      (fun a => match a with | ⟨0, _⟩ => i 0 | ⟨1, _⟩ => i 1 | ⟨2, _⟩ => ⟨(i 2).val - 256, by show _ < 2048; omega⟩ | ⟨3, _⟩ => i 3)
      (fun b hb => match b with | ⟨0, _⟩ => rfl | ⟨1, _⟩ => rfl | ⟨2, _⟩ => absurd rfl hb | ⟨3, _⟩ => rfl)
      (by show (i 2).val - 256 + 256 = (i 2).val; omega)).trans ?_
    rw [v_apply]

/-- The queries grouped by their key/value head. -/
theorem qg_apply (i : S4x2x4x2048x128.Idx) :
    val_main_v22 (F := Ideal) X i
      = rd X ((i 0).val * 2048 + (i 3).val) ((24 + ((i 1).val * 4 + (i 2).val)) * 128 + (i 4).val) := by
  have h0 : (i 0).val < 4 := (i 0).isLt
  have h1 : (i 1).val < 2 := (i 1).isLt
  have h2 : (i 2).val < 4 := (i 2).isLt
  have h3 : (i 3).val < 2048 := (i 3).isLt
  have h4 : (i 4).val < 128 := (i 4).isLt
  rw [val_main_v22_apply, q_apply]
  refine congrArg₂ (rd X) ?_ ?_
  · show (((((i 0).val * 2 + (i 1).val) * 4 + (i 2).val) * 2048 + (i 3).val) * 128 + (i 4).val) / 2097152 * 2048
      + (((((i 0).val * 2 + (i 1).val) * 4 + (i 2).val) * 2048 + (i 3).val) * 128 + (i 4).val) / 128 % 2048 = _
    omega
  · show (24 + (((((i 0).val * 2 + (i 1).val) * 4 + (i 2).val) * 2048 + (i 3).val) * 128 + (i 4).val) / 262144 % 8) * 128
      + (((((i 0).val * 2 + (i 1).val) * 4 + (i 2).val) * 2048 + (i 3).val) * 128 + (i 4).val) % 128 = _
    omega

/-- The score of query row `row`, head `h`, against key `n`. -/
def score (row h : Nat) (n : Fin 2304) : EReal :=
  (∑ e : Fin 128, rd X row ((24 + h) * 128 + e.val)
    * rd X (keyRow (row / 2048) n.val) ((32 + h / 4) * 128 + e.val)) * Cert.Gqa.scale

/-- The value of key `n`, at column `d` of head `h`. -/
def value (row h d : Nat) (n : Fin 2304) : EReal := rd X (keyRow (row / 2048) n.val) ((34 + h / 4) * 128 + d)

theorem scores_apply (i : S4x2x4x2048x2304.Idx) :
    val_main_v25 (F := Ideal) X i = score X ((i 0).val * 2048 + (i 3).val) ((i 1).val * 4 + (i 2).val) (i 4) := by
  have h0 : (i 0).val < 4 := (i 0).isLt
  have h1 : (i 1).val < 2 := (i 1).isLt
  have h2 : (i 2).val < 4 := (i 2).isLt
  have h3 : (i 3).val < 2048 := (i 3).isLt
  rw [val_main_v25_apply, val_main_v23_apply, val_main_v24_apply, val_main_cst_apply]
  unfold score
  refine congrArg (· * Cert.Gqa.scale) (Finset.sum_congr rfl fun e _ => ?_)
  rw [qg_apply, keys_apply, show ((i 0).val * 2048 + (i 3).val) / 2048 = (i 0).val by omega,
    show ((i 1).val * 4 + (i 2).val) / 4 = (i 1).val by omega]

theorem ofBits_negInf : Ideal.ofBits .f32 0xFF800000#32 = ⊥ := by simp [Ideal.ofBits, Ideal.ieee]

theorem max_apply (i : S4x2x4x2048.Idx) :
    val_main_v28 (F := Ideal) X i = top (score X ((i 0).val * 2048 + (i 3).val) ((i 1).val * 4 + (i 2).val)) := by
  have e : val_main_v26 (F := Ideal) X i = top (score X ((i 0).val * 2048 + (i 3).val) ((i 1).val * 4 + (i 2).val)) := by
    unfold val_main_v26
    refine (Host.reduce_eq_fold_single (s := S4x2x4x2048x2304) (t := S4x2x4x2048) (a := 4)
      (FloatOps.maximumf (F := Ideal) (φ := .f32)) _ _ _ (by decide) _ i).trans ?_
    unfold top
    refine congrArg₂ (fun b f => (Finset.univ : Finset (Fin 2304)).fold max b f) ?_ (funext fun k => ?_)
    · exact ofBits_negInf
    · exact scores_apply X _
  rw [val_main_v28_apply, e]
  exact max_eq_right (le_of_eq_of_le ofBits_negInf bot_le)

/-- The attention of query row `row` and head `h` at value column `d`. -/
def out (row h d : Nat) : EReal := whole (score X row h) (value X row h d)

theorem out_congr {r r' h h' d d' : Nat} (e : r = r') (e' : h = h') (e'' : d = d') : out X r h d = out X r' h' d' := by
  rw [e, e', e'']

theorem out_apply (i : S4x2x4x2048x128.Idx) :
    val_main_v37 (F := Ideal) X i
      = out X ((i 0).val * 2048 + (i 3).val) ((i 1).val * 4 + (i 2).val) (i 4).val := by
  have h0 : (i 0).val < 4 := (i 0).isLt
  have h1 : (i 1).val < 2 := (i 1).isLt
  have h2 : (i 2).val < 4 := (i 2).isLt
  have h3 : (i 3).val < 2048 := (i 3).isLt
  have ex : ∀ j : S4x2x4x2048x2304.Idx, val_main_v32 (F := Ideal) X j
      = Ideal.exp (score X ((j 0).val * 2048 + (j 3).val) ((j 1).val * 4 + (j 2).val) (j 4)
          - top (score X ((j 0).val * 2048 + (j 3).val) ((j 1).val * 4 + (j 2).val))) := fun j => by
    rw [val_main_v32_apply, val_main_v31_apply, scores_apply, val_main_v30_apply, val_main_v29_apply, max_apply]
    rfl
  rw [val_main_v37_apply]
  unfold out whole
  refine Finset.sum_congr rfl fun n _ => ?_
  rw [val_main_v36_apply, val_main_v35_apply, val_main_v34_apply, val_main_v33_apply, ex, values_apply]
  refine congrArg₂ (· * ·) (congrArg₂ Ideal.div rfl ?_) ?_
  · refine (congrArg₂ (· + ·) (Ideal.ofBits_zero .f32) (Finset.sum_congr rfl fun k _ => ex _)).trans (zero_add _)
  · unfold value
    rw [show ((i 0).val * 2048 + (i 3).val) / 2048 = (i 0).val by omega,
      show ((i 1).val * 4 + (i 2).val) / 4 = (i 1).val by omega]

/-- The attention's heads side by side. -/
theorem heads_apply (i : S4x8x2048x128.Idx) :
    val_main_v38 (F := Ideal) X i = out X ((i 0).val * 2048 + (i 2).val) (i 1).val (i 3).val := by
  have h0 : (i 0).val < 4 := (i 0).isLt
  have h1 : (i 1).val < 8 := (i 1).isLt
  have h2 : (i 2).val < 2048 := (i 2).isLt
  have h3 : (i 3).val < 128 := (i 3).isLt
  rw [val_main_v38_apply, out_apply]
  refine out_congr X ?_ ?_ ?_
  · show ((((i 0).val * 8 + (i 1).val) * 2048 + (i 2).val) * 128 + (i 3).val) / 2097152 * 2048
      + ((((i 0).val * 8 + (i 1).val) * 2048 + (i 2).val) * 128 + (i 3).val) / 128 % 2048 = _
    omega
  · show ((((i 0).val * 8 + (i 1).val) * 2048 + (i 2).val) * 128 + (i 3).val) / 1048576 % 2 * 4
      + ((((i 0).val * 8 + (i 1).val) * 2048 + (i 2).val) * 128 + (i 3).val) / 262144 % 4 = _
    omega
  · show ((((i 0).val * 8 + (i 1).val) * 2048 + (i 2).val) * 128 + (i 3).val) % 128 = _
    omega

/-- The attention by batch and row, a row's heads one after another. -/
theorem batches_apply (i : S4x2048x1024.Idx) :
    val_main_v40 (F := Ideal) X i = out X ((i 0).val * 2048 + (i 1).val) ((i 2).val / 128) ((i 2).val % 128) := by
  have h0 : (i 0).val < 4 := (i 0).isLt
  have h1 : (i 1).val < 2048 := (i 1).isLt
  have h2 : (i 2).val < 1024 := (i 2).isLt
  rw [val_main_v40_apply, val_main_v39_apply, heads_apply]
  refine out_congr X ?_ ?_ ?_
  · show (((i 0).val * 2048 + (i 1).val) * 1024 + (i 2).val) / 2097152 * 2048
      + (((i 0).val * 2048 + (i 1).val) * 1024 + (i 2).val) / 1024 % 2048 = _
    omega
  · show (((i 0).val * 2048 + (i 1).val) * 1024 + (i 2).val) / 128 % 8 = _
    omega
  · show (((i 0).val * 2048 + (i 1).val) * 1024 + (i 2).val) % 128 = _
    omega

/-- The attention by row. -/
theorem rows_apply (i : S8192x1024.Idx) :
    val_main_v42 (F := Ideal) X i = out X (i 0).val ((i 1).val / 128) ((i 1).val % 128) := by
  have h0 : (i 0).val < 8192 := (i 0).isLt
  have h1 : (i 1).val < 1024 := (i 1).isLt
  rw [val_main_v42_apply]
  show val_main_v41 (F := Ideal) X i = _
  rw [val_main_v41_apply, batches_apply]
  refine out_congr X ?_ ?_ ?_
  · show ((i 0).val * 1024 + (i 1).val) / 2097152 * 2048 + ((i 0).val * 1024 + (i 1).val) / 1024 % 2048 = _
    omega
  · show ((i 0).val * 1024 + (i 1).val) % 1024 / 128 = _
    omega
  · show ((i 0).val * 1024 + (i 1).val) % 1024 % 128 = _
    omega

/-- The scale is a real. -/
theorem scale_real : ∃ c : ℝ, Cert.Gqa.scale = c := ⟨_, by simp [Cert.Gqa.scale, Ideal.ofBits, Ideal.ieee]; rfl⟩

/-- Every query and key is a real: columns 3072 to 4351 of every row. -/
def Finite : Prop := ∀ r k : Nat, r < 9216 → 3072 ≤ k → k < 4352 → ∃ x : ℝ, rd X r k = x

/-- Where the queries and keys are finite, the attention is the kernel's. -/
theorem out_eq_att (hX : Finite X) (row h d : Nat) (hr : row < 8192) (hh : h < 8) : out X row h d = Cert.Gqa.att X row h d := by
  obtain ⟨c, hc⟩ := scale_real
  have hs : ∀ n : Fin 2304, ∃ x : ℝ, score X row h n = x := fun n => by
    unfold score
    rw [hc]
    refine score_real _ _ c (fun e => hX _ _ (by omega) (by omega) ?_) (fun e => hX _ _ ?_ (by omega) ?_)
    · have := e.isLt; omega
    · unfold keyRow; have := n.isLt; split <;> omega
    · have := e.isLt; omega
  refine (whole_eq_parts (a := 256) (b := 2048) (by decide) (score X row h) (value X row h d) hs).trans ?_
  have hk : ∀ n : Fin 256, keyRow (row / 2048) (Fin.castAdd 2048 n).val = (32 + row / 2048) * 256 + n.val := fun n => by
    show keyRow _ n.val = _
    unfold keyRow
    rw [if_pos n.isLt]
  have hl : ∀ n : Fin 2048, keyRow (row / 2048) (Fin.natAdd 256 n).val = row / 2048 * 2048 + n.val := fun n => by
    show keyRow _ (256 + n.val) = _
    unfold keyRow
    rw [if_neg (by omega)]
    omega
  unfold Cert.Gqa.att
  simp only [score, value, hk, hl]

/-- The reference's result is the kernel's. -/
theorem result_eq (O : S9216x2048.Idx → EReal) (hX : Finite X) :
    val_main_v46 (F := Ideal) X O = Cert.Gqa.result X O := by
  funext i
  have h0 : (i 0).val < 9216 := (i 0).isLt
  have h1 : (i 1).val < 2048 := (i 1).isLt
  unfold val_main_v46 Cert.Gqa.result
  by_cases hr : (i 0).val < 8192
  · refine (concatenate_pair_apply_left (t := S9216x2048) (s₁ := S8192x2048) (s₂ := S1024x2048) 0 _ _ _ i rfl
      (fun a => match a with | ⟨0, _⟩ => ⟨(i 0).val, hr⟩ | ⟨1, _⟩ => i 1)
      (fun b => match b with | ⟨0, _⟩ => rfl | ⟨1, _⟩ => rfl)).trans ?_
    unfold val_main_v44
    by_cases hc : (i 1).val < 1024
    · refine (concatenate_pair_apply_left (t := S8192x2048) (s₁ := S8192x1024) (s₂ := S8192x1024) 1 _ _ _ _ rfl
        (fun a => match a with | ⟨0, _⟩ => ⟨(i 0).val, hr⟩ | ⟨1, _⟩ => ⟨(i 1).val, hc⟩)
        (fun b => match b with | ⟨0, _⟩ => rfl | ⟨1, _⟩ => rfl)).trans ?_
      rw [val_main_v43_apply, if_neg (by omega)]
      exact congrArg O (funext fun a => match a with | ⟨0, _⟩ => rfl | ⟨1, _⟩ => rfl)
    · refine (concatenate_pair_apply_right (t := S8192x2048) (s₁ := S8192x1024) (s₂ := S8192x1024) 1 _ _ _ _ rfl rfl
        (fun a => match a with | ⟨0, _⟩ => ⟨(i 0).val, hr⟩ | ⟨1, _⟩ => ⟨(i 1).val - 1024, by show _ < 1024; omega⟩)
        (fun b hb => match b with | ⟨0, _⟩ => rfl | ⟨1, _⟩ => absurd rfl hb)
        (by show (i 1).val - 1024 + 1024 = (i 1).val; omega)).trans ?_
      rw [rows_apply, if_pos (by omega)]
      exact out_eq_att X hX _ _ _ hr (by show ((i 1).val - 1024) / 128 < 8; omega)
  · refine (concatenate_pair_apply_right (t := S9216x2048) (s₁ := S8192x2048) (s₂ := S1024x2048) 0 _ _ _ i rfl rfl
      (fun a => match a with | ⟨0, _⟩ => ⟨(i 0).val - 8192, by show _ < 1024; omega⟩ | ⟨1, _⟩ => i 1)
      (fun b hb => match b with | ⟨0, _⟩ => absurd rfl hb | ⟨1, _⟩ => rfl)
      (by show (i 0).val - 8192 + 8192 = (i 0).val; omega)).trans ?_
    rw [val_main_v45_apply, if_neg (by omega)]
    refine congrArg O (funext fun a => match a with | ⟨0, _⟩ => Fin.ext ?_ | ⟨1, _⟩ => rfl)
    show 8192 + ((i 0).val - 8192) = (i 0).val
    omega

end Cert.GqaReference

end
-- ==== Proof.GqaClaim.lean ====
/-
  The claims about the grouped-query attention: the frames of kernel and reference and, under the precondition that the
  queries and keys are finite, the equality of their results.
-/
module

public import proofs.«01_k».proof.Defs
public import proofs.«01_k».proof.Proof.Gen.Kernel.Frame
public import proofs.«01_k».proof.Proof.Gen.KernelIdeal.Frame
public import proofs.«01_k».proof.Proof.GqaReference

@[expose] public section

noncomputable section

namespace Cert.GqaClaim

open Idealize.ShloMosaic Idealize.ShloMosaic.TcCoe Idealize.SL.Sem Cert.Grid2

/-- The precondition's own side conditions. -/
instance pre_facts : Cert.Pre_queries_and_keys_finite.Facts where
  slices_S9216x4608_S9216x1280_0_3072 := by decide
  bitsLt_bf16_f32 := by decide
  bcast_S_S9216x1280 := by decide

/-- A float that is below plus infinity in absolute value is a real. -/
theorem real_of_abs_lt (x : EReal) (h : max x (-x) < ⊤) : ∃ r : ℝ, x = r := by
  induction x with
  | bot => simp at h
  | coe r => exact ⟨r, rfl⟩
  | top => simp at h

/-- What the precondition says of the fused array. -/
theorem finite_of_pre (X : Cert.ReferenceIdeal.S9216x4608.Idx → EReal) (O : Cert.ReferenceIdeal.S9216x2048.Idx → EReal)
    (h : Cert.Pre_queries_and_keys_finite.fn (F := Ideal) X O = fun _ => 1#1) :
    Cert.GqaReference.Finite X := by
  intro r k hr h0 h1
  let j : Cert.Pre_queries_and_keys_finite.S9216x1280.Idx := ix2 ⟨r, hr⟩ ⟨k - 3072, by omega⟩
  have e := congrFun h j
  have hs : extractStridedSlice Cert.Pre_queries_and_keys_finite.S9216x1280 ![0, 3072] X
      Cert.Pre_queries_and_keys_finite.Facts.slices_S9216x4608_S9216x1280_0_3072 j = rd X r k := by
    refine (extractStridedSlice_apply ![0, 3072] X _ j (ix2 ⟨r, hr⟩ ⟨k, by omega⟩) (fun a => match a with
      | ⟨0, _⟩ => by show r = 0 + r; omega
      | ⟨1, _⟩ => by show k = 3072 + (k - 3072); omega)).trans ?_
    exact (rd_of_lt X hr (by omega)).symm
  have e' : (BitVec.ofBool (decide (max (rd X r k) (-(rd X r k)) < Ideal.ofBits .f32 0x7F800000#32)) : BitVec 1) = 1#1 := by
    rw [← hs]; exact e
  have ht : Ideal.ofBits .f32 0x7F800000#32 = ⊤ := by simp [Ideal.ofBits, Ideal.ieee]
  rw [ht] at e'
  refine real_of_abs_lt _ ?_
  by_contra hn
  rw [decide_eq_false hn] at e'
  exact absurd e' (by decide)

/-- The kernel at the machine's floats runs and leaves its arguments unchanged. -/
theorem frame_kernel : Cert.quiescent_Kernel (hKernel := Cert.Kernel.Gen.facts) := fun m ρ _ => Cert.Kernel.Gen.frame m ρ

/-- The kernel at the ideal instance. -/
theorem frame_ideal : Cert.quiescent_KernelIdeal (hKernelIdeal := Cert.KernelIdeal.Gen.facts) :=
  fun m ρ _ => Cert.KernelIdeal.Gen.frame m ρ

/-- The reference. -/
theorem frame_reference : Cert.quiescent_ReferenceIdeal (hReferenceIdeal := Cert.ReferenceIdeal.Gen.facts) := fun m ρ _ =>
  (θ_run Cert.ReferenceIdeal.defs _ _).mono (fun _ h => ⟨fun c => (h c).2, funext fun s => nomatch s⟩)
    (Cert.ReferenceIdeal.Value.run m ρ)

/-- From equal arguments, with finite queries and keys, kernel and reference end with equal results. -/
theorem algebraic : Cert.algebraic_KernelIdeal_ReferenceIdeal_pre_queries_and_keys_finite
    (hKernelIdeal := Cert.KernelIdeal.Gen.facts) (hReferenceIdeal := Cert.ReferenceIdeal.Gen.facts)
    (hPre_queries_and_keys_finite := pre_facts) := fun m ρ m' ρ' hpre hag =>
  ⟨fun c => Cert.Gqa.result (m ((c.tc : Thread _ _).loc Cert.KernelIdeal.main_arg0))
      (m ((c.tc : Thread _ _).loc Cert.KernelIdeal.main_arg1)), Cert.Gqa.run m ρ,
    (θ_run Cert.ReferenceIdeal.defs _ _).mono (fun _ h c => by
      obtain ⟨hv, h0, h1⟩ := h c
      refine ⟨?_, h0, h1⟩
      have e := Cert.GqaReference.result_eq _ (m ((c.tc : Thread _ _).loc Cert.KernelIdeal.main_arg1))
        (finite_of_pre _ _ (hpre c))
      rw [hv, Cert.ReferenceIdeal.Read.val_main_v46_eq, (hag c).1, (hag c).2]
      exact e)
      (Cert.ReferenceIdeal.Value.run m' ρ')⟩

end Cert.GqaClaim

end
-- ==== Proof.MoeKit.lean ====
/- The experts' call: the host line before it, its tables, and the blocks its windows stage. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.TableIdle
public import Idealize.ShloMosaic.Lib.VecWindow
public import Idealize.ShloMosaic.Lib.Tactic
public import Idealize.ShloMosaic.Lib.WordCmp

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer of device `c` once the host line before the call has run. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
/-- The program is that host line followed by the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-! The host line writes none of the arguments. -/

theorem V_kept (c : Dev nD) (b : Ref sig .tc) (h : b ∉ [main_v0, main_v1, main_v2, main_v3, main_c, main_v4, main_v5, main_v6, main_v7, main_v8, main_v9]) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne fun e => h (by rw [e]; decide)))
theorem V_main_arg0 (c : Dev nD) : V m c main_arg0 = m ((c : Thread nD τ).loc main_arg0) := V_kept m c _ (by decide)
theorem V_main_arg1 (c : Dev nD) : V m c main_arg1 = m ((c : Thread nD τ).loc main_arg1) := V_kept m c _ (by decide)
theorem V_main_arg2 (c : Dev nD) : V m c main_arg2 = m ((c : Thread nD τ).loc main_arg2) := V_kept m c _ (by decide)
theorem V_main_arg3 (c : Dev nD) : V m c main_arg3 = m ((c : Thread nD τ).loc main_arg3) := V_kept m c _ (by decide)
theorem V_main_arg4 (c : Dev nD) : V m c main_arg4 = m ((c : Thread nD τ).loc main_arg4) := V_kept m c _ (by decide)
theorem V_main_arg5 (c : Dev nD) : V m c main_arg5 = m ((c : Thread nD τ).loc main_arg5) := V_kept m c _ (by decide)
theorem V_main_arg6 (c : Dev nD) : V m c main_arg6 = m ((c : Thread nD τ).loc main_arg6) := V_kept m c _ (by decide)
theorem V_main_arg7 (c : Dev nD) : V m c main_arg7 = m ((c : Thread nD τ).loc main_arg7) := V_kept m c _ (by decide)

/-! ## The three tables -/

/-- The tables as the call finds them. -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- Every block an index map names by a table's word lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tabE : Memref sig .tc .smem S104 .i32 := Memref.whole main_arg0
abbrev tabE_whole : tabE.IsWhole := Memref.isWhole_whole _
abbrev tabU : Memref sig .tc .smem S1 .i32 := Memref.whole main_arg1
abbrev tabU_whole : tabU.IsWhole := Memref.isWhole_whole _
abbrev tabR : Memref sig .tc .smem S104 .i32 := Memref.whole main_arg2
abbrev tabR_whole : tabR.IsWhole := Memref.isWhole_whole _

abbrev TabBuf (c : Dev nD) {S : Shape} {e : EltTy} (M : Memref sig .tc .smem S e) : Type := Buf (Elt F) (M.view.loc (c : Thread nD τ))
/-- A table's buffer at `f`, held for reading. -/
abbrev tabAt (c : Dev nD) {S : Shape} {e : EltTy} (M : Memref sig .tc .smem S e) (f : TabBuf (F := F) c M) : sProp 𝕄 :=
  M.view.loc (c : Thread nD τ) ↦{fullShare.right} f

theorem tables_eq (c : Dev nD) : (Pipeline.ΦT pre0 (tbl m) c : sProp 𝕄) = iprop(tabAt c tabE (tbl m 0) ∗ tabAt c tabU (tbl m 1) ∗ tabAt c tabR (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The blocks -/

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem staged0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem staged1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem staged2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem staged3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem staged4 (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem staged5 (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! The staging buffer each window is on at a point. -/

abbrev ms0 (hO : Ok m) (t : Fin (cfgM m hO).N) : Memref sig .tc .vmem S512x2048 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x2048x1024 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1024 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x512x2048 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x2048 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1024x512 .bf16 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S512x2048 .f32 := spec0_6.stage ((cfgM m hO).slots t 6)
abbrev hs6 (hO : Ok m) (t : Fin (cfgM m hO).N) : (ms6 m hO t).IsWhole := hstage0_6 (((cfgM m hO).slots t 6).cast nbuf0_6)

/-- The body at a point, on the buffers it is called with there. -/
abbrev bodyAt (hO : Ok m) (t : Fin (cfgM m hO).N) : Prog (TpuEff nD τ sig (Elt F) Λ₀ .tc) PUnit :=
  cc0_moe_experts (grid0.coords t) tabE tabE_whole tabU tabU_whole tabR tabR_whole (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t)

/-- The result's block is written back at the last of its four points. -/
theorem flush6 (a : (pcfg0 (F := F)).Adm) : ∀ t : Fin (cfg0 a).N, ((cfg0 a).win 6).flush t = true ↔ t.val % 4 = 3 :=
  (fun t => Pipeline.Window.flushOf_reads cc0_transform_6 reads0_6 hreads0_6 0 (by decide) (by decide) (Pipeline.Window.sep_of_coord cc0_transform_6 0 0 (fun _ => rfl) (by decide)) (P := 4) (m := 3) (by decide) rfl t : ∀ t : Fin grid0.N, Pipeline.Window.flushOf grid0 true cc0_transform_6 t = true ↔ t.val % 4 = 3)

/-- The arguments end as they began, from a run of the program to what the call leaves. -/
theorem args_kept (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 0).trans (((dats 0 c).arrAt_in 0 rfl _).trans ((hA c 0).trans (V_main_arg3 m c))),
      ((h c).1 1).trans (((dats 0 c).arrAt_in 1 rfl _).trans ((hA c 1).trans (V_main_arg4 m c))),
      ((h c).1 2).trans (((dats 0 c).arrAt_in 2 rfl _).trans ((hA c 2).trans (V_main_arg5 m c))),
      ((h c).1 3).trans (((dats 0 c).arrAt_in 3 rfl _).trans ((hA c 3).trans (V_main_arg6 m c))),
      ((h c).1 4).trans (((dats 0 c).arrAt_in 4 rfl _).trans ((hA c 4).trans (V_main_arg7 m c)))⟩) h

end Cert.Moe

end
-- ==== Proof.MoeStep.lean ====
/- What one point of the experts' call does to the block of the result, as a function of the two table words and the staged blocks. -/
module

public import proofs.«01_k».proof.Proof.MoeKit

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- How many rows of its block the body fills with the bias first: the whole block, zeros past the used blocks, or the rows there were. -/
def start (i : grid0.Coords) (u : BitVec 32) (x4 : Vec F S1x1x2048 .f32) (y : Vec F S512x2048 .f32) : Vec F S512x2048 .f32 :=
  if k0_cond1 i u = 1#1 then k0_pay10 x4 else y

/-- The block with what its first 128 rows gain at a point. -/
def gain128 (x0 : Vec F S512x2048 .bf16) (x1 : Vec F S1x2048x1024 .f32) (x2 : Vec F S1x1x1024 .f32) (x3 : Vec F S1x512x2048 .f32) (x4 : Vec F S1x1x2048 .f32) (x5 : Vec F S1024x512 .bf16) (y : Vec F S512x2048 .f32) : Vec F S512x2048 .f32 :=
  VecWindow.put y ![0, 0] S128x2048.size (k0_pay11 (k0_pay2 (VecWindow.window y ![0, 0] S128x2048.size inb_S512x2048_S128x2048_0_0)) (k0_pay3 (VecWindow.window x0 ![0, 0] S128x2048.size inb_S512x2048_S128x2048_0_0) x1 x2 x5) x3)

/-- The block with what its first 256 rows gain at a point. -/
def gain256 (x0 : Vec F S512x2048 .bf16) (x1 : Vec F S1x2048x1024 .f32) (x2 : Vec F S1x1x1024 .f32) (x3 : Vec F S1x512x2048 .f32) (x4 : Vec F S1x1x2048 .f32) (x5 : Vec F S1024x512 .bf16) (y : Vec F S512x2048 .f32) : Vec F S512x2048 .f32 :=
  VecWindow.put y ![0, 0] S256x2048.size (k0_pay12 (k0_pay4 (VecWindow.window y ![0, 0] S256x2048.size inb_S512x2048_S256x2048_0_0)) (k0_pay5 (VecWindow.window x0 ![0, 0] S256x2048.size inb_S512x2048_S256x2048_0_0) x1 x2 x5) x3)

/-- The block with what its first 384 rows gain at a point. -/
def gain384 (x0 : Vec F S512x2048 .bf16) (x1 : Vec F S1x2048x1024 .f32) (x2 : Vec F S1x1x1024 .f32) (x3 : Vec F S1x512x2048 .f32) (x4 : Vec F S1x1x2048 .f32) (x5 : Vec F S1024x512 .bf16) (y : Vec F S512x2048 .f32) : Vec F S512x2048 .f32 :=
  VecWindow.put y ![0, 0] S384x2048.size (k0_pay13 (k0_pay6 (VecWindow.window y ![0, 0] S384x2048.size inb_S512x2048_S384x2048_0_0)) (k0_pay7 (VecWindow.window x0 ![0, 0] S384x2048.size inb_S512x2048_S384x2048_0_0) x1 x2 x5) x3)

/-- The block with what its first 512 rows gain at a point. -/
def gain512 (x0 : Vec F S512x2048 .bf16) (x1 : Vec F S1x2048x1024 .f32) (x2 : Vec F S1x1x1024 .f32) (x3 : Vec F S1x512x2048 .f32) (x4 : Vec F S1x1x2048 .f32) (x5 : Vec F S1024x512 .bf16) (y : Vec F S512x2048 .f32) : Vec F S512x2048 .f32 :=
  k0_pay14 (k0_pay8 (y)) (k0_pay9 (x0) x1 x2 x5) x3

/-- The block after a point: started, its used rows increased, or cleared. -/
def step (i : grid0.Coords) (u r : BitVec 32) (x0 : Vec F S512x2048 .bf16) (x1 : Vec F S1x2048x1024 .f32) (x2 : Vec F S1x1x1024 .f32) (x3 : Vec F S1x512x2048 .f32) (x4 : Vec F S1x1x2048 .f32) (x5 : Vec F S1024x512 .bf16) (y : Vec F S512x2048 .f32) : Vec F S512x2048 .f32 :=
  if k0_cond6 i u = 1#1 then k0_pay1 else
  if k0_cond2 i u r = 1#1 then gain128 x0 x1 x2 x3 x4 x5 (start i u x4 y) else
  if k0_cond3 i u r = 1#1 then gain256 x0 x1 x2 x3 x4 x5 (start i u x4 y) else
  if k0_cond4 i u r = 1#1 then gain384 x0 x1 x2 x3 x4 x5 (start i u x4 y) else
  if k0_cond5 i u r = 1#1 then gain512 x0 x1 x2 x3 x4 x5 (start i u x4 y) else start i u x4 y

/-- The word of the used blocks' count. -/
abbrev wordU (c : Dev nD) (xt1 : TabBuf (F := F) c tabU) : BitVec 32 :=
  tabU.view.readAt (Elt F) (Rect.unit (s := S1) ![0] S1.size inb_S1_S1_0).toLoadRect xt1 (Shape.Idx.first (numel1_S1.symm ▸ Nat.one_pos))
/-- The word of the block's used rows. -/
abbrev wordR (c : Dev nD) (i : grid0.Coords) (xt2 : TabBuf (F := F) c tabR) : BitVec 32 :=
  tabR.view.readAt (Elt F) (Rect.unit (s := S104) (k0_off2 i) S1.size (k0_off2_inb i)).toLoadRect xt2 (Shape.Idx.first (numel1_S1.symm ▸ Nat.one_pos))

/-! What a load of a staged block reads. -/

theorem ld1 (a : Memref sig .tc .vmem S1x2048x1024 .f32) (x : Vec F S1x2048x1024 .f32) :
    View.readAt (Elt F) a.view (Rect.unit (s := S1x2048x1024) ![0, 0, 0] S1x2048x1024.size inb_S1x2048x1024_S1x2048x1024_0_0_0).toLoadRect (a.view.rep x) = x := View.readAt_rep_full _ _ _
theorem ld2 (a : Memref sig .tc .vmem S1x1x1024 .f32) (x : Vec F S1x1x1024 .f32) :
    View.readAt (Elt F) a.view (Rect.unit (s := S1x1x1024) ![0, 0, 0] S1x1x1024.size inb_S1x1x1024_S1x1x1024_0_0_0).toLoadRect (a.view.rep x) = x := View.readAt_rep_full _ _ _
theorem ld3 (a : Memref sig .tc .vmem S1x512x2048 .f32) (x : Vec F S1x512x2048 .f32) :
    View.readAt (Elt F) a.view (Rect.unit (s := S1x512x2048) ![0, 0, 0] S1x512x2048.size inb_S1x512x2048_S1x512x2048_0_0_0).toLoadRect (a.view.rep x) = x := View.readAt_rep_full _ _ _
theorem ld4 (a : Memref sig .tc .vmem S1x1x2048 .f32) (x : Vec F S1x1x2048 .f32) :
    View.readAt (Elt F) a.view (Rect.unit (s := S1x1x2048) ![0, 0, 0] S1x1x2048.size inb_S1x1x2048_S1x1x2048_0_0_0).toLoadRect (a.view.rep x) = x := View.readAt_rep_full _ _ _
theorem ld5 (a : Memref sig .tc .vmem S1024x512 .bf16) (x : Vec F S1024x512 .bf16) :
    View.readAt (Elt F) a.view (Rect.unit (s := S1024x512) ![0, 0] S1024x512.size inb_S1024x512_S1024x512_0_0).toLoadRect (a.view.rep x) = x := View.readAt_rep_full _ _ _
theorem ldx128 (a : Memref sig .tc .vmem S512x2048 .bf16) (x : Vec F S512x2048 .bf16) :
    View.readAt (Elt F) a.view (Rect.unit (s := S512x2048) ![0, 0] S128x2048.size inb_S512x2048_S128x2048_0_0).toLoadRect (a.view.rep x)
      = VecWindow.window x ![0, 0] S128x2048.size inb_S512x2048_S128x2048_0_0 := View.readAt_rep_unit _ _ _ rfl _
theorem ldy128 (a : Memref sig .tc .vmem S512x2048 .f32) (x : Vec F S512x2048 .f32) :
    View.readAt (Elt F) a.view (Rect.unit (s := S512x2048) ![0, 0] S128x2048.size inb_S512x2048_S128x2048_0_0).toLoadRect (a.view.rep x)
      = VecWindow.window x ![0, 0] S128x2048.size inb_S512x2048_S128x2048_0_0 := View.readAt_rep_unit _ _ _ rfl _
theorem ldw128 (a : Memref sig .tc .vmem S512x2048 .f32) (w : Vec F S512x2048 .f32) :
    a.view.readCov [⟨Rect.unit (s := S512x2048) ![0, 0] ![512, 2048] inb_S512x2048_S512x2048_0_0, w⟩] (Rect.unit (s := S512x2048) ![0, 0] S128x2048.size inb_S512x2048_S128x2048_0_0).toLoadRect
      = VecWindow.window w ![0, 0] S128x2048.size inb_S512x2048_S128x2048_0_0 :=
  (View.readAt_unit _ _ _ rfl _).trans (congrArg (fun z : Vec F S512x2048 .f32 => VecWindow.window (s := S512x2048) z ![0, 0] S128x2048.size inb_S512x2048_S128x2048_0_0) (View.read_writes_full _ _ _ _ _))
theorem ldx256 (a : Memref sig .tc .vmem S512x2048 .bf16) (x : Vec F S512x2048 .bf16) :
    View.readAt (Elt F) a.view (Rect.unit (s := S512x2048) ![0, 0] S256x2048.size inb_S512x2048_S256x2048_0_0).toLoadRect (a.view.rep x)
      = VecWindow.window x ![0, 0] S256x2048.size inb_S512x2048_S256x2048_0_0 := View.readAt_rep_unit _ _ _ rfl _
theorem ldy256 (a : Memref sig .tc .vmem S512x2048 .f32) (x : Vec F S512x2048 .f32) :
    View.readAt (Elt F) a.view (Rect.unit (s := S512x2048) ![0, 0] S256x2048.size inb_S512x2048_S256x2048_0_0).toLoadRect (a.view.rep x)
      = VecWindow.window x ![0, 0] S256x2048.size inb_S512x2048_S256x2048_0_0 := View.readAt_rep_unit _ _ _ rfl _
theorem ldw256 (a : Memref sig .tc .vmem S512x2048 .f32) (w : Vec F S512x2048 .f32) :
    a.view.readCov [⟨Rect.unit (s := S512x2048) ![0, 0] ![512, 2048] inb_S512x2048_S512x2048_0_0, w⟩] (Rect.unit (s := S512x2048) ![0, 0] S256x2048.size inb_S512x2048_S256x2048_0_0).toLoadRect
      = VecWindow.window w ![0, 0] S256x2048.size inb_S512x2048_S256x2048_0_0 :=
  (View.readAt_unit _ _ _ rfl _).trans (congrArg (fun z : Vec F S512x2048 .f32 => VecWindow.window (s := S512x2048) z ![0, 0] S256x2048.size inb_S512x2048_S256x2048_0_0) (View.read_writes_full _ _ _ _ _))
theorem ldx384 (a : Memref sig .tc .vmem S512x2048 .bf16) (x : Vec F S512x2048 .bf16) :
    View.readAt (Elt F) a.view (Rect.unit (s := S512x2048) ![0, 0] S384x2048.size inb_S512x2048_S384x2048_0_0).toLoadRect (a.view.rep x)
      = VecWindow.window x ![0, 0] S384x2048.size inb_S512x2048_S384x2048_0_0 := View.readAt_rep_unit _ _ _ rfl _
theorem ldy384 (a : Memref sig .tc .vmem S512x2048 .f32) (x : Vec F S512x2048 .f32) :
    View.readAt (Elt F) a.view (Rect.unit (s := S512x2048) ![0, 0] S384x2048.size inb_S512x2048_S384x2048_0_0).toLoadRect (a.view.rep x)
      = VecWindow.window x ![0, 0] S384x2048.size inb_S512x2048_S384x2048_0_0 := View.readAt_rep_unit _ _ _ rfl _
theorem ldw384 (a : Memref sig .tc .vmem S512x2048 .f32) (w : Vec F S512x2048 .f32) :
    a.view.readCov [⟨Rect.unit (s := S512x2048) ![0, 0] ![512, 2048] inb_S512x2048_S512x2048_0_0, w⟩] (Rect.unit (s := S512x2048) ![0, 0] S384x2048.size inb_S512x2048_S384x2048_0_0).toLoadRect
      = VecWindow.window w ![0, 0] S384x2048.size inb_S512x2048_S384x2048_0_0 :=
  (View.readAt_unit _ _ _ rfl _).trans (congrArg (fun z : Vec F S512x2048 .f32 => VecWindow.window (s := S512x2048) z ![0, 0] S384x2048.size inb_S512x2048_S384x2048_0_0) (View.read_writes_full _ _ _ _ _))
theorem ldx512 (a : Memref sig .tc .vmem S512x2048 .bf16) (x : Vec F S512x2048 .bf16) :
    View.readAt (Elt F) a.view (Rect.unit (s := S512x2048) ![0, 0] S512x2048.size inb_S512x2048_S512x2048_0_0).toLoadRect (a.view.rep x) = x := View.readAt_rep_full _ _ _
theorem ldy512 (a : Memref sig .tc .vmem S512x2048 .f32) (x : Vec F S512x2048 .f32) :
    View.readAt (Elt F) a.view (Rect.unit (s := S512x2048) ![0, 0] S512x2048.size inb_S512x2048_S512x2048_0_0).toLoadRect (a.view.rep x) = x := View.readAt_rep_full _ _ _
theorem ldw512 (a : Memref sig .tc .vmem S512x2048 .f32) (w : Vec F S512x2048 .f32) :
    a.view.readCov [⟨Rect.unit (s := S512x2048) ![0, 0] ![512, 2048] inb_S512x2048_S512x2048_0_0, w⟩] (Rect.unit (s := S512x2048) ![0, 0] S512x2048.size inb_S512x2048_S512x2048_0_0).toLoadRect = w :=
  View.readCov_full _ _ _ _ _

/-- What running the body says at a grid point whose six conditions are as the six functions have them. -/
def RunAt (p1 p2 p3 p4 p5 p6 : Prop → Prop) : Prop :=
  ∀ (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x512x2048 .f32) (harg8 : arg8.IsWhole) (arg9 : Memref sig .tc .vmem S1x1x2048 .f32) (harg9 : arg9.IsWhole) (arg10 : Memref sig .tc .vmem S1024x512 .bf16) (harg10 : arg10.IsWhole) (arg11 : Memref sig .tc .vmem S512x2048 .f32) (harg11 : arg11.IsWhole) (x0 : Vec F S512x2048 .bf16) (x1 : Vec F S1x2048x1024 .f32) (x2 : Vec F S1x1x1024 .f32) (x3 : Vec F S1x512x2048 .f32) (x4 : Vec F S1x1x2048 .f32) (x5 : Vec F S1024x512 .bf16) (y : Vec F S512x2048 .f32) (xt0 : TabBuf (F := F) c tabE) (xt1 : TabBuf (F := F) c tabU) (xt2 : TabBuf (F := F) c tabR) (h1 : p1 (k0_cond1 i (wordU c xt1) = 1#1)) (h2 : p2 (k0_cond2 i (wordU c xt1) (wordR c i xt2) = 1#1)) (h3 : p3 (k0_cond3 i (wordU c xt1) (wordR c i xt2) = 1#1)) (h4 : p4 (k0_cond4 i (wordU c xt1) (wordR c i xt2) = 1#1)) (h5 : p5 (k0_cond5 i (wordU c xt1) (wordR c i xt2) = 1#1)) (h6 : p6 (k0_cond6 i (wordU c xt1) = 1#1)) (E : Set ℕ) (K : PUnit → sProp 𝕄),
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare y ∗ tabAt c tabE xt0 ∗ tabAt c tabU xt1 ∗ tabAt c tabR xt2 ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare (step i (wordU c xt1) (wordR c i xt2) x0 x1 x2 x3 x4 x5 y) ∗ tabAt c tabE xt0 ∗ tabAt c tabU xt1 ∗ tabAt c tabR xt2) -∗ K ⟨⟩))
      ⊢ wp frame (wpE (defs₀ (F := F)) Variants.none c none) E (cc0_moe_experts i tabE tabE_whole tabU tabU_whole tabR tabR_whole arg5 harg5 arg6 harg6 arg7 harg7 arg8 harg8 arg9 harg9 arg10 harg10 arg11 harg11) K

end Cert.Moe

end
-- ==== Proof.MoeRuns.lean ====
/- The experts' body at a point, case by case (first layer). -/
module

public import proofs.«01_k».proof.Proof.MoeStep

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

set_option maxHeartbeats 1000000 in
/-- The first point of a used block, of no row. -/
theorem run_A0 : RunAt (F := F) (fun a => a) Not Not Not Not Not := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · rw [← owns_eq_rep]; unfold owns; iexists _; isplitr
    swap; · iexact H6
    ipureintro
    sl_unfold_words
    unfold step start
    rw [if_neg h6, if_neg h2, if_neg h3, if_neg h4, if_neg h5, if_pos h1]
    exact (View.read_writes_full _ _ _ _ _).trans (congrArg k0_pay10 (ld4 _ _))
  isplitl [HT0]; · iexact HT0
  isplitl [HT1]; · iexact HT1
  iexact HT2

set_option maxHeartbeats 1000000 in
/-- The first point of a used block, of at most 128 rows. -/
theorem run_A1 : RunAt (F := F) (fun a => a) (fun a => a) Not Not Not Not := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · rw [← owns_eq_rep]; unfold owns; iexists _; isplitr
    swap; · iexact H6
    ipureintro
    sl_unfold_words
    unfold step start gain128
    rw [if_neg h6, if_pos h2, if_pos h1]
    rw [ldx128]
    rw [ld1]
    rw [ld2]
    rw [ld3]
    rw [ld5]
    rw [show _ = x4 from ld4 arg9 x4]
    rw [ldw128]
    exact (View.read_writes_cons_put _ _ _ _ _ rfl).trans (congrArg (fun z : Vec F S512x2048 .f32 => VecWindow.put (s := S512x2048) z ![0, 0] S128x2048.size _) (View.read_writes_full _ _ _ _ _))
  isplitl [HT0]; · iexact HT0
  isplitl [HT1]; · iexact HT1
  iexact HT2

set_option maxHeartbeats 1000000 in
/-- The first point of a used block, of at most 256 rows. -/
theorem run_A2 : RunAt (F := F) (fun a => a) Not (fun a => a) Not Not Not := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · rw [← owns_eq_rep]; unfold owns; iexists _; isplitr
    swap; · iexact H6
    ipureintro
    sl_unfold_words
    unfold step start gain256
    rw [if_neg h6, if_neg h2, if_pos h3, if_pos h1]
    rw [ldx256]
    rw [ld1]
    rw [ld2]
    rw [ld3]
    rw [ld5]
    rw [show _ = x4 from ld4 arg9 x4]
    rw [ldw256]
    exact (View.read_writes_cons_put _ _ _ _ _ rfl).trans (congrArg (fun z : Vec F S512x2048 .f32 => VecWindow.put (s := S512x2048) z ![0, 0] S256x2048.size _) (View.read_writes_full _ _ _ _ _))
  isplitl [HT0]; · iexact HT0
  isplitl [HT1]; · iexact HT1
  iexact HT2

set_option maxHeartbeats 1000000 in
/-- The first point of a used block, of at most 384 rows. -/
theorem run_A3 : RunAt (F := F) (fun a => a) Not Not (fun a => a) Not Not := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · rw [← owns_eq_rep]; unfold owns; iexists _; isplitr
    swap; · iexact H6
    ipureintro
    sl_unfold_words
    unfold step start gain384
    rw [if_neg h6, if_neg h2, if_neg h3, if_pos h4, if_pos h1]
    rw [ldx384]
    rw [ld1]
    rw [ld2]
    rw [ld3]
    rw [ld5]
    rw [show _ = x4 from ld4 arg9 x4]
    rw [ldw384]
    exact (View.read_writes_cons_put _ _ _ _ _ rfl).trans (congrArg (fun z : Vec F S512x2048 .f32 => VecWindow.put (s := S512x2048) z ![0, 0] S384x2048.size _) (View.read_writes_full _ _ _ _ _))
  isplitl [HT0]; · iexact HT0
  isplitl [HT1]; · iexact HT1
  iexact HT2

set_option maxHeartbeats 1000000 in
/-- The first point of a used block, of at most 512 rows. -/
theorem run_A4 : RunAt (F := F) (fun a => a) Not Not Not (fun a => a) Not := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · rw [← owns_eq_rep]; unfold owns; iexists _; isplitr
    swap; · iexact H6
    ipureintro
    sl_unfold_words
    unfold step start gain512
    rw [if_neg h6, if_neg h2, if_neg h3, if_neg h4, if_pos h5, if_pos h1]
    rw [ldx512]
    rw [ld1]
    rw [ld2]
    rw [ld3]
    rw [ld5]
    rw [show _ = x4 from ld4 arg9 x4]
    rw [ldw512]
    exact View.read_writes_full _ _ _ _ _
  isplitl [HT0]; · iexact HT0
  isplitl [HT1]; · iexact HT1
  iexact HT2

set_option maxHeartbeats 1000000 in
/-- A later point of a used block, or of an unused one, of no row. -/
theorem run_B0 : RunAt (F := F) Not Not Not Not Not Not := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold step start
    rw [if_neg h6, if_neg h2, if_neg h3, if_neg h4, if_neg h5, if_neg h1]
    iexact H6
  isplitl [HT0]; · iexact HT0
  isplitl [HT1]; · iexact HT1
  iexact HT2

set_option maxHeartbeats 1000000 in
/-- A later point of a used block, or of an unused one, of at most 128 rows. -/
theorem run_B1 : RunAt (F := F) Not (fun a => a) Not Not Not Not := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · rw [← owns_eq_rep]; unfold owns; iexists _; isplitr
    swap; · iexact H6
    ipureintro
    sl_unfold_words
    unfold step start gain128
    rw [if_neg h6, if_pos h2, if_neg h1]
    rw [ldx128]
    rw [ld1]
    rw [ld2]
    rw [ld3]
    rw [ld5]
    rw [ldy128]
    exact View.read_writes_rep_unit _ _ _ _ rfl
  isplitl [HT0]; · iexact HT0
  isplitl [HT1]; · iexact HT1
  iexact HT2

set_option maxHeartbeats 1000000 in
/-- A later point of a used block, or of an unused one, of at most 256 rows. -/
theorem run_B2 : RunAt (F := F) Not Not (fun a => a) Not Not Not := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · rw [← owns_eq_rep]; unfold owns; iexists _; isplitr
    swap; · iexact H6
    ipureintro
    sl_unfold_words
    unfold step start gain256
    rw [if_neg h6, if_neg h2, if_pos h3, if_neg h1]
    rw [ldx256]
    rw [ld1]
    rw [ld2]
    rw [ld3]
    rw [ld5]
    rw [ldy256]
    exact View.read_writes_rep_unit _ _ _ _ rfl
  isplitl [HT0]; · iexact HT0
  isplitl [HT1]; · iexact HT1
  iexact HT2

set_option maxHeartbeats 1000000 in
/-- A later point of a used block, or of an unused one, of at most 384 rows. -/
theorem run_B3 : RunAt (F := F) Not Not Not (fun a => a) Not Not := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · rw [← owns_eq_rep]; unfold owns; iexists _; isplitr
    swap; · iexact H6
    ipureintro
    sl_unfold_words
    unfold step start gain384
    rw [if_neg h6, if_neg h2, if_neg h3, if_pos h4, if_neg h1]
    rw [ldx384]
    rw [ld1]
    rw [ld2]
    rw [ld3]
    rw [ld5]
    rw [ldy384]
    exact View.read_writes_rep_unit _ _ _ _ rfl
  isplitl [HT0]; · iexact HT0
  isplitl [HT1]; · iexact HT1
  iexact HT2

set_option maxHeartbeats 1000000 in
/-- A later point of a used block, or of an unused one, of at most 512 rows. -/
theorem run_B4 : RunAt (F := F) Not Not Not Not (fun a => a) Not := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · rw [← owns_eq_rep]; unfold owns; iexists _; isplitr
    swap; · iexact H6
    ipureintro
    sl_unfold_words
    unfold step start gain512
    rw [if_neg h6, if_neg h2, if_neg h3, if_neg h4, if_pos h5, if_neg h1]
    rw [ldx512]
    rw [ld1]
    rw [ld2]
    rw [ld3]
    rw [ld5]
    rw [ldy512]
    exact View.read_writes_full _ _ _ _ _
  isplitl [HT0]; · iexact HT0
  isplitl [HT1]; · iexact HT1
  iexact HT2

set_option maxHeartbeats 1000000 in
/-- The first point of an unused block: cleared. -/
theorem run_Z : RunAt (F := F) Not Not Not Not Not (fun a => a) := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · rw [← owns_eq_rep]; unfold owns; iexists _; isplitr
    swap; · iexact H6
    ipureintro
    sl_unfold_words
    unfold step start
    rw [if_pos h6]
    exact View.read_writes_full _ _ _ _ _
  isplitl [HT0]; · iexact HT0
  isplitl [HT1]; · iexact HT1
  iexact HT2

end Cert.Moe

end
-- ==== Proof.MoeCond.lean ====
/- When the experts' body starts, increases or clears its block, as comparisons of integers; and its run at any point. -/
module

public import proofs.«01_k».proof.Proof.MoeRuns

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! ## The conditions -/

theorem guard_iff (a b : Bool) : Scalar.cmpi .ne (Scalar.extui (Scalar.andi (BitVec.ofBool a) (BitVec.ofBool b)) : BitVec 32) 0#32 = 1#1 ↔ a = true ∧ b = true := by
  cases a <;> cases b <;> decide

/-- Block `i` is one of the used ones. -/
def used (i : grid0.Coords) (u : BitVec 32) : Prop := ((i 0).val : Int) < u.toInt

/-- How many of its rows are used. -/
def rows (i : grid0.Coords) (u r : BitVec 32) : Int := open Classical in if used i u then r.toInt else 0

theorem slt_used (i : grid0.Coords) (u : BitVec 32) : (BitVec.ofNat 32 (i 0).val).slt u = true ↔ used i u := by
  have h : (i 0).val < 104 := (i 0).isLt
  rw [BitVec.slt, decide_eq_true_iff, WordCmp.toInt_ofNat_of_lt (by omega)]
  rfl

theorem first_iff (i : grid0.Coords) : (BitVec.ofNat 32 (i 1).val == 0#32) = true ↔ (i 1).val = 0 := by
  have h : (i 1).val < 4 := (i 1).isLt
  rw [beq_iff_eq]
  exact WordCmp.ofNat_eq_ofNat_iff (w := 32) (b := 0) (by omega) (by omega)

theorem cond1_iff (i : grid0.Coords) (u : BitVec 32) : k0_cond1 i u = 1#1 ↔ (i 1).val = 0 ∧ used i u :=
  (guard_iff _ _).trans (and_congr (first_iff i) (slt_used i u))

theorem cond6_iff (i : grid0.Coords) (u : BitVec 32) : k0_cond6 i u = 1#1 ↔ ¬used i u ∧ (i 1).val = 0 := by
  refine (guard_iff _ _).trans (and_congr ?_ (first_iff i))
  rw [← slt_used, BitVec.slt, decide_eq_true_iff]
  show u.sle (BitVec.ofNat 32 (i 0).val) = true ↔ _
  rw [BitVec.sle, decide_eq_true_iff]
  exact Int.not_lt.symm

theorem select_rows (i : grid0.Coords) (u r : BitVec 32) :
    (Scalar.select (Scalar.cmpi .slt (BitVec.ofNat 32 (i 0).val) u) r 0#32).toInt = rows i u r := by
  by_cases h : used i u
  · rw [rows, if_pos h]
    have e : Scalar.cmpi .slt (BitVec.ofNat 32 (i 0).val) u = 1#1 := congrArg BitVec.ofBool ((slt_used i u).mpr h)
    rw [e]; rfl
  · rw [rows, if_neg h]
    have e : Scalar.cmpi .slt (BitVec.ofNat 32 (i 0).val) u = 0#1 :=
      congrArg BitVec.ofBool (Bool.eq_false_iff.mpr fun h' => h ((slt_used i u).mp h'))
    rw [e]; rfl

theorem between (i : grid0.Coords) (u r lo hi : BitVec 32) :
    Scalar.cmpi .ne (Scalar.extui (Scalar.andi (BitVec.ofBool (lo.slt (Scalar.select (Scalar.cmpi .slt (BitVec.ofNat 32 (i 0).val) u) r 0#32)))
      (BitVec.ofBool ((Scalar.select (Scalar.cmpi .slt (BitVec.ofNat 32 (i 0).val) u) r 0#32).sle hi))) : BitVec 32) 0#32 = 1#1
      ↔ lo.toInt < rows i u r ∧ rows i u r ≤ hi.toInt := by
  refine (guard_iff _ _).trans (and_congr ?_ ?_)
  · rw [BitVec.slt, decide_eq_true_iff, select_rows]
  · rw [BitVec.sle, decide_eq_true_iff, select_rows]

theorem cond2_iff (i : grid0.Coords) (u r : BitVec 32) : k0_cond2 i u r = 1#1 ↔ 0 < rows i u r ∧ rows i u r ≤ 128 := between i u r 0#32 128#32
theorem cond3_iff (i : grid0.Coords) (u r : BitVec 32) : k0_cond3 i u r = 1#1 ↔ 128 < rows i u r ∧ rows i u r ≤ 256 := between i u r 128#32 256#32
theorem cond4_iff (i : grid0.Coords) (u r : BitVec 32) : k0_cond4 i u r = 1#1 ↔ 256 < rows i u r ∧ rows i u r ≤ 384 := between i u r 256#32 384#32
theorem cond5_iff (i : grid0.Coords) (u r : BitVec 32) : k0_cond5 i u r = 1#1 ↔ 384 < rows i u r ∧ rows i u r ≤ 512 := between i u r 384#32 512#32

theorem rows_unused {i : grid0.Coords} {u r : BitVec 32} (h : ¬used i u) : rows i u r = 0 := if_neg h
theorem rows_used {i : grid0.Coords} {u r : BitVec 32} (h : used i u) : rows i u r = r.toInt := if_pos h

theorem apart {P Q : Prop} {R a b a' b' : Int} (p : P ↔ a < R ∧ R ≤ b) (q : Q ↔ a' < R ∧ R ≤ b') (hab : b ≤ a' ∨ b' ≤ a) (h : P) : ¬Q := fun h' => by
  have x := p.mp h
  have y := q.mp h'
  clear p q h h'
  omega

theorem apart6 {Q : Prop} {R a b : Int} (q : Q ↔ a < R ∧ R ≤ b) (ha : 0 ≤ a) (h : R = 0) : ¬Q := fun h' => by
  have y := q.mp h'
  clear q h'
  omega

theorem apart23 {i : grid0.Coords} {u r : BitVec 32} : k0_cond2 i u r = 1#1 → ¬k0_cond3 i u r = 1#1 := apart (cond2_iff i u r) (cond3_iff i u r) (by decide)
theorem apart24 {i : grid0.Coords} {u r : BitVec 32} : k0_cond2 i u r = 1#1 → ¬k0_cond4 i u r = 1#1 := apart (cond2_iff i u r) (cond4_iff i u r) (by decide)
theorem apart25 {i : grid0.Coords} {u r : BitVec 32} : k0_cond2 i u r = 1#1 → ¬k0_cond5 i u r = 1#1 := apart (cond2_iff i u r) (cond5_iff i u r) (by decide)
theorem apart32 {i : grid0.Coords} {u r : BitVec 32} : k0_cond3 i u r = 1#1 → ¬k0_cond2 i u r = 1#1 := apart (cond3_iff i u r) (cond2_iff i u r) (by decide)
theorem apart34 {i : grid0.Coords} {u r : BitVec 32} : k0_cond3 i u r = 1#1 → ¬k0_cond4 i u r = 1#1 := apart (cond3_iff i u r) (cond4_iff i u r) (by decide)
theorem apart35 {i : grid0.Coords} {u r : BitVec 32} : k0_cond3 i u r = 1#1 → ¬k0_cond5 i u r = 1#1 := apart (cond3_iff i u r) (cond5_iff i u r) (by decide)
theorem apart42 {i : grid0.Coords} {u r : BitVec 32} : k0_cond4 i u r = 1#1 → ¬k0_cond2 i u r = 1#1 := apart (cond4_iff i u r) (cond2_iff i u r) (by decide)
theorem apart43 {i : grid0.Coords} {u r : BitVec 32} : k0_cond4 i u r = 1#1 → ¬k0_cond3 i u r = 1#1 := apart (cond4_iff i u r) (cond3_iff i u r) (by decide)
theorem apart45 {i : grid0.Coords} {u r : BitVec 32} : k0_cond4 i u r = 1#1 → ¬k0_cond5 i u r = 1#1 := apart (cond4_iff i u r) (cond5_iff i u r) (by decide)
theorem apart52 {i : grid0.Coords} {u r : BitVec 32} : k0_cond5 i u r = 1#1 → ¬k0_cond2 i u r = 1#1 := apart (cond5_iff i u r) (cond2_iff i u r) (by decide)
theorem apart53 {i : grid0.Coords} {u r : BitVec 32} : k0_cond5 i u r = 1#1 → ¬k0_cond3 i u r = 1#1 := apart (cond5_iff i u r) (cond3_iff i u r) (by decide)
theorem apart54 {i : grid0.Coords} {u r : BitVec 32} : k0_cond5 i u r = 1#1 → ¬k0_cond4 i u r = 1#1 := apart (cond5_iff i u r) (cond4_iff i u r) (by decide)
theorem apart62 {i : grid0.Coords} {u r : BitVec 32} (h : ¬used i u) : ¬k0_cond2 i u r = 1#1 := apart6 (cond2_iff i u r) (by decide) (rows_unused h)
theorem apart63 {i : grid0.Coords} {u r : BitVec 32} (h : ¬used i u) : ¬k0_cond3 i u r = 1#1 := apart6 (cond3_iff i u r) (by decide) (rows_unused h)
theorem apart64 {i : grid0.Coords} {u r : BitVec 32} (h : ¬used i u) : ¬k0_cond4 i u r = 1#1 := apart6 (cond4_iff i u r) (by decide) (rows_unused h)
theorem apart65 {i : grid0.Coords} {u r : BitVec 32} (h : ¬used i u) : ¬k0_cond5 i u r = 1#1 := apart6 (cond5_iff i u r) (by decide) (rows_unused h)

/-! ## The run at any point -/

/-- The body at any point takes the block from `y` to `step … y`. -/
theorem run_any (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x512x2048 .f32) (harg8 : arg8.IsWhole) (arg9 : Memref sig .tc .vmem S1x1x2048 .f32) (harg9 : arg9.IsWhole) (arg10 : Memref sig .tc .vmem S1024x512 .bf16) (harg10 : arg10.IsWhole) (arg11 : Memref sig .tc .vmem S512x2048 .f32) (harg11 : arg11.IsWhole) (x0 : Vec F S512x2048 .bf16) (x1 : Vec F S1x2048x1024 .f32) (x2 : Vec F S1x1x1024 .f32) (x3 : Vec F S1x512x2048 .f32) (x4 : Vec F S1x1x2048 .f32) (x5 : Vec F S1024x512 .bf16) (y : Vec F S512x2048 .f32) (xt0 : TabBuf (F := F) c tabE) (xt1 : TabBuf (F := F) c tabU) (xt2 : TabBuf (F := F) c tabR) (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare y ∗ tabAt c tabE xt0 ∗ tabAt c tabU xt1 ∗ tabAt c tabR xt2 ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare (step i (wordU c xt1) (wordR c i xt2) x0 x1 x2 x3 x4 x5 y) ∗ tabAt c tabE xt0 ∗ tabAt c tabU xt1 ∗ tabAt c tabR xt2) -∗ K ⟨⟩))
      ⊢ wp frame (wpE (defs₀ (F := F)) Variants.none c none) E (cc0_moe_experts i tabE tabE_whole tabU tabU_whole tabR tabR_whole arg5 harg5 arg6 harg6 arg7 harg7 arg8 harg8 arg9 harg9 arg10 harg10 arg11 harg11) K := by
  by_cases hu : used i (wordU c xt1)
  · have n6 : ¬k0_cond6 i (wordU c xt1) = 1#1 := fun h => ((cond6_iff _ _).mp h).1 hu
    by_cases h1 : k0_cond1 i (wordU c xt1) = 1#1
    · by_cases k2 : k0_cond2 i (wordU c xt1) (wordR c i xt2) = 1#1
      · exact run_A1 c i _ _ _ _ _ _ _ _ _ _ _ _ _ _ _ _ _ _ _ _ _ _ _ _ h1 k2 (apart23 k2) (apart24 k2) (apart25 k2) n6 E K
      by_cases k3 : k0_cond3 i (wordU c xt1) (wordR c i xt2) = 1#1
      · exact run_A2 c i _ _ _ _ _ _ _ _ _ _ _ _ _ _ _ _ _ _ _ _ _ _ _ _ h1 (apart32 k3) k3 (apart34 k3) (apart35 k3) n6 E K
      by_cases k4 : k0_cond4 i (wordU c xt1) (wordR c i xt2) = 1#1
      · exact run_A3 c i _ _ _ _ _ _ _ _ _ _ _ _ _ _ _ _ _ _ _ _ _ _ _ _ h1 (apart42 k4) (apart43 k4) k4 (apart45 k4) n6 E K
      by_cases k5 : k0_cond5 i (wordU c xt1) (wordR c i xt2) = 1#1
      · exact run_A4 c i _ _ _ _ _ _ _ _ _ _ _ _ _ _ _ _ _ _ _ _ _ _ _ _ h1 (apart52 k5) (apart53 k5) (apart54 k5) k5 n6 E K
      exact run_A0 c i _ _ _ _ _ _ _ _ _ _ _ _ _ _ _ _ _ _ _ _ _ _ _ _ h1 k2 k3 k4 k5 n6 E K
    · by_cases k2 : k0_cond2 i (wordU c xt1) (wordR c i xt2) = 1#1
      · exact run_B1 c i _ _ _ _ _ _ _ _ _ _ _ _ _ _ _ _ _ _ _ _ _ _ _ _ h1 k2 (apart23 k2) (apart24 k2) (apart25 k2) n6 E K
      by_cases k3 : k0_cond3 i (wordU c xt1) (wordR c i xt2) = 1#1
      · exact run_B2 c i _ _ _ _ _ _ _ _ _ _ _ _ _ _ _ _ _ _ _ _ _ _ _ _ h1 (apart32 k3) k3 (apart34 k3) (apart35 k3) n6 E K
      by_cases k4 : k0_cond4 i (wordU c xt1) (wordR c i xt2) = 1#1
      · exact run_B3 c i _ _ _ _ _ _ _ _ _ _ _ _ _ _ _ _ _ _ _ _ _ _ _ _ h1 (apart42 k4) (apart43 k4) k4 (apart45 k4) n6 E K
      by_cases k5 : k0_cond5 i (wordU c xt1) (wordR c i xt2) = 1#1
      · exact run_B4 c i _ _ _ _ _ _ _ _ _ _ _ _ _ _ _ _ _ _ _ _ _ _ _ _ h1 (apart52 k5) (apart53 k5) (apart54 k5) k5 n6 E K
      exact run_B0 c i _ _ _ _ _ _ _ _ _ _ _ _ _ _ _ _ _ _ _ _ _ _ _ _ h1 k2 k3 k4 k5 n6 E K
  · have n1 : ¬k0_cond1 i (wordU c xt1) = 1#1 := fun h => hu ((cond1_iff _ _).mp h).2
    by_cases h6 : k0_cond6 i (wordU c xt1) = 1#1
    · exact run_Z c i _ _ _ _ _ _ _ _ _ _ _ _ _ _ _ _ _ _ _ _ _ _ _ _ n1 (apart62 hu) (apart63 hu) (apart64 hu) (apart65 hu) h6 E K
    · exact run_B0 c i _ _ _ _ _ _ _ _ _ _ _ _ _ _ _ _ _ _ _ _ _ _ _ _ n1 (apart62 hu) (apart63 hu) (apart64 hu) (apart65 hu) h6 E K

end Cert.Moe

end
-- ==== Proof.MoeFrame.lean ====
/- The experts' call at every point of its grid: the block after each point, the body's obligation, the run of the program and its frame. -/
module

public import proofs.«01_k».proof.Proof.MoeCond
public import Idealize.ShloMosaic.Lib.Claim

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The block after each point -/

theorem step_first {i : grid0.Coords} {u r : BitVec 32} (h : (i 1).val = 0) (x0 : Vec F S512x2048 .bf16) (x1 : Vec F S1x2048x1024 .f32) (x2 : Vec F S1x1x1024 .f32) (x3 : Vec F S1x512x2048 .f32) (x4 : Vec F S1x1x2048 .f32) (x5 : Vec F S1024x512 .bf16) (y y' : Vec F S512x2048 .f32) :
    step i u r x0 x1 x2 x3 x4 x5 y = step i u r x0 x1 x2 x3 x4 x5 y' := by
  by_cases hu : used i u
  · have e : start i u x4 y = start i u x4 y' := by
      unfold start
      rw [if_pos ((cond1_iff i u).mpr ⟨h, hu⟩), if_pos ((cond1_iff i u).mpr ⟨h, hu⟩)]
    unfold step
    rw [e]
  · unfold step
    rw [if_pos ((cond6_iff i u).mpr ⟨hu, h⟩), if_pos ((cond6_iff i u).mpr ⟨hu, h⟩)]

theorem step_idle {i : grid0.Coords} {u r : BitVec 32} (h1 : ¬k0_cond1 i u = 1#1) (h2 : ¬k0_cond2 i u r = 1#1) (h3 : ¬k0_cond3 i u r = 1#1) (h4 : ¬k0_cond4 i u r = 1#1) (h5 : ¬k0_cond5 i u r = 1#1) (h6 : ¬k0_cond6 i u = 1#1)
    (x0 : Vec F S512x2048 .bf16) (x1 : Vec F S1x2048x1024 .f32) (x2 : Vec F S1x1x1024 .f32) (x3 : Vec F S1x512x2048 .f32) (x4 : Vec F S1x1x2048 .f32) (x5 : Vec F S1024x512 .bf16) (y : Vec F S512x2048 .f32) :
    step i u r x0 x1 x2 x3 x4 x5 y = y := by
  unfold step start
  rw [if_neg h6, if_neg h2, if_neg h3, if_neg h4, if_neg h5, if_neg h1]

/-- The point `t` of the call, on its blocks. -/
def stepAt (hO : Ok m) (c : Dev nD) (t : Fin (cfgM m hO).N) (y : Vec F S512x2048 .f32) : Vec F S512x2048 .f32 :=
  step (grid0.coords t) (wordU c (tbl m 1)) (wordR c (grid0.coords t) (tbl m 2)) (iblk m hO c 0 t) (iblk m hO c 1 t) (iblk m hO c 2 t) (iblk m hO c 3 t) (iblk m hO c 4 t) (iblk m hO c 5 t) y

/-- The block after point `n`. -/
def outs (hO : Ok m) (c : Dev nD) : (n : ℕ) → n < (cfgM m hO).N → Vec F S512x2048 .f32
  | 0, h => stepAt m hO c ⟨0, h⟩ k0_pay1
  | n + 1, h => stepAt m hO c ⟨n + 1, h⟩ (outs hO c n (Nat.lt_of_succ_lt h))

theorem coord1 (t : Fin grid0.N) : (grid0.coords t 1).val = t.val % 4 := by
  show t.val / 1 % 4 = t.val % 4
  rw [Nat.div_one]
theorem coord0 (t : Fin grid0.N) : (grid0.coords t 0).val = t.val / 4 := by
  have h : t.val < 416 := t.isLt
  show (t.val / 4) % 104 = t.val / 4
  omega

theorem outs_first (hO : Ok m) (c : Dev nD) (t : Fin (cfgM m hO).N) (h : t.val % 4 = 0) (y : Vec F S512x2048 .f32) : outs m hO c t.val t.isLt = stepAt m hO c t y := by
  obtain ⟨n, hn⟩ := t
  cases n with
  | zero => exact step_first ((coord1 _).trans h) _ _ _ _ _ _ _ _
  | succ n => exact step_first ((coord1 _).trans h) _ _ _ _ _ _ _ _

theorem outs_next (hO : Ok m) (c : Dev nD) (t : Fin (cfgM m hO).N) (h : t.val ≠ 0) :
    outs m hO c t.val t.isLt = stepAt m hO c t (outs m hO c (t.val - 1) (Nat.lt_of_le_of_lt (Nat.sub_le _ _) t.isLt)) := by
  obtain ⟨n, hn⟩ := t
  cases n with
  | zero => exact absurd rfl h
  | succ n => rfl

/-! ## The proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outs m hO c t.val t.isLt
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = iblk m hO c 5 t := by dsimp only [dats]; try rfl
theorem after6 (hO : Ok m) (c : Dev nD) (t : Fin (cfgM m hO).N) : (dats m hO 0 c).after 6 t = outs m hO c t.val t.isLt := by dsimp only [dats]; try rfl
theorem before0 (hO : Ok m) (c : Dev nD) (t : Fin (cfgM m hO).N) (d) : (dats m hO 0 c).before 0 t d = iblk m hO c 0 t :=
  staged0 m hO (dats m hO 0 c) (A_eq m hO c 0) (after0 m hO c) t d
theorem before1 (hO : Ok m) (c : Dev nD) (t : Fin (cfgM m hO).N) (d) : (dats m hO 0 c).before 1 t d = iblk m hO c 1 t :=
  staged1 m hO (dats m hO 0 c) (A_eq m hO c 1) (after1 m hO c) t d
theorem before2 (hO : Ok m) (c : Dev nD) (t : Fin (cfgM m hO).N) (d) : (dats m hO 0 c).before 2 t d = iblk m hO c 2 t :=
  staged2 m hO (dats m hO 0 c) (A_eq m hO c 2) (after2 m hO c) t d
theorem before3 (hO : Ok m) (c : Dev nD) (t : Fin (cfgM m hO).N) (d) : (dats m hO 0 c).before 3 t d = iblk m hO c 3 t :=
  staged3 m hO (dats m hO 0 c) (A_eq m hO c 3) (after3 m hO c) t d
theorem before4 (hO : Ok m) (c : Dev nD) (t : Fin (cfgM m hO).N) (d) : (dats m hO 0 c).before 4 t d = iblk m hO c 4 t :=
  staged4 m hO (dats m hO 0 c) (A_eq m hO c 4) (after4 m hO c) t d
theorem before5 (hO : Ok m) (c : Dev nD) (t : Fin (cfgM m hO).N) (d) : (dats m hO 0 c).before 5 t d = iblk m hO c 5 t :=
  staged5 m hO (dats m hO 0 c) (A_eq m hO c 5) (after5 m hO c) t d

/-! ## Where the result's window is idle -/

theorem word1 (c : Dev nD) : (tbl m).atD 1 ![0] = wordU c (tbl m 1) := rfl
theorem word2 (c : Dev nD) (i : grid0.Coords) : (tbl m).atD 2 (k0_off2 i) = wordR c i (tbl m 2) := by
  unfold Pipeline.Prefetch.Contents.atD
  exact (dif_pos (show ∀ a : Fin (pre0.ref 2).ty.shape.rank, k0_off2 i a + 1 ≤ (pre0.ref 2).ty.shape.size a from fun a => match a with | ⟨0, _⟩ => k0_off2_inb i 0)).trans rfl

theorem idle6 (hO : Ok m) (c : Dev nD) (t : Fin (cfgM m hO).N) : (cfgM m hO).idle 6 ((cfgM m hO).grid.coords t) = true ↔
    (¬k0_cond1 (grid0.coords t) (wordU c (tbl m 1)) = 1#1) ∧ (¬k0_cond2 (grid0.coords t) (wordU c (tbl m 1)) (wordR c (grid0.coords t) (tbl m 2)) = 1#1)
      ∧ (¬k0_cond3 (grid0.coords t) (wordU c (tbl m 1)) (wordR c (grid0.coords t) (tbl m 2)) = 1#1) ∧ (¬k0_cond4 (grid0.coords t) (wordU c (tbl m 1)) (wordR c (grid0.coords t) (tbl m 2)) = 1#1)
      ∧ (¬k0_cond5 (grid0.coords t) (wordU c (tbl m 1)) (wordR c (grid0.coords t) (tbl m 2)) = 1#1) ∧ (¬k0_cond6 (grid0.coords t) (wordU c (tbl m 1)) = 1#1) := by
  show idle0 (tbl m) 6 (grid0.coords t) = true ↔ _
  unfold idle0
  dsimp only
  rw [word1 m c, word2 m c]
  simp only [Bool.and_eq_true, Bool.not_eq_true', beq_eq_false_iff_ne, ne_eq, and_assoc]

theorem idle_step (hO : Ok m) (c : Dev nD) (t : Fin (cfgM m hO).N) (h : (cfgM m hO).idle 6 ((cfgM m hO).grid.coords t) = true) (y : Vec F S512x2048 .f32) : stepAt m hO c t y = y := by
  obtain ⟨h1, h2, h3, h4, h5, h6⟩ := (idle6 m hO c t).mp h
  exact step_idle h1 h2 h3 h4 h5 h6 _ _ _ _ _ _ _

theorem first_busy (hO : Ok m) (c : Dev nD) (t : Fin (cfgM m hO).N) (h : t.val % 4 = 0) : (cfgM m hO).idle 6 ((cfgM m hO).grid.coords t) = false := by
  refine Bool.eq_false_iff.mpr fun hi => ?_
  obtain ⟨h1, -, -, -, -, h6⟩ := (idle6 m hO c t).mp hi
  by_cases hu : used (grid0.coords t) (wordU c (tbl m 1))
  · exact h1 ((cond1_iff _ _).mpr ⟨(coord1 _).trans h, hu⟩)
  · exact h6 ((cond6_iff _ _).mpr ⟨hu, (coord1 _).trans h⟩)

theorem points (hO : Ok m) : (cfgM m hO).N = 416 := N_0

theorem fresh6 (hO : Ok m) (c : Dev nD) : ∀ n ≤ (cfgM m hO).N, (cfgM m hO).fresh 6 n = decide (n % 4 = 0) := by
  refine (cfgM m hO).fresh_tab 6 (fun n => decide (n % 4 = 0)) rfl fun t => ?_
  have hf := flush6 (adm m hO) t
  by_cases h3 : t.val % 4 = 3
  · rw [hf.mpr h3, Bool.true_or]
    exact decide_eq_true (by omega)
  · rw [Bool.eq_false_iff.mpr fun h => h3 (hf.mp h), Bool.false_or, show decide ((t.val + 1) % 4 = 0) = false from decide_eq_false (by omega)]
    by_cases h0 : t.val % 4 = 0
    · rw [first_busy m hO c t h0, Bool.false_and]
    · rw [decide_eq_false h0, Bool.and_false]

/-- Past its first point the result's buffer holds what the point before left. -/
theorem before6 (hO : Ok m) (c : Dev nD) (t : Fin (cfgM m hO).N) (h : ¬t.val % 4 = 0) (d) :
    (dats m hO 0 c).before 6 t d = outs m hO c (t.val - 1) (Nat.lt_of_le_of_lt (Nat.sub_le _ _) t.isLt) := by
  refine ((dats m hO 0 c).before_out_traj 6 rfl (fun _ _ => rfl) (fun s hs hi _ => ?_) t.val t rfl d).trans ?_
  · rw [after6, after6, outs_next m hO c s hs, idle_step m hO c s hi]
  · rw [if_neg (by rw [fresh6 m hO c t.val (le_of_lt t.isLt), decide_eq_true_iff]; exact h), after6]

/-- What a point leaves, whatever the result's buffer held. -/
theorem step_eq (hO : Ok m) (c : Dev nD) (t : Fin (cfgM m hO).N) (d) : stepAt m hO c t ((dats m hO 0 c).before 6 t d) = outs m hO c t.val t.isLt := by
  by_cases h : t.val % 4 = 0
  · exact (outs_first m hO c t h _).symm
  · rw [before6 m hO c t h d, outs_next m hO c t (by omega)]

/-! ## The body's obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t)
    ∗ (dats m hO 0 c).leavesExact 6 t)

theorem leaves6 (hO : Ok m) (c : Dev nD) (t : Fin (cfgM m hO).N) (d) :
    (owns (c : Thread nD τ) (ms6 m hO t) fullShare (stepAt m hO c t ((dats m hO 0 c).before 6 t d)) : sProp 𝕄) ⊢ (dats m hO 0 c).leavesExact 6 t := by
  cases hi : (cfgM m hO).idle 6 ((cfgM m hO).grid.coords t) with
  | false =>
    unfold Dat.leavesExact
    rw [hi]
    exact Entails.of_eq (congrArg (fun z => owns (c : Thread nD τ) (ms6 m hO t) fullShare z) ((step_eq m hO c t d).trans (after6 m hO c t).symm))
  | true =>
    cases hf : ((cfgM m hO).win 6).flush t with
    | false =>
      rw [(dats m hO 0 c).leavesExact_idle 6 t hi hf]
      refine (Entails.of_eq (congrArg (fun z => owns (c : Thread nD τ) (ms6 m hO t) fullShare z) (idle_step m hO c t hi _))).trans ?_
      iintro H
      iexists d
      iexact H
    | true =>
      unfold Dat.leavesExact
      rw [hi, hf]
      exact Entails.of_eq (congrArg (fun z => owns (c : Thread nD τ) (ms6 m hO t) fullShare z) ((step_eq m hO c t d).trans (after6 m hO c t).symm))

set_option maxHeartbeats 800000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3, before4, before5]
  rw [show (dats m hO 0 c).Φ t.succ = (dats m hO 0 c).Φ t.castSucc from rfl,
    show (dats m hO 0 c).owesAt () t.succ = (dats m hO 0 c).owesAt () t.castSucc from rfl,
    after0, after1, after2, after3, after4, after5]
  rw [show (dats m hO 0 c).Φ t.castSucc = iprop(Pipeline.ΦA spec0 c ∗ Pipeline.ΦT pre0 (tbl m) c) from rfl, tables_eq]
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩⟩
  iapply (run_any c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (iblk m hO c 0 t) (iblk m hO c 1 t) (iblk m hO c 2 t) (iblk m hO c 3 t) (iblk m hO c 4 t) (iblk m hO c 5 t) ((dats m hO 0 c).before 6 t d6) (tbl m 0) (tbl m 1) (tbl m 2) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HT2]; · iexact HT2
  iintro ⟨H0, H1, H2, H3, H4, H5, H6, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves6 m hO c t d6)
  iexact H6

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
/-- The program runs to what the call leaves, every counter at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The arguments end as they began, every counter at zero. -/
theorem frame_of_ok (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (args_kept m ρ hO (dats m hO) (A_eq m hO) ((θ_run defs _ _).mono (fun _ h => h.1) (run_main m ρ hO)))
    ((θ_run defs _ _).mono (fun _ h => h.2) (run_main m ρ hO))

end Cert.Moe

end
-- ==== Proof.MoeOk.lean ====
/- The experts' tables in range: what the precondition says of each word, and that every block the index maps name is inside its array. -/
module

public import proofs.«01_k».proof.Defs
public import proofs.«01_k».proof.Proof.MoeFrame
public import proofs.«01_k».proof.Proof.Gen.Kernel2
public import proofs.«01_k».proof.Proof.Gen.Kernel2Ideal
public import proofs.«01_k».proof.Proof.Gen.Pre_tables_in_range
public import Idealize.ShloMosaic.Lib.Affine

@[expose] public section

set_option maxRecDepth 16384

noncomputable section

namespace Cert.Moe

open Cert.Kernel2Ideal Cert.Kernel2Ideal.Gen
open Idealize.ShloMosaic Idealize.ShloMosaic.TcCoe
open Idealize.SL Idealize.SL.Sem

/-- The tables' words: experts among 32, between 1 and 104 blocks used, at most 512 rows of each. -/
structure InRange (be : IVec S104 32) (nu : IVec S1 32) (nv : IVec S104 32) : Prop where
  expert : ∀ y, (be y).toNat < 32
  used_pos : ∀ y, 1 ≤ (nu y).toNat
  used_le : ∀ y, (nu y).toNat ≤ 104
  rows_le : ∀ y, (nv y).toNat ≤ 512

/-- Block `n`'s place in a table. -/
abbrev entry (n : Fin 104) : S104.Idx := fun a => match a with | ⟨0, _⟩ => n
abbrev only : S1.Idx := fun a => match a with | ⟨0, _⟩ => ⟨0, Nat.one_pos⟩

theorem S1_eq (x y : S1.Idx) : x = y := funext fun a => match a with
  | ⟨0, _⟩ => Fin.ext (by have h : (x 0).val < 1 := (x 0).isLt; have h' : (y 0).val < 1 := (y 0).isLt; show (x 0).val = (y 0).val; omega)

theorem in_range {F : FTy → Type} [FloatOps F] {be : IVec S104 32} {nu : IVec S1 32} {nv : IVec S104 32} {x : FVec F S53248x2048 .bf16} {w1 : FVec F S64x2048x4096 .f32} {b1 : FVec F S32x1x4096 .f32}
    {w2 : FVec F S64x2048x2048 .f32} {b2 : FVec F S32x1x2048 .f32} (h : Cert.Pre_tables_in_range.fn (F := F) be nu nv x w1 b1 w2 b2 = fun _ => 1#1) : InRange be nu nv := by
  have and_ofBool (p q : Bool) : IntOp.andi (BitVec.ofBool p) (BitVec.ofBool q) = BitVec.ofBool (p && q) := by
    cases p <;> cases q <;> decide
  have ofBool_one (p : Bool) : (BitVec.ofBool p = 1#1) ↔ p = true := by cases p <;> decide
  have all : ∀ (y : S104.Idx) (z : S1.Idx), (be y).toNat < 32 ∧ 1 ≤ (nu z).toNat ∧ (nu z).toNat ≤ 104 ∧ (nv y).toNat ≤ 512 := by
    intro y z
    have e := congrFun h y
    simp only [Cert.Pre_tables_in_range.fn, Cert.Pre_tables_in_range.fn_part1, andi, cmpi, broadcastInDim, constantI, IntOp.cmpi, and_ofBool, ofBool_one,
      Bool.and_eq_true] at e
    obtain ⟨⟨⟨⟨⟨h1, h2⟩, h3⟩, h4⟩, h5⟩, h6⟩ := e
    have key : ∀ w, nu w = nu z := fun w => congrArg nu (S1_eq w z)
    rw [key] at h3 h4
    simp only [BitVec.sle, BitVec.slt, decide_eq_true_eq, BitVec.toInt, BitVec.toNat_ofNat] at h1 h2 h3 h4 h5 h6
    have l1 := (be y).isLt
    have l2 := (nu z).isLt
    have l3 := (nv y).isLt
    generalize (be y).toNat = a at h1 h2 l1 ⊢
    generalize (nu z).toNat = b at h3 h4 l2 ⊢
    generalize (nv y).toNat = d at h5 h6 l3 ⊢
    refine ⟨?_, ?_, ?_, ?_⟩ <;> clear * - h1 h2 h3 h4 h5 h6 l1 l2 l3 <;> omega
  have y0 : S104.Idx := entry 0
  have z0 : S1.Idx := only
  exact ⟨fun y => (all y z0).1, fun z => (all y0 z).2.1, fun z => (all y0 z).2.2.1, fun y => (all y z0).2.2.2⟩

variable {F : FTy → Type} [FloatOps F]

/-- The tables of a launch, in range. -/
abbrev Good (pf : pre0.Contents (Elt F)) : Prop := InRange (pf 0) (pf 1) (pf 2)

theorem coord_entry (i : grid0.Coords) : (k0_off1 i) 0 = (i 0).val := by
  have h : (i 0).val < 104 := (i 0).isLt
  show (BitVec.ofNat 32 (i 0).val).toNat = (i 0).val
  rw [BitVec.toNat_ofNat]; omega

theorem word0 (pf : pre0.Contents (Elt F)) (i : grid0.Coords) :
    pf.at 0 (Rect.unit (s := S104) ![(Scalar.indexCast (BitVec.ofNat 32 (i 0).val) : Index).toNat] S1.size (k0_off1_inb i)) numel1_S1 = pf 0 (entry (i 0)) := by
  unfold Pipeline.Prefetch.Contents.at
  refine congrArg (pf 0) (funext fun a => match a with | ⟨0, _⟩ => Fin.ext ?_)
  have e := coord_entry i
  show (k0_off1 i) 0 + 1 * 0 = (i 0).val
  omega

theorem wordN (pf : pre0.Contents (Elt F)) : pf.at 1 (Rect.unit (s := S1) ![0] S1.size inb_S1_S1_0) numel1_S1 = pf 1 only := by
  unfold Pipeline.Prefetch.Contents.at
  exact congrArg (pf 1) (S1_eq _ _)

theorem ix1 (pf : pre0.Contents (Elt F)) (i : grid0.Coords) : cc0_transform_1 k0_off1_inb numel1_S1 pf i = ![(pf 0 (entry (i 0))).toNat, 0, (i 1).val] := by
  have h : (i 1).val < 4 := (i 1).isLt
  unfold cc0_transform_1
  dsimp only
  rw [word0]
  have e : Scalar.addi 0#32 (pf 0 (entry (i 0))) = pf 0 (entry (i 0)) := BitVec.zero_add _
  rw [e]
  show ![_, 0, (BitVec.ofNat 32 (i 1).val).toNat] = _
  rw [WordCmp.toNat_ofNat_of_lt (show (i 1).val < 2 ^ 32 by omega)]
theorem ix2' (pf : pre0.Contents (Elt F)) (i : grid0.Coords) : cc0_transform_2 k0_off1_inb numel1_S1 pf i = ![(pf 0 (entry (i 0))).toNat, 0, (i 1).val] := by
  have h : (i 1).val < 4 := (i 1).isLt
  unfold cc0_transform_2
  dsimp only
  rw [word0]
  show ![_, 0, (BitVec.ofNat 32 (i 1).val).toNat] = _
  rw [WordCmp.toNat_ofNat_of_lt (show (i 1).val < 2 ^ 32 by omega)]
theorem ix3' (pf : pre0.Contents (Elt F)) (i : grid0.Coords) : cc0_transform_3 k0_off1_inb numel1_S1 pf i = ![(pf 0 (entry (i 0))).toNat, (i 1).val, 0] := by
  have h : (i 1).val < 4 := (i 1).isLt
  unfold cc0_transform_3
  dsimp only
  rw [word0]
  have e : Scalar.addi 0#32 (pf 0 (entry (i 0))) = pf 0 (entry (i 0)) := BitVec.zero_add _
  rw [e]
  show ![_, (BitVec.ofNat 32 (i 1).val).toNat, 0] = _
  rw [WordCmp.toNat_ofNat_of_lt (show (i 1).val < 2 ^ 32 by omega)]
theorem ix4 (pf : pre0.Contents (Elt F)) (i : grid0.Coords) : cc0_transform_4 k0_off1_inb numel1_S1 pf i = ![(pf 0 (entry (i 0))).toNat, 0, 0] := by
  unfold cc0_transform_4
  dsimp only
  rw [word0]
  rfl

theorem last_block (n : ℕ) (hn : n < 104) (u : BitVec 32) (h1 : 1 ≤ u.toNat) (h2 : u.toNat ≤ 104) :
    (Scalar.minsi (BitVec.ofNat 32 n) (Scalar.subi u 1#32)).toNat = min n (u.toNat - 1) := by
  have e : (Scalar.subi u 1#32).toNat = u.toNat - 1 := by
    show (u - 1#32).toNat = _
    rw [BitVec.toNat_sub, BitVec.toNat_ofNat]
    have := u.isLt
    omega
  generalize Scalar.subi u 1#32 = v at e
  have d : Scalar.minsi (BitVec.ofNat 32 n) v = if (BitVec.ofNat 32 n).slt v = true then BitVec.ofNat 32 n else v := rfl
  have hv : v.toInt = (v.toNat : Int) := by rw [BitVec.toInt]; split <;> omega
  have hc : (BitVec.ofNat 32 n).slt v = true ↔ n < v.toNat := by
    rw [BitVec.slt, decide_eq_true_iff, WordCmp.toInt_ofNat_of_lt (by omega), hv, Int.ofNat_lt]
  rw [d]
  by_cases hlt : n < v.toNat
  · rw [if_pos (hc.mpr hlt), WordCmp.toNat_ofNat_of_lt (by omega)]
    clear hc d hv
    omega
  · rw [if_neg fun h => hlt (hc.mp h)]
    clear hc d hv
    omega

theorem ix0' (pf : pre0.Contents (Elt F)) (h : Good pf) (i : grid0.Coords) : cc0_transform_0 inb_S1_S1_0 numel1_S1 pf i = ![min (i 0).val ((pf 1 only : BitVec 32).toNat - 1), 0] := by
  have hi : (i 0).val < 104 := (i 0).isLt
  unfold cc0_transform_0
  dsimp only
  rw [wordN, last_block _ hi _ (h.used_pos only) (h.used_le only)]
  rfl

theorem ok_of_good (pf : pre0.Contents (Elt F)) (h : Good pf) : ok0 pf := by
  refine ⟨fun i => ⟨?_, .inr (Affine.block_words_dvd (of_decide_eq_true rfl) (by decide))⟩, fun i => ⟨?_, .inl rfl⟩, fun i => ⟨?_, .inl rfl⟩, fun i => ⟨?_, .inl rfl⟩, fun i => ⟨?_, .inl rfl⟩⟩
  all_goals
    have h0 : (i 0).val < 104 := (i 0).isLt
    have h1 : (i 1).val < 4 := (i 1).isLt
    have he : ∀ n, (pf 0 (entry n) : BitVec 32).toNat < 32 := fun n => h.expert (entry n)
  · rw [ix0' pf h i]
    intro a
    match a with
    | ⟨0, _⟩ => show (min (i 0).val _ + 1) * 512 ≤ 53248; omega
    | ⟨1, _⟩ => show (0 + 1) * 2048 ≤ 2048; omega
  · rw [ix1 pf i]
    have := he (i 0)
    intro a
    match a with
    | ⟨0, _⟩ => show ((pf 0 (entry (i 0)) : BitVec 32).toNat + 1) * 1 ≤ 64; omega
    | ⟨1, _⟩ => show (0 + 1) * 2048 ≤ 2048; omega
    | ⟨2, _⟩ => show ((i 1).val + 1) * 1024 ≤ 4096; omega
  · rw [ix2' pf i]
    have := he (i 0)
    intro a
    match a with
    | ⟨0, _⟩ => show ((pf 0 (entry (i 0)) : BitVec 32).toNat + 1) * 1 ≤ 32; omega
    | ⟨1, _⟩ => show (0 + 1) * 1 ≤ 1; omega
    | ⟨2, _⟩ => show ((i 1).val + 1) * 1024 ≤ 4096; omega
  · rw [ix3' pf i]
    have := he (i 0)
    intro a
    match a with
    | ⟨0, _⟩ => show ((pf 0 (entry (i 0)) : BitVec 32).toNat + 1) * 1 ≤ 64; omega
    | ⟨1, _⟩ => show ((i 1).val + 1) * 512 ≤ 2048; omega
    | ⟨2, _⟩ => show (0 + 1) * 2048 ≤ 2048; omega
  · rw [ix4 pf i]
    have := he (i 0)
    intro a
    match a with
    | ⟨0, _⟩ => show ((pf 0 (entry (i 0)) : BitVec 32).toNat + 1) * 1 ≤ 32; omega
    | ⟨1, _⟩ => show (0 + 1) * 1 ≤ 1; omega
    | ⟨2, _⟩ => show (0 + 1) * 2048 ≤ 2048; omega

variable (m : (ℓ : Loc nD τ sig) → Buf (Elt F) ℓ) (ρ : Dev nD → PrngReg)

/-- The tables a program starts from, in range. -/
abbrev GoodM : Prop := ∀ c : Dev nD, InRange (m ((c : Thread nD τ).loc main_arg0)) (m ((c : Thread nD τ).loc main_arg1)) (m ((c : Thread nD τ).loc main_arg2))

theorem tbl0 : tbl m 0 = m (((0 : Dev nD) : Thread nD τ).loc main_arg0) := V_main_arg0 m 0
theorem tbl1 : tbl m 1 = m (((0 : Dev nD) : Thread nD τ).loc main_arg1) := V_main_arg1 m 0
theorem tbl2 : tbl m 2 = m (((0 : Dev nD) : Thread nD τ).loc main_arg2) := V_main_arg2 m 0

theorem good_tbl (h : GoodM m) : Good (tbl m) := by
  have h' := h 0
  unfold Good
  rw [tbl0, tbl1, tbl2]
  exact h'

theorem ok_of_range (h : GoodM m) : Ok m := ok_of_good (tbl m) (good_tbl m h)

/-! ## The frames -/

theorem frame_ideal (m : (ℓ : Loc nD τ sig) → Buf (Elt Ideal) ℓ) (ρ : Dev nD → PrngReg) (h : Cert.Pre_Kernel2Ideal m) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  frame_of_ok m ρ (ok_of_range m fun c => in_range (h c))

theorem frame_claim_ideal : Cert.quiescent_Kernel2Ideal := fun m ρ h => frame_ideal m ρ h

end Cert.Moe

end
-- ==== Proof.MoeBits.lean ====
/- The experts' call at the machine's floats. -/
module

public import proofs.«01_k».proof.Proof.MoeOk

@[expose] public section

set_option maxRecDepth 16384

noncomputable section

namespace Cert.Moe

open Cert.Kernel2Ideal Cert.Kernel2Ideal.Gen
open Idealize.ShloMosaic Idealize.ShloMosaic.TcCoe
open Idealize.SL Idealize.SL.Sem

set_option maxHeartbeats 4000000 in
theorem same_defs₀ : (Cert.Kernel2.defs₀ (F := Bits)) = (Cert.Kernel2Ideal.defs₀ (F := Bits)) := by
  unfold Cert.Kernel2.defs₀ Cert.Kernel2Ideal.defs₀
  refine congrArg Defs.onTc (funext fun ℓ => funext fun a => ?_)
  match ℓ, a with
  | ⟨0, _⟩, (t, s) => rfl

set_option maxHeartbeats 4000000 in
theorem same_defs : (Cert.Kernel2.defs (F := Bits)) = (Cert.Kernel2Ideal.defs (F := Bits)) :=
  congrArg (Pipeline.defs (Cert.Kernel2Ideal.pcfgs (F := Bits))) same_defs₀

set_option maxHeartbeats 4000000 in
/-- The program at the machine's floats has the same text, so the same run. -/
theorem frame_claim_kernel : Cert.quiescent_Kernel2 := fun m ρ h => by
  rw [same_defs]
  exact frame_of_ok (F := Bits) m ρ (ok_of_range (F := Bits) m fun c => in_range (h c))

end Cert.Moe

end
-- ==== Proof.MoePay.lean ====
/- The experts' payloads at an element. -/
module

public import proofs.«01_k».proof.Proof.Gen.Kernel2Ideal.Skeleton
public import proofs.«01_k».proof.Proof.MoeMath
public import Idealize.ShloMosaic.Lib.Pointwise

@[expose] public section

set_option maxRecDepth 16384

noncomputable section

namespace Cert.Moe

open Cert.Kernel2Ideal Cert.Kernel2Ideal.Gen Idealize.ShloMosaic

/-- The hidden value of row `r` at column `n` of a block of the first weight. -/
def hidB {R : Nat} (x : (⟨2, ![R, 2048]⟩ : Shape).Idx → EReal) (w : S1x2048x1024.Idx → EReal) (b : S1x1x1024.Idx → EReal) (r : Fin R) (n : Fin 1024) : EReal :=
  (∑ k : Fin 2048, x (ix2 r k) * w (ix3 0 k n)) + b (ix3 0 0 n)

/-- The gated unit of column `2 k` and the next. -/
def unitB {R : Nat} (x : (⟨2, ![R, 2048]⟩ : Shape).Idx → EReal) (w : S1x2048x1024.Idx → EReal) (b : S1x1x1024.Idx → EReal) (r : Fin R) (k : Fin 512) : EReal :=
  gate (hidB x w b r ⟨2 * k.val, by omega⟩) (hidB x w b r ⟨2 * k.val + 1, by omega⟩)

/-- A sum of gated columns, the gate at a column and the linear part at the next, over the even ones. -/
theorem sum_gate (h : Fin 1024 → EReal) (s : Fin 1024 → EReal) (k : Fin 512) (hs : ∀ j : Fin 1024, s j = if j.val = 2 * k.val then 1 else 0) :
    (∑ j : Fin 1024, gate (h j) (h ⟨(j.val + 1024 - 1023) % 1024, Nat.mod_lt _ (by decide)⟩) * s j) = gate (h ⟨2 * k.val, by omega⟩) (h ⟨2 * k.val + 1, by omega⟩) := by
  rw [sum_even (fun j => gate (h j) (h ⟨(j.val + 1024 - 1023) % 1024, Nat.mod_lt _ (by decide)⟩)) s k hs]
  have e : (⟨(2 * k.val + 1024 - 1023) % 1024, Nat.mod_lt _ (by decide)⟩ : Fin 1024) = ⟨2 * k.val + 1, by omega⟩ :=
    Fin.ext (by show (2 * k.val + 1024 - 1023) % 1024 = 2 * k.val + 1; omega)
  exact congrArg (fun n => gate (h ⟨2 * k.val, by omega⟩) (h n)) e

theorem units128 (x : Vec Ideal S128x2048 .bf16) (w : Vec Ideal S1x2048x1024 .f32) (b : Vec Ideal S1x1x1024 .f32) (s : Vec Ideal S1024x512 .bf16)
    (hs : ∀ j k, s (ix2 j k) = if j.val = 2 * k.val then (1 : EReal) else 0) (r : Fin 128) (k : Fin 512) :
    k0_pay3 (F := Ideal) x w b s (ix2 r k) = unitB x w b r k := by
  refine Eq.trans ?_ (sum_gate (hidB x w b r) (fun j => s (ix2 j k)) k fun j => hs j k)
  unfold_payloads
  pointwise
  rfl

theorem more128 (y : Vec Ideal S128x2048 .f32) (a : Vec Ideal S128x512 .bf16) (w : Vec Ideal S1x512x2048 .f32) (r : Fin 128) (d : Fin 2048) :
    k0_pay11 (F := Ideal) (k0_pay2 y) a w (ix2 r d) = y (ix2 r d) + ∑ k : Fin 512, a (ix2 r k) * w (ix3 0 k d) := by
  unfold_payloads
  pointwise

theorem units256 (x : Vec Ideal S256x2048 .bf16) (w : Vec Ideal S1x2048x1024 .f32) (b : Vec Ideal S1x1x1024 .f32) (s : Vec Ideal S1024x512 .bf16)
    (hs : ∀ j k, s (ix2 j k) = if j.val = 2 * k.val then (1 : EReal) else 0) (r : Fin 256) (k : Fin 512) :
    k0_pay5 (F := Ideal) x w b s (ix2 r k) = unitB x w b r k := by
  refine Eq.trans ?_ (sum_gate (hidB x w b r) (fun j => s (ix2 j k)) k fun j => hs j k)
  unfold_payloads
  pointwise
  rfl

theorem more256 (y : Vec Ideal S256x2048 .f32) (a : Vec Ideal S256x512 .bf16) (w : Vec Ideal S1x512x2048 .f32) (r : Fin 256) (d : Fin 2048) :
    k0_pay12 (F := Ideal) (k0_pay4 y) a w (ix2 r d) = y (ix2 r d) + ∑ k : Fin 512, a (ix2 r k) * w (ix3 0 k d) := by
  unfold_payloads
  pointwise

theorem units384 (x : Vec Ideal S384x2048 .bf16) (w : Vec Ideal S1x2048x1024 .f32) (b : Vec Ideal S1x1x1024 .f32) (s : Vec Ideal S1024x512 .bf16)
    (hs : ∀ j k, s (ix2 j k) = if j.val = 2 * k.val then (1 : EReal) else 0) (r : Fin 384) (k : Fin 512) :
    k0_pay7 (F := Ideal) x w b s (ix2 r k) = unitB x w b r k := by
  refine Eq.trans ?_ (sum_gate (hidB x w b r) (fun j => s (ix2 j k)) k fun j => hs j k)
  unfold_payloads
  pointwise
  rfl

theorem more384 (y : Vec Ideal S384x2048 .f32) (a : Vec Ideal S384x512 .bf16) (w : Vec Ideal S1x512x2048 .f32) (r : Fin 384) (d : Fin 2048) :
    k0_pay13 (F := Ideal) (k0_pay6 y) a w (ix2 r d) = y (ix2 r d) + ∑ k : Fin 512, a (ix2 r k) * w (ix3 0 k d) := by
  unfold_payloads
  pointwise

theorem units512 (x : Vec Ideal S512x2048 .bf16) (w : Vec Ideal S1x2048x1024 .f32) (b : Vec Ideal S1x1x1024 .f32) (s : Vec Ideal S1024x512 .bf16)
    (hs : ∀ j k, s (ix2 j k) = if j.val = 2 * k.val then (1 : EReal) else 0) (r : Fin 512) (k : Fin 512) :
    k0_pay9 (F := Ideal) x w b s (ix2 r k) = unitB x w b r k := by
  refine Eq.trans ?_ (sum_gate (hidB x w b r) (fun j => s (ix2 j k)) k fun j => hs j k)
  unfold_payloads
  pointwise
  rfl

theorem more512 (y : Vec Ideal S512x2048 .f32) (a : Vec Ideal S512x512 .bf16) (w : Vec Ideal S1x512x2048 .f32) (r : Fin 512) (d : Fin 2048) :
    k0_pay14 (F := Ideal) (k0_pay8 y) a w (ix2 r d) = y (ix2 r d) + ∑ k : Fin 512, a (ix2 r k) * w (ix3 0 k d) := by
  unfold_payloads
  pointwise

theorem pay10_apply (b : Vec Ideal S1x1x2048 .f32) (r : Fin 512) (d : Fin 2048) :
    k0_pay10 (F := Ideal) b (ix2 r d) = b (ix3 0 0 d) := by
  unfold_payloads
  pointwise

end Cert.Moe

end
-- ==== Proof.MoeRow.lean ====
/- What a point of the experts' call leaves in a used row: the bias at the first point, the block's own row later, increased by the units' share. -/
module

public import proofs.«01_k».proof.Proof.MoePay
public import proofs.«01_k».proof.Proof.MoeOk

@[expose] public section

set_option maxRecDepth 16384

noncomputable section

namespace Cert.Moe

open Cert.Kernel2Ideal Cert.Kernel2Ideal.Gen Idealize.ShloMosaic Idealize.ShloMosaic.TcCoe

variable (x0 : Vec Ideal S512x2048 .bf16) (x1 : Vec Ideal S1x2048x1024 .f32) (x2 : Vec Ideal S1x1x1024 .f32) (x3 : Vec Ideal S1x512x2048 .f32)
  (x4 : Vec Ideal S1x1x2048 .f32) (x5 : Vec Ideal S1024x512 .bf16) (y : Vec Ideal S512x2048 .f32)

/-- What the units of one block of the weights give to an element. -/
def shareB (r : Fin 512) (d : Fin 2048) : EReal := ∑ k : Fin 512, unitB x0 x1 x2 r k * x3 (ix3 0 k d)

theorem first128 (e : EltTy) (z : Vec Ideal S512x2048 e) (r : Fin 128) (k : Fin 2048) :
    VecWindow.window (s := S512x2048) z ![0, 0] S128x2048.size inb_S512x2048_S128x2048_0_0 (ix2 r k) = z (ix2 ⟨r.val, by omega⟩ k) := by
  unfold VecWindow.window
  exact congrArg z (funext fun a => match a with
    | ⟨0, _⟩ => Fin.ext (by show 0 + 1 * r.val = r.val; omega)
    | ⟨1, _⟩ => Fin.ext (by show 0 + 1 * k.val = k.val; omega))

theorem gain128_apply (hs : ∀ j k, x5 (ix2 j k) = if j.val = 2 * k.val then (1 : EReal) else 0) (r : Fin 512) (hr : r.val < 128) (d : Fin 2048) :
    gain128 x0 x1 x2 x3 x4 x5 y (ix2 r d) = y (ix2 r d) + shareB x0 x1 x2 x3 r d := by
  have hin : ∀ a : Fin S512x2048.rank, (![0, 0] : Fin 2 → Nat) a ≤ ((ix2 r d : S512x2048.Idx) a).val
      ∧ ((ix2 r d : S512x2048.Idx) a).val < (![0, 0] : Fin 2 → Nat) a + S128x2048.size a := fun a => match a with
    | ⟨0, _⟩ => ⟨Nat.zero_le _, by show r.val < 0 + 128; omega⟩
    | ⟨1, _⟩ => ⟨Nat.zero_le _, by show d.val < 0 + 2048; omega⟩
  unfold gain128 VecWindow.put
  rw [dif_pos hin]
  have e : Rect.unitLocal (s := S512x2048) (off := ![0, 0]) (size := S128x2048.size) (ix2 r d) hin = (ix2 ⟨r.val, hr⟩ d : S128x2048.Idx) :=
    funext fun a => match a with | ⟨0, _⟩ => rfl | ⟨1, _⟩ => rfl
  refine (congrArg _ e).trans ?_
  rw [more128, first128]
  refine congrArg (y (ix2 r d) + ·) ?_
  unfold shareB
  refine Finset.sum_congr rfl fun k _ => ?_
  rw [units128 _ _ _ _ hs]
  have eh : ∀ n, hidB (VecWindow.window (s := S512x2048) x0 ![0, 0] S128x2048.size inb_S512x2048_S128x2048_0_0) x1 x2 (⟨r.val, hr⟩ : Fin 128) n = hidB x0 x1 x2 r n :=
    fun n => congrArg (· + x2 (ix3 0 0 n)) (Finset.sum_congr rfl fun q _ => congrArg (· * x1 (ix3 0 q n)) (first128 _ x0 ⟨r.val, hr⟩ q))
  unfold unitB
  rw [eh, eh]

theorem first256 (e : EltTy) (z : Vec Ideal S512x2048 e) (r : Fin 256) (k : Fin 2048) :
    VecWindow.window (s := S512x2048) z ![0, 0] S256x2048.size inb_S512x2048_S256x2048_0_0 (ix2 r k) = z (ix2 ⟨r.val, by omega⟩ k) := by
  unfold VecWindow.window
  exact congrArg z (funext fun a => match a with
    | ⟨0, _⟩ => Fin.ext (by show 0 + 1 * r.val = r.val; omega)
    | ⟨1, _⟩ => Fin.ext (by show 0 + 1 * k.val = k.val; omega))

theorem gain256_apply (hs : ∀ j k, x5 (ix2 j k) = if j.val = 2 * k.val then (1 : EReal) else 0) (r : Fin 512) (hr : r.val < 256) (d : Fin 2048) :
    gain256 x0 x1 x2 x3 x4 x5 y (ix2 r d) = y (ix2 r d) + shareB x0 x1 x2 x3 r d := by
  have hin : ∀ a : Fin S512x2048.rank, (![0, 0] : Fin 2 → Nat) a ≤ ((ix2 r d : S512x2048.Idx) a).val
      ∧ ((ix2 r d : S512x2048.Idx) a).val < (![0, 0] : Fin 2 → Nat) a + S256x2048.size a := fun a => match a with
    | ⟨0, _⟩ => ⟨Nat.zero_le _, by show r.val < 0 + 256; omega⟩
    | ⟨1, _⟩ => ⟨Nat.zero_le _, by show d.val < 0 + 2048; omega⟩
  unfold gain256 VecWindow.put
  rw [dif_pos hin]
  have e : Rect.unitLocal (s := S512x2048) (off := ![0, 0]) (size := S256x2048.size) (ix2 r d) hin = (ix2 ⟨r.val, hr⟩ d : S256x2048.Idx) :=
    funext fun a => match a with | ⟨0, _⟩ => rfl | ⟨1, _⟩ => rfl
  refine (congrArg _ e).trans ?_
  rw [more256, first256]
  refine congrArg (y (ix2 r d) + ·) ?_
  unfold shareB
  refine Finset.sum_congr rfl fun k _ => ?_
  rw [units256 _ _ _ _ hs]
  have eh : ∀ n, hidB (VecWindow.window (s := S512x2048) x0 ![0, 0] S256x2048.size inb_S512x2048_S256x2048_0_0) x1 x2 (⟨r.val, hr⟩ : Fin 256) n = hidB x0 x1 x2 r n :=
    fun n => congrArg (· + x2 (ix3 0 0 n)) (Finset.sum_congr rfl fun q _ => congrArg (· * x1 (ix3 0 q n)) (first256 _ x0 ⟨r.val, hr⟩ q))
  unfold unitB
  rw [eh, eh]

theorem first384 (e : EltTy) (z : Vec Ideal S512x2048 e) (r : Fin 384) (k : Fin 2048) :
    VecWindow.window (s := S512x2048) z ![0, 0] S384x2048.size inb_S512x2048_S384x2048_0_0 (ix2 r k) = z (ix2 ⟨r.val, by omega⟩ k) := by
  unfold VecWindow.window
  exact congrArg z (funext fun a => match a with
    | ⟨0, _⟩ => Fin.ext (by show 0 + 1 * r.val = r.val; omega)
    | ⟨1, _⟩ => Fin.ext (by show 0 + 1 * k.val = k.val; omega))

theorem gain384_apply (hs : ∀ j k, x5 (ix2 j k) = if j.val = 2 * k.val then (1 : EReal) else 0) (r : Fin 512) (hr : r.val < 384) (d : Fin 2048) :
    gain384 x0 x1 x2 x3 x4 x5 y (ix2 r d) = y (ix2 r d) + shareB x0 x1 x2 x3 r d := by
  have hin : ∀ a : Fin S512x2048.rank, (![0, 0] : Fin 2 → Nat) a ≤ ((ix2 r d : S512x2048.Idx) a).val
      ∧ ((ix2 r d : S512x2048.Idx) a).val < (![0, 0] : Fin 2 → Nat) a + S384x2048.size a := fun a => match a with
    | ⟨0, _⟩ => ⟨Nat.zero_le _, by show r.val < 0 + 384; omega⟩
    | ⟨1, _⟩ => ⟨Nat.zero_le _, by show d.val < 0 + 2048; omega⟩
  unfold gain384 VecWindow.put
  rw [dif_pos hin]
  have e : Rect.unitLocal (s := S512x2048) (off := ![0, 0]) (size := S384x2048.size) (ix2 r d) hin = (ix2 ⟨r.val, hr⟩ d : S384x2048.Idx) :=
    funext fun a => match a with | ⟨0, _⟩ => rfl | ⟨1, _⟩ => rfl
  refine (congrArg _ e).trans ?_
  rw [more384, first384]
  refine congrArg (y (ix2 r d) + ·) ?_
  unfold shareB
  refine Finset.sum_congr rfl fun k _ => ?_
  rw [units384 _ _ _ _ hs]
  have eh : ∀ n, hidB (VecWindow.window (s := S512x2048) x0 ![0, 0] S384x2048.size inb_S512x2048_S384x2048_0_0) x1 x2 (⟨r.val, hr⟩ : Fin 384) n = hidB x0 x1 x2 r n :=
    fun n => congrArg (· + x2 (ix3 0 0 n)) (Finset.sum_congr rfl fun q _ => congrArg (· * x1 (ix3 0 q n)) (first384 _ x0 ⟨r.val, hr⟩ q))
  unfold unitB
  rw [eh, eh]

theorem gain512_apply (hs : ∀ j k, x5 (ix2 j k) = if j.val = 2 * k.val then (1 : EReal) else 0) (r : Fin 512) (d : Fin 2048) :
    gain512 x0 x1 x2 x3 x4 x5 y (ix2 r d) = y (ix2 r d) + shareB x0 x1 x2 x3 r d := by
  unfold gain512
  rw [more512]
  unfold shareB
  refine congrArg (y (ix2 r d) + ·) (Finset.sum_congr rfl fun k _ => ?_)
  rw [units512 _ _ _ _ hs]

/-- A used row after a point: the bias or what it was, and the share of the point's units. -/
theorem step_apply {i : grid0.Coords} {u w : BitVec 32} (hu : used i u) (hs : ∀ j k, x5 (ix2 j k) = if j.val = 2 * k.val then (1 : EReal) else 0)
    (r : Fin 512) (hr : (r.val : Int) < w.toInt) (hw : w.toInt ≤ 512) (d : Fin 2048) :
    step i u w x0 x1 x2 x3 x4 x5 y (ix2 r d) = (if (i 1).val = 0 then x4 (ix3 0 0 d) else y (ix2 r d)) + shareB x0 x1 x2 x3 r d := by
  have hstart : start i u x4 y (ix2 r d) = if (i 1).val = 0 then x4 (ix3 0 0 d) else y (ix2 r d) := by
    unfold start
    by_cases h : (i 1).val = 0
    · rw [if_pos ((cond1_iff i u).mpr ⟨h, hu⟩), if_pos h, pay10_apply]
    · rw [if_neg fun h' => h ((cond1_iff i u).mp h').1, if_neg h]
  rw [← hstart]
  have e2 := cond2_iff i u w
  have e3 := cond3_iff i u w
  have e4 := cond4_iff i u w
  have e5 := cond5_iff i u w
  rw [rows_used hu] at e2 e3 e4 e5
  unfold step
  rw [if_neg fun h => ((cond6_iff i u).mp h).1 hu]
  generalize w.toInt = n at hr hw e2 e3 e4 e5
  by_cases h2 : k0_cond2 i u w = 1#1
  · rw [if_pos h2]
    exact gain128_apply x0 x1 x2 x3 x4 x5 _ hs r (by have := (e2.mp h2).2; clear e2 e3 e4 e5 h2; omega) d
  rw [if_neg h2]
  by_cases h3 : k0_cond3 i u w = 1#1
  · rw [if_pos h3]
    exact gain256_apply x0 x1 x2 x3 x4 x5 _ hs r (by have := (e3.mp h3).2; clear e2 e3 e4 e5 h2 h3; omega) d
  rw [if_neg h3]
  by_cases h4 : k0_cond4 i u w = 1#1
  · rw [if_pos h4]
    exact gain384_apply x0 x1 x2 x3 x4 x5 _ hs r (by have := (e4.mp h4).2; clear e2 e3 e4 e5 h2 h3 h4; omega) d
  rw [if_neg h4]
  have h5 : k0_cond5 i u w = 1#1 := by
    have n2 : ¬(0 < n ∧ n ≤ 128) := fun h => h2 (e2.mpr h)
    have n3 : ¬(128 < n ∧ n ≤ 256) := fun h => h3 (e3.mpr h)
    have n4 : ¬(256 < n ∧ n ≤ 384) := fun h => h4 (e4.mpr h)
    refine e5.mpr ?_
    clear e2 e3 e4 e5 h2 h3 h4
    omega
  rw [if_pos h5]
  exact gain512_apply x0 x1 x2 x3 x4 x5 _ hs r d

end Cert.Moe

end
-- ==== Proof.MoeBlock.lean ====
/- The blocks the experts' call stages, at an element: which element of which argument each is; and the column selection the host line builds. -/
module

public import proofs.«01_k».proof.Proof.MoeRow
public import Idealize.ShloMosaic.Lib.StableHlo.RunRead

@[expose] public section

set_option maxRecDepth 16384

noncomputable section

namespace Cert.Moe

open Cert.Kernel2Ideal Cert.Kernel2Ideal.Gen Idealize.ShloMosaic Idealize.ShloMosaic.TcCoe Cert.Grid2

variable (m : (ℓ : Loc nD τ sig) → Buf (Elt Ideal) ℓ)

/-! ## The arguments -/

abbrev argX (c : Dev nD) : S53248x2048.Idx → EReal := m ((c : Thread nD τ).loc main_arg3)
abbrev argW1 (c : Dev nD) : S64x2048x4096.Idx → EReal := m ((c : Thread nD τ).loc main_arg4)
abbrev argB1 (c : Dev nD) : S32x1x4096.Idx → EReal := m ((c : Thread nD τ).loc main_arg5)
abbrev argW2 (c : Dev nD) : S64x2048x2048.Idx → EReal := m ((c : Thread nD τ).loc main_arg6)
abbrev argB2 (c : Dev nD) : S32x1x2048.Idx → EReal := m ((c : Thread nD τ).loc main_arg7)

/-- The expert of point `t`'s block of rows. -/
def expertAt (t : Fin grid0.N) : Nat := (tbl m 0 (entry (grid0.coords t 0)) : BitVec 32).toNat

/-! ## The blocks -/

section
attribute [local irreducible] cc0_transform_0

theorem x_apply (hO : Ok m) (hG : GoodM m) (c : Dev nD) (t : Fin (cfgM m hO).N) (hu : t.val / 4 < (tbl m 1 only : BitVec 32).toNat) (r : Fin 512) (k : Fin 2048) :
    (iblk m hO c 0 t : Vec Ideal S512x2048 .bf16) (ix2 r k) = rd (argX m c) (t.val / 4 * 512 + r.val) k.val := by
  unfold iblk
  show V m c main_arg3 ((((cfgM m hO).win 0).blk t).view.emb (ix2 r k)) = _
  rw [V_main_arg3]
  have e := ix0' (tbl m) (good_tbl m hG) (grid0.coords t)
  have e0 : cc0_transform_0 inb_S1_S1_0 numel1_S1 (tbl m) (grid0.coords t) 0 = t.val / 4 := by
    refine (congrFun e 0).trans ((Nat.min_eq_left (a := (grid0.coords t 0).val) ?_).trans (coord0 t))
    rw [coord0]
    exact Nat.le_sub_one_of_lt hu
  have e1 : cc0_transform_0 inb_S1_S1_0 numel1_S1 (tbl m) (grid0.coords t) 1 = 0 := congrFun e 1
  clear e hu hG
  refine eq_rd_of _ _ ?_ ?_
  · show cc0_transform_0 inb_S1_S1_0 numel1_S1 (tbl m) (grid0.coords t) 0 * 512 + 1 * r.val = _
    rw [e0, Nat.one_mul]
  · show cc0_transform_0 inb_S1_S1_0 numel1_S1 (tbl m) (grid0.coords t) 1 * 2048 + 1 * k.val = _
    rw [e1, Nat.one_mul, Nat.zero_mul, Nat.zero_add]

end

theorem w1_apply (hO : Ok m) (c : Dev nD) (t : Fin (cfgM m hO).N) (k : Fin 2048) (n : Fin 1024) :
    (iblk m hO c 1 t : Vec Ideal S1x2048x1024 .f32) (ix3 0 k n) = rd3 (argW1 m c) (expertAt m t) k.val (t.val % 4 * 1024 + n.val) := by
  unfold iblk
  show V m c main_arg4 ((((cfgM m hO).win 1).blk t).view.emb (ix3 0 k n)) = _
  rw [V_main_arg4]
  have e := ix1 (tbl m) (grid0.coords t)
  have c1 := coord1 t
  refine eq_rd3_of _ _ ?_ ?_ ?_
  · show cc0_transform_1 k0_off1_inb numel1_S1 (tbl m) (grid0.coords t) 0 * 1 + 1 * 0 = _
    rw [e]
    show expertAt m t * 1 + 1 * 0 = _
    omega
  · show cc0_transform_1 k0_off1_inb numel1_S1 (tbl m) (grid0.coords t) 1 * 2048 + 1 * k.val = _
    rw [e]
    show 0 * 2048 + 1 * k.val = _
    omega
  · show cc0_transform_1 k0_off1_inb numel1_S1 (tbl m) (grid0.coords t) 2 * 1024 + 1 * n.val = _
    rw [e]
    show (grid0.coords t 1).val * 1024 + 1 * n.val = _
    omega

theorem b1_apply (hO : Ok m) (c : Dev nD) (t : Fin (cfgM m hO).N) (n : Fin 1024) :
    (iblk m hO c 2 t : Vec Ideal S1x1x1024 .f32) (ix3 0 0 n) = rd3 (argB1 m c) (expertAt m t) 0 (t.val % 4 * 1024 + n.val) := by
  unfold iblk
  show V m c main_arg5 ((((cfgM m hO).win 2).blk t).view.emb (ix3 0 0 n)) = _
  rw [V_main_arg5]
  have e := ix2' (tbl m) (grid0.coords t)
  have c1 := coord1 t
  refine eq_rd3_of _ _ ?_ ?_ ?_
  · show cc0_transform_2 k0_off1_inb numel1_S1 (tbl m) (grid0.coords t) 0 * 1 + 1 * 0 = _
    rw [e]
    show expertAt m t * 1 + 1 * 0 = _
    omega
  · show cc0_transform_2 k0_off1_inb numel1_S1 (tbl m) (grid0.coords t) 1 * 1 + 1 * 0 = _
    rw [e]
    rfl
  · show cc0_transform_2 k0_off1_inb numel1_S1 (tbl m) (grid0.coords t) 2 * 1024 + 1 * n.val = _
    rw [e]
    show (grid0.coords t 1).val * 1024 + 1 * n.val = _
    omega

theorem w2_apply (hO : Ok m) (c : Dev nD) (t : Fin (cfgM m hO).N) (k : Fin 512) (d : Fin 2048) :
    (iblk m hO c 3 t : Vec Ideal S1x512x2048 .f32) (ix3 0 k d) = rd3 (argW2 m c) (expertAt m t) (t.val % 4 * 512 + k.val) d.val := by
  unfold iblk
  show V m c main_arg6 ((((cfgM m hO).win 3).blk t).view.emb (ix3 0 k d)) = _
  rw [V_main_arg6]
  have e := ix3' (tbl m) (grid0.coords t)
  have c1 := coord1 t
  refine eq_rd3_of _ _ ?_ ?_ ?_
  · show cc0_transform_3 k0_off1_inb numel1_S1 (tbl m) (grid0.coords t) 0 * 1 + 1 * 0 = _
    rw [e]
    show expertAt m t * 1 + 1 * 0 = _
    omega
  · show cc0_transform_3 k0_off1_inb numel1_S1 (tbl m) (grid0.coords t) 1 * 512 + 1 * k.val = _
    rw [e]
    show (grid0.coords t 1).val * 512 + 1 * k.val = _
    omega
  · show cc0_transform_3 k0_off1_inb numel1_S1 (tbl m) (grid0.coords t) 2 * 2048 + 1 * d.val = _
    rw [e]
    show 0 * 2048 + 1 * d.val = _
    omega

theorem b2_apply (hO : Ok m) (c : Dev nD) (t : Fin (cfgM m hO).N) (d : Fin 2048) :
    (iblk m hO c 4 t : Vec Ideal S1x1x2048 .f32) (ix3 0 0 d) = rd3 (argB2 m c) (expertAt m t) 0 d.val := by
  unfold iblk
  show V m c main_arg7 ((((cfgM m hO).win 4).blk t).view.emb (ix3 0 0 d)) = _
  rw [V_main_arg7]
  have e := ix4 (tbl m) (grid0.coords t)
  refine eq_rd3_of _ _ ?_ ?_ ?_
  · show cc0_transform_4 k0_off1_inb numel1_S1 (tbl m) (grid0.coords t) 0 * 1 + 1 * 0 = _
    rw [e]
    show expertAt m t * 1 + 1 * 0 = _
    omega
  · show cc0_transform_4 k0_off1_inb numel1_S1 (tbl m) (grid0.coords t) 1 * 1 + 1 * 0 = _
    rw [e]
    rfl
  · show cc0_transform_4 k0_off1_inb numel1_S1 (tbl m) (grid0.coords t) 2 * 2048 + 1 * d.val = _
    rw [e]
    show 0 * 2048 + 1 * d.val = _
    omega

/-! ## The selection of the even columns -/

/-- The host line's last array. -/
theorem V_sel (c : Dev nD) : V m c main_v9 = uitofp (F := Ideal) .bf16 (cmpi .eq
    (broadcastInDim S1024x512 ![0, 1] bcast_S1024x1_S1024x512_0_1 (broadcastInDim S1024x1 ![0] bcast_S1024_S1024x1_0 (iotaInDim S1024 32 0)))
    (broadcastInDim S1024x512 ![0, 1] bcast_S1x512_S1024x512_0_1 (muli (broadcastInDim S1x512 ![] bcast_S_S1x512 (constantI S_ 32 2#32))
      (broadcastInDim S1x512 ![1] bcast_S512_S1x512_1 (iotaInDim S512 32 0))))) := by
  show StableHlo.after hostOps0 (fun b => m (c, b)) (Proc.devRef .tc main_v9) = _
  after_reads_simp

theorem sel_apply (hO : Ok m) (c : Dev nD) (t : Fin (cfgM m hO).N) (j : Fin 1024) (k : Fin 512) :
    (iblk m hO c 5 t : Vec Ideal S1024x512 .bf16) (ix2 j k) = if j.val = 2 * k.val then (1 : EReal) else 0 := by
  have e : (iblk m hO c 5 t : Vec Ideal S1024x512 .bf16) (ix2 j k) = V m c main_v9 (ix2 j k) := by
    unfold iblk
    show V m c main_v9 ((((cfgM m hO).win 5).blk t).view.emb (ix2 j k)) = V m c main_v9 _
    refine congrArg (V m c main_v9) (funext fun a => match a with | ⟨0, _⟩ => Fin.ext ?_ | ⟨1, _⟩ => Fin.ext ?_)
    · show cc0_transform_5 (grid0.coords t) 0 * 1024 + 1 * j.val = _
      show 0 * 1024 + 1 * j.val = j.val
      omega
    · show cc0_transform_5 (grid0.coords t) 1 * 512 + 1 * k.val = _
      show 0 * 512 + 1 * k.val = k.val
      omega
  rw [e, V_sel]
  pointwise
  have hm : IntOp.muli 2#32 (BitVec.ofNat 32 k.val) = BitVec.ofNat 32 (2 * k.val) := (BitVec.ofNat_mul 2 k.val).symm
  have hc : IntOp.cmpi .eq (BitVec.ofNat 32 j.val) (BitVec.ofNat 32 (2 * k.val)) = BitVec.ofBool (BitVec.ofNat 32 j.val == BitVec.ofNat 32 (2 * k.val)) := rfl
  have hi : (BitVec.ofNat 32 j.val == BitVec.ofNat 32 (2 * k.val)) = decide (j.val = 2 * k.val) := by
    rw [Bool.eq_iff_iff, beq_iff_eq, decide_eq_true_iff]
    exact WordCmp.ofNat_eq_ofNat_iff (w := 32) (by omega) (by omega)
  rw [hm, hc, hi]
  by_cases h : j.val = 2 * k.val
  · rw [if_pos h, decide_eq_true h]
    show (((1#1 : BitVec 1).toNat : ℝ) : EReal) = 1
    norm_num
  · rw [if_neg h, decide_eq_false h]
    show (((0#1 : BitVec 1).toNat : ℝ) : EReal) = 0
    norm_num

end Cert.Moe

end
-- ==== Proof.MoeValue.lean ====
/- The array the experts' call leaves: in every used row, the block's expert at that row. -/
module

public import proofs.«01_k».proof.Proof.MoeBlock
public import Idealize.ShloMosaic.Lib.Pipeline.Value

@[expose] public section

set_option maxRecDepth 16384

noncomputable section

namespace Cert.Moe

open Cert.Kernel2Ideal Cert.Kernel2Ideal.Gen Idealize.ShloMosaic Idealize.ShloMosaic.TcCoe Idealize.SL.Sem Cert.Grid2

variable (m : (ℓ : Loc nD τ sig) → Buf (Elt Ideal) ℓ) (ρ : Dev nD → PrngReg)

/-! ## The words -/

/-- How many blocks are used, and how many rows of block `n`. -/
def blocks : Nat := (tbl m 1 only : BitVec 32).toNat
def rowsOf (n : Fin 104) : Nat := (tbl m 2 (entry n) : BitVec 32).toNat

theorem wordU_eq (c : Dev nD) : wordU (F := Ideal) c (tbl m 1) = (tbl m 1 only : BitVec 32) :=
  congrArg (tbl m 1) (S1_eq _ _)

theorem wordR_eq (c : Dev nD) (i : grid0.Coords) : wordR (F := Ideal) c i (tbl m 2) = (tbl m 2 (entry (i 0)) : BitVec 32) := by
  refine congrArg (tbl m 2) (funext fun a => match a with | ⟨0, _⟩ => Fin.ext ?_)
  have h : (i 0).val < 104 := (i 0).isLt
  have e : k0_off2 i 0 = (i 0).val := by
    show (Scalar.minsi (BitVec.ofNat 32 (i 0).val) 103#32).toNat = (i 0).val
    exact (by decide +kernel : ∀ n : Fin 104, (Scalar.minsi (BitVec.ofNat 32 n.val) 103#32).toNat = n.val) (i 0)
  show (k0_off2 i) 0 + 1 * 0 = (i 0).val
  omega

theorem toInt_small (w : BitVec 32) (h : w.toNat ≤ 512) : w.toInt = (w.toNat : Int) := by
  rw [BitVec.toInt]; split <;> omega

/-! ## One point -/

/-- The units' share at a point, of the arguments. -/
theorem share_eq (hO : Ok m) (hG : GoodM m) (c : Dev nD) (t : Fin (cfgM m hO).N) (hu : t.val / 4 < blocks m) (r : Fin 512) (d : Fin 2048) :
    shareB (iblk m hO c 0 t) (iblk m hO c 1 t) (iblk m hO c 2 t) (iblk m hO c 3 t) r d
      = share (argX m c) (argW1 m c) (argB1 m c) (argW2 m c) (expertAt m t) (t.val / 4 * 512 + r.val) d.val (t.val % 4) := by
  have eh : ∀ n : Fin 1024, hidB (R := 512) (iblk m hO c 0 t) (iblk m hO c 1 t) (iblk m hO c 2 t) r n
      = hid (argX m c) (argW1 m c) (argB1 m c) (expertAt m t) (t.val / 4 * 512 + r.val) (t.val % 4 * 1024 + n.val) := fun n => by
    unfold hidB hid
    exact congrArg₂ (· + ·) (Finset.sum_congr rfl fun k _ => congrArg₂ (· * ·) (x_apply m hO hG c t hu r k) (w1_apply m hO c t k n)) (b1_apply m hO c t n)
  unfold shareB share
  refine Finset.sum_congr rfl fun k _ => congrArg₂ (· * ·) ?_ (w2_apply m hO c t k d)
  unfold unitB unitOf
  rw [eh, eh]
  have e0 : t.val % 4 * 1024 + 2 * k.val = 2 * (t.val % 4 * 512 + k.val) := by omega
  have e1 : t.val % 4 * 1024 + (2 * k.val + 1) = 2 * (t.val % 4 * 512 + k.val) + 1 := by omega
  exact congrArg₂ gate (congrArg _ e0) (congrArg _ e1)

/-- What a point leaves in a used row. -/
theorem stepAt_apply (hO : Ok m) (hG : GoodM m) (c : Dev nD) (t : Fin (cfgM m hO).N) (hu : t.val / 4 < blocks m) (r : Fin 512)
    (hr : r.val < rowsOf m (grid0.coords t 0)) (d : Fin 2048) (y : Vec Ideal S512x2048 .f32) :
    stepAt m hO c t y (ix2 r d) = (if t.val % 4 = 0 then rd3 (argB2 m c) (expertAt m t) 0 d.val else y (ix2 r d))
      + share (argX m c) (argW1 m c) (argB1 m c) (argW2 m c) (expertAt m t) (t.val / 4 * 512 + r.val) d.val (t.val % 4) := by
  have g := good_tbl m hG
  have b1 : (tbl m 1 only : BitVec 32).toNat ≤ 104 := g.used_le only
  have b2 : (tbl m 2 (entry (grid0.coords t 0)) : BitVec 32).toNat ≤ 512 := g.rows_le _
  have i1 := toInt_small _ (le_trans b1 (by decide))
  have i2 := toInt_small _ b2
  have hused : used (grid0.coords t) (wordU c (tbl m 1)) := by
    unfold used
    rw [wordU_eq, i1, coord0]
    exact Int.ofNat_lt.mpr hu
  unfold stepAt
  refine (step_apply _ _ _ _ _ _ y hused (sel_apply m hO c t) r (by rw [wordR_eq, i2]; exact Int.ofNat_lt.mpr hr) (by rw [wordR_eq, i2]; exact_mod_cast b2) d).trans ?_
  refine congrArg₂ (· + ·) ?_ (share_eq m hO hG c t hu r d)
  rw [coord1]
  by_cases h : t.val % 4 = 0
  · exact (if_pos h).trans ((b2_apply m hO c t d).trans (if_pos h).symm)
  · exact (if_neg h).trans (if_neg h).symm

/-- The block at the last of its four points. -/
theorem outs_apply (hO : Ok m) (hG : GoodM m) (c : Dev nD) (t : Fin (cfgM m hO).N) (h3 : t.val % 4 = 3) (hu : t.val / 4 < blocks m) (r : Fin 512)
    (hr : r.val < rowsOf m (grid0.coords t 0)) (d : Fin 2048) :
    outs m hO c t.val t.isLt (ix2 r d)
      = expert (argX m c) (argW1 m c) (argB1 m c) (argW2 m c) (argB2 m c) (expertAt m t) (t.val / 4 * 512 + r.val) d.val := by
  have back : ∀ (s : Fin (cfgM m hO).N), s.val / 4 = t.val / 4 → expertAt m s = expertAt m t ∧ r.val < rowsOf m (grid0.coords s 0) := fun s hs => by
    have e : grid0.coords s 0 = grid0.coords t 0 := Fin.ext (by rw [coord0, coord0, hs])
    unfold expertAt
    rw [e]
    exact ⟨rfl, hr⟩
  have at_ : ∀ (s : Fin (cfgM m hO).N), s.val / 4 = t.val / 4 → ∀ y, stepAt m hO c s y (ix2 r d) = (if s.val % 4 = 0 then rd3 (argB2 m c) (expertAt m t) 0 d.val else y (ix2 r d))
      + share (argX m c) (argW1 m c) (argB1 m c) (argW2 m c) (expertAt m t) (t.val / 4 * 512 + r.val) d.val (s.val % 4) := fun s hs y => by
    rw [stepAt_apply m hO hG c s (by rw [hs]; exact hu) r (back s hs).2 d y, (back s hs).1, hs]
  have hN : t.val < (cfgM m hO).N := t.isLt
  have o0 : outs m hO c (t.val - 3) (by omega) (ix2 r d) = rd3 (argB2 m c) (expertAt m t) 0 d.val
      + share (argX m c) (argW1 m c) (argB1 m c) (argW2 m c) (expertAt m t) (t.val / 4 * 512 + r.val) d.val 0 := by
    have e := outs_first m hO c ⟨t.val - 3, by omega⟩ (by show (t.val - 3) % 4 = 0; omega) (k0_pay1 (F := Ideal))
    refine (congrFun e _).trans ((at_ _ (by show (t.val - 3) / 4 = _; omega) _).trans ?_)
    have z : (t.val - 3) % 4 = 0 := by omega
    show (if (t.val - 3) % 4 = 0 then _ else _) + share _ _ _ _ _ _ _ ((t.val - 3) % 4) = _
    rw [if_pos z, z]
  have next : ∀ j : Nat, 1 ≤ j → j ≤ 3 → ∀ (h : t.val - 3 + j < (cfgM m hO).N) (h' : t.val - 3 + (j - 1) < (cfgM m hO).N),
      outs m hO c (t.val - 3 + j) h (ix2 r d) = outs m hO c (t.val - 3 + (j - 1)) h' (ix2 r d)
        + share (argX m c) (argW1 m c) (argB1 m c) (argW2 m c) (expertAt m t) (t.val / 4 * 512 + r.val) d.val j := by
    intro j j1 j3 h h'
    have e := outs_next m hO c ⟨t.val - 3 + j, h⟩ (by show t.val - 3 + j ≠ 0; omega)
    refine (congrFun e _).trans ((at_ _ (by show (t.val - 3 + j) / 4 = _; omega) _).trans ?_)
    have z : (t.val - 3 + j) % 4 = j := by omega
    have z' : t.val - 3 + j - 1 = t.val - 3 + (j - 1) := by omega
    show (if (t.val - 3 + j) % 4 = 0 then _ else _) + share _ _ _ _ _ _ _ ((t.val - 3 + j) % 4) = _
    rw [if_neg (by omega), z]
    congr 2
  have e3 : outs m hO c t.val t.isLt = outs m hO c (t.val - 3 + 3) (by omega) := by congr 1; omega
  rw [e3, next 3 (by decide) (by decide) _ (by omega), next 2 (by decide) (by decide) _ (by omega), next 1 (by decide) (by decide) _ (by omega), expert_eq]
  exact congrArg (fun z => z + _ + _ + _) o0

/-! ## The array -/

/-- Column `d` of row `row` of the result: the block's expert at that row. -/
def value (c : Dev nD) (row d : Nat) : EReal :=
  expert (argX m c) (argW1 m c) (argB1 m c) (argW2 m c) (argB2 m c)
    (if h : row / 512 < 104 then (tbl m 0 (entry ⟨row / 512, h⟩) : BitVec 32).toNat else 0) row d

/-- Row `row` is one of the used rows of a used block. -/
def assigned (row : Nat) : Prop := row / 512 < blocks m ∧ ∀ h : row / 512 < 104, row % 512 < rowsOf m ⟨row / 512, h⟩

/-- Where an element of a point's block lies in the array. -/
def place (hO : Ok m) (t : Fin (cfgM m hO).N) (y : S512x2048.Idx) : S53248x2048.Idx := (((cfgM m hO).win 6).blk t).view.emb y

theorem emb_val (hO : Ok m) (t : Fin (cfgM m hO).N) (y : S512x2048.Idx) :
    (place m hO t y 0).val = t.val / 4 * 512 + (y 0).val ∧ (place m hO t y 1).val = (y 1).val := by
  have c0 := coord0 t
  have h : t.val < 416 := t.isLt
  have e : cc0_transform_6 (grid0.coords t) 0 = t.val / 4 := by
    show (BitVec.ofNat 32 (grid0.coords t 0).val).toNat = _
    rw [c0]
    exact WordCmp.toNat_ofNat_of_lt (by omega)
  constructor
  · show cc0_transform_6 (grid0.coords t) 0 * 512 + 1 * (y 0).val = _
    rw [e, Nat.one_mul]
  · show 0 * 2048 + 1 * (y 1).val = _
    omega

theorem mem_blk (hO : Ok m) (t : Fin (cfgM m hO).N) (i : S53248x2048.Idx) (h : (i 0).val / 512 = t.val / 4) : i ∈ (((cfgM m hO).win 6).blk t).view.set := by
  have h0 : (i 0).val < 53248 := (i 0).isLt
  have h1 : (i 1).val < 2048 := (i 1).isLt
  have e := emb_val m hO t (ix2 ⟨(i 0).val % 512, Nat.mod_lt _ (by decide)⟩ ⟨(i 1).val, h1⟩)
  have ei : place m hO t (ix2 ⟨(i 0).val % 512, Nat.mod_lt _ (by decide)⟩ ⟨(i 1).val, h1⟩) = i := by
    generalize place m hO t _ = p at e ⊢
    have e0 : (p 0).val = t.val / 4 * 512 + (i 0).val % 512 := e.1
    have e1 : (p 1).val = (i 1).val := e.2
    have q : t.val / 4 * 512 + (i 0).val % 512 = (i 0).val := by omega
    exact funext fun a => match a with
      | ⟨0, _⟩ => Fin.ext (e0.trans q)
      | ⟨1, _⟩ => Fin.ext e1
  rw [← ei]
  exact Finset.mem_map_of_mem _ (Finset.mem_univ _)

/-- In every assigned row the result is that value. -/
theorem final (hO : Ok m) (hG : GoodM m) (c : Dev nD) (i : S53248x2048.Idx) (hi : assigned m (i 0).val) :
    (dats m hO 0 c).arrAt 6 (cfgM m hO).N i = value m c (i 0).val (i 1).val := by
  refine (dats m hO 0 c).arrAt_forall_of_cover 6 (fun (i : S53248x2048.Idx) (v : EReal) => assigned m (i 0).val → v = value m c (i 0).val (i 1).val) ?_ ?_ i hi
  · intro t hf (y : S512x2048.Idx) ha
    have h3 := (flush6 (adm m hO) t).mp hf
    change assigned m (place m hO t y 0).val at ha
    show _ = value m c (place m hO t y 0).val (place m hO t y 1).val
    obtain ⟨e0, e1⟩ := emb_val m hO t y
    have h0 : (y 0).val < 512 := (y 0).isLt
    have h1 : (y 1).val < 2048 := (y 1).isLt
    have ht : t.val < 416 := t.isLt
    have q : (t.val / 4 * 512 + (y 0).val) / 512 = t.val / 4 := by omega
    have q' : (t.val / 4 * 512 + (y 0).val) % 512 = (y 0).val := by omega
    have lt : t.val / 4 < 104 := by omega
    have en : (⟨t.val / 4, lt⟩ : Fin 104) = grid0.coords t 0 := Fin.ext (coord0 t).symm
    rw [e0] at ha
    rw [e0, e1]
    have hu : t.val / 4 < blocks m := by have := ha.1; rwa [q] at this
    have hr : (y 0).val < rowsOf m (grid0.coords t 0) := by
      have := ha.2 (by rw [q]; exact lt)
      rw [q'] at this
      have e : (⟨(t.val / 4 * 512 + (y 0).val) / 512, by rw [q]; exact lt⟩ : Fin 104) = grid0.coords t 0 := (Fin.ext q).trans en
      rwa [e] at this
    have v : value m c (t.val / 4 * 512 + (y 0).val) (y 1).val
        = expert (argX m c) (argW1 m c) (argB1 m c) (argW2 m c) (argB2 m c) (expertAt m t) (t.val / 4 * 512 + (y 0).val) (y 1).val := by
      unfold value expertAt
      have hh : (t.val / 4 * 512 + (y 0).val) / 512 < 104 := by rw [q]; exact lt
      have e : (⟨(t.val / 4 * 512 + (y 0).val) / 512, hh⟩ : Fin 104) = grid0.coords t 0 := (Fin.ext q).trans en
      rw [dif_pos hh, e]
    rw [v]
    have ey : y = ix2 ⟨(y 0).val, h0⟩ ⟨(y 1).val, h1⟩ := funext fun a => match a with | ⟨0, _⟩ => rfl | ⟨1, _⟩ => rfl
    have o := outs_apply m hO hG c t h3 hu ⟨(y 0).val, h0⟩ hr ⟨(y 1).val, h1⟩
    refine Eq.trans ?_ o
    refine Eq.trans ?_ (congrArg (outs m hO c t.val t.isLt) ey)
    show (dats m hO 0 c).after 6 t y = _
    rw [after6]
  · intro (i : S53248x2048.Idx)
    have h0 : (i 0).val < 53248 := (i 0).isLt
    have hN := points m hO
    refine ⟨⟨(i 0).val / 512 * 4 + 3, by omega⟩, (flush6 (adm m hO) _).mpr (by show ((i 0).val / 512 * 4 + 3) % 4 = 3; omega), mem_blk m hO _ i ?_⟩
    show (i 0).val / 512 = ((i 0).val / 512 * 4 + 3) / 4
    omega

end Cert.Moe

end
-- ==== Proof.MoeSlab.lean ====
/- Whole slabs of a rank-3 array taken by a column of words, at an element. -/
module

public import Idealize.ShloMosaic.Lib.Pointwise
public import Idealize.ShloMosaic.PureOps

@[expose] public section

noncomputable section

namespace Cert.Moe

open Idealize.ShloMosaic

variable {α : Type} {A B : Nat}

/-- The result's slab `n` is the operand's slab at word `n`. -/
def slabs (A B : Nat) (wf : GatherDims.WF ⟨3, ![32, A, B]⟩ ⟨2, ![104, 1]⟩ ⟨3, ![104, A, B]⟩ [1, 2] [0] [] [0] [] 1 ![1, A, B]) :
    GatherDims ⟨3, ![32, A, B]⟩ ⟨2, ![104, 1]⟩ ⟨3, ![104, A, B]⟩ where
  offsetDims := [1, 2]
  collapsedSliceDims := [0]
  operandBatchingDims := []
  startIndicesBatchingDims := []
  startIndexMap := [0]
  indexVectorDim := 1
  sliceSizes := ![1, A, B]
  wf := wf

theorem slabs_apply (wf : GatherDims.WF ⟨3, ![32, A, B]⟩ ⟨2, ![104, 1]⟩ ⟨3, ![104, A, B]⟩ [1, 2] [0] [] [0] [] 1 ![1, A, B])
    (x : (⟨3, ![32, A, B]⟩ : Shape).Idx → α) (idx : IVec ⟨2, ![104, 1]⟩ 32) (n : Fin 104) (a : Fin A) (b : Fin B) (h : (idx (ix2 n 0)).toNat < 32) :
    Host.gather (slabs A B wf) x idx (ix3 n a b) = x (ix3 ⟨(idx (ix2 n 0)).toNat, h⟩ a b) := by
  unfold Host.gather
  refine congrArg x (funext fun k => Fin.ext ?_)
  show (slabs A B wf).start (ix3 n a b) idx k + (slabs A B wf).batchCoord (ix3 n a b) k + (slabs A B wf).offCoord (ix3 n a b) k = _
  rw [GatherDims.batchCoord_eq_zero _ _ _ List.not_mem_nil, Nat.add_zero]
  match k with
  | ⟨0, _⟩ =>
    rw [GatherDims.offCoord_eq_zero _ _ _ (fun h => ((GatherDims.mem_sKept _ _).mp h).1 (List.mem_singleton.mpr rfl)), Nat.add_zero]
    refine (dif_pos (show (0 : Fin 3) ∈ (slabs A B wf).startIndexMap from List.mem_singleton.mpr rfl)).trans ?_
    have hsi : (slabs A B wf).siIdx (ix3 n a b) ⟨List.idxOf (0 : Fin 3) (slabs A B wf).startIndexMap, List.idxOf_lt_length_iff.2 (List.mem_singleton.mpr rfl)⟩ = ix2 n 0 :=
      funext fun c => match c with | ⟨0, _⟩ => rfl | ⟨1, _⟩ => rfl
    refine (congrArg (fun q => min (idx q).toInt.toNat (32 - 1)) hsi).trans ?_
    show min (idx (ix2 n 0)).toInt.toNat (32 - 1) = (idx (ix2 n 0)).toNat
    have hi : (idx (ix2 n 0)).toInt = ((idx (ix2 n 0)).toNat : Int) := by rw [BitVec.toInt]; split <;> omega
    rw [hi]
    omega
  | ⟨1, h'⟩ =>
    have z : (slabs A B wf).start (ix3 n a b) idx ⟨1, h'⟩ = 0 :=
      dif_neg fun h => absurd (congrArg Fin.val (List.mem_singleton.mp h)) (show ¬1 = 0 by decide)
    rw [z, Nat.zero_add]
    rfl
  | ⟨2, h'⟩ =>
    have z : (slabs A B wf).start (ix3 n a b) idx ⟨2, h'⟩ = 0 :=
      dif_neg fun h => absurd (congrArg Fin.val (List.mem_singleton.mp h)) (show ¬2 = 0 by decide)
    rw [z, Nat.zero_add]
    rfl

end Cert.Moe

end
-- ==== Proof.MoeReference.lean ====
/- The experts' reference: its result at an element, as the expert of the row's block. -/
module

public import proofs.«01_k».proof.Proof.Gen.Reference2Ideal.Run
public import proofs.«01_k».proof.Proof.Gen.Reference2Ideal.Read
public import proofs.«01_k».proof.Proof.MoeMath
public import proofs.«01_k».proof.Proof.MoeSlab

@[expose] public section

noncomputable section

namespace Cert.Moe

open Idealize.ShloMosaic Cert.Grid2 Cert.Reference2Ideal Cert.Reference2Ideal.Gen Cert.Reference2Ideal.Read

/-- A word below 32 is not negative, so the wrapped word is the word. -/
theorem pick (w v : BitVec 32) (h : w.toNat < 32) : Scalar.select (IntOp.cmpi .slt w 0#32) v w = w := by
  have e : w.slt 0#32 = false := by
    rw [BitVec.slt, decide_eq_false_iff_not, BitVec.toInt]
    have : (0#32 : BitVec 32).toInt = 0 := rfl
    rw [this]; split <;> omega
  show Scalar.select (BitVec.ofBool (w.slt 0#32)) v w = w
  rw [e]; rfl

variable (x0 : (⟨S104, .i32⟩ : BufTy).Contents (Elt Ideal)) (x3 : (⟨S53248x2048, .bf16⟩ : BufTy).Contents (Elt Ideal))
  (x4 : (⟨S64x2048x4096, .f32⟩ : BufTy).Contents (Elt Ideal)) (x5 : (⟨S32x1x4096, .f32⟩ : BufTy).Contents (Elt Ideal))
  (x6 : (⟨S64x2048x2048, .f32⟩ : BufTy).Contents (Elt Ideal)) (x7 : (⟨S32x1x2048, .f32⟩ : BufTy).Contents (Elt Ideal))

/-- The expert of block `n`. -/
def expertOf (n : Fin 104) : Nat := BitVec.toNat (w := 32) (x0 (ix1 n))

variable (hx : ∀ n, expertOf x0 n < 32)

include hx in
theorem word8 (n : Fin 104) : val_main_v8 (F := Ideal) x0 (ix2 n 0) = x0 (ix1 n) :=
  (val_main_v8_apply x0 _).trans ((congrArg (val_main_v7 (F := Ideal) x0) (funext fun a => match a with | ⟨0, _⟩ => rfl : idx_main_v8 (ix2 n 0) = ix1 n)).trans (pick _ _ (hx n)))

include hx in
theorem word15 (n : Fin 104) : val_main_v15 (F := Ideal) x0 (ix2 n 0) = x0 (ix1 n) :=
  (val_main_v15_apply x0 _).trans ((congrArg (val_main_v14 (F := Ideal) x0) (funext fun a => match a with | ⟨0, _⟩ => rfl : idx_main_v15 (ix2 n 0) = ix1 n)).trans (pick _ _ (hx n)))

include hx in
theorem word23 (n : Fin 104) : val_main_v23 (F := Ideal) x0 (ix2 n 0) = x0 (ix1 n) :=
  (val_main_v23_apply x0 _).trans ((congrArg (val_main_v22 (F := Ideal) x0) (funext fun a => match a with | ⟨0, _⟩ => rfl : idx_main_v23 (ix2 n 0) = ix1 n)).trans (pick _ _ (hx n)))

include hx in
theorem word30 (n : Fin 104) : val_main_v30 (F := Ideal) x0 (ix2 n 0) = x0 (ix1 n) :=
  (val_main_v30_apply x0 _).trans ((congrArg (val_main_v29 (F := Ideal) x0) (funext fun a => match a with | ⟨0, _⟩ => rfl : idx_main_v30 (ix2 n 0) = ix1 n)).trans (pick _ _ (hx n)))

/-- A slab taken by a word that is the block's expert, at an element. -/
theorem slab_rd {A B : Nat} (wf) (x : (⟨3, ![32, A, B]⟩ : Shape).Idx → EReal) (idx : IVec ⟨2, ![104, 1]⟩ 32) (n : Fin 104) (a : Fin A) (b : Fin B)
    (hw : idx (ix2 n 0) = x0 (ix1 n)) (hn : expertOf x0 n < 32) :
    Host.gather (slabs A B wf) x idx (ix3 n a b) = x (ix3 ⟨expertOf x0 n, hn⟩ a b) := by
  have h : (idx (ix2 n 0)).toNat = expertOf x0 n := congrArg BitVec.toNat hw
  have h' : (idx (ix2 n 0)).toNat < 32 := by omega
  refine (slabs_apply wf x idx n a b h').trans (congrArg x (funext fun k => match k with | ⟨0, _⟩ => Fin.ext h | ⟨1, _⟩ => rfl | ⟨2, _⟩ => rfl))

include hx in
theorem v9_at (n : Fin 104) (a : Fin 2048) (b : Fin 4096) : val_main_v9 (F := Ideal) x0 x4 (ix3 n a b) = rd3 x4 (expertOf x0 n) a.val b.val :=
  (slab_rd x0 _ (val_main_v2 (F := Ideal) x4) (val_main_v8 (F := Ideal) x0) n a b (word8 x0 hx n) (hx n)).trans
    ((val_main_v2_apply x4 _).trans (eq_rd3_of x4 _ rfl rfl rfl))

include hx in
theorem v16_at (n : Fin 104) (b : Fin 4096) : val_main_v16 (F := Ideal) x0 x5 (ix3 n 0 b) = rd3 x5 (expertOf x0 n) 0 b.val :=
  (slab_rd x0 _ x5 (val_main_v15 (F := Ideal) x0) n 0 b (word15 x0 hx n) (hx n)).trans (eq_rd3_of x5 _ rfl rfl rfl)

include hx in
theorem v24_at (n : Fin 104) (a : Fin 2048) (b : Fin 2048) : val_main_v24 (F := Ideal) x0 x6 (ix3 n a b) = rd3 x6 (expertOf x0 n) a.val b.val :=
  (slab_rd x0 _ (val_main_v17 (F := Ideal) x6) (val_main_v23 (F := Ideal) x0) n a b (word23 x0 hx n) (hx n)).trans
    ((val_main_v17_apply x6 _).trans (eq_rd3_of x6 _ rfl rfl rfl))

include hx in
theorem v31_at (n : Fin 104) (b : Fin 2048) : val_main_v31 (F := Ideal) x0 x7 (ix3 n 0 b) = rd3 x7 (expertOf x0 n) 0 b.val :=
  (slab_rd x0 _ x7 (val_main_v30 (F := Ideal) x0) n 0 b (word30 x0 hx n) (hx n)).trans (eq_rd3_of x7 _ rfl rfl rfl)

include hx in
/-- A hidden value. -/
theorem v34_at (n : Fin 104) (r : Fin 512) (b : Fin 4096) :
    val_main_v34 (F := Ideal) x0 x3 x4 x5 (ix3 n r b) = hid x3 x4 x5 (expertOf x0 n) (n.val * 512 + r.val) b.val := by
  rw [val_main_v34_apply]
  refine congrArg₂ (fun p q : EReal => p + q) ?_ ?_
  · refine (val_main_v32_apply x0 x3 x4 _).trans (Finset.sum_congr rfl fun k _ => congrArg₂ (fun p q : EReal => p * q) ?_ ?_)
    · refine (val_main_v1_apply x3 _).trans ((val_main_v0_apply x3 _).trans (eq_rd_of x3 _ ?_ ?_))
      · show ((n.val * 512 + r.val) * 2048 + k.val) / 2048 = n.val * 512 + r.val
        have := k.isLt; omega
      · show ((n.val * 512 + r.val) * 2048 + k.val) % 2048 = k.val
        have := k.isLt; omega
    · refine (congrArg (val_main_v9 (F := Ideal) x0 x4) (funext fun a => match a with | ⟨0, _⟩ => rfl | ⟨1, _⟩ => rfl | ⟨2, _⟩ => rfl : ridx_main_v32 (ix3 n r b) k = ix3 n k b)).trans (v9_at x0 x4 hx n k b)
  · refine (val_main_v33_apply x0 x5 _).trans ?_
    exact (congrArg (val_main_v16 (F := Ideal) x0 x5) (funext fun a => match a with | ⟨0, _⟩ => rfl | ⟨1, _⟩ => rfl | ⟨2, _⟩ => rfl : idx_main_v33 (ix3 n r b) = ix3 n 0 b)).trans (v16_at x0 x5 hx n b)

include hx in
/-- The even columns. -/
theorem v35_at (n : Fin 104) (r : Fin 512) (k : Fin 2048) :
    val_main_v35 (F := Ideal) x0 x3 x4 x5 (ix3 n r k) = hid x3 x4 x5 (expertOf x0 n) (n.val * 512 + r.val) (2 * k.val) := by
  have hk := k.isLt
  refine Eq.trans ?_ (v34_at x0 x3 x4 x5 hx n r ⟨2 * k.val, by omega⟩)
  unfold val_main_v35
  generalize val_main_v34 (F := Ideal) x0 x3 x4 x5 = y
  unfold Host.slice
  refine congrArg y (funext fun a => Fin.ext ?_)
  match a with
  | ⟨0, _⟩ =>
    show 0 + 1 * n.val = n.val
    omega
  | ⟨1, _⟩ =>
    show 0 + 1 * r.val = r.val
    omega
  | ⟨2, _⟩ =>
    show 0 + 2 * k.val = 2 * k.val
    omega

include hx in
/-- The odd columns. -/
theorem v38_at (n : Fin 104) (r : Fin 512) (k : Fin 2048) :
    val_main_v38 (F := Ideal) x0 x3 x4 x5 (ix3 n r k) = hid x3 x4 x5 (expertOf x0 n) (n.val * 512 + r.val) (2 * k.val + 1) := by
  have hk := k.isLt
  refine Eq.trans ?_ (v34_at x0 x3 x4 x5 hx n r ⟨2 * k.val + 1, by omega⟩)
  unfold val_main_v38
  generalize val_main_v34 (F := Ideal) x0 x3 x4 x5 = y
  unfold Host.slice
  refine congrArg y (funext fun a => Fin.ext ?_)
  match a with
  | ⟨0, _⟩ =>
    show 0 + 1 * n.val = n.val
    omega
  | ⟨1, _⟩ =>
    show 0 + 1 * r.val = r.val
    omega
  | ⟨2, _⟩ =>
    show 1 + 2 * k.val = 2 * k.val + 1
    omega

/-- The factor of the gate is minus the constant 1.702. -/
theorem slope_eq : slope = -(Ideal.ofBits .f32 0x3FD9DB23#32) := by
  simp [slope, Ideal.ofBits, Ideal.ieee]

theorem one_eq : Ideal.ofBits .f32 0x3F800000#32 = 1 := by
  have h : Ideal.ofBits .f32 0x3F800000#32 = (((8388608 : ℝ) * ((2 : ℝ) ^ 23)⁻¹ : ℝ) : EReal) := by simp [Ideal.ofBits, Ideal.ieee]
  rw [h]; norm_num

include hx in
/-- A gated unit. -/
theorem v51_at (n : Fin 104) (r : Fin 512) (k : Fin 2048) :
    val_main_v51 (F := Ideal) x0 x3 x4 x5 (ix3 n r k) = unitOf x3 x4 x5 (expertOf x0 n) (n.val * 512 + r.val) k.val := by
  have e : val_main_v51 (F := Ideal) x0 x3 x4 x5 (ix3 n r k)
      = min (val_main_v35 (F := Ideal) x0 x3 x4 x5 (ix3 n r k)) seven
        * Ideal.div (Ideal.ofBits .f32 0x3F800000#32) (Ideal.ofBits .f32 0x3F800000#32
          + Ideal.exp (-(Ideal.ofBits .f32 0x3FD9DB23#32 * min (val_main_v35 (F := Ideal) x0 x3 x4 x5 (ix3 n r k)) seven)))
        * (min seven (max minusSeven (val_main_v38 (F := Ideal) x0 x3 x4 x5 (ix3 n r k))) + Ideal.ofBits .f32 0x3F800000#32) := rfl
  rw [e, v35_at x0 x3 x4 x5 hx, v38_at x0 x3 x4 x5 hx, one_eq, ← EReal.neg_mul, ← slope_eq]
  rfl

include hx in
/-- The reference's result at an element. -/
theorem v55_at (i : S53248x2048.Idx) (n : Fin 104) (hn : n.val = (i 0).val / 512) :
    val_main_v55 (F := Ideal) x0 x3 x4 x5 x6 x7 i = expert x3 x4 x5 x6 x7 (expertOf x0 n) (i 0).val (i 1).val := by
  have h0 : (i 0).val < 53248 := (i 0).isLt
  have h1 : (i 1).val < 2048 := (i 1).isLt
  have q0 : ((i 0).val * 2048 + (i 1).val) / 1048576 = n.val := by rw [hn]; omega
  have q1 : ((i 0).val * 2048 + (i 1).val) / 2048 % 512 = (i 0).val % 512 := by omega
  have q2 : ((i 0).val * 2048 + (i 1).val) % 2048 = (i 1).val := by omega
  have q3 : n.val * 512 + (i 0).val % 512 = (i 0).val := by rw [hn]; omega
  have ei : idx_main_v55 i = ix3 n ⟨(i 0).val % 512, Nat.mod_lt _ (by decide)⟩ ⟨(i 1).val, h1⟩ :=
    funext fun a => match a with | ⟨0, _⟩ => Fin.ext q0 | ⟨1, _⟩ => Fin.ext q1 | ⟨2, _⟩ => Fin.ext q2
  refine (val_main_v55_apply x0 x3 x4 x5 x6 x7 i).trans ((congrArg (val_main_v54 (F := Ideal) x0 x3 x4 x5 x6 x7) ei).trans ?_)
  rw [val_main_v54_apply]
  refine congrArg₂ (fun p q : EReal => p + q) ?_ ?_
  · refine (val_main_v52_apply x0 x3 x4 x5 x6 _).trans (Finset.sum_congr rfl fun k _ => congrArg₂ (fun p q : EReal => p * q) ?_ ?_)
    · refine (congrArg (val_main_v51 (F := Ideal) x0 x3 x4 x5) (funext fun a => match a with | ⟨0, _⟩ => rfl | ⟨1, _⟩ => rfl | ⟨2, _⟩ => rfl : lidx_main_v52 (ix3 n ⟨(i 0).val % 512, Nat.mod_lt _ (by decide)⟩ ⟨(i 1).val, h1⟩) k = ix3 n ⟨(i 0).val % 512, Nat.mod_lt _ (by decide)⟩ k)).trans
        ((v51_at x0 x3 x4 x5 hx n _ k).trans ?_)
      exact congrArg (fun q => unitOf x3 x4 x5 (expertOf x0 n) q k.val) q3
    · exact (congrArg (val_main_v24 (F := Ideal) x0 x6) (funext fun a => match a with | ⟨0, _⟩ => rfl | ⟨1, _⟩ => rfl | ⟨2, _⟩ => rfl : ridx_main_v52 (ix3 n ⟨(i 0).val % 512, Nat.mod_lt _ (by decide)⟩ ⟨(i 1).val, h1⟩) k = ix3 n k ⟨(i 1).val, h1⟩)).trans (v24_at x0 x6 hx n k _)
  · refine (val_main_v53_apply x0 x7 _).trans ?_
    exact (congrArg (val_main_v31 (F := Ideal) x0 x7) (funext fun a => match a with | ⟨0, _⟩ => rfl | ⟨1, _⟩ => rfl | ⟨2, _⟩ => rfl : idx_main_v53 (ix3 n ⟨(i 0).val % 512, Nat.mod_lt _ (by decide)⟩ ⟨(i 1).val, h1⟩) = ix3 n 0 ⟨(i 1).val, h1⟩)).trans (v31_at x0 x7 hx n _)

end Cert.Moe

end
-- ==== Proof.MoeClaim.lean ====
/-
  The claims about the experts' call: the reference's frames and, on the rows the tables assign, the equality of kernel
  and reference.
-/
module

public import proofs.«01_k».proof.Proof.MoeValue
public import proofs.«01_k».proof.Proof.MoeReference
public import proofs.«01_k».proof.Proof.Gen.On_assigned_rows

@[expose] public section

set_option maxRecDepth 16384

noncomputable section

namespace Cert.Moe

open Idealize.ShloMosaic Idealize.ShloMosaic.TcCoe Idealize.SL.Sem

/-- The reference runs and leaves its arguments unchanged. -/
theorem frame_claim_reference : Cert.quiescent_Reference2Ideal := fun m ρ _ =>
  (θ_run Cert.Reference2Ideal.defs _ _).mono (fun _ h => ⟨fun c => (h c).2, funext fun s => nomatch s⟩)
    (Cert.Reference2Ideal.Value.run m ρ)

/-! ## The mask -/

open Cert.On_assigned_rows Cert.On_assigned_rows.Facts in
/-- A set element of the mask: its block is below the number of used blocks, its row below the block's number of rows. -/
theorem mask_at {be : IVec S104 32} {nu : IVec S1 32} {nv : IVec S104 32} {x : FVec Ideal S53248x2048 .bf16} {w1 : FVec Ideal S64x2048x4096 .f32} {b1 : FVec Ideal S32x1x4096 .f32}
    {w2 : FVec Ideal S64x2048x2048 .f32} {b2 : FVec Ideal S32x1x2048 .f32} (i : S53248x2048.Idx)
    (h : Cert.On_assigned_rows.fn (F := Ideal) be nu nv x w1 b1 w2 b2 i = 1#1) (n : Fin 104) (hn : n.val = (i 0).val / 512) :
    (BitVec.ofNat 32 n.val).slt (nu only) = true ∧ (BitVec.ofNat 32 ((i 0).val % 512)).slt (nv (entry n)) = true := by
  have and_ofBool (p q : Bool) : IntOp.andi (BitVec.ofBool p) (BitVec.ofBool q) = BitVec.ofBool (p && q) := by
    cases p <;> cases q <;> decide
  have ofBool_one (p : Bool) : (BitVec.ofBool p = 1#1) ↔ p = true := by cases p <;> decide
  have h0 : (i 0).val < 53248 := (i 0).isLt
  have h1 : (i 1).val < 2048 := (i 1).isLt
  let j : S104x512x2048.Idx := ix3 n ⟨(i 0).val % 512, Nat.mod_lt _ (by decide)⟩ ⟨(i 1).val, h1⟩
  have q : (n.val * 512 + (i 0).val % 512) * 2048 + (i 1).val = (i 0).val * 2048 + (i 1).val := by rw [hn]; omega
  unfold Cert.On_assigned_rows.fn at h
  have e := (shapeCast_apply _ shapeCasts_S104x512x2048_S53248x2048 i j (by
    rw [Shape.rowMajor_val_two, Shape.rowMajor_val_three]; exact q)).symm.trans h
  have en : ∀ k : S104.Idx, (k 0).val = n.val → k = entry n := fun k hk => funext fun a => match a with | ⟨0, _⟩ => Fin.ext hk
  have ev : ∀ k : S_.Idx, shapeCast S_ nu shapeCasts_S1_S_ k = nu only := fun k => congrArg nu (S1_eq _ _)
  have e' : IntOp.andi (BitVec.ofBool ((BitVec.ofNat 32 n.val).slt (nu only))) (BitVec.ofBool ((BitVec.ofNat 32 ((i 0).val % 512)).slt (nv (entry n)))) = 1#1 := by
    rw [← ev (fun a => a.elim0)]
    refine Eq.trans ?_ e
    simp only [andi, cmpi, broadcastInDim, IntOp.cmpi]
    congr 4
    · exact funext fun a => a.elim0
    · exact (en _ rfl).symm
  rw [and_ofBool, ofBool_one, Bool.and_eq_true] at e'
  exact e'

theorem slt_nat {n : Nat} (hn : n < 104 ∨ n < 512) {w : BitVec 32} (hw : w.toNat ≤ 512) (h : (BitVec.ofNat 32 n).slt w = true) : n < w.toNat := by
  rw [BitVec.slt, decide_eq_true_iff, toInt_small w hw, WordCmp.toInt_ofNat_of_lt (by omega)] at h
  omega

open Cert.Kernel2Ideal Cert.Kernel2Ideal.Gen in
/-- A row with a set element is assigned. -/
theorem assigned_of_mask (m : (ℓ : Loc nD τ sig) → Buf (Elt Ideal) ℓ) (hG : GoodM m) (i : S53248x2048.Idx)
    {x : FVec Ideal S53248x2048 .bf16} {w1 : FVec Ideal S64x2048x4096 .f32} {b1 : FVec Ideal S32x1x4096 .f32}
    {w2 : FVec Ideal S64x2048x2048 .f32} {b2 : FVec Ideal S32x1x2048 .f32}
    (h : Cert.On_assigned_rows.fn (F := Ideal) (m (((0 : Dev nD) : Thread nD τ).loc main_arg0)) (m (((0 : Dev nD) : Thread nD τ).loc main_arg1))
      (m (((0 : Dev nD) : Thread nD τ).loc main_arg2)) x w1 b1 w2 b2 i = 1#1) : assigned m (i 0).val := by
  have h0 : (i 0).val < 53248 := (i 0).isLt
  have g := hG 0
  have lt : (i 0).val / 512 < 104 := by omega
  obtain ⟨a, b⟩ := mask_at i h ⟨(i 0).val / 512, lt⟩ rfl
  have hu := g.used_le only
  have hr := g.rows_le (entry ⟨(i 0).val / 512, lt⟩)
  refine ⟨?_, fun _ => ?_⟩
  · unfold blocks
    rw [tbl1]
    exact slt_nat (.inl lt) (Nat.le_trans hu (by decide)) a
  · unfold rowsOf
    rw [tbl2]
    exact slt_nat (.inr (Nat.mod_lt _ (by decide))) hr b

/-! ## The values -/

open Cert.Kernel2Ideal Cert.Kernel2Ideal.Gen in
/-- The kernel's run, with the result's assigned rows. -/
theorem run_value (m : (ℓ : Loc nD τ sig) → Buf (Elt Ideal) ℓ) (ρ : Dev nD → PrngReg) (hG : GoodM m) :
    θ_run defs (onTc (τ := τ) (main (F := Ideal))) ⟨m, fun _ => 0, ρ⟩ (fun r => ∀ (c : Dev nD) (i : S53248x2048.Idx), assigned m (i 0).val →
      r.2.mem ((c.tc : Thread nD τ).loc main_v10) i = value m c (i 0).val (i 1).val) :=
  (θ_run defs _ _).mono (fun r h c i hi => (congrFun ((h.1 c).1 6) i).trans (final m (ok_of_range m hG) hG c i hi)) (run_main m ρ (ok_of_range m hG))

open Cert.Kernel2Ideal Cert.Kernel2Ideal.Gen in
/-- That value, with the expert's number read from the argument. -/
theorem value_eq (m : (ℓ : Loc nD τ sig) → Buf (Elt Ideal) ℓ) (c : Dev nD) (row d : Nat) (lt : row / 512 < 104) :
    value m c row d = expert (argX m c) (argW1 m c) (argB1 m c) (argW2 m c) (argB2 m c)
      (expertOf (m (((0 : Dev nD) : Thread nD τ).loc main_arg0)) ⟨row / 512, lt⟩) row d := by
  have e : tbl m 0 (entry ⟨row / 512, lt⟩) = m (((0 : Dev nD) : Thread nD τ).loc main_arg0) (Idealize.ShloMosaic.ix1 ⟨row / 512, lt⟩) := by
    refine (congrFun (tbl0 m) _).trans (congrArg (m (((0 : Dev nD) : Thread nD τ).loc main_arg0)) (funext fun a => match a with | ⟨0, _⟩ => rfl))
  exact congrArg (fun q => expert (argX m c) (argW1 m c) (argB1 m c) (argW2 m c) (argB2 m c) q row d)
    ((dif_pos lt).trans (congrArg (BitVec.toNat (w := 32)) e))

/-- From equal arguments, with the tables in range, kernel and reference end with equal results on the assigned rows. -/
theorem algebraic : Cert.algebraic_Kernel2Ideal_Reference2Ideal_on_assigned_rows := fun m ρ m' ρ' hpre hag => by
  have hG : GoodM m := fun c => in_range (hpre c)
  refine ⟨fun c i => value m c (i 0).val (i 1).val, ?_, ?_⟩
  · refine (θ_run Cert.Kernel2Ideal.defs _ _).mono (fun r h c => ⟨fun i hi => ?_, h.2.1 c⟩) (θ_run_and (run_value m ρ hG) (frame_ideal m ρ hpre))
    obtain rfl : c = 0 := Subsingleton.elim _ _
    exact h.1 0 i (assigned_of_mask m hG i hi)
  · refine (θ_run Cert.Reference2Ideal.defs _ _).mono (fun r h c => ⟨fun i hi => ?_, (h c).2⟩) (Cert.Reference2Ideal.Value.run m' ρ')
    obtain rfl : c = 0 := Subsingleton.elim _ _
    have h0 : (i 0).val < 53248 := (i 0).isLt
    have lt : (i 0).val / 512 < 104 := by omega
    obtain ⟨a0, a1, a2, a3, a4, a5, a6, a7⟩ := hag 0
    rw [(h 0).1, Cert.Reference2Ideal.Read.val_main_v55_eq, a0, a3, a4, a5, a6, a7]
    refine (v55_at _ _ _ _ _ _ (fun n => (hG 0).expert (Idealize.ShloMosaic.ix1 n)) i ⟨(i 0).val / 512, lt⟩ rfl).trans ?_
    exact (value_eq m 0 (i 0).val (i 1).val lt).symm

end Cert.Moe

end
-- ==== Proof.Moe1Kit.lean ====
/- The experts' call: the host line before it, its tables, and the blocks its windows stage. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.TableIdle
public import Idealize.ShloMosaic.Lib.VecWindow
public import Idealize.ShloMosaic.Lib.Tactic
public import Idealize.ShloMosaic.Lib.WordCmp

@[expose] public section

set_option maxRecDepth 16384

noncomputable section

namespace Cert.Moe1

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer of device `c` once the host line before the call has run. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
/-- The program is that host line followed by the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-! The host line writes none of the arguments. -/

theorem V_kept (c : Dev nD) (b : Ref sig .tc) (h : b ∉ [main_v0, main_v1, main_v2, main_v3, main_c, main_v4, main_v5, main_v6, main_v7, main_v8, main_v9]) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne fun e => h (by rw [e]; decide)))
theorem V_main_arg0 (c : Dev nD) : V m c main_arg0 = m ((c : Thread nD τ).loc main_arg0) := V_kept m c _ (by decide)
theorem V_main_arg1 (c : Dev nD) : V m c main_arg1 = m ((c : Thread nD τ).loc main_arg1) := V_kept m c _ (by decide)
theorem V_main_arg2 (c : Dev nD) : V m c main_arg2 = m ((c : Thread nD τ).loc main_arg2) := V_kept m c _ (by decide)
theorem V_main_arg3 (c : Dev nD) : V m c main_arg3 = m ((c : Thread nD τ).loc main_arg3) := V_kept m c _ (by decide)
theorem V_main_arg4 (c : Dev nD) : V m c main_arg4 = m ((c : Thread nD τ).loc main_arg4) := V_kept m c _ (by decide)
theorem V_main_arg5 (c : Dev nD) : V m c main_arg5 = m ((c : Thread nD τ).loc main_arg5) := V_kept m c _ (by decide)
theorem V_main_arg6 (c : Dev nD) : V m c main_arg6 = m ((c : Thread nD τ).loc main_arg6) := V_kept m c _ (by decide)
theorem V_main_arg7 (c : Dev nD) : V m c main_arg7 = m ((c : Thread nD τ).loc main_arg7) := V_kept m c _ (by decide)

/-! ## The three tables -/

/-- The tables as the call finds them. -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- Every block an index map names by a table's word lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tabE : Memref sig .tc .smem S96 .i32 := Memref.whole main_arg0
abbrev tabE_whole : tabE.IsWhole := Memref.isWhole_whole _
abbrev tabU : Memref sig .tc .smem S1 .i32 := Memref.whole main_arg1
abbrev tabU_whole : tabU.IsWhole := Memref.isWhole_whole _
abbrev tabR : Memref sig .tc .smem S96 .i32 := Memref.whole main_arg2
abbrev tabR_whole : tabR.IsWhole := Memref.isWhole_whole _

abbrev TabBuf (c : Dev nD) {S : Shape} {e : EltTy} (M : Memref sig .tc .smem S e) : Type := Buf (Elt F) (M.view.loc (c : Thread nD τ))
/-- A table's buffer at `f`, held for reading. -/
abbrev tabAt (c : Dev nD) {S : Shape} {e : EltTy} (M : Memref sig .tc .smem S e) (f : TabBuf (F := F) c M) : sProp 𝕄 :=
  M.view.loc (c : Thread nD τ) ↦{fullShare.right} f

theorem tables_eq (c : Dev nD) : (Pipeline.ΦT pre0 (tbl m) c : sProp 𝕄) = iprop(tabAt c tabE (tbl m 0) ∗ tabAt c tabU (tbl m 1) ∗ tabAt c tabR (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The blocks -/

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem staged0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem staged1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem staged2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem staged3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem staged4 (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem staged5 (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! The staging buffer each window is on at a point. -/

abbrev ms0 (hO : Ok m) (t : Fin (cfgM m hO).N) : Memref sig .tc .vmem S512x2048 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x2048x1024 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1024 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x512x2048 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x2048 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1024x512 .bf16 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S512x2048 .f32 := spec0_6.stage ((cfgM m hO).slots t 6)
abbrev hs6 (hO : Ok m) (t : Fin (cfgM m hO).N) : (ms6 m hO t).IsWhole := hstage0_6 (((cfgM m hO).slots t 6).cast nbuf0_6)

/-- The body at a point, on the buffers it is called with there. -/
abbrev bodyAt (hO : Ok m) (t : Fin (cfgM m hO).N) : Prog (TpuEff nD τ sig (Elt F) Λ₀ .tc) PUnit :=
  cc0_moe_experts (grid0.coords t) tabE tabE_whole tabU tabU_whole tabR tabR_whole (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t)

/-- The result's block is written back at the last of its four points. -/
theorem flush6 (a : (pcfg0 (F := F)).Adm) : ∀ t : Fin (cfg0 a).N, ((cfg0 a).win 6).flush t = true ↔ t.val % 4 = 3 :=
  (fun t => Pipeline.Window.flushOf_reads cc0_transform_6 reads0_6 hreads0_6 0 (by decide) (by decide) (Pipeline.Window.sep_of_coord cc0_transform_6 0 0 (fun _ => rfl) (by decide)) (P := 4) (m := 3) (by decide) rfl t : ∀ t : Fin grid0.N, Pipeline.Window.flushOf grid0 true cc0_transform_6 t = true ↔ t.val % 4 = 3)

/-- The arguments end as they began, from a run of the program to what the call leaves. -/
theorem args_kept (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 0).trans (((dats 0 c).arrAt_in 0 rfl _).trans ((hA c 0).trans (V_main_arg3 m c))),
      ((h c).1 1).trans (((dats 0 c).arrAt_in 1 rfl _).trans ((hA c 1).trans (V_main_arg4 m c))),
      ((h c).1 2).trans (((dats 0 c).arrAt_in 2 rfl _).trans ((hA c 2).trans (V_main_arg5 m c))),
      ((h c).1 3).trans (((dats 0 c).arrAt_in 3 rfl _).trans ((hA c 3).trans (V_main_arg6 m c))),
      ((h c).1 4).trans (((dats 0 c).arrAt_in 4 rfl _).trans ((hA c 4).trans (V_main_arg7 m c)))⟩) h

end Cert.Moe1

end
-- ==== Proof.Moe1Step.lean ====
/- What one point of the experts' call does to the block of the result, as a function of the two table words and the staged blocks. -/
module

public import proofs.«01_k».proof.Proof.Moe1Kit

@[expose] public section

set_option maxRecDepth 16384

noncomputable section

namespace Cert.Moe1

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- How many rows of its block the body fills with the bias first: the whole block, zeros past the used blocks, or the rows there were. -/
def start (i : grid0.Coords) (u : BitVec 32) (x4 : Vec F S1x1x2048 .f32) (y : Vec F S512x2048 .f32) : Vec F S512x2048 .f32 :=
  if k0_cond1 i u = 1#1 then k0_pay10 x4 else y

/-- The block with what its first 128 rows gain at a point. -/
def gain128 (x0 : Vec F S512x2048 .bf16) (x1 : Vec F S1x2048x1024 .f32) (x2 : Vec F S1x1x1024 .f32) (x3 : Vec F S1x512x2048 .f32) (x4 : Vec F S1x1x2048 .f32) (x5 : Vec F S1024x512 .bf16) (y : Vec F S512x2048 .f32) : Vec F S512x2048 .f32 :=
  VecWindow.put y ![0, 0] S128x2048.size (k0_pay11 (k0_pay2 (VecWindow.window y ![0, 0] S128x2048.size inb_S512x2048_S128x2048_0_0)) (k0_pay3 (VecWindow.window x0 ![0, 0] S128x2048.size inb_S512x2048_S128x2048_0_0) x1 x2 x5) x3)

/-- The block with what its first 256 rows gain at a point. -/
def gain256 (x0 : Vec F S512x2048 .bf16) (x1 : Vec F S1x2048x1024 .f32) (x2 : Vec F S1x1x1024 .f32) (x3 : Vec F S1x512x2048 .f32) (x4 : Vec F S1x1x2048 .f32) (x5 : Vec F S1024x512 .bf16) (y : Vec F S512x2048 .f32) : Vec F S512x2048 .f32 :=
  VecWindow.put y ![0, 0] S256x2048.size (k0_pay12 (k0_pay4 (VecWindow.window y ![0, 0] S256x2048.size inb_S512x2048_S256x2048_0_0)) (k0_pay5 (VecWindow.window x0 ![0, 0] S256x2048.size inb_S512x2048_S256x2048_0_0) x1 x2 x5) x3)

/-- The block with what its first 384 rows gain at a point. -/
def gain384 (x0 : Vec F S512x2048 .bf16) (x1 : Vec F S1x2048x1024 .f32) (x2 : Vec F S1x1x1024 .f32) (x3 : Vec F S1x512x2048 .f32) (x4 : Vec F S1x1x2048 .f32) (x5 : Vec F S1024x512 .bf16) (y : Vec F S512x2048 .f32) : Vec F S512x2048 .f32 :=
  VecWindow.put y ![0, 0] S384x2048.size (k0_pay13 (k0_pay6 (VecWindow.window y ![0, 0] S384x2048.size inb_S512x2048_S384x2048_0_0)) (k0_pay7 (VecWindow.window x0 ![0, 0] S384x2048.size inb_S512x2048_S384x2048_0_0) x1 x2 x5) x3)

/-- The block with what its first 512 rows gain at a point. -/
def gain512 (x0 : Vec F S512x2048 .bf16) (x1 : Vec F S1x2048x1024 .f32) (x2 : Vec F S1x1x1024 .f32) (x3 : Vec F S1x512x2048 .f32) (x4 : Vec F S1x1x2048 .f32) (x5 : Vec F S1024x512 .bf16) (y : Vec F S512x2048 .f32) : Vec F S512x2048 .f32 :=
  k0_pay14 (k0_pay8 (y)) (k0_pay9 (x0) x1 x2 x5) x3

/-- The block after a point: started, its used rows increased, or cleared. -/
def step (i : grid0.Coords) (u r : BitVec 32) (x0 : Vec F S512x2048 .bf16) (x1 : Vec F S1x2048x1024 .f32) (x2 : Vec F S1x1x1024 .f32) (x3 : Vec F S1x512x2048 .f32) (x4 : Vec F S1x1x2048 .f32) (x5 : Vec F S1024x512 .bf16) (y : Vec F S512x2048 .f32) : Vec F S512x2048 .f32 :=
  if k0_cond6 i u = 1#1 then k0_pay1 else
  if k0_cond2 i u r = 1#1 then gain128 x0 x1 x2 x3 x4 x5 (start i u x4 y) else
  if k0_cond3 i u r = 1#1 then gain256 x0 x1 x2 x3 x4 x5 (start i u x4 y) else
  if k0_cond4 i u r = 1#1 then gain384 x0 x1 x2 x3 x4 x5 (start i u x4 y) else
  if k0_cond5 i u r = 1#1 then gain512 x0 x1 x2 x3 x4 x5 (start i u x4 y) else start i u x4 y

/-- The word of the used blocks' count. -/
abbrev wordU (c : Dev nD) (xt1 : TabBuf (F := F) c tabU) : BitVec 32 :=
  tabU.view.readAt (Elt F) (Rect.unit (s := S1) ![0] S1.size inb_S1_S1_0).toLoadRect xt1 (Shape.Idx.first (numel1_S1.symm ▸ Nat.one_pos))
/-- The word of the block's used rows. -/
abbrev wordR (c : Dev nD) (i : grid0.Coords) (xt2 : TabBuf (F := F) c tabR) : BitVec 32 :=
  tabR.view.readAt (Elt F) (Rect.unit (s := S96) (k0_off2 i) S1.size (k0_off2_inb i)).toLoadRect xt2 (Shape.Idx.first (numel1_S1.symm ▸ Nat.one_pos))

/-! What a load of a staged block reads. -/

theorem ld1 (a : Memref sig .tc .vmem S1x2048x1024 .f32) (x : Vec F S1x2048x1024 .f32) :
    View.readAt (Elt F) a.view (Rect.unit (s := S1x2048x1024) ![0, 0, 0] S1x2048x1024.size inb_S1x2048x1024_S1x2048x1024_0_0_0).toLoadRect (a.view.rep x) = x := View.readAt_rep_full _ _ _
theorem ld2 (a : Memref sig .tc .vmem S1x1x1024 .f32) (x : Vec F S1x1x1024 .f32) :
    View.readAt (Elt F) a.view (Rect.unit (s := S1x1x1024) ![0, 0, 0] S1x1x1024.size inb_S1x1x1024_S1x1x1024_0_0_0).toLoadRect (a.view.rep x) = x := View.readAt_rep_full _ _ _
theorem ld3 (a : Memref sig .tc .vmem S1x512x2048 .f32) (x : Vec F S1x512x2048 .f32) :
    View.readAt (Elt F) a.view (Rect.unit (s := S1x512x2048) ![0, 0, 0] S1x512x2048.size inb_S1x512x2048_S1x512x2048_0_0_0).toLoadRect (a.view.rep x) = x := View.readAt_rep_full _ _ _
theorem ld4 (a : Memref sig .tc .vmem S1x1x2048 .f32) (x : Vec F S1x1x2048 .f32) :
    View.readAt (Elt F) a.view (Rect.unit (s := S1x1x2048) ![0, 0, 0] S1x1x2048.size inb_S1x1x2048_S1x1x2048_0_0_0).toLoadRect (a.view.rep x) = x := View.readAt_rep_full _ _ _
theorem ld5 (a : Memref sig .tc .vmem S1024x512 .bf16) (x : Vec F S1024x512 .bf16) :
    View.readAt (Elt F) a.view (Rect.unit (s := S1024x512) ![0, 0] S1024x512.size inb_S1024x512_S1024x512_0_0).toLoadRect (a.view.rep x) = x := View.readAt_rep_full _ _ _
theorem ldx128 (a : Memref sig .tc .vmem S512x2048 .bf16) (x : Vec F S512x2048 .bf16) :
    View.readAt (Elt F) a.view (Rect.unit (s := S512x2048) ![0, 0] S128x2048.size inb_S512x2048_S128x2048_0_0).toLoadRect (a.view.rep x)
      = VecWindow.window x ![0, 0] S128x2048.size inb_S512x2048_S128x2048_0_0 := View.readAt_rep_unit _ _ _ rfl _
theorem ldy128 (a : Memref sig .tc .vmem S512x2048 .f32) (x : Vec F S512x2048 .f32) :
    View.readAt (Elt F) a.view (Rect.unit (s := S512x2048) ![0, 0] S128x2048.size inb_S512x2048_S128x2048_0_0).toLoadRect (a.view.rep x)
      = VecWindow.window x ![0, 0] S128x2048.size inb_S512x2048_S128x2048_0_0 := View.readAt_rep_unit _ _ _ rfl _
theorem ldw128 (a : Memref sig .tc .vmem S512x2048 .f32) (w : Vec F S512x2048 .f32) :
    a.view.readCov [⟨Rect.unit (s := S512x2048) ![0, 0] ![512, 2048] inb_S512x2048_S512x2048_0_0, w⟩] (Rect.unit (s := S512x2048) ![0, 0] S128x2048.size inb_S512x2048_S128x2048_0_0).toLoadRect
      = VecWindow.window w ![0, 0] S128x2048.size inb_S512x2048_S128x2048_0_0 :=
  (View.readAt_unit _ _ _ rfl _).trans (congrArg (fun z : Vec F S512x2048 .f32 => VecWindow.window (s := S512x2048) z ![0, 0] S128x2048.size inb_S512x2048_S128x2048_0_0) (View.read_writes_full _ _ _ _ _))
theorem ldx256 (a : Memref sig .tc .vmem S512x2048 .bf16) (x : Vec F S512x2048 .bf16) :
    View.readAt (Elt F) a.view (Rect.unit (s := S512x2048) ![0, 0] S256x2048.size inb_S512x2048_S256x2048_0_0).toLoadRect (a.view.rep x)
      = VecWindow.window x ![0, 0] S256x2048.size inb_S512x2048_S256x2048_0_0 := View.readAt_rep_unit _ _ _ rfl _
theorem ldy256 (a : Memref sig .tc .vmem S512x2048 .f32) (x : Vec F S512x2048 .f32) :
    View.readAt (Elt F) a.view (Rect.unit (s := S512x2048) ![0, 0] S256x2048.size inb_S512x2048_S256x2048_0_0).toLoadRect (a.view.rep x)
      = VecWindow.window x ![0, 0] S256x2048.size inb_S512x2048_S256x2048_0_0 := View.readAt_rep_unit _ _ _ rfl _
theorem ldw256 (a : Memref sig .tc .vmem S512x2048 .f32) (w : Vec F S512x2048 .f32) :
    a.view.readCov [⟨Rect.unit (s := S512x2048) ![0, 0] ![512, 2048] inb_S512x2048_S512x2048_0_0, w⟩] (Rect.unit (s := S512x2048) ![0, 0] S256x2048.size inb_S512x2048_S256x2048_0_0).toLoadRect
      = VecWindow.window w ![0, 0] S256x2048.size inb_S512x2048_S256x2048_0_0 :=
  (View.readAt_unit _ _ _ rfl _).trans (congrArg (fun z : Vec F S512x2048 .f32 => VecWindow.window (s := S512x2048) z ![0, 0] S256x2048.size inb_S512x2048_S256x2048_0_0) (View.read_writes_full _ _ _ _ _))
theorem ldx384 (a : Memref sig .tc .vmem S512x2048 .bf16) (x : Vec F S512x2048 .bf16) :
    View.readAt (Elt F) a.view (Rect.unit (s := S512x2048) ![0, 0] S384x2048.size inb_S512x2048_S384x2048_0_0).toLoadRect (a.view.rep x)
      = VecWindow.window x ![0, 0] S384x2048.size inb_S512x2048_S384x2048_0_0 := View.readAt_rep_unit _ _ _ rfl _
theorem ldy384 (a : Memref sig .tc .vmem S512x2048 .f32) (x : Vec F S512x2048 .f32) :
    View.readAt (Elt F) a.view (Rect.unit (s := S512x2048) ![0, 0] S384x2048.size inb_S512x2048_S384x2048_0_0).toLoadRect (a.view.rep x)
      = VecWindow.window x ![0, 0] S384x2048.size inb_S512x2048_S384x2048_0_0 := View.readAt_rep_unit _ _ _ rfl _
theorem ldw384 (a : Memref sig .tc .vmem S512x2048 .f32) (w : Vec F S512x2048 .f32) :
    a.view.readCov [⟨Rect.unit (s := S512x2048) ![0, 0] ![512, 2048] inb_S512x2048_S512x2048_0_0, w⟩] (Rect.unit (s := S512x2048) ![0, 0] S384x2048.size inb_S512x2048_S384x2048_0_0).toLoadRect
      = VecWindow.window w ![0, 0] S384x2048.size inb_S512x2048_S384x2048_0_0 :=
  (View.readAt_unit _ _ _ rfl _).trans (congrArg (fun z : Vec F S512x2048 .f32 => VecWindow.window (s := S512x2048) z ![0, 0] S384x2048.size inb_S512x2048_S384x2048_0_0) (View.read_writes_full _ _ _ _ _))
theorem ldx512 (a : Memref sig .tc .vmem S512x2048 .bf16) (x : Vec F S512x2048 .bf16) :
    View.readAt (Elt F) a.view (Rect.unit (s := S512x2048) ![0, 0] S512x2048.size inb_S512x2048_S512x2048_0_0).toLoadRect (a.view.rep x) = x := View.readAt_rep_full _ _ _
theorem ldy512 (a : Memref sig .tc .vmem S512x2048 .f32) (x : Vec F S512x2048 .f32) :
    View.readAt (Elt F) a.view (Rect.unit (s := S512x2048) ![0, 0] S512x2048.size inb_S512x2048_S512x2048_0_0).toLoadRect (a.view.rep x) = x := View.readAt_rep_full _ _ _
theorem ldw512 (a : Memref sig .tc .vmem S512x2048 .f32) (w : Vec F S512x2048 .f32) :
    a.view.readCov [⟨Rect.unit (s := S512x2048) ![0, 0] ![512, 2048] inb_S512x2048_S512x2048_0_0, w⟩] (Rect.unit (s := S512x2048) ![0, 0] S512x2048.size inb_S512x2048_S512x2048_0_0).toLoadRect = w :=
  View.readCov_full _ _ _ _ _

/-- What running the body says at a grid point whose six conditions are as the six functions have them. -/
def RunAt (p1 p2 p3 p4 p5 p6 : Prop → Prop) : Prop :=
  ∀ (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x512x2048 .f32) (harg8 : arg8.IsWhole) (arg9 : Memref sig .tc .vmem S1x1x2048 .f32) (harg9 : arg9.IsWhole) (arg10 : Memref sig .tc .vmem S1024x512 .bf16) (harg10 : arg10.IsWhole) (arg11 : Memref sig .tc .vmem S512x2048 .f32) (harg11 : arg11.IsWhole) (x0 : Vec F S512x2048 .bf16) (x1 : Vec F S1x2048x1024 .f32) (x2 : Vec F S1x1x1024 .f32) (x3 : Vec F S1x512x2048 .f32) (x4 : Vec F S1x1x2048 .f32) (x5 : Vec F S1024x512 .bf16) (y : Vec F S512x2048 .f32) (xt0 : TabBuf (F := F) c tabE) (xt1 : TabBuf (F := F) c tabU) (xt2 : TabBuf (F := F) c tabR) (h1 : p1 (k0_cond1 i (wordU c xt1) = 1#1)) (h2 : p2 (k0_cond2 i (wordU c xt1) (wordR c i xt2) = 1#1)) (h3 : p3 (k0_cond3 i (wordU c xt1) (wordR c i xt2) = 1#1)) (h4 : p4 (k0_cond4 i (wordU c xt1) (wordR c i xt2) = 1#1)) (h5 : p5 (k0_cond5 i (wordU c xt1) (wordR c i xt2) = 1#1)) (h6 : p6 (k0_cond6 i (wordU c xt1) = 1#1)) (E : Set ℕ) (K : PUnit → sProp 𝕄),
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare y ∗ tabAt c tabE xt0 ∗ tabAt c tabU xt1 ∗ tabAt c tabR xt2 ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare (step i (wordU c xt1) (wordR c i xt2) x0 x1 x2 x3 x4 x5 y) ∗ tabAt c tabE xt0 ∗ tabAt c tabU xt1 ∗ tabAt c tabR xt2) -∗ K ⟨⟩))
      ⊢ wp frame (wpE (defs₀ (F := F)) Variants.none c none) E (cc0_moe_experts i tabE tabE_whole tabU tabU_whole tabR tabR_whole arg5 harg5 arg6 harg6 arg7 harg7 arg8 harg8 arg9 harg9 arg10 harg10 arg11 harg11) K

end Cert.Moe1

end
-- ==== Proof.Moe1Runs.lean ====
/- The experts' body at a point, case by case (second layer). -/
module

public import proofs.«01_k».proof.Proof.Moe1Step

@[expose] public section

set_option maxRecDepth 16384

noncomputable section

namespace Cert.Moe1

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

set_option maxHeartbeats 1000000 in
/-- The first point of a used block, of no row. -/
theorem run_A0 : RunAt (F := F) (fun a => a) Not Not Not Not Not := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · rw [← owns_eq_rep]; unfold owns; iexists _; isplitr
    swap; · iexact H6
    ipureintro
    sl_unfold_words
    unfold step start
    rw [if_neg h6, if_neg h2, if_neg h3, if_neg h4, if_neg h5, if_pos h1]
    exact (View.read_writes_full _ _ _ _ _).trans (congrArg k0_pay10 (ld4 _ _))
  isplitl [HT0]; · iexact HT0
  isplitl [HT1]; · iexact HT1
  iexact HT2

set_option maxHeartbeats 1000000 in
/-- The first point of a used block, of at most 128 rows. -/
theorem run_A1 : RunAt (F := F) (fun a => a) (fun a => a) Not Not Not Not := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · rw [← owns_eq_rep]; unfold owns; iexists _; isplitr
    swap; · iexact H6
    ipureintro
    sl_unfold_words
    unfold step start gain128
    rw [if_neg h6, if_pos h2, if_pos h1]
    rw [ldx128]
    rw [ld1]
    rw [ld2]
    rw [ld3]
    rw [ld5]
    rw [show _ = x4 from ld4 arg9 x4]
    rw [ldw128]
    exact (View.read_writes_cons_put _ _ _ _ _ rfl).trans (congrArg (fun z : Vec F S512x2048 .f32 => VecWindow.put (s := S512x2048) z ![0, 0] S128x2048.size _) (View.read_writes_full _ _ _ _ _))
  isplitl [HT0]; · iexact HT0
  isplitl [HT1]; · iexact HT1
  iexact HT2

set_option maxHeartbeats 1000000 in
/-- The first point of a used block, of at most 256 rows. -/
theorem run_A2 : RunAt (F := F) (fun a => a) Not (fun a => a) Not Not Not := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · rw [← owns_eq_rep]; unfold owns; iexists _; isplitr
    swap; · iexact H6
    ipureintro
    sl_unfold_words
    unfold step start gain256
    rw [if_neg h6, if_neg h2, if_pos h3, if_pos h1]
    rw [ldx256]
    rw [ld1]
    rw [ld2]
    rw [ld3]
    rw [ld5]
    rw [show _ = x4 from ld4 arg9 x4]
    rw [ldw256]
    exact (View.read_writes_cons_put _ _ _ _ _ rfl).trans (congrArg (fun z : Vec F S512x2048 .f32 => VecWindow.put (s := S512x2048) z ![0, 0] S256x2048.size _) (View.read_writes_full _ _ _ _ _))
  isplitl [HT0]; · iexact HT0
  isplitl [HT1]; · iexact HT1
  iexact HT2

set_option maxHeartbeats 1000000 in
/-- The first point of a used block, of at most 384 rows. -/
theorem run_A3 : RunAt (F := F) (fun a => a) Not Not (fun a => a) Not Not := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · rw [← owns_eq_rep]; unfold owns; iexists _; isplitr
    swap; · iexact H6
    ipureintro
    sl_unfold_words
    unfold step start gain384
    rw [if_neg h6, if_neg h2, if_neg h3, if_pos h4, if_pos h1]
    rw [ldx384]
    rw [ld1]
    rw [ld2]
    rw [ld3]
    rw [ld5]
    rw [show _ = x4 from ld4 arg9 x4]
    rw [ldw384]
    exact (View.read_writes_cons_put _ _ _ _ _ rfl).trans (congrArg (fun z : Vec F S512x2048 .f32 => VecWindow.put (s := S512x2048) z ![0, 0] S384x2048.size _) (View.read_writes_full _ _ _ _ _))
  isplitl [HT0]; · iexact HT0
  isplitl [HT1]; · iexact HT1
  iexact HT2

set_option maxHeartbeats 1000000 in
/-- The first point of a used block, of at most 512 rows. -/
theorem run_A4 : RunAt (F := F) (fun a => a) Not Not Not (fun a => a) Not := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · rw [← owns_eq_rep]; unfold owns; iexists _; isplitr
    swap; · iexact H6
    ipureintro
    sl_unfold_words
    unfold step start gain512
    rw [if_neg h6, if_neg h2, if_neg h3, if_neg h4, if_pos h5, if_pos h1]
    rw [ldx512]
    rw [ld1]
    rw [ld2]
    rw [ld3]
    rw [ld5]
    rw [show _ = x4 from ld4 arg9 x4]
    rw [ldw512]
    exact View.read_writes_full _ _ _ _ _
  isplitl [HT0]; · iexact HT0
  isplitl [HT1]; · iexact HT1
  iexact HT2

set_option maxHeartbeats 1000000 in
/-- A later point of a used block, or of an unused one, of no row. -/
theorem run_B0 : RunAt (F := F) Not Not Not Not Not Not := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold step start
    rw [if_neg h6, if_neg h2, if_neg h3, if_neg h4, if_neg h5, if_neg h1]
    iexact H6
  isplitl [HT0]; · iexact HT0
  isplitl [HT1]; · iexact HT1
  iexact HT2

set_option maxHeartbeats 1000000 in
/-- A later point of a used block, or of an unused one, of at most 128 rows. -/
theorem run_B1 : RunAt (F := F) Not (fun a => a) Not Not Not Not := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · rw [← owns_eq_rep]; unfold owns; iexists _; isplitr
    swap; · iexact H6
    ipureintro
    sl_unfold_words
    unfold step start gain128
    rw [if_neg h6, if_pos h2, if_neg h1]
    rw [ldx128]
    rw [ld1]
    rw [ld2]
    rw [ld3]
    rw [ld5]
    rw [ldy128]
    exact View.read_writes_rep_unit _ _ _ _ rfl
  isplitl [HT0]; · iexact HT0
  isplitl [HT1]; · iexact HT1
  iexact HT2

set_option maxHeartbeats 1000000 in
/-- A later point of a used block, or of an unused one, of at most 256 rows. -/
theorem run_B2 : RunAt (F := F) Not Not (fun a => a) Not Not Not := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · rw [← owns_eq_rep]; unfold owns; iexists _; isplitr
    swap; · iexact H6
    ipureintro
    sl_unfold_words
    unfold step start gain256
    rw [if_neg h6, if_neg h2, if_pos h3, if_neg h1]
    rw [ldx256]
    rw [ld1]
    rw [ld2]
    rw [ld3]
    rw [ld5]
    rw [ldy256]
    exact View.read_writes_rep_unit _ _ _ _ rfl
  isplitl [HT0]; · iexact HT0
  isplitl [HT1]; · iexact HT1
  iexact HT2

set_option maxHeartbeats 1000000 in
/-- A later point of a used block, or of an unused one, of at most 384 rows. -/
theorem run_B3 : RunAt (F := F) Not Not Not (fun a => a) Not Not := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · rw [← owns_eq_rep]; unfold owns; iexists _; isplitr
    swap; · iexact H6
    ipureintro
    sl_unfold_words
    unfold step start gain384
    rw [if_neg h6, if_neg h2, if_neg h3, if_pos h4, if_neg h1]
    rw [ldx384]
    rw [ld1]
    rw [ld2]
    rw [ld3]
    rw [ld5]
    rw [ldy384]
    exact View.read_writes_rep_unit _ _ _ _ rfl
  isplitl [HT0]; · iexact HT0
  isplitl [HT1]; · iexact HT1
  iexact HT2

set_option maxHeartbeats 1000000 in
/-- A later point of a used block, or of an unused one, of at most 512 rows. -/
theorem run_B4 : RunAt (F := F) Not Not Not Not (fun a => a) Not := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · rw [← owns_eq_rep]; unfold owns; iexists _; isplitr
    swap; · iexact H6
    ipureintro
    sl_unfold_words
    unfold step start gain512
    rw [if_neg h6, if_neg h2, if_neg h3, if_neg h4, if_pos h5, if_neg h1]
    rw [ldx512]
    rw [ld1]
    rw [ld2]
    rw [ld3]
    rw [ld5]
    rw [ldy512]
    exact View.read_writes_full _ _ _ _ _
  isplitl [HT0]; · iexact HT0
  isplitl [HT1]; · iexact HT1
  iexact HT2

set_option maxHeartbeats 1000000 in
/-- The first point of an unused block: cleared. -/
theorem run_Z : RunAt (F := F) Not Not Not Not Not (fun a => a) := by
  intro c i arg5 harg5 arg6 harg6 arg7 harg7 arg8 harg8 arg9 harg9 arg10 harg10 arg11 harg11 x0 x1 x2 x3 x4 x5 y xt0 xt1 xt2 h1 h2 h3 h4 h5 h6 E K
  simp only [cc0_moe_experts_eq_skeleton]; unfold cc0_moe_experts_skel
  simp only [k0_part5_eq_skeleton]; unfold k0_part5_skel
  simp only [k0_part1_eq_skeleton, k0_part2_eq_skeleton, k0_part3_eq_skeleton, k0_part4_eq_skeleton]
  simp only [owns_eq_rep]
  iintro ⟨H0, H1, H2, H3, H4, H5, H6, HT0, HT1, HT2, Hk⟩
  sl_exec (disch := first | sl_exact h1 | sl_exact h2 | sl_exact h3 | sl_exact h4 | sl_exact h5 | sl_exact h6)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · rw [← owns_eq_rep]; unfold owns; iexists _; isplitr
    swap; · iexact H6
    ipureintro
    sl_unfold_words
    unfold step start
    rw [if_pos h6]
    exact View.read_writes_full _ _ _ _ _
  isplitl [HT0]; · iexact HT0
  isplitl [HT1]; · iexact HT1
  iexact HT2

end Cert.Moe1

end
-- ==== Proof.Moe1Cond.lean ====
/- When the experts' body starts, increases or clears its block, as comparisons of integers; and its run at any point. -/
module

public import proofs.«01_k».proof.Proof.Moe1Runs

@[expose] public section

set_option maxRecDepth 16384

noncomputable section

namespace Cert.Moe1

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! ## The conditions -/

theorem guard_iff (a b : Bool) : Scalar.cmpi .ne (Scalar.extui (Scalar.andi (BitVec.ofBool a) (BitVec.ofBool b)) : BitVec 32) 0#32 = 1#1 ↔ a = true ∧ b = true := by
  cases a <;> cases b <;> decide

/-- Block `i` is one of the used ones. -/
def used (i : grid0.Coords) (u : BitVec 32) : Prop := ((i 0).val : Int) < u.toInt

/-- How many of its rows are used. -/
def rows (i : grid0.Coords) (u r : BitVec 32) : Int := open Classical in if used i u then r.toInt else 0

theorem slt_used (i : grid0.Coords) (u : BitVec 32) : (BitVec.ofNat 32 (i 0).val).slt u = true ↔ used i u := by
  have h : (i 0).val < 96 := (i 0).isLt
  rw [BitVec.slt, decide_eq_true_iff, WordCmp.toInt_ofNat_of_lt (by omega)]
  rfl

theorem first_iff (i : grid0.Coords) : (BitVec.ofNat 32 (i 1).val == 0#32) = true ↔ (i 1).val = 0 := by
  have h : (i 1).val < 4 := (i 1).isLt
  rw [beq_iff_eq]
  exact WordCmp.ofNat_eq_ofNat_iff (w := 32) (b := 0) (by omega) (by omega)

theorem cond1_iff (i : grid0.Coords) (u : BitVec 32) : k0_cond1 i u = 1#1 ↔ (i 1).val = 0 ∧ used i u :=
  (guard_iff _ _).trans (and_congr (first_iff i) (slt_used i u))

theorem cond6_iff (i : grid0.Coords) (u : BitVec 32) : k0_cond6 i u = 1#1 ↔ ¬used i u ∧ (i 1).val = 0 := by
  refine (guard_iff _ _).trans (and_congr ?_ (first_iff i))
  rw [← slt_used, BitVec.slt, decide_eq_true_iff]
  show u.sle (BitVec.ofNat 32 (i 0).val) = true ↔ _
  rw [BitVec.sle, decide_eq_true_iff]
  exact Int.not_lt.symm

theorem select_rows (i : grid0.Coords) (u r : BitVec 32) :
    (Scalar.select (Scalar.cmpi .slt (BitVec.ofNat 32 (i 0).val) u) r 0#32).toInt = rows i u r := by
  by_cases h : used i u
  · rw [rows, if_pos h]
    have e : Scalar.cmpi .slt (BitVec.ofNat 32 (i 0).val) u = 1#1 := congrArg BitVec.ofBool ((slt_used i u).mpr h)
    rw [e]; rfl
  · rw [rows, if_neg h]
    have e : Scalar.cmpi .slt (BitVec.ofNat 32 (i 0).val) u = 0#1 :=
      congrArg BitVec.ofBool (Bool.eq_false_iff.mpr fun h' => h ((slt_used i u).mp h'))
    rw [e]; rfl

theorem between (i : grid0.Coords) (u r lo hi : BitVec 32) :
    Scalar.cmpi .ne (Scalar.extui (Scalar.andi (BitVec.ofBool (lo.slt (Scalar.select (Scalar.cmpi .slt (BitVec.ofNat 32 (i 0).val) u) r 0#32)))
      (BitVec.ofBool ((Scalar.select (Scalar.cmpi .slt (BitVec.ofNat 32 (i 0).val) u) r 0#32).sle hi))) : BitVec 32) 0#32 = 1#1
      ↔ lo.toInt < rows i u r ∧ rows i u r ≤ hi.toInt := by
  refine (guard_iff _ _).trans (and_congr ?_ ?_)
  · rw [BitVec.slt, decide_eq_true_iff, select_rows]
  · rw [BitVec.sle, decide_eq_true_iff, select_rows]

theorem cond2_iff (i : grid0.Coords) (u r : BitVec 32) : k0_cond2 i u r = 1#1 ↔ 0 < rows i u r ∧ rows i u r ≤ 128 := between i u r 0#32 128#32
theorem cond3_iff (i : grid0.Coords) (u r : BitVec 32) : k0_cond3 i u r = 1#1 ↔ 128 < rows i u r ∧ rows i u r ≤ 256 := between i u r 128#32 256#32
theorem cond4_iff (i : grid0.Coords) (u r : BitVec 32) : k0_cond4 i u r = 1#1 ↔ 256 < rows i u r ∧ rows i u r ≤ 384 := between i u r 256#32 384#32
theorem cond5_iff (i : grid0.Coords) (u r : BitVec 32) : k0_cond5 i u r = 1#1 ↔ 384 < rows i u r ∧ rows i u r ≤ 512 := between i u r 384#32 512#32

theorem rows_unused {i : grid0.Coords} {u r : BitVec 32} (h : ¬used i u) : rows i u r = 0 := if_neg h
theorem rows_used {i : grid0.Coords} {u r : BitVec 32} (h : used i u) : rows i u r = r.toInt := if_pos h

theorem apart {P Q : Prop} {R a b a' b' : Int} (p : P ↔ a < R ∧ R ≤ b) (q : Q ↔ a' < R ∧ R ≤ b') (hab : b ≤ a' ∨ b' ≤ a) (h : P) : ¬Q := fun h' => by
  have x := p.mp h
  have y := q.mp h'
  clear p q h h'
  omega

theorem apart6 {Q : Prop} {R a b : Int} (q : Q ↔ a < R ∧ R ≤ b) (ha : 0 ≤ a) (h : R = 0) : ¬Q := fun h' => by
  have y := q.mp h'
  clear q h'
  omega

theorem apart23 {i : grid0.Coords} {u r : BitVec 32} : k0_cond2 i u r = 1#1 → ¬k0_cond3 i u r = 1#1 := apart (cond2_iff i u r) (cond3_iff i u r) (by decide)
theorem apart24 {i : grid0.Coords} {u r : BitVec 32} : k0_cond2 i u r = 1#1 → ¬k0_cond4 i u r = 1#1 := apart (cond2_iff i u r) (cond4_iff i u r) (by decide)
theorem apart25 {i : grid0.Coords} {u r : BitVec 32} : k0_cond2 i u r = 1#1 → ¬k0_cond5 i u r = 1#1 := apart (cond2_iff i u r) (cond5_iff i u r) (by decide)
theorem apart32 {i : grid0.Coords} {u r : BitVec 32} : k0_cond3 i u r = 1#1 → ¬k0_cond2 i u r = 1#1 := apart (cond3_iff i u r) (cond2_iff i u r) (by decide)
theorem apart34 {i : grid0.Coords} {u r : BitVec 32} : k0_cond3 i u r = 1#1 → ¬k0_cond4 i u r = 1#1 := apart (cond3_iff i u r) (cond4_iff i u r) (by decide)
theorem apart35 {i : grid0.Coords} {u r : BitVec 32} : k0_cond3 i u r = 1#1 → ¬k0_cond5 i u r = 1#1 := apart (cond3_iff i u r) (cond5_iff i u r) (by decide)
theorem apart42 {i : grid0.Coords} {u r : BitVec 32} : k0_cond4 i u r = 1#1 → ¬k0_cond2 i u r = 1#1 := apart (cond4_iff i u r) (cond2_iff i u r) (by decide)
theorem apart43 {i : grid0.Coords} {u r : BitVec 32} : k0_cond4 i u r = 1#1 → ¬k0_cond3 i u r = 1#1 := apart (cond4_iff i u r) (cond3_iff i u r) (by decide)
theorem apart45 {i : grid0.Coords} {u r : BitVec 32} : k0_cond4 i u r = 1#1 → ¬k0_cond5 i u r = 1#1 := apart (cond4_iff i u r) (cond5_iff i u r) (by decide)
theorem apart52 {i : grid0.Coords} {u r : BitVec 32} : k0_cond5 i u r = 1#1 → ¬k0_cond2 i u r = 1#1 := apart (cond5_iff i u r) (cond2_iff i u r) (by decide)
theorem apart53 {i : grid0.Coords} {u r : BitVec 32} : k0_cond5 i u r = 1#1 → ¬k0_cond3 i u r = 1#1 := apart (cond5_iff i u r) (cond3_iff i u r) (by decide)
theorem apart54 {i : grid0.Coords} {u r : BitVec 32} : k0_cond5 i u r = 1#1 → ¬k0_cond4 i u r = 1#1 := apart (cond5_iff i u r) (cond4_iff i u r) (by decide)
theorem apart62 {i : grid0.Coords} {u r : BitVec 32} (h : ¬used i u) : ¬k0_cond2 i u r = 1#1 := apart6 (cond2_iff i u r) (by decide) (rows_unused h)
theorem apart63 {i : grid0.Coords} {u r : BitVec 32} (h : ¬used i u) : ¬k0_cond3 i u r = 1#1 := apart6 (cond3_iff i u r) (by decide) (rows_unused h)
theorem apart64 {i : grid0.Coords} {u r : BitVec 32} (h : ¬used i u) : ¬k0_cond4 i u r = 1#1 := apart6 (cond4_iff i u r) (by decide) (rows_unused h)
theorem apart65 {i : grid0.Coords} {u r : BitVec 32} (h : ¬used i u) : ¬k0_cond5 i u r = 1#1 := apart6 (cond5_iff i u r) (by decide) (rows_unused h)

/-! ## The run at any point -/

/-- The body at any point takes the block from `y` to `step … y`. -/
theorem run_any (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S1x1x1024 .f32) (harg7 : arg7.IsWhole) (arg8 : Memref sig .tc .vmem S1x512x2048 .f32) (harg8 : arg8.IsWhole) (arg9 : Memref sig .tc .vmem S1x1x2048 .f32) (harg9 : arg9.IsWhole) (arg10 : Memref sig .tc .vmem S1024x512 .bf16) (harg10 : arg10.IsWhole) (arg11 : Memref sig .tc .vmem S512x2048 .f32) (harg11 : arg11.IsWhole) (x0 : Vec F S512x2048 .bf16) (x1 : Vec F S1x2048x1024 .f32) (x2 : Vec F S1x1x1024 .f32) (x3 : Vec F S1x512x2048 .f32) (x4 : Vec F S1x1x2048 .f32) (x5 : Vec F S1024x512 .bf16) (y : Vec F S512x2048 .f32) (xt0 : TabBuf (F := F) c tabE) (xt1 : TabBuf (F := F) c tabU) (xt2 : TabBuf (F := F) c tabR) (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare y ∗ tabAt c tabE xt0 ∗ tabAt c tabU xt1 ∗ tabAt c tabR xt2 ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare (step i (wordU c xt1) (wordR c i xt2) x0 x1 x2 x3 x4 x5 y) ∗ tabAt c tabE xt0 ∗ tabAt c tabU xt1 ∗ tabAt c tabR xt2) -∗ K ⟨⟩))
      ⊢ wp frame (wpE (defs₀ (F := F)) Variants.none c none) E (cc0_moe_experts i tabE tabE_whole tabU tabU_whole tabR tabR_whole arg5 harg5 arg6 harg6 arg7 harg7 arg8 harg8 arg9 harg9 arg10 harg10 arg11 harg11) K := by
  by_cases hu : used i (wordU c xt1)
  · have n6 : ¬k0_cond6 i (wordU c xt1) = 1#1 := fun h => ((cond6_iff _ _).mp h).1 hu
    by_cases h1 : k0_cond1 i (wordU c xt1) = 1#1
    · by_cases k2 : k0_cond2 i (wordU c xt1) (wordR c i xt2) = 1#1
      · exact run_A1 c i _ _ _ _ _ _ _ _ _ _ _ _ _ _ _ _ _ _ _ _ _ _ _ _ h1 k2 (apart23 k2) (apart24 k2) (apart25 k2) n6 E K
      by_cases k3 : k0_cond3 i (wordU c xt1) (wordR c i xt2) = 1#1
      · exact run_A2 c i _ _ _ _ _ _ _ _ _ _ _ _ _ _ _ _ _ _ _ _ _ _ _ _ h1 (apart32 k3) k3 (apart34 k3) (apart35 k3) n6 E K
      by_cases k4 : k0_cond4 i (wordU c xt1) (wordR c i xt2) = 1#1
      · exact run_A3 c i _ _ _ _ _ _ _ _ _ _ _ _ _ _ _ _ _ _ _ _ _ _ _ _ h1 (apart42 k4) (apart43 k4) k4 (apart45 k4) n6 E K
      by_cases k5 : k0_cond5 i (wordU c xt1) (wordR c i xt2) = 1#1
      · exact run_A4 c i _ _ _ _ _ _ _ _ _ _ _ _ _ _ _ _ _ _ _ _ _ _ _ _ h1 (apart52 k5) (apart53 k5) (apart54 k5) k5 n6 E K
      exact run_A0 c i _ _ _ _ _ _ _ _ _ _ _ _ _ _ _ _ _ _ _ _ _ _ _ _ h1 k2 k3 k4 k5 n6 E K
    · by_cases k2 : k0_cond2 i (wordU c xt1) (wordR c i xt2) = 1#1
      · exact run_B1 c i _ _ _ _ _ _ _ _ _ _ _ _ _ _ _ _ _ _ _ _ _ _ _ _ h1 k2 (apart23 k2) (apart24 k2) (apart25 k2) n6 E K
      by_cases k3 : k0_cond3 i (wordU c xt1) (wordR c i xt2) = 1#1
      · exact run_B2 c i _ _ _ _ _ _ _ _ _ _ _ _ _ _ _ _ _ _ _ _ _ _ _ _ h1 (apart32 k3) k3 (apart34 k3) (apart35 k3) n6 E K
      by_cases k4 : k0_cond4 i (wordU c xt1) (wordR c i xt2) = 1#1
      · exact run_B3 c i _ _ _ _ _ _ _ _ _ _ _ _ _ _ _ _ _ _ _ _ _ _ _ _ h1 (apart42 k4) (apart43 k4) k4 (apart45 k4) n6 E K
      by_cases k5 : k0_cond5 i (wordU c xt1) (wordR c i xt2) = 1#1
      · exact run_B4 c i _ _ _ _ _ _ _ _ _ _ _ _ _ _ _ _ _ _ _ _ _ _ _ _ h1 (apart52 k5) (apart53 k5) (apart54 k5) k5 n6 E K
      exact run_B0 c i _ _ _ _ _ _ _ _ _ _ _ _ _ _ _ _ _ _ _ _ _ _ _ _ h1 k2 k3 k4 k5 n6 E K
  · have n1 : ¬k0_cond1 i (wordU c xt1) = 1#1 := fun h => hu ((cond1_iff _ _).mp h).2
    by_cases h6 : k0_cond6 i (wordU c xt1) = 1#1
    · exact run_Z c i _ _ _ _ _ _ _ _ _ _ _ _ _ _ _ _ _ _ _ _ _ _ _ _ n1 (apart62 hu) (apart63 hu) (apart64 hu) (apart65 hu) h6 E K
    · exact run_B0 c i _ _ _ _ _ _ _ _ _ _ _ _ _ _ _ _ _ _ _ _ _ _ _ _ n1 (apart62 hu) (apart63 hu) (apart64 hu) (apart65 hu) h6 E K

end Cert.Moe1

end
-- ==== Proof.Moe1Frame.lean ====
/- The experts' call at every point of its grid: the block after each point, the body's obligation, the run of the program and its frame. -/
module

public import proofs.«01_k».proof.Proof.Moe1Cond
public import Idealize.ShloMosaic.Lib.Claim

@[expose] public section

set_option maxRecDepth 16384

noncomputable section

namespace Cert.Moe1

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The block after each point -/

theorem step_first {i : grid0.Coords} {u r : BitVec 32} (h : (i 1).val = 0) (x0 : Vec F S512x2048 .bf16) (x1 : Vec F S1x2048x1024 .f32) (x2 : Vec F S1x1x1024 .f32) (x3 : Vec F S1x512x2048 .f32) (x4 : Vec F S1x1x2048 .f32) (x5 : Vec F S1024x512 .bf16) (y y' : Vec F S512x2048 .f32) :
    step i u r x0 x1 x2 x3 x4 x5 y = step i u r x0 x1 x2 x3 x4 x5 y' := by
  by_cases hu : used i u
  · have e : start i u x4 y = start i u x4 y' := by
      unfold start
      rw [if_pos ((cond1_iff i u).mpr ⟨h, hu⟩), if_pos ((cond1_iff i u).mpr ⟨h, hu⟩)]
    unfold step
    rw [e]
  · unfold step
    rw [if_pos ((cond6_iff i u).mpr ⟨hu, h⟩), if_pos ((cond6_iff i u).mpr ⟨hu, h⟩)]

theorem step_idle {i : grid0.Coords} {u r : BitVec 32} (h1 : ¬k0_cond1 i u = 1#1) (h2 : ¬k0_cond2 i u r = 1#1) (h3 : ¬k0_cond3 i u r = 1#1) (h4 : ¬k0_cond4 i u r = 1#1) (h5 : ¬k0_cond5 i u r = 1#1) (h6 : ¬k0_cond6 i u = 1#1)
    (x0 : Vec F S512x2048 .bf16) (x1 : Vec F S1x2048x1024 .f32) (x2 : Vec F S1x1x1024 .f32) (x3 : Vec F S1x512x2048 .f32) (x4 : Vec F S1x1x2048 .f32) (x5 : Vec F S1024x512 .bf16) (y : Vec F S512x2048 .f32) :
    step i u r x0 x1 x2 x3 x4 x5 y = y := by
  unfold step start
  rw [if_neg h6, if_neg h2, if_neg h3, if_neg h4, if_neg h5, if_neg h1]

/-- The point `t` of the call, on its blocks. -/
def stepAt (hO : Ok m) (c : Dev nD) (t : Fin (cfgM m hO).N) (y : Vec F S512x2048 .f32) : Vec F S512x2048 .f32 :=
  step (grid0.coords t) (wordU c (tbl m 1)) (wordR c (grid0.coords t) (tbl m 2)) (iblk m hO c 0 t) (iblk m hO c 1 t) (iblk m hO c 2 t) (iblk m hO c 3 t) (iblk m hO c 4 t) (iblk m hO c 5 t) y

/-- The block after point `n`. -/
def outs (hO : Ok m) (c : Dev nD) : (n : ℕ) → n < (cfgM m hO).N → Vec F S512x2048 .f32
  | 0, h => stepAt m hO c ⟨0, h⟩ k0_pay1
  | n + 1, h => stepAt m hO c ⟨n + 1, h⟩ (outs hO c n (Nat.lt_of_succ_lt h))

theorem coord1 (t : Fin grid0.N) : (grid0.coords t 1).val = t.val % 4 := by
  show t.val / 1 % 4 = t.val % 4
  rw [Nat.div_one]
theorem coord0 (t : Fin grid0.N) : (grid0.coords t 0).val = t.val / 4 := by
  have h : t.val < 384 := t.isLt
  show (t.val / 4) % 96 = t.val / 4
  omega

theorem outs_first (hO : Ok m) (c : Dev nD) (t : Fin (cfgM m hO).N) (h : t.val % 4 = 0) (y : Vec F S512x2048 .f32) : outs m hO c t.val t.isLt = stepAt m hO c t y := by
  obtain ⟨n, hn⟩ := t
  cases n with
  | zero => exact step_first ((coord1 _).trans h) _ _ _ _ _ _ _ _
  | succ n => exact step_first ((coord1 _).trans h) _ _ _ _ _ _ _ _

theorem outs_next (hO : Ok m) (c : Dev nD) (t : Fin (cfgM m hO).N) (h : t.val ≠ 0) :
    outs m hO c t.val t.isLt = stepAt m hO c t (outs m hO c (t.val - 1) (Nat.lt_of_le_of_lt (Nat.sub_le _ _) t.isLt)) := by
  obtain ⟨n, hn⟩ := t
  cases n with
  | zero => exact absurd rfl h
  | succ n => rfl

/-! ## The proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outs m hO c t.val t.isLt
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = iblk m hO c 5 t := by dsimp only [dats]; try rfl
theorem after6 (hO : Ok m) (c : Dev nD) (t : Fin (cfgM m hO).N) : (dats m hO 0 c).after 6 t = outs m hO c t.val t.isLt := by dsimp only [dats]; try rfl
theorem before0 (hO : Ok m) (c : Dev nD) (t : Fin (cfgM m hO).N) (d) : (dats m hO 0 c).before 0 t d = iblk m hO c 0 t :=
  staged0 m hO (dats m hO 0 c) (A_eq m hO c 0) (after0 m hO c) t d
theorem before1 (hO : Ok m) (c : Dev nD) (t : Fin (cfgM m hO).N) (d) : (dats m hO 0 c).before 1 t d = iblk m hO c 1 t :=
  staged1 m hO (dats m hO 0 c) (A_eq m hO c 1) (after1 m hO c) t d
theorem before2 (hO : Ok m) (c : Dev nD) (t : Fin (cfgM m hO).N) (d) : (dats m hO 0 c).before 2 t d = iblk m hO c 2 t :=
  staged2 m hO (dats m hO 0 c) (A_eq m hO c 2) (after2 m hO c) t d
theorem before3 (hO : Ok m) (c : Dev nD) (t : Fin (cfgM m hO).N) (d) : (dats m hO 0 c).before 3 t d = iblk m hO c 3 t :=
  staged3 m hO (dats m hO 0 c) (A_eq m hO c 3) (after3 m hO c) t d
theorem before4 (hO : Ok m) (c : Dev nD) (t : Fin (cfgM m hO).N) (d) : (dats m hO 0 c).before 4 t d = iblk m hO c 4 t :=
  staged4 m hO (dats m hO 0 c) (A_eq m hO c 4) (after4 m hO c) t d
theorem before5 (hO : Ok m) (c : Dev nD) (t : Fin (cfgM m hO).N) (d) : (dats m hO 0 c).before 5 t d = iblk m hO c 5 t :=
  staged5 m hO (dats m hO 0 c) (A_eq m hO c 5) (after5 m hO c) t d

/-! ## Where the result's window is idle -/

theorem word1 (c : Dev nD) : (tbl m).atD 1 ![0] = wordU c (tbl m 1) := rfl
theorem word2 (c : Dev nD) (i : grid0.Coords) : (tbl m).atD 2 (k0_off2 i) = wordR c i (tbl m 2) := by
  unfold Pipeline.Prefetch.Contents.atD
  exact (dif_pos (show ∀ a : Fin (pre0.ref 2).ty.shape.rank, k0_off2 i a + 1 ≤ (pre0.ref 2).ty.shape.size a from fun a => match a with | ⟨0, _⟩ => k0_off2_inb i 0)).trans rfl

theorem idle6 (hO : Ok m) (c : Dev nD) (t : Fin (cfgM m hO).N) : (cfgM m hO).idle 6 ((cfgM m hO).grid.coords t) = true ↔
    (¬k0_cond1 (grid0.coords t) (wordU c (tbl m 1)) = 1#1) ∧ (¬k0_cond2 (grid0.coords t) (wordU c (tbl m 1)) (wordR c (grid0.coords t) (tbl m 2)) = 1#1)
      ∧ (¬k0_cond3 (grid0.coords t) (wordU c (tbl m 1)) (wordR c (grid0.coords t) (tbl m 2)) = 1#1) ∧ (¬k0_cond4 (grid0.coords t) (wordU c (tbl m 1)) (wordR c (grid0.coords t) (tbl m 2)) = 1#1)
      ∧ (¬k0_cond5 (grid0.coords t) (wordU c (tbl m 1)) (wordR c (grid0.coords t) (tbl m 2)) = 1#1) ∧ (¬k0_cond6 (grid0.coords t) (wordU c (tbl m 1)) = 1#1) := by
  show idle0 (tbl m) 6 (grid0.coords t) = true ↔ _
  unfold idle0
  dsimp only
  rw [word1 m c, word2 m c]
  simp only [Bool.and_eq_true, Bool.not_eq_true', beq_eq_false_iff_ne, ne_eq, and_assoc]

theorem idle_step (hO : Ok m) (c : Dev nD) (t : Fin (cfgM m hO).N) (h : (cfgM m hO).idle 6 ((cfgM m hO).grid.coords t) = true) (y : Vec F S512x2048 .f32) : stepAt m hO c t y = y := by
  obtain ⟨h1, h2, h3, h4, h5, h6⟩ := (idle6 m hO c t).mp h
  exact step_idle h1 h2 h3 h4 h5 h6 _ _ _ _ _ _ _

theorem first_busy (hO : Ok m) (c : Dev nD) (t : Fin (cfgM m hO).N) (h : t.val % 4 = 0) : (cfgM m hO).idle 6 ((cfgM m hO).grid.coords t) = false := by
  refine Bool.eq_false_iff.mpr fun hi => ?_
  obtain ⟨h1, -, -, -, -, h6⟩ := (idle6 m hO c t).mp hi
  by_cases hu : used (grid0.coords t) (wordU c (tbl m 1))
  · exact h1 ((cond1_iff _ _).mpr ⟨(coord1 _).trans h, hu⟩)
  · exact h6 ((cond6_iff _ _).mpr ⟨hu, (coord1 _).trans h⟩)

theorem points (hO : Ok m) : (cfgM m hO).N = 384 := N_0

theorem fresh6 (hO : Ok m) (c : Dev nD) : ∀ n ≤ (cfgM m hO).N, (cfgM m hO).fresh 6 n = decide (n % 4 = 0) := by
  refine (cfgM m hO).fresh_tab 6 (fun n => decide (n % 4 = 0)) rfl fun t => ?_
  have hf := flush6 (adm m hO) t
  by_cases h3 : t.val % 4 = 3
  · rw [hf.mpr h3, Bool.true_or]
    exact decide_eq_true (by omega)
  · rw [Bool.eq_false_iff.mpr fun h => h3 (hf.mp h), Bool.false_or, show decide ((t.val + 1) % 4 = 0) = false from decide_eq_false (by omega)]
    by_cases h0 : t.val % 4 = 0
    · rw [first_busy m hO c t h0, Bool.false_and]
    · rw [decide_eq_false h0, Bool.and_false]

/-- Past its first point the result's buffer holds what the point before left. -/
theorem before6 (hO : Ok m) (c : Dev nD) (t : Fin (cfgM m hO).N) (h : ¬t.val % 4 = 0) (d) :
    (dats m hO 0 c).before 6 t d = outs m hO c (t.val - 1) (Nat.lt_of_le_of_lt (Nat.sub_le _ _) t.isLt) := by
  refine ((dats m hO 0 c).before_out_traj 6 rfl (fun _ _ => rfl) (fun s hs hi _ => ?_) t.val t rfl d).trans ?_
  · rw [after6, after6, outs_next m hO c s hs, idle_step m hO c s hi]
  · rw [if_neg (by rw [fresh6 m hO c t.val (le_of_lt t.isLt), decide_eq_true_iff]; exact h), after6]

/-- What a point leaves, whatever the result's buffer held. -/
theorem step_eq (hO : Ok m) (c : Dev nD) (t : Fin (cfgM m hO).N) (d) : stepAt m hO c t ((dats m hO 0 c).before 6 t d) = outs m hO c t.val t.isLt := by
  by_cases h : t.val % 4 = 0
  · exact (outs_first m hO c t h _).symm
  · rw [before6 m hO c t h d, outs_next m hO c t (by omega)]

/-! ## The body's obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t)
    ∗ (dats m hO 0 c).leavesExact 6 t)

theorem leaves6 (hO : Ok m) (c : Dev nD) (t : Fin (cfgM m hO).N) (d) :
    (owns (c : Thread nD τ) (ms6 m hO t) fullShare (stepAt m hO c t ((dats m hO 0 c).before 6 t d)) : sProp 𝕄) ⊢ (dats m hO 0 c).leavesExact 6 t := by
  cases hi : (cfgM m hO).idle 6 ((cfgM m hO).grid.coords t) with
  | false =>
    unfold Dat.leavesExact
    rw [hi]
    exact Entails.of_eq (congrArg (fun z => owns (c : Thread nD τ) (ms6 m hO t) fullShare z) ((step_eq m hO c t d).trans (after6 m hO c t).symm))
  | true =>
    cases hf : ((cfgM m hO).win 6).flush t with
    | false =>
      rw [(dats m hO 0 c).leavesExact_idle 6 t hi hf]
      refine (Entails.of_eq (congrArg (fun z => owns (c : Thread nD τ) (ms6 m hO t) fullShare z) (idle_step m hO c t hi _))).trans ?_
      iintro H
      iexists d
      iexact H
    | true =>
      unfold Dat.leavesExact
      rw [hi, hf]
      exact Entails.of_eq (congrArg (fun z => owns (c : Thread nD τ) (ms6 m hO t) fullShare z) ((step_eq m hO c t d).trans (after6 m hO c t).symm))

set_option maxHeartbeats 800000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3, before4, before5]
  rw [show (dats m hO 0 c).Φ t.succ = (dats m hO 0 c).Φ t.castSucc from rfl,
    show (dats m hO 0 c).owesAt () t.succ = (dats m hO 0 c).owesAt () t.castSucc from rfl,
    after0, after1, after2, after3, after4, after5]
  rw [show (dats m hO 0 c).Φ t.castSucc = iprop(Pipeline.ΦA spec0 c ∗ Pipeline.ΦT pre0 (tbl m) c) from rfl, tables_eq]
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩⟩
  iapply (run_any c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (iblk m hO c 0 t) (iblk m hO c 1 t) (iblk m hO c 2 t) (iblk m hO c 3 t) (iblk m hO c 4 t) (iblk m hO c 5 t) ((dats m hO 0 c).before 6 t d6) (tbl m 0) (tbl m 1) (tbl m 2) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HT2]; · iexact HT2
  iintro ⟨H0, H1, H2, H3, H4, H5, H6, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves6 m hO c t d6)
  iexact H6

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
/-- The program runs to what the call leaves, every counter at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The arguments end as they began, every counter at zero. -/
theorem frame_of_ok (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (args_kept m ρ hO (dats m hO) (A_eq m hO) ((θ_run defs _ _).mono (fun _ h => h.1) (run_main m ρ hO)))
    ((θ_run defs _ _).mono (fun _ h => h.2) (run_main m ρ hO))

end Cert.Moe1

end
-- ==== Proof.Moe1Ok.lean ====
/- The experts' tables in range: what the precondition says of each word, and that every block the index maps name is inside its array. -/
module

public import proofs.«01_k».proof.Defs
public import proofs.«01_k».proof.Proof.Moe1Frame
public import proofs.«01_k».proof.Proof.Gen.Kernel3
public import proofs.«01_k».proof.Proof.Gen.Kernel3Ideal
public import proofs.«01_k».proof.Proof.Gen.Pre_tables_in_range_1
public import Idealize.ShloMosaic.Lib.Affine

@[expose] public section

set_option maxRecDepth 16384

noncomputable section

namespace Cert.Moe1

open Cert.Kernel3Ideal Cert.Kernel3Ideal.Gen
open Idealize.ShloMosaic Idealize.ShloMosaic.TcCoe
open Idealize.SL Idealize.SL.Sem

/-- The tables' words: experts among 32, between 1 and 96 blocks used, at most 512 rows of each. -/
structure InRange (be : IVec S96 32) (nu : IVec S1 32) (nv : IVec S96 32) : Prop where
  expert : ∀ y, (be y).toNat < 32
  used_pos : ∀ y, 1 ≤ (nu y).toNat
  used_le : ∀ y, (nu y).toNat ≤ 96
  rows_le : ∀ y, (nv y).toNat ≤ 512

/-- Block `n`'s place in a table. -/
abbrev entry (n : Fin 96) : S96.Idx := fun a => match a with | ⟨0, _⟩ => n
abbrev only : S1.Idx := fun a => match a with | ⟨0, _⟩ => ⟨0, Nat.one_pos⟩

theorem S1_eq (x y : S1.Idx) : x = y := funext fun a => match a with
  | ⟨0, _⟩ => Fin.ext (by have h : (x 0).val < 1 := (x 0).isLt; have h' : (y 0).val < 1 := (y 0).isLt; show (x 0).val = (y 0).val; omega)

theorem in_range {F : FTy → Type} [FloatOps F] {be : IVec S96 32} {nu : IVec S1 32} {nv : IVec S96 32} {x : FVec F S49152x2048 .bf16} {w1 : FVec F S64x2048x4096 .f32} {b1 : FVec F S32x1x4096 .f32}
    {w2 : FVec F S64x2048x2048 .f32} {b2 : FVec F S32x1x2048 .f32} (h : Cert.Pre_tables_in_range_1.fn (F := F) be nu nv x w1 b1 w2 b2 = fun _ => 1#1) : InRange be nu nv := by
  have and_ofBool (p q : Bool) : IntOp.andi (BitVec.ofBool p) (BitVec.ofBool q) = BitVec.ofBool (p && q) := by
    cases p <;> cases q <;> decide
  have ofBool_one (p : Bool) : (BitVec.ofBool p = 1#1) ↔ p = true := by cases p <;> decide
  have all : ∀ (y : S96.Idx) (z : S1.Idx), (be y).toNat < 32 ∧ 1 ≤ (nu z).toNat ∧ (nu z).toNat ≤ 96 ∧ (nv y).toNat ≤ 512 := by
    intro y z
    have e := congrFun h y
    simp only [Cert.Pre_tables_in_range_1.fn, Cert.Pre_tables_in_range_1.fn_part1, andi, cmpi, broadcastInDim, constantI, IntOp.cmpi, and_ofBool, ofBool_one,
      Bool.and_eq_true] at e
    obtain ⟨⟨⟨⟨⟨h1, h2⟩, h3⟩, h4⟩, h5⟩, h6⟩ := e
    have key : ∀ w, nu w = nu z := fun w => congrArg nu (S1_eq w z)
    rw [key] at h3 h4
    simp only [BitVec.sle, BitVec.slt, decide_eq_true_eq, BitVec.toInt, BitVec.toNat_ofNat] at h1 h2 h3 h4 h5 h6
    have l1 := (be y).isLt
    have l2 := (nu z).isLt
    have l3 := (nv y).isLt
    generalize (be y).toNat = a at h1 h2 l1 ⊢
    generalize (nu z).toNat = b at h3 h4 l2 ⊢
    generalize (nv y).toNat = d at h5 h6 l3 ⊢
    refine ⟨?_, ?_, ?_, ?_⟩ <;> clear * - h1 h2 h3 h4 h5 h6 l1 l2 l3 <;> omega
  have y0 : S96.Idx := entry 0
  have z0 : S1.Idx := only
  exact ⟨fun y => (all y z0).1, fun z => (all y0 z).2.1, fun z => (all y0 z).2.2.1, fun y => (all y z0).2.2.2⟩

variable {F : FTy → Type} [FloatOps F]

/-- The tables of a launch, in range. -/
abbrev Good (pf : pre0.Contents (Elt F)) : Prop := InRange (pf 0) (pf 1) (pf 2)

theorem coord_entry (i : grid0.Coords) : (k0_off1 i) 0 = (i 0).val := by
  have h : (i 0).val < 96 := (i 0).isLt
  show (BitVec.ofNat 32 (i 0).val).toNat = (i 0).val
  rw [BitVec.toNat_ofNat]; omega

theorem word0 (pf : pre0.Contents (Elt F)) (i : grid0.Coords) :
    pf.at 0 (Rect.unit (s := S96) ![(Scalar.indexCast (BitVec.ofNat 32 (i 0).val) : Index).toNat] S1.size (k0_off1_inb i)) numel1_S1 = pf 0 (entry (i 0)) := by
  unfold Pipeline.Prefetch.Contents.at
  refine congrArg (pf 0) (funext fun a => match a with | ⟨0, _⟩ => Fin.ext ?_)
  have e := coord_entry i
  show (k0_off1 i) 0 + 1 * 0 = (i 0).val
  omega

theorem wordN (pf : pre0.Contents (Elt F)) : pf.at 1 (Rect.unit (s := S1) ![0] S1.size inb_S1_S1_0) numel1_S1 = pf 1 only := by
  unfold Pipeline.Prefetch.Contents.at
  exact congrArg (pf 1) (S1_eq _ _)

/-- Adding 32 to a word below 32 does not wrap. -/
theorem add_32 (w : BitVec 32) (hw : w.toNat < 32) : (Scalar.addi 32#32 w).toNat = 32 + w.toNat := by
  show (32#32 + w).toNat = _
  rw [BitVec.toNat_add, BitVec.toNat_ofNat]
  omega

theorem ix1 (pf : pre0.Contents (Elt F)) (hg : Good pf) (i : grid0.Coords) : cc0_transform_1 k0_off1_inb numel1_S1 pf i = ![32 + (pf 0 (entry (i 0))).toNat, 0, (i 1).val] := by
  have h : (i 1).val < 4 := (i 1).isLt
  unfold cc0_transform_1
  dsimp only
  rw [word0]
  have e : (Scalar.addi 32#32 (pf 0 (entry (i 0)))).toNat = 32 + (pf 0 (entry (i 0)) : BitVec 32).toNat := add_32 _ (hg.expert _)
  rw [e]
  show ![_, 0, (BitVec.ofNat 32 (i 1).val).toNat] = _
  rw [WordCmp.toNat_ofNat_of_lt (show (i 1).val < 2 ^ 32 by omega)]
theorem ix2' (pf : pre0.Contents (Elt F)) (i : grid0.Coords) : cc0_transform_2 k0_off1_inb numel1_S1 pf i = ![(pf 0 (entry (i 0))).toNat, 0, (i 1).val] := by
  have h : (i 1).val < 4 := (i 1).isLt
  unfold cc0_transform_2
  dsimp only
  rw [word0]
  show ![_, 0, (BitVec.ofNat 32 (i 1).val).toNat] = _
  rw [WordCmp.toNat_ofNat_of_lt (show (i 1).val < 2 ^ 32 by omega)]
theorem ix3' (pf : pre0.Contents (Elt F)) (hg : Good pf) (i : grid0.Coords) : cc0_transform_3 k0_off1_inb numel1_S1 pf i = ![32 + (pf 0 (entry (i 0))).toNat, (i 1).val, 0] := by
  have h : (i 1).val < 4 := (i 1).isLt
  unfold cc0_transform_3
  dsimp only
  rw [word0]
  have e : (Scalar.addi 32#32 (pf 0 (entry (i 0)))).toNat = 32 + (pf 0 (entry (i 0)) : BitVec 32).toNat := add_32 _ (hg.expert _)
  rw [e]
  show ![_, (BitVec.ofNat 32 (i 1).val).toNat, 0] = _
  rw [WordCmp.toNat_ofNat_of_lt (show (i 1).val < 2 ^ 32 by omega)]
theorem ix4 (pf : pre0.Contents (Elt F)) (i : grid0.Coords) : cc0_transform_4 k0_off1_inb numel1_S1 pf i = ![(pf 0 (entry (i 0))).toNat, 0, 0] := by
  unfold cc0_transform_4
  dsimp only
  rw [word0]
  rfl

theorem last_block (n : ℕ) (hn : n < 96) (u : BitVec 32) (h1 : 1 ≤ u.toNat) (h2 : u.toNat ≤ 96) :
    (Scalar.minsi (BitVec.ofNat 32 n) (Scalar.subi u 1#32)).toNat = min n (u.toNat - 1) := by
  have e : (Scalar.subi u 1#32).toNat = u.toNat - 1 := by
    show (u - 1#32).toNat = _
    rw [BitVec.toNat_sub, BitVec.toNat_ofNat]
    have := u.isLt
    omega
  generalize Scalar.subi u 1#32 = v at e
  have d : Scalar.minsi (BitVec.ofNat 32 n) v = if (BitVec.ofNat 32 n).slt v = true then BitVec.ofNat 32 n else v := rfl
  have hv : v.toInt = (v.toNat : Int) := by rw [BitVec.toInt]; split <;> omega
  have hc : (BitVec.ofNat 32 n).slt v = true ↔ n < v.toNat := by
    rw [BitVec.slt, decide_eq_true_iff, WordCmp.toInt_ofNat_of_lt (by omega), hv, Int.ofNat_lt]
  rw [d]
  by_cases hlt : n < v.toNat
  · rw [if_pos (hc.mpr hlt), WordCmp.toNat_ofNat_of_lt (by omega)]
    clear hc d hv
    omega
  · rw [if_neg fun h => hlt (hc.mp h)]
    clear hc d hv
    omega

theorem ix0' (pf : pre0.Contents (Elt F)) (h : Good pf) (i : grid0.Coords) : cc0_transform_0 inb_S1_S1_0 numel1_S1 pf i = ![min (i 0).val ((pf 1 only : BitVec 32).toNat - 1), 0] := by
  have hi : (i 0).val < 96 := (i 0).isLt
  unfold cc0_transform_0
  dsimp only
  rw [wordN, last_block _ hi _ (h.used_pos only) (h.used_le only)]
  rfl

theorem ok_of_good (pf : pre0.Contents (Elt F)) (h : Good pf) : ok0 pf := by
  refine ⟨fun i => ⟨?_, .inr (Affine.block_words_dvd (of_decide_eq_true rfl) (by decide))⟩, fun i => ⟨?_, .inl rfl⟩, fun i => ⟨?_, .inl rfl⟩, fun i => ⟨?_, .inl rfl⟩, fun i => ⟨?_, .inl rfl⟩⟩
  all_goals
    have h0 : (i 0).val < 96 := (i 0).isLt
    have h1 : (i 1).val < 4 := (i 1).isLt
    have he : ∀ n, (pf 0 (entry n) : BitVec 32).toNat < 32 := fun n => h.expert (entry n)
  · rw [ix0' pf h i]
    intro a
    match a with
    | ⟨0, _⟩ => show (min (i 0).val _ + 1) * 512 ≤ 49152; omega
    | ⟨1, _⟩ => show (0 + 1) * 2048 ≤ 2048; omega
  · rw [ix1 pf h i]
    have := he (i 0)
    intro a
    match a with
    | ⟨0, _⟩ => show (32 + (pf 0 (entry (i 0)) : BitVec 32).toNat + 1) * 1 ≤ 64; omega
    | ⟨1, _⟩ => show (0 + 1) * 2048 ≤ 2048; omega
    | ⟨2, _⟩ => show ((i 1).val + 1) * 1024 ≤ 4096; omega
  · rw [ix2' pf i]
    have := he (i 0)
    intro a
    match a with
    | ⟨0, _⟩ => show ((pf 0 (entry (i 0)) : BitVec 32).toNat + 1) * 1 ≤ 32; omega
    | ⟨1, _⟩ => show (0 + 1) * 1 ≤ 1; omega
    | ⟨2, _⟩ => show ((i 1).val + 1) * 1024 ≤ 4096; omega
  · rw [ix3' pf h i]
    have := he (i 0)
    intro a
    match a with
    | ⟨0, _⟩ => show (32 + (pf 0 (entry (i 0)) : BitVec 32).toNat + 1) * 1 ≤ 64; omega
    | ⟨1, _⟩ => show ((i 1).val + 1) * 512 ≤ 2048; omega
    | ⟨2, _⟩ => show (0 + 1) * 2048 ≤ 2048; omega
  · rw [ix4 pf i]
    have := he (i 0)
    intro a
    match a with
    | ⟨0, _⟩ => show ((pf 0 (entry (i 0)) : BitVec 32).toNat + 1) * 1 ≤ 32; omega
    | ⟨1, _⟩ => show (0 + 1) * 1 ≤ 1; omega
    | ⟨2, _⟩ => show (0 + 1) * 2048 ≤ 2048; omega

variable (m : (ℓ : Loc nD τ sig) → Buf (Elt F) ℓ) (ρ : Dev nD → PrngReg)

/-- The tables a program starts from, in range. -/
abbrev GoodM : Prop := ∀ c : Dev nD, InRange (m ((c : Thread nD τ).loc main_arg0)) (m ((c : Thread nD τ).loc main_arg1)) (m ((c : Thread nD τ).loc main_arg2))

theorem tbl0 : tbl m 0 = m (((0 : Dev nD) : Thread nD τ).loc main_arg0) := V_main_arg0 m 0
theorem tbl1 : tbl m 1 = m (((0 : Dev nD) : Thread nD τ).loc main_arg1) := V_main_arg1 m 0
theorem tbl2 : tbl m 2 = m (((0 : Dev nD) : Thread nD τ).loc main_arg2) := V_main_arg2 m 0

theorem good_tbl (h : GoodM m) : Good (tbl m) := by
  have h' := h 0
  unfold Good
  rw [tbl0, tbl1, tbl2]
  exact h'

theorem ok_of_range (h : GoodM m) : Ok m := ok_of_good (tbl m) (good_tbl m h)

/-! ## The frames -/

theorem frame_ideal (m : (ℓ : Loc nD τ sig) → Buf (Elt Ideal) ℓ) (ρ : Dev nD → PrngReg) (h : Cert.Pre_Kernel3Ideal m) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  frame_of_ok m ρ (ok_of_range m fun c => in_range (h c))

theorem frame_claim_ideal : Cert.quiescent_Kernel3Ideal := fun m ρ h => frame_ideal m ρ h

end Cert.Moe1

end
-- ==== Proof.Moe1Bits.lean ====
/- The experts' call at the machine's floats. -/
module

public import proofs.«01_k».proof.Proof.Moe1Ok

@[expose] public section

set_option maxRecDepth 16384

noncomputable section

namespace Cert.Moe1

open Cert.Kernel3Ideal Cert.Kernel3Ideal.Gen
open Idealize.ShloMosaic Idealize.ShloMosaic.TcCoe
open Idealize.SL Idealize.SL.Sem

set_option maxHeartbeats 4000000 in
theorem same_defs₀ : (Cert.Kernel3.defs₀ (F := Bits)) = (Cert.Kernel3Ideal.defs₀ (F := Bits)) := by
  unfold Cert.Kernel3.defs₀ Cert.Kernel3Ideal.defs₀
  refine congrArg Defs.onTc (funext fun ℓ => funext fun a => ?_)
  match ℓ, a with
  | ⟨0, _⟩, (t, s) => rfl

set_option maxHeartbeats 4000000 in
theorem same_defs : (Cert.Kernel3.defs (F := Bits)) = (Cert.Kernel3Ideal.defs (F := Bits)) :=
  congrArg (Pipeline.defs (Cert.Kernel3Ideal.pcfgs (F := Bits))) same_defs₀

set_option maxHeartbeats 4000000 in
/-- The program at the machine's floats has the same text, so the same run. -/
theorem frame_claim_kernel : Cert.quiescent_Kernel3 := fun m ρ h => by
  rw [same_defs]
  exact frame_of_ok (F := Bits) m ρ (ok_of_range (F := Bits) m fun c => in_range (h c))

end Cert.Moe1

end
-- ==== Proof.Moe1Math.lean ====
/-
  The experts' arithmetic: one hidden unit of a row, the gated unit, and one element of an expert's output, with arrays
  read at natural numbers.
-/
module

public import proofs.«01_k».proof.Proof.Grid2

@[expose] public section

noncomputable section

namespace Cert.Moe1

open Idealize.ShloMosaic Cert.Grid2

/-- The element of `X` at three numbers, zero out of range. -/
def rd3 {A R C : Nat} (X : (⟨3, ![A, R, C]⟩ : Shape).Idx → EReal) (a r k : Nat) : EReal :=
  if h : a < A ∧ r < R ∧ k < C then X (ix3 ⟨a, h.1⟩ ⟨r, h.2.1⟩ ⟨k, h.2.2⟩) else 0

/-- An array read at any index whose coordinates are `a`, `r` and `k`. -/
theorem eq_rd3_of {A R C : Nat} (X : (⟨3, ![A, R, C]⟩ : Shape).Idx → EReal) (i : (⟨3, ![A, R, C]⟩ : Shape).Idx) {a r k : Nat}
    (h0 : (i 0).val = a) (h1 : (i 1).val = r) (h2 : (i 2).val = k) : X i = rd3 X a r k := by
  subst h0 h1 h2
  unfold rd3
  rw [dif_pos ⟨(i 0).isLt, (i 1).isLt, (i 2).isLt⟩]
  exact congrArg X (funext fun a => match a with | ⟨0, _⟩ => rfl | ⟨1, _⟩ => rfl | ⟨2, _⟩ => rfl)

/-- Seven, minus seven, and the factor of the gate. -/
abbrev seven : EReal := Ideal.ofBits .f32 0x40E00000#32
abbrev minusSeven : EReal := Ideal.ofBits .f32 0xC0E00000#32
abbrev slope : EReal := Ideal.ofBits .f32 0xBFD9DB23#32

/-- The gated unit of a gate `g` and a linear part `l`. -/
def gate (g l : EReal) : EReal :=
  min g seven * Ideal.div 1 (1 + Ideal.exp (slope * min g seven)) * (min seven (max minusSeven l) + 1)

/-- A sum over 1024 columns weighted one at column `2 k` and zero elsewhere is the value at that column. -/
theorem sum_even (f : Fin 1024 → EReal) (s : Fin 1024 → EReal) (k : Fin 512)
    (hs : ∀ j : Fin 1024, s j = if j.val = 2 * k.val then 1 else 0) :
    (∑ j : Fin 1024, f j * s j) = f ⟨2 * k.val, by omega⟩ := by
  rw [Finset.sum_eq_single (⟨2 * k.val, by omega⟩ : Fin 1024)]
  · rw [hs, if_pos rfl, mul_one]
  · intro j _ hj
    rw [hs, if_neg fun e => hj (Fin.ext e), mul_zero]
  · intro h; exact absurd (Finset.mem_univ _) h

/-- A sum over 2048 in four runs of 512. -/
theorem sum_four (f : Nat → EReal) :
    (∑ k : Fin 2048, f k.val) = (∑ k : Fin 512, f (0 * 512 + k.val)) + (∑ k : Fin 512, f (1 * 512 + k.val))
      + (∑ k : Fin 512, f (2 * 512 + k.val)) + (∑ k : Fin 512, f (3 * 512 + k.val)) := by
  rw [Fin.sum_univ_eq_sum_range f 2048, Fin.sum_univ_eq_sum_range (fun n => f (0 * 512 + n)) 512, Fin.sum_univ_eq_sum_range (fun n => f (1 * 512 + n)) 512,
    Fin.sum_univ_eq_sum_range (fun n => f (2 * 512 + n)) 512, Fin.sum_univ_eq_sum_range (fun n => f (3 * 512 + n)) 512,
    show 2048 = 512 + 512 + 512 + 512 from rfl, Finset.sum_range_add, Finset.sum_range_add, Finset.sum_range_add]
  simp only [Nat.zero_mul, Nat.zero_add, Nat.one_mul]

variable (X : (⟨2, ![49152, 2048]⟩ : Shape).Idx → EReal) (W1 : (⟨3, ![64, 2048, 4096]⟩ : Shape).Idx → EReal)
  (B1 : (⟨3, ![32, 1, 4096]⟩ : Shape).Idx → EReal) (W2 : (⟨3, ![64, 2048, 2048]⟩ : Shape).Idx → EReal)
  (B2 : (⟨3, ![32, 1, 2048]⟩ : Shape).Idx → EReal)

/-- Hidden value `n` of row `row` at expert `e` of this layer, whose weights lie 32 places in. -/
def hid (e row n : Nat) : EReal := (∑ k : Fin 2048, rd X row k.val * rd3 W1 (32 + e) k.val n) + rd3 B1 e 0 n

/-- Gated unit `k` of that row: its gate is hidden value `2 k`, its linear part the next. -/
def unitOf (e row k : Nat) : EReal := gate (hid X W1 B1 e row (2 * k)) (hid X W1 B1 e row (2 * k + 1))

/-- What the units of run `f` of 512 give to output column `d`. -/
def share (e row d f : Nat) : EReal := ∑ k : Fin 512, unitOf X W1 B1 e row (f * 512 + k.val) * rd3 W2 (32 + e) (f * 512 + k.val) d

/-- Output column `d` of row `row` at expert `e`. -/
def expert (e row d : Nat) : EReal := (∑ k : Fin 2048, unitOf X W1 B1 e row k.val * rd3 W2 (32 + e) k.val d) + rd3 B2 e 0 d

/-- It is the bias increased by the four runs in turn. -/
theorem expert_eq (e row d : Nat) : expert X W1 B1 W2 B2 e row d
    = rd3 B2 e 0 d + share X W1 B1 W2 e row d 0 + share X W1 B1 W2 e row d 1 + share X W1 B1 W2 e row d 2 + share X W1 B1 W2 e row d 3 := by
  unfold expert share
  rw [sum_four fun k => unitOf X W1 B1 e row k * rd3 W2 (32 + e) k d, add_comm, ← add_assoc, ← add_assoc, ← add_assoc]

end Cert.Moe1

end
-- ==== Proof.Moe1Pay.lean ====
/- The experts' payloads at an element. -/
module

public import proofs.«01_k».proof.Proof.Gen.Kernel3Ideal.Skeleton
public import proofs.«01_k».proof.Proof.Moe1Math
public import Idealize.ShloMosaic.Lib.Pointwise

@[expose] public section

set_option maxRecDepth 16384

noncomputable section

namespace Cert.Moe1

open Cert.Kernel3Ideal Cert.Kernel3Ideal.Gen Idealize.ShloMosaic

/-- The hidden value of row `r` at column `n` of a block of the first weight. -/
def hidB {R : Nat} (x : (⟨2, ![R, 2048]⟩ : Shape).Idx → EReal) (w : S1x2048x1024.Idx → EReal) (b : S1x1x1024.Idx → EReal) (r : Fin R) (n : Fin 1024) : EReal :=
  (∑ k : Fin 2048, x (ix2 r k) * w (ix3 0 k n)) + b (ix3 0 0 n)

/-- The gated unit of column `2 k` and the next. -/
def unitB {R : Nat} (x : (⟨2, ![R, 2048]⟩ : Shape).Idx → EReal) (w : S1x2048x1024.Idx → EReal) (b : S1x1x1024.Idx → EReal) (r : Fin R) (k : Fin 512) : EReal :=
  gate (hidB x w b r ⟨2 * k.val, by omega⟩) (hidB x w b r ⟨2 * k.val + 1, by omega⟩)

/-- A sum of gated columns, the gate at a column and the linear part at the next, over the even ones. -/
theorem sum_gate (h : Fin 1024 → EReal) (s : Fin 1024 → EReal) (k : Fin 512) (hs : ∀ j : Fin 1024, s j = if j.val = 2 * k.val then 1 else 0) :
    (∑ j : Fin 1024, gate (h j) (h ⟨(j.val + 1024 - 1023) % 1024, Nat.mod_lt _ (by decide)⟩) * s j) = gate (h ⟨2 * k.val, by omega⟩) (h ⟨2 * k.val + 1, by omega⟩) := by
  rw [sum_even (fun j => gate (h j) (h ⟨(j.val + 1024 - 1023) % 1024, Nat.mod_lt _ (by decide)⟩)) s k hs]
  have e : (⟨(2 * k.val + 1024 - 1023) % 1024, Nat.mod_lt _ (by decide)⟩ : Fin 1024) = ⟨2 * k.val + 1, by omega⟩ :=
    Fin.ext (by show (2 * k.val + 1024 - 1023) % 1024 = 2 * k.val + 1; omega)
  exact congrArg (fun n => gate (h ⟨2 * k.val, by omega⟩) (h n)) e

theorem units128 (x : Vec Ideal S128x2048 .bf16) (w : Vec Ideal S1x2048x1024 .f32) (b : Vec Ideal S1x1x1024 .f32) (s : Vec Ideal S1024x512 .bf16)
    (hs : ∀ j k, s (ix2 j k) = if j.val = 2 * k.val then (1 : EReal) else 0) (r : Fin 128) (k : Fin 512) :
    k0_pay3 (F := Ideal) x w b s (ix2 r k) = unitB x w b r k := by
  refine Eq.trans ?_ (sum_gate (hidB x w b r) (fun j => s (ix2 j k)) k fun j => hs j k)
  unfold_payloads
  pointwise
  rfl

theorem more128 (y : Vec Ideal S128x2048 .f32) (a : Vec Ideal S128x512 .bf16) (w : Vec Ideal S1x512x2048 .f32) (r : Fin 128) (d : Fin 2048) :
    k0_pay11 (F := Ideal) (k0_pay2 y) a w (ix2 r d) = y (ix2 r d) + ∑ k : Fin 512, a (ix2 r k) * w (ix3 0 k d) := by
  unfold_payloads
  pointwise

theorem units256 (x : Vec Ideal S256x2048 .bf16) (w : Vec Ideal S1x2048x1024 .f32) (b : Vec Ideal S1x1x1024 .f32) (s : Vec Ideal S1024x512 .bf16)
    (hs : ∀ j k, s (ix2 j k) = if j.val = 2 * k.val then (1 : EReal) else 0) (r : Fin 256) (k : Fin 512) :
    k0_pay5 (F := Ideal) x w b s (ix2 r k) = unitB x w b r k := by
  refine Eq.trans ?_ (sum_gate (hidB x w b r) (fun j => s (ix2 j k)) k fun j => hs j k)
  unfold_payloads
  pointwise
  rfl

theorem more256 (y : Vec Ideal S256x2048 .f32) (a : Vec Ideal S256x512 .bf16) (w : Vec Ideal S1x512x2048 .f32) (r : Fin 256) (d : Fin 2048) :
    k0_pay12 (F := Ideal) (k0_pay4 y) a w (ix2 r d) = y (ix2 r d) + ∑ k : Fin 512, a (ix2 r k) * w (ix3 0 k d) := by
  unfold_payloads
  pointwise

theorem units384 (x : Vec Ideal S384x2048 .bf16) (w : Vec Ideal S1x2048x1024 .f32) (b : Vec Ideal S1x1x1024 .f32) (s : Vec Ideal S1024x512 .bf16)
    (hs : ∀ j k, s (ix2 j k) = if j.val = 2 * k.val then (1 : EReal) else 0) (r : Fin 384) (k : Fin 512) :
    k0_pay7 (F := Ideal) x w b s (ix2 r k) = unitB x w b r k := by
  refine Eq.trans ?_ (sum_gate (hidB x w b r) (fun j => s (ix2 j k)) k fun j => hs j k)
  unfold_payloads
  pointwise
  rfl

theorem more384 (y : Vec Ideal S384x2048 .f32) (a : Vec Ideal S384x512 .bf16) (w : Vec Ideal S1x512x2048 .f32) (r : Fin 384) (d : Fin 2048) :
    k0_pay13 (F := Ideal) (k0_pay6 y) a w (ix2 r d) = y (ix2 r d) + ∑ k : Fin 512, a (ix2 r k) * w (ix3 0 k d) := by
  unfold_payloads
  pointwise

theorem units512 (x : Vec Ideal S512x2048 .bf16) (w : Vec Ideal S1x2048x1024 .f32) (b : Vec Ideal S1x1x1024 .f32) (s : Vec Ideal S1024x512 .bf16)
    (hs : ∀ j k, s (ix2 j k) = if j.val = 2 * k.val then (1 : EReal) else 0) (r : Fin 512) (k : Fin 512) :
    k0_pay9 (F := Ideal) x w b s (ix2 r k) = unitB x w b r k := by
  refine Eq.trans ?_ (sum_gate (hidB x w b r) (fun j => s (ix2 j k)) k fun j => hs j k)
  unfold_payloads
  pointwise
  rfl

theorem more512 (y : Vec Ideal S512x2048 .f32) (a : Vec Ideal S512x512 .bf16) (w : Vec Ideal S1x512x2048 .f32) (r : Fin 512) (d : Fin 2048) :
    k0_pay14 (F := Ideal) (k0_pay8 y) a w (ix2 r d) = y (ix2 r d) + ∑ k : Fin 512, a (ix2 r k) * w (ix3 0 k d) := by
  unfold_payloads
  pointwise

theorem pay10_apply (b : Vec Ideal S1x1x2048 .f32) (r : Fin 512) (d : Fin 2048) :
    k0_pay10 (F := Ideal) b (ix2 r d) = b (ix3 0 0 d) := by
  unfold_payloads
  pointwise

end Cert.Moe1

end
-- ==== Proof.Moe1Row.lean ====
/- What a point of the experts' call leaves in a used row: the bias at the first point, the block's own row later, increased by the units' share. -/
module

public import proofs.«01_k».proof.Proof.Moe1Pay
public import proofs.«01_k».proof.Proof.Moe1Ok

@[expose] public section

set_option maxRecDepth 16384

noncomputable section

namespace Cert.Moe1

open Cert.Kernel3Ideal Cert.Kernel3Ideal.Gen Idealize.ShloMosaic Idealize.ShloMosaic.TcCoe

variable (x0 : Vec Ideal S512x2048 .bf16) (x1 : Vec Ideal S1x2048x1024 .f32) (x2 : Vec Ideal S1x1x1024 .f32) (x3 : Vec Ideal S1x512x2048 .f32)
  (x4 : Vec Ideal S1x1x2048 .f32) (x5 : Vec Ideal S1024x512 .bf16) (y : Vec Ideal S512x2048 .f32)

/-- What the units of one block of the weights give to an element. -/
def shareB (r : Fin 512) (d : Fin 2048) : EReal := ∑ k : Fin 512, unitB x0 x1 x2 r k * x3 (ix3 0 k d)

theorem first128 (e : EltTy) (z : Vec Ideal S512x2048 e) (r : Fin 128) (k : Fin 2048) :
    VecWindow.window (s := S512x2048) z ![0, 0] S128x2048.size inb_S512x2048_S128x2048_0_0 (ix2 r k) = z (ix2 ⟨r.val, by omega⟩ k) := by
  unfold VecWindow.window
  exact congrArg z (funext fun a => match a with
    | ⟨0, _⟩ => Fin.ext (by show 0 + 1 * r.val = r.val; omega)
    | ⟨1, _⟩ => Fin.ext (by show 0 + 1 * k.val = k.val; omega))

theorem gain128_apply (hs : ∀ j k, x5 (ix2 j k) = if j.val = 2 * k.val then (1 : EReal) else 0) (r : Fin 512) (hr : r.val < 128) (d : Fin 2048) :
    gain128 x0 x1 x2 x3 x4 x5 y (ix2 r d) = y (ix2 r d) + shareB x0 x1 x2 x3 r d := by
  have hin : ∀ a : Fin S512x2048.rank, (![0, 0] : Fin 2 → Nat) a ≤ ((ix2 r d : S512x2048.Idx) a).val
      ∧ ((ix2 r d : S512x2048.Idx) a).val < (![0, 0] : Fin 2 → Nat) a + S128x2048.size a := fun a => match a with
    | ⟨0, _⟩ => ⟨Nat.zero_le _, by show r.val < 0 + 128; omega⟩
    | ⟨1, _⟩ => ⟨Nat.zero_le _, by show d.val < 0 + 2048; omega⟩
  unfold gain128 VecWindow.put
  rw [dif_pos hin]
  have e : Rect.unitLocal (s := S512x2048) (off := ![0, 0]) (size := S128x2048.size) (ix2 r d) hin = (ix2 ⟨r.val, hr⟩ d : S128x2048.Idx) :=
    funext fun a => match a with | ⟨0, _⟩ => rfl | ⟨1, _⟩ => rfl
  refine (congrArg _ e).trans ?_
  rw [more128, first128]
  refine congrArg (y (ix2 r d) + ·) ?_
  unfold shareB
  refine Finset.sum_congr rfl fun k _ => ?_
  rw [units128 _ _ _ _ hs]
  have eh : ∀ n, hidB (VecWindow.window (s := S512x2048) x0 ![0, 0] S128x2048.size inb_S512x2048_S128x2048_0_0) x1 x2 (⟨r.val, hr⟩ : Fin 128) n = hidB x0 x1 x2 r n :=
    fun n => congrArg (· + x2 (ix3 0 0 n)) (Finset.sum_congr rfl fun q _ => congrArg (· * x1 (ix3 0 q n)) (first128 _ x0 ⟨r.val, hr⟩ q))
  unfold unitB
  rw [eh, eh]

theorem first256 (e : EltTy) (z : Vec Ideal S512x2048 e) (r : Fin 256) (k : Fin 2048) :
    VecWindow.window (s := S512x2048) z ![0, 0] S256x2048.size inb_S512x2048_S256x2048_0_0 (ix2 r k) = z (ix2 ⟨r.val, by omega⟩ k) := by
  unfold VecWindow.window
  exact congrArg z (funext fun a => match a with
    | ⟨0, _⟩ => Fin.ext (by show 0 + 1 * r.val = r.val; omega)
    | ⟨1, _⟩ => Fin.ext (by show 0 + 1 * k.val = k.val; omega))

theorem gain256_apply (hs : ∀ j k, x5 (ix2 j k) = if j.val = 2 * k.val then (1 : EReal) else 0) (r : Fin 512) (hr : r.val < 256) (d : Fin 2048) :
    gain256 x0 x1 x2 x3 x4 x5 y (ix2 r d) = y (ix2 r d) + shareB x0 x1 x2 x3 r d := by
  have hin : ∀ a : Fin S512x2048.rank, (![0, 0] : Fin 2 → Nat) a ≤ ((ix2 r d : S512x2048.Idx) a).val
      ∧ ((ix2 r d : S512x2048.Idx) a).val < (![0, 0] : Fin 2 → Nat) a + S256x2048.size a := fun a => match a with
    | ⟨0, _⟩ => ⟨Nat.zero_le _, by show r.val < 0 + 256; omega⟩
    | ⟨1, _⟩ => ⟨Nat.zero_le _, by show d.val < 0 + 2048; omega⟩
  unfold gain256 VecWindow.put
  rw [dif_pos hin]
  have e : Rect.unitLocal (s := S512x2048) (off := ![0, 0]) (size := S256x2048.size) (ix2 r d) hin = (ix2 ⟨r.val, hr⟩ d : S256x2048.Idx) :=
    funext fun a => match a with | ⟨0, _⟩ => rfl | ⟨1, _⟩ => rfl
  refine (congrArg _ e).trans ?_
  rw [more256, first256]
  refine congrArg (y (ix2 r d) + ·) ?_
  unfold shareB
  refine Finset.sum_congr rfl fun k _ => ?_
  rw [units256 _ _ _ _ hs]
  have eh : ∀ n, hidB (VecWindow.window (s := S512x2048) x0 ![0, 0] S256x2048.size inb_S512x2048_S256x2048_0_0) x1 x2 (⟨r.val, hr⟩ : Fin 256) n = hidB x0 x1 x2 r n :=
    fun n => congrArg (· + x2 (ix3 0 0 n)) (Finset.sum_congr rfl fun q _ => congrArg (· * x1 (ix3 0 q n)) (first256 _ x0 ⟨r.val, hr⟩ q))
  unfold unitB
  rw [eh, eh]

theorem first384 (e : EltTy) (z : Vec Ideal S512x2048 e) (r : Fin 384) (k : Fin 2048) :
    VecWindow.window (s := S512x2048) z ![0, 0] S384x2048.size inb_S512x2048_S384x2048_0_0 (ix2 r k) = z (ix2 ⟨r.val, by omega⟩ k) := by
  unfold VecWindow.window
  exact congrArg z (funext fun a => match a with
    | ⟨0, _⟩ => Fin.ext (by show 0 + 1 * r.val = r.val; omega)
    | ⟨1, _⟩ => Fin.ext (by show 0 + 1 * k.val = k.val; omega))

theorem gain384_apply (hs : ∀ j k, x5 (ix2 j k) = if j.val = 2 * k.val then (1 : EReal) else 0) (r : Fin 512) (hr : r.val < 384) (d : Fin 2048) :
    gain384 x0 x1 x2 x3 x4 x5 y (ix2 r d) = y (ix2 r d) + shareB x0 x1 x2 x3 r d := by
  have hin : ∀ a : Fin S512x2048.rank, (![0, 0] : Fin 2 → Nat) a ≤ ((ix2 r d : S512x2048.Idx) a).val
      ∧ ((ix2 r d : S512x2048.Idx) a).val < (![0, 0] : Fin 2 → Nat) a + S384x2048.size a := fun a => match a with
    | ⟨0, _⟩ => ⟨Nat.zero_le _, by show r.val < 0 + 384; omega⟩
    | ⟨1, _⟩ => ⟨Nat.zero_le _, by show d.val < 0 + 2048; omega⟩
  unfold gain384 VecWindow.put
  rw [dif_pos hin]
  have e : Rect.unitLocal (s := S512x2048) (off := ![0, 0]) (size := S384x2048.size) (ix2 r d) hin = (ix2 ⟨r.val, hr⟩ d : S384x2048.Idx) :=
    funext fun a => match a with | ⟨0, _⟩ => rfl | ⟨1, _⟩ => rfl
  refine (congrArg _ e).trans ?_
  rw [more384, first384]
  refine congrArg (y (ix2 r d) + ·) ?_
  unfold shareB
  refine Finset.sum_congr rfl fun k _ => ?_
  rw [units384 _ _ _ _ hs]
  have eh : ∀ n, hidB (VecWindow.window (s := S512x2048) x0 ![0, 0] S384x2048.size inb_S512x2048_S384x2048_0_0) x1 x2 (⟨r.val, hr⟩ : Fin 384) n = hidB x0 x1 x2 r n :=
    fun n => congrArg (· + x2 (ix3 0 0 n)) (Finset.sum_congr rfl fun q _ => congrArg (· * x1 (ix3 0 q n)) (first384 _ x0 ⟨r.val, hr⟩ q))
  unfold unitB
  rw [eh, eh]

theorem gain512_apply (hs : ∀ j k, x5 (ix2 j k) = if j.val = 2 * k.val then (1 : EReal) else 0) (r : Fin 512) (d : Fin 2048) :
    gain512 x0 x1 x2 x3 x4 x5 y (ix2 r d) = y (ix2 r d) + shareB x0 x1 x2 x3 r d := by
  unfold gain512
  rw [more512]
  unfold shareB
  refine congrArg (y (ix2 r d) + ·) (Finset.sum_congr rfl fun k _ => ?_)
  rw [units512 _ _ _ _ hs]

/-- A used row after a point: the bias or what it was, and the share of the point's units. -/
theorem step_apply {i : grid0.Coords} {u w : BitVec 32} (hu : used i u) (hs : ∀ j k, x5 (ix2 j k) = if j.val = 2 * k.val then (1 : EReal) else 0)
    (r : Fin 512) (hr : (r.val : Int) < w.toInt) (hw : w.toInt ≤ 512) (d : Fin 2048) :
    step i u w x0 x1 x2 x3 x4 x5 y (ix2 r d) = (if (i 1).val = 0 then x4 (ix3 0 0 d) else y (ix2 r d)) + shareB x0 x1 x2 x3 r d := by
  have hstart : start i u x4 y (ix2 r d) = if (i 1).val = 0 then x4 (ix3 0 0 d) else y (ix2 r d) := by
    unfold start
    by_cases h : (i 1).val = 0
    · rw [if_pos ((cond1_iff i u).mpr ⟨h, hu⟩), if_pos h, pay10_apply]
    · rw [if_neg fun h' => h ((cond1_iff i u).mp h').1, if_neg h]
  rw [← hstart]
  have e2 := cond2_iff i u w
  have e3 := cond3_iff i u w
  have e4 := cond4_iff i u w
  have e5 := cond5_iff i u w
  rw [rows_used hu] at e2 e3 e4 e5
  unfold step
  rw [if_neg fun h => ((cond6_iff i u).mp h).1 hu]
  generalize w.toInt = n at hr hw e2 e3 e4 e5
  by_cases h2 : k0_cond2 i u w = 1#1
  · rw [if_pos h2]
    exact gain128_apply x0 x1 x2 x3 x4 x5 _ hs r (by have := (e2.mp h2).2; clear e2 e3 e4 e5 h2; omega) d
  rw [if_neg h2]
  by_cases h3 : k0_cond3 i u w = 1#1
  · rw [if_pos h3]
    exact gain256_apply x0 x1 x2 x3 x4 x5 _ hs r (by have := (e3.mp h3).2; clear e2 e3 e4 e5 h2 h3; omega) d
  rw [if_neg h3]
  by_cases h4 : k0_cond4 i u w = 1#1
  · rw [if_pos h4]
    exact gain384_apply x0 x1 x2 x3 x4 x5 _ hs r (by have := (e4.mp h4).2; clear e2 e3 e4 e5 h2 h3 h4; omega) d
  rw [if_neg h4]
  have h5 : k0_cond5 i u w = 1#1 := by
    have n2 : ¬(0 < n ∧ n ≤ 128) := fun h => h2 (e2.mpr h)
    have n3 : ¬(128 < n ∧ n ≤ 256) := fun h => h3 (e3.mpr h)
    have n4 : ¬(256 < n ∧ n ≤ 384) := fun h => h4 (e4.mpr h)
    refine e5.mpr ?_
    clear e2 e3 e4 e5 h2 h3 h4
    omega
  rw [if_pos h5]
  exact gain512_apply x0 x1 x2 x3 x4 x5 _ hs r d

end Cert.Moe1

end
-- ==== Proof.Moe1Block.lean ====
/- The blocks the experts' call stages, at an element: which element of which argument each is; and the column selection the host line builds. -/
module

public import proofs.«01_k».proof.Proof.Moe1Row
public import Idealize.ShloMosaic.Lib.StableHlo.RunRead

@[expose] public section

set_option maxRecDepth 16384

noncomputable section

namespace Cert.Moe1

open Cert.Kernel3Ideal Cert.Kernel3Ideal.Gen Idealize.ShloMosaic Idealize.ShloMosaic.TcCoe Cert.Grid2

variable (m : (ℓ : Loc nD τ sig) → Buf (Elt Ideal) ℓ)

/-! ## The arguments -/

abbrev argX (c : Dev nD) : S49152x2048.Idx → EReal := m ((c : Thread nD τ).loc main_arg3)
abbrev argW1 (c : Dev nD) : S64x2048x4096.Idx → EReal := m ((c : Thread nD τ).loc main_arg4)
abbrev argB1 (c : Dev nD) : S32x1x4096.Idx → EReal := m ((c : Thread nD τ).loc main_arg5)
abbrev argW2 (c : Dev nD) : S64x2048x2048.Idx → EReal := m ((c : Thread nD τ).loc main_arg6)
abbrev argB2 (c : Dev nD) : S32x1x2048.Idx → EReal := m ((c : Thread nD τ).loc main_arg7)

/-- The expert of point `t`'s block of rows. -/
def expertAt (t : Fin grid0.N) : Nat := (tbl m 0 (entry (grid0.coords t 0)) : BitVec 32).toNat

/-! ## The blocks -/

section
attribute [local irreducible] cc0_transform_0

theorem x_apply (hO : Ok m) (hG : GoodM m) (c : Dev nD) (t : Fin (cfgM m hO).N) (hu : t.val / 4 < (tbl m 1 only : BitVec 32).toNat) (r : Fin 512) (k : Fin 2048) :
    (iblk m hO c 0 t : Vec Ideal S512x2048 .bf16) (ix2 r k) = rd (argX m c) (t.val / 4 * 512 + r.val) k.val := by
  unfold iblk
  show V m c main_arg3 ((((cfgM m hO).win 0).blk t).view.emb (ix2 r k)) = _
  rw [V_main_arg3]
  have e := ix0' (tbl m) (good_tbl m hG) (grid0.coords t)
  have e0 : cc0_transform_0 inb_S1_S1_0 numel1_S1 (tbl m) (grid0.coords t) 0 = t.val / 4 := by
    refine (congrFun e 0).trans ((Nat.min_eq_left (a := (grid0.coords t 0).val) ?_).trans (coord0 t))
    rw [coord0]
    exact Nat.le_sub_one_of_lt hu
  have e1 : cc0_transform_0 inb_S1_S1_0 numel1_S1 (tbl m) (grid0.coords t) 1 = 0 := congrFun e 1
  clear e hu hG
  refine eq_rd_of _ _ ?_ ?_
  · show cc0_transform_0 inb_S1_S1_0 numel1_S1 (tbl m) (grid0.coords t) 0 * 512 + 1 * r.val = _
    rw [e0, Nat.one_mul]
  · show cc0_transform_0 inb_S1_S1_0 numel1_S1 (tbl m) (grid0.coords t) 1 * 2048 + 1 * k.val = _
    rw [e1, Nat.one_mul, Nat.zero_mul, Nat.zero_add]

end

theorem w1_apply (hO : Ok m) (hG : GoodM m) (c : Dev nD) (t : Fin (cfgM m hO).N) (k : Fin 2048) (n : Fin 1024) :
    (iblk m hO c 1 t : Vec Ideal S1x2048x1024 .f32) (ix3 0 k n) = rd3 (argW1 m c) (32 + expertAt m t) k.val (t.val % 4 * 1024 + n.val) := by
  unfold iblk
  show V m c main_arg4 ((((cfgM m hO).win 1).blk t).view.emb (ix3 0 k n)) = _
  rw [V_main_arg4]
  have e := ix1 (tbl m) (good_tbl m hG) (grid0.coords t)
  have c1 := coord1 t
  refine eq_rd3_of _ _ ?_ ?_ ?_
  · show cc0_transform_1 k0_off1_inb numel1_S1 (tbl m) (grid0.coords t) 0 * 1 + 1 * 0 = _
    rw [e]
    show (32 + expertAt m t) * 1 + 1 * 0 = _
    omega
  · show cc0_transform_1 k0_off1_inb numel1_S1 (tbl m) (grid0.coords t) 1 * 2048 + 1 * k.val = _
    rw [e]
    show 0 * 2048 + 1 * k.val = _
    omega
  · show cc0_transform_1 k0_off1_inb numel1_S1 (tbl m) (grid0.coords t) 2 * 1024 + 1 * n.val = _
    rw [e]
    show (grid0.coords t 1).val * 1024 + 1 * n.val = _
    omega

theorem b1_apply (hO : Ok m) (c : Dev nD) (t : Fin (cfgM m hO).N) (n : Fin 1024) :
    (iblk m hO c 2 t : Vec Ideal S1x1x1024 .f32) (ix3 0 0 n) = rd3 (argB1 m c) (expertAt m t) 0 (t.val % 4 * 1024 + n.val) := by
  unfold iblk
  show V m c main_arg5 ((((cfgM m hO).win 2).blk t).view.emb (ix3 0 0 n)) = _
  rw [V_main_arg5]
  have e := ix2' (tbl m) (grid0.coords t)
  have c1 := coord1 t
  refine eq_rd3_of _ _ ?_ ?_ ?_
  · show cc0_transform_2 k0_off1_inb numel1_S1 (tbl m) (grid0.coords t) 0 * 1 + 1 * 0 = _
    rw [e]
    show expertAt m t * 1 + 1 * 0 = _
    omega
  · show cc0_transform_2 k0_off1_inb numel1_S1 (tbl m) (grid0.coords t) 1 * 1 + 1 * 0 = _
    rw [e]
    rfl
  · show cc0_transform_2 k0_off1_inb numel1_S1 (tbl m) (grid0.coords t) 2 * 1024 + 1 * n.val = _
    rw [e]
    show (grid0.coords t 1).val * 1024 + 1 * n.val = _
    omega

theorem w2_apply (hO : Ok m) (hG : GoodM m) (c : Dev nD) (t : Fin (cfgM m hO).N) (k : Fin 512) (d : Fin 2048) :
    (iblk m hO c 3 t : Vec Ideal S1x512x2048 .f32) (ix3 0 k d) = rd3 (argW2 m c) (32 + expertAt m t) (t.val % 4 * 512 + k.val) d.val := by
  unfold iblk
  show V m c main_arg6 ((((cfgM m hO).win 3).blk t).view.emb (ix3 0 k d)) = _
  rw [V_main_arg6]
  have e := ix3' (tbl m) (good_tbl m hG) (grid0.coords t)
  have c1 := coord1 t
  refine eq_rd3_of _ _ ?_ ?_ ?_
  · show cc0_transform_3 k0_off1_inb numel1_S1 (tbl m) (grid0.coords t) 0 * 1 + 1 * 0 = _
    rw [e]
    show (32 + expertAt m t) * 1 + 1 * 0 = _
    omega
  · show cc0_transform_3 k0_off1_inb numel1_S1 (tbl m) (grid0.coords t) 1 * 512 + 1 * k.val = _
    rw [e]
    show (grid0.coords t 1).val * 512 + 1 * k.val = _
    omega
  · show cc0_transform_3 k0_off1_inb numel1_S1 (tbl m) (grid0.coords t) 2 * 2048 + 1 * d.val = _
    rw [e]
    show 0 * 2048 + 1 * d.val = _
    omega

theorem b2_apply (hO : Ok m) (c : Dev nD) (t : Fin (cfgM m hO).N) (d : Fin 2048) :
    (iblk m hO c 4 t : Vec Ideal S1x1x2048 .f32) (ix3 0 0 d) = rd3 (argB2 m c) (expertAt m t) 0 d.val := by
  unfold iblk
  show V m c main_arg7 ((((cfgM m hO).win 4).blk t).view.emb (ix3 0 0 d)) = _
  rw [V_main_arg7]
  have e := ix4 (tbl m) (grid0.coords t)
  refine eq_rd3_of _ _ ?_ ?_ ?_
  · show cc0_transform_4 k0_off1_inb numel1_S1 (tbl m) (grid0.coords t) 0 * 1 + 1 * 0 = _
    rw [e]
    show expertAt m t * 1 + 1 * 0 = _
    omega
  · show cc0_transform_4 k0_off1_inb numel1_S1 (tbl m) (grid0.coords t) 1 * 1 + 1 * 0 = _
    rw [e]
    rfl
  · show cc0_transform_4 k0_off1_inb numel1_S1 (tbl m) (grid0.coords t) 2 * 2048 + 1 * d.val = _
    rw [e]
    show 0 * 2048 + 1 * d.val = _
    omega

/-! ## The selection of the even columns -/

/-- The host line's last array. -/
theorem V_sel (c : Dev nD) : V m c main_v9 = uitofp (F := Ideal) .bf16 (cmpi .eq
    (broadcastInDim S1024x512 ![0, 1] bcast_S1024x1_S1024x512_0_1 (broadcastInDim S1024x1 ![0] bcast_S1024_S1024x1_0 (iotaInDim S1024 32 0)))
    (broadcastInDim S1024x512 ![0, 1] bcast_S1x512_S1024x512_0_1 (muli (broadcastInDim S1x512 ![] bcast_S_S1x512 (constantI S_ 32 2#32))
      (broadcastInDim S1x512 ![1] bcast_S512_S1x512_1 (iotaInDim S512 32 0))))) := by
  show StableHlo.after hostOps0 (fun b => m (c, b)) (Proc.devRef .tc main_v9) = _
  after_reads_simp

theorem sel_apply (hO : Ok m) (c : Dev nD) (t : Fin (cfgM m hO).N) (j : Fin 1024) (k : Fin 512) :
    (iblk m hO c 5 t : Vec Ideal S1024x512 .bf16) (ix2 j k) = if j.val = 2 * k.val then (1 : EReal) else 0 := by
  have e : (iblk m hO c 5 t : Vec Ideal S1024x512 .bf16) (ix2 j k) = V m c main_v9 (ix2 j k) := by
    unfold iblk
    show V m c main_v9 ((((cfgM m hO).win 5).blk t).view.emb (ix2 j k)) = V m c main_v9 _
    refine congrArg (V m c main_v9) (funext fun a => match a with | ⟨0, _⟩ => Fin.ext ?_ | ⟨1, _⟩ => Fin.ext ?_)
    · show cc0_transform_5 (grid0.coords t) 0 * 1024 + 1 * j.val = _
      show 0 * 1024 + 1 * j.val = j.val
      omega
    · show cc0_transform_5 (grid0.coords t) 1 * 512 + 1 * k.val = _
      show 0 * 512 + 1 * k.val = k.val
      omega
  rw [e, V_sel]
  pointwise
  have hm : IntOp.muli 2#32 (BitVec.ofNat 32 k.val) = BitVec.ofNat 32 (2 * k.val) := (BitVec.ofNat_mul 2 k.val).symm
  have hc : IntOp.cmpi .eq (BitVec.ofNat 32 j.val) (BitVec.ofNat 32 (2 * k.val)) = BitVec.ofBool (BitVec.ofNat 32 j.val == BitVec.ofNat 32 (2 * k.val)) := rfl
  have hi : (BitVec.ofNat 32 j.val == BitVec.ofNat 32 (2 * k.val)) = decide (j.val = 2 * k.val) := by
    rw [Bool.eq_iff_iff, beq_iff_eq, decide_eq_true_iff]
    exact WordCmp.ofNat_eq_ofNat_iff (w := 32) (by omega) (by omega)
  rw [hm, hc, hi]
  by_cases h : j.val = 2 * k.val
  · rw [if_pos h, decide_eq_true h]
    show (((1#1 : BitVec 1).toNat : ℝ) : EReal) = 1
    norm_num
  · rw [if_neg h, decide_eq_false h]
    show (((0#1 : BitVec 1).toNat : ℝ) : EReal) = 0
    norm_num

end Cert.Moe1

end
-- ==== Proof.Moe1Value.lean ====
/- The array the experts' call leaves: in every used row, the block's expert at that row. -/
module

public import proofs.«01_k».proof.Proof.Moe1Block
public import Idealize.ShloMosaic.Lib.Pipeline.Value

@[expose] public section

set_option maxRecDepth 16384

noncomputable section

namespace Cert.Moe1

open Cert.Kernel3Ideal Cert.Kernel3Ideal.Gen Idealize.ShloMosaic Idealize.ShloMosaic.TcCoe Idealize.SL.Sem Cert.Grid2

variable (m : (ℓ : Loc nD τ sig) → Buf (Elt Ideal) ℓ) (ρ : Dev nD → PrngReg)

/-! ## The words -/

/-- How many blocks are used, and how many rows of block `n`. -/
def blocks : Nat := (tbl m 1 only : BitVec 32).toNat
def rowsOf (n : Fin 96) : Nat := (tbl m 2 (entry n) : BitVec 32).toNat

theorem wordU_eq (c : Dev nD) : wordU (F := Ideal) c (tbl m 1) = (tbl m 1 only : BitVec 32) :=
  congrArg (tbl m 1) (S1_eq _ _)

theorem wordR_eq (c : Dev nD) (i : grid0.Coords) : wordR (F := Ideal) c i (tbl m 2) = (tbl m 2 (entry (i 0)) : BitVec 32) := by
  refine congrArg (tbl m 2) (funext fun a => match a with | ⟨0, _⟩ => Fin.ext ?_)
  have h : (i 0).val < 96 := (i 0).isLt
  have e : k0_off2 i 0 = (i 0).val := by
    show (Scalar.minsi (BitVec.ofNat 32 (i 0).val) 95#32).toNat = (i 0).val
    exact (by decide +kernel : ∀ n : Fin 96, (Scalar.minsi (BitVec.ofNat 32 n.val) 95#32).toNat = n.val) (i 0)
  show (k0_off2 i) 0 + 1 * 0 = (i 0).val
  omega

theorem toInt_small (w : BitVec 32) (h : w.toNat ≤ 512) : w.toInt = (w.toNat : Int) := by
  rw [BitVec.toInt]; split <;> omega

/-! ## One point -/

/-- The units' share at a point, of the arguments. -/
theorem share_eq (hO : Ok m) (hG : GoodM m) (c : Dev nD) (t : Fin (cfgM m hO).N) (hu : t.val / 4 < blocks m) (r : Fin 512) (d : Fin 2048) :
    shareB (iblk m hO c 0 t) (iblk m hO c 1 t) (iblk m hO c 2 t) (iblk m hO c 3 t) r d
      = share (argX m c) (argW1 m c) (argB1 m c) (argW2 m c) (expertAt m t) (t.val / 4 * 512 + r.val) d.val (t.val % 4) := by
  have eh : ∀ n : Fin 1024, hidB (R := 512) (iblk m hO c 0 t) (iblk m hO c 1 t) (iblk m hO c 2 t) r n
      = hid (argX m c) (argW1 m c) (argB1 m c) (expertAt m t) (t.val / 4 * 512 + r.val) (t.val % 4 * 1024 + n.val) := fun n => by
    unfold hidB hid
    exact congrArg₂ (· + ·) (Finset.sum_congr rfl fun k _ => congrArg₂ (· * ·) (x_apply m hO hG c t hu r k) (w1_apply m hO hG c t k n)) (b1_apply m hO c t n)
  unfold shareB share
  refine Finset.sum_congr rfl fun k _ => congrArg₂ (· * ·) ?_ (w2_apply m hO hG c t k d)
  unfold unitB unitOf
  rw [eh, eh]
  have e0 : t.val % 4 * 1024 + 2 * k.val = 2 * (t.val % 4 * 512 + k.val) := by omega
  have e1 : t.val % 4 * 1024 + (2 * k.val + 1) = 2 * (t.val % 4 * 512 + k.val) + 1 := by omega
  exact congrArg₂ gate (congrArg _ e0) (congrArg _ e1)

/-- What a point leaves in a used row. -/
theorem stepAt_apply (hO : Ok m) (hG : GoodM m) (c : Dev nD) (t : Fin (cfgM m hO).N) (hu : t.val / 4 < blocks m) (r : Fin 512)
    (hr : r.val < rowsOf m (grid0.coords t 0)) (d : Fin 2048) (y : Vec Ideal S512x2048 .f32) :
    stepAt m hO c t y (ix2 r d) = (if t.val % 4 = 0 then rd3 (argB2 m c) (expertAt m t) 0 d.val else y (ix2 r d))
      + share (argX m c) (argW1 m c) (argB1 m c) (argW2 m c) (expertAt m t) (t.val / 4 * 512 + r.val) d.val (t.val % 4) := by
  have g := good_tbl m hG
  have b1 : (tbl m 1 only : BitVec 32).toNat ≤ 96 := g.used_le only
  have b2 : (tbl m 2 (entry (grid0.coords t 0)) : BitVec 32).toNat ≤ 512 := g.rows_le _
  have i1 := toInt_small _ (le_trans b1 (by decide))
  have i2 := toInt_small _ b2
  have hused : used (grid0.coords t) (wordU c (tbl m 1)) := by
    unfold used
    rw [wordU_eq, i1, coord0]
    exact Int.ofNat_lt.mpr hu
  unfold stepAt
  refine (step_apply _ _ _ _ _ _ y hused (sel_apply m hO c t) r (by rw [wordR_eq, i2]; exact Int.ofNat_lt.mpr hr) (by rw [wordR_eq, i2]; exact_mod_cast b2) d).trans ?_
  refine congrArg₂ (· + ·) ?_ (share_eq m hO hG c t hu r d)
  rw [coord1]
  by_cases h : t.val % 4 = 0
  · exact (if_pos h).trans ((b2_apply m hO c t d).trans (if_pos h).symm)
  · exact (if_neg h).trans (if_neg h).symm

/-- The block at the last of its four points. -/
theorem outs_apply (hO : Ok m) (hG : GoodM m) (c : Dev nD) (t : Fin (cfgM m hO).N) (h3 : t.val % 4 = 3) (hu : t.val / 4 < blocks m) (r : Fin 512)
    (hr : r.val < rowsOf m (grid0.coords t 0)) (d : Fin 2048) :
    outs m hO c t.val t.isLt (ix2 r d)
      = expert (argX m c) (argW1 m c) (argB1 m c) (argW2 m c) (argB2 m c) (expertAt m t) (t.val / 4 * 512 + r.val) d.val := by
  have back : ∀ (s : Fin (cfgM m hO).N), s.val / 4 = t.val / 4 → expertAt m s = expertAt m t ∧ r.val < rowsOf m (grid0.coords s 0) := fun s hs => by
    have e : grid0.coords s 0 = grid0.coords t 0 := Fin.ext (by rw [coord0, coord0, hs])
    unfold expertAt
    rw [e]
    exact ⟨rfl, hr⟩
  have at_ : ∀ (s : Fin (cfgM m hO).N), s.val / 4 = t.val / 4 → ∀ y, stepAt m hO c s y (ix2 r d) = (if s.val % 4 = 0 then rd3 (argB2 m c) (expertAt m t) 0 d.val else y (ix2 r d))
      + share (argX m c) (argW1 m c) (argB1 m c) (argW2 m c) (expertAt m t) (t.val / 4 * 512 + r.val) d.val (s.val % 4) := fun s hs y => by
    rw [stepAt_apply m hO hG c s (by rw [hs]; exact hu) r (back s hs).2 d y, (back s hs).1, hs]
  have hN : t.val < (cfgM m hO).N := t.isLt
  have o0 : outs m hO c (t.val - 3) (by omega) (ix2 r d) = rd3 (argB2 m c) (expertAt m t) 0 d.val
      + share (argX m c) (argW1 m c) (argB1 m c) (argW2 m c) (expertAt m t) (t.val / 4 * 512 + r.val) d.val 0 := by
    have e := outs_first m hO c ⟨t.val - 3, by omega⟩ (by show (t.val - 3) % 4 = 0; omega) (k0_pay1 (F := Ideal))
    refine (congrFun e _).trans ((at_ _ (by show (t.val - 3) / 4 = _; omega) _).trans ?_)
    have z : (t.val - 3) % 4 = 0 := by omega
    show (if (t.val - 3) % 4 = 0 then _ else _) + share _ _ _ _ _ _ _ ((t.val - 3) % 4) = _
    rw [if_pos z, z]
  have next : ∀ j : Nat, 1 ≤ j → j ≤ 3 → ∀ (h : t.val - 3 + j < (cfgM m hO).N) (h' : t.val - 3 + (j - 1) < (cfgM m hO).N),
      outs m hO c (t.val - 3 + j) h (ix2 r d) = outs m hO c (t.val - 3 + (j - 1)) h' (ix2 r d)
        + share (argX m c) (argW1 m c) (argB1 m c) (argW2 m c) (expertAt m t) (t.val / 4 * 512 + r.val) d.val j := by
    intro j j1 j3 h h'
    have e := outs_next m hO c ⟨t.val - 3 + j, h⟩ (by show t.val - 3 + j ≠ 0; omega)
    refine (congrFun e _).trans ((at_ _ (by show (t.val - 3 + j) / 4 = _; omega) _).trans ?_)
    have z : (t.val - 3 + j) % 4 = j := by omega
    have z' : t.val - 3 + j - 1 = t.val - 3 + (j - 1) := by omega
    show (if (t.val - 3 + j) % 4 = 0 then _ else _) + share _ _ _ _ _ _ _ ((t.val - 3 + j) % 4) = _
    rw [if_neg (by omega), z]
    congr 2
  have e3 : outs m hO c t.val t.isLt = outs m hO c (t.val - 3 + 3) (by omega) := by congr 1; omega
  rw [e3, next 3 (by decide) (by decide) _ (by omega), next 2 (by decide) (by decide) _ (by omega), next 1 (by decide) (by decide) _ (by omega), expert_eq]
  exact congrArg (fun z => z + _ + _ + _) o0

/-! ## The array -/

/-- Column `d` of row `row` of the result: the block's expert at that row. -/
def value (c : Dev nD) (row d : Nat) : EReal :=
  expert (argX m c) (argW1 m c) (argB1 m c) (argW2 m c) (argB2 m c)
    (if h : row / 512 < 96 then (tbl m 0 (entry ⟨row / 512, h⟩) : BitVec 32).toNat else 0) row d

/-- Row `row` is one of the used rows of a used block. -/
def assigned (row : Nat) : Prop := row / 512 < blocks m ∧ ∀ h : row / 512 < 96, row % 512 < rowsOf m ⟨row / 512, h⟩

/-- Where an element of a point's block lies in the array. -/
def place (hO : Ok m) (t : Fin (cfgM m hO).N) (y : S512x2048.Idx) : S49152x2048.Idx := (((cfgM m hO).win 6).blk t).view.emb y

theorem emb_val (hO : Ok m) (t : Fin (cfgM m hO).N) (y : S512x2048.Idx) :
    (place m hO t y 0).val = t.val / 4 * 512 + (y 0).val ∧ (place m hO t y 1).val = (y 1).val := by
  have c0 := coord0 t
  have h : t.val < 384 := t.isLt
  have e : cc0_transform_6 (grid0.coords t) 0 = t.val / 4 := by
    show (BitVec.ofNat 32 (grid0.coords t 0).val).toNat = _
    rw [c0]
    exact WordCmp.toNat_ofNat_of_lt (by omega)
  constructor
  · show cc0_transform_6 (grid0.coords t) 0 * 512 + 1 * (y 0).val = _
    rw [e, Nat.one_mul]
  · show 0 * 2048 + 1 * (y 1).val = _
    omega

theorem mem_blk (hO : Ok m) (t : Fin (cfgM m hO).N) (i : S49152x2048.Idx) (h : (i 0).val / 512 = t.val / 4) : i ∈ (((cfgM m hO).win 6).blk t).view.set := by
  have h0 : (i 0).val < 49152 := (i 0).isLt
  have h1 : (i 1).val < 2048 := (i 1).isLt
  have e := emb_val m hO t (ix2 ⟨(i 0).val % 512, Nat.mod_lt _ (by decide)⟩ ⟨(i 1).val, h1⟩)
  have ei : place m hO t (ix2 ⟨(i 0).val % 512, Nat.mod_lt _ (by decide)⟩ ⟨(i 1).val, h1⟩) = i := by
    generalize place m hO t _ = p at e ⊢
    have e0 : (p 0).val = t.val / 4 * 512 + (i 0).val % 512 := e.1
    have e1 : (p 1).val = (i 1).val := e.2
    have q : t.val / 4 * 512 + (i 0).val % 512 = (i 0).val := by omega
    exact funext fun a => match a with
      | ⟨0, _⟩ => Fin.ext (e0.trans q)
      | ⟨1, _⟩ => Fin.ext e1
  rw [← ei]
  exact Finset.mem_map_of_mem _ (Finset.mem_univ _)

/-- In every assigned row the result is that value. -/
theorem final (hO : Ok m) (hG : GoodM m) (c : Dev nD) (i : S49152x2048.Idx) (hi : assigned m (i 0).val) :
    (dats m hO 0 c).arrAt 6 (cfgM m hO).N i = value m c (i 0).val (i 1).val := by
  refine (dats m hO 0 c).arrAt_forall_of_cover 6 (fun (i : S49152x2048.Idx) (v : EReal) => assigned m (i 0).val → v = value m c (i 0).val (i 1).val) ?_ ?_ i hi
  · intro t hf (y : S512x2048.Idx) ha
    have h3 := (flush6 (adm m hO) t).mp hf
    change assigned m (place m hO t y 0).val at ha
    show _ = value m c (place m hO t y 0).val (place m hO t y 1).val
    obtain ⟨e0, e1⟩ := emb_val m hO t y
    have h0 : (y 0).val < 512 := (y 0).isLt
    have h1 : (y 1).val < 2048 := (y 1).isLt
    have ht : t.val < 384 := t.isLt
    have q : (t.val / 4 * 512 + (y 0).val) / 512 = t.val / 4 := by omega
    have q' : (t.val / 4 * 512 + (y 0).val) % 512 = (y 0).val := by omega
    have lt : t.val / 4 < 96 := by omega
    have en : (⟨t.val / 4, lt⟩ : Fin 96) = grid0.coords t 0 := Fin.ext (coord0 t).symm
    rw [e0] at ha
    rw [e0, e1]
    have hu : t.val / 4 < blocks m := by have := ha.1; rwa [q] at this
    have hr : (y 0).val < rowsOf m (grid0.coords t 0) := by
      have := ha.2 (by rw [q]; exact lt)
      rw [q'] at this
      have e : (⟨(t.val / 4 * 512 + (y 0).val) / 512, by rw [q]; exact lt⟩ : Fin 96) = grid0.coords t 0 := (Fin.ext q).trans en
      rwa [e] at this
    have v : value m c (t.val / 4 * 512 + (y 0).val) (y 1).val
        = expert (argX m c) (argW1 m c) (argB1 m c) (argW2 m c) (argB2 m c) (expertAt m t) (t.val / 4 * 512 + (y 0).val) (y 1).val := by
      unfold value expertAt
      have hh : (t.val / 4 * 512 + (y 0).val) / 512 < 96 := by rw [q]; exact lt
      have e : (⟨(t.val / 4 * 512 + (y 0).val) / 512, hh⟩ : Fin 96) = grid0.coords t 0 := (Fin.ext q).trans en
      rw [dif_pos hh, e]
    rw [v]
    have ey : y = ix2 ⟨(y 0).val, h0⟩ ⟨(y 1).val, h1⟩ := funext fun a => match a with | ⟨0, _⟩ => rfl | ⟨1, _⟩ => rfl
    have o := outs_apply m hO hG c t h3 hu ⟨(y 0).val, h0⟩ hr ⟨(y 1).val, h1⟩
    refine Eq.trans ?_ o
    refine Eq.trans ?_ (congrArg (outs m hO c t.val t.isLt) ey)
    show (dats m hO 0 c).after 6 t y = _
    rw [after6]
  · intro (i : S49152x2048.Idx)
    have h0 : (i 0).val < 49152 := (i 0).isLt
    have hN := points m hO
    refine ⟨⟨(i 0).val / 512 * 4 + 3, by omega⟩, (flush6 (adm m hO) _).mpr (by show ((i 0).val / 512 * 4 + 3) % 4 = 3; omega), mem_blk m hO _ i ?_⟩
    show (i 0).val / 512 = ((i 0).val / 512 * 4 + 3) / 4
    omega

end Cert.Moe1

end
-- ==== Proof.Moe1Slab.lean ====
/- Whole slabs of a rank-3 array taken by a column of words, at an element. -/
module

public import Idealize.ShloMosaic.Lib.Pointwise
public import Idealize.ShloMosaic.PureOps

@[expose] public section

noncomputable section

namespace Cert.Moe1

open Idealize.ShloMosaic

variable {α : Type} {A B : Nat}

/-- The result's slab `n` is the operand's slab at word `n`. -/
def slabs (A B : Nat) (wf : GatherDims.WF ⟨3, ![32, A, B]⟩ ⟨2, ![96, 1]⟩ ⟨3, ![96, A, B]⟩ [1, 2] [0] [] [0] [] 1 ![1, A, B]) :
    GatherDims ⟨3, ![32, A, B]⟩ ⟨2, ![96, 1]⟩ ⟨3, ![96, A, B]⟩ where
  offsetDims := [1, 2]
  collapsedSliceDims := [0]
  operandBatchingDims := []
  startIndicesBatchingDims := []
  startIndexMap := [0]
  indexVectorDim := 1
  sliceSizes := ![1, A, B]
  wf := wf

theorem slabs_apply (wf : GatherDims.WF ⟨3, ![32, A, B]⟩ ⟨2, ![96, 1]⟩ ⟨3, ![96, A, B]⟩ [1, 2] [0] [] [0] [] 1 ![1, A, B])
    (x : (⟨3, ![32, A, B]⟩ : Shape).Idx → α) (idx : IVec ⟨2, ![96, 1]⟩ 32) (n : Fin 96) (a : Fin A) (b : Fin B) (h : (idx (ix2 n 0)).toNat < 32) :
    Host.gather (slabs A B wf) x idx (ix3 n a b) = x (ix3 ⟨(idx (ix2 n 0)).toNat, h⟩ a b) := by
  unfold Host.gather
  refine congrArg x (funext fun k => Fin.ext ?_)
  show (slabs A B wf).start (ix3 n a b) idx k + (slabs A B wf).batchCoord (ix3 n a b) k + (slabs A B wf).offCoord (ix3 n a b) k = _
  rw [GatherDims.batchCoord_eq_zero _ _ _ List.not_mem_nil, Nat.add_zero]
  match k with
  | ⟨0, _⟩ =>
    rw [GatherDims.offCoord_eq_zero _ _ _ (fun h => ((GatherDims.mem_sKept _ _).mp h).1 (List.mem_singleton.mpr rfl)), Nat.add_zero]
    refine (dif_pos (show (0 : Fin 3) ∈ (slabs A B wf).startIndexMap from List.mem_singleton.mpr rfl)).trans ?_
    have hsi : (slabs A B wf).siIdx (ix3 n a b) ⟨List.idxOf (0 : Fin 3) (slabs A B wf).startIndexMap, List.idxOf_lt_length_iff.2 (List.mem_singleton.mpr rfl)⟩ = ix2 n 0 :=
      funext fun c => match c with | ⟨0, _⟩ => rfl | ⟨1, _⟩ => rfl
    refine (congrArg (fun q => min (idx q).toInt.toNat (32 - 1)) hsi).trans ?_
    show min (idx (ix2 n 0)).toInt.toNat (32 - 1) = (idx (ix2 n 0)).toNat
    have hi : (idx (ix2 n 0)).toInt = ((idx (ix2 n 0)).toNat : Int) := by rw [BitVec.toInt]; split <;> omega
    rw [hi]
    omega
  | ⟨1, h'⟩ =>
    have z : (slabs A B wf).start (ix3 n a b) idx ⟨1, h'⟩ = 0 :=
      dif_neg fun h => absurd (congrArg Fin.val (List.mem_singleton.mp h)) (show ¬1 = 0 by decide)
    rw [z, Nat.zero_add]
    rfl
  | ⟨2, h'⟩ =>
    have z : (slabs A B wf).start (ix3 n a b) idx ⟨2, h'⟩ = 0 :=
      dif_neg fun h => absurd (congrArg Fin.val (List.mem_singleton.mp h)) (show ¬2 = 0 by decide)
    rw [z, Nat.zero_add]
    rfl

end Cert.Moe1

end
-- ==== Proof.Moe1Reference.lean ====
/- The experts' reference: its result at an element, as the expert of the row's block. -/
module

public import proofs.«01_k».proof.Proof.Gen.Reference3Ideal.Run
public import proofs.«01_k».proof.Proof.Gen.Reference3Ideal.Read
public import proofs.«01_k».proof.Proof.Moe1Math
public import proofs.«01_k».proof.Proof.Moe1Slab

@[expose] public section

noncomputable section

namespace Cert.Moe1

open Idealize.ShloMosaic Cert.Grid2 Cert.Reference3Ideal Cert.Reference3Ideal.Gen Cert.Reference3Ideal.Read

/-- A word below 32 is not negative, so the wrapped word is the word. -/
theorem pick (w v : BitVec 32) (h : w.toNat < 32) : Scalar.select (IntOp.cmpi .slt w 0#32) v w = w := by
  have e : w.slt 0#32 = false := by
    rw [BitVec.slt, decide_eq_false_iff_not, BitVec.toInt]
    have : (0#32 : BitVec 32).toInt = 0 := rfl
    rw [this]; split <;> omega
  show Scalar.select (BitVec.ofBool (w.slt 0#32)) v w = w
  rw [e]; rfl

variable (x0 : (⟨S96, .i32⟩ : BufTy).Contents (Elt Ideal)) (x3 : (⟨S49152x2048, .bf16⟩ : BufTy).Contents (Elt Ideal))
  (x4 : (⟨S64x2048x4096, .f32⟩ : BufTy).Contents (Elt Ideal)) (x5 : (⟨S32x1x4096, .f32⟩ : BufTy).Contents (Elt Ideal))
  (x6 : (⟨S64x2048x2048, .f32⟩ : BufTy).Contents (Elt Ideal)) (x7 : (⟨S32x1x2048, .f32⟩ : BufTy).Contents (Elt Ideal))

/-- The expert of block `n`. -/
def expertOf (n : Fin 96) : Nat := BitVec.toNat (w := 32) (x0 (ix1 n))

variable (hx : ∀ n, expertOf x0 n < 32)

include hx in
theorem word8 (n : Fin 96) : val_main_v8 (F := Ideal) x0 (ix2 n 0) = x0 (ix1 n) :=
  (val_main_v8_apply x0 _).trans ((congrArg (val_main_v7 (F := Ideal) x0) (funext fun a => match a with | ⟨0, _⟩ => rfl : idx_main_v8 (ix2 n 0) = ix1 n)).trans (pick _ _ (hx n)))

include hx in
theorem word15 (n : Fin 96) : val_main_v15 (F := Ideal) x0 (ix2 n 0) = x0 (ix1 n) :=
  (val_main_v15_apply x0 _).trans ((congrArg (val_main_v14 (F := Ideal) x0) (funext fun a => match a with | ⟨0, _⟩ => rfl : idx_main_v15 (ix2 n 0) = ix1 n)).trans (pick _ _ (hx n)))

include hx in
theorem word23 (n : Fin 96) : val_main_v23 (F := Ideal) x0 (ix2 n 0) = x0 (ix1 n) :=
  (val_main_v23_apply x0 _).trans ((congrArg (val_main_v22 (F := Ideal) x0) (funext fun a => match a with | ⟨0, _⟩ => rfl : idx_main_v23 (ix2 n 0) = ix1 n)).trans (pick _ _ (hx n)))

include hx in
theorem word30 (n : Fin 96) : val_main_v30 (F := Ideal) x0 (ix2 n 0) = x0 (ix1 n) :=
  (val_main_v30_apply x0 _).trans ((congrArg (val_main_v29 (F := Ideal) x0) (funext fun a => match a with | ⟨0, _⟩ => rfl : idx_main_v30 (ix2 n 0) = ix1 n)).trans (pick _ _ (hx n)))

/-- A slab taken by a word that is the block's expert, at an element. -/
theorem slab_rd {A B : Nat} (wf) (x : (⟨3, ![32, A, B]⟩ : Shape).Idx → EReal) (idx : IVec ⟨2, ![96, 1]⟩ 32) (n : Fin 96) (a : Fin A) (b : Fin B)
    (hw : idx (ix2 n 0) = x0 (ix1 n)) (hn : expertOf x0 n < 32) :
    Host.gather (slabs A B wf) x idx (ix3 n a b) = x (ix3 ⟨expertOf x0 n, hn⟩ a b) := by
  have h : (idx (ix2 n 0)).toNat = expertOf x0 n := congrArg BitVec.toNat hw
  have h' : (idx (ix2 n 0)).toNat < 32 := by omega
  refine (slabs_apply wf x idx n a b h').trans (congrArg x (funext fun k => match k with | ⟨0, _⟩ => Fin.ext h | ⟨1, _⟩ => rfl | ⟨2, _⟩ => rfl))

include hx in
theorem v9_at (n : Fin 96) (a : Fin 2048) (b : Fin 4096) : val_main_v9 (F := Ideal) x0 x4 (ix3 n a b) = rd3 x4 (32 + expertOf x0 n) a.val b.val :=
  (slab_rd x0 _ (val_main_v2 (F := Ideal) x4) (val_main_v8 (F := Ideal) x0) n a b (word8 x0 hx n) (hx n)).trans
    ((val_main_v2_apply x4 _).trans (eq_rd3_of x4 _ rfl rfl rfl))

include hx in
theorem v16_at (n : Fin 96) (b : Fin 4096) : val_main_v16 (F := Ideal) x0 x5 (ix3 n 0 b) = rd3 x5 (expertOf x0 n) 0 b.val :=
  (slab_rd x0 _ x5 (val_main_v15 (F := Ideal) x0) n 0 b (word15 x0 hx n) (hx n)).trans (eq_rd3_of x5 _ rfl rfl rfl)

include hx in
theorem v24_at (n : Fin 96) (a : Fin 2048) (b : Fin 2048) : val_main_v24 (F := Ideal) x0 x6 (ix3 n a b) = rd3 x6 (32 + expertOf x0 n) a.val b.val :=
  (slab_rd x0 _ (val_main_v17 (F := Ideal) x6) (val_main_v23 (F := Ideal) x0) n a b (word23 x0 hx n) (hx n)).trans
    ((val_main_v17_apply x6 _).trans (eq_rd3_of x6 _ rfl rfl rfl))

include hx in
theorem v31_at (n : Fin 96) (b : Fin 2048) : val_main_v31 (F := Ideal) x0 x7 (ix3 n 0 b) = rd3 x7 (expertOf x0 n) 0 b.val :=
  (slab_rd x0 _ x7 (val_main_v30 (F := Ideal) x0) n 0 b (word30 x0 hx n) (hx n)).trans (eq_rd3_of x7 _ rfl rfl rfl)

include hx in
/-- A hidden value. -/
theorem v34_at (n : Fin 96) (r : Fin 512) (b : Fin 4096) :
    val_main_v34 (F := Ideal) x0 x3 x4 x5 (ix3 n r b) = hid x3 x4 x5 (expertOf x0 n) (n.val * 512 + r.val) b.val := by
  rw [val_main_v34_apply]
  refine congrArg₂ (fun p q : EReal => p + q) ?_ ?_
  · refine (val_main_v32_apply x0 x3 x4 _).trans (Finset.sum_congr rfl fun k _ => congrArg₂ (fun p q : EReal => p * q) ?_ ?_)
    · refine (val_main_v1_apply x3 _).trans ((val_main_v0_apply x3 _).trans (eq_rd_of x3 _ ?_ ?_))
      · show ((n.val * 512 + r.val) * 2048 + k.val) / 2048 = n.val * 512 + r.val
        have := k.isLt; omega
      · show ((n.val * 512 + r.val) * 2048 + k.val) % 2048 = k.val
        have := k.isLt; omega
    · refine (congrArg (val_main_v9 (F := Ideal) x0 x4) (funext fun a => match a with | ⟨0, _⟩ => rfl | ⟨1, _⟩ => rfl | ⟨2, _⟩ => rfl : ridx_main_v32 (ix3 n r b) k = ix3 n k b)).trans (v9_at x0 x4 hx n k b)
  · refine (val_main_v33_apply x0 x5 _).trans ?_
    exact (congrArg (val_main_v16 (F := Ideal) x0 x5) (funext fun a => match a with | ⟨0, _⟩ => rfl | ⟨1, _⟩ => rfl | ⟨2, _⟩ => rfl : idx_main_v33 (ix3 n r b) = ix3 n 0 b)).trans (v16_at x0 x5 hx n b)

include hx in
/-- The even columns. -/
theorem v35_at (n : Fin 96) (r : Fin 512) (k : Fin 2048) :
    val_main_v35 (F := Ideal) x0 x3 x4 x5 (ix3 n r k) = hid x3 x4 x5 (expertOf x0 n) (n.val * 512 + r.val) (2 * k.val) := by
  have hk := k.isLt
  refine Eq.trans ?_ (v34_at x0 x3 x4 x5 hx n r ⟨2 * k.val, by omega⟩)
  unfold val_main_v35
  generalize val_main_v34 (F := Ideal) x0 x3 x4 x5 = y
  unfold Host.slice
  refine congrArg y (funext fun a => Fin.ext ?_)
  match a with
  | ⟨0, _⟩ =>
    show 0 + 1 * n.val = n.val
    omega
  | ⟨1, _⟩ =>
    show 0 + 1 * r.val = r.val
    omega
  | ⟨2, _⟩ =>
    show 0 + 2 * k.val = 2 * k.val
    omega

include hx in
/-- The odd columns. -/
theorem v38_at (n : Fin 96) (r : Fin 512) (k : Fin 2048) :
    val_main_v38 (F := Ideal) x0 x3 x4 x5 (ix3 n r k) = hid x3 x4 x5 (expertOf x0 n) (n.val * 512 + r.val) (2 * k.val + 1) := by
  have hk := k.isLt
  refine Eq.trans ?_ (v34_at x0 x3 x4 x5 hx n r ⟨2 * k.val + 1, by omega⟩)
  unfold val_main_v38
  generalize val_main_v34 (F := Ideal) x0 x3 x4 x5 = y
  unfold Host.slice
  refine congrArg y (funext fun a => Fin.ext ?_)
  match a with
  | ⟨0, _⟩ =>
    show 0 + 1 * n.val = n.val
    omega
  | ⟨1, _⟩ =>
    show 0 + 1 * r.val = r.val
    omega
  | ⟨2, _⟩ =>
    show 1 + 2 * k.val = 2 * k.val + 1
    omega

/-- The factor of the gate is minus the constant 1.702. -/
theorem slope_eq : slope = -(Ideal.ofBits .f32 0x3FD9DB23#32) := by
  simp [slope, Ideal.ofBits, Ideal.ieee]

theorem one_eq : Ideal.ofBits .f32 0x3F800000#32 = 1 := by
  have h : Ideal.ofBits .f32 0x3F800000#32 = (((8388608 : ℝ) * ((2 : ℝ) ^ 23)⁻¹ : ℝ) : EReal) := by simp [Ideal.ofBits, Ideal.ieee]
  rw [h]; norm_num

include hx in
/-- A gated unit. -/
theorem v51_at (n : Fin 96) (r : Fin 512) (k : Fin 2048) :
    val_main_v51 (F := Ideal) x0 x3 x4 x5 (ix3 n r k) = unitOf x3 x4 x5 (expertOf x0 n) (n.val * 512 + r.val) k.val := by
  have e : val_main_v51 (F := Ideal) x0 x3 x4 x5 (ix3 n r k)
      = min (val_main_v35 (F := Ideal) x0 x3 x4 x5 (ix3 n r k)) seven
        * Ideal.div (Ideal.ofBits .f32 0x3F800000#32) (Ideal.ofBits .f32 0x3F800000#32
          + Ideal.exp (-(Ideal.ofBits .f32 0x3FD9DB23#32 * min (val_main_v35 (F := Ideal) x0 x3 x4 x5 (ix3 n r k)) seven)))
        * (min seven (max minusSeven (val_main_v38 (F := Ideal) x0 x3 x4 x5 (ix3 n r k))) + Ideal.ofBits .f32 0x3F800000#32) := rfl
  rw [e, v35_at x0 x3 x4 x5 hx, v38_at x0 x3 x4 x5 hx, one_eq, ← EReal.neg_mul, ← slope_eq]
  rfl

include hx in
/-- The reference's result at an element. -/
theorem v55_at (i : S49152x2048.Idx) (n : Fin 96) (hn : n.val = (i 0).val / 512) :
    val_main_v55 (F := Ideal) x0 x3 x4 x5 x6 x7 i = expert x3 x4 x5 x6 x7 (expertOf x0 n) (i 0).val (i 1).val := by
  have h0 : (i 0).val < 49152 := (i 0).isLt
  have h1 : (i 1).val < 2048 := (i 1).isLt
  have q0 : ((i 0).val * 2048 + (i 1).val) / 1048576 = n.val := by rw [hn]; omega
  have q1 : ((i 0).val * 2048 + (i 1).val) / 2048 % 512 = (i 0).val % 512 := by omega
  have q2 : ((i 0).val * 2048 + (i 1).val) % 2048 = (i 1).val := by omega
  have q3 : n.val * 512 + (i 0).val % 512 = (i 0).val := by rw [hn]; omega
  have ei : idx_main_v55 i = ix3 n ⟨(i 0).val % 512, Nat.mod_lt _ (by decide)⟩ ⟨(i 1).val, h1⟩ :=
    funext fun a => match a with | ⟨0, _⟩ => Fin.ext q0 | ⟨1, _⟩ => Fin.ext q1 | ⟨2, _⟩ => Fin.ext q2
  refine (val_main_v55_apply x0 x3 x4 x5 x6 x7 i).trans ((congrArg (val_main_v54 (F := Ideal) x0 x3 x4 x5 x6 x7) ei).trans ?_)
  rw [val_main_v54_apply]
  refine congrArg₂ (fun p q : EReal => p + q) ?_ ?_
  · refine (val_main_v52_apply x0 x3 x4 x5 x6 _).trans (Finset.sum_congr rfl fun k _ => congrArg₂ (fun p q : EReal => p * q) ?_ ?_)
    · refine (congrArg (val_main_v51 (F := Ideal) x0 x3 x4 x5) (funext fun a => match a with | ⟨0, _⟩ => rfl | ⟨1, _⟩ => rfl | ⟨2, _⟩ => rfl : lidx_main_v52 (ix3 n ⟨(i 0).val % 512, Nat.mod_lt _ (by decide)⟩ ⟨(i 1).val, h1⟩) k = ix3 n ⟨(i 0).val % 512, Nat.mod_lt _ (by decide)⟩ k)).trans
        ((v51_at x0 x3 x4 x5 hx n _ k).trans ?_)
      exact congrArg (fun q => unitOf x3 x4 x5 (expertOf x0 n) q k.val) q3
    · exact (congrArg (val_main_v24 (F := Ideal) x0 x6) (funext fun a => match a with | ⟨0, _⟩ => rfl | ⟨1, _⟩ => rfl | ⟨2, _⟩ => rfl : ridx_main_v52 (ix3 n ⟨(i 0).val % 512, Nat.mod_lt _ (by decide)⟩ ⟨(i 1).val, h1⟩) k = ix3 n k ⟨(i 1).val, h1⟩)).trans (v24_at x0 x6 hx n k _)
  · refine (val_main_v53_apply x0 x7 _).trans ?_
    exact (congrArg (val_main_v31 (F := Ideal) x0 x7) (funext fun a => match a with | ⟨0, _⟩ => rfl | ⟨1, _⟩ => rfl | ⟨2, _⟩ => rfl : idx_main_v53 (ix3 n ⟨(i 0).val % 512, Nat.mod_lt _ (by decide)⟩ ⟨(i 1).val, h1⟩) = ix3 n 0 ⟨(i 1).val, h1⟩)).trans (v31_at x0 x7 hx n _)

end Cert.Moe1

end
-- ==== Proof.Moe1Claim.lean ====
/-
  The claims about the experts' call: the reference's frames and, on the rows the tables assign, the equality of kernel
  and reference.
-/
module

public import proofs.«01_k».proof.Proof.Moe1Value
public import proofs.«01_k».proof.Proof.Moe1Reference
public import proofs.«01_k».proof.Proof.Gen.On_assigned_rows_1

@[expose] public section

set_option maxRecDepth 16384

noncomputable section

namespace Cert.Moe1

open Idealize.ShloMosaic Idealize.ShloMosaic.TcCoe Idealize.SL.Sem

/-- The reference runs and leaves its arguments unchanged. -/
theorem frame_claim_reference : Cert.quiescent_Reference3Ideal := fun m ρ _ =>
  (θ_run Cert.Reference3Ideal.defs _ _).mono (fun _ h => ⟨fun c => (h c).2, funext fun s => nomatch s⟩)
    (Cert.Reference3Ideal.Value.run m ρ)

/-! ## The mask -/

open Cert.On_assigned_rows_1 Cert.On_assigned_rows_1.Facts in
/-- A set element of the mask: its block is below the number of used blocks, its row below the block's number of rows. -/
theorem mask_at {be : IVec S96 32} {nu : IVec S1 32} {nv : IVec S96 32} {x : FVec Ideal S49152x2048 .bf16} {w1 : FVec Ideal S64x2048x4096 .f32} {b1 : FVec Ideal S32x1x4096 .f32}
    {w2 : FVec Ideal S64x2048x2048 .f32} {b2 : FVec Ideal S32x1x2048 .f32} (i : S49152x2048.Idx)
    (h : Cert.On_assigned_rows_1.fn (F := Ideal) be nu nv x w1 b1 w2 b2 i = 1#1) (n : Fin 96) (hn : n.val = (i 0).val / 512) :
    (BitVec.ofNat 32 n.val).slt (nu only) = true ∧ (BitVec.ofNat 32 ((i 0).val % 512)).slt (nv (entry n)) = true := by
  have and_ofBool (p q : Bool) : IntOp.andi (BitVec.ofBool p) (BitVec.ofBool q) = BitVec.ofBool (p && q) := by
    cases p <;> cases q <;> decide
  have ofBool_one (p : Bool) : (BitVec.ofBool p = 1#1) ↔ p = true := by cases p <;> decide
  have h0 : (i 0).val < 49152 := (i 0).isLt
  have h1 : (i 1).val < 2048 := (i 1).isLt
  let j : S96x512x2048.Idx := ix3 n ⟨(i 0).val % 512, Nat.mod_lt _ (by decide)⟩ ⟨(i 1).val, h1⟩
  have q : (n.val * 512 + (i 0).val % 512) * 2048 + (i 1).val = (i 0).val * 2048 + (i 1).val := by rw [hn]; omega
  unfold Cert.On_assigned_rows_1.fn at h
  have e := (shapeCast_apply _ shapeCasts_S96x512x2048_S49152x2048 i j (by
    rw [Shape.rowMajor_val_two, Shape.rowMajor_val_three]; exact q)).symm.trans h
  have en : ∀ k : S96.Idx, (k 0).val = n.val → k = entry n := fun k hk => funext fun a => match a with | ⟨0, _⟩ => Fin.ext hk
  have ev : ∀ k : S_.Idx, shapeCast S_ nu shapeCasts_S1_S_ k = nu only := fun k => congrArg nu (S1_eq _ _)
  have e' : IntOp.andi (BitVec.ofBool ((BitVec.ofNat 32 n.val).slt (nu only))) (BitVec.ofBool ((BitVec.ofNat 32 ((i 0).val % 512)).slt (nv (entry n)))) = 1#1 := by
    rw [← ev (fun a => a.elim0)]
    refine Eq.trans ?_ e
    simp only [andi, cmpi, broadcastInDim, IntOp.cmpi]
    congr 4
    · exact funext fun a => a.elim0
    · exact (en _ rfl).symm
  rw [and_ofBool, ofBool_one, Bool.and_eq_true] at e'
  exact e'

theorem slt_nat {n : Nat} (hn : n < 96 ∨ n < 512) {w : BitVec 32} (hw : w.toNat ≤ 512) (h : (BitVec.ofNat 32 n).slt w = true) : n < w.toNat := by
  rw [BitVec.slt, decide_eq_true_iff, toInt_small w hw, WordCmp.toInt_ofNat_of_lt (by omega)] at h
  omega

open Cert.Kernel3Ideal Cert.Kernel3Ideal.Gen in
/-- A row with a set element is assigned. -/
theorem assigned_of_mask (m : (ℓ : Loc nD τ sig) → Buf (Elt Ideal) ℓ) (hG : GoodM m) (i : S49152x2048.Idx)
    {x : FVec Ideal S49152x2048 .bf16} {w1 : FVec Ideal S64x2048x4096 .f32} {b1 : FVec Ideal S32x1x4096 .f32}
    {w2 : FVec Ideal S64x2048x2048 .f32} {b2 : FVec Ideal S32x1x2048 .f32}
    (h : Cert.On_assigned_rows_1.fn (F := Ideal) (m (((0 : Dev nD) : Thread nD τ).loc main_arg0)) (m (((0 : Dev nD) : Thread nD τ).loc main_arg1))
      (m (((0 : Dev nD) : Thread nD τ).loc main_arg2)) x w1 b1 w2 b2 i = 1#1) : assigned m (i 0).val := by
  have h0 : (i 0).val < 49152 := (i 0).isLt
  have g := hG 0
  have lt : (i 0).val / 512 < 96 := by omega
  obtain ⟨a, b⟩ := mask_at i h ⟨(i 0).val / 512, lt⟩ rfl
  have hu := g.used_le only
  have hr := g.rows_le (entry ⟨(i 0).val / 512, lt⟩)
  refine ⟨?_, fun _ => ?_⟩
  · unfold blocks
    rw [tbl1]
    exact slt_nat (.inl lt) (Nat.le_trans hu (by decide)) a
  · unfold rowsOf
    rw [tbl2]
    exact slt_nat (.inr (Nat.mod_lt _ (by decide))) hr b

/-! ## The values -/

open Cert.Kernel3Ideal Cert.Kernel3Ideal.Gen in
/-- The kernel's run, with the result's assigned rows. -/
theorem run_value (m : (ℓ : Loc nD τ sig) → Buf (Elt Ideal) ℓ) (ρ : Dev nD → PrngReg) (hG : GoodM m) :
    θ_run defs (onTc (τ := τ) (main (F := Ideal))) ⟨m, fun _ => 0, ρ⟩ (fun r => ∀ (c : Dev nD) (i : S49152x2048.Idx), assigned m (i 0).val →
      r.2.mem ((c.tc : Thread nD τ).loc main_v10) i = value m c (i 0).val (i 1).val) :=
  (θ_run defs _ _).mono (fun r h c i hi => (congrFun ((h.1 c).1 6) i).trans (final m (ok_of_range m hG) hG c i hi)) (run_main m ρ (ok_of_range m hG))

open Cert.Kernel3Ideal Cert.Kernel3Ideal.Gen in
/-- That value, with the expert's number read from the argument. -/
theorem value_eq (m : (ℓ : Loc nD τ sig) → Buf (Elt Ideal) ℓ) (c : Dev nD) (row d : Nat) (lt : row / 512 < 96) :
    value m c row d = expert (argX m c) (argW1 m c) (argB1 m c) (argW2 m c) (argB2 m c)
      (expertOf (m (((0 : Dev nD) : Thread nD τ).loc main_arg0)) ⟨row / 512, lt⟩) row d := by
  have e : tbl m 0 (entry ⟨row / 512, lt⟩) = m (((0 : Dev nD) : Thread nD τ).loc main_arg0) (Idealize.ShloMosaic.ix1 ⟨row / 512, lt⟩) := by
    refine (congrFun (tbl0 m) _).trans (congrArg (m (((0 : Dev nD) : Thread nD τ).loc main_arg0)) (funext fun a => match a with | ⟨0, _⟩ => rfl))
  exact congrArg (fun q => expert (argX m c) (argW1 m c) (argB1 m c) (argW2 m c) (argB2 m c) q row d)
    ((dif_pos lt).trans (congrArg (BitVec.toNat (w := 32)) e))

/-- From equal arguments, with the tables in range, kernel and reference end with equal results on the assigned rows. -/
theorem algebraic : Cert.algebraic_Kernel3Ideal_Reference3Ideal_on_assigned_rows_1 := fun m ρ m' ρ' hpre hag => by
  have hG : GoodM m := fun c => in_range (hpre c)
  refine ⟨fun c i => value m c (i 0).val (i 1).val, ?_, ?_⟩
  · refine (θ_run Cert.Kernel3Ideal.defs _ _).mono (fun r h c => ⟨fun i hi => ?_, h.2.1 c⟩) (θ_run_and (run_value m ρ hG) (frame_ideal m ρ hpre))
    obtain rfl : c = 0 := Subsingleton.elim _ _
    exact h.1 0 i (assigned_of_mask m hG i hi)
  · refine (θ_run Cert.Reference3Ideal.defs _ _).mono (fun r h c => ⟨fun i hi => ?_, (h c).2⟩) (Cert.Reference3Ideal.Value.run m' ρ')
    obtain rfl : c = 0 := Subsingleton.elim _ _
    have h0 : (i 0).val < 49152 := (i 0).isLt
    have lt : (i 0).val / 512 < 96 := by omega
    obtain ⟨a0, a1, a2, a3, a4, a5, a6, a7⟩ := hag 0
    rw [(h 0).1, Cert.Reference3Ideal.Read.val_main_v55_eq, a0, a3, a4, a5, a6, a7]
    refine (v55_at _ _ _ _ _ _ (fun n => (hG 0).expert (Idealize.ShloMosaic.ix1 n)) i ⟨(i 0).val / 512, lt⟩ rfl).trans ?_
    exact (value_eq m 0 (i 0).val (i 1).val lt).symm

end Cert.Moe1

end
-- ==== Proof.lean ====
/- The certificate: the claims about the latents' grouped-query attention, the experts of both layers, the four projections, the
   modulations, the norms, the context's attention, the mLSTM's gates and readout, and the queries and keys, put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Pre_tables_in_range
public import proofs.«01_k».proof.Proof.Gen.Pre_tables_in_range_1
public import proofs.«01_k».proof.Proof.Gen.On_assigned_rows
public import proofs.«01_k».proof.Proof.Gen.On_assigned_rows_1
public import proofs.«01_k».proof.Proof.Gen.Kernel4
public import proofs.«01_k».proof.Proof.Gen.Kernel4Ideal
public import proofs.«01_k».proof.Proof.Gen.Reference4Ideal
public import proofs.«01_k».proof.Proof.Proj4
public import proofs.«01_k».proof.Proof.Gen.Kernel5
public import proofs.«01_k».proof.Proof.Gen.Kernel5Ideal
public import proofs.«01_k».proof.Proof.Gen.Reference5Ideal
public import proofs.«01_k».proof.Proof.Proj5
public import proofs.«01_k».proof.Proof.Gen.Kernel6
public import proofs.«01_k».proof.Proof.Gen.Kernel6Ideal
public import proofs.«01_k».proof.Proof.Gen.Reference6Ideal
public import proofs.«01_k».proof.Proof.Proj6
public import proofs.«01_k».proof.Proof.Gen.Kernel7
public import proofs.«01_k».proof.Proof.Gen.Kernel7Ideal
public import proofs.«01_k».proof.Proof.Gen.Reference7Ideal
public import proofs.«01_k».proof.Proof.Proj7
public import proofs.«01_k».proof.Proof.Gen.Kernel8
public import proofs.«01_k».proof.Proof.Gen.Kernel8Ideal
public import proofs.«01_k».proof.Proof.Gen.Reference8Ideal
public import proofs.«01_k».proof.Proof.Proj8
public import proofs.«01_k».proof.Proof.Gen.Kernel9
public import proofs.«01_k».proof.Proof.Gen.Kernel9Ideal
public import proofs.«01_k».proof.Proof.Gen.Reference9Ideal
public import proofs.«01_k».proof.Proof.Proj9
public import proofs.«01_k».proof.Proof.Gen.Kernel10
public import proofs.«01_k».proof.Proof.Gen.Kernel10Ideal
public import proofs.«01_k».proof.Proof.Gen.Reference10Ideal
public import proofs.«01_k».proof.Proof.Proj10
public import proofs.«01_k».proof.Proof.Gen.Kernel11
public import proofs.«01_k».proof.Proof.Gen.Kernel11Ideal
public import proofs.«01_k».proof.Proof.Gen.Reference11Ideal
public import proofs.«01_k».proof.Proof.Proj11
public import proofs.«01_k».proof.Proof.Gen.Pre_context_finite
public import proofs.«01_k».proof.Proof.Gen.Kernel12
public import proofs.«01_k».proof.Proof.Gen.Kernel12Ideal
public import proofs.«01_k».proof.Proof.Gen.Reference12Ideal
public import proofs.«01_k».proof.Proof.Proj12
public import proofs.«01_k».proof.Proof.Gen.Kernel13
public import proofs.«01_k».proof.Proof.Gen.Kernel13Ideal
public import proofs.«01_k».proof.Proof.Gen.Reference13Ideal
public import proofs.«01_k».proof.Proof.Proj13
public import proofs.«01_k».proof.Proof.Gen.Kernel14
public import proofs.«01_k».proof.Proof.Gen.Kernel14Ideal
public import proofs.«01_k».proof.Proof.Gen.Reference14Ideal
public import proofs.«01_k».proof.Proof.Proj14
public import proofs.«01_k».proof.Proof.Gen.Kernel15
public import proofs.«01_k».proof.Proof.Gen.Kernel15Ideal
public import proofs.«01_k».proof.Proof.Gen.Reference15Ideal
public import proofs.«01_k».proof.Proof.Proj15
public import proofs.«01_k».proof.Proof.Gen.Kernel16
public import proofs.«01_k».proof.Proof.Gen.Kernel16Ideal
public import proofs.«01_k».proof.Proof.Gen.Reference16Ideal
public import proofs.«01_k».proof.Proof.Proj16
public import proofs.«01_k».proof.Proof.GqaClaim
public import proofs.«01_k».proof.Proof.MoeBits
public import proofs.«01_k».proof.Proof.MoeClaim
public import proofs.«01_k».proof.Proof.Moe1Bits
public import proofs.«01_k».proof.Proof.Moe1Claim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.GqaClaim.pre_facts, Cert.Pre_tables_in_range.Gen.facts, Cert.Pre_tables_in_range_1.Gen.facts, Cert.Pre_context_finite.Gen.facts,
    Cert.On_assigned_rows.Gen.facts, Cert.On_assigned_rows_1.Gen.facts,
    Cert.GqaClaim.frame_kernel, Cert.GqaClaim.frame_ideal, fun m ρ _ => Cert.GqaClaim.frame_ideal m ρ trivial,
    Cert.GqaClaim.frame_reference, fun m ρ _ => Cert.GqaClaim.frame_reference m ρ trivial,
    Cert.Moe.frame_claim_kernel, Cert.Moe.frame_claim_ideal,
    Cert.Moe.frame_claim_reference, fun m ρ _ => Cert.Moe.frame_claim_reference m ρ trivial,
    Cert.Moe1.frame_claim_kernel, Cert.Moe1.frame_claim_ideal,
    Cert.Moe1.frame_claim_reference, fun m ρ _ => Cert.Moe1.frame_claim_reference m ρ trivial,
    Cert.Proj4.frame_kernel, Cert.Proj4.frame_ideal, Cert.Proj4.frame_reference,
    Cert.Proj5.frame_kernel, Cert.Proj5.frame_ideal, Cert.Proj5.frame_reference,
    Cert.Proj6.frame_kernel, Cert.Proj6.frame_ideal, Cert.Proj6.frame_reference,
    Cert.Proj7.frame_kernel, Cert.Proj7.frame_ideal, Cert.Proj7.frame_reference,
    Cert.Proj8.frame_kernel, Cert.Proj8.frame_ideal, Cert.Proj8.frame_reference,
    Cert.Proj9.frame_kernel, Cert.Proj9.frame_ideal, Cert.Proj9.frame_reference,
    Cert.Proj10.frame_kernel, Cert.Proj10.frame_ideal, Cert.Proj10.frame_reference,
    Cert.Proj11.frame_kernel, Cert.Proj11.frame_ideal, fun m ρ _ => Cert.Proj11.frame_ideal m ρ trivial,
    Cert.Proj11.frame_reference, fun m ρ _ => Cert.Proj11.frame_reference m ρ trivial,
    Cert.Proj12.frame_kernel, Cert.Proj12.frame_ideal, Cert.Proj12.frame_reference,
    Cert.Proj13.frame_kernel, Cert.Proj13.frame_ideal, Cert.Proj13.frame_reference,
    Cert.Proj14.frame_kernel, Cert.Proj14.frame_ideal, Cert.Proj14.frame_reference,
    Cert.Proj15.frame_kernel, Cert.Proj15.frame_ideal, Cert.Proj15.frame_reference,
    Cert.Proj16.frame_kernel, Cert.Proj16.frame_ideal, Cert.Proj16.frame_reference,
    trivial, Cert.GqaClaim.algebraic, trivial, Cert.Moe.algebraic, trivial, Cert.Moe1.algebraic,
    trivial, Cert.Proj4.algebraic, trivial, Cert.Proj5.algebraic, trivial, Cert.Proj6.algebraic, trivial, Cert.Proj7.algebraic,
    trivial, Cert.Proj8.algebraic, trivial, Cert.Proj9.algebraic, trivial, Cert.Proj10.algebraic, trivial, Cert.Proj11.algebraic,
    trivial, Cert.Proj12.algebraic, trivial, Cert.Proj13.algebraic, trivial, Cert.Proj14.algebraic,
    trivial, Cert.Proj15.algebraic, trivial, Cert.Proj16.algebraic⟩

end Cert.Proof

end
